-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_fox_finite [hPre_fox_finite : Cert.Pre_fox_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_fox_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_fox_finite [hPre_fox_finite : Cert.Pre_fox_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_fox_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_pre_finite [hPre_pre_finite : Cert.Pre_pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre_finite [hPre_pre_finite : Cert.Pre_pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_fox_fwd_finite [hPre_fox_fwd_finite : Cert.Pre_fox_fwd_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_fox_fwd_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_fox_fwd_finite [hPre_fox_fwd_finite : Cert.Pre_fox_fwd_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_fox_fwd_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_post_finite [hPre_post_finite : Cert.Pre_post_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_post_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_post_finite [hPre_post_finite : Cert.Pre_post_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_post_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ada_finite [hPre_ada_finite : Cert.Pre_ada_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ada_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ada_finite [hPre_ada_finite : Cert.Pre_ada_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ada_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_fox_finite [hKernel2Ideal : Cert.Kernel2Ideal.Facts] [hPre_fox_finite : Cert.Pre_fox_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_fox_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_fox_finite [hReference2Ideal : Cert.Reference2Ideal.Facts] [hPre_fox_finite : Cert.Pre_fox_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_fox_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_pre_finite [hKernel3Ideal : Cert.Kernel3Ideal.Facts] [hPre_pre_finite : Cert.Pre_pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_pre_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_pre_finite [hReference3Ideal : Cert.Reference3Ideal.Facts] [hPre_pre_finite : Cert.Pre_pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_fox_fwd_finite [hKernel4Ideal : Cert.Kernel4Ideal.Facts] [hPre_fox_fwd_finite : Cert.Pre_fox_fwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_fox_fwd_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_fox_fwd_finite [hReference4Ideal : Cert.Reference4Ideal.Facts] [hPre_fox_fwd_finite : Cert.Pre_fox_fwd_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_fox_fwd_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_post_finite [hKernel5Ideal : Cert.Kernel5Ideal.Facts] [hPre_post_finite : Cert.Pre_post_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_post_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_post_finite [hReference5Ideal : Cert.Reference5Ideal.Facts] [hPre_post_finite : Cert.Pre_post_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_post_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_ada_finite [hKernel6Ideal : Cert.Kernel6Ideal.Facts] [hPre_ada_finite : Cert.Pre_ada_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ada_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_ada_finite [hReference6Ideal : Cert.Reference6Ideal.Facts] [hPre_ada_finite : Cert.Pre_ada_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ada_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_fox_finite [hKernel2Ideal : Cert.Kernel2Ideal.Facts] [hReference2Ideal : Cert.Reference2Ideal.Facts] [hPre_fox_finite : Cert.Pre_fox_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_fox_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v95_0)) (v1 : (c : Dev Cert.Kernel2Ideal.nD) → Buf (Elt Ideal) ((c.tc : Thread Cert.Kernel2Ideal.nD Cert.Kernel2Ideal.τ).loc Cert.Kernel2Ideal.main_v95_1)) (v2 : (c : Dev Cert.Kernel2Ideal.nD) → Buf (Elt Ideal) ((c.tc : Thread Cert.Kernel2Ideal.nD Cert.Kernel2Ideal.τ).loc Cert.Kernel2Ideal.main_v95_2)) (v3 : (c : Dev Cert.Kernel2Ideal.nD) → Buf (Elt Ideal) ((c.tc : Thread Cert.Kernel2Ideal.nD Cert.Kernel2Ideal.τ).loc Cert.Kernel2Ideal.main_v95_3)) (v4 : (c : Dev Cert.Kernel2Ideal.nD) → Buf (Elt Ideal) ((c.tc : Thread Cert.Kernel2Ideal.nD Cert.Kernel2Ideal.τ).loc Cert.Kernel2Ideal.main_v95_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v95_0) = v0 c
          ∧ r.2.mem ((c.tc : Thread Cert.Kernel2Ideal.nD Cert.Kernel2Ideal.τ).loc Cert.Kernel2Ideal.main_v95_1) = v1 c
          ∧ r.2.mem ((c.tc : Thread Cert.Kernel2Ideal.nD Cert.Kernel2Ideal.τ).loc Cert.Kernel2Ideal.main_v95_2) = v2 c
          ∧ r.2.mem ((c.tc : Thread Cert.Kernel2Ideal.nD Cert.Kernel2Ideal.τ).loc Cert.Kernel2Ideal.main_v95_3) = v3 c
          ∧ r.2.mem ((c.tc : Thread Cert.Kernel2Ideal.nD Cert.Kernel2Ideal.τ).loc Cert.Kernel2Ideal.main_v95_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v96) = v3 c
          ∧ r.2.mem ((c.tc : Thread Cert.Reference2Ideal.nD Cert.Reference2Ideal.τ).loc Cert.Reference2Ideal.main_v100) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_pre_finite [hKernel3Ideal : Cert.Kernel3Ideal.Facts] [hReference3Ideal : Cert.Reference3Ideal.Facts] [hPre_pre_finite : Cert.Pre_pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_pre_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v72_0)) (v1 : (c : Dev Cert.Kernel3Ideal.nD) → Buf (Elt Ideal) ((c.tc : Thread Cert.Kernel3Ideal.nD Cert.Kernel3Ideal.τ).loc Cert.Kernel3Ideal.main_v72_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v72_0) = v0 c
          ∧ r.2.mem ((c.tc : Thread Cert.Kernel3Ideal.nD Cert.Kernel3Ideal.τ).loc Cert.Kernel3Ideal.main_v72_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v64) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "mask" .f32 0xF149F2CA#32 ⊥

def algebraic_Kernel4Ideal_Reference4Ideal_pre_fox_fwd_finite [hKernel4Ideal : Cert.Kernel4Ideal.Facts] [hReference4Ideal : Cert.Reference4Ideal.Facts] [hPre_fox_fwd_finite : Cert.Pre_fox_fwd_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_fox_fwd_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_v53) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_post_finite [hKernel5Ideal : Cert.Kernel5Ideal.Facts] [hReference5Ideal : Cert.Reference5Ideal.Facts] [hPre_post_finite : Cert.Pre_post_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_post_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v39_0)) (v1 : (c : Dev Cert.Kernel5Ideal.nD) → Buf (Elt Ideal) ((c.tc : Thread Cert.Kernel5Ideal.nD Cert.Kernel5Ideal.τ).loc Cert.Kernel5Ideal.main_v39_1)) (v2 : (c : Dev Cert.Kernel5Ideal.nD) → Buf (Elt Ideal) ((c.tc : Thread Cert.Kernel5Ideal.nD Cert.Kernel5Ideal.τ).loc Cert.Kernel5Ideal.main_v39_2)) (v3 : (c : Dev Cert.Kernel5Ideal.nD) → Buf (Elt Ideal) ((c.tc : Thread Cert.Kernel5Ideal.nD Cert.Kernel5Ideal.τ).loc Cert.Kernel5Ideal.main_v39_3)) (v4 : (c : Dev Cert.Kernel5Ideal.nD) → Buf (Elt Ideal) ((c.tc : Thread Cert.Kernel5Ideal.nD Cert.Kernel5Ideal.τ).loc Cert.Kernel5Ideal.main_v39_4)) (v5 : (c : Dev Cert.Kernel5Ideal.nD) → Buf (Elt Ideal) ((c.tc : Thread Cert.Kernel5Ideal.nD Cert.Kernel5Ideal.τ).loc Cert.Kernel5Ideal.main_v39_5)) (v6 : (c : Dev Cert.Kernel5Ideal.nD) → Buf (Elt Ideal) ((c.tc : Thread Cert.Kernel5Ideal.nD Cert.Kernel5Ideal.τ).loc Cert.Kernel5Ideal.main_v39_6)) (v7 : (c : Dev Cert.Kernel5Ideal.nD) → Buf (Elt Ideal) ((c.tc : Thread Cert.Kernel5Ideal.nD Cert.Kernel5Ideal.τ).loc Cert.Kernel5Ideal.main_v39_7)) (v8 : (c : Dev Cert.Kernel5Ideal.nD) → Buf (Elt Ideal) ((c.tc : Thread Cert.Kernel5Ideal.nD Cert.Kernel5Ideal.τ).loc Cert.Kernel5Ideal.main_v39_8)) (v9 : (c : Dev Cert.Kernel5Ideal.nD) → Buf (Elt Ideal) ((c.tc : Thread Cert.Kernel5Ideal.nD Cert.Kernel5Ideal.τ).loc Cert.Kernel5Ideal.main_v39_9)) (v10 : (c : Dev Cert.Kernel5Ideal.nD) → Buf (Elt Ideal) ((c.tc : Thread Cert.Kernel5Ideal.nD Cert.Kernel5Ideal.τ).loc Cert.Kernel5Ideal.main_v39_10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v39_0) = v0 c
          ∧ r.2.mem ((c.tc : Thread Cert.Kernel5Ideal.nD Cert.Kernel5Ideal.τ).loc Cert.Kernel5Ideal.main_v39_1) = v1 c
          ∧ r.2.mem ((c.tc : Thread Cert.Kernel5Ideal.nD Cert.Kernel5Ideal.τ).loc Cert.Kernel5Ideal.main_v39_2) = v2 c
          ∧ r.2.mem ((c.tc : Thread Cert.Kernel5Ideal.nD Cert.Kernel5Ideal.τ).loc Cert.Kernel5Ideal.main_v39_3) = v3 c
          ∧ r.2.mem ((c.tc : Thread Cert.Kernel5Ideal.nD Cert.Kernel5Ideal.τ).loc Cert.Kernel5Ideal.main_v39_4) = v4 c
          ∧ r.2.mem ((c.tc : Thread Cert.Kernel5Ideal.nD Cert.Kernel5Ideal.τ).loc Cert.Kernel5Ideal.main_v39_5) = v5 c
          ∧ r.2.mem ((c.tc : Thread Cert.Kernel5Ideal.nD Cert.Kernel5Ideal.τ).loc Cert.Kernel5Ideal.main_v39_6) = v6 c
          ∧ r.2.mem ((c.tc : Thread Cert.Kernel5Ideal.nD Cert.Kernel5Ideal.τ).loc Cert.Kernel5Ideal.main_v39_7) = v7 c
          ∧ r.2.mem ((c.tc : Thread Cert.Kernel5Ideal.nD Cert.Kernel5Ideal.τ).loc Cert.Kernel5Ideal.main_v39_8) = v8 c
          ∧ r.2.mem ((c.tc : Thread Cert.Kernel5Ideal.nD Cert.Kernel5Ideal.τ).loc Cert.Kernel5Ideal.main_v39_9) = v9 c
          ∧ r.2.mem ((c.tc : Thread Cert.Kernel5Ideal.nD Cert.Kernel5Ideal.τ).loc Cert.Kernel5Ideal.main_v39_10) = v10 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v153) = v0 c
          ∧ r.2.mem ((c.tc : Thread Cert.Reference5Ideal.nD Cert.Reference5Ideal.τ).loc Cert.Reference5Ideal.main_v154) = v1 c
          ∧ r.2.mem ((c.tc : Thread Cert.Reference5Ideal.nD Cert.Reference5Ideal.τ).loc Cert.Reference5Ideal.main_v155) = v2 c
          ∧ r.2.mem ((c.tc : Thread Cert.Reference5Ideal.nD Cert.Reference5Ideal.τ).loc Cert.Reference5Ideal.main_v156) = v3 c
          ∧ r.2.mem ((c.tc : Thread Cert.Reference5Ideal.nD Cert.Reference5Ideal.τ).loc Cert.Reference5Ideal.main_v157) = v4 c
          ∧ r.2.mem ((c.tc : Thread Cert.Reference5Ideal.nD Cert.Reference5Ideal.τ).loc Cert.Reference5Ideal.main_v158) = v5 c
          ∧ r.2.mem ((c.tc : Thread Cert.Reference5Ideal.nD Cert.Reference5Ideal.τ).loc Cert.Reference5Ideal.main_v159) = v6 c
          ∧ r.2.mem ((c.tc : Thread Cert.Reference5Ideal.nD Cert.Reference5Ideal.τ).loc Cert.Reference5Ideal.main_v160) = v7 c
          ∧ r.2.mem ((c.tc : Thread Cert.Reference5Ideal.nD Cert.Reference5Ideal.τ).loc Cert.Reference5Ideal.main_v161) = v8 c
          ∧ r.2.mem ((c.tc : Thread Cert.Reference5Ideal.nD Cert.Reference5Ideal.τ).loc Cert.Reference5Ideal.main_v162) = v9 c
          ∧ r.2.mem ((c.tc : Thread Cert.Reference5Ideal.nD Cert.Reference5Ideal.τ).loc Cert.Reference5Ideal.main_v116) = v10 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal_pre_ada_finite [hKernel6Ideal : Cert.Kernel6Ideal.Facts] [hReference6Ideal : Cert.Reference6Ideal.Facts] [hPre_ada_finite : Cert.Pre_ada_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ada_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "mask" .f32 0xF149F2CA#32 ⊥

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hKernel8 : Cert.Kernel8.Facts) (hKernel8Ideal : Cert.Kernel8Ideal.Facts) (hPre_finite : Cert.Pre_finite.Facts) (hPre_fox_finite : Cert.Pre_fox_finite.Facts) (hPre_pre_finite : Cert.Pre_pre_finite.Facts) (hPre_fox_fwd_finite : Cert.Pre_fox_fwd_finite.Facts) (hPre_post_finite : Cert.Pre_post_finite.Facts) (hPre_ada_finite : Cert.Pre_ada_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_fox_finite (hKernel2Ideal := hKernel2Ideal) (hPre_fox_finite := hPre_fox_finite)
    ∧ quiescent_Reference2Ideal (hReference2Ideal := hReference2Ideal)
    ∧ quiescent_Reference2Ideal_pre_fox_finite (hReference2Ideal := hReference2Ideal) (hPre_fox_finite := hPre_fox_finite)
    ∧ quiescent_Kernel3 (hKernel3 := hKernel3)
    ∧ quiescent_Kernel3Ideal (hKernel3Ideal := hKernel3Ideal)
    ∧ quiescent_Kernel3Ideal_pre_pre_finite (hKernel3Ideal := hKernel3Ideal) (hPre_pre_finite := hPre_pre_finite)
    ∧ quiescent_Reference3Ideal (hReference3Ideal := hReference3Ideal)
    ∧ quiescent_Reference3Ideal_pre_pre_finite (hReference3Ideal := hReference3Ideal) (hPre_pre_finite := hPre_pre_finite)
    ∧ quiescent_Kernel4 (hKernel4 := hKernel4)
    ∧ quiescent_Kernel4Ideal (hKernel4Ideal := hKernel4Ideal)
    ∧ quiescent_Kernel4Ideal_pre_fox_fwd_finite (hKernel4Ideal := hKernel4Ideal) (hPre_fox_fwd_finite := hPre_fox_fwd_finite)
    ∧ quiescent_Reference4Ideal (hReference4Ideal := hReference4Ideal)
    ∧ quiescent_Reference4Ideal_pre_fox_fwd_finite (hReference4Ideal := hReference4Ideal) (hPre_fox_fwd_finite := hPre_fox_fwd_finite)
    ∧ quiescent_Kernel5 (hKernel5 := hKernel5)
    ∧ quiescent_Kernel5Ideal (hKernel5Ideal := hKernel5Ideal)
    ∧ quiescent_Kernel5Ideal_pre_post_finite (hKernel5Ideal := hKernel5Ideal) (hPre_post_finite := hPre_post_finite)
    ∧ quiescent_Reference5Ideal (hReference5Ideal := hReference5Ideal)
    ∧ quiescent_Reference5Ideal_pre_post_finite (hReference5Ideal := hReference5Ideal) (hPre_post_finite := hPre_post_finite)
    ∧ quiescent_Kernel6 (hKernel6 := hKernel6)
    ∧ quiescent_Kernel6Ideal (hKernel6Ideal := hKernel6Ideal)
    ∧ quiescent_Kernel6Ideal_pre_ada_finite (hKernel6Ideal := hKernel6Ideal) (hPre_ada_finite := hPre_ada_finite)
    ∧ quiescent_Reference6Ideal (hReference6Ideal := hReference6Ideal)
    ∧ quiescent_Reference6Ideal_pre_ada_finite (hReference6Ideal := hReference6Ideal) (hPre_ada_finite := hPre_ada_finite)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_fox_finite (hKernel2Ideal := hKernel2Ideal) (hReference2Ideal := hReference2Ideal) (hPre_fox_finite := hPre_fox_finite)
    ∧ preserves_Kernel3_Kernel3Ideal
    ∧ algebraic_Kernel3Ideal_Reference3Ideal_pre_pre_finite (hKernel3Ideal := hKernel3Ideal) (hReference3Ideal := hReference3Ideal) (hPre_pre_finite := hPre_pre_finite)
    ∧ preserves_Kernel4_Kernel4Ideal
    ∧ algebraic_Kernel4Ideal_Reference4Ideal_pre_fox_fwd_finite (hKernel4Ideal := hKernel4Ideal) (hReference4Ideal := hReference4Ideal) (hPre_fox_fwd_finite := hPre_fox_fwd_finite)
    ∧ preserves_Kernel5_Kernel5Ideal
    ∧ algebraic_Kernel5Ideal_Reference5Ideal_pre_post_finite (hKernel5Ideal := hKernel5Ideal) (hReference5Ideal := hReference5Ideal) (hPre_post_finite := hPre_post_finite)
    ∧ preserves_Kernel6_Kernel6Ideal
    ∧ algebraic_Kernel6Ideal_Reference6Ideal_pre_ada_finite (hKernel6Ideal := hKernel6Ideal) (hReference6Ideal := hReference6Ideal) (hPre_ada_finite := hPre_ada_finite)
    ∧ preserves_Kernel7_Kernel7Ideal
    ∧ preserves_Kernel8_Kernel8Ideal
-- ==== Pre_ada_finite.lean ====
abbrev S8x1024 : Shape := ⟨2, ![8, 1024]⟩
abbrev S1024x384 : Shape := ⟨2, ![1024, 384]⟩
abbrev S1x384 : Shape := ⟨2, ![1, 384]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024x384 : S_.BroadcastsInDim S1024x384 (![] : Fin 0 → Fin S1024x384.rank)
  reducesTo_S1024x384_S_d0_1 : S1024x384.ReducesTo [0, 1] S_

variable [Facts]

def fn {F : FTy → Type} [FloatOps F] (main_arg0 : FVec F S8x1024 .f32) (main_arg1 : FVec F S1024x384 .f32) (main_arg2 : FVec F S1x384 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024x384 .f32 := Host.absf main_arg1
  let main_cst_0 : FVec F S_ .f32 := constant S_ .f32 0x7F800000#32
  let main_v5 : FVec F S1024x384 .f32 := broadcastInDim S1024x384 ![] bcast_S_S1024x384 main_cst_0
  let main_v6 : IVec S1024x384 1 := cmpf .olt main_v4 main_v5
  let main_c_1 : IVec S_ 1 := constantI S_ 1 1#1
  let main_v7 : IVec S_ 1 := (fun x v => Host.reduce IntOp.andi x v reducesTo_S1024x384_S_d0_1 h_S_) main_v6 main_c_1
  let main_v8 : IVec S_ 1 := andi main_v3 main_v7
  main_v8
-- ==== Pre_finite.lean ====
abbrev S1x8192x8 : Shape := ⟨3, ![1, 8192, 8]⟩
abbrev S1x8 : Shape := ⟨2, ![1, 8]⟩
abbrev S_ : Shape := ⟨0, ![]⟩

class Facts : Prop where
  bcast_S_S1x8192x8 : S_.BroadcastsInDim S1x8192x8 (![] : Fin 0 → Fin S1x8192x8.rank)

variable [Facts]

def fn {F : FTy → Type} [FloatOps F] (main_arg0 : FVec F S1x8192x8 .f32) (main_arg1 : FVec F S1x8 .f32) (main_arg2 : FVec F S1x8192x8 .f32) (main_arg3 : FVec F S1x8192x8 .f32) : IVec S1x8192x8 1 :=
  let main_v0 : FVec F S1x8192x8 .f32 := Host.absf main_arg2
  let main_cst : FVec F S_ .f32 := constant S_ .f32 0x7F800000#32
  let main_v1 : FVec F S1x8192x8 .f32 := broadcastInDim S1x8192x8 ![] bcast_S_S1x8192x8 main_cst
  let main_v2 : IVec S1x8192x8 1 := cmpf .olt main_v0 main_v1
  let main_v3 : FVec F S1x8192x8 .f32 := Host.absf main_arg3
  let main_cst_0 : FVec F S_ .f32 := constant S_ .f32 0x7F800000#32
  let main_v4 : FVec F S1x8192x8 .f32 := broadcastInDim S1x8192x8 ![] bcast_S_S1x8192x8 main_cst_0
  let main_v5 : IVec S1x8192x8 1 := cmpf .olt main_v3 main_v4
  let main_v6 : IVec S1x8192x8 1 := andi main_v2 main_v5
  main_v6
-- ==== Pre_fox_finite.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_arg4 : FVec F S1x8192x512 .f32) (main_v13 : IVec S_ 1) (main_v16 : IVec S1x8192x8 1) : IVec S_ 1 :=
  let main_c_5 : IVec S_ 1 := constantI S_ 1 1#1
  let main_v17 : IVec S_ 1 := (fun x v => Host.reduce IntOp.andi x v reducesTo_S1x8192x8_S_d0_1_2 h_S_) main_v16 main_c_5
  let main_v18 : IVec S_ 1 := andi main_v13 main_v17
  let main_v19 : FVec F S1x8192x512 .f32 := Host.absf main_arg4
  let main_cst_6 : FVec F S_ .f32 := constant S_ .f32 0x7F800000#32
  let main_v20 : FVec F S1x8192x512 .f32 := broadcastInDim S1x8192x512 ![] bcast_S_S1x8192x512 main_cst_6
  let main_v21 : IVec S1x8192x512 1 := cmpf .olt main_v19 main_v20
  let main_c_7 : IVec S_ 1 := constantI S_ 1 1#1
  let main_v22 : IVec S_ 1 := (fun x v => Host.reduce IntOp.andi x v reducesTo_S1x8192x512_S_d0_1_2 h_S_) main_v21 main_c_7
  let main_v23 : IVec S_ 1 := andi main_v18 main_v22
  main_v23

def fn {F : FTy → Type} [FloatOps F] (main_arg0 : FVec F S1x8192x8x64 .f32) (main_arg1 : FVec F S1x8192x8x64 .f32) (main_arg2 : FVec F S1x8192x8x64 .f32) (main_arg3 : FVec F S1x8192x8 .f32) (main_arg4 : FVec F S1x8192x512 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x8 .f32 := Host.absf main_arg3
  let main_cst_4 : FVec F S_ .f32 := constant S_ .f32 0x7F800000#32
  let main_v15 : FVec F S1x8192x8 .f32 := broadcastInDim S1x8192x8 ![] bcast_S_S1x8192x8 main_cst_4
  let main_v16 : IVec S1x8192x8 1 := cmpf .olt main_v14 main_v15
  fn_part1 (F := F) main_arg4 main_v13 main_v16
-- ==== Pre_fox_fwd_finite.lean ====
abbrev S1x8192x8x64 : Shape := ⟨4, ![1, 8192, 8, 64]⟩
abbrev S1x8192x8 : Shape := ⟨3, ![1, 8192, 8]⟩
abbrev S_ : Shape := ⟨0, ![]⟩

class Facts : Prop where
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  h_S_ : 0 < S_.numel
  bcast_S_S1x8192x8 : S_.BroadcastsInDim S1x8192x8 (![] : Fin 0 → Fin S1x8192x8.rank)
  reducesTo_S1x8192x8_S_d0_1_2 : S1x8192x8.ReducesTo [0, 1, 2] S_

variable [Facts]

def fn_part1 {F : FTy → Type} [FloatOps F] (main_v13 : IVec S_ 1) (main_v16 : IVec S1x8192x8 1) : IVec S_ 1 :=
  let main_c_5 : IVec S_ 1 := constantI S_ 1 1#1
  let main_v17 : IVec S_ 1 := (fun x v => Host.reduce IntOp.andi x v reducesTo_S1x8192x8_S_d0_1_2 h_S_) main_v16 main_c_5
  let main_v18 : IVec S_ 1 := andi main_v13 main_v17
  main_v18

def fn {F : FTy → Type} [FloatOps F] (main_arg0 : FVec F S1x8192x8x64 .f32) (main_arg1 : FVec F S1x8192x8x64 .f32) (main_arg2 : FVec F S1x8192x8x64 .f32) (main_arg3 : FVec F S1x8192x8 .f32) : IVec S_ 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_c : IVec S_ 1 := constantI S_ 1 1#1
  let main_v3 : IVec S_ 1 := (fun x v => Host.reduce IntOp.andi x v reducesTo_S1x8192x8x64_S_d0_1_2_3 h_S_) main_v2 main_c
  let main_v4 : FVec F S1x8192x8x64 .f32 := Host.absf main_arg1
  let main_cst_0 : FVec F S_ .f32 := constant S_ .f32 0x7F800000#32
  let main_v5 : FVec F S1x8192x8x64 .f32 := broadcastInDim S1x8192x8x64 ![] bcast_S_S1x8192x8x64 main_cst_0
  let main_v6 : IVec S1x8192x8x64 1 := cmpf .olt main_v4 main_v5
  let main_c_1 : IVec S_ 1 := constantI S_ 1 1#1
  let main_v7 : IVec S_ 1 := (fun x v => Host.reduce IntOp.andi x v reducesTo_S1x8192x8x64_S_d0_1_2_3 h_S_) main_v6 main_c_1
  let main_v8 : IVec S_ 1 := andi main_v3 main_v7
  let main_v9 : FVec F S1x8192x8x64 .f32 := Host.absf main_arg2
  let main_cst_2 : FVec F S_ .f32 := constant S_ .f32 0x7F800000#32
  let main_v10 : FVec F S1x8192x8x64 .f32 := broadcastInDim S1x8192x8x64 ![] bcast_S_S1x8192x8x64 main_cst_2
  let main_v11 : IVec S1x8192x8x64 1 := cmpf .olt main_v9 main_v10
  let main_c_3 : IVec S_ 1 := constantI S_ 1 1#1
  let main_v12 : IVec S_ 1 := (fun x v => Host.reduce IntOp.andi x v reducesTo_S1x8192x8x64_S_d0_1_2_3 h_S_) main_v11 main_c_3
  let main_v13 : IVec S_ 1 := andi main_v8 main_v12
  let main_v14 : FVec F S1x8192x8 .f32 := Host.absf main_arg3
  let main_cst_4 : FVec F S_ .f32 := constant S_ .f32 0x7F800000#32
  let main_v15 : FVec F S1x8192x8 .f32 := broadcastInDim S1x8192x8 ![] bcast_S_S1x8192x8 main_cst_4
  let main_v16 : IVec S1x8192x8 1 := cmpf .olt main_v14 main_v15
  fn_part1 (F := F) main_v13 main_v16
-- ==== Pre_post_finite.lean ====
abbrev S1x8192x1024 : Shape := ⟨3, ![1, 8192, 1024]⟩
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x512 : S_.BroadcastsInDim S1x8192x512 (![] : Fin 0 → Fin S1x8192x512.rank)
  reducesTo_S1x8192x512_S_d0_1_2 : S1x8192x512.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg9 : FVec F S1x512x1024 .f32) (main_arg10 : FVec F S1x1024x1024 .f32) (main_arg11 : FVec F S1x1024 .f32) (main_arg12 : FVec F S1024 .f32) (main_v33 : IVec S_ 1) : IVec S_ 1 :=
  let main_v34 : FVec F S1x512x1024 .f32 := Host.absf main_arg9
  let main_cst_12 : FVec F S_ .f32 := constant S_ .f32 0x7F800000#32
  let main_v35 : FVec F S1x512x1024 .f32 := broadcastInDim S1x512x1024 ![] bcast_S_S1x512x1024 main_cst_12
  let main_v36 : IVec S1x512x1024 1 := cmpf .olt main_v34 main_v35
  let main_c_13 : IVec S_ 1 := constantI S_ 1 1#1
  let main_v37 : IVec S_ 1 := (fun x v => Host.reduce IntOp.andi x v reducesTo_S1x512x1024_S_d0_1_2 h_S_) main_v36 main_c_13
  let main_v38 : IVec S_ 1 := andi main_v33 main_v37
  let main_v39 : FVec F S1x1024x1024 .f32 := Host.absf main_arg10
  let main_cst_14 : FVec F S_ .f32 := constant S_ .f32 0x7F800000#32
  let main_v40 : FVec F S1x1024x1024 .f32 := broadcastInDim S1x1024x1024 ![] bcast_S_S1x1024x1024 main_cst_14
  let main_v41 : IVec S1x1024x1024 1 := cmpf .olt main_v39 main_v40
  let main_c_15 : IVec S_ 1 := constantI S_ 1 1#1
  let main_v42 : IVec S_ 1 := (fun x v => Host.reduce IntOp.andi x v reducesTo_S1x1024x1024_S_d0_1_2 h_S_) main_v41 main_c_15
  let main_v43 : IVec S_ 1 := andi main_v38 main_v42
  let main_v44 : FVec F S1x1024 .f32 := Host.absf main_arg11
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1x8192x512 .f32) (main_arg5 : FVec F S1x8192x512 .f32) (main_arg8 : FVec F S1x512x1024 .f32) (main_arg9 : FVec F S1x512x1024 .f32) (main_arg10 : FVec F S1x1024x1024 .f32) (main_arg11 : FVec F S1x1024 .f32) (main_arg12 : FVec F S1024 .f32) (main_v13 : IVec S_ 1) (main_v16 : IVec S1x8192x512 1) : IVec S_ 1 :=
  let main_c_5 : IVec S_ 1 := constantI S_ 1 1#1
  let main_v17 : IVec S_ 1 := (fun x v => Host.reduce IntOp.andi x v reducesTo_S1x8192x512_S_d0_1_2 h_S_) main_v16 main_c_5
  let main_v18 : IVec S_ 1 := andi main_v13 main_v17
  let main_v19 : FVec F S1x8192x512 .f32 := Host.absf main_arg4
  let main_cst_6 : FVec F S_ .f32 := constant S_ .f32 0x7F800000#32
  let main_v20 : FVec F S1x8192x512 .f32 := broadcastInDim S1x8192x512 ![] bcast_S_S1x8192x512 main_cst_6
  let main_v21 : IVec S1x8192x512 1 := cmpf .olt main_v19 main_v20
  let main_c_7 : IVec S_ 1 := constantI S_ 1 1#1
  let main_v22 : IVec S_ 1 := (fun x v => Host.reduce IntOp.andi x v reducesTo_S1x8192x512_S_d0_1_2 h_S_) main_v21 main_c_7
  let main_v23 : IVec S_ 1 := andi main_v18 main_v22
  let main_v24 : FVec F S1x8192x512 .f32 := Host.absf main_arg5
  let main_cst_8 : FVec F S_ .f32 := constant S_ .f32 0x7F800000#32
  let main_v25 : FVec F S1x8192x512 .f32 := broadcastInDim S1x8192x512 ![] bcast_S_S1x8192x512 main_cst_8
  let main_v26 : IVec S1x8192x512 1 := cmpf .olt main_v24 main_v25
  let main_c_9 : IVec S_ 1 := constantI S_ 1 1#1
  let main_v27 : IVec S_ 1 := (fun x v => Host.reduce IntOp.andi x v reducesTo_S1x8192x512_S_d0_1_2 h_S_) main_v26 main_c_9
  let main_v28 : IVec S_ 1 := andi main_v23 main_v27
  let main_v29 : FVec F S1x512x1024 .f32 := Host.absf main_arg8
  let main_cst_10 : FVec F S_ .f32 := constant S_ .f32 0x7F800000#32
  let main_v30 : FVec F S1x512x1024 .f32 := broadcastInDim S1x512x1024 ![] bcast_S_S1x512x1024 main_cst_10
  let main_v31 : IVec S1x512x1024 1 := cmpf .olt main_v29 main_v30
  let main_c_11 : IVec S_ 1 := constantI S_ 1 1#1
  let main_v32 : IVec S_ 1 := (fun x v => Host.reduce IntOp.andi x v reducesTo_S1x512x1024_S_d0_1_2 h_S_) main_v31 main_c_11
  let main_v33 : IVec S_ 1 := andi main_v28 main_v32
  fn_part2 (F := F) main_arg9 main_arg10 main_arg11 main_arg12 main_v33

def fn {F : FTy → Type} [FloatOps F] (main_arg0 : FVec F S1x8192x1024 .f32) (main_arg1 : FVec F S1x8192x1024 .f32) (main_arg2 : FVec F S1x8192x512 .f32) (main_arg3 : FVec F S1x8192x512 .f32) (main_arg4 : FVec F S1x8192x512 .f32) (main_arg5 : FVec F S1x8192x512 .f32) (main_arg6 : FVec F S1x8192x1024 .f32) (main_arg7 : FVec F S1x8192x1024 .f32) (main_arg8 : FVec F S1x512x1024 .f32) (main_arg9 : FVec F S1x512x1024 .f32) (main_arg10 : FVec F S1x1024x1024 .f32) (main_arg11 : FVec F S1x1024 .f32) (main_arg12 : FVec F S1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x1024 .f32 := Host.absf main_arg1
  let main_cst_0 : FVec F S_ .f32 := constant S_ .f32 0x7F800000#32
  let main_v5 : FVec F S1x8192x1024 .f32 := broadcastInDim S1x8192x1024 ![] bcast_S_S1x8192x1024 main_cst_0
  let main_v6 : IVec S1x8192x1024 1 := cmpf .olt main_v4 main_v5
  let main_c_1 : IVec S_ 1 := constantI S_ 1 1#1
  let main_v7 : IVec S_ 1 := (fun x v => Host.reduce IntOp.andi x v reducesTo_S1x8192x1024_S_d0_1_2 h_S_) main_v6 main_c_1
  let main_v8 : IVec S_ 1 := andi main_v3 main_v7
  let main_v9 : FVec F S1x8192x512 .f32 := Host.absf main_arg2
  let main_cst_2 : FVec F S_ .f32 := constant S_ .f32 0x7F800000#32
  let main_v10 : FVec F S1x8192x512 .f32 := broadcastInDim S1x8192x512 ![] bcast_S_S1x8192x512 main_cst_2
  let main_v11 : IVec S1x8192x512 1 := cmpf .olt main_v9 main_v10
  let main_c_3 : IVec S_ 1 := constantI S_ 1 1#1
  let main_v12 : IVec S_ 1 := (fun x v => Host.reduce IntOp.andi x v reducesTo_S1x8192x512_S_d0_1_2 h_S_) main_v11 main_c_3
  let main_v13 : IVec S_ 1 := andi main_v8 main_v12
  let main_v14 : FVec F S1x8192x512 .f32 := Host.absf main_arg3
  let main_cst_4 : FVec F S_ .f32 := constant S_ .f32 0x7F800000#32
  let main_v15 : FVec F S1x8192x512 .f32 := broadcastInDim S1x8192x512 ![] bcast_S_S1x8192x512 main_cst_4
  let main_v16 : IVec S1x8192x512 1 := cmpf .olt main_v14 main_v15
  fn_part1 (F := F) main_arg4 main_arg5 main_arg8 main_arg9 main_arg10 main_arg11 main_arg12 main_v13 main_v16
-- ==== Pre_pre_finite.lean ====
abbrev S1x8192x1024 : Shape := ⟨3, ![1, 8192, 1024]⟩
abbrev S1x1024 : Shape := ⟨2, ![1, 1024]⟩
abbrev S1x1024x5384 : Shape := ⟨3, ![1, 1024, 5384]⟩
abbrev S1x8192x5384 : Shape := ⟨3, ![1, 8192, 5384]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5384 : S_.BroadcastsInDim S1x1024x5384 (![] : Fin 0 → Fin S1x1024x5384.rank)
  reducesTo_S1x1024x5384_S_d0_1_2 : S1x1024x5384.ReducesTo [0, 1, 2] S_
  bcast_S_S1x8192x5384 : S_.BroadcastsInDim S1x8192x5384 (![] : Fin 0 → Fin S1x8192x5384.rank)
  reducesTo_S1x8192x5384_S_d0_1_2 : S1x8192x5384.ReducesTo [0, 1, 2] S_

variable [Facts]

def fn_part1 {F : FTy → Type} [FloatOps F] (main_arg6 : FVec F S1x8192x5384 .f32) (main_v13 : IVec S_ 1) (main_v16 : IVec S1x1024x5384 1) : IVec S_ 1 :=
  let main_c_5 : IVec S_ 1 := constantI S_ 1 1#1
  let main_v17 : IVec S_ 1 := (fun x v => Host.reduce IntOp.andi x v reducesTo_S1x1024x5384_S_d0_1_2 h_S_) main_v16 main_c_5
  let main_v18 : IVec S_ 1 := andi main_v13 main_v17
  let main_v19 : FVec F S1x8192x5384 .f32 := Host.absf main_arg6
  let main_cst_6 : FVec F S_ .f32 := constant S_ .f32 0x7F800000#32
  let main_v20 : FVec F S1x8192x5384 .f32 := broadcastInDim S1x8192x5384 ![] bcast_S_S1x8192x5384 main_cst_6
  let main_v21 : IVec S1x8192x5384 1 := cmpf .olt main_v19 main_v20
  let main_c_7 : IVec S_ 1 := constantI S_ 1 1#1
  let main_v22 : IVec S_ 1 := (fun x v => Host.reduce IntOp.andi x v reducesTo_S1x8192x5384_S_d0_1_2 h_S_) main_v21 main_c_7
  let main_v23 : IVec S_ 1 := andi main_v18 main_v22
  main_v23

def fn {F : FTy → Type} [FloatOps F] (main_arg0 : FVec F S1x8192x1024 .f32) (main_arg1 : FVec F S1x1024 .f32) (main_arg2 : FVec F S1x1024 .f32) (main_arg3 : FVec F S1x1024 .f32) (main_arg4 : FVec F S1x1024x5384 .f32) (main_arg5 : FVec F S1x8192x1024 .f32) (main_arg6 : FVec F S1x8192x5384 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x5384 .f32 := Host.absf main_arg4
  let main_cst_4 : FVec F S_ .f32 := constant S_ .f32 0x7F800000#32
  let main_v15 : FVec F S1x1024x5384 .f32 := broadcastInDim S1x1024x5384 ![] bcast_S_S1x1024x5384 main_cst_4
  let main_v16 : IVec S1x1024x5384 1 := cmpf .olt main_v14 main_v15
  fn_part1 (F := F) main_arg6 main_v13 main_v16
-- ==== Kernel.lean ====
abbrev S1x8192x8 : Shape := ⟨3, ![1, 8192, 8]⟩
abbrev S1x8 : Shape := ⟨2, ![1, 8]⟩
abbrev S8192x8 : Shape := ⟨2, ![8192, 8]⟩
abbrev S_ : Shape := ⟨0, ![]⟩
abbrev S8192x128 : Shape := ⟨2, ![8192, 128]⟩
abbrev S1x128 : Shape := ⟨2, ![1, 128]⟩
abbrev S8192x4x2 : Shape := ⟨3, ![8192, 4, 2]⟩
abbrev S4x8192x2 : Shape := ⟨3, ![4, 8192, 2]⟩
abbrev S4x8192x128 : Shape := ⟨3, ![4, 8192, 128]⟩
abbrev S8x128 : Shape := ⟨2, ![8, 128]⟩
abbrev S4x512x128 : Shape := ⟨3, ![4, 512, 128]⟩
abbrev S512x128 : Shape := ⟨2, ![512, 128]⟩
abbrev S512x512 : Shape := ⟨2, ![512, 512]⟩
abbrev S1x512x128 : Shape := ⟨3, ![1, 512, 128]⟩
abbrev S128 : Shape := ⟨1, ![128]⟩

abbrev nBuf : Space → Nat
  | .hbm => 27
  | .vmem => 10
  | .smem => 0
  | _ => 0

abbrev bufTy : (tb : Table) → Fin (tcTables nBuf tb) → BufTy
  | .hbm, ⟨0, _⟩ => ⟨S1x8192x8, .f32⟩
  | .hbm, ⟨1, _⟩ => ⟨S1x8, .f32⟩
  | .hbm, ⟨2, _⟩ => ⟨S1x8192x8, .f32⟩
  | .hbm, ⟨3, _⟩ => ⟨S1x8192x8, .f32⟩
  | .hbm, ⟨4, _⟩ => ⟨S8192x8, .f32⟩
  | .hbm, ⟨5, _⟩ => ⟨S_, .i32⟩
  | .hbm, ⟨6, _⟩ => ⟨S_, .f32⟩
  | .hbm, ⟨7, _⟩ => ⟨S8192x128, .f32⟩
  | .hbm, ⟨8, _⟩ => ⟨S_, .i32⟩
  | .hbm, ⟨9, _⟩ => ⟨S_, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S8192x8, .f32⟩
  | .hbm, ⟨14, _⟩ => ⟨S8192x4x2, .f32⟩
  | .hbm, ⟨15, _⟩ => ⟨S4x8192x2, .f32⟩
  | .hbm, ⟨16, _⟩ => ⟨S_, .i32⟩
  | .hbm, ⟨17, _⟩ => ⟨S_, .f32⟩
  | .hbm, ⟨18, _⟩ => ⟨S4x8192x128, .f32⟩
  | .hbm, ⟨19, _⟩ => ⟨S8192x8, .f32⟩
  | .hbm, ⟨20, _⟩ => ⟨S8192x4x2, .f32⟩
  | .hbm, ⟨21, _⟩ => ⟨S4x8192x2, .f32⟩
  | .hbm, ⟨22, _⟩ => ⟨S_, .i32⟩
  | .hbm, ⟨23, _⟩ => ⟨S_, .f32⟩
  | .hbm, ⟨24, _⟩ => ⟨S4x8192x128, .f32⟩
  | .hbm, ⟨25, _⟩ => ⟨S8192x128, .bf16⟩
  | .hbm, ⟨26, _⟩ => ⟨S8x128, .f32⟩
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S8x128, .f32⟩
  | .local _ .vmem, ⟨9, _⟩ => ⟨S8x128, .f32⟩
  | _, _ => ⟨S1x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call3_v0 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1x8192x8 : Shape := ⟨3, ![1, 8192, 8]⟩
abbrev S1x8 : Shape := ⟨2, ![1, 8]⟩
abbrev S8 : Shape := ⟨1, ![8]⟩
abbrev S1x1x8 : Shape := ⟨3, ![1, 1, 8]⟩
abbrev S_ : Shape := ⟨0, ![]⟩
abbrev S8192x8 : Shape := ⟨2, ![8192, 8]⟩
abbrev S8192x128 : Shape := ⟨2, ![8192, 128]⟩
abbrev S8x128 : Shape := ⟨2, ![8, 128]⟩

abbrev nBuf : Space → Nat
  | .hbm => 82
  | .vmem => 0
  | .smem => 0
  | _ => 0

abbrev bufTy : (tb : Table) → Fin (tcTables nBuf tb) → BufTy
  | .hbm, ⟨0, _⟩ => ⟨S1x8192x8, .f32⟩
  | .hbm, ⟨1, _⟩ => ⟨S1x8, .f32⟩
  | .hbm, ⟨2, _⟩ => ⟨S1x8192x8, .f32⟩
  | .hbm, ⟨3, _⟩ => ⟨S1x8192x8, .f32⟩
  | .hbm, ⟨4, _⟩ => ⟨S8, .f32⟩
  | .hbm, ⟨5, _⟩ => ⟨S1x1x8, .f32⟩
  | .hbm, ⟨6, _⟩ => ⟨S1x8192x8, .f32⟩
  | .hbm, ⟨7, _⟩ => ⟨S1x8192x8, .f32⟩
  | .hbm, ⟨8, _⟩ => ⟨S1x8192x8, .f32⟩
  | .hbm, ⟨9, _⟩ => ⟨S_, .f32⟩
  | .hbm, ⟨10, _⟩ => ⟨S1x8192x8, .f32⟩
  | .hbm, ⟨11, _⟩ => ⟨S1x8192x8, .f32⟩
  | .hbm, ⟨12, _⟩ => ⟨S1x8192x8, .f32⟩
  | .hbm, ⟨13, _⟩ => ⟨S1x8192x8, .f32⟩
  | .hbm, ⟨14, _⟩ => ⟨S1x8192x8, .i1⟩
  | .hbm, ⟨15, _⟩ => ⟨S1x8192x8, .f32⟩
  | .hbm, ⟨16, _⟩ => ⟨S1x8192x8, .f32⟩
  | .hbm, ⟨17, _⟩ => ⟨S1x8192x8, .f32⟩
  | .hbm, ⟨18, _⟩ => ⟨S1x8192x8, .f32⟩
  | .hbm, ⟨19, _⟩ => ⟨S1x8192x8, .f32⟩
  | .hbm, ⟨20, _⟩ => ⟨S1x8192x8, .f32⟩
  | .hbm, ⟨21, _⟩ => ⟨S1x8192x8, .f32⟩
  | .hbm, ⟨22, _⟩ => ⟨S1x8192x8, .f32⟩
  | .hbm, ⟨23, _⟩ => ⟨S_, .f32⟩
  | .hbm, ⟨24, _⟩ => ⟨S1x8192x8, .f32⟩
  | .hbm, ⟨25, _⟩ => ⟨S1x8192x8, .i1⟩
  | .hbm, ⟨26, _⟩ => ⟨S_, .f32⟩
  | .hbm, ⟨27, _⟩ => ⟨S1x8192x8, .f32⟩
  | .hbm, ⟨28, _⟩ => ⟨S1x8192x8, .f32⟩
  | .hbm, ⟨29, _⟩ => ⟨S_, .f32⟩
  | .hbm, ⟨30, _⟩ => ⟨S1x8192x8, .f32⟩
  | .hbm, ⟨31, _⟩ => ⟨S1x8192x8, .i1⟩
  | .hbm, ⟨32, _⟩ => ⟨S_, .f32⟩
  | .hbm, ⟨33, _⟩ => ⟨S1x8192x8, .f32⟩
  | .hbm, ⟨34, _⟩ => ⟨S1x8192x8, .f32⟩
  | .hbm, ⟨35, _⟩ => ⟨S1x8192x8, .f32⟩
  | .hbm, ⟨36, _⟩ => ⟨S1x8192x8, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x8192x8, .f32⟩
  | .hbm, ⟨45, _⟩ => ⟨S1x8192x8, .i1⟩
  | .hbm, ⟨46, _⟩ => ⟨S_, .f32⟩
  | .hbm, ⟨47, _⟩ => ⟨S1x8192x8, .f32⟩
  | .hbm, ⟨48, _⟩ => ⟨S1x8192x8, .f32⟩
  | .hbm, ⟨49, _⟩ => ⟨S1x8192x8, .f32⟩
  | .hbm, ⟨50, _⟩ => ⟨S1x8192x8, .f32⟩
  | .hbm, ⟨51, _⟩ => ⟨S1x8192x8, .f32⟩
  | .hbm, ⟨52, _⟩ => ⟨S_, .f32⟩
  | .hbm, ⟨53, _⟩ => ⟨S1x8192x8, .f32⟩
  | .hbm, ⟨54, _⟩ => ⟨S1x8192x8, .f32⟩
  | .hbm, ⟨55, _⟩ => ⟨S1x8192x8, .f32⟩
  | .hbm, ⟨56, _⟩ => ⟨S_, .f32⟩
  | .hbm, ⟨57, _⟩ => ⟨S_, .f32⟩
  | .hbm, ⟨58, _⟩ => ⟨S1x8192x8, .f32⟩
  | .hbm, ⟨59, _⟩ => ⟨S1x8192x8, .f32⟩
  | .hbm, ⟨60, _⟩ => ⟨S1x8192x8, .f32⟩
  | .hbm, ⟨61, _⟩ => ⟨S1x8192x8, .f32⟩
  | .hbm, ⟨62, _⟩ => ⟨S_, .f32⟩
  | .hbm, ⟨63, _⟩ => ⟨S_, .f32⟩
  | .hbm, ⟨64, _⟩ => ⟨S1x8192x8, .f32⟩
  | .hbm, ⟨65, _⟩ => ⟨S1x8192x8, .f32⟩
  | .hbm, ⟨66, _⟩ => ⟨S1x8192x8, .f32⟩
  | .hbm, ⟨67, _⟩ => ⟨S1x8192x8, .f32⟩
  | .hbm, ⟨68, _⟩ => ⟨S_, .f32⟩
  | .hbm, ⟨69, _⟩ => ⟨S1x8, .f32⟩
  | .hbm, ⟨70, _⟩ => ⟨S1x1x8, .f32⟩
  | .hbm, ⟨71, _⟩ => ⟨S_, .f32⟩
  | .hbm, ⟨72, _⟩ => ⟨S8, .f32⟩
  | .hbm, ⟨73, _⟩ => ⟨S1x8, .f32⟩
  | .hbm, ⟨74, _⟩ => ⟨S8192x8, .f32⟩
  | .hbm, ⟨75, _⟩ => ⟨S_, .i32⟩
  | .hbm, ⟨76, _⟩ => ⟨S_, .f32⟩
  | .hbm, ⟨77, _⟩ => ⟨S8192x128, .f32⟩
  | .hbm, ⟨78, _⟩ => ⟨S8192x128, .bf16⟩
  | .hbm, ⟨79, _⟩ => ⟨S_, .i32⟩
  | .hbm, ⟨80, _⟩ => ⟨S_, .f32⟩
  | .hbm, ⟨81, _⟩ => ⟨S8x128, .f32⟩
  | _, _ => ⟨S1x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v4_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v4_2 : Ref sig .tc := ⟨.hbm, 54, rfl⟩
abbrev main_v4_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_call2_call0_cst : Ref sig .tc := ⟨.hbm, 62, rfl⟩
abbrev main_call2_call0_v0 : Ref sig .tc := ⟨.hbm, 63, rfl⟩
abbrev main_v9 : Ref sig .tc := ⟨.hbm, 64, rfl⟩
abbrev main_call3_v0 : Ref sig .tc := ⟨.hbm, 65, rfl⟩
abbrev main_call3_v1 : Ref sig .tc := ⟨.hbm, 66, rfl⟩
abbrev main_v10 : Ref sig .tc := ⟨.hbm, 67, rfl⟩
abbrev main_cst : Ref sig .tc := ⟨.hbm, 68, rfl⟩
abbrev main_v11 : Ref sig .tc := ⟨.hbm, 69, rfl⟩
abbrev main_v12 : Ref sig .tc := ⟨.hbm, 70, rfl⟩
abbrev main_cst_0 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_c : Ref sig .tc := ⟨.hbm, 75, rfl⟩
abbrev main_call4_v0 : Ref sig .tc := ⟨.hbm, 76, rfl⟩
abbrev main_v16 : Ref sig .tc := ⟨.hbm, 77, rfl⟩
abbrev main_v17 : Ref sig .tc := ⟨.hbm, 78, rfl⟩
abbrev main_c_1 : Ref sig .tc := ⟨.hbm, 79, rfl⟩
abbrev main_call5_v0 : Ref sig .tc := ⟨.hbm, 80, rfl⟩
abbrev main_v18 : Ref sig .tc := ⟨.hbm, 81, rfl⟩

abbrev nD : Nat := 1
abbrev τ : Topo := Topo.v7x

variable {F : FTy → Type} [FloatOps F]
-- ==== Kernel2.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8192x8 : Shape := ⟨2, ![8192, 8]⟩
abbrev S1x8x64x8192 : Shape := ⟨4, ![1, 8, 64, 8192]⟩
abbrev S8192x8x3 : Shape := ⟨3, ![8192, 8, 3]⟩
abbrev S8192x8x64 : Shape := ⟨3, ![8192, 8, 64]⟩
abbrev S8192x8x1 : Shape := ⟨3, ![8192, 8, 1]⟩
abbrev S8192x8x70 : Shape := ⟨3, ![8192, 8, 70]⟩
abbrev S8192x8x128 : Shape := ⟨3, ![8192, 8, 128]⟩
abbrev S8192x1024 : Shape := ⟨2, ![8192, 1024]⟩
abbrev S8192x8x67 : Shape := ⟨3, ![8192, 8, 67]⟩
abbrev S4x16 : Shape := ⟨2, ![4, 16]⟩
abbrev S8192x512 : Shape := ⟨2, ![8192, 512]⟩
abbrev S4x8192x128 : Shape := ⟨3, ![4, 8192, 128]⟩
abbrev S512x256 : Shape := ⟨2, ![512, 256]⟩
abbrev S8192x256 : Shape := ⟨2, ![8192, 256]⟩
abbrev S512x128 : Shape := ⟨2, ![512, 128]⟩
abbrev S1x512x128 : Shape := ⟨3, ![1, 512, 128]⟩
abbrev S8192x128 : Shape := ⟨2, ![8192, 128]⟩
abbrev S1x8192x128 : Shape := ⟨3, ![1, 8192, 128]⟩
abbrev S1x1 : Shape := ⟨2, ![1, 1]⟩
abbrev S512x512 : Shape := ⟨2, ![512, 512]⟩
abbrev S1x128 : Shape := ⟨2, ![1, 128]⟩

abbrev nBuf : Space → Nat
  | .hbm => 124
  | .vmem => 19
  | .smem => 1
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S1x8192x512, .f32⟩
  | .hbm, ⟨5, _⟩ => ⟨S1x8x8192x8192, .f32⟩
  | .hbm, ⟨6, _⟩ => ⟨S_, .f32⟩
  | .hbm, ⟨7, _⟩ => ⟨S1x8x8192x8192, .f32⟩
  | .hbm, ⟨8, _⟩ => ⟨S1x8x8192x8192, .f32⟩
  | .hbm, ⟨9, _⟩ => ⟨S1x8x8192, .f32⟩
  | .hbm, ⟨10, _⟩ => ⟨S1x8x8192x1, .f32⟩
  | .hbm, ⟨11, _⟩ => ⟨S1x8x8192x8192, .f32⟩
  | .hbm, ⟨12, _⟩ => ⟨S1x8x8192x8192, .f32⟩
  | .hbm, ⟨13, _⟩ => ⟨S1x8x8192, .f32⟩
  | .hbm, ⟨14, _⟩ => ⟨S1x8x1x8192, .f32⟩
  | .hbm, ⟨15, _⟩ => ⟨S1x8x8192x8192, .f32⟩
  | .hbm, ⟨16, _⟩ => ⟨S1x8x8192x8192, .f32⟩
  | .hbm, ⟨17, _⟩ => ⟨S8192, .i32⟩
  | .hbm, ⟨18, _⟩ => ⟨S1x8192, .i32⟩
  | .hbm, ⟨19, _⟩ => ⟨S8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S1x8x8192x8192, .i1⟩
  | .hbm, ⟨27, _⟩ => ⟨S1x8x8192x8192, .f32⟩
  | .hbm, ⟨28, _⟩ => ⟨S1x8x8192x8192, .f32⟩
  | .hbm, ⟨29, _⟩ => ⟨S_, .f32⟩
  | .hbm, ⟨30, _⟩ => ⟨S1x8x8192, .f32⟩
  | .hbm, ⟨31, _⟩ => ⟨S1x8x8192x1, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S_, .f32⟩
  | .hbm, ⟨36, _⟩ => ⟨S1x8x8192, .f32⟩
  | .hbm, ⟨37, _⟩ => ⟨S1x8x8192x1, .f32⟩
  | .hbm, ⟨38, _⟩ => ⟨S1x8x8192x1, .f32⟩
  | .hbm, ⟨39, _⟩ => ⟨S1x8x8192x1, .f32⟩
  | .hbm, ⟨40, _⟩ => ⟨S8x8192, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S1x8x8192x8192, .f32⟩
  | .hbm, ⟨45, _⟩ => ⟨S1x8x8192x8192, .f32⟩
  | .hbm, ⟨46, _⟩ => ⟨S1x8x64x8192, .f32⟩
  | .hbm, ⟨47, _⟩ => ⟨S1x8192x8x64, .f32⟩
  | .hbm, ⟨48, _⟩ => ⟨S1x8192x8x64, .f32⟩
  | .hbm, ⟨49, _⟩ => ⟨S1x8192x8x64, .f32⟩
  | .hbm, ⟨50, _⟩ => ⟨S_, .f32⟩
  | .hbm, ⟨51, _⟩ => ⟨S1x8192x8, .f32⟩
  | .hbm, ⟨52, _⟩ => ⟨S8192x8, .f32⟩
  | .hbm, ⟨53, _⟩ => ⟨S_, .f32⟩
  | .hbm, ⟨54, _⟩ => ⟨S8192x8x3, .f32⟩
  | .hbm, ⟨55, _⟩ => ⟨S8192x8x64, .f32⟩
  | .hbm, ⟨56, _⟩ => ⟨S_, .f32⟩
  | .hbm, ⟨57, _⟩ => ⟨S8192x8x64, .f32⟩
  | .hbm, ⟨58, _⟩ => ⟨S8192x8x64, .f32⟩
  | .hbm, ⟨59, _⟩ => ⟨S8192x8x1, .f32⟩
  | .hbm, ⟨60, _⟩ => ⟨S8192x8x1, .f32⟩
  | .hbm, ⟨61, _⟩ => ⟨S8192x8x1, .bf16⟩
  | .hbm, ⟨62, _⟩ => ⟨S8192x8x1, .f32⟩
  | .hbm, ⟨63, _⟩ => ⟨S8192x8x1, .f32⟩
  | .hbm, ⟨64, _⟩ => ⟨S8192x8x1, .bf16⟩
  | .hbm, ⟨65, _⟩ => ⟨S8192x8x1, .f32⟩
  | .hbm, ⟨66, _⟩ => ⟨S8192x8x1, .f32⟩
  | .hbm, ⟨67, _⟩ => ⟨S8192x8x1, .bf16⟩
  | .hbm, ⟨68, _⟩ => ⟨S8192x8x1, .f32⟩
  | .hbm, ⟨69, _⟩ => ⟨S8192x8x70, .f32⟩
  | .hbm, ⟨70, _⟩ => ⟨S_, .i32⟩
  | .hbm, ⟨71, _⟩ => ⟨S_, .f32⟩
  | .hbm, ⟨72, _⟩ => ⟨S8192x8x128, .f32⟩
  | .hbm, ⟨73, _⟩ => ⟨S8192x1024, .f32⟩
  | .hbm, ⟨74, _⟩ => ⟨S8192x1024, .bf16⟩
  | .hbm, ⟨75, _⟩ => ⟨S8192x8x64, .f32⟩
  | .hbm, ⟨76, _⟩ => ⟨S8192x8, .f32⟩
  | .hbm, ⟨77, _⟩ => ⟨S8192x8x1, .f32⟩
  | .hbm, ⟨78, _⟩ => ⟨S8192x8x1, .f32⟩
  | .hbm, ⟨79, _⟩ => ⟨S8192x8x1, .bf16⟩
  | .hbm, ⟨80, _⟩ => ⟨S8192x8x1, .f32⟩
  | .hbm, ⟨81, _⟩ => ⟨S8192x8x1, .f32⟩
  | .hbm, ⟨82, _⟩ => ⟨S8192x8x1, .bf16⟩
  | .hbm, ⟨83, _⟩ => ⟨S8192x8x1, .f32⟩
  | .hbm, ⟨84, _⟩ => ⟨S8192x8x1, .f32⟩
  | .hbm, ⟨85, _⟩ => ⟨S8192x8x1, .bf16⟩
  | .hbm, ⟨86, _⟩ => ⟨S8192x8x1, .f32⟩
  | .hbm, ⟨87, _⟩ => ⟨S8192x8x70, .f32⟩
  | .hbm, ⟨88, _⟩ => ⟨S_, .i32⟩
  | .hbm, ⟨89, _⟩ => ⟨S_, .f32⟩
  | .hbm, ⟨90, _⟩ => ⟨S8192x8x128, .f32⟩
  | .hbm, ⟨91, _⟩ => ⟨S8192x1024, .f32⟩
  | .hbm, ⟨92, _⟩ => ⟨S8192x1024, .bf16⟩
  | .hbm, ⟨93, _⟩ => ⟨S8192x8x64, .f32⟩
  | .hbm, ⟨94, _⟩ => ⟨S8192x8x67, .f32⟩
  | .hbm, ⟨95, _⟩ => ⟨S_, .i32⟩
  | .hbm, ⟨96, _⟩ => ⟨S_, .f32⟩
  | .hbm, ⟨97, _⟩ => ⟨S8192x8x128, .f32⟩
  | .hbm, ⟨98, _⟩ => ⟨S8192x1024, .f32⟩
  | .hbm, ⟨99, _⟩ => ⟨S8192x1024, .bf16⟩
  | .hbm, ⟨100, _⟩ => ⟨S8192x8x64, .f32⟩
  | .hbm, ⟨101, _⟩ => ⟨S8192x8x1, .f32⟩
  | .hbm, ⟨102, _⟩ => ⟨S8192x8x1, .f32⟩
  | .hbm, ⟨103, _⟩ => ⟨S8192x8x1, .bf16⟩
  | .hbm, ⟨104, _⟩ => ⟨S8192x8x1, .f32⟩
  | .hbm, ⟨105, _⟩ => ⟨S8192x8x1, .f32⟩
  | .hbm, ⟨106, _⟩ => ⟨S8192x8x1, .bf16⟩
  | .hbm, ⟨107, _⟩ => ⟨S8192x8x1, .f32⟩
  | .hbm, ⟨108, _⟩ => ⟨S8192x8x1, .f32⟩
  | .hbm, ⟨109, _⟩ => ⟨S8192x8x1, .bf16⟩
  | .hbm, ⟨110, _⟩ => ⟨S8192x8x1, .f32⟩
  | .hbm, ⟨111, _⟩ => ⟨S8192x8x67, .f32⟩
  | .hbm, ⟨112, _⟩ => ⟨S_, .i32⟩
  | .hbm, ⟨113, _⟩ => ⟨S_, .f32⟩
  | .hbm, ⟨114, _⟩ => ⟨S8192x8x128, .f32⟩
  | .hbm, ⟨115, _⟩ => ⟨S8192x1024, .f32⟩
  | .hbm, ⟨116, _⟩ => ⟨S8192x1024, .bf16⟩
  | .hbm, ⟨117, _⟩ => ⟨S_, .i32⟩
  | .hbm, ⟨118, _⟩ => ⟨S4x16, .i32⟩
  | .hbm, ⟨119, _⟩ => ⟨S8192x512, .bf16⟩
  | .hbm, ⟨120, _⟩ => ⟨S8192x512, .bf16⟩
  | .hbm, ⟨121, _⟩ => ⟨S4x8192x128, .f32⟩
  | .hbm, ⟨122, _⟩ => ⟨S8192x512, .bf16⟩
  | .hbm, ⟨123, _⟩ => ⟨S4x8192x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S8192x256, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x512x128, .f32⟩
  | .local _ .vmem, ⟨13, _⟩ => ⟨S1x512x128, .f32⟩
  | .local _ .vmem, ⟨14, _⟩ => ⟨S8192x128, .bf16⟩
  | .local _ .vmem, ⟨15, _⟩ => ⟨S8192x128, .bf16⟩
  | .local _ .vmem, ⟨16, _⟩ => ⟨S1x8192x128, .f32⟩
  | .local _ .vmem, ⟨17, _⟩ => ⟨S1x8192x128, .f32⟩
  | .local _ .vmem, ⟨18, _⟩ => ⟨S8192x256, .f32⟩
  | .local _ .smem, ⟨0, _⟩ => ⟨S4x16, .i32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c : Ref sig .tc := ⟨.hbm, 70, rfl⟩
abbrev main_call1_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_6 : Ref sig .tc := ⟨.hbm, 88, rfl⟩
abbrev main_call2_v0 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_7 : Ref sig .tc := ⟨.hbm, 95, rfl⟩
abbrev main_call3_v0 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_8 : Ref sig .tc := ⟨.hbm, 112, rfl⟩
abbrev main_call4_v0 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_9 : Ref sig .tc := ⟨.hbm, 117, rfl⟩
abbrev main_v94 : Ref sig .tc := ⟨.hbm, 118, rfl⟩
abbrev main_v95_0 : Ref sig .tc := ⟨.hbm, 119, rfl⟩
abbrev main_v95_1 : Ref sig .tc := ⟨.hbm, 120, rfl⟩
abbrev main_v95_2 : Ref sig .tc := ⟨.hbm, 121, rfl⟩
abbrev main_v95_3 : Ref sig .tc := ⟨.hbm, 122, rfl⟩
abbrev main_v95_4 : Ref sig .tc := ⟨.hbm, 123, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_mult1 (i : grid0.Coords) : BitVec 32 :=
  let arg1 : BitVec 32 := BitVec.ofNat 32 (i 1).val
  let c512_i32 : BitVec 32 := 512#32
  let v20 : BitVec 32 := Scalar.muli arg1 c512_i32
  v20
def k0_off2 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_8 : Index := 0#32
  ![v22.toNat, 0]
def k0_off3 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v49 : Index := Scalar.indexCast v21
  let c128_18 : Index := 128#32
  ![v49.toNat, 128]
@[reducible] def k0_t1_loop (i : grid0.Coords) (v2 : BitVec 32) : Scf.Loop 32 :=
  let arg1 : BitVec 32 := BitVec.ofNat 32 (i 1).val
  let c1_i32 : BitVec 32 := 1#32
  let v18 : BitVec 32 := Scalar.addi arg1 c1_i32
  let c1_i32_7 : BitVec 32 := 1#32
  let v19 : BitVec 32 := Scalar.addi v2 c1_i32_7
  let v76 : BitVec 32 := Scalar.subi v19 v18
  let c1_i32_28 : BitVec 32 := 1#32
  let v78 : BitVec 32 := Scalar.divsi v76 c1_i32_28
  let v79 : BitVec 32 := Scalar.muli v78 c1_i32_28
  let v80 : BitVec 32 := Scalar.addi v18 v79
  let c1_i32_29 : BitVec 32 := 1#32
  ⟨v18, v80, c1_i32_29⟩

def k0_mult2 (i : grid0.Coords) (v2 : BitVec 32) (k0_t1 : Fin (k0_t1_loop i v2).trips) : BitVec 32 :=
  let arg1 : BitVec 32 := BitVec.ofNat 32 (i 1).val
  let c1_i32 : BitVec 32 := 1#32
  let v18 : BitVec 32 := Scalar.addi arg1 c1_i32
  let c1_i32_29 : BitVec 32 := 1#32
  let arg13 : BitVec 32 := Scf.iv v18 c1_i32_29 k0_t1
  let c512_i32_46 : BitVec 32 := 512#32
  let v120 : BitVec 32 := Scalar.muli arg13 c512_i32_46
  v120
def k0_off4 (i : grid0.Coords) (v2 : BitVec 32) (k0_t1 : Fin (k0_t1_loop i v2).trips) : Fin 2 → Nat :=
  let arg1 : BitVec 32 := BitVec.ofNat 32 (i 1).val
  let c1_i32 : BitVec 32 := 1#32
  let v18 : BitVec 32 := Scalar.addi arg1 c1_i32
  let c1_i32_29 : BitVec 32 := 1#32
  let arg13 : BitVec 32 := Scf.iv v18 c1_i32_29 k0_t1
  let c512_i32_46 : BitVec 32 := 512#32
  let v120 : BitVec 32 := Scalar.muli arg13 c512_i32_46
  let v121 : BitVec 32 := v120
  let v122 : Index := Scalar.indexCast v121
  let c0_47 : Index := 0#32
  ![v122.toNat, 0]
def k0_off5 (i : grid0.Coords) (v2 : BitVec 32) (k0_t1 : Fin (k0_t1_loop i v2).trips) : Fin 2 → Nat :=
  let arg1 : BitVec 32 := BitVec.ofNat 32 (i 1).val
  let c1_i32 : BitVec 32 := 1#32
  let v18 : BitVec 32 := Scalar.addi arg1 c1_i32
  let c1_i32_29 : BitVec 32 := 1#32
  let arg13 : BitVec 32 := Scf.iv v18 c1_i32_29 k0_t1
  let c512_i32_46 : BitVec 32 := 512#32
  let v120 : BitVec 32 := Scalar.muli arg13 c512_i32_46
  let v121 : BitVec 32 := v120
  let v146 : Index := Scalar.indexCast v121
  let c128_56 : Index := 128#32
  ![v146.toNat, 128]
@[reducible] def k0_t2_loop (i : grid0.Coords) (v2 : BitVec 32) : Scf.Loop 32 :=
  let arg1 : BitVec 32 := BitVec.ofNat 32 (i 1).val
  let c1_i32 : BitVec 32 := 1#32
  let v18 : BitVec 32 := Scalar.addi arg1 c1_i32
  let c1_i32_7 : BitVec 32 := 1#32
  let v19 : BitVec 32 := Scalar.addi v2 c1_i32_7
  let v76 : BitVec 32 := Scalar.subi v19 v18
  let c1_i32_28 : BitVec 32 := 1#32
  let v78 : BitVec 32 := Scalar.divsi v76 c1_i32_28
  let v79 : BitVec 32 := Scalar.muli v78 c1_i32_28
  let v80 : BitVec 32 := Scalar.addi v18 v79
  let v77 : BitVec 32 := Scalar.addi v18 v76
  let c1_i32_30 : BitVec 32 := 1#32
  ⟨v80, v77, c1_i32_30⟩
def k0_mult3 (i : grid0.Coords) (v2 : BitVec 32) (k0_t2 : Fin (k0_t2_loop i v2).trips) : BitVec 32 :=
  let arg1 : BitVec 32 := BitVec.ofNat 32 (i 1).val
  let c1_i32 : BitVec 32 := 1#32
  let v18 : BitVec 32 := Scalar.addi arg1 c1_i32
  let c1_i32_7 : BitVec 32 := 1#32
  let v19 : BitVec 32 := Scalar.addi v2 c1_i32_7
  let v76 : BitVec 32 := Scalar.subi v19 v18
  let c1_i32_28 : BitVec 32 := 1#32
  let v78 : BitVec 32 := Scalar.divsi v76 c1_i32_28
  let v79 : BitVec 32 := Scalar.muli v78 c1_i32_28
  let v80 : BitVec 32 := Scalar.addi v18 v79
  let c1_i32_30 : BitVec 32 := 1#32
  let arg13 : BitVec 32 := Scf.iv v80 c1_i32_30 k0_t2
  let c512_i32_46 : BitVec 32 := 512#32
  let v120 : BitVec 32 := Scalar.muli arg13 c512_i32_46
  v120
def k0_off6 (i : grid0.Coords) (v2 : BitVec 32) (k0_t2 : Fin (k0_t2_loop i v2).trips) : Fin 2 → Nat :=
  let arg1 : BitVec 32 := BitVec.ofNat 32 (i 1).val
  let c1_i32 : BitVec 32 := 1#32
  let v18 : BitVec 32 := Scalar.addi arg1 c1_i32
  let c1_i32_7 : BitVec 32 := 1#32
  let v19 : BitVec 32 := Scalar.addi v2 c1_i32_7
  let v76 : BitVec 32 := Scalar.subi v19 v18
  let c1_i32_28 : BitVec 32 := 1#32
  let v78 : BitVec 32 := Scalar.divsi v76 c1_i32_28
  let v79 : BitVec 32 := Scalar.muli v78 c1_i32_28
  let v80 : BitVec 32 := Scalar.addi v18 v79
  let c1_i32_30 : BitVec 32 := 1#32
  let arg13 : BitVec 32 := Scf.iv v80 c1_i32_30 k0_t2
  let c512_i32_46 : BitVec 32 := 512#32
  let v120 : BitVec 32 := Scalar.muli arg13 c512_i32_46
  let v121 : BitVec 32 := v120
  let v122 : Index := Scalar.indexCast v121
  let c0_47 : Index := 0#32
  ![v122.toNat, 0]
def k0_off7 (i : grid0.Coords) (v2 : BitVec 32) (k0_t2 : Fin (k0_t2_loop i v2).trips) : Fin 2 → Nat :=
  let arg1 : BitVec 32 := BitVec.ofNat 32 (i 1).val
  let c1_i32 : BitVec 32 := 1#32
  let v18 : BitVec 32 := Scalar.addi arg1 c1_i32
  let c1_i32_7 : BitVec 32 := 1#32
  let v19 : BitVec 32 := Scalar.addi v2 c1_i32_7
  let v76 : BitVec 32 := Scalar.subi v19 v18
  let c1_i32_28 : BitVec 32 := 1#32
  let v78 : BitVec 32 := Scalar.divsi v76 c1_i32_28
  let v79 : BitVec 32 := Scalar.muli v78 c1_i32_28
  let v80 : BitVec 32 := Scalar.addi v18 v79
  let c1_i32_30 : BitVec 32 := 1#32
  let arg13 : BitVec 32 := Scf.iv v80 c1_i32_30 k0_t2
  let c512_i32_46 : BitVec 32 := 512#32
  let v120 : BitVec 32 := Scalar.muli arg13 c512_i32_46
  let v121 : BitVec 32 := v120
  let v146 : Index := Scalar.indexCast v121
  let c128_56 : Index := 128#32
  ![v146.toNat, 128]

def k0_chk1 (i : grid0.Coords) (v2 : BitVec 32) : Prop :=
  ((k0_t1_loop i v2).OK) ∧
  (∀ k0_t1 : Fin (k0_t1_loop i v2).trips, 512 ∣ (k0_mult2 i v2 k0_t1).toNat) ∧
  (∀ k0_t1 : Fin (k0_t1_loop i v2).trips, ∀ a, (k0_off4 i v2 k0_t1) a + S512x128.size a ≤ S8192x256.size a) ∧
  (∀ k0_t1 : Fin (k0_t1_loop i v2).trips, ∀ a, (k0_off5 i v2 k0_t1) a + S512x128.size a ≤ S8192x256.size a) ∧
  ((k0_t2_loop i v2).OK) ∧
  (∀ k0_t2 : Fin (k0_t2_loop i v2).trips, 512 ∣ (k0_mult3 i v2 k0_t2).toNat) ∧
  (∀ k0_t2 : Fin (k0_t2_loop i v2).trips, ∀ a, (k0_off6 i v2 k0_t2) a + S512x128.size a ≤ S8192x256.size a) ∧
  (∀ k0_t2 : Fin (k0_t2_loop i v2).trips, ∀ a, (k0_off7 i v2 k0_t2) a + S512x128.size a ≤ S8192x256.size a)
theorem k0_t1_ok : ∀ (i : grid0.Coords) (v2 : BitVec 32) (k0_hw1 : k0_chk1 i v2), (k0_t1_loop i v2).OK := fun i v2 k0_hw1 => k0_hw1.1
theorem k0_mult2_dvd : ∀ (i : grid0.Coords) (v2 : BitVec 32) (k0_hw1 : k0_chk1 i v2) (k0_t1 : Fin (k0_t1_loop i v2).trips), 512 ∣ (k0_mult2 i v2 k0_t1).toNat := fun i v2 k0_hw1 k0_t1 => k0_hw1.2.1 k0_t1
theorem k0_off4_inb : ∀ (i : grid0.Coords) (v2 : BitVec 32) (k0_hw1 : k0_chk1 i v2) (k0_t1 : Fin (k0_t1_loop i v2).trips), ∀ a, (k0_off4 i v2 k0_t1) a + S512x128.size a ≤ S8192x256.size a := fun i v2 k0_hw1 k0_t1 => k0_hw1.2.2.1 k0_t1
theorem k0_off5_inb : ∀ (i : grid0.Coords) (v2 : BitVec 32) (k0_hw1 : k0_chk1 i v2) (k0_t1 : Fin (k0_t1_loop i v2).trips), ∀ a, (k0_off5 i v2 k0_t1) a + S512x128.size a ≤ S8192x256.size a := fun i v2 k0_hw1 k0_t1 => k0_hw1.2.2.2.1 k0_t1
theorem k0_t2_ok : ∀ (i : grid0.Coords) (v2 : BitVec 32) (k0_hw1 : k0_chk1 i v2), (k0_t2_loop i v2).OK := fun i v2 k0_hw1 => k0_hw1.2.2.2.2.1
theorem k0_mult3_dvd : ∀ (i : grid0.Coords) (v2 : BitVec 32) (k0_hw1 : k0_chk1 i v2) (k0_t2 : Fin (k0_t2_loop i v2).trips), 512 ∣ (k0_mult3 i v2 k0_t2).toNat := fun i v2 k0_hw1 k0_t2 => k0_hw1.2.2.2.2.2.1 k0_t2
theorem k0_off6_inb : ∀ (i : grid0.Coords) (v2 : BitVec 32) (k0_hw1 : k0_chk1 i v2) (k0_t2 : Fin (k0_t2_loop i v2).trips), ∀ a, (k0_off6 i v2 k0_t2) a + S512x128.size a ≤ S8192x256.size a := fun i v2 k0_hw1 k0_t2 => k0_hw1.2.2.2.2.2.2.1 k0_t2
theorem k0_off7_inb : ∀ (i : grid0.Coords) (v2 : BitVec 32) (k0_hw1 : k0_chk1 i v2) (k0_t2 : Fin (k0_t2_loop i v2).trips), ∀ a, (k0_off7 i v2 k0_t2) a + S512x128.size a ≤ S8192x256.size a := fun i v2 k0_hw1 k0_t2 => k0_hw1.2.2.2.2.2.2.2 k0_t2

def k0_cond2 (i : grid0.Coords) : BitVec 1 :=
  let arg1 : BitVec 32 := BitVec.ofNat 32 (i 1).val
  let c15_i32 : BitVec 32 := 15#32
  let v117 : BitVec 1 := Scalar.cmpi .eq arg1 c15_i32
  let v118 : BitVec 32 := Scalar.extui v117
  let c0_i32_45 : BitVec 32 := 0#32
  let v119 : BitVec 1 := Scalar.cmpi .ne v118 c0_i32_45
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel2Ideal.lean ====
variable {F : FTy → Type} [FloatOps F] [Named F]
def κ : String → Option EReal := fun
  | "mask" => some ⊥
  | _ => none
-- ==== Reference2Ideal.lean ====
abbrev S1x8192x8x64 : Shape := ⟨4, ![1, 8192, 8, 64]⟩
abbrev S1x8192x8 : Shape := ⟨3, ![1, 8192, 8]⟩
abbrev S1x8192x512 : Shape := ⟨3, ![1, 8192, 512]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8x8192 : Shape := ⟨2, ![8, 8192]⟩
abbrev S1x8x8192x64 : Shape := ⟨4, ![1, 8, 8192, 64]⟩
abbrev S8192x512 : Shape := ⟨2, ![8192, 512]⟩
abbrev S8192x8 : Shape := ⟨2, ![8192, 8]⟩
abbrev S8192x4x2 : Shape := ⟨3, ![8192, 4, 2]⟩
abbrev S4x8192x2 : Shape := ⟨3, ![4, 8192, 2]⟩
abbrev S4x8192x128 : Shape := ⟨3, ![4, 8192, 128]⟩

abbrev nBuf : Space → Nat
  | .hbm => 136
  | .vmem => 0
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192x8, .f32⟩
  | 4 => ⟨S1x8192x512, .f32⟩
  | 5 => ⟨S1x8x8192x8192, .f32⟩
  | 6 => ⟨S_, .f32⟩
  | 7 => ⟨S1x8x8192x8192, .f32⟩
  | 8 => ⟨S1x8x8192x8192, .f32⟩
  | 9 => ⟨S1x8x8192, .f32⟩
  | 10 => ⟨S1x8x8192x1, .f32⟩
  | 11 => ⟨S1x8x8192x8192, .f32⟩
  | 12 => ⟨S1x8x8192x8192, .f32⟩
  | 13 => ⟨S1x8x8192, .f32⟩
  | 14 => ⟨S1x8x1x8192, .f32⟩
  | 15 => ⟨S1x8x8192x8192, .f32⟩
  | 16 => ⟨S1x8x8192x8192, .f32⟩
  | 17 => ⟨S8192, .i32⟩
  | 18 => ⟨S1x8192, .i32⟩
  | 19 => ⟨S8192, .i32⟩
  | 20 => ⟨S8192x1, .i32⟩
  | 21 => ⟨S8192x8192, .i32⟩
  | 22 => ⟨S8192x8192, .i32⟩
  | 23 => ⟨S8192x8192, .i1⟩
  | 24 => ⟨S_, .f32⟩
  | 25 => ⟨S_, .f32⟩
  | 26 => ⟨S1x8x8192x8192, .i1⟩
  | 27 => ⟨S1x8x8192x8192, .f32⟩
  | 28 => ⟨S1x8x8192x8192, .f32⟩
  | 29 => ⟨S_, .f32⟩
  | 30 => ⟨S1x8x8192x8192, .f32⟩
  | 31 => ⟨S_, .f32⟩
  | 32 => ⟨S1x8x8192, .f32⟩
  | 33 => ⟨S1x8x8192x1, .f32⟩
  | 34 => ⟨S1x8x8192x8192, .f32⟩
  | 35 => ⟨S1x8x8192x8192, .i1⟩
  | 36 => ⟨S1x8x8192x8192, .f32⟩
  | 37 => ⟨S_, .f32⟩
  | 38 => ⟨S1x8x8192, .f32⟩
  | 39 => ⟨S_, .f32⟩
  | 40 => ⟨S1x8x8192, .f32⟩
  | 41 => ⟨S1x8x8192, .f32⟩
  | 42 => ⟨S_, .f32⟩
  | 43 => ⟨S1x8x8192, .f32⟩
  | 44 => ⟨S1x8x8192, .i1⟩
  | 45 => ⟨S_, .f32⟩
  | 46 => ⟨S1x8x8192, .f32⟩
  | 47 => ⟨S1x8x8192, .i1⟩
  | 48 => ⟨S_, .f32⟩
  | 49 => ⟨S1x8x8192, .f32⟩
  | 50 => ⟨S_, .f32⟩
  | 51 => ⟨S1x8x8192, .f32⟩
  | 52 => ⟨S_, .f32⟩
  | 53 => ⟨S1x8x8192, .f32⟩
  | 54 => ⟨S1x8x8192, .f32⟩
  | 55 => ⟨S1x8x8192, .f32⟩
  | 56 => ⟨S1x8x8192x1, .f32⟩
  | 57 => ⟨S1x8x8192x8192, .f32⟩
  | 58 => ⟨S1x8x8192x8192, .f32⟩
  | 59 => ⟨S1x8x8192x8192, .f32⟩
  | 60 => ⟨S_, .f32⟩
  | 61 => ⟨S1x8x8192, .f32⟩
  | 62 => ⟨S1x8x8192x1, .f32⟩
  | 63 => ⟨S1x8x8192x8192, .f32⟩
  | 64 => ⟨S1x8x8192x8192, .f32⟩
  | 65 => ⟨S1x8x8192x1, .f32⟩
  | 66 => ⟨S_, .f32⟩
  | 67 => ⟨S1x8x8192x1, .f32⟩
  | 68 => ⟨S1x8x8192x1, .f32⟩
  | 69 => ⟨S1x8x64x8192, .f32⟩
  | 70 => ⟨S1x8192x8x64, .f32⟩
  | 71 => ⟨S1x8192x512, .f32⟩
  | 72 => ⟨S1x8192x8x64, .f32⟩
  | 73 => ⟨S1x8x64x8192, .f32⟩
  | 74 => ⟨S1x8x8192x8192, .f32⟩
  | 75 => ⟨S1x8x64x8192, .f32⟩
  | 76 => ⟨S1x8192x8x64, .f32⟩
  | 77 => ⟨S1x8x8192x8192, .f32⟩
  | 78 => ⟨S1x8x8192x8192, .f32⟩
  | 79 => ⟨S1x8x8192x8192, .f32⟩
  | 80 => ⟨S_, .f32⟩
  | 81 => ⟨S1x8x8192, .f32⟩
  | 82 => ⟨S1x8x8192x1, .f32⟩
  | 83 => ⟨S1x8x8192x1, .f32⟩
  | 84 => ⟨S1x8x8192x8192, .f32⟩
  | 85 => ⟨S1x8x8192x8192, .f32⟩
  | 86 => ⟨S_, .f32⟩
  | 87 => ⟨S8x8192, .f32⟩
  | 88 => ⟨S1x8x8192, .f32⟩
  | 89 => ⟨S1x8x8192x8192, .f32⟩
  | 90 => ⟨S1x8x8192x8192, .f32⟩
  | 91 => ⟨S1x8x8192x8192, .f32⟩
  | 92 => ⟨S_, .f32⟩
  | 93 => ⟨S1x8x8192x8192, .f32⟩
  | 94 => ⟨S1x8x8192x8192, .f32⟩
  | 95 => ⟨S1x8x8192x8192, .f32⟩
  | 96 => ⟨S_, .f32⟩
  | 97 => ⟨S1x8x8192, .f32⟩
  | 98 => ⟨S1x8x1x8192, .f32⟩
  | 99 => ⟨S_, .f32⟩
  | 100 => ⟨S8x8192, .f32⟩
  | 101 => ⟨S1x8x8192, .f32⟩
  | 102 => ⟨S1x8192x8, .f32⟩
  | 103 => ⟨S_, .f32⟩
  | 104 => ⟨S1x8x8192, .f32⟩
  | 105 => ⟨S1x8x8192x1, .f32⟩
  | 106 => ⟨S_, .f32⟩
  | 107 => ⟨S8x8192, .f32⟩
  | 108 => ⟨S1x8x8192, .f32⟩
  | 109 => ⟨S1x8192x8, .f32⟩
  | 110 => ⟨S_, .f32⟩
  | 111 => ⟨S1x8x8192x8192, .f32⟩
  | 112 => ⟨S1x8x8192x8192, .f32⟩
  | 113 => ⟨S1x8x8192x64, .f32⟩
  | 114 => ⟨S1x8192x8x64, .f32⟩
  | 115 => ⟨S1x8x8192x64, .f32⟩
  | 116 => ⟨S1x8192x8x64, .f32⟩
  | 117 => ⟨S8192x512, .f32⟩
  | 118 => ⟨S8192x512, .bf16⟩
  | 119 => ⟨S8192x512, .f32⟩
  | 120 => ⟨S8192x512, .bf16⟩
  | 121 => ⟨S1x8192x8, .f32⟩
  | 122 => ⟨S8192x8, .f32⟩
  | 123 => ⟨S8192x4x2, .f32⟩
  | 124 => ⟨S4x8192x2, .f32⟩
  | 125 => ⟨S_, .i32⟩
  | 126 => ⟨S_, .f32⟩
  | 127 => ⟨S4x8192x128, .f32⟩
  | _ => ⟨S1x8192x8x64, .f32⟩

abbrev hbmTy0_1 (i : Nat) : BufTy := match i % 128 with
  | 0 => ⟨S8192x512, .f32⟩
  | 1 => ⟨S8192x512, .bf16⟩
  | 2 => ⟨S8192x8, .f32⟩
  | 3 => ⟨S8192x4x2, .f32⟩
  | 4 => ⟨S4x8192x2, .f32⟩
  | 5 => ⟨S_, .i32⟩
  | 6 => ⟨S_, .f32⟩
  | 7 => ⟨S4x8192x128, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_v18_1 : Ref sig .tc := ⟨.hbm, 26, rfl⟩
abbrev main_call0_v2 : Ref sig .tc := ⟨.hbm, 27, rfl⟩
abbrev main_v18_0 : Ref sig .tc := ⟨.hbm, 28, rfl⟩
abbrev main_call0_cst : Ref sig .tc := ⟨.hbm, 29, rfl⟩
abbrev main_v18_2 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c : Ref sig .tc := ⟨.hbm, 125, rfl⟩
abbrev main_call2_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_18 : Ref sig .tc := ⟨.hbm, 133, rfl⟩
abbrev main_call3_v0 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x1024 : Shape := ⟨2, ![1, 1024]⟩
abbrev S1x1024x5384 : Shape := ⟨3, ![1, 1024, 5384]⟩
abbrev S1x8192x5384 : Shape := ⟨3, ![1, 8192, 5384]⟩
abbrev S1024x5384 : Shape := ⟨2, ![1024, 5384]⟩
abbrev S1024x8x673 : Shape := ⟨3, ![1024, 8, 673]⟩
abbrev S8x1024x673 : Shape := ⟨3, ![8, 1024, 673]⟩
abbrev S_ : Shape := ⟨0, ![]⟩
abbrev S5x1024 : Shape := ⟨2, ![5, 1024]⟩
abbrev S8x1024 : Shape := ⟨2, ![8, 1024]⟩
abbrev S8192x5384 : Shape := ⟨2, ![8192, 5384]⟩
abbrev S8192x64 : Shape := ⟨2, ![8192, 64]⟩
abbrev S8192x576 : Shape := ⟨2, ![8192, 576]⟩
abbrev S8192x1024 : Shape := ⟨2, ![8192, 1024]⟩
abbrev S8192x512 : Shape := ⟨2, ![8192, 512]⟩
abbrev S8192x2560 : Shape := ⟨2, ![8192, 2560]⟩
abbrev S8192x3072 : Shape := ⟨2, ![8192, 3072]⟩
abbrev S8192x8 : Shape := ⟨2, ![8192, 8]⟩
abbrev S8192x128 : Shape := ⟨2, ![8192, 128]⟩
abbrev S1x1024x512 : Shape := ⟨3, ![1, 1024, 512]⟩
abbrev S1024x512 : Shape := ⟨2, ![1024, 512]⟩
abbrev S1x1024x64 : Shape := ⟨3, ![1, 1024, 64]⟩
abbrev S1024x64 : Shape := ⟨2, ![1024, 64]⟩
abbrev S1x1024x33 : Shape := ⟨3, ![1, 1024, 33]⟩
abbrev S1024x33 : Shape := ⟨2, ![1024, 33]⟩
abbrev S1x1024x31 : Shape := ⟨3, ![1, 1024, 31]⟩
abbrev S1024x31 : Shape := ⟨2, ![1024, 31]⟩
abbrev S1x1024x66 : Shape := ⟨3, ![1, 1024, 66]⟩
abbrev S1024x66 : Shape := ⟨2, ![1024, 66]⟩
abbrev S1x1024x446 : Shape := ⟨3, ![1, 1024, 446]⟩
abbrev S1024x446 : Shape := ⟨2, ![1024, 446]⟩
abbrev S1x1024x227 : Shape := ⟨3, ![1, 1024, 227]⟩
abbrev S1024x227 : Shape := ⟨2, ![1024, 227]⟩
abbrev S1x1024x285 : Shape := ⟨3, ![1, 1024, 285]⟩
abbrev S1024x285 : Shape := ⟨2, ![1024, 285]⟩
abbrev S1x1024x388 : Shape := ⟨3, ![1, 1024, 388]⟩
abbrev S1024x388 : Shape := ⟨2, ![1024, 388]⟩
abbrev S1x1024x124 : Shape := ⟨3, ![1, 1024, 124]⟩
abbrev S1024x124 : Shape := ⟨2, ![1024, 124]⟩
abbrev S1x1024x29 : Shape := ⟨3, ![1, 1024, 29]⟩
abbrev S1024x29 : Shape := ⟨2, ![1024, 29]⟩
abbrev S1x1024x673 : Shape := ⟨3, ![1, 1024, 673]⟩
abbrev S1024x673 : Shape := ⟨2, ![1024, 673]⟩
abbrev S1x1024x322 : Shape := ⟨3, ![1, 1024, 322]⟩
abbrev S1024x322 : Shape := ⟨2, ![1024, 322]⟩
abbrev S1x1024x351 : Shape := ⟨3, ![1, 1024, 351]⟩
abbrev S1024x351 : Shape := ⟨2, ![1024, 351]⟩
abbrev S1x1024x8 : Shape := ⟨3, ![1, 1024, 8]⟩
abbrev S1024x8 : Shape := ⟨2, ![1024, 8]⟩
abbrev S1024x120 : Shape := ⟨2, ![1024, 120]⟩
abbrev S1024x2560 : Shape := ⟨2, ![1024, 2560]⟩
abbrev S1024x3200 : Shape := ⟨2, ![1024, 3200]⟩
abbrev S1024x5760 : Shape := ⟨2, ![1024, 5760]⟩
abbrev S512x1024 : Shape := ⟨2, ![512, 1024]⟩
abbrev S512x512 : Shape := ⟨2, ![512, 512]⟩
abbrev S512x3072 : Shape := ⟨2, ![512, 3072]⟩
abbrev S512x128 : Shape := ⟨2, ![512, 128]⟩
abbrev S1024x1024 : Shape := ⟨2, ![1024, 1024]⟩
abbrev S1024x3072 : Shape := ⟨2, ![1024, 3072]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 90
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x5384, .f32⟩
  | .hbm, ⟨5, _⟩ => ⟨S1x8192x1024, .f32⟩
  | .hbm, ⟨6, _⟩ => ⟨S1x8192x5384, .f32⟩
  | .hbm, ⟨7, _⟩ => ⟨S1024x5384, .f32⟩
  | .hbm, ⟨8, _⟩ => ⟨S1024x8x673, .f32⟩
  | .hbm, ⟨9, _⟩ => ⟨S8x1024x673, .f32⟩
  | .hbm, ⟨10, _⟩ => ⟨S8x1024x673, .bf16⟩
  | .hbm, ⟨11, _⟩ => ⟨S_, .f32⟩
  | .hbm, ⟨12, _⟩ => ⟨S5x1024, .f32⟩
  | .hbm, ⟨13, _⟩ => ⟨S8x1024, .f32⟩
  | .hbm, ⟨14, _⟩ => ⟨S8192x5384, .f32⟩
  | .hbm, ⟨15, _⟩ => ⟨S8192x5384, .bf16⟩
  | .hbm, ⟨16, _⟩ => ⟨S_, .bf16⟩
  | .hbm, ⟨17, _⟩ => ⟨S8192x64, .bf16⟩
  | .hbm, ⟨18, _⟩ => ⟨S8192x576, .bf16⟩
  | .hbm, ⟨19, _⟩ => ⟨S8192x64, .bf16⟩
  | .hbm, ⟨20, _⟩ => ⟨S8192x64, .bf16⟩
  | .hbm, ⟨21, _⟩ => ⟨S8192x64, .bf16⟩
  | .hbm, ⟨22, _⟩ => ⟨S8192x1024, .bf16⟩
  | .hbm, ⟨23, _⟩ => ⟨S8192x512, .bf16⟩
  | .hbm, ⟨24, _⟩ => ⟨S8192x2560, .bf16⟩
  | .hbm, ⟨25, _⟩ => ⟨S8192x3072, .bf16⟩
  | .hbm, ⟨26, _⟩ => ⟨S8192x8, .bf16⟩
  | .hbm, ⟨27, _⟩ => ⟨S_, .i32⟩
  | .hbm, ⟨28, _⟩ => ⟨S_, .bf16⟩
  | .hbm, ⟨29, _⟩ => ⟨S8192x128, .bf16⟩
  | .hbm, ⟨30, _⟩ => ⟨S8192x512, .bf16⟩
  | .hbm, ⟨31, _⟩ => ⟨S8192x512, .bf16⟩
  | .hbm, ⟨32, _⟩ => ⟨S8192x512, .bf16⟩
  | .hbm, ⟨33, _⟩ => ⟨S1x1024x512, .bf16⟩
  | .hbm, ⟨34, _⟩ => ⟨S1024x512, .bf16⟩
  | .hbm, ⟨35, _⟩ => ⟨S1x1024x64, .bf16⟩
  | .hbm, ⟨36, _⟩ => ⟨S1024x64, .bf16⟩
  | .hbm, ⟨37, _⟩ => ⟨S_, .bf16⟩
  | .hbm, ⟨38, _⟩ => ⟨S1024x64, .bf16⟩
  | .hbm, ⟨39, _⟩ => ⟨S1x1024x64, .bf16⟩
  | .hbm, ⟨40, _⟩ => ⟨S1024x64, .bf16⟩
  | .hbm, ⟨41, _⟩ => ⟨S_, .bf16⟩
  | .hbm, ⟨42, _⟩ => ⟨S1024x64, .bf16⟩
  | .hbm, ⟨43, _⟩ => ⟨S1x1024x33, .bf16⟩
  | .hbm, ⟨44, _⟩ => ⟨S1024x33, .bf16⟩
  | .hbm, ⟨45, _⟩ => ⟨S1x1024x31, .bf16⟩
  | .hbm, ⟨46, _⟩ => ⟨S1024x31, .bf16⟩
  | .hbm, ⟨47, _⟩ => ⟨S_, .bf16⟩
  | .hbm, ⟨48, _⟩ => ⟨S1024x64, .bf16⟩
  | .hbm, ⟨49, _⟩ => ⟨S1x1024x64, .bf16⟩
  | .hbm, ⟨50, _⟩ => ⟨S1024x64, .bf16⟩
  | .hbm, ⟨51, _⟩ => ⟨S_, .bf16⟩
  | .hbm, ⟨52, _⟩ => ⟨S1024x64, .bf16⟩
  | .hbm, ⟨53, _⟩ => ⟨S1x1024x66, .bf16⟩
  | .hbm, ⟨54, _⟩ => ⟨S1024x66, .bf16⟩
  | .hbm, ⟨55, _⟩ => ⟨S1x1024x446, .bf16⟩
  | .hbm, ⟨56, _⟩ => ⟨S1024x446, .bf16⟩
  | .hbm, ⟨57, _⟩ => ⟨S1x1024x227, .bf16⟩
  | .hbm, ⟨58, _⟩ => ⟨S1024x227, .bf16⟩
  | .hbm, ⟨59, _⟩ => ⟨S1x1024x285, .bf16⟩
  | .hbm, ⟨60, _⟩ => ⟨S1024x285, .bf16⟩
  | .hbm, ⟨61, _⟩ => ⟨S1x1024x388, .bf16⟩
  | .hbm, ⟨62, _⟩ => ⟨S1024x388, .bf16⟩
  | .hbm, ⟨63, _⟩ => ⟨S1x1024x124, .bf16⟩
  | .hbm, ⟨64, _⟩ => ⟨S1024x124, .bf16⟩
  | .hbm, ⟨65, _⟩ => ⟨S1x1024x512, .bf16⟩
  | .hbm, ⟨66, _⟩ => ⟨S1024x512, .bf16⟩
  | .hbm, ⟨67, _⟩ => ⟨S1x1024x512, .bf16⟩
  | .hbm, ⟨68, _⟩ => ⟨S1024x512, .bf16⟩
  | .hbm, ⟨69, _⟩ => ⟨S1x1024x29, .bf16⟩
  | .hbm, ⟨70, _⟩ => ⟨S1024x29, .bf16⟩
  | .hbm, ⟨71, _⟩ => ⟨S1x1024x673, .bf16⟩
  | .hbm, ⟨72, _⟩ => ⟨S1024x673, .bf16⟩
  | .hbm, ⟨73, _⟩ => ⟨S1x1024x322, .bf16⟩
  | .hbm, ⟨74, _⟩ => ⟨S1024x322, .bf16⟩
  | .hbm, ⟨75, _⟩ => ⟨S1x1024x351, .bf16⟩
  | .hbm, ⟨76, _⟩ => ⟨S1024x351, .bf16⟩
  | .hbm, ⟨77, _⟩ => ⟨S1x1024x673, .bf16⟩
  | .hbm, ⟨78, _⟩ => ⟨S1024x673, .bf16⟩
  | .hbm, ⟨79, _⟩ => ⟨S1x1024x8, .bf16⟩
  | .hbm, ⟨80, _⟩ => ⟨S1024x8, .bf16⟩
  | .hbm, ⟨81, _⟩ => ⟨S_, .bf16⟩
  | .hbm, ⟨82, _⟩ => ⟨S1024x120, .bf16⟩
  | .hbm, ⟨83, _⟩ => ⟨S1024x2560, .bf16⟩
  | .hbm, ⟨84, _⟩ => ⟨S1024x3200, .bf16⟩
  | .hbm, ⟨85, _⟩ => ⟨S1024x5760, .bf16⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x128, .bf16⟩
  | .local _ .vmem, ⟨11, _⟩ => ⟨S512x128, .bf16⟩
  | .local _ .vmem, ⟨12, _⟩ => ⟨S1024x5760, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72_0 : Ref sig .tc := ⟨.hbm, 88, rfl⟩
abbrev main_v72_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5760 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S1x8192x1024 : Shape := ⟨3, ![1, 8192, 1024]⟩
abbrev S1x1024 : Shape := ⟨2, ![1, 1024]⟩
abbrev S1x1024x5384 : Shape := ⟨3, ![1, 1024, 5384]⟩
abbrev S1x8192x5384 : Shape := ⟨3, ![1, 8192, 5384]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5384 : Shape := ⟨2, ![1024, 5384]⟩
abbrev S8192 : Shape := ⟨1, ![8192]⟩
abbrev S8192x1024 : Shape := ⟨2, ![8192, 1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x5384, .f32⟩
  | .hbm, ⟨5, _⟩ => ⟨S1x8192x1024, .f32⟩
  | .hbm, ⟨6, _⟩ => ⟨S1x8192x5384, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x1024, .f32⟩
  | .hbm, ⟨24, _⟩ => ⟨S1x8192x1024, .f32⟩
  | .hbm, ⟨25, _⟩ => ⟨S1x1x1024, .f32⟩
  | .hbm, ⟨26, _⟩ => ⟨S1x8192x1024, .f32⟩
  | .hbm, ⟨27, _⟩ => ⟨S1x8192x1024, .f32⟩
  | .hbm, ⟨28, _⟩ => ⟨S1x1x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1024x5384, .f32⟩
  | .hbm, ⟨38, _⟩ => ⟨S1x8192x5384, .f32⟩
  | .hbm, ⟨39, _⟩ => ⟨S1x8192x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x8192x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x8192x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S_, .f32⟩
  | .hbm, ⟨62, _⟩ => ⟨S1024, .f32⟩
  | .hbm, ⟨63, _⟩ => ⟨S1x8192x1024, .f32⟩
  | .hbm, ⟨64, _⟩ => ⟨S_, .f32⟩
  | .hbm, ⟨65, _⟩ => ⟨S1x8192, .f32⟩
  | .hbm, ⟨66, _⟩ => ⟨S1x8192x1, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1, .f32⟩
  | .hbm, ⟨71, _⟩ => ⟨S_, .f32⟩
  | .hbm, ⟨72, _⟩ => ⟨S1x8192x1, .f32⟩
  | .hbm, ⟨73, _⟩ => ⟨S1x8192x1, .f32⟩
  | .hbm, ⟨74, _⟩ => ⟨S_, .f32⟩
  | .hbm, ⟨75, _⟩ => ⟨S8192, .f32⟩
  | .hbm, ⟨76, _⟩ => ⟨S1x8192, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1024, .f32⟩
  | .hbm, ⟨82, _⟩ => ⟨S1x1024, .f32⟩
  | .hbm, ⟨83, _⟩ => ⟨S8192x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel4.lean ====
abbrev S1x8192x8x64 : Shape := ⟨4, ![1, 8192, 8, 64]⟩
abbrev S1x8192x8 : Shape := ⟨3, ![1, 8192, 8]⟩
abbrev S_ : Shape := ⟨0, ![]⟩
abbrev S8192x8x3 : Shape := ⟨3, ![8192, 8, 3]⟩
abbrev S8192x8x64 : Shape := ⟨3, ![8192, 8, 64]⟩
abbrev S8192x8x67 : Shape := ⟨3, ![8192, 8, 67]⟩
abbrev S8192x8x128 : Shape := ⟨3, ![8192, 8, 128]⟩
abbrev S8192x1024 : Shape := ⟨2, ![8192, 1024]⟩
abbrev S8192x8 : Shape := ⟨2, ![8192, 8]⟩
abbrev S8192x8x1 : Shape := ⟨3, ![8192, 8, 1]⟩
abbrev S8192x8x70 : Shape := ⟨3, ![8192, 8, 70]⟩
abbrev S4x16 : Shape := ⟨2, ![4, 16]⟩
abbrev S8192x512 : Shape := ⟨2, ![8192, 512]⟩
abbrev S512x256 : Shape := ⟨2, ![512, 256]⟩
abbrev S8192x256 : Shape := ⟨2, ![8192, 256]⟩
abbrev S512x128 : Shape := ⟨2, ![512, 128]⟩
abbrev S1x1 : Shape := ⟨2, ![1, 1]⟩
abbrev S512x512 : Shape := ⟨2, ![512, 512]⟩
abbrev S1x128 : Shape := ⟨2, ![1, 128]⟩
abbrev S512x1 : Shape := ⟨2, ![512, 1]⟩
abbrev S512 : Shape := ⟨1, ![512]⟩

abbrev nBuf : Space → Nat
  | .hbm => 45
  | .vmem => 10
  | .smem => 1
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S_, .f32⟩
  | .hbm, ⟨5, _⟩ => ⟨S8192x8x3, .f32⟩
  | .hbm, ⟨6, _⟩ => ⟨S8192x8x64, .f32⟩
  | .hbm, ⟨7, _⟩ => ⟨S_, .f32⟩
  | .hbm, ⟨8, _⟩ => ⟨S8192x8x64, .f32⟩
  | .hbm, ⟨9, _⟩ => ⟨S8192x8x64, .f32⟩
  | .hbm, ⟨10, _⟩ => ⟨S8192x8x67, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S8192x8x64, .f32⟩
  | .hbm, ⟨17, _⟩ => ⟨S8192x8, .f32⟩
  | .hbm, ⟨18, _⟩ => ⟨S8192x8x1, .f32⟩
  | .hbm, ⟨19, _⟩ => ⟨S8192x8x1, .f32⟩
  | .hbm, ⟨20, _⟩ => ⟨S8192x8x1, .bf16⟩
  | .hbm, ⟨21, _⟩ => ⟨S8192x8x1, .f32⟩
  | .hbm, ⟨22, _⟩ => ⟨S8192x8x1, .f32⟩
  | .hbm, ⟨23, _⟩ => ⟨S8192x8x1, .bf16⟩
  | .hbm, ⟨24, _⟩ => ⟨S8192x8x1, .f32⟩
  | .hbm, ⟨25, _⟩ => ⟨S8192x8x1, .f32⟩
  | .hbm, ⟨26, _⟩ => ⟨S8192x8x1, .bf16⟩
  | .hbm, ⟨27, _⟩ => ⟨S8192x8x1, .f32⟩
  | .hbm, ⟨28, _⟩ => ⟨S8192x8x70, .f32⟩
  | .hbm, ⟨29, _⟩ => ⟨S_, .i32⟩
  | .hbm, ⟨30, _⟩ => ⟨S_, .f32⟩
  | .hbm, ⟨31, _⟩ => ⟨S8192x8x128, .f32⟩
  | .hbm, ⟨32, _⟩ => ⟨S8192x1024, .f32⟩
  | .hbm, ⟨33, _⟩ => ⟨S8192x1024, .bf16⟩
  | .hbm, ⟨34, _⟩ => ⟨S8192x8x64, .f32⟩
  | .hbm, ⟨35, _⟩ => ⟨S8192x8x67, .f32⟩
  | .hbm, ⟨36, _⟩ => ⟨S_, .i32⟩
  | .hbm, ⟨37, _⟩ => ⟨S_, .f32⟩
  | .hbm, ⟨38, _⟩ => ⟨S8192x8x128, .f32⟩
  | .hbm, ⟨39, _⟩ => ⟨S8192x1024, .f32⟩
  | .hbm, ⟨40, _⟩ => ⟨S8192x1024, .bf16⟩
  | .hbm, ⟨41, _⟩ => ⟨S_, .i32⟩
  | .hbm, ⟨42, _⟩ => ⟨S4x16, .i32⟩
  | .hbm, ⟨43, _⟩ => ⟨S8192x512, .f32⟩
  | .hbm, ⟨44, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .smem, ⟨0, _⟩ => ⟨S4x16, .i32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call2_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
@[reducible] def k0_t1_loop (i : grid0.Coords) (v2 : BitVec 32) : Scf.Loop 32 :=
  let arg1 : BitVec 32 := BitVec.ofNat 32 (i 1).val
  let v12 : BitVec 32 := Scalar.subi arg1 v2
  let c1_i32 : BitVec 32 := 1#32
  let v14 : BitVec 32 := Scalar.divsi v12 c1_i32
  let v15 : BitVec 32 := Scalar.muli v14 c1_i32
  let v16 : BitVec 32 := Scalar.addi v2 v15
  let c1_i32_3 : BitVec 32 := 1#32
  ⟨v2, v16, c1_i32_3⟩

def k0_mult1 (i : grid0.Coords) (v2 : BitVec 32) (k0_t1 : Fin (k0_t1_loop i v2).trips) : BitVec 32 :=
  let c1_i32_3 : BitVec 32 := 1#32
  let arg8 : BitVec 32 := Scf.iv v2 c1_i32_3 k0_t1
  let c512_i32_38 : BitVec 32 := 512#32
  let v179 : BitVec 32 := Scalar.muli arg8 c512_i32_38
  v179
def k0_off2 (i : grid0.Coords) (v2 : BitVec 32) (k0_t1 : Fin (k0_t1_loop i v2).trips) : Fin 2 → Nat :=
  let c1_i32_3 : BitVec 32 := 1#32
  let arg8 : BitVec 32 := Scf.iv v2 c1_i32_3 k0_t1
  let c512_i32_38 : BitVec 32 := 512#32
  let v179 : BitVec 32 := Scalar.muli arg8 c512_i32_38
  let v180 : BitVec 32 := v179
  let v181 : Index := Scalar.indexCast v180
  let c0_39 : Index := 0#32
  ![v181.toNat, 0]
def k0_off3 (i : grid0.Coords) (v2 : BitVec 32) (k0_t1 : Fin (k0_t1_loop i v2).trips) : Fin 2 → Nat :=
  let c1_i32_3 : BitVec 32 := 1#32
  let arg8 : BitVec 32 := Scf.iv v2 c1_i32_3 k0_t1
  let c512_i32_38 : BitVec 32 := 512#32
  let v179 : BitVec 32 := Scalar.muli arg8 c512_i32_38
  let v180 : BitVec 32 := v179
  let v185 : Index := Scalar.indexCast v180
  let c128_41 : Index := 128#32
  ![v185.toNat, 128]
@[reducible] def k0_t2_loop (i : grid0.Coords) (v2 : BitVec 32) : Scf.Loop 32 :=
  let arg1 : BitVec 32 := BitVec.ofNat 32 (i 1).val
  let v12 : BitVec 32 := Scalar.subi arg1 v2
  let c1_i32 : BitVec 32 := 1#32
  let v14 : BitVec 32 := Scalar.divsi v12 c1_i32
  let v15 : BitVec 32 := Scalar.muli v14 c1_i32
  let v16 : BitVec 32 := Scalar.addi v2 v15
  let v13 : BitVec 32 := Scalar.addi v2 v12
  let c1_i32_4 : BitVec 32 := 1#32
  ⟨v16, v13, c1_i32_4⟩
def k0_mult2 (i : grid0.Coords) (v2 : BitVec 32) (k0_t2 : Fin (k0_t2_loop i v2).trips) : BitVec 32 :=
  let arg1 : BitVec 32 := BitVec.ofNat 32 (i 1).val
  let v12 : BitVec 32 := Scalar.subi arg1 v2
  let c1_i32 : BitVec 32 := 1#32
  let v14 : BitVec 32 := Scalar.divsi v12 c1_i32
  let v15 : BitVec 32 := Scalar.muli v14 c1_i32
  let v16 : BitVec 32 := Scalar.addi v2 v15
  let c1_i32_4 : BitVec 32 := 1#32
  let arg8 : BitVec 32 := Scf.iv v16 c1_i32_4 k0_t2
  let c512_i32_38 : BitVec 32 := 512#32
  let v179 : BitVec 32 := Scalar.muli arg8 c512_i32_38
  v179
def k0_off4 (i : grid0.Coords) (v2 : BitVec 32) (k0_t2 : Fin (k0_t2_loop i v2).trips) : Fin 2 → Nat :=
  let arg1 : BitVec 32 := BitVec.ofNat 32 (i 1).val
  let v12 : BitVec 32 := Scalar.subi arg1 v2
  let c1_i32 : BitVec 32 := 1#32
  let v14 : BitVec 32 := Scalar.divsi v12 c1_i32
  let v15 : BitVec 32 := Scalar.muli v14 c1_i32
  let v16 : BitVec 32 := Scalar.addi v2 v15
  let c1_i32_4 : BitVec 32 := 1#32
  let arg8 : BitVec 32 := Scf.iv v16 c1_i32_4 k0_t2
  let c512_i32_38 : BitVec 32 := 512#32
  let v179 : BitVec 32 := Scalar.muli arg8 c512_i32_38
  let v180 : BitVec 32 := v179
  let v181 : Index := Scalar.indexCast v180
  let c0_39 : Index := 0#32
  ![v181.toNat, 0]
def k0_off5 (i : grid0.Coords) (v2 : BitVec 32) (k0_t2 : Fin (k0_t2_loop i v2).trips) : Fin 2 → Nat :=
  let arg1 : BitVec 32 := BitVec.ofNat 32 (i 1).val
  let v12 : BitVec 32 := Scalar.subi arg1 v2
  let c1_i32 : BitVec 32 := 1#32
  let v14 : BitVec 32 := Scalar.divsi v12 c1_i32
  let v15 : BitVec 32 := Scalar.muli v14 c1_i32
  let v16 : BitVec 32 := Scalar.addi v2 v15
  let c1_i32_4 : BitVec 32 := 1#32
  let arg8 : BitVec 32 := Scf.iv v16 c1_i32_4 k0_t2
  let c512_i32_38 : BitVec 32 := 512#32
  let v179 : BitVec 32 := Scalar.muli arg8 c512_i32_38
  let v180 : BitVec 32 := v179
  let v185 : Index := Scalar.indexCast v180
  let c128_41 : Index := 128#32
  ![v185.toNat, 128]

def k0_chk1 (i : grid0.Coords) (v2 : BitVec 32) : Prop :=
  ((k0_t1_loop i v2).OK) ∧
  (∀ k0_t1 : Fin (k0_t1_loop i v2).trips, 512 ∣ (k0_mult1 i v2 k0_t1).toNat) ∧
  (∀ k0_t1 : Fin (k0_t1_loop i v2).trips, ∀ a, (k0_off2 i v2 k0_t1) a + S512x128.size a ≤ S8192x256.size a) ∧
  (∀ k0_t1 : Fin (k0_t1_loop i v2).trips, ∀ a, (k0_off3 i v2 k0_t1) a + S512x128.size a ≤ S8192x256.size a) ∧
  ((k0_t2_loop i v2).OK) ∧
  (∀ k0_t2 : Fin (k0_t2_loop i v2).trips, 512 ∣ (k0_mult2 i v2 k0_t2).toNat) ∧
  (∀ k0_t2 : Fin (k0_t2_loop i v2).trips, ∀ a, (k0_off4 i v2 k0_t2) a + S512x128.size a ≤ S8192x256.size a) ∧
  (∀ k0_t2 : Fin (k0_t2_loop i v2).trips, ∀ a, (k0_off5 i v2 k0_t2) a + S512x128.size a ≤ S8192x256.size a)
theorem k0_t1_ok : ∀ (i : grid0.Coords) (v2 : BitVec 32) (k0_hw1 : k0_chk1 i v2), (k0_t1_loop i v2).OK := fun i v2 k0_hw1 => k0_hw1.1
theorem k0_mult1_dvd : ∀ (i : grid0.Coords) (v2 : BitVec 32) (k0_hw1 : k0_chk1 i v2) (k0_t1 : Fin (k0_t1_loop i v2).trips), 512 ∣ (k0_mult1 i v2 k0_t1).toNat := fun i v2 k0_hw1 k0_t1 => k0_hw1.2.1 k0_t1
theorem k0_off2_inb : ∀ (i : grid0.Coords) (v2 : BitVec 32) (k0_hw1 : k0_chk1 i v2) (k0_t1 : Fin (k0_t1_loop i v2).trips), ∀ a, (k0_off2 i v2 k0_t1) a + S512x128.size a ≤ S8192x256.size a := fun i v2 k0_hw1 k0_t1 => k0_hw1.2.2.1 k0_t1
theorem k0_off3_inb : ∀ (i : grid0.Coords) (v2 : BitVec 32) (k0_hw1 : k0_chk1 i v2) (k0_t1 : Fin (k0_t1_loop i v2).trips), ∀ a, (k0_off3 i v2 k0_t1) a + S512x128.size a ≤ S8192x256.size a := fun i v2 k0_hw1 k0_t1 => k0_hw1.2.2.2.1 k0_t1
theorem k0_t2_ok : ∀ (i : grid0.Coords) (v2 : BitVec 32) (k0_hw1 : k0_chk1 i v2), (k0_t2_loop i v2).OK := fun i v2 k0_hw1 => k0_hw1.2.2.2.2.1
theorem k0_mult2_dvd : ∀ (i : grid0.Coords) (v2 : BitVec 32) (k0_hw1 : k0_chk1 i v2) (k0_t2 : Fin (k0_t2_loop i v2).trips), 512 ∣ (k0_mult2 i v2 k0_t2).toNat := fun i v2 k0_hw1 k0_t2 => k0_hw1.2.2.2.2.2.1 k0_t2
theorem k0_off4_inb : ∀ (i : grid0.Coords) (v2 : BitVec 32) (k0_hw1 : k0_chk1 i v2) (k0_t2 : Fin (k0_t2_loop i v2).trips), ∀ a, (k0_off4 i v2 k0_t2) a + S512x128.size a ≤ S8192x256.size a := fun i v2 k0_hw1 k0_t2 => k0_hw1.2.2.2.2.2.2.1 k0_t2
theorem k0_off5_inb : ∀ (i : grid0.Coords) (v2 : BitVec 32) (k0_hw1 : k0_chk1 i v2) (k0_t2 : Fin (k0_t2_loop i v2).trips), ∀ a, (k0_off5 i v2 k0_t2) a + S512x128.size a ≤ S8192x256.size a := fun i v2 k0_hw1 k0_t2 => k0_hw1.2.2.2.2.2.2.2 k0_t2

def k0_mult3 (i : grid0.Coords) : BitVec 32 :=
  let arg1 : BitVec 32 := BitVec.ofNat 32 (i 1).val
  let c512_i32 : BitVec 32 := 512#32
  let v19 : BitVec 32 := Scalar.muli arg1 c512_i32
  v19
def k0_off6 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_5 : Index := 0#32
  ![v21.toNat, 0]
def k0_off7 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v25 : Index := Scalar.indexCast v20
  let c128_7 : Index := 128#32
  ![v25.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S4x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel4Ideal.lean ====
variable {F : FTy → Type} [FloatOps F] [Named F]
def κ : String → Option EReal := fun
  | "mask" => some ⊥
  | _ => none
-- ==== Reference4Ideal.lean ====
abbrev S1x8192x8x64 : Shape := ⟨4, ![1, 8192, 8, 64]⟩
abbrev S1x8192x8 : Shape := ⟨3, ![1, 8192, 8]⟩
abbrev S1x8x8192x8192 : Shape := ⟨4, ![1, 8, 8192, 8192]⟩
abbrev S_ : Shape := ⟨0, ![]⟩
abbrev S1x8x8192 : Shape := ⟨3, ![1, 8, 8192]⟩
abbrev S1x8x8192x1 : Shape := ⟨4, ![1, 8, 8192, 1]⟩
abbrev S1x8x1x8192 : Shape := ⟨4, ![1, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8x64x8192 : Shape := ⟨4, ![1, 8, 64, 8192]⟩
abbrev S8192x8 : Shape := ⟨2, ![8192, 8]⟩
abbrev S8x8192 : Shape := ⟨2, ![8, 8192]⟩
abbrev S8192x8x64 : Shape := ⟨3, ![8192, 8, 64]⟩
abbrev S8192x8x3 : Shape := ⟨3, ![8192, 8, 3]⟩
abbrev S8192x8x1 : Shape := ⟨3, ![8192, 8, 1]⟩
abbrev S8192x8x60 : Shape := ⟨3, ![8192, 8, 60]⟩
abbrev S8192x8x128 : Shape := ⟨3, ![8192, 8, 128]⟩
abbrev S8192x512 : Shape := ⟨2, ![8192, 512]⟩
abbrev S8192x1024 : Shape := ⟨2, ![8192, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x8x64, .f32⟩
  | .hbm, ⟨2, _⟩ => ⟨S1x8192x8x64, .f32⟩
  | .hbm, ⟨3, _⟩ => ⟨S1x8192x8, .f32⟩
  | .hbm, ⟨4, _⟩ => ⟨S1x8x8192x8192, .f32⟩
  | .hbm, ⟨5, _⟩ => ⟨S_, .f32⟩
  | .hbm, ⟨6, _⟩ => ⟨S1x8x8192x8192, .f32⟩
  | .hbm, ⟨7, _⟩ => ⟨S1x8x8192x8192, .f32⟩
  | .hbm, ⟨8, _⟩ => ⟨S1x8x8192, .f32⟩
  | .hbm, ⟨9, _⟩ => ⟨S1x8x8192x1, .f32⟩
  | .hbm, ⟨10, _⟩ => ⟨S1x8x8192x8192, .f32⟩
  | .hbm, ⟨11, _⟩ => ⟨S1x8x8192x8192, .f32⟩
  | .hbm, ⟨12, _⟩ => ⟨S1x8x8192, .f32⟩
  | .hbm, ⟨13, _⟩ => ⟨S1x8x1x8192, .f32⟩
  | .hbm, ⟨14, _⟩ => ⟨S1x8x8192x8192, .f32⟩
  | .hbm, ⟨15, _⟩ => ⟨S1x8x8192x8192, .f32⟩
  | .hbm, ⟨16, _⟩ => ⟨S8192, .i32⟩
  | .hbm, ⟨17, _⟩ => ⟨S1x8192, .i32⟩
  | .hbm, ⟨18, _⟩ => ⟨S8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S1x8x8192x8192, .i1⟩
  | .hbm, ⟨26, _⟩ => ⟨S1x8x8192x8192, .f32⟩
  | .hbm, ⟨27, _⟩ => ⟨S1x8x8192x8192, .f32⟩
  | .hbm, ⟨28, _⟩ => ⟨S_, .f32⟩
  | .hbm, ⟨29, _⟩ => ⟨S1x8x8192, .f32⟩
  | .hbm, ⟨30, _⟩ => ⟨S_, .f32⟩
  | .hbm, ⟨31, _⟩ => ⟨S1x8x8192, .f32⟩
  | .hbm, ⟨32, _⟩ => ⟨S1x8x8192, .f32⟩
  | .hbm, ⟨33, _⟩ => ⟨S1x8x8192x1, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S1x8x8192, .f32⟩
  | .hbm, ⟨39, _⟩ => ⟨S1x8x8192x1, .f32⟩
  | .hbm, ⟨40, _⟩ => ⟨S1x8x8192x8192, .f32⟩
  | .hbm, ⟨41, _⟩ => ⟨S1x8x8192x8192, .f32⟩
  | .hbm, ⟨42, _⟩ => ⟨S1x8x64x8192, .f32⟩
  | .hbm, ⟨43, _⟩ => ⟨S1x8192x8x64, .f32⟩
  | .hbm, ⟨44, _⟩ => ⟨S_, .f32⟩
  | .hbm, ⟨45, _⟩ => ⟨S1x8x8192, .f32⟩
  | .hbm, ⟨46, _⟩ => ⟨S1x8x8192x1, .f32⟩
  | .hbm, ⟨47, _⟩ => ⟨S1x8x8192x8192, .f32⟩
  | .hbm, ⟨48, _⟩ => ⟨S1x8x8192x8192, .f32⟩
  | .hbm, ⟨49, _⟩ => ⟨S1x8x8192x8192, .f32⟩
  | .hbm, ⟨50, _⟩ => ⟨S_, .f32⟩
  | .hbm, ⟨51, _⟩ => ⟨S1x8x8192, .f32⟩
  | .hbm, ⟨52, _⟩ => ⟨S1x8x8192, .f32⟩
  | .hbm, ⟨53, _⟩ => ⟨S1x8x8192, .f32⟩
  | .hbm, ⟨54, _⟩ => ⟨S8192x8, .f32⟩
  | .hbm, ⟨55, _⟩ => ⟨S8x8192, .f32⟩
  | .hbm, ⟨56, _⟩ => ⟨S8192x8, .f32⟩
  | .hbm, ⟨57, _⟩ => ⟨S8192x8, .f32⟩
  | .hbm, ⟨58, _⟩ => ⟨S8192x8x64, .f32⟩
  | .hbm, ⟨59, _⟩ => ⟨S_, .f32⟩
  | .hbm, ⟨60, _⟩ => ⟨S8192x8x64, .f32⟩
  | .hbm, ⟨61, _⟩ => ⟨S8192x8x64, .f32⟩
  | .hbm, ⟨62, _⟩ => ⟨S_, .f32⟩
  | .hbm, ⟨63, _⟩ => ⟨S8192x8x3, .f32⟩
  | .hbm, ⟨64, _⟩ => ⟨S8192x8x1, .f32⟩
  | .hbm, ⟨65, _⟩ => ⟨S_, .f32⟩
  | .hbm, ⟨66, _⟩ => ⟨S8192x8x60, .f32⟩
  | .hbm, ⟨67, _⟩ => ⟨S8192x8x128, .f32⟩
  | .hbm, ⟨68, _⟩ => ⟨S8192x512, .f32⟩
  | .hbm, ⟨69, _⟩ => ⟨S8192x1024, .f32⟩
  | .hbm, ⟨70, _⟩ => ⟨S8192x1024, .bf16⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel5.lean ====
abbrev S1x8192x1024 : Shape := ⟨3, ![1, 8192, 1024]⟩
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S512x128 : Shape := ⟨2, ![512, 128]⟩
abbrev S384x1024 : Shape := ⟨2, ![384, 1024]⟩
abbrev S8192x1024 : Shape := ⟨2, ![8192, 1024]⟩
abbrev S8192x512 : Shape := ⟨2, ![8192, 512]⟩
abbrev S512x1024 : Shape := ⟨2, ![512, 1024]⟩
abbrev S1024x512 : Shape := ⟨2, ![1024, 512]⟩
abbrev S1024x1024 : Shape := ⟨2, ![1024, 1024]⟩
abbrev S512x8192 : Shape := ⟨2, ![512, 8192]⟩
abbrev S1024x8192 : Shape := ⟨2, ![1024, 8192]⟩
abbrev S8192x3072 : Shape := ⟨2, ![8192, 3072]⟩
abbrev S256x1024 : Shape := ⟨2, ![256, 1024]⟩
abbrev S256x512 : Shape := ⟨2, ![256, 512]⟩
abbrev S512x256 : Shape := ⟨2, ![512, 256]⟩
abbrev S1024x256 : Shape := ⟨2, ![1024, 256]⟩
abbrev S256x3072 : Shape := ⟨2, ![256, 3072]⟩
abbrev S256 : Shape := ⟨1, ![256]⟩
abbrev S256x1 : Shape := ⟨2, ![256, 1]⟩
abbrev S1x128 : Shape := ⟨2, ![1, 128]⟩
abbrev S256x128 : Shape := ⟨2, ![256, 128]⟩
abbrev S256x384 : Shape := ⟨2, ![256, 384]⟩

abbrev nBuf : Space → Nat
  | .hbm => 143
  | .vmem => 43
  | .smem => 0
  | _ => 0

abbrev hbmTy0_0 (i : Nat) : BufTy := match i % 128 with
  | 0 => ⟨S1x8192x1024, .f32⟩
  | 1 => ⟨S1x8192x1024, .f32⟩
  | 2 => ⟨S1x8192x512, .f32⟩
  | 3 => ⟨S1x8192x512, .f32⟩
  | 4 => ⟨S1x8192x512, .f32⟩
  | 5 => ⟨S1x8192x512, .f32⟩
  | 6 => ⟨S1x8192x1024, .f32⟩
  | 7 => ⟨S1x8192x1024, .f32⟩
  | 8 => ⟨S1x512x1024, .f32⟩
  | 9 => ⟨S1x512x1024, .f32⟩
  | 10 => ⟨S1x1024x1024, .f32⟩
  | 11 => ⟨S1x1024, .f32⟩
  | 12 => ⟨S1024, .f32⟩
  | 13 => ⟨S_, .f32⟩
  | 14 => ⟨S1x1024, .f32⟩
  | 15 => ⟨S1x1024, .f32⟩
  | 16 => ⟨S8x1024, .f32⟩
  | 17 => ⟨S512x128, .i32⟩
  | 18 => ⟨S_, .i32⟩
  | 19 => ⟨S_, .i32⟩
  | 20 => ⟨S512x128, .i32⟩
  | 21 => ⟨S512x128, .i32⟩
  | 22 => ⟨S512x128, .i32⟩
  | 23 => ⟨S_, .i32⟩
  | 24 => ⟨S512x128, .i32⟩
  | 25 => ⟨S512x128, .i1⟩
  | 26 => ⟨S512x128, .i32⟩
  | 27 => ⟨S512x128, .i32⟩
  | 28 => ⟨S_, .i32⟩
  | 29 => ⟨S512x128, .i32⟩
  | 30 => ⟨S512x128, .i1⟩
  | 31 => ⟨S512x128, .i1⟩
  | 32 => ⟨S_, .i32⟩
  | 33 => ⟨S512x128, .i32⟩
  | 34 => ⟨S512x128, .i32⟩
  | 35 => ⟨S512x128, .i32⟩
  | 36 => ⟨S512x128, .i32⟩
  | 37 => ⟨S512x128, .i1⟩
  | 38 => ⟨S512x128, .bf16⟩
  | 39 => ⟨S384x1024, .i32⟩
  | 40 => ⟨S384x1024, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S384x1024, .i32⟩
  | 48 => ⟨S384x1024, .i32⟩
  | 49 => ⟨S_, .i32⟩
  | 50 => ⟨S384x1024, .i32⟩
  | 51 => ⟨S384x1024, .i1⟩
  | 52 => ⟨S_, .i32⟩
  | 53 => ⟨S384x1024, .i32⟩
  | 54 => ⟨S384x1024, .i1⟩
  | 55 => ⟨S_, .i32⟩
  | 56 => ⟨S_, .i1⟩
  | 57 => ⟨S384x1024, .i1⟩
  | 58 => ⟨S384x1024, .i1⟩
  | 59 => ⟨S384x1024, .i1⟩
  | 60 => ⟨S384x1024, .i32⟩
  | 61 => ⟨S384x1024, .i32⟩
  | 62 => ⟨S384x1024, .i32⟩
  | 63 => ⟨S_, .i32⟩
  | 64 => ⟨S384x1024, .i32⟩
  | 65 => ⟨S384x1024, .i1⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S384x1024, .i32⟩
  | 73 => ⟨S384x1024, .i32⟩
  | 74 => ⟨S_, .i32⟩
  | 75 => ⟨S384x1024, .i32⟩
  | 76 => ⟨S384x1024, .i1⟩
  | 77 => ⟨S_, .i32⟩
  | 78 => ⟨S384x1024, .i32⟩
  | 79 => ⟨S384x1024, .i1⟩
  | 80 => ⟨S_, .i32⟩
  | 81 => ⟨S_, .i1⟩
  | 82 => ⟨S384x1024, .i1⟩
  | 83 => ⟨S384x1024, .i1⟩
  | 84 => ⟨S384x1024, .i1⟩
  | 85 => ⟨S384x1024, .i32⟩
  | 86 => ⟨S384x1024, .i32⟩
  | 87 => ⟨S384x1024, .i32⟩
  | 88 => ⟨S_, .i32⟩
  | 89 => ⟨S384x1024, .i32⟩
  | 90 => ⟨S384x1024, .i32⟩
  | 91 => ⟨S_, .i32⟩
  | 92 => ⟨S384x1024, .i32⟩
  | 93 => ⟨S384x1024, .i32⟩
  | 94 => ⟨S_, .i32⟩
  | 95 => ⟨S_, .i32⟩
  | 96 => ⟨S384x1024, .i32⟩
  | 97 => ⟨S384x1024, .i32⟩
  | 98 => ⟨S384x1024, .i32⟩
  | 99 => ⟨S_, .i32⟩
  | 100 => ⟨S384x1024, .i32⟩
  | 101 => ⟨S384x1024, .i1⟩
  | 102 => ⟨S384x1024, .i32⟩
  | 103 => ⟨S384x1024, .i32⟩
  | 104 => ⟨S_, .i32⟩
  | 105 => ⟨S384x1024, .i32⟩
  | 106 => ⟨S384x1024, .i1⟩
  | 107 => ⟨S384x1024, .i1⟩
  | 108 => ⟨S_, .i32⟩
  | 109 => ⟨S384x1024, .i32⟩
  | 110 => ⟨S384x1024, .i32⟩
  | 111 => ⟨S384x1024, .i32⟩
  | 112 => ⟨S384x1024, .i32⟩
  | 113 => ⟨S384x1024, .i1⟩
  | 114 => ⟨S384x1024, .i1⟩
  | 115 => ⟨S384x1024, .bf16⟩
  | 116 => ⟨S8192x1024, .f32⟩
  | 117 => ⟨S8192x1024, .f32⟩
  | 118 => ⟨S8192x512, .f32⟩
  | 119 => ⟨S8192x512, .f32⟩
  | 120 => ⟨S8192x512, .f32⟩
  | 121 => ⟨S8192x512, .f32⟩
  | 122 => ⟨S8192x1024, .f32⟩
  | 123 => ⟨S8192x1024, .f32⟩
  | 124 => ⟨S512x1024, .f32⟩
  | 125 => ⟨S1024x512, .f32⟩
  | 126 => ⟨S1024x512, .bf16⟩
  | 127 => ⟨S512x1024, .f32⟩
  | _ => ⟨S1x8192x1024, .f32⟩

abbrev hbmTy0_1 (i : Nat) : BufTy := match i % 128 with
  | 0 => ⟨S1024x512, .f32⟩
  | 1 => ⟨S1024x512, .bf16⟩
  | 2 => ⟨S1024x1024, .f32⟩
  | 3 => ⟨S1024x1024, .bf16⟩
  | 4 => ⟨S8192x1024, .f32⟩
  | 5 => ⟨S512x8192, .bf16⟩
  | 6 => ⟨S512x8192, .bf16⟩
  | 7 => ⟨S1024x8192, .bf16⟩
  | 8 => ⟨S8192x1024, .bf16⟩
  | 9 => ⟨S8192x1024, .bf16⟩
  | 10 => ⟨S8192x1024, .bf16⟩
  | 11 => ⟨S8192x1024, .bf16⟩
  | 12 => ⟨S8192x1024, .bf16⟩
  | 13 => ⟨S8192x3072, .bf16⟩
  | 14 => ⟨S8x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S8x1024, .f32⟩
  | .local _ .vmem, ⟨20, _⟩ => ⟨S512x128, .bf16⟩
  | .local _ .vmem, ⟨21, _⟩ => ⟨S384x1024, .bf16⟩
  | .local _ .vmem, ⟨22, _⟩ => ⟨S256x1024, .f32⟩
  | .local _ .vmem, ⟨23, _⟩ => ⟨S256x1024, .f32⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S1024x256, .bf16⟩
  | .local _ .vmem, ⟨29, _⟩ => ⟨S1024x256, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x3072, .bf16⟩
  | .local _ .vmem, ⟨41, _⟩ => ⟨S256x3072, .bf16⟩
  | .local _ .vmem, ⟨42, _⟩ => ⟨S8x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v10 : Ref sig .tc := ⟨.hbm, 62, rfl⟩
abbrev main_c_1 : Ref sig .tc := ⟨.hbm, 63, rfl⟩
abbrev main_v11 : Ref sig .tc := ⟨.hbm, 64, rfl⟩
abbrev main_v12 : Ref sig .tc := ⟨.hbm, 65, rfl⟩
abbrev main_c_2 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v13 : Ref sig .tc := ⟨.hbm, 87, rfl⟩
abbrev main_c_3 : Ref sig .tc := ⟨.hbm, 88, rfl⟩
abbrev main_v14 : Ref sig .tc := ⟨.hbm, 89, rfl⟩
abbrev main_v15 : Ref sig .tc := ⟨.hbm, 90, rfl⟩
abbrev main_c_4 : Ref sig .tc := ⟨.hbm, 91, rfl⟩
abbrev main_v16 : Ref sig .tc := ⟨.hbm, 92, rfl⟩
abbrev main_v17 : Ref sig .tc := ⟨.hbm, 93, rfl⟩
abbrev main_c_5 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_c : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_0 : Ref sig .tc := ⟨.hbm, 108, rfl⟩
abbrev main_call3_v12 : Ref sig .tc := ⟨.hbm, 109, rfl⟩
abbrev main_call3_v13 : Ref sig .tc := ⟨.hbm, 110, rfl⟩
abbrev main_v18 : Ref sig .tc := ⟨.hbm, 111, rfl⟩
abbrev main_v19 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_v23 : Ref sig .tc := ⟨.hbm, 116, rfl⟩
abbrev main_v24 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39_0 : Ref sig .tc := ⟨.hbm, 132, rfl⟩
abbrev main_v39_1 : Ref sig .tc := ⟨.hbm, 133, rfl⟩
abbrev main_v39_2 : Ref sig .tc := ⟨.hbm, 134, rfl⟩
abbrev main_v39_3 : Ref sig .tc := ⟨.hbm, 135, rfl⟩
abbrev main_v39_4 : Ref sig .tc := ⟨.hbm, 136, rfl⟩
abbrev main_v39_5 : Ref sig .tc := ⟨.hbm, 137, rfl⟩
abbrev main_v39_6 : Ref sig .tc := ⟨.hbm, 138, rfl⟩
abbrev main_v39_7 : Ref sig .tc := ⟨.hbm, 139, rfl⟩
abbrev main_v39_8 : Ref sig .tc := ⟨.hbm, 140, rfl⟩
abbrev main_v39_9 : Ref sig .tc := ⟨.hbm, 141, rfl⟩
abbrev main_v39_10 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x3072 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference5Ideal.lean ====
abbrev S1x8192x1024 : Shape := ⟨3, ![1, 8192, 1024]⟩
abbrev S1x8192x512 : Shape := ⟨3, ![1, 8192, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S512x1024 : Shape := ⟨2, ![512, 1024]⟩
abbrev S_ : Shape := ⟨0, ![]⟩
abbrev S1024x1024 : Shape := ⟨2, ![1024, 1024]⟩
abbrev S1x1x1024 : Shape := ⟨3, ![1, 1, 1024]⟩
abbrev S1x8192 : Shape := ⟨2, ![1, 8192]⟩
abbrev S1x8192x1 : Shape := ⟨3, ![1, 8192, 1]⟩
abbrev S8192 : Shape := ⟨1, ![8192]⟩
abbrev S5x1024 : Shape := ⟨2, ![5, 1024]⟩
abbrev S8x1024 : Shape := ⟨2, ![8, 1024]⟩
abbrev S8192x512 : Shape := ⟨2, ![8192, 512]⟩
abbrev S512x8192 : Shape := ⟨2, ![512, 8192]⟩
abbrev S8192x1024 : Shape := ⟨2, ![8192, 1024]⟩
abbrev S1024x8192 : Shape := ⟨2, ![1024, 8192]⟩
abbrev S8192x8x64 : Shape := ⟨3, ![8192, 8, 64]⟩
abbrev S8192x8 : Shape := ⟨2, ![8192, 8]⟩
abbrev S8192x8x1 : Shape := ⟨3, ![8192, 8, 1]⟩
abbrev S8192x8x63 : Shape := ⟨3, ![8192, 8, 63]⟩
abbrev S8192x8x128 : Shape := ⟨3, ![8192, 8, 128]⟩
abbrev S8192x3072 : Shape := ⟨2, ![8192, 3072]⟩

abbrev nBuf : Space → Nat
  | .hbm => 239
  | .vmem => 0
  | .smem => 0
  | _ => 0

abbrev hbmTy0_0 (i : Nat) : BufTy := match i % 128 with
  | 0 => ⟨S1x8192x1024, .f32⟩
  | 1 => ⟨S1x8192x1024, .f32⟩
  | 2 => ⟨S1x8192x512, .f32⟩
  | 3 => ⟨S1x8192x512, .f32⟩
  | 4 => ⟨S1x8192x512, .f32⟩
  | 5 => ⟨S1x8192x512, .f32⟩
  | 6 => ⟨S1x8192x1024, .f32⟩
  | 7 => ⟨S1x8192x1024, .f32⟩
  | 8 => ⟨S1x512x1024, .f32⟩
  | 9 => ⟨S1x512x1024, .f32⟩
  | 10 => ⟨S1x1024x1024, .f32⟩
  | 11 => ⟨S1x1024, .f32⟩
  | 12 => ⟨S1024, .f32⟩
  | 13 => ⟨S512x1024, .f32⟩
  | 14 => ⟨S1x8192x512, .f32⟩
  | 15 => ⟨S1x8192x512, .f32⟩
  | 16 => ⟨S_, .f32⟩
  | 17 => ⟨S1x8192x512, .f32⟩
  | 18 => ⟨S1x8192x512, .f32⟩
  | 19 => ⟨S_, .f32⟩
  | 20 => ⟨S1x8192x512, .f32⟩
  | 21 => ⟨S1x8192x512, .f32⟩
  | 22 => ⟨S_, .f32⟩
  | 23 => ⟨S1x8192x512, .f32⟩
  | 24 => ⟨S1x8192x512, .f32⟩
  | 25 => ⟨S1x8192x512, .f32⟩
  | 26 => ⟨S1x8192x512, .f32⟩
  | 27 => ⟨S1x8192x512, .f32⟩
  | 28 => ⟨S1x8192x1024, .f32⟩
  | 29 => ⟨S512x1024, .f32⟩
  | 30 => ⟨S1x8192x512, .f32⟩
  | 31 => ⟨S1x8192x512, .f32⟩
  | 32 => ⟨S_, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S_, .f32⟩
  | 39 => ⟨S1x8192x512, .f32⟩
  | 40 => ⟨S1x8192x512, .f32⟩
  | 41 => ⟨S1x8192x512, .f32⟩
  | 42 => ⟨S1x8192x512, .f32⟩
  | 43 => ⟨S1x8192x512, .f32⟩
  | 44 => ⟨S1x8192x1024, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S_, .f32⟩
  | 54 => ⟨S1x8192x1024, .f32⟩
  | 55 => ⟨S1x8192x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S_, .f32⟩
  | 64 => ⟨S1x8192x1024, .f32⟩
  | 65 => ⟨S1x8192x1024, .f32⟩
  | 66 => ⟨S_, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1024x1024, .f32⟩
  | 73 => ⟨S1x8192x1024, .f32⟩
  | 74 => ⟨S1x1x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S_, .f32⟩
  | 80 => ⟨S1x8192, .f32⟩
  | 81 => ⟨S1x8192x1, .f32⟩
  | 82 => ⟨S_, .f32⟩
  | 83 => ⟨S1x8192x1, .f32⟩
  | 84 => ⟨S1x8192x1, .f32⟩
  | 85 => ⟨S_, .f32⟩
  | 86 => ⟨S1x8192x1, .f32⟩
  | 87 => ⟨S1x8192x1, .f32⟩
  | 88 => ⟨S1x8192x1, .f32⟩
  | 89 => ⟨S1x8192x1, .f32⟩
  | 90 => ⟨S_, .f32⟩
  | 91 => ⟨S1x8192x1, .f32⟩
  | 92 => ⟨S1x8192x1, .f32⟩
  | 93 => ⟨S1x8192x1024, .f32⟩
  | 94 => ⟨S1x8192x1024, .f32⟩
  | 95 => ⟨S1x1x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S_, .f32⟩
  | 101 => ⟨S1x8192x1024, .f32⟩
  | 102 => ⟨S1x8192x1024, .f32⟩
  | 103 => ⟨S_, .f32⟩
  | 104 => ⟨S1x8192, .f32⟩
  | 105 => ⟨S_, .f32⟩
  | 106 => ⟨S1x8192, .f32⟩
  | 107 => ⟨S1x8192, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1x8192, .f32⟩
  | 116 => ⟨S_, .f32⟩
  | 117 => ⟨S1x8192, .f32⟩
  | 118 => ⟨S1x8192, .f32⟩
  | 119 => ⟨S1x8192x1024, .f32⟩
  | 120 => ⟨S1x8192x1024, .f32⟩
  | 121 => ⟨S1x8192x1024, .f32⟩
  | 122 => ⟨S_, .f32⟩
  | 123 => ⟨S1x1024, .f32⟩
  | 124 => ⟨S1x1x1024, .f32⟩
  | 125 => ⟨S1x8192x1024, .f32⟩
  | 126 => ⟨S1x8192x1024, .f32⟩
  | 127 => ⟨S_, .f32⟩
  | _ => ⟨S1x8192x1024, .f32⟩

abbrev hbmTy0_1 (i : Nat) : BufTy := match i % 128 with
  | 0 => ⟨S1024, .f32⟩
  | 1 => ⟨S1x8192x1024, .f32⟩
  | 2 => ⟨S_, .f32⟩
  | 3 => ⟨S1x8192, .f32⟩
  | 4 => ⟨S1x8192x1, .f32⟩
  | 5 => ⟨S1x8192x1024, .f32⟩
  | 6 => ⟨S1x8192x1024, .f32⟩
  | 7 => ⟨S1x8192x1, .f32⟩
  | 8 => ⟨S_, .f32⟩
  | 9 => ⟨S1x8192x1, .f32⟩
  | 10 => ⟨S1x8192x1, .f32⟩
  | 11 => ⟨S_, .f32⟩
  | 12 => ⟨S8192, .f32⟩
  | 13 => ⟨S1x8192, .f32⟩
  | 14 => ⟨S1x8192x1024, .f32⟩
  | 15 => ⟨S1x8192x1024, .f32⟩
  | 16 => ⟨S1x8192x1024, .f32⟩
  | 17 => ⟨S1x8192x1024, .f32⟩
  | 18 => ⟨S1x8192x1024, .f32⟩
  | 19 => ⟨S1x8192x1024, .f32⟩
  | 20 => ⟨S1x8192x1024, .f32⟩
  | 21 => ⟨S1x8192x1024, .f32⟩
  | 22 => ⟨S_, .f32⟩
  | 23 => ⟨S1x1024, .f32⟩
  | 24 => ⟨S1x1x1024, .f32⟩
  | 25 => ⟨S_, .f32⟩
  | 26 => ⟨S1024, .f32⟩
  | 27 => ⟨S1x1024, .f32⟩
  | 28 => ⟨S1x8192x1024, .f32⟩
  | 29 => ⟨S1x8192x1024, .f32⟩
  | 30 => ⟨S1x8192x1024, .f32⟩
  | 31 => ⟨S1x8192x1024, .f32⟩
  | 32 => ⟨S1x8192x1024, .f32⟩
  | 33 => ⟨S1x8192x1024, .f32⟩
  | 34 => ⟨S1x8192x1024, .f32⟩
  | 35 => ⟨S1x8192x512, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S1x8192x512, .f32⟩
  | 42 => ⟨S1x8192x512, .f32⟩
  | 43 => ⟨S1x8192x512, .f32⟩
  | 44 => ⟨S1x8192x512, .f32⟩
  | 45 => ⟨S1x8192x512, .f32⟩
  | 46 => ⟨S1x8192x512, .f32⟩
  | 47 => ⟨S1x8192x512, .f32⟩
  | 48 => ⟨S1x8192x512, .f32⟩
  | 49 => ⟨S1x1024, .f32⟩
  | 50 => ⟨S_, .f32⟩
  | 51 => ⟨S1x8192x1024, .f32⟩
  | 52 => ⟨S1x8192x1024, .f32⟩
  | 53 => ⟨S_, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S5x1024, .f32⟩
  | 60 => ⟨S8x1024, .f32⟩
  | 61 => ⟨S8192x512, .f32⟩
  | 62 => ⟨S512x8192, .f32⟩
  | 63 => ⟨S8192x512, .f32⟩
  | 64 => ⟨S512x8192, .f32⟩
  | 65 => ⟨S8192x1024, .f32⟩
  | 66 => ⟨S1024x8192, .f32⟩
  | 67 => ⟨S8192x1024, .f32⟩
  | 68 => ⟨S8192x1024, .f32⟩
  | 69 => ⟨S8192x1024, .f32⟩
  | 70 => ⟨S8192x512, .f32⟩
  | 71 => ⟨S8192x8x64, .f32⟩
  | 72 => ⟨S8192x512, .f32⟩
  | 73 => ⟨S8192x8x64, .f32⟩
  | 74 => ⟨S8192x8x64, .f32⟩
  | 75 => ⟨S_, .f32⟩
  | 76 => ⟨S8192x8, .f32⟩
  | 77 => ⟨S8192x8x1, .f32⟩
  | 78 => ⟨S8192x8x1, .f32⟩
  | 79 => ⟨S_, .f32⟩
  | 80 => ⟨S8192x8x63, .f32⟩
  | 81 => ⟨S8192x8x128, .f32⟩
  | 82 => ⟨S8192x1024, .f32⟩
  | 83 => ⟨S8192x512, .f32⟩
  | 84 => ⟨S8192x8x64, .f32⟩
  | 85 => ⟨S8192x512, .f32⟩
  | 86 => ⟨S8192x8x64, .f32⟩
  | 87 => ⟨S8192x8x64, .f32⟩
  | 88 => ⟨S_, .f32⟩
  | 89 => ⟨S8192x8, .f32⟩
  | 90 => ⟨S8192x8x1, .f32⟩
  | 91 => ⟨S8192x8x1, .f32⟩
  | 92 => ⟨S_, .f32⟩
  | 93 => ⟨S8192x8x63, .f32⟩
  | 94 => ⟨S8192x8x128, .f32⟩
  | 95 => ⟨S8192x1024, .f32⟩
  | 96 => ⟨S8192x512, .f32⟩
  | 97 => ⟨S8192x512, .f32⟩
  | 98 => ⟨S8192x1024, .f32⟩
  | 99 => ⟨S8192x1024, .f32⟩
  | 100 => ⟨S8192x3072, .f32⟩
  | 101 => ⟨S8192x1024, .f32⟩
  | 102 => ⟨S512x8192, .bf16⟩
  | 103 => ⟨S512x8192, .bf16⟩
  | 104 => ⟨S1024x8192, .bf16⟩
  | 105 => ⟨S8192x1024, .bf16⟩
  | 106 => ⟨S8192x1024, .bf16⟩
  | 107 => ⟨S8192x1024, .bf16⟩
  | 108 => ⟨S8192x1024, .bf16⟩
  | 109 => ⟨S8192x1024, .bf16⟩
  | 110 => ⟨S8192x3072, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v1_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v1_1 : Ref sig .tc := ⟨.hbm, 25, rfl⟩
abbrev main_v1_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_v5_2 : Ref sig .tc := ⟨.hbm, 37, rfl⟩
abbrev main_call1_cst_1 : Ref sig .tc := ⟨.hbm, 38, rfl⟩
abbrev main_call1_v6 : Ref sig .tc := ⟨.hbm, 39, rfl⟩
abbrev main_call1_v7 : Ref sig .tc := ⟨.hbm, 40, rfl⟩
abbrev main_v5_1 : Ref sig .tc := ⟨.hbm, 41, rfl⟩
abbrev main_v5_0 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_cst : Ref sig .tc := ⟨.hbm, 47, rfl⟩
abbrev main_v10 : Ref sig .tc := ⟨.hbm, 48, rfl⟩
abbrev main_v11 : Ref sig .tc := ⟨.hbm, 49, rfl⟩
abbrev main_cst_0 : Ref sig .tc := ⟨.hbm, 50, rfl⟩
abbrev main_v12 : Ref sig .tc := ⟨.hbm, 51, rfl⟩
abbrev main_v13 : Ref sig .tc := ⟨.hbm, 52, rfl⟩
abbrev main_cst_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_2 : Ref sig .tc := ⟨.hbm, 60, rfl⟩
abbrev main_v20 : Ref sig .tc := ⟨.hbm, 61, rfl⟩
abbrev main_v21 : Ref sig .tc := ⟨.hbm, 62, rfl⟩
abbrev main_cst_3 : Ref sig .tc := ⟨.hbm, 63, rfl⟩
abbrev main_v22 : Ref sig .tc := ⟨.hbm, 64, rfl⟩
abbrev main_v23 : Ref sig .tc := ⟨.hbm, 65, rfl⟩
abbrev main_cst_4 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_5 : Ref sig .tc := ⟨.hbm, 79, rfl⟩
abbrev main_v36 : Ref sig .tc := ⟨.hbm, 80, rfl⟩
abbrev main_v37 : Ref sig .tc := ⟨.hbm, 81, rfl⟩
abbrev main_cst_6 : Ref sig .tc := ⟨.hbm, 82, rfl⟩
abbrev main_v38 : Ref sig .tc := ⟨.hbm, 83, rfl⟩
abbrev main_v39 : Ref sig .tc := ⟨.hbm, 84, rfl⟩
abbrev main_cst_7 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_cst_9 : Ref sig .tc := ⟨.hbm, 100, rfl⟩
abbrev main_v53 : Ref sig .tc := ⟨.hbm, 101, rfl⟩
abbrev main_v54 : Ref sig .tc := ⟨.hbm, 102, rfl⟩
abbrev main_cst_10 : Ref sig .tc := ⟨.hbm, 103, rfl⟩
abbrev main_v55 : Ref sig .tc := ⟨.hbm, 104, rfl⟩
abbrev main_cst_11 : Ref sig .tc := ⟨.hbm, 105, rfl⟩
abbrev main_v56 : Ref sig .tc := ⟨.hbm, 106, rfl⟩
abbrev main_v57 : Ref sig .tc := ⟨.hbm, 107, rfl⟩
abbrev main_cst_12 : Ref sig .tc := ⟨.hbm, 108, rfl⟩
abbrev main_v58 : Ref sig .tc := ⟨.hbm, 109, rfl⟩
abbrev main_cst_13 : Ref sig .tc := ⟨.hbm, 110, rfl⟩
abbrev main_v59 : Ref sig .tc := ⟨.hbm, 111, rfl⟩
abbrev main_cst_14 : Ref sig .tc := ⟨.hbm, 112, rfl⟩
abbrev main_cst_15 : Ref sig .tc := ⟨.hbm, 113, rfl⟩
abbrev main_v60 : Ref sig .tc := ⟨.hbm, 114, rfl⟩
abbrev main_v61 : Ref sig .tc := ⟨.hbm, 115, rfl⟩
abbrev main_cst_16 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_17 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_18 : Ref sig .tc := ⟨.hbm, 127, rfl⟩
abbrev main_v71 : Ref sig .tc := ⟨.hbm, 128, rfl⟩
abbrev main_v72 : Ref sig .tc := ⟨.hbm, 129, rfl⟩
abbrev main_cst_19 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_20 : Ref sig .tc := ⟨.hbm, 136, rfl⟩
abbrev main_v78 : Ref sig .tc := ⟨.hbm, 137, rfl⟩
abbrev main_v79 : Ref sig .tc := ⟨.hbm, 138, rfl⟩
abbrev main_cst_21 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_cst_22 : Ref sig .tc := ⟨.hbm, 150, rfl⟩
abbrev main_v90 : Ref sig .tc := ⟨.hbm, 151, rfl⟩
abbrev main_v91 : Ref sig .tc := ⟨.hbm, 152, rfl⟩
abbrev main_cst_23 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_v108 : Ref sig .tc := ⟨.hbm, 176, rfl⟩
abbrev main_v109 : Ref sig .tc := ⟨.hbm, 177, rfl⟩
abbrev main_cst_24 : Ref sig .tc := ⟨.hbm, 178, rfl⟩
abbrev main_v110 : Ref sig .tc := ⟨.hbm, 179, rfl⟩
abbrev main_v111 : Ref sig .tc := ⟨.hbm, 180, rfl⟩
abbrev main_cst_25 : Ref sig .tc := ⟨.hbm, 181, rfl⟩
abbrev main_v112 : Ref sig .tc := ⟨.hbm, 182, rfl⟩
abbrev main_cst_26 : Ref sig .tc := ⟨.hbm, 183, rfl⟩
abbrev main_v113 : Ref sig .tc := ⟨.hbm, 184, rfl⟩
abbrev main_v114 : Ref sig .tc := ⟨.hbm, 185, rfl⟩
abbrev main_cst_27 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_28 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_29 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_30 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_31 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩

abbrev nD : Nat := 1
abbrev τ : Topo := Topo.v7x

variable {F : FTy → Type} [FloatOps F]
-- ==== Kernel6.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .local _ .vmem, ⟨0, _⟩ => ⟨S8x1024, .f32⟩
  | .local _ .vmem, ⟨1, _⟩ => ⟨S1024x384, .f32⟩
  | .local _ .vmem, ⟨2, _⟩ => ⟨S1x384, .f32⟩
  | .local _ .vmem, ⟨3, _⟩ => ⟨S8x384, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference6Ideal.lean ====
abbrev S8x1024 : Shape := ⟨2, ![8, 1024]⟩
abbrev S1024x384 : Shape := ⟨2, ![1024, 384]⟩
abbrev S1x384 : Shape := ⟨2, ![1, 384]⟩
abbrev S8x384 : Shape := ⟨2, ![8, 384]⟩

abbrev nBuf : Space → Nat
  | .hbm => 6
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x384, .f32⟩
  | .hbm, ⟨2, _⟩ => ⟨S1x384, .f32⟩
  | .hbm, ⟨3, _⟩ => ⟨S8x384, .f32⟩
  | .hbm, ⟨4, _⟩ => ⟨S8x384, .f32⟩
  | .hbm, ⟨5, _⟩ => ⟨S8x384, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S1x8192x8x64 : Shape := ⟨4, ![1, 8192, 8, 64]⟩
abbrev S1x8192x2x64 : Shape := ⟨4, ![1, 8192, 2, 64]⟩
abbrev S8 : Shape := ⟨1, ![8]⟩
abbrev S_ : Shape := ⟨0, ![]⟩
abbrev S8192x8x3 : Shape := ⟨3, ![8192, 8, 3]⟩
abbrev S8192x2x3 : Shape := ⟨3, ![8192, 2, 3]⟩
abbrev S8192x2x64 : Shape := ⟨3, ![8192, 2, 64]⟩
abbrev S8192x2x70 : Shape := ⟨3, ![8192, 2, 70]⟩
abbrev S8192x2x128 : Shape := ⟨3, ![8192, 2, 128]⟩
abbrev S8192x256 : Shape := ⟨2, ![8192, 256]⟩
abbrev S8192x2x67 : Shape := ⟨3, ![8192, 2, 67]⟩
abbrev S2x4 : Shape := ⟨2, ![2, 4]⟩
abbrev S2x8 : Shape := ⟨2, ![2, 8]⟩
abbrev S2x8x1 : Shape := ⟨3, ![2, 8, 1]⟩
abbrev S2x8x128 : Shape := ⟨3, ![2, 8, 128]⟩
abbrev S8192x8x64 : Shape := ⟨3, ![8192, 8, 64]⟩
abbrev S8192x8x67 : Shape := ⟨3, ![8192, 8, 67]⟩
abbrev S8192x8x128 : Shape := ⟨3, ![8192, 8, 128]⟩
abbrev S8192x1024 : Shape := ⟨2, ![8192, 1024]⟩
abbrev S8192x512 : Shape := ⟨2, ![8192, 512]⟩
abbrev S1024x512 : Shape := ⟨2, ![1024, 512]⟩
abbrev S1024x128 : Shape := ⟨2, ![1024, 128]⟩
abbrev S128x128 : Shape := ⟨2, ![128, 128]⟩
abbrev S1x8x128 : Shape := ⟨3, ![1, 8, 128]⟩
abbrev S1024x256 : Shape := ⟨2, ![1024, 256]⟩
abbrev S512x256 : Shape := ⟨2, ![512, 256]⟩
abbrev S512x1 : Shape := ⟨2, ![512, 1]⟩
abbrev S1x1x128 : Shape := ⟨3, ![1, 1, 128]⟩
abbrev S1x128 : Shape := ⟨2, ![1, 128]⟩
abbrev S1 : Shape := ⟨1, ![1]⟩
abbrev S1x1 : Shape := ⟨2, ![1, 1]⟩
abbrev S512x128 : Shape := ⟨2, ![512, 128]⟩
abbrev S256x128 : Shape := ⟨2, ![256, 128]⟩
abbrev S512 : Shape := ⟨1, ![512]⟩

abbrev nBuf : Space → Nat
  | .hbm => 42
  | .vmem => 16
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S8, .f32⟩
  | .hbm, ⟨4, _⟩ => ⟨S_, .f32⟩
  | .hbm, ⟨5, _⟩ => ⟨S8192x8x3, .f32⟩
  | .hbm, ⟨6, _⟩ => ⟨S_, .f32⟩
  | .hbm, ⟨7, _⟩ => ⟨S8192x2x3, .f32⟩
  | .hbm, ⟨8, _⟩ => ⟨S8192x2x64, .f32⟩
  | .hbm, ⟨9, _⟩ => ⟨S_, .f32⟩
  | .hbm, ⟨10, _⟩ => ⟨S8192x2x3, .f32⟩
  | .hbm, ⟨11, _⟩ => ⟨S8192x2x70, .f32⟩
  | .hbm, ⟨12, _⟩ => ⟨S_, .i32⟩
  | .hbm, ⟨13, _⟩ => ⟨S_, .f32⟩
  | .hbm, ⟨14, _⟩ => ⟨S8192x2x128, .f32⟩
  | .hbm, ⟨15, _⟩ => ⟨S8192x256, .f32⟩
  | .hbm, ⟨16, _⟩ => ⟨S8192x256, .bf16⟩
  | .hbm, ⟨17, _⟩ => ⟨S8192x2x64, .f32⟩
  | .hbm, ⟨18, _⟩ => ⟨S8192x2x67, .f32⟩
  | .hbm, ⟨19, _⟩ => ⟨S_, .i32⟩
  | .hbm, ⟨20, _⟩ => ⟨S_, .f32⟩
  | .hbm, ⟨21, _⟩ => ⟨S8192x2x128, .f32⟩
  | .hbm, ⟨22, _⟩ => ⟨S8192x256, .f32⟩
  | .hbm, ⟨23, _⟩ => ⟨S8192x256, .bf16⟩
  | .hbm, ⟨24, _⟩ => ⟨S2x4, .f32⟩
  | .hbm, ⟨25, _⟩ => ⟨S_, .i32⟩
  | .hbm, ⟨26, _⟩ => ⟨S_, .f32⟩
  | .hbm, ⟨27, _⟩ => ⟨S2x8, .f32⟩
  | .hbm, ⟨28, _⟩ => ⟨S2x8x1, .f32⟩
  | .hbm, ⟨29, _⟩ => ⟨S2x8x128, .f32⟩
  | .hbm, ⟨30, _⟩ => ⟨S8192x8x64, .f32⟩
  | .hbm, ⟨31, _⟩ => ⟨S_, .f32⟩
  | .hbm, ⟨32, _⟩ => ⟨S8192x8x64, .f32⟩
  | .hbm, ⟨33, _⟩ => ⟨S8192x8x64, .f32⟩
  | .hbm, ⟨34, _⟩ => ⟨S8192x8x67, .f32⟩
  | .hbm, ⟨35, _⟩ => ⟨S_, .i32⟩
  | .hbm, ⟨36, _⟩ => ⟨S_, .f32⟩
  | .hbm, ⟨37, _⟩ => ⟨S8192x8x128, .f32⟩
  | .hbm, ⟨38, _⟩ => ⟨S8192x1024, .f32⟩
  | .hbm, ⟨39, _⟩ => ⟨S8192x1024, .bf16⟩
  | .hbm, ⟨40, _⟩ => ⟨S8192x512, .f32⟩
  | .hbm, ⟨41, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S128x128, .bf16⟩
  | .local _ .vmem, ⟨5, _⟩ => ⟨S128x128, .bf16⟩
  | .local _ .vmem, ⟨6, _⟩ => ⟨S1024x128, .bf16⟩
  | .local _ .vmem, ⟨7, _⟩ => ⟨S1024x128, .bf16⟩
  | .local _ .vmem, ⟨8, _⟩ => ⟨S128x128, .bf16⟩
  | .local _ .vmem, ⟨9, _⟩ => ⟨S128x128, .bf16⟩
  | .local _ .vmem, ⟨10, _⟩ => ⟨S1x8x128, .f32⟩
  | .local _ .vmem, ⟨11, _⟩ => ⟨S1x8x128, .f32⟩
  | .local _ .vmem, ⟨12, _⟩ => ⟨S1024x256, .f32⟩
  | .local _ .vmem, ⟨13, _⟩ => ⟨S1024x256, .f32⟩
  | .local _ .vmem, ⟨14, _⟩ => ⟨S1024x512, .bf16⟩
  | .local _ .vmem, ⟨15, _⟩ => ⟨S1024x512, .bf16⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_call3_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel7Ideal.lean ====
variable {F : FTy → Type} [FloatOps F] [Named F]
def κ : String → Option EReal := fun
  | "mask" => some ⊥
  | _ => none
-- ==== Kernel8.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S1x8192 : Shape := ⟨2, ![1, 8192]⟩
abbrev S1x8192x512 : Shape := ⟨3, ![1, 8192, 512]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x64 : Shape := ⟨3, ![1, 8192, 64]⟩
abbrev S1x8192x1x64 : Shape := ⟨4, ![1, 8192, 1, 64]⟩
abbrev S1x8192x8x32 : Shape := ⟨4, ![1, 8192, 8, 32]⟩
abbrev S1x8192x2x32 : Shape := ⟨4, ![1, 8192, 2, 32]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S64 : Shape := ⟨1, ![64]⟩
abbrev S64x1x1 : Shape := ⟨3, ![64, 1, 1]⟩
abbrev S128 : Shape := ⟨1, ![128]⟩
abbrev S1x128x1 : Shape := ⟨3, ![1, 128, 1]⟩
abbrev S64x128x1 : Shape := ⟨3, ![64, 128, 1]⟩
abbrev S256 : Shape := ⟨1, ![256]⟩
abbrev S1x1x256 : Shape := ⟨3, ![1, 1, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S8192x8x64 : Shape := ⟨3, ![8192, 8, 64]⟩
abbrev S64x2x4x128 : Shape := ⟨4, ![64, 2, 4, 128]⟩
abbrev S64x128x2x4 : Shape := ⟨4, ![64, 128, 2, 4]⟩
abbrev S8192x8 : Shape := ⟨2, ![8192, 8]⟩
abbrev S8192x8x3 : Shape := ⟨3, ![8192, 8, 3]⟩
abbrev S8192x8x1 : Shape := ⟨3, ![8192, 8, 1]⟩
abbrev S8192x8x70 : Shape := ⟨3, ![8192, 8, 70]⟩
abbrev S8192x8x128 : Shape := ⟨3, ![8192, 8, 128]⟩
abbrev S8192x1024 : Shape := ⟨2, ![8192, 1024]⟩
abbrev S8192x2x3 : Shape := ⟨3, ![8192, 2, 3]⟩
abbrev S8192x2x64 : Shape := ⟨3, ![8192, 2, 64]⟩
abbrev S8192x2x70 : Shape := ⟨3, ![8192, 2, 70]⟩
abbrev S8192x2x128 : Shape := ⟨3, ![8192, 2, 128]⟩
abbrev S8192x256 : Shape := ⟨2, ![8192, 256]⟩
abbrev S8192x2x67 : Shape := ⟨3, ![8192, 2, 67]⟩
abbrev S8192x8x67 : Shape := ⟨3, ![8192, 8, 67]⟩
abbrev S8192x64 : Shape := ⟨2, ![8192, 64]⟩
abbrev S8192x128 : Shape := ⟨2, ![8192, 128]⟩
abbrev S2x8 : Shape := ⟨2, ![2, 8]⟩
abbrev S2x8x1 : Shape := ⟨3, ![2, 8, 1]⟩
abbrev S2x8x128 : Shape := ⟨3, ![2, 8, 128]⟩
abbrev S512x256 : Shape := ⟨2, ![512, 256]⟩
abbrev S512x1024 : Shape := ⟨2, ![512, 1024]⟩
abbrev S128x1024 : Shape := ⟨2, ![128, 1024]⟩
abbrev S512x128 : Shape := ⟨2, ![512, 128]⟩
abbrev S1x128 : Shape := ⟨2, ![1, 128]⟩
abbrev S128x128 : Shape := ⟨2, ![128, 128]⟩
abbrev S1024x128 : Shape := ⟨2, ![1024, 128]⟩
abbrev S1x1x128 : Shape := ⟨3, ![1, 1, 128]⟩
abbrev S1 : Shape := ⟨1, ![1]⟩
abbrev S1x1 : Shape := ⟨2, ![1, 1]⟩
abbrev S128x1 : Shape := ⟨2, ![128, 1]⟩

abbrev nBuf : Space → Nat
  | .hbm => 227
  | .vmem => 24
  | .smem => 0
  | _ => 0

abbrev hbmTy0_0 (i : Nat) : BufTy := match i % 128 with
  | 0 => ⟨S1x8192x8x64, .f32⟩
  | 1 => ⟨S1x8192x2x64, .f32⟩
  | 2 => ⟨S1x8192x2x64, .f32⟩
  | 3 => ⟨S1x8, .f32⟩
  | 4 => ⟨S1x8192, .i32⟩
  | 5 => ⟨S1x8192x512, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S1x8192, .f32⟩
  | 21 => ⟨S1x8192x1, .f32⟩
  | 22 => ⟨S1x1x32, .f32⟩
  | 23 => ⟨S1x8192x32, .f32⟩
  | 24 => ⟨S1x8192x32, .f32⟩
  | 25 => ⟨S1x8192x32, .f32⟩
  | 26 => ⟨S1x8192x64, .f32⟩
  | 27 => ⟨S1x8192x1x64, .f32⟩
  | 28 => ⟨S1x8192x1x64, .f32⟩
  | 29 => ⟨S1x8192x1x64, .f32⟩
  | 30 => ⟨S1x8192x8x32, .f32⟩
  | 31 => ⟨S1x8192x8x32, .f32⟩
  | 32 => ⟨S1x8192x8x32, .f32⟩
  | 33 => ⟨S1x8192x8x64, .f32⟩
  | 34 => ⟨S1x8192x8x64, .f32⟩
  | 35 => ⟨S1x8192x8x64, .f32⟩
  | 36 => ⟨S1x8192x8x64, .f32⟩
  | 37 => ⟨S1x8192x8x64, .f32⟩
  | 38 => ⟨S1x8192x8x64, .f32⟩
  | 39 => ⟨S1x8192x2x32, .f32⟩
  | 40 => ⟨S1x8192x2x32, .f32⟩
  | 41 => ⟨S1x8192x2x32, .f32⟩
  | 42 => ⟨S1x8192x2x64, .f32⟩
  | 43 => ⟨S1x8192x2x64, .f32⟩
  | 44 => ⟨S1x8192x2x64, .f32⟩
  | 45 => ⟨S1x8192x2x64, .f32⟩
  | 46 => ⟨S1x8192x2x64, .f32⟩
  | 47 => ⟨S1x8192x2x64, .f32⟩
  | 48 => ⟨S1x64x128x2x4x64, .f32⟩
  | 49 => ⟨S1x64x128x2x64, .f32⟩
  | 50 => ⟨S1x1x128x2x64, .f32⟩
  | 51 => ⟨S_, .f32⟩
  | 52 => ⟨S1x1x128x2x64, .f32⟩
  | 53 => ⟨S1x63x128x2x64, .f32⟩
  | 54 => ⟨S1x64x128x2x64, .f32⟩
  | 55 => ⟨S1x64x256x2x64, .f32⟩
  | 56 => ⟨S1x64x2x256x128x4, .f32⟩
  | 57 => ⟨S1x64x2x4x128x256, .f32⟩
  | 58 => ⟨S_, .f32⟩
  | 59 => ⟨S1x64x2x4x128x256, .f32⟩
  | 60 => ⟨S1x64x2x4x128x256, .f32⟩
  | 61 => ⟨S64, .i32⟩
  | 62 => ⟨S64x1x1, .i32⟩
  | 63 => ⟨S_, .i32⟩
  | 64 => ⟨S64x1x1, .i32⟩
  | 65 => ⟨S64x1x1, .i32⟩
  | 66 => ⟨S128, .i32⟩
  | 67 => ⟨S1x128x1, .i32⟩
  | 68 => ⟨S64x128x1, .i32⟩
  | 69 => ⟨S64x128x1, .i32⟩
  | 70 => ⟨S64x128x1, .i32⟩
  | 71 => ⟨S_, .i32⟩
  | 72 => ⟨S64x1x1, .i32⟩
  | 73 => ⟨S64x1x1, .i32⟩
  | 74 => ⟨S_, .i32⟩
  | 75 => ⟨S64x1x1, .i32⟩
  | 76 => ⟨S64x1x1, .i32⟩
  | 77 => ⟨S256, .i32⟩
  | 78 => ⟨S1x1x256, .i32⟩
  | 79 => ⟨S64x1x256, .i32⟩
  | 80 => ⟨S64x1x256, .i32⟩
  | 81 => ⟨S64x1x256, .i32⟩
  | 82 => ⟨S64x128x256, .i32⟩
  | 83 => ⟨S64x128x256, .i32⟩
  | 84 => ⟨S64x128x256, .i32⟩
  | 85 => ⟨S_, .i32⟩
  | 86 => ⟨S64x128x256, .i32⟩
  | 87 => ⟨S64x128x256, .i1⟩
  | 88 => ⟨S_, .i32⟩
  | 89 => ⟨S64x128x256, .i32⟩
  | 90 => ⟨S64x128x256, .i1⟩
  | 91 => ⟨S64x128x256, .i1⟩
  | 92 => ⟨S_, .i32⟩
  | 93 => ⟨S64x1x256, .i32⟩
  | 94 => ⟨S64x1x256, .i1⟩
  | 95 => ⟨S64x128x256, .i1⟩
  | 96 => ⟨S64x128x256, .i1⟩
  | 97 => ⟨S1x64x1x1x128x256, .i1⟩
  | 98 => ⟨S_, .f32⟩
  | 99 => ⟨S_, .f32⟩
  | 100 => ⟨S1x64x2x4x128x256, .i1⟩
  | 101 => ⟨S1x64x2x4x128x256, .f32⟩
  | 102 => ⟨S1x64x2x4x128x256, .f32⟩
  | 103 => ⟨S2x4, .f32⟩
  | 104 => ⟨S1x1x2x4x1x1, .f32⟩
  | 105 => ⟨S_, .f32⟩
  | 106 => ⟨S1x64x2x4x128, .f32⟩
  | 107 => ⟨S1x64x2x4x128x1, .f32⟩
  | 108 => ⟨S1x64x2x4x128x1, .f32⟩
  | 109 => ⟨S1x64x2x4x128x1, .f32⟩
  | 110 => ⟨S1x64x2x4x128x256, .f32⟩
  | 111 => ⟨S1x64x2x4x128x256, .f32⟩
  | 112 => ⟨S1x64x2x4x128x256, .f32⟩
  | 113 => ⟨S_, .f32⟩
  | 114 => ⟨S1x64x2x4x128, .f32⟩
  | 115 => ⟨S1x64x2x4x128x1, .f32⟩
  | 116 => ⟨S1x64x2x4x128x1, .f32⟩
  | 117 => ⟨S1x64x2x4x128x1, .f32⟩
  | 118 => ⟨S1x64x2x4x128x1, .f32⟩
  | 119 => ⟨S1x64x2x4x128x1, .f32⟩
  | 120 => ⟨S1x64x128x2x64, .f32⟩
  | 121 => ⟨S1x1x128x2x64, .f32⟩
  | 122 => ⟨S_, .f32⟩
  | 123 => ⟨S1x1x128x2x64, .f32⟩
  | 124 => ⟨S1x63x128x2x64, .f32⟩
  | 125 => ⟨S1x64x128x2x64, .f32⟩
  | 126 => ⟨S1x64x256x2x64, .f32⟩
  | 127 => ⟨S1x64x2x4x128x256, .f32⟩
  | _ => ⟨S1x8192x8x64, .f32⟩

abbrev hbmTy0_1 (i : Nat) : BufTy := match i % 128 with
  | 0 => ⟨S1x64x2x4x128x256, .f32⟩
  | 1 => ⟨S1x64x2x64x4x128, .f32⟩
  | 2 => ⟨S1x64x128x2x4x64, .f32⟩
  | 3 => ⟨S8192x8x64, .f32⟩
  | 4 => ⟨S1x64x2x4x128x1, .f32⟩
  | 5 => ⟨S1x64x2x4x128x1, .f32⟩
  | 6 => ⟨S64x2x4x128, .f32⟩
  | 7 => ⟨S64x128x2x4, .f32⟩
  | 8 => ⟨S8192x8, .f32⟩
  | 9 => ⟨S8192x8x64, .f32⟩
  | 10 => ⟨S8192x8x64, .f32⟩
  | 11 => ⟨S_, .f32⟩
  | 12 => ⟨S8192x8, .f32⟩
  | 13 => ⟨S_, .f32⟩
  | 14 => ⟨S8192x8x3, .f32⟩
  | 15 => ⟨S8192x8x64, .f32⟩
  | 16 => ⟨S_, .f32⟩
  | 17 => ⟨S8192x8x64, .f32⟩
  | 18 => ⟨S8192x8x64, .f32⟩
  | 19 => ⟨S8192x8x1, .f32⟩
  | 20 => ⟨S8192x8x1, .f32⟩
  | 21 => ⟨S8192x8x1, .bf16⟩
  | 22 => ⟨S8192x8x1, .f32⟩
  | 23 => ⟨S8192x8x1, .f32⟩
  | 24 => ⟨S8192x8x1, .bf16⟩
  | 25 => ⟨S8192x8x1, .f32⟩
  | 26 => ⟨S8192x8x1, .f32⟩
  | 27 => ⟨S8192x8x1, .bf16⟩
  | 28 => ⟨S8192x8x1, .f32⟩
  | 29 => ⟨S8192x8x70, .f32⟩
  | 30 => ⟨S_, .i32⟩
  | 31 => ⟨S_, .f32⟩
  | 32 => ⟨S8192x8x128, .f32⟩
  | 33 => ⟨S8192x1024, .f32⟩
  | 34 => ⟨S8192x1024, .bf16⟩
  | 35 => ⟨S_, .f32⟩
  | 36 => ⟨S8192x2x3, .f32⟩
  | 37 => ⟨S_, .f32⟩
  | 38 => ⟨S8192x2x3, .f32⟩
  | 39 => ⟨S8192x2x64, .f32⟩
  | 40 => ⟨S8192x2x70, .f32⟩
  | 41 => ⟨S_, .i32⟩
  | 42 => ⟨S_, .f32⟩
  | 43 => ⟨S8192x2x128, .f32⟩
  | 44 => ⟨S8192x256, .f32⟩
  | 45 => ⟨S8192x256, .bf16⟩
  | 46 => ⟨S8192x2x64, .f32⟩
  | 47 => ⟨S8192x2x67, .f32⟩
  | 48 => ⟨S_, .i32⟩
  | 49 => ⟨S_, .f32⟩
  | 50 => ⟨S8192x2x128, .f32⟩
  | 51 => ⟨S8192x256, .f32⟩
  | 52 => ⟨S8192x256, .bf16⟩
  | 53 => ⟨S8192x8x1, .f32⟩
  | 54 => ⟨S8192x8x1, .f32⟩
  | 55 => ⟨S8192x8x1, .bf16⟩
  | 56 => ⟨S8192x8x1, .f32⟩
  | 57 => ⟨S8192x8x1, .f32⟩
  | 58 => ⟨S8192x8x1, .bf16⟩
  | 59 => ⟨S8192x8x1, .f32⟩
  | 60 => ⟨S8192x8x1, .f32⟩
  | 61 => ⟨S8192x8x1, .bf16⟩
  | 62 => ⟨S8192x8x1, .f32⟩
  | 63 => ⟨S8192x8x67, .f32⟩
  | 64 => ⟨S_, .i32⟩
  | 65 => ⟨S_, .f32⟩
  | 66 => ⟨S8192x8x128, .f32⟩
  | 67 => ⟨S8192x1024, .f32⟩
  | 68 => ⟨S8192x1024, .bf16⟩
  | 69 => ⟨S8192x64, .f32⟩
  | 70 => ⟨S8192x64, .f32⟩
  | 71 => ⟨S8192x128, .f32⟩
  | 72 => ⟨S8192x64, .f32⟩
  | 73 => ⟨S8192x64, .f32⟩
  | 74 => ⟨S8192x128, .f32⟩
  | 75 => ⟨S8192x128, .i32⟩
  | 76 => ⟨S_, .i32⟩
  | 77 => ⟨S8192x128, .i32⟩
  | 78 => ⟨S8192x128, .i32⟩
  | 79 => ⟨S_, .i32⟩
  | 80 => ⟨S8192x128, .i32⟩
  | 81 => ⟨S8192x128, .i1⟩
  | 82 => ⟨S8192x128, .f32⟩
  | 83 => ⟨S_, .f32⟩
  | 84 => ⟨S_, .f32⟩
  | 85 => ⟨S8192x128, .f32⟩
  | 86 => ⟨S8192x128, .f32⟩
  | 87 => ⟨S_, .f32⟩
  | 88 => ⟨S_, .f32⟩
  | 89 => ⟨S8192x128, .f32⟩
  | 90 => ⟨S8192x128, .f32⟩
  | 91 => ⟨S2x4, .f32⟩
  | 92 => ⟨S_, .i32⟩
  | 93 => ⟨S_, .f32⟩
  | 94 => ⟨S2x8, .f32⟩
  | 95 => ⟨S2x8x1, .f32⟩
  | 96 => ⟨S2x8x128, .f32⟩
  | 97 => ⟨S8192x1024, .bf16⟩
  | 98 => ⟨S2x8x128, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S128x1024, .bf16⟩
  | .local _ .vmem, ⟨7, _⟩ => ⟨S128x1024, .bf16⟩
  | .local _ .vmem, ⟨8, _⟩ => ⟨S512x1024, .bf16⟩
  | .local _ .vmem, ⟨9, _⟩ => ⟨S512x1024, .bf16⟩
  | .local _ .vmem, ⟨10, _⟩ => ⟨S128x1024, .bf16⟩
  | .local _ .vmem, ⟨11, _⟩ => ⟨S128x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S2x8x128, .f32⟩
  | .local _ .vmem, ⟨19, _⟩ => ⟨S512x1024, .bf16⟩
  | .local _ .vmem, ⟨20, _⟩ => ⟨S512x1024, .bf16⟩
  | .local _ .vmem, ⟨21, _⟩ => ⟨S2x8x128, .f32⟩
  | .local _ .vmem, ⟨22, _⟩ => ⟨S128x1024, .f32⟩
  | .local _ .vmem, ⟨23, _⟩ => ⟨S512x1024, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_5 : Ref sig .tc := ⟨.hbm, 71, rfl⟩
abbrev main_v58 : Ref sig .tc := ⟨.hbm, 72, rfl⟩
abbrev main_v59 : Ref sig .tc := ⟨.hbm, 73, rfl⟩
abbrev main_c_6 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c_7 : Ref sig .tc := ⟨.hbm, 85, rfl⟩
abbrev main_v70 : Ref sig .tc := ⟨.hbm, 86, rfl⟩
abbrev main_v71 : Ref sig .tc := ⟨.hbm, 87, rfl⟩
abbrev main_c_8 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_9 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_11 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_12 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_cst_14 : Ref sig .tc := ⟨.hbm, 139, rfl⟩
abbrev main_v114 : Ref sig .tc := ⟨.hbm, 140, rfl⟩
abbrev main_cst_15 : Ref sig .tc := ⟨.hbm, 141, rfl⟩
abbrev main_v115 : Ref sig .tc := ⟨.hbm, 142, rfl⟩
abbrev main_v116 : Ref sig .tc := ⟨.hbm, 143, rfl⟩
abbrev main_cst_16 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_c_17 : Ref sig .tc := ⟨.hbm, 158, rfl⟩
abbrev main_call1_v0 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_18 : Ref sig .tc := ⟨.hbm, 163, rfl⟩
abbrev main_v133 : Ref sig .tc := ⟨.hbm, 164, rfl⟩
abbrev main_cst_19 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_c_20 : Ref sig .tc := ⟨.hbm, 169, rfl⟩
abbrev main_call2_v0 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_c_21 : Ref sig .tc := ⟨.hbm, 176, rfl⟩
abbrev main_call3_v0 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_c_22 : Ref sig .tc := ⟨.hbm, 192, rfl⟩
abbrev main_call4_v0 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_c_23 : Ref sig .tc := ⟨.hbm, 204, rfl⟩
abbrev main_v166 : Ref sig .tc := ⟨.hbm, 205, rfl⟩
abbrev main_v167 : Ref sig .tc := ⟨.hbm, 206, rfl⟩
abbrev main_c_24 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_25 : Ref sig .tc := ⟨.hbm, 211, rfl⟩
abbrev main_call5_v0 : Ref sig .tc := ⟨.hbm, 212, rfl⟩
abbrev main_call5_v1 : Ref sig .tc := ⟨.hbm, 213, rfl⟩
abbrev main_v171 : Ref sig .tc := ⟨.hbm, 214, rfl⟩
abbrev main_cst_26 : Ref sig .tc := ⟨.hbm, 215, rfl⟩
abbrev main_call6_v0 : Ref sig .tc := ⟨.hbm, 216, rfl⟩
abbrev main_call6_v1 : Ref sig .tc := ⟨.hbm, 217, rfl⟩
abbrev main_v172 : Ref sig .tc := ⟨.hbm, 218, rfl⟩
abbrev main_v173 : Ref sig .tc := ⟨.hbm, 219, rfl⟩
abbrev main_c_27 : Ref sig .tc := ⟨.hbm, 220, rfl⟩
abbrev main_call7_v0 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177_0 : Ref sig .tc := ⟨.hbm, 225, rfl⟩
abbrev main_v177_1 : Ref sig .tc := ⟨.hbm, 226, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Proof.FgBlock.lean ====
/- What one grid point of the forget-gate gradient leaves in its two output blocks and in the carry, as functions of
   the point's input blocks and of what the point before left. -/
module

public import proofs.«01_k».proof.Proof.Gen.KernelIdeal.Value
public import Idealize.ShloMosaic.Lib.WritesUnit
public import Idealize.ShloMosaic.Lib.VecWindow

@[expose] public section

set_option maxRecDepth 65536

noncomputable section

namespace Cert.KernelIdeal.FG

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- Row 0 of an 8-row array. -/
def rowOf (x : Vec F S8x128 .f32) : Vec F S1x128 .f32 :=
  View.ld x (Rect.unit (s := S8x128) ![0, 0] S1x128.size inb_S8x128_S1x128_0_0)

/-- The 8-row array with row 0 replaced. -/
def setRow (w : Vec F S1x128 .f32) (x : Vec F S8x128 .f32) : Vec F S8x128 .f32 :=
  fun y => if (y 0).val = 0 then w (fun a => ⟨match a with | 0 => 0 | 1 => (y 1).val, by
    match a with
    | 0 => exact Nat.zero_lt_one
    | 1 => exact (y 1).isLt⟩) else x y

/-- The first three planes of the two packed cotangents, each plane rolled to its own lanes. -/
def planes3 (x0 x1 : Vec F S4x512x128 .f32) : FVec F S512x128 .f32 :=
  k0_pay5 (View.ld x0 (Rect.unit (s := S4x512x128) ![0, 0, 0] S1x512x128.size inb_S4x512x128_S1x512x128_0_0_0))
    (View.ld x1 (Rect.unit (s := S4x512x128) ![0, 0, 0] S1x512x128.size inb_S4x512x128_S1x512x128_0_0_0))
    (View.ld x0 (Rect.unit (s := S4x512x128) ![1, 0, 0] S1x512x128.size inb_S4x512x128_S1x512x128_1_0_0))
    (View.ld x1 (Rect.unit (s := S4x512x128) ![1, 0, 0] S1x512x128.size inb_S4x512x128_S1x512x128_1_0_0))
    (View.ld x0 (Rect.unit (s := S4x512x128) ![2, 0, 0] S1x512x128.size inb_S4x512x128_S1x512x128_2_0_0))
    (View.ld x1 (Rect.unit (s := S4x512x128) ![2, 0, 0] S1x512x128.size inb_S4x512x128_S1x512x128_2_0_0))

/-- The last plane of the query side. -/
def plane3q (x0 : Vec F S4x512x128 .f32) : FVec F S512x128 .f32 :=
  k0_pay6 (View.ld x0 (Rect.unit (s := S4x512x128) ![3, 0, 0] S1x512x128.size inb_S4x512x128_S1x512x128_3_0_0))

/-- The last plane of the key side. -/
def plane3k (x1 : Vec F S4x512x128 .f32) : Vec F S1x512x128 .f32 :=
  View.ld x1 (Rect.unit (s := S4x512x128) ![3, 0, 0] S1x512x128.size inb_S4x512x128_S1x512x128_3_0_0)

/-- The block's cotangents of the cumulated gate, a head per lane. -/
def dcumB (x0 x1 : Vec F S4x512x128 .f32) : FVec F S512x128 .f32 := k0_pay7 (planes3 x0 x1) (plane3q x0) (plane3k x1)

/-- The carry after the block: row 0 gains the block's column sums. -/
def carryB (x0 x1 : Vec F S4x512x128 .f32) (s : Vec F S8x128 .f32) : Vec F S8x128 .f32 :=
  setRow (k0_pay8 (planes3 x0 x1) (plane3q x0) (plane3k x1) (rowOf s)) s

/-- The block's gate gradient in f32. -/
def dfB (x0 x1 : Vec F S4x512x128 .f32) (x2 : Vec F S512x128 .f32) (s : Vec F S8x128 .f32) : FVec F S512x128 .f32 :=
  k0_pay9 (k0_pay4 (F := F)) (planes3 x0 x1) (plane3q x0) (plane3k x1) (rowOf s) x2

/-- The block's gate gradient as stored. -/
def dfOutB (x0 x1 : Vec F S4x512x128 .f32) (x2 : Vec F S512x128 .f32) (s : Vec F S8x128 .f32) : Vec F S512x128 .bf16 :=
  k0_pay10 (k0_pay4 (F := F)) (planes3 x0 x1) (plane3q x0) (plane3k x1) (rowOf s) x2

/-- The bias gradient after the block: row 0 gains the column sums of the block's gate gradient. -/
def accB (x0 x1 : Vec F S4x512x128 .f32) (x2 : Vec F S512x128 .f32) (s a : Vec F S8x128 .f32) : Vec F S8x128 .f32 :=
  setRow (k0_pay1 (dfB x0 x1 x2 s) (rowOf a)) a

/-- A store of row 0 over an array is `setRow`. -/
theorem read_setRow (v : View sig .tc .vmem S8x128 .f32) (f : v.ty.Contents (Elt F)) (w : Vec F S1x128 .f32)
    (L : List (View.Piece (Elt F) S8x128 .f32)) (x : Vec F S8x128 .f32)
    (hx : v.read (Elt F) (v.writes (Elt F) f L) = x) :
    v.read (Elt F) (v.writes (Elt F) f
      (⟨Rect.unit (s := S8x128) ![0, 0] S1x128.size inb_S8x128_S1x128_0_0, w⟩ :: L)) = setRow w x := by
  funext y
  unfold setRow
  by_cases h : (y 0).val = 0
  · rw [if_pos h]
    exact View.read_writes_cons_rows_of_mem (o := 0) v f inb_S8x128_S1x128_0_0 w L y _ rfl (by rw [h]; rfl) rfl
  · rw [if_neg h, View.read_writes_cons_rows_of_not_mem (o := 0) (W := 1) v f inb_S8x128_S1x128_0_0 w L y rfl rfl
      (Or.inr (by omega)), hx]

theorem outA_3 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S4x512x128 .f32) (x1 : Vec F S4x512x128 .f32) (x2 : Vec F S512x128 .f32) :
    out0_A_3 c i arg1 harg1 arg2 harg2 arg3 harg3 arg4 harg4 arg5 harg5 arg6 harg6 hc0 x0 x1 x2 = dfOutB x0 x1 x2 k0_pay2 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz2]
  simp only [View.readAt_eq_ld, harg1.read_unread, harg2.read_unread, harg3.read_unread, harg5.read_unread, harg6.read_unread, View.ld_unit_zero (S := S512x128) hz2]
  simp only [View.readCov_eq_canon', View.canon_unit_zero (S := S8x128) hz2]
  rfl
theorem outA_4 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S4x512x128 .f32) (x1 : Vec F S4x512x128 .f32) (x2 : Vec F S512x128 .f32) :
    out0_A_4 c i arg1 harg1 arg2 harg2 arg3 harg3 arg4 harg4 arg5 harg5 arg6 harg6 hc0 x0 x1 x2 = accB x0 x1 x2 k0_pay2 k0_pay3 := by
  unfold out0_A_4
  unfold kernelRun0_A
  dsimp only
  sl_unfold_words
  simp only [View.readAt_eq_ld, harg1.read_unread, harg2.read_unread, harg3.read_unread, harg5.read_unread, harg6.read_unread, View.ld_unit_zero (S := S512x128) hz2]
  simp only [View.readCov_eq_canon', View.canon_unit_zero (S := S8x128) hz2]
  exact read_setRow _ _ _ _ _ (View.read_writes_full _ _ _ _ [])
theorem soutA_0 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : cond0_0 i)
    (x0 : Vec F S4x512x128 .f32) (x1 : Vec F S4x512x128 .f32) (x2 : Vec F S512x128 .f32) :
    sout0_A_0 c i arg1 harg1 arg2 harg2 arg3 harg3 arg4 harg4 arg5 harg5 arg6 harg6 hc0 x0 x1 x2 = carryB x0 x1 k0_pay2 := by
  unfold sout0_A_0
  unfold kernelRun0_A
  dsimp only
  sl_unfold_words
  simp only [View.readAt_eq_ld, harg1.read_unread, harg2.read_unread, harg3.read_unread, harg5.read_unread, harg6.read_unread, View.ld_unit_zero (S := S512x128) hz2]
  simp only [View.readCov_eq_canon', View.canon_unit_zero (S := S8x128) hz2]
  exact read_setRow _ _ _ _ _ (View.read_writes_full _ _ _ _ [])
theorem outB_3 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : ¬ cond0_0 i)
    (x0 : Vec F S4x512x128 .f32) (x1 : Vec F S4x512x128 .f32) (x2 : Vec F S512x128 .f32) (xo4 xs0 : Vec F S8x128 .f32) :
    out0_B_3 c i arg1 harg1 arg2 harg2 arg3 harg3 arg4 harg4 arg5 harg5 arg6 harg6 hc0 x0 x1 x2 xo4 xs0 = dfOutB x0 x1 x2 xs0 := by
  unfold out0_B_3
  rw [View.read_writes_eq_canon _ _ _ (cover0_B_3 c i arg1 harg1 arg2 harg2 arg3 harg3 arg4 harg4 arg5 harg5 arg6 harg6 hc0 x0 x1 x2 xo4 xs0)]
  unfold kernelRun0_B
  dsimp only
  sl_unfold_words
  rw [View.canon_unit_zero hz2]
  simp only [View.readAt_eq_ld, harg1.read_unread, harg2.read_unread, harg3.read_unread, harg5.read_unread, harg6.read_unread, View.ld_unit_zero (S := S512x128) hz2]
  rfl
theorem outB_4 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : ¬ cond0_0 i)
    (x0 : Vec F S4x512x128 .f32) (x1 : Vec F S4x512x128 .f32) (x2 : Vec F S512x128 .f32) (xo4 xs0 : Vec F S8x128 .f32) :
    out0_B_4 c i arg1 harg1 arg2 harg2 arg3 harg3 arg4 harg4 arg5 harg5 arg6 harg6 hc0 x0 x1 x2 xo4 xs0 = accB x0 x1 x2 xs0 xo4 := by
  unfold out0_B_4
  unfold kernelRun0_B
  dsimp only
  sl_unfold_words
  simp only [View.readAt_eq_ld, harg1.read_unread, harg2.read_unread, harg3.read_unread, harg5.read_unread, harg6.read_unread, View.ld_unit_zero (S := S512x128) hz2]
  exact read_setRow _ _ _ _ _ (harg5.read_unread _)
theorem soutB_0 (c : Dev nD) (i : grid0.Coords) (arg1 : Memref sig .tc .vmem S4x512x128 .f32) (harg1 : arg1.IsWhole) (arg2 : Memref sig .tc .vmem S4x512x128 .f32) (harg2 : arg2.IsWhole) (arg3 : Memref sig .tc .vmem S512x128 .f32) (harg3 : arg3.IsWhole) (arg4 : Memref sig .tc .vmem S512x128 .bf16) (harg4 : arg4.IsWhole) (arg5 : Memref sig .tc .vmem S8x128 .f32) (harg5 : arg5.IsWhole) (arg6 : Memref sig .tc .vmem S8x128 .f32) (harg6 : arg6.IsWhole) (hc0 : ¬ cond0_0 i)
    (x0 : Vec F S4x512x128 .f32) (x1 : Vec F S4x512x128 .f32) (x2 : Vec F S512x128 .f32) (xo4 xs0 : Vec F S8x128 .f32) :
    sout0_B_0 c i arg1 harg1 arg2 harg2 arg3 harg3 arg4 harg4 arg5 harg5 arg6 harg6 hc0 x0 x1 x2 xo4 xs0 = carryB x0 x1 xs0 := by
  unfold sout0_B_0
  unfold kernelRun0_B
  dsimp only
  sl_unfold_words
  simp only [View.readAt_eq_ld, harg1.read_unread, harg2.read_unread, harg3.read_unread, harg5.read_unread, harg6.read_unread, View.ld_unit_zero (S := S512x128) hz2]
  exact read_setRow _ _ _ _ _ (harg6.read_unread _)

end Cert.KernelIdeal.FG

end
-- ==== Proof.FgHost.lean ====
/- The arrays the forget-gate gradient's launch reads, entry by entry: the host's packed cotangents and its gate
   pre-activations, and the block of each that a grid point stages. -/
module

public import proofs.«01_k».proof.Proof.FgBlock
public import Idealize.ShloMosaic.Lib.Pointwise
public import Idealize.ShloMosaic.Lib.KernelVsHost

@[expose] public section

set_option maxRecDepth 65536

noncomputable section

namespace Cert.KernelIdeal.FG

open Cert.KernelIdeal Cert.KernelIdeal.Gen Idealize.ShloMosaic Idealize.ShloMosaic.TcCoe Idealize.SL.Sem

variable (m : (ℓ : Loc nD τ sig) → Buf (Elt Ideal) ℓ)

/-- The host's zero to pad with. -/
def padZero : FVec Ideal S_ .f32 := sitofp (F := Ideal) .f32 (constantI S_ 32 0#32)

theorem padZero_eq (i : S_.Idx) : padZero i = (0 : EReal) := by
  unfold padZero
  pointwise
  exact sitofp_zero

/-- An array of one number per row and head, head pair `p` in plane `p`, lanes 0 and 1. -/
def pairs (x : Vec Ideal S1x8192x8 .f32) : Vec Ideal S4x8192x128 .f32 :=
  pad S4x8192x128 ![0, 0, 0] ![0, 0, 126] ![0, 0, 0]
    (transpose S4x8192x2 [1, 0, 2] (shapeCast S8192x4x2 (shapeCast S8192x8 x shapeCasts_S1x8192x8_S8192x8)
      shapeCasts_S8192x8_S8192x4x2) transposes_S8192x4x2_S4x8192x2_1_0_2)
    padZero pads_S4x8192x2_S4x8192x128_000_000_01260 h_S_

/-- The gate's pre-activations, heads in lanes 0 to 7 and zero beyond. -/
def gates (fb : Vec Ideal S1x8192x8 .f32) (bf : Vec Ideal S1x8 .f32) : FVec Ideal S8192x128 .f32 :=
  addf (pad S8192x128 ![0, 0] ![0, 120] ![0, 0] (shapeCast S8192x8 fb shapeCasts_S1x8192x8_S8192x8) padZero
      pads_S8192x8_S8192x128_000_01200 h_S_)
    (broadcastInDim S8192x128 ![0, 1] bcast_S1x128_S8192x128_0_1
      (pad S1x128 ![0, 0] ![0, 120] ![0, 0] bf padZero pads_S1x8_S1x128_000_01200 h_S_))

theorem V_dcq (c : Dev nD) : V m c main_v8 = pairs (m ((c : Thread nD τ).loc main_arg2)) := by
  unfold V hostOps0 hostOps0_1 hostOps0_2 hostOps0_3 hostOps0_4 hostOps0_5 hostOps0_6 hostOps0_7
  simp only [List.flatten_cons, List.flatten_nil, List.append_nil, List.cons_append, List.nil_append]
  after_results_simp
  rfl

theorem V_dck (c : Dev nD) : V m c main_v12 = pairs (m ((c : Thread nD τ).loc main_arg3)) := by
  unfold V hostOps0 hostOps0_1 hostOps0_2 hostOps0_3 hostOps0_4 hostOps0_5 hostOps0_6 hostOps0_7
  simp only [List.flatten_cons, List.flatten_nil, List.append_nil, List.cons_append, List.nil_append]
  after_results_simp
  rfl

theorem V_gates (c : Dev nD) :
    V m c main_v4 = gates (m ((c : Thread nD τ).loc main_arg0)) (m ((c : Thread nD τ).loc main_arg1)) := by
  unfold V hostOps0 hostOps0_1 hostOps0_2 hostOps0_3 hostOps0_4 hostOps0_5 hostOps0_6 hostOps0_7
  simp only [List.flatten_cons, List.flatten_nil, List.append_nil, List.cons_append, List.nil_append]
  after_results_simp
  rfl

/-- A packed array at an entry. -/
theorem pairs_apply (x : Vec Ideal S1x8192x8 .f32) (p : Fin 4) (r : Fin 8192) (l : Fin 128) :
    pairs x (ix3 p r l)
      = if h : l.val < 2 then x (ix3 (0 : Fin 1) r (⟨p.val * 2 + l.val, by have := p.isLt; omega⟩ : Fin 8)) else (0 : EReal) := by
  unfold pairs
  by_cases h : l.val < 2
  · rw [dif_pos h, pad_apply_of_inside _ _ _ _ _ _ _ _ (ix3 p r (⟨l.val, h⟩ : Fin 2)) (by
      intro a
      match a with
      | ⟨0, _⟩ => show p.val = 0 + p.val * 1; omega
      | ⟨1, _⟩ => show r.val = 0 + r.val * 1; omega
      | ⟨2, _⟩ => show l.val = 0 + l.val * 1; omega)]
    pointwise
  · rw [dif_neg h, pad_apply_of_not_inside _ _ _ _ _ _ _ _ (2 : Fin 3) (by
      show ¬(0 ≤ l.val ∧ (l.val - 0) % 1 = 0 ∧ (l.val - 0) / 1 < 2)
      omega), padZero_eq]

/-- The pre-activations at an entry. -/
theorem gates_apply (fb : Vec Ideal S1x8192x8 .f32) (bf : Vec Ideal S1x8 .f32) (r : Fin 8192) (l : Fin 128) :
    gates fb bf (ix2 r l)
      = if h : l.val < 8 then fb (ix3 (0 : Fin 1) r (⟨l.val, h⟩ : Fin 8)) + bf (ix2 (0 : Fin 1) (⟨l.val, h⟩ : Fin 8))
        else (0 : EReal) := by
  unfold gates
  pointwise
  by_cases h : l.val < 8
  · rw [dif_pos h (c := l.val < 8) (t := fun h => fb (ix3 (0 : Fin 1) r (⟨l.val, h⟩ : Fin 8)) + bf (ix2 (0 : Fin 1) (⟨l.val, h⟩ : Fin 8)))]
    exact congrArg₂ (fun a b : EReal => a + b) (dif_pos h) (dif_pos h)
  · rw [dif_neg h (c := l.val < 8) (t := fun h => fb (ix3 (0 : Fin 1) r (⟨l.val, h⟩ : Fin 8)) + bf (ix2 (0 : Fin 1) (⟨l.val, h⟩ : Fin 8)))]
    exact (congrArg₂ (fun a b : EReal => a + b) ((dif_neg h).trans (padZero_eq _))
      ((dif_neg h).trans (padZero_eq _))).trans (add_zero 0)

/-- The array row that row `r` of grid point `t`'s block is: the blocks are visited from the last one back. -/
def rowAt (t : Fin cfg0.N) (r : Fin 512) : Fin 8192 :=
  ⟨512 * (15 - t.val) + r.val, by have := r.isLt; omega⟩

theorem index_facts : ∀ t : Fin cfg0.N, (win0_0.index t 0 = 0 ∧ win0_0.index t 1 = 15 - t.val ∧ win0_0.index t 2 = 0)
    ∧ (win0_1.index t 0 = 0 ∧ win0_1.index t 1 = 15 - t.val ∧ win0_1.index t 2 = 0)
    ∧ (win0_2.index t 0 = 15 - t.val ∧ win0_2.index t 1 = 0)
    ∧ (win0_3.index t 0 = 15 - t.val ∧ win0_3.index t 1 = 0) := by
  decide +kernel

theorem iblk0 (c : Dev nD) (t : Fin cfg0.N) (p : Fin 4) (r : Fin 512) (l : Fin 128) :
    iblk m c 0 t (ix3 p r l) = pairs (m ((c : Thread nD τ).loc main_arg2)) (ix3 p (rowAt t r) l) := by
  unfold iblk
  rw [View.read_apply]
  show V m c main_v8 _ = _
  rw [V_dcq]
  congr 1
  funext a
  apply Fin.ext
  have h := (index_facts t).1
  match a with
  | ⟨0, _⟩ => show win0_0.index t 0 * 4 + 1 * p.val = p.val; rw [h.1]; omega
  | ⟨1, _⟩ => show win0_0.index t 1 * 512 + 1 * r.val = 512 * (15 - t.val) + r.val; rw [h.2.1]; omega
  | ⟨2, _⟩ => show win0_0.index t 2 * 128 + 1 * l.val = l.val; rw [h.2.2]; omega

theorem iblk1 (c : Dev nD) (t : Fin cfg0.N) (p : Fin 4) (r : Fin 512) (l : Fin 128) :
    iblk m c 1 t (ix3 p r l) = pairs (m ((c : Thread nD τ).loc main_arg3)) (ix3 p (rowAt t r) l) := by
  unfold iblk
  rw [View.read_apply]
  show V m c main_v12 _ = _
  rw [V_dck]
  congr 1
  funext a
  apply Fin.ext
  have h := (index_facts t).2.1
  match a with
  | ⟨0, _⟩ => show win0_1.index t 0 * 4 + 1 * p.val = p.val; rw [h.1]; omega
  | ⟨1, _⟩ => show win0_1.index t 1 * 512 + 1 * r.val = 512 * (15 - t.val) + r.val; rw [h.2.1]; omega
  | ⟨2, _⟩ => show win0_1.index t 2 * 128 + 1 * l.val = l.val; rw [h.2.2]; omega

theorem iblk2 (c : Dev nD) (t : Fin cfg0.N) (r : Fin 512) (l : Fin 128) :
    iblk m c 2 t (ix2 r l)
      = gates (m ((c : Thread nD τ).loc main_arg0)) (m ((c : Thread nD τ).loc main_arg1)) (ix2 (rowAt t r) l) := by
  unfold iblk
  rw [View.read_apply]
  show V m c main_v4 _ = _
  rw [V_gates]
  congr 1
  funext a
  apply Fin.ext
  have h := (index_facts t).2.2.1
  match a with
  | ⟨0, _⟩ => show win0_2.index t 0 * 512 + 1 * r.val = 512 * (15 - t.val) + r.val; rw [h.1]; omega
  | ⟨1, _⟩ => show win0_2.index t 1 * 128 + 1 * l.val = l.val; rw [h.2]; omega

end Cert.KernelIdeal.FG

end
-- ==== Proof.FgMath.lean ====
/- The forget gate's derivative as a number, and the two spellings of it that meet: the kernel's quotient and the
   reference's exponential of a difference. -/
module

public import Idealize.ShloMosaic.Lib.Pointwise

@[expose] public section

noncomputable section

namespace Cert.FG

open Idealize.ShloMosaic

/-- The derivative of `log (sigmoid x)`: one minus the sigmoid, with its limits at the infinities. -/
def gateSlope : EReal → ℝ
  | ⊥ => 1
  | ⊤ => 0
  | (r : ℝ) => 1 / (1 + Real.exp r)

/-- A number divided by `1 + exp x` is the number times the slope. -/
theorem div_one_add_exp (g : ℝ) (x : EReal) :
    Ideal.div (g : EReal) (1 + Ideal.exp x) = ((g * gateSlope x : ℝ) : EReal) := by
  induction x with
  | bot =>
    show Ideal.div (g : EReal) (1 + 0) = ((g * 1 : ℝ) : EReal)
    rw [add_zero, show (1 : EReal) = ((1 : ℝ) : EReal) from rfl, Ideal.div_coe one_ne_zero]
    norm_num
  | top =>
    show Ideal.div (g : EReal) (1 + ⊤) = ((g * 0 : ℝ) : EReal)
    rw [EReal.add_top_of_ne_bot (by decide)]
    unfold Ideal.div
    rw [if_neg (by decide)]
    simp
  | coe r =>
    show Ideal.div (g : EReal) (1 + (Real.exp r : EReal)) = ((g * (1 / (1 + Real.exp r)) : ℝ) : EReal)
    rw [show (1 : EReal) + (Real.exp r : EReal) = ((1 + Real.exp r : ℝ) : EReal) by push_cast; rfl,
      Ideal.div_coe (by positivity), ← EReal.coe_mul]

theorem coe_max (a b : ℝ) : ((max a b : ℝ) : EReal) = max (a : EReal) (b : EReal) := EReal.coe_strictMono.monotone.map_max

theorem log_one : Ideal.log 1 = 0 := by
  rw [show (1 : EReal) = ((1 : ℝ) : EReal) from rfl, Ideal.log_coe, if_neg (by norm_num), Real.log_one]
  rfl

theorem exp_zero : Ideal.exp 0 = 1 := by
  rw [show (0 : EReal) = ((0 : ℝ) : EReal) from rfl, Ideal.exp_coe, Real.exp_zero]
  rfl

/-- The reference's softplus of `x`, as its operations compute it on one value. -/
def softplusRef (x : EReal) : EReal := max x 0 + Ideal.log1p (Ideal.exp (-(max (x - 0) (-(x - 0)))))

theorem softplusRef_coe (r : ℝ) : softplusRef (r : EReal) = ((max r 0 + Real.log (1 + Real.exp (-|r|)) : ℝ) : EReal) := by
  unfold softplusRef Ideal.log1p
  rw [sub_zero, show max (r : EReal) (-(r : EReal)) = ((|r| : ℝ) : EReal) by
    rw [← EReal.coe_neg, ← coe_max]; rfl, ← EReal.coe_neg, Ideal.exp_coe,
    show (1 : EReal) + (Real.exp (-|r|) : EReal) = ((1 + Real.exp (-|r|) : ℝ) : EReal) by push_cast; rfl, Ideal.log_coe,
    if_neg (by have := Real.exp_pos (-|r|); linarith), show (0 : EReal) = ((0 : ℝ) : EReal) from rfl, ← coe_max,
    ← EReal.coe_add]

theorem softplusRef_bot : softplusRef ⊥ = 0 := by
  unfold softplusRef Ideal.log1p
  simp [log_one]

theorem softplusRef_top : softplusRef ⊤ = ⊤ := by
  unfold softplusRef Ideal.log1p
  simp [log_one]

theorem exp_softplus (r : ℝ) : Real.exp (max r 0 + Real.log (1 + Real.exp (-|r|))) = 1 + Real.exp r := by
  rw [Real.exp_add, Real.exp_log (by positivity)]
  rcases le_total 0 r with h | h
  · rw [max_eq_left h, abs_of_nonneg h, mul_add, mul_one, ← Real.exp_add]
    simp [add_comm]
  · rw [max_eq_right h, abs_of_nonpos h]
    simp

/-- The reference's factor, with its own guards at the infinities: `exp (y − softplus y)` at `y = −x`. -/
def factorRef (x : EReal) : EReal :=
  Ideal.exp ((if -x = ⊤ then 0 else -x) - (if softplusRef (-x) = ⊤ then 0 else softplusRef (-x)))

theorem factorRef_eq (x : EReal) : factorRef x = ((gateSlope x : ℝ) : EReal) := by
  unfold factorRef
  induction x with
  | bot =>
    rw [EReal.neg_bot, softplusRef_top, if_pos rfl, sub_zero, exp_zero]
    rfl
  | top =>
    rw [EReal.neg_top, softplusRef_bot, if_neg (by decide), if_neg (by decide), sub_zero, Ideal.exp_bot]
    rfl
  | coe r =>
    rw [← EReal.coe_neg, softplusRef_coe, if_neg (EReal.coe_ne_top _), if_neg (EReal.coe_ne_top _), ← EReal.coe_sub,
      Ideal.exp_coe]
    show _ = ((1 / (1 + Real.exp r) : ℝ) : EReal)
    congr 1
    rw [Real.exp_sub, exp_softplus, Real.exp_neg]
    have := Real.exp_pos r
    field_simp
    ring

/-! ## The gate's gradient as numbers -/

/-- An array of one value per row and head. -/
abbrev Heads : Type := (⟨3, ![1, 8192, 8]⟩ : Shape).Idx → EReal

/-- A row of one value per head. -/
abbrev HeadRow : Type := (⟨2, ![1, 8]⟩ : Shape).Idx → EReal

/-- The cotangent of the cumulated gate at row `i`, head `h`; zero off the array. -/
def dcum (q k : Heads) (i h : ℕ) : ℝ :=
  if hh : i < 8192 ∧ h < 8 then
    (q (ix3 (0 : Fin 1) (⟨i, hh.1⟩ : Fin 8192) (⟨h, hh.2⟩ : Fin 8))
      - k (ix3 (0 : Fin 1) (⟨i, hh.1⟩ : Fin 8192) (⟨h, hh.2⟩ : Fin 8))).toReal
  else 0

/-- The gate's pre-activation at row `i`, head `h`; zero off the array. -/
def preact (fb : Heads) (bf : HeadRow) (i h : ℕ) : EReal :=
  if hh : i < 8192 ∧ h < 8 then
    fb (ix3 (0 : Fin 1) (⟨i, hh.1⟩ : Fin 8192) (⟨h, hh.2⟩ : Fin 8)) + bf (ix2 (0 : Fin 1) (⟨h, hh.2⟩ : Fin 8))
  else 0

/-- The cotangents at the rows from `i` on. -/
def tailSum (q k : Heads) (i h : ℕ) : ℝ := ∑ j ∈ Finset.Ico i 8192, dcum q k j h

/-- The gradient of the pre-activation at row `i`, head `h`. -/
def dgate (fb : Heads) (bf : HeadRow) (q k : Heads) (i h : ℕ) : ℝ := tailSum q k i h * gateSlope (preact fb bf i h)

/-- Both cotangents are numbers at every entry. -/
def Finite (q k : Heads) : Prop := ∀ j, (q j ≠ ⊤ ∧ q j ≠ ⊥) ∧ (k j ≠ ⊤ ∧ k j ≠ ⊥)

theorem Finite.sub_eq {q k : Heads} (hf : Finite q k) (i : Fin 8192) (h : Fin 8) :
    q (ix3 (0 : Fin 1) i h) - k (ix3 (0 : Fin 1) i h) = ((dcum q k i.val h.val : ℝ) : EReal) := by
  unfold dcum
  rw [dif_pos ⟨i.isLt, h.isLt⟩]
  obtain ⟨⟨h1, h2⟩, h3, h4⟩ := hf (ix3 (0 : Fin 1) i h)
  lift q (ix3 (0 : Fin 1) i h) to ℝ using ⟨h1, h2⟩ with x
  lift k (ix3 (0 : Fin 1) i h) to ℝ using ⟨h3, h4⟩ with y
  rfl

theorem dcum_of_le (q k : Heads) (i h : ℕ) (hh : 8 ≤ h) : dcum q k i h = 0 := dif_neg fun e => by omega

theorem tailSum_of_le (q k : Heads) (i h : ℕ) (hh : 8 ≤ h) : tailSum q k i h = 0 :=
  Finset.sum_eq_zero fun j _ => dcum_of_le q k j h hh

theorem dgate_of_le (fb : Heads) (bf : HeadRow) (q k : Heads) (i h : ℕ) (hh : 8 ≤ h) : dgate fb bf q k i h = 0 := by
  unfold dgate
  rw [tailSum_of_le q k i h hh, zero_mul]

/-- A sum of numbers read as extended numbers. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

end Cert.FG

end
-- ==== Proof.FgRun.lean ====
/- What the forget gate's backward call holds point by point: the carried row is the sum of the cotangents of the rows
   visited, the written block is the gate's gradient, and the accumulated row is its sum. -/
module

public import proofs.«01_k».proof.Proof.FgBlock
public import proofs.«01_k».proof.Proof.FgHost
public import proofs.«01_k».proof.Proof.FgMath
public import proofs.«01_k».proof.Proof.Gen.KernelIdeal.Value
public import Idealize.ShloMosaic.Lib.Pointwise
public import Idealize.ShloMosaic.Lib.Pipeline.ValueKit

@[expose] public section

set_option maxRecDepth 65536

noncomputable section

namespace Cert.KernelIdeal.FG

open Cert.FG Cert.KernelIdeal Cert.KernelIdeal.Gen Idealize.ShloMosaic Idealize.ShloMosaic.TcCoe Idealize.SL.Sem
open Idealize.ShloMosaic.Pipeline (Dat)

/-- A choice by the comparison of two small words is a choice by the comparison of their numbers. -/
theorem select_sge {α : Type} {x r : ℕ} (hx : x < 2 ^ 31) (hr : r < 2 ^ 31) (a b : α) :
    Scalar.select (IntOp.cmpi .sge (BitVec.ofNat 32 x) (BitVec.ofNat 32 r)) a b = if r ≤ x then a else b := by
  rw [WordCmp.cmpi_sge_ofNat hx hr]
  unfold Scalar.select
  by_cases h : r ≤ x <;> simp [h]

/-- The number of a row's tail, as the masked column sum. -/
theorem sum_tail (D : ℕ → ℝ) (r : ℕ) :
    (∑ x : Fin 512, if r ≤ x.val then ((D x.val : ℝ) : EReal) else 0) = ((∑ x ∈ Finset.Ico r 512, D x : ℝ) : EReal) := by
  rw [Fin.sum_univ_eq_sum_range (fun x => if r ≤ x then ((D x : ℝ) : EReal) else 0), ← Finset.sum_filter, coe_sum]
  refine Finset.sum_congr ?_ fun _ _ => rfl
  ext k
  simp only [Finset.mem_filter, Finset.mem_range, Finset.mem_Ico]
  omega

/-! ## One block, from numbers -/

section block

variable (x0 x1 : Vec Ideal S4x512x128 .f32) (x2 : Vec Ideal S512x128 .f32) (s a : Vec Ideal S8x128 .f32)
variable (D : ℕ → ℕ → ℝ) (X : ℕ → ℕ → EReal) (C A : ℕ → ℝ)

theorem rowOf_apply (l : Fin 128) : rowOf s (ix2 (0 : Fin 1) l) = s (ix2 (0 : Fin 8) l) := by
  unfold rowOf
  pointwise

theorem setRow_zero (w : Vec Ideal S1x128 .f32) (l : Fin 128) : setRow w s (ix2 (0 : Fin 8) l) = w (ix2 (0 : Fin 1) l) := by
  unfold setRow
  refine (if_pos rfl).trans (congrArg w (funext fun a => ?_))
  match a with
  | 0 => rfl
  | 1 => rfl

theorem setRow_ne (w : Vec Ideal S1x128 .f32) (r : Fin 8) (hr : r.val ≠ 0) (l : Fin 128) :
    setRow w s (ix2 r l) = s (ix2 r l) := if_neg hr

theorem carryB_row (hD : ∀ (r : Fin 512) (l : Fin 128), dcumB x0 x1 (ix2 r l) = ((D r.val l.val : ℝ) : EReal))
    (hC : ∀ l : Fin 128, s (ix2 (0 : Fin 8) l) = ((C l.val : ℝ) : EReal)) (l : Fin 128) :
    carryB x0 x1 s (ix2 (0 : Fin 8) l) = ((C l.val + ∑ x ∈ Finset.range 512, D x l.val : ℝ) : EReal) := by
  unfold dcumB at hD
  unfold carryB
  rw [setRow_zero]
  unfold k0_pay8
  pointwise
  rw [rowOf_apply, hC, Finset.sum_congr rfl fun x _ => hD x l,
    Fin.sum_univ_eq_sum_range (fun x => ((D x l.val : ℝ) : EReal)), ← coe_sum, ← EReal.coe_add]

theorem dfB_row (hD : ∀ (r : Fin 512) (l : Fin 128), dcumB x0 x1 (ix2 r l) = ((D r.val l.val : ℝ) : EReal))
    (hX : ∀ (r : Fin 512) (l : Fin 128), x2 (ix2 r l) = X r.val l.val)
    (hC : ∀ l : Fin 128, s (ix2 (0 : Fin 8) l) = ((C l.val : ℝ) : EReal)) (r : Fin 512) (l : Fin 128) :
    dfB x0 x1 x2 s (ix2 r l)
      = (((∑ x ∈ Finset.Ico r.val 512, D x l.val + C l.val) * gateSlope (X r.val l.val) : ℝ) : EReal) := by
  unfold dcumB at hD
  unfold dfB k0_pay9
  pointwise [k0_pay4]
  have e1 : ∀ x : Fin 512, ((D x.val l.val : ℝ) : EReal) - ((D x.val l.val : ℝ) : EReal) = 0 := fun x => by
    rw [← EReal.coe_sub, sub_self]; rfl
  have hr : ∀ x : Fin 512, x.val < 2 ^ 31 := fun x => by omega
  simp only [hD, e1, sub_zero, select_sge (hr _) (hr r), ite_self, Finset.sum_const_zero, add_zero, rowOf_apply, hC, hX]
  rw [sum_tail (fun x => D x l.val), ← EReal.coe_add, div_one_add_exp]

theorem dfOutB_eq : dfOutB x0 x1 x2 s = dfB x0 x1 x2 s := by
  funext i
  unfold dfOutB dfB k0_pay10
  rfl

theorem accB_row (G : ℕ → ℕ → ℝ)
    (hG : ∀ (r : Fin 512) (l : Fin 128), dfB x0 x1 x2 s (ix2 r l) = ((G r.val l.val : ℝ) : EReal))
    (hA : ∀ l : Fin 128, a (ix2 (0 : Fin 8) l) = ((A l.val : ℝ) : EReal)) (l : Fin 128) :
    accB x0 x1 x2 s a (ix2 (0 : Fin 8) l) = ((A l.val + ∑ x ∈ Finset.range 512, G x l.val : ℝ) : EReal) := by
  unfold accB
  rw [setRow_zero]
  unfold k0_pay1
  pointwise
  rw [rowOf_apply, hA, Finset.sum_congr rfl fun x _ => hG x l,
    Fin.sum_univ_eq_sum_range (fun x => ((G x l.val : ℝ) : EReal)), ← coe_sum, ← EReal.coe_add]

theorem accB_ne (r : Fin 8) (hr : r.val ≠ 0) (l : Fin 128) : accB x0 x1 x2 s a (ix2 r l) = a (ix2 r l) :=
  setRow_ne _ _ r hr l

/-- The packed cotangents of one pair of planes. -/
theorem planes_sub (q k : Vec Ideal S1x8192x8 .f32) (hf : Finite q k) (p : Fin 4) (r : Fin 8192) (l : Fin 128) :
    pairs q (ix3 p r l) - pairs k (ix3 p r l) = (((if l.val < 2 then dcum q k r.val (p.val * 2 + l.val) else 0) : ℝ) : EReal) := by
  rw [pairs_apply, pairs_apply]
  by_cases h : l.val < 2
  · rw [dif_pos h, dif_pos h, if_pos h]
    exact hf.sub_eq r ⟨p.val * 2 + l.val, by omega⟩
  · rw [dif_neg h, dif_neg h, if_neg h, sub_zero]
    rfl

theorem dcumB_of (q k : Vec Ideal S1x8192x8 .f32) (hf : Finite q k) (R : ℕ) (hR : R + 512 ≤ 8192)
    (h0 : ∀ (p : Fin 4) (r : Fin 512) (l : Fin 128), x0 (ix3 p r l) = pairs q (ix3 p (⟨R + r.val, by omega⟩ : Fin 8192) l))
    (h1 : ∀ (p : Fin 4) (r : Fin 512) (l : Fin 128), x1 (ix3 p r l) = pairs k (ix3 p (⟨R + r.val, by omega⟩ : Fin 8192) l))
    (r : Fin 512) (l : Fin 128) : dcumB x0 x1 (ix2 r l) = ((dcum q k (R + r.val) l.val : ℝ) : EReal) := by
  unfold dcumB planes3 plane3q plane3k
  unfold_payloads
  pointwise
  simp only [h0, h1, planes_sub q k hf]
  simp only [← EReal.coe_add, EReal.coe_eq_coe_iff]
  generalize R + r.val = n
  have e1 : ((1 : Fin 4) : ℕ) = 1 := rfl
  have e2 : ((2 : Fin 4) : ℕ) = 2 := rfl
  have e3 : ((3 : Fin 4) : ℕ) = 3 := rfl
  have hl := l.isLt
  simp only [e1, e2, e3, Fin.val_zero]
  by_cases h8 : 8 ≤ l.val
  · rw [if_neg (by omega), if_neg (by omega), if_neg (by omega), if_neg (by omega), dcum_of_le _ _ _ _ h8]
    norm_num
  · have : l.val < 2 ∨ (2 ≤ l.val ∧ l.val < 4) ∨ (4 ≤ l.val ∧ l.val < 6) ∨ (6 ≤ l.val ∧ l.val < 8) := by omega
    rcases this with h | h | h | h
    · rw [if_pos h, if_neg (by omega), if_neg (by omega), if_neg (by omega), show 0 * 2 + l.val = l.val by omega]
      norm_num
    · rw [if_neg (by omega), if_pos (by omega), if_neg (by omega), if_neg (by omega),
        show 1 * 2 + (l.val + 128 - 2) % 128 = l.val by omega]
      norm_num
    · rw [if_neg (by omega), if_neg (by omega), if_pos (by omega), if_neg (by omega),
        show 2 * 2 + (l.val + 128 - 4) % 128 = l.val by omega]
      norm_num
    · rw [if_neg (by omega), if_neg (by omega), if_neg (by omega), if_pos (by omega),
        show 3 * 2 + (l.val + 128 - 6) % 128 = l.val by omega]
      norm_num

end block

/-! ## The points in order -/

section run

variable (m : (ℓ : Loc nD τ sig) → Buf (Elt Ideal) ℓ) (c : Dev nD)

/-- The gate's pre-activations before the bias. -/
abbrev argF : Vec Ideal S1x8192x8 .f32 := m ((c : Thread nD τ).loc main_arg0)
/-- The gate's bias. -/
abbrev argB : Vec Ideal S1x8 .f32 := m ((c : Thread nD τ).loc main_arg1)
/-- The query side's cotangents. -/
abbrev argQ : Vec Ideal S1x8192x8 .f32 := m ((c : Thread nD τ).loc main_arg2)
/-- The key side's cotangents. -/
abbrev argK : Vec Ideal S1x8192x8 .f32 := m ((c : Thread nD τ).loc main_arg3)

/-- The first row of point `t`'s tile. -/
def base (t : ℕ) : ℕ := 512 * (15 - t)

theorem base_le (t : ℕ) : base t + 512 ≤ 8192 := by unfold base; omega

/-- The gate's gradient at row `i`, lane `l`. -/
abbrev gradAt (i l : ℕ) : ℝ := dgate (argF m c) (argB m c) (argQ m c) (argK m c) i l

/-- What point `t` leaves, as numbers. -/
structure State (t : ℕ) (o : Vec Ideal S512x128 .bf16 × Vec Ideal S8x128 .f32 × Vec Ideal S8x128 .f32) : Prop where
  rows : ∀ (r : Fin 512) (l : Fin 128), o.1 (ix2 r l) = ((gradAt m c (base t + r.val) l.val : ℝ) : EReal)
  total : ∀ l : Fin 128, o.2.1 (ix2 (0 : Fin 8) l) = ((∑ j ∈ Finset.Ico (base t) 8192, gradAt m c j l.val : ℝ) : EReal)
  rest : ∀ (r : Fin 8) (l : Fin 128), r.val ≠ 0 → o.2.1 (ix2 r l) = (0 : EReal)
  carry : ∀ l : Fin 128, o.2.2 (ix2 (0 : Fin 8) l) = ((tailSum (argQ m c) (argK m c) (base t) l.val : ℝ) : EReal)

theorem zero_pay2 (i : S8x128.Idx) : k0_pay2 (F := Ideal) i = (0 : EReal) := Ideal.ofBits_zero_f32
theorem zero_pay3 (i : S8x128.Idx) : k0_pay3 (F := Ideal) i = (0 : EReal) := Ideal.ofBits_zero_f32

theorem dcum_block (hf : Finite (argQ m c) (argK m c)) (t : Fin cfg0.N) (r : Fin 512) (l : Fin 128) :
    dcumB (iblk m c 0 t) (iblk m c 1 t) (ix2 r l) = ((dcum (argQ m c) (argK m c) (base t.val + r.val) l.val : ℝ) : EReal) :=
  dcumB_of _ _ _ _ hf (base t.val) (base_le t.val) (fun p r l => iblk0 m c t p r l) (fun p r l => iblk1 m c t p r l) r l

/-- The slope at a lane without a head does not matter: the pre-activation there is zero. -/
theorem gate_block (t : Fin cfg0.N) (r : Fin 512) (l : Fin 128) :
    iblk m c 2 t (ix2 r l) = preact (argF m c) (argB m c) (base t.val + r.val) l.val := by
  rw [iblk2, gates_apply]
  unfold preact
  have hr : base t.val + r.val < 8192 := by have := base_le t.val; omega
  by_cases h : l.val < 8
  · rw [dif_pos h, dif_pos ⟨hr, h⟩]
    rfl
  · rw [dif_neg h, dif_neg fun e => h e.2]

theorem sum_shift (f : ℕ → ℝ) (b r : ℕ) (hr : r ≤ 512) :
    ∑ x ∈ Finset.Ico r 512, f (b + x) + ∑ j ∈ Finset.Ico (b + 512) 8192, f j
      = ∑ j ∈ Finset.Ico (b + r) (b + 512), f j + ∑ j ∈ Finset.Ico (b + 512) 8192, f j := by
  rw [Finset.sum_Ico_add f r 512 b, Nat.add_comm r b, Nat.add_comm 512 b]

theorem sum_tile (f : ℕ → ℝ) (b : ℕ) (hb : b + 512 ≤ 8192) :
    ∑ j ∈ Finset.Ico (b + 512) 8192, f j + ∑ x ∈ Finset.range 512, f (b + x) = ∑ j ∈ Finset.Ico b 8192, f j := by
  rw [← Finset.sum_Ico_consecutive f (Nat.le_add_right b 512) hb, Finset.sum_Ico_eq_sum_range f b (b + 512),
    Nat.add_sub_cancel_left, add_comm]

/-- One point over numbers: from the rows after the tile to the tile's. -/
theorem step (hf : Finite (argQ m c) (argK m c)) (t : Fin cfg0.N) (s a : Vec Ideal S8x128 .f32)
    (hs : ∀ l : Fin 128, s (ix2 (0 : Fin 8) l) = ((tailSum (argQ m c) (argK m c) (base t.val + 512) l.val : ℝ) : EReal))
    (ha : ∀ l : Fin 128, a (ix2 (0 : Fin 8) l) = ((∑ j ∈ Finset.Ico (base t.val + 512) 8192, gradAt m c j l.val : ℝ) : EReal))
    (hz : ∀ (r : Fin 8) (l : Fin 128), r.val ≠ 0 → a (ix2 r l) = (0 : EReal)) :
    State m c t.val (dfOutB (iblk m c 0 t) (iblk m c 1 t) (iblk m c 2 t) s,
      accB (iblk m c 0 t) (iblk m c 1 t) (iblk m c 2 t) s a, carryB (iblk m c 0 t) (iblk m c 1 t) s) := by
  have hb := base_le t.val
  have hrow : ∀ (r : Fin 512) (l : Fin 128), dfB (iblk m c 0 t) (iblk m c 1 t) (iblk m c 2 t) s (ix2 r l)
      = ((gradAt m c (base t.val + r.val) l.val : ℝ) : EReal) := fun r l => by
    rw [dfB_row _ _ _ _ (fun r l => dcum (argQ m c) (argK m c) (base t.val + r) l)
      (fun r l => preact (argF m c) (argB m c) (base t.val + r) l)
      (fun l => tailSum (argQ m c) (argK m c) (base t.val + 512) l) (dcum_block m c hf t) (gate_block m c t) hs r l]
    unfold gradAt dgate tailSum
    rw [sum_shift (fun j => dcum (argQ m c) (argK m c) j l.val) _ _ (by omega),
      Finset.sum_Ico_consecutive _ (by omega) (by omega)]
  refine ⟨fun r l => ?_, fun l => ?_, fun r l hr => ?_, fun l => ?_⟩
  · rw [dfOutB_eq]
    exact hrow r l
  · refine (accB_row _ _ _ _ _ (fun l => ∑ j ∈ Finset.Ico (base t.val + 512) 8192, gradAt m c j l)
      (fun r l => gradAt m c (base t.val + r) l) hrow ha l).trans ?_
    exact congrArg _ (sum_tile (fun j => gradAt m c j l.val) _ hb)
  · exact (accB_ne _ _ _ _ _ r hr l).trans (hz r l hr)
  · refine (carryB_row _ _ _ (fun r l => dcum (argQ m c) (argK m c) (base t.val + r) l)
      (fun l => tailSum (argQ m c) (argK m c) (base t.val + 512) l) (dcum_block m c hf t) hs l).trans ?_
    exact congrArg _ (sum_tile (fun j => dcum (argQ m c) (argK m c) j l.val) _ hb)

theorem state (hf : Finite (argQ m c) (argK m c)) : ∀ (n : ℕ) (hn : n < cfg0.N), State m c n (outsAt0 m c n hn)
  | 0, hn => by
    have e := outsAt0_A m c ⟨0, hn⟩ rfl
    rw [outA_3, outA_4, soutA_0] at e
    rw [show outsAt0 m c 0 hn = _ from e]
    have h512 : base 0 + 512 = 8192 := rfl
    refine step m c hf ⟨0, hn⟩ _ _ (fun l => ?_) (fun l => ?_) fun r l _ => zero_pay3 _
    · show _ = ((tailSum _ _ (base 0 + 512) _ : ℝ) : EReal)
      rw [zero_pay2, h512]
      unfold tailSum
      rw [Finset.Ico_self, Finset.sum_empty]
      rfl
    · show _ = ((∑ j ∈ Finset.Ico (base 0 + 512) 8192, _ : ℝ) : EReal)
      rw [zero_pay3, h512, Finset.Ico_self, Finset.sum_empty]
      rfl
  | n + 1, hn => by
    have hN : n + 1 < 16 := hn
    have e := outsAt0_B m c ⟨n + 1, hn⟩ (by show ¬(n + 1) % 16 = 0; omega)
    rw [outB_3, outB_4, soutB_0] at e
    rw [show outsAt0 m c (n + 1) hn = _ from e]
    have hb : base (n + 1) + 512 = base n := by unfold base; omega
    have ih := state hf n (Nat.lt_of_succ_lt hn)
    refine step m c hf ⟨n + 1, hn⟩ _ _ (fun l => ?_) (fun l => ?_) fun r l hr => ih.rest r l hr
    · show _ = ((tailSum _ _ (base (n + 1) + 512) _ : ℝ) : EReal)
      rw [hb]
      exact ih.carry l
    · show _ = ((∑ j ∈ Finset.Ico (base (n + 1) + 512) 8192, _ : ℝ) : EReal)
      rw [hb]
      exact ih.total l

/-! ## The arrays after the run -/

theorem mem_blk3 (t : Fin cfg0.N) (r : Fin 512) (l : Fin 128) :
    ((cfg0.win 3).blk t).view.emb (ix2 r l : S512x128.Idx) = (ix2 (rowAt t r) l : S8192x128.Idx) := by
  funext a
  apply Fin.ext
  have h := (index_facts t).2.2.2
  match a with
  | ⟨0, _⟩ => show win0_3.index t 0 * 512 + 1 * r.val = 512 * (15 - t.val) + r.val; rw [h.1]; omega
  | ⟨1, _⟩ => show win0_3.index t 1 * 128 + 1 * l.val = l.val; rw [h.2]; omega

theorem flush3 : ∀ t : Fin cfg0.N, (cfg0.win 3).flush t = true := by decide +kernel

theorem rows_after (hf : Finite (argQ m c) (argK m c)) (i : Fin 8192) (l : Fin 128) :
    ((dats m 0 c).arrAt 3 cfg0.N : Vec Ideal S8192x128 .bf16) (ix2 i l) = ((gradAt m c i.val l.val : ℝ) : EReal) := by
  let t : Fin cfg0.N := ⟨15 - i.val / 512, by show _ < 16; omega⟩
  let r : Fin 512 := ⟨i.val % 512, by omega⟩
  have hi : rowAt t r = i := Fin.ext (by show 512 * (15 - (15 - i.val / 512)) + i.val % 512 = i.val; omega)
  have h := (dats m 0 c).arrAt_emb_eq_flushed 3 Value.disjoint3 t (flush3 t) (ix2 r l : S512x128.Idx)
  rw [mem_blk3, hi] at h
  refine h.trans ?_
  rw [Value.flushed3]
  refine ((state m c hf t.val t.isLt).rows r l).trans ?_
  rw [show base t.val + r.val = i.val from congrArg Fin.val hi]

theorem total_after (hf : Finite (argQ m c) (argK m c)) (r : Fin 8) (l : Fin 128) :
    ((dats m 0 c).arrAt 4 cfg0.N : Vec Ideal S8x128 .f32) (ix2 r l)
      = if r.val = 0 then ((∑ j ∈ Finset.range 8192, gradAt m c j l.val : ℝ) : EReal) else 0 := by
  have h : (dats m 0 c).arrAt 4 cfg0.N = (outsAt0 m c 15 (by decide)).2.1 := by
    refine (dats m 0 c).arrAt_eq_of_after_last 4 t0_15 (by decide +kernel) _ fun j => ?_
    blk_simp
    rw [after0_4]
    rfl
  rw [h]
  have st := state m c hf 15 (by decide)
  split_ifs with hr
  · have : r = 0 := Fin.ext hr
    subst this
    refine (st.total l).trans ?_
    rw [show base 15 = 0 from rfl, ← Finset.range_eq_Ico]
  · exact st.rest r l hr

end run

end Cert.KernelIdeal.FG
-- ==== Proof.FgRef.lean ====
/- What the forget gate's reference leaves: the reversed cumulative sum of the cotangents times the gate's slope, and
   its sum over the rows. -/
module

public import proofs.«01_k».proof.Proof.FgMath
public import proofs.«01_k».proof.Proof.Gen.ReferenceIdeal.Read
public import Idealize.ShloMosaic.Lib.KernelVsHost

@[expose] public section

set_option maxRecDepth 65536

noncomputable section

namespace Cert.ReferenceIdeal.FG

open Cert.FG Cert.ReferenceIdeal Cert.ReferenceIdeal.Gen Cert.ReferenceIdeal.Read Idealize.ShloMosaic
open Idealize.ShloMosaic.TcCoe Idealize.SL.Sem

/-- The reference's derivative of the log-sigmoid is the slope. -/
theorem factor_eq (x0 : Vec Ideal S1x8192x8 .f32) (x1 : Vec Ideal S1x8 .f32) (i : S1x8192x8.Idx) :
    val_main_v4_1 (F := Ideal) x0 x1 i = ((gateSlope (val_main_v3 (F := Ideal) x0 x1 i) : ℝ) : EReal) := by
  rw [← factorRef_eq]
  have hinf : (FloatOps.ofBits (F := Ideal) .f32 0x7F800000#32 : EReal) = ⊤ := by
    simp [FloatOps.ofBits, Ideal.ofBits, Ideal.ieee]
  have hzero : (FloatOps.ofBits (F := Ideal) .f32 0x00000000#32 : EReal) = 0 := Ideal.ofBits_zero_f32
  simp only [val_main_v4_1_apply, val_main_call0_call0_v21_apply, val_main_call0_call0_v16_apply,
    val_main_call0_call0_v14_apply, val_main_call0_call0_v13_apply, val_main_call0_call0_cst_0_apply,
    val_main_call0_call0_v15_apply, val_main_call0_call0_cst_1_apply, val_main_call0_v0_apply,
    val_main_call0_call0_v20_apply, val_main_call0_call0_v18_apply, val_main_call0_call0_v17_apply,
    val_main_call0_call0_cst_2_apply, val_main_call0_call0_v19_apply, val_main_call0_call0_cst_3_apply,
    val_main_call0_v1_0_apply, val_main_call0_call0_v11_apply, val_main_call0_call0_v10_apply,
    val_main_call0_call0_v9_apply, val_main_call0_call0_v8_apply, val_main_call0_call0_v7_apply,
    val_main_call0_call0_v6_apply, val_main_call0_call0_v4_apply, val_main_call0_call0_v3_apply,
    val_main_call0_call0_v2_apply, val_main_call0_call0_v1_apply, val_main_call0_call0_v0_apply,
    val_main_call0_call0_cst_apply, val_main_call0_call0_v5_apply]
  generalize val_main_v3 (F := Ideal) x0 x1 i = x
  pointwise [hinf, hzero]
  simp only [factorRef, softplusRef, sub_zero, ne_eq, not_true_eq_false, if_false]
  rfl

theorem foldl_add {ι : Type*} (g : ι → EReal) : ∀ (l : List ι) (v : EReal),
    l.foldl (fun r n => r + g n) v = v + (l.map g).sum
  | [], v => by simp
  | a :: l, v => by simp [foldl_add g l, add_assoc]

/-- A reversed cumulative sum along the middle axis: row `i` holds the sum of the rows from `i` on. -/
theorem rev_cumsum {n m : ℕ} {u : Shape} (hi : Fin 3 → ℕ) (x : FVec Ideal ⟨3, ![1, n, m]⟩ .f32) (z : u.Idx → Ideal .f32)
    (hw : (⟨3, ![1, n, m]⟩ : Shape).ReduceWindows (![1, n, 1] : Fin 3 → ℕ) ![1, 1, 1] ![0, 0, 0] hi ⟨3, ![1, n, m]⟩)
    (hu : 0 < u.numel) (hz : z (Shape.Idx.first hu) = (0 : EReal)) (X : ℕ → ℕ → ℝ)
    (hx : ∀ (r : Fin n) (h : Fin m), x (ix3 (0 : Fin 1) r h) = ((X r.val h.val : ℝ) : EReal)) (i : Fin n) (h : Fin m) :
    Host.reduceWindowAdd (F := Ideal) (![1, n, 1] : Fin 3 → ℕ) ![1, 1, 1] ![0, 0, 0] hi x z hw hu (ix3 (0 : Fin 1) i h)
      = ((∑ j ∈ Finset.Ico i.val n, X j h.val : ℝ) : EReal) := by
  show Ideal.hostReduceWindowAdd _ _ _ _ hw x (z (Shape.Idx.first hu)) _ = _
  rw [hz]
  unfold Ideal.hostReduceWindowAdd Host.reduceWindow
  refine (foldl_add _ _ _).trans ?_
  rw [← Fin.sum_univ_def, zero_add]
  let W : Shape := ⟨3, ![1, n, 1]⟩
  let p : W.Idx → Fin 3 → ℕ := fun w a => ((ix3 (0 : Fin 1) i h : (⟨3, ![1, n, m]⟩ : Shape).Idx) (a.cast hw.1.symm)).val * (![1, 1, 1] : Fin 3 → ℕ) a + (w a).val
  let g : W.Idx → EReal := fun w =>
    if hin : ∀ a, (![0, 0, 0] : Fin 3 → ℕ) a ≤ p w a ∧ p w a - (![0, 0, 0] : Fin 3 → ℕ) a < (⟨3, ![1, n, m]⟩ : Shape).size a then
      x (fun a => ⟨p w a - (![0, 0, 0] : Fin 3 → ℕ) a, (hin a).2⟩) else 0
  refine (Finset.sum_congr rfl fun k _ => (?_ : _ = g (W.rowMajor.symm k))).trans ?_
  · by_cases hin : ∀ a, (![0, 0, 0] : Fin 3 → ℕ) a ≤ p (W.rowMajor.symm k) a
        ∧ p (W.rowMajor.symm k) a - (![0, 0, 0] : Fin 3 → ℕ) a < (⟨3, ![1, n, m]⟩ : Shape).size a
    · have e : g (W.rowMajor.symm k) = _ := dif_pos hin
      rw [e]
      exact dif_pos hin
    · have e : g (W.rowMajor.symm k) = _ := dif_neg hin
      rw [e]
      exact dif_neg hin
  refine (Equiv.sum_comp W.rowMajor.symm g).trans ?_
  have hb : Function.Bijective (fun k : Fin n => (ix3 (0 : Fin 1) k (0 : Fin 1) : W.Idx)) := by
    constructor
    · intro k k' e
      exact congrFun e 1
    · intro w
      refine ⟨w 1, ?_⟩
      funext a
      match a with
      | 0 => exact Fin.ext ((Nat.lt_one_iff.mp (w 0).isLt).symm)
      | 1 => rfl
      | 2 => exact Fin.ext ((Nat.lt_one_iff.mp (w 2).isLt).symm)
  rw [← hb.sum_comp g, coe_sum]
  have hg : ∀ k : Fin n, g (ix3 (0 : Fin 1) k (0 : Fin 1)) = if i.val + k.val < n then ((X (i.val + k.val) h.val : ℝ) : EReal) else 0 := by
    intro k
    by_cases hk : i.val + k.val < n
    · rw [if_pos hk]
      refine (dif_pos ?_).trans ?_
      · intro a
        match a with
        | 0 => exact ⟨Nat.zero_le _, by show 0 * 1 + 0 - 0 < 1; omega⟩
        | 1 => exact ⟨Nat.zero_le _, by show i.val * 1 + k.val - 0 < n; omega⟩
        | 2 => exact ⟨Nat.zero_le _, by show h.val * 1 + 0 - 0 < m; omega⟩
      · rw [← hx ⟨i.val + k.val, hk⟩ h]
        refine congrArg x (funext fun a => ?_)
        match a with
        | 0 => exact Fin.ext (by show 0 * 1 + 0 - 0 = 0; omega)
        | 1 => exact Fin.ext (by show i.val * 1 + k.val - 0 = i.val + k.val; omega)
        | 2 => exact Fin.ext (by show h.val * 1 + 0 - 0 = h.val; omega)
    · rw [if_neg hk]
      refine dif_neg fun hin => hk ?_
      have h1 : i.val * 1 + k.val - 0 < n := (hin 1).2
      omega
  rw [Finset.sum_congr rfl fun k _ => hg k, Finset.sum_Ico_eq_sum_range,
    Fin.sum_univ_eq_sum_range (fun k => if i.val + k < n then ((X (i.val + k) h.val : ℝ) : EReal) else 0) n]
  rw [← Finset.sum_filter]
  refine Finset.sum_congr ?_ fun _ _ => rfl
  ext k
  simp only [Finset.mem_filter, Finset.mem_range]
  omega

variable (x0 : Vec Ideal S1x8192x8 .f32) (x1 : Vec Ideal S1x8 .f32) (x2 x3 : Vec Ideal S1x8192x8 .f32)

theorem preact_eq (i : Fin 8192) (h : Fin 8) :
    val_main_v3 (F := Ideal) x0 x1 (ix3 (0 : Fin 1) i h) = preact x0 x1 i.val h.val := by
  rw [val_main_v3_apply]
  unfold preact
  rw [dif_pos ⟨i.isLt, h.isLt⟩]
  unfold val_main_v2 val_main_v1 val_main_v0
  pointwise

theorem grad_eq (hf : Finite x2 x3) (i : Fin 8192) (h : Fin 8) :
    val_main_v10 (F := Ideal) x0 x1 x2 x3 (ix3 (0 : Fin 1) i h) = ((dgate x0 x1 x2 x3 i.val h.val : ℝ) : EReal) := by
  have h9 : val_main_v9 (F := Ideal) x2 x3 (ix3 (0 : Fin 1) i h) = ((tailSum x2 x3 i.val h.val : ℝ) : EReal) := by
    have hz : val_main_call2_call0_v0 (F := Ideal) (Shape.Idx.first h_S_) = (0 : EReal) := Ideal.ofBits_zero_f32
    have hx : ∀ (r : Fin 8192) (h' : Fin 8),
        val_main_v8 (F := Ideal) x2 x3 (ix3 (0 : Fin 1) r h') = ((dcum x2 x3 r.val h'.val : ℝ) : EReal) := fun r h' => by
      rw [← hf.sub_eq r h', val_main_v8_apply, val_main_v7_apply]
      exact (sub_eq_add_neg _ _).symm
    unfold val_main_v9
    exact rev_cumsum ![0, 8191, 0] (val_main_v8 (F := Ideal) x2 x3) (val_main_call2_call0_v0 (F := Ideal))
      reduceWindows_S1x8192x8_S1x8192x8_w1s1p0_0_w8192s1p0_8191_w1s1p0_0 h_S_ hz (dcum x2 x3) hx i h
  rw [val_main_v10_apply, val_main_call3_v1_apply, val_main_call3_v0_apply, factor_eq, preact_eq, h9]
  unfold dgate
  show -(-((tailSum x2 x3 i.val h.val : ℝ) : EReal) * ((gateSlope (preact x0 x1 i.val h.val) : ℝ) : EReal)) = _
  rw [neg_mul, neg_neg, EReal.coe_mul]

/-- A sum over two axes of one entry each. -/
theorem only_sum (x : Vec Ideal S1x1x8 .f32) (z : EReal) (hz : z = 0) (l : Fin 8) :
    Ideal.hostReduceAdd reducesTo_S1x1x8_S8_d0_1 x z (ix1 l) = x (ix3 (0 : Fin 1) (0 : Fin 1) l) := by
  subst hz
  unfold Ideal.hostReduceAdd
  rw [zero_add]
  have hd : ∀ i : S1x1x8.Idx, (reducesTo_S1x1x8_S8_d0_1.drop i 0).val = (i 2).val := fun i =>
    Shape.ReducesTo.drop_apply_val_of_eq _ i 0 2
  rw [Finset.sum_eq_single_of_mem (ix3 (0 : Fin 1) (0 : Fin 1) l)]
  · refine Finset.mem_filter.mpr ⟨Finset.mem_univ _, funext fun a => ?_⟩
    match a with
    | 0 => exact Fin.ext (hd _)
  · intro i hi hne
    refine absurd (funext fun a => ?_) hne
    have h2 : (i 2).val = l.val := by rw [← hd i, (Finset.mem_filter.mp hi).2]; rfl
    match a with
    | 0 => exact Fin.ext (by exact Nat.lt_one_iff.mp (i 0).isLt)
    | 1 => exact Fin.ext (by exact Nat.lt_one_iff.mp (i 1).isLt)
    | 2 => exact Fin.ext h2

theorem padRows_zero : val_main_call4_v0 (F := Ideal) (Shape.Idx.first h_S_) = (0 : EReal) := by
  have h : FloatOps.sitofp (F := Ideal) .f32 (0#32) = (0 : EReal) := by simp [FloatOps.sitofp]
  exact h

theorem padSum_zero : val_main_call5_v0 (F := Ideal) (Shape.Idx.first h_S_) = (0 : EReal) := by
  have h : FloatOps.sitofp (F := Ideal) .f32 (0#32) = (0 : EReal) := by simp [FloatOps.sitofp]
  exact h

theorem res_rows (hf : Finite x2 x3) (i : Fin 8192) (l : Fin 128) :
    val_main_v17 (F := Ideal) x0 x1 x2 x3 (ix2 i l) = ((dgate x0 x1 x2 x3 i.val l.val : ℝ) : EReal) := by
  rw [val_main_v17_apply]
  unfold val_main_v16 val_main_v15
  pointwise
  by_cases h : l.val < 8
  · rw [dif_pos h]
    exact grad_eq x0 x1 x2 x3 hf i ⟨l.val, h⟩
  · rw [dif_neg h, dgate_of_le _ _ _ _ _ _ (by omega)]
    exact padRows_zero

theorem idx_v11 (l : Fin 8) (k : Fin 8192) : idx_main_v11 (ix2 (0 : Fin 1) l) k = ix3 (0 : Fin 1) k l := by
  funext a
  match a with
  | 0 => rfl
  | 1 => rfl
  | 2 => rfl

theorem res_sum (hf : Finite x2 x3) (r : Fin 8) (l : Fin 128) :
    val_main_v18 (F := Ideal) x0 x1 x2 x3 (ix2 r l)
      = if r.val = 0 then ((∑ j ∈ Finset.range 8192, dgate x0 x1 x2 x3 j l.val : ℝ) : EReal) else 0 := by
  unfold val_main_v18 val_main_v14 val_main_v13 val_main_v12
  pointwise
  by_cases h : r.val < 1 ∧ l.val < 8
  · rw [dif_pos h, if_pos (by omega)]
    refine (only_sum _ _ ?_ _).trans ?_
    · exact Ideal.ofBits_zero_f32
    · pointwise
      rw [val_main_v11_apply]
      have e : ∀ k : Fin 8192, val_main_v10 (F := Ideal) x0 x1 x2 x3 (idx_main_v11 (ix2 (0 : Fin 1) (⟨l.val, h.2⟩ : Fin 8)) k)
          = ((dgate x0 x1 x2 x3 k.val l.val : ℝ) : EReal) := fun k => by
        rw [idx_v11, grad_eq x0 x1 x2 x3 hf]
      rw [Finset.sum_congr rfl fun k _ => e k, Fin.sum_univ_eq_sum_range (fun k => ((dgate x0 x1 x2 x3 k l.val : ℝ) : EReal)),
        coe_sum]
      exact (congrArg (· + _) Ideal.ofBits_zero_f32).trans (zero_add _)
  · rw [dif_neg h]
    refine padSum_zero.trans ?_
    split_ifs with hr
    · rw [Finset.sum_eq_zero fun j _ => dgate_of_le _ _ _ _ _ _ (by omega)]
      rfl
    · rfl

end Cert.ReferenceIdeal.FG

end
-- ==== Proof.FgClaim.lean ====
/- The forget gate's backward call against its reference: both leave the gate's gradient and its sum. -/
module

public import proofs.«01_k».proof.Defs
public import proofs.«01_k».proof.Proof.FgRun
public import proofs.«01_k».proof.Proof.FgRef
public import proofs.«01_k».proof.Proof.Gen.Pre_finite
public import Idealize.ShloMosaic.Lib.Claim

@[expose] public section

set_option maxRecDepth 65536

noncomputable section

namespace Cert.FG

open Idealize.ShloMosaic Idealize.SL.Sem Idealize.ShloMosaic.TcCoe

/-- A number whose size is below infinity is neither infinity. -/
theorem lt_inf {x : EReal} (h : FloatOps.cmpf (F := Ideal) (φ := .f32) .olt (FloatOps.hostAbsf (F := Ideal) (φ := .f32) x)
    (FloatOps.ofBits (F := Ideal) .f32 0x7F800000#32) = 1#1) : x ≠ ⊤ ∧ x ≠ ⊥ := by
  have hinf : (FloatOps.ofBits (F := Ideal) .f32 0x7F800000#32 : EReal) = ⊤ := by
    simp [FloatOps.ofBits, Ideal.ofBits, Ideal.ieee]
  rw [hinf] at h
  constructor
  · rintro rfl
    revert h
    simp [FloatOps.cmpf, FloatOps.hostAbsf, Ideal.cmp]
  · rintro rfl
    revert h
    simp [FloatOps.cmpf, FloatOps.hostAbsf, Ideal.cmp]

theorem finite_of {q k : Heads} {fb : Heads} {bf : HeadRow}
    (h : Cert.Pre_finite.fn (F := Ideal) fb bf q k = fun _ => 1#1) : Finite q k := by
  intro j
  have hj := congrFun h j
  unfold Cert.Pre_finite.fn at hj
  dsimp only at hj
  obtain ⟨hq, hk⟩ := IntOp.andi_eq_one.1 hj
  exact ⟨lt_inf hq, lt_inf hk⟩

theorem algebraic : Cert.algebraic_KernelIdeal_ReferenceIdeal_pre_finite := by
  intro m g m' g' hpre hagree
  have hf : ∀ c, Finite (KernelIdeal.FG.argQ m c) (KernelIdeal.FG.argK m c) := fun c => finite_of (hpre c)
  refine ⟨_, _, (θ_run Cert.KernelIdeal.defs _ _).mono (fun r h c => h c) (Cert.KernelIdeal.Value.run_blocks m g), ?_⟩
  refine (θ_run Cert.ReferenceIdeal.defs _ _).mono (fun r h c => ?_) (Cert.ReferenceIdeal.Value.run (F := Ideal) m' g')
  obtain ⟨h17, h18, hargs⟩ := h c
  obtain ⟨a0, a1, a2, a3⟩ := hagree c
  refine ⟨h17.trans ?_, h18.trans ?_, hargs⟩
  · rw [Cert.ReferenceIdeal.Read.val_main_v17_eq, a0, a1, a2, a3]
    funext j
    rw [ValueIdx.eq_ix2 j]
    exact (Cert.ReferenceIdeal.FG.res_rows _ _ _ _ (hf c) _ _).trans (Cert.KernelIdeal.FG.rows_after m c (hf c) _ _).symm
  · rw [Cert.ReferenceIdeal.Read.val_main_v18_eq, a0, a1, a2, a3]
    funext j
    rw [ValueIdx.eq_ix2 j]
    exact (Cert.ReferenceIdeal.FG.res_sum _ _ _ _ (hf c) _ _).trans (Cert.KernelIdeal.FG.total_after m c (hf c) _ _).symm

end Cert.FG

end
-- ==== Proof.FoxBody.lean ====
module

public import proofs.«01_k».proof.Proof.Gen.Kernel2Ideal.Frame
public import proofs.«01_k».proof.Proof.Gen.Kernel2Ideal.Loops
public import proofs.«01_k».proof.Proof.Gen.Kernel2
public import proofs.«01_k».proof.Proof.Gen.Reference2Ideal.Run
public import proofs.«01_k».proof.Proof.Gen.Reference2Ideal.Read
public import proofs.«01_k».proof.Proof.Gen.Pre_fox_finite

@[expose] public section
-- ==== Proof.FoxRun.lean ====
module

public import proofs.«01_k».proof.Proof.FoxBody
public import Idealize.ShloMosaic.Lib.VecWindow

@[expose] public section

/-! # The body of the forget-gate attention's backward kernel, run once

`run` executes the body at any grid point and finds what it leaves in its buffers: the gradients of the point's block of
keys and values, the running gradient of the head pair's queries, and, at a head pair's last point, the queries' gradients. -/

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S4x16 .i32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x512x128 .f32) (harg9 : arg9.IsWhole) (arg10 : Memref sig .tc .vmem S8192x128 .bf16) (harg10 : arg10.IsWhole) (arg11 : Memref sig .tc .vmem S1x8192x128 .f32) (harg11 : arg11.IsWhole) (arg12 : Memref sig .tc .vmem S8192x256 .f32) (harg12 : arg12.IsWhole)

theorem chk (t : Fin cfg0.N) : k0_chk1 (grid0.coords t) 15#32 := by
  revert t; decide +kernel

/-- The last block's stores: both gradients of the queries, block by block of rows. -/
def runTail (c : Dev nD) (i : grid0.Coords) (v8 : IVec S1x128 32) (g : BufTy.Contents (Elt F) arg12.view.ty) :
    Σ' (L10 : List (View.Piece (Elt F) S8192x128 .bf16)), { L11 : List (View.Piece (Elt F) S1x8192x128 .f32) //
      ∀ (f10 : BufTy.Contents (Elt F) arg10.view.ty) (f11 : BufTy.Contents (Elt F) arg11.view.ty) (E : Set ℕ) (K : PUnit → sProp 𝕄),
        iprop((arg10.view.loc (c : Thread nD τ) ↦[arg10.view.set]{fullShare} f10) ∗ (arg11.view.loc (c : Thread nD τ) ↦[arg11.view.set]{fullShare} f11)
            ∗ (arg12.view.loc (c : Thread nD τ) ↦[arg12.view.set]{fullShare} g)
            ∗ (((arg10.view.loc (c : Thread nD τ) ↦[arg10.view.set]{fullShare} arg10.view.writes (Elt F) f10 L10) ∗ (arg11.view.loc (c : Thread nD τ) ↦[arg11.view.set]{fullShare} arg11.view.writes (Elt F) f11 L11)
            ∗ (arg12.view.loc (c : Thread nD τ) ↦[arg12.view.set]{fullShare} g)) -∗ K ⟨⟩))
          ⊢ wp frame (wpE (defs₀ (F := F)) Variants.none c none) E (k0_part15 i arg2 harg2 arg3 harg3 arg4 harg4 arg5 harg5 arg6 harg6 arg7 harg7 arg8 harg8 arg9 harg9 arg10 harg10 arg11 harg11 arg12 harg12 v8) K } := by
  refine ⟨?_, ?_, fun f10 f11 E K => ?run⟩
  case run =>
    simp only [k0_part15_eq_skeleton]; unfold k0_part15_skel
    simp only [k0_part3_eq_skeleton, k0_part4_eq_skeleton, k0_part5_eq_skeleton, k0_part6_eq_skeleton, k0_part7_eq_skeleton, k0_part8_eq_skeleton, k0_part9_eq_skeleton,
      k0_part10_eq_skeleton, k0_part11_eq_skeleton, k0_part12_eq_skeleton, k0_part13_eq_skeleton, k0_part14_eq_skeleton]
    iintro ⟨H10, H11, H12, Hk⟩
    sl_exec
    sl_step
    iapply Hk
    isplitl [H10]; · iexact H10
    isplitl [H11]; · iexact H11
    iexact H12

/-- What the last point leaves of the packed queries' gradient. -/
def tail10 (c : Dev nD) (i : grid0.Coords) (v8 : IVec S1x128 32) (g : BufTy.Contents (Elt F) arg12.view.ty) : Vec F S8192x128 .bf16 :=
  View.canon (runTail (F := F) arg2 harg2 arg3 harg3 arg4 harg4 arg5 harg5 arg6 harg6 arg7 harg7 arg8 harg8 arg9 harg9 arg10 harg10 arg11 harg11 arg12 harg12 c i v8 g).1

/-- What the last point leaves of the gradient of the queries' planes. -/
def tail11 (c : Dev nD) (i : grid0.Coords) (v8 : IVec S1x128 32) (g : BufTy.Contents (Elt F) arg12.view.ty) : Vec F S1x8192x128 .f32 :=
  View.canon (runTail (F := F) arg2 harg2 arg3 harg3 arg4 harg4 arg5 harg5 arg6 harg6 arg7 harg7 arg8 harg8 arg9 harg9 arg10 harg10 arg11 harg11 arg12 harg12 c i v8 g).2.1

/-- The branch a head pair's last point takes, the other points leaving both buffers as they found them. -/
theorem tail_step (c : Dev nD) (i : grid0.Coords) (v8 : IVec S1x128 32) (g : BufTy.Contents (Elt F) arg12.view.ty)
    (d10 : Vec F S8192x128 .bf16) (d11 : Vec F S1x8192x128 .f32) (E : Set ℕ) (K : PUnit → sProp 𝕄) :
    iprop(owns (c : Thread nD τ) arg10 fullShare d10 ∗ owns (c : Thread nD τ) arg11 fullShare d11
        ∗ (arg12.view.loc (c : Thread nD τ) ↦[arg12.view.set]{fullShare} g)
        ∗ ((owns (c : Thread nD τ) arg10 fullShare (if k0_cond2 i = 1#1 then tail10 arg2 harg2 arg3 harg3 arg4 harg4 arg5 harg5 arg6 harg6 arg7 harg7 arg8 harg8 arg9 harg9 arg10 harg10 arg11 harg11 arg12 harg12 c i v8 g else d10)
          ∗ owns (c : Thread nD τ) arg11 fullShare (if k0_cond2 i = 1#1 then tail11 arg2 harg2 arg3 harg3 arg4 harg4 arg5 harg5 arg6 harg6 arg7 harg7 arg8 harg8 arg9 harg9 arg10 harg10 arg11 harg11 arg12 harg12 c i v8 g else d11)
          ∗ (arg12.view.loc (c : Thread nD τ) ↦[arg12.view.set]{fullShare} g)) -∗ K ⟨⟩))
      ⊢ wp frame (wpE (defs₀ (F := F)) Variants.none c none) E
          (if h : k0_cond2 i = 1#1 then (do k0_part15 i arg2 harg2 arg3 harg3 arg4 harg4 arg5 harg5 arg6 harg6 arg7 harg7 arg8 harg8 arg9 harg9 arg10 harg10 arg11 harg11 arg12 harg12 v8; pure PUnit.unit) else pure PUnit.unit) K := by
  by_cases h : k0_cond2 i = 1#1
  · rw [dif_pos h, if_pos h, if_pos h, show (do k0_part15 (F := F) i arg2 harg2 arg3 harg3 arg4 harg4 arg5 harg5 arg6 harg6 arg7 harg7 arg8 harg8 arg9 harg9 arg10 harg10 arg11 harg11 arg12 harg12 v8; pure PUnit.unit) = k0_part15 i arg2 harg2 arg3 harg3 arg4 harg4 arg5 harg5 arg6 harg6 arg7 harg7 arg8 harg8 arg9 harg9 arg10 harg10 arg11 harg11 arg12 harg12 v8 from bind_pure _]
    unfold owns
    iintro ⟨⟨%f10, %hf10, H10⟩, ⟨%f11, %hf11, H11⟩, H12, Hk⟩
    iapply (runTail (F := F) arg2 harg2 arg3 harg3 arg4 harg4 arg5 harg5 arg6 harg6 arg7 harg7 arg8 harg8 arg9 harg9 arg10 harg10 arg11 harg11 arg12 harg12 c i v8 g).2.2 f10 f11 E K
    isplitl [H10]; · iexact H10
    isplitl [H11]; · iexact H11
    isplitl [H12]; · iexact H12
    iintro ⟨H10, H11, H12⟩
    iapply Hk
    isplitl [H10]
    · iexists _; isplitr
      swap; · iexact H10
      ipureintro
      exact View.read_writes_eq_canon _ _ _ (View.cover_of_tiledL _ S512x128.size (by sl_kernel_rfl))
    isplitl [H11]
    · iexists _; isplitr
      swap; · iexact H11
      ipureintro
      exact View.read_writes_eq_canon _ _ _ (View.cover_of_tiledL _ S1x512x128.size (by sl_kernel_rfl))
    iexact H12
  · rw [dif_neg h, if_neg h, if_neg h]
    iintro ⟨H10, H11, H12, Hk⟩
    sl_step
    iapply Hk
    isplitl [H10]; · iexact H10
    isplitl [H11]; · iexact H11
    iexact H12

/-- Whether the point is its head pair's first. -/
abbrev first (i : grid0.Coords) : Prop :=
  (Scalar.cmpi .ne (Scalar.extui (Scalar.cmpi .eq (BitVec.ofNat 32 (i 1).val) 0#32) : BitVec 32) 0#32 : BitVec 1) = 1#1

/-- The queries' gradient as a point starts it: nothing yet at a head pair's first point. -/
def start (i : grid0.Coords) (xs : Vec F S8192x256 .f32) : Vec F S8192x256 .f32 :=
  if first i then k0_pay77 else xs

/-- The reset at a head pair's first point. -/
theorem reset_step {α : Type} (c : Dev nD) (i : grid0.Coords) (xs q : Vec F S8192x256 .f32) (hq : start i xs = q)
    (p : Prog (TpuEff nD τ sig (Elt F) Λ₀ .tc) α) (E : Set ℕ) (K : α → sProp 𝕄) :
    iprop((arg12.view.loc (c : Thread nD τ) ↦[arg12.view.set]{fullShare} harg12.unread xs)
      ∗ ((arg12.view.loc (c : Thread nD τ) ↦[arg12.view.set]{fullShare} harg12.unread q) -∗
          wp frame (wpE (defs₀ (F := F)) Variants.none c none) E p K))
      ⊢ wp frame (wpE (defs₀ (F := F)) Variants.none c none) E
        (if _h : first i then do
            let _ : Vec F S8192x256 .f32 ← Prog.lift (.load arg12 (Rect.unit (s := S8192x256) ![0, 0] S8192x256.size inb_S8192x256_S8192x256_0_0).toLoadRect (View.loadsAt_vmem h_S8192x256))
            Prog.lift (.store arg12 (Rect.unit (s := S8192x256) ![0, 0] S8192x256.size inb_S8192x256_S8192x256_0_0) (k0_pay77 (F := F)) Finset.univ (View.stores_vmem_bits_univ h_S8192x256 rfl) (.inl rfl))
            p
          else p) K := by
  subst hq
  by_cases h : first i
  · rw [dif_pos h, start, if_pos h]
    iintro ⟨H, Hk⟩
    sl_exec
    rw [show arg12.view.writes (Elt F) (harg12.unread xs) [⟨Rect.unit ![0, 0] S8192x256.size inb_S8192x256_S8192x256_0_0, k0_pay77⟩] = harg12.unread (k0_pay77 (F := F)) from
      harg12.eq_unread (View.read_writes_full _ _ _ _ _)]
    iapply Hk
    iexact H
  · rw [dif_neg h, start, if_neg h]
    iintro ⟨H, Hk⟩
    iapply Hk
    iexact H

set_option maxHeartbeats 4000000 in
/-- The body at any point, `q` the queries' gradient it starts from. Every query block is worked (the table's words are
    the last block's number). -/
def run (c : Dev nD) (i : grid0.Coords) (hw : k0_chk1 i 15#32)
    (x1 x2 : Vec F S512x256 .bf16) (x3 x4 : Vec F S8192x256 .bf16) (q : Vec F S8192x256 .f32) :
    Σ' (R7 : Vec F S512x128 .bf16) (R8 : Vec F S512x128 .bf16) (R9 : Vec F S1x512x128 .f32) (v8 : IVec S1x128 32),
      { G : BufTy.Contents (Elt F) arg12.view.ty //
      ∀ (xs : Vec F S8192x256 .f32) (_ : start i xs = q) (d10 : Vec F S8192x128 .bf16) (d11 : Vec F S1x8192x128 .f32) (E : Set ℕ) (K : PUnit → sProp 𝕄),
        iprop(owns (c : Thread nD τ) arg2 fullShare (fun _ => 15#32) ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare d10 ∗ owns (c : Thread nD τ) arg11 fullShare d11 ∗ owns (c : Thread nD τ) arg12 fullShare xs
            ∗ ((owns (c : Thread nD τ) arg2 fullShare (fun _ => 15#32) ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare R7 ∗ owns (c : Thread nD τ) arg8 fullShare R8 ∗ owns (c : Thread nD τ) arg9 fullShare R9
              ∗ owns (c : Thread nD τ) arg10 fullShare (if k0_cond2 i = 1#1 then tail10 arg2 harg2 arg3 harg3 arg4 harg4 arg5 harg5 arg6 harg6 arg7 harg7 arg8 harg8 arg9 harg9 arg10 harg10 arg11 harg11 arg12 harg12 c i v8 G else d10)
              ∗ owns (c : Thread nD τ) arg11 fullShare (if k0_cond2 i = 1#1 then tail11 arg2 harg2 arg3 harg3 arg4 harg4 arg5 harg5 arg6 harg6 arg7 harg7 arg8 harg8 arg9 harg9 arg10 harg10 arg11 harg11 arg12 harg12 c i v8 G else d11)
              ∗ owns (c : Thread nD τ) arg12 fullShare (arg12.view.read (Elt F) G)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun xs hxs d10 d11 E K => ?run⟩
  case run =>
    simp only [cc0_fox_bwd_eq_skeleton]; unfold cc0_fox_bwd_skel
    simp only [k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, H10, H11, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hfs
    sl_exec
    have hr : run.sl.r (F := F) arg2 harg2 c i = 15#32 := by
      unfold run.sl.r; simp only [View.readAt_apply, Memref.IsWhole.read_unread]
    rw [hr]
    iapply (wp_assume _ _ _ _ hw)
    dsimp -proj only
    iapply (reset_step arg12 harg12 c i xs q hxs)
    isplitl [HS]; · iexact HS
    iintro HS
    sl_exec
    iapply (tail_step arg2 harg2 arg3 harg3 arg4 harg4 arg5 harg5 arg6 harg6 arg7 harg7 arg8 harg8 arg9 harg9 arg10 harg10 arg11 harg11 arg12 harg12 c i _ _ d10 d11 E K)
    isplitl [H10]; · unfold owns; iexact H10
    isplitl [H11]; · unfold owns; iexact H11
    isplitl [HS]; · iexact HS
    iintro ⟨H10, H11, HS⟩
    iapply Hk
    isplitl [H0]; · iexists _; isplitr; swap; · iexact H0
                    ipureintro; exact harg2.read_unread _
    isplitl [H1]; · iexists _; isplitr; swap; · iexact H1
                    ipureintro; exact harg3.read_unread _
    isplitl [H2]; · iexists _; isplitr; swap; · iexact H2
                    ipureintro; exact harg4.read_unread _
    isplitl [H3]; · iexists _; isplitr; swap; · iexact H3
                    ipureintro; exact harg5.read_unread _
    isplitl [H4]; · iexists _; isplitr; swap; · iexact H4
                    ipureintro; exact harg6.read_unread _
    isplitl [H5]; · iexists _; isplitr; swap; · iexact H5
                    ipureintro; exact View.read_writes_full _ _ _ _ _
    isplitl [H6]; · iexists _; isplitr; swap; · iexact H6
                    ipureintro; exact View.read_writes_full _ _ _ _ _
    isplitl [H7]; · iexists _; isplitr; swap; · iexact H7
                    ipureintro; exact View.read_writes_full _ _ _ _ _
    isplitl [H10]; · unfold owns; iexact H10
    isplitl [H11]; · unfold owns; iexact H11
    iexists _; isplitr
    swap; · iexact HS
    ipureintro; rfl

end Cert.Fox
end
-- ==== Proof.FoxFrame.lean ====
module

public import proofs.«01_k».proof.Proof.FoxRun
public import Idealize.ShloMosaic.Lib.Pipeline.ValueKit

@[expose] public section

/-! # The forget-gate attention's backward kernel, launched

What every point leaves (`gradK`, `gradV`, `gradC`, `queries`), the pipeline's proof data, and the run of @main. -/

set_option maxRecDepth 16384

noncomputable section

namespace Cert.Fox

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves -/

/-- The body run at point `t`, the queries' gradient starting at `q`. -/
abbrev runAt (c : Dev nD) (t : Fin cfg0.N) (q : Vec F S8192x256 .f32) :=
  run (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _)
    c (grid0.coords t) (chk t) (iblk m c 1 t) (iblk m c 2 t) (iblk m c 3 t) (iblk m c 4 t) q

/-- The queries' gradient after point `t`, starting at `q`. -/
def step (c : Dev nD) (t : Fin cfg0.N) (q : Vec F S8192x256 .f32) : Vec F S8192x256 .f32 :=
  (Memref.whole cc0_scratch0).view.read (Elt F) (runAt m c t q).2.2.2.2.1

theorem cond2_iff (t : Fin cfg0.N) : k0_cond2 (grid0.coords t) = 1#1 ↔ t.val % 16 = 15 := by
  revert t; decide +kernel

theorem first_iff (t : Fin cfg0.N) : first (grid0.coords t) ↔ t.val % 16 = 0 := by
  revert t; decide +kernel

/-- The queries' gradient after point `n`. -/
def queries (c : Dev nD) : (n : ℕ) → n < cfg0.N → Vec F S8192x256 .f32
  | 0, hn => step m c ⟨0, hn⟩ (start (grid0.coords ⟨0, hn⟩) k0_pay77)
  | n + 1, hn => step m c ⟨n + 1, hn⟩ (start (grid0.coords ⟨n + 1, hn⟩) (queries c n (Nat.lt_of_succ_lt hn)))

/-- The queries' gradient point `t` finds, where some point came before. -/
def found (c : Dev nD) (t : Fin cfg0.N) : Vec F S8192x256 .f32 :=
  if h : t.val = 0 then k0_pay77 else queries m c (t.val - 1) (by have := t.isLt; omega)

/-- The queries' gradient point `t` starts from. -/
def before (c : Dev nD) (t : Fin cfg0.N) : Vec F S8192x256 .f32 := start (grid0.coords t) (found m c t)

theorem queries_eq (c : Dev nD) (t : Fin cfg0.N) : queries m c t.val t.isLt = step m c t (before m c t) := by
  obtain ⟨n, hn⟩ := t
  cases n with
  | zero => rfl
  | succ n => rfl

/-- The table of last query blocks, at every cell the last block's number. -/
theorem V_table (c : Dev nD) : V m c main_v94 = fun _ => (15#32 : Elt F .i32) := by
  unfold V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp
  rfl

theorem iblk_table (c : Dev nD) (t : Fin cfg0.N) : iblk m c 0 t = fun _ => (15#32 : Elt F .i32) := by
  unfold iblk
  rw [show V m c (Pipeline.arrRef spec0 0) = fun _ => (15#32 : Elt F .i32) from V_table m c]
  rfl

/-! ## The pipeline's proof data -/

/-- The invariant: the queries' gradient at what the point before left (at anything before the first). -/
def PhiS (c : Dev nD) : (n : ℕ) → n ≤ cfg0.N → sProp 𝕄
  | 0, _ => Pipeline.ΦA spec0 c
  | n + 1, hn => iprop(owns (c : Thread nD τ) (Memref.whole cc0_scratch0) fullShare (queries m c n hn) ∗ (∃ r, prngReg c r))

theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (runAt m c t (before m c t)).1
    | ⟨6, _⟩ => (runAt m c t (before m c t)).2.1
    | ⟨7, _⟩ => (runAt m c t (before m c t)).2.2.1
    | ⟨8, _⟩ => tail10 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) (runAt m c t (before m c t)).2.2.2.1 (runAt m c t (before m c t)).2.2.2.2.1
    | ⟨9, _⟩ => tail11 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) (runAt m c t (before m c t)).2.2.2.1 (runAt m c t (before m c t)).2.2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (runAt m c t (before m c t)).1 := by dsimp only [dats]
theorem after0_6 (c : Dev nD) (t : Fin cfg0.N) : (dats m 0 c).after 6 t = (runAt m c t (before m c t)).2.1 := by dsimp only [dats]
theorem after0_7 (c : Dev nD) (t : Fin cfg0.N) : (dats m 0 c).after 7 t = (runAt m c t (before m c t)).2.2.1 := by dsimp only [dats]
theorem after0_8 (c : Dev nD) (t : Fin cfg0.N) : (dats m 0 c).after 8 t = tail10 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) (runAt m c t (before m c t)).2.2.2.1 (runAt m c t (before m c t)).2.2.2.2.1 := by dsimp only [dats]
theorem after0_9 (c : Dev nD) (t : Fin cfg0.N) : (dats m 0 c).after 9 t = tail11 (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) (runAt m c t (before m c t)).2.2.2.1 (runAt m c t (before m c t)).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What a window stored only at a head pair's last point is left at. -/
theorem leave (c : Dev nD) (t : Fin cfg0.N) (w : Fin cfg0.W)
    (hi : cfg0.idle w (cfg0.grid.coords t) = !(k0_cond2 (grid0.coords t) == 1#1))
    (hf : (cfg0.win w).flush t = true ↔ t.val % 16 = 15)
    (X : (cfg0.win w).block.Idx → Elt F (cfg0.win w).elt) (hX : (dats m 0 c).after w t = X) (d) :
    (owns (c : Thread nD τ) ((cfg0.win w).stage (cfg0.slots t w)) fullShare
        (if k0_cond2 (grid0.coords t) = 1#1 then X else (dats m 0 c).before w t d) : sProp 𝕄)
      ⊢ match cfg0.idle w (cfg0.grid.coords t) with
        | true => match (cfg0.win w).flush t with
          | false => iprop(∃ d, owns (c : Thread nD τ) ((cfg0.win w).stage (cfg0.slots t w)) fullShare ((dats m 0 c).before w t d))
          | true => owns (c : Thread nD τ) ((cfg0.win w).stage (cfg0.slots t w)) fullShare ((dats m 0 c).after w t)
        | false => owns (c : Thread nD τ) ((cfg0.win w).stage (cfg0.slots t w)) fullShare ((dats m 0 c).after w t) := by
  by_cases h : k0_cond2 (grid0.coords t) = 1#1
  · rw [hi, h, if_pos rfl, hX]; exact Entails.refl _
  · rw [hi, beq_eq_false_iff_ne.mpr h, show (cfg0.win w).flush t = false from by
      rw [← Bool.not_eq_true, hf]; exact fun h' => h ((cond2_iff t).mpr h'), if_neg h]
    show _ ⊢ iprop(∃ d, owns (c : Thread nD τ) ((cfg0.win w).stage (cfg0.slots t w)) fullShare ((dats m 0 c).before w t d))
    iintro H
    iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (match cfg0.idle 8 (cfg0.grid.coords t) with
      | true => match (cfg0.win 8).flush t with
        | false => iprop(∃ d, owns (c : Thread nD τ) (st0_8 t) fullShare ((dats m 0 c).before 8 t d))
        | true => owns (c : Thread nD τ) (st0_8 t) fullShare ((dats m 0 c).after 8 t)
      | false => owns (c : Thread nD τ) (st0_8 t) fullShare ((dats m 0 c).after 8 t))
    ∗ (match cfg0.idle 9 (cfg0.grid.coords t) with
      | true => match (cfg0.win 9).flush t with
        | false => iprop(∃ d, owns (c : Thread nD τ) (st0_9 t) fullShare ((dats m 0 c).before 9 t d))
        | true => owns (c : Thread nD τ) (st0_9 t) fullShare ((dats m 0 c).after 9 t)
      | false => owns (c : Thread nD τ) (st0_9 t) fullShare ((dats m 0 c).after 9 t)))

theorem sound_body (c : Dev nD) (t : Fin cfg0.N) :
    bodyPre m c t ⊢ wp frame (wpE (defs₀ (F := F)) Variants.none c none) Set.univ (bodyAt0 t) (fun _ => bodyPost m c t) := by
  have key : ∀ xs : Vec F S8192x256 .f32, start (grid0.coords t) xs = before m c t →
      iprop(owns (c : Thread nD τ) (Memref.whole cc0_scratch0) fullShare xs ∗ (∃ r, prngReg c r) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
        ⊢ wp frame (wpE (defs₀ (F := F)) Variants.none c none) Set.univ (bodyAt0 t) (fun _ => bodyPost m c t) := by
    intro xs hxs
    unfold bodyPost bodyAt0
    rw [show (dats m 0 c).owesAt () t.succ = (dats m 0 c).owesAt () t.castSucc from rfl,
      show (dats m 0 c).Φ t.succ = PhiS m c (t.val + 1) t.isLt from rfl]
    simp only [PhiS, before0_0, before0_1, before0_2, before0_3, before0_4, after0_0, after0_1, after0_2, after0_3, after0_4, after0_5, after0_6, after0_7]
    rw [iblk_table, queries_eq, step]
    iintro ⟨HS, Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runAt m c t (before m c t)).2.2.2.2.2 xs hxs _ _ Set.univ _
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · iapply (leave m c t 8 rfl (flush0_8 t) _ (after0_8 m c t) d8)
      iexact H8
    iapply (leave m c t 9 rfl (flush0_9 t) _ (after0_9 m c t) d9)
    iexact H9
  unfold bodyPre
  rw [PhiS_castSucc]
  by_cases hz : t.val = 0
  · rw [show PhiS m c t.val (Nat.le_of_lt t.isLt) = Pipeline.ΦA spec0 c from by
      have : ∀ n h, n = 0 → PhiS m c n h = Pipeline.ΦA spec0 c := fun n h hn => by subst hn; rfl
      exact this _ _ hz, PhiA_eq]
    iintro ⟨⟨⟨%d, HS⟩, Hg⟩, H⟩
    iapply key d (by unfold before start; rw [if_pos ((first_iff t).mpr (by rw [hz])), if_pos ((first_iff t).mpr (by rw [hz]))])
    isplitl [HS]; · iexact HS
    isplitl [Hg]; · iexact Hg
    iexact H
  · rw [show PhiS m c t.val (Nat.le_of_lt t.isLt) = iprop(owns (c : Thread nD τ) (Memref.whole cc0_scratch0) fullShare (found m c t) ∗ (∃ r, prngReg c r)) from by
      unfold found; rw [dif_neg hz]
      have : ∀ n (h : n ≤ cfg0.N) (hn : n ≠ 0), PhiS m c n h = iprop(owns (c : Thread nD τ) (Memref.whole cc0_scratch0) fullShare (queries m c (n - 1) (by omega)) ∗ (∃ r, prngReg c r)) :=
        fun n h hn => by cases n with | zero => exact absurd rfl hn | succ n => rfl
      exact this _ _ hz]
    iintro ⟨⟨HS, Hg⟩, H⟩
    iapply key _ rfl
    isplitl [HS]; · iexact HS
    isplitl [Hg]; · iexact Hg
    iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  exact Entails.refl _

theorem hout (c : Dev nD) : (dats m 0 c).Φ (Fin.last cfg0.N) ⊢ Pipeline.ΦA spec0 c := by
  rw [show (dats m 0 c).Φ (Fin.last cfg0.N) = iprop(owns (c : Thread nD τ) (Memref.whole cc0_scratch0) fullShare (queries m c 63 (by rw [show cfg0.N = 64 from N_0]; decide)) ∗ (∃ r, prngReg c r)) from rfl, PhiA_eq]
  iintro ⟨HS, Hg⟩
  isplitl [HS]; · iexists _; iexact HS
  iexact Hg

set_option backward.isDefEq.respectTransparency.types false in
/-- The run: the pipeline's arrays at its proof data's, every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Fox
end
-- ==== Proof.FoxFrames.lean ====
module

public import proofs.«01_k».proof.Proof.FoxFrame
public import proofs.«01_k».proof.Defs

@[expose] public section

/-! # The frame of the kernel as it is compiled

The compiled kernel's text is the idealized kernel's with the mask's literal in place of the named constant: the
idealized kernel's run, at hardware floats and with the name standing for the literal's bits, is its run. -/

set_option maxRecDepth 65536

namespace Cert.Fox

open Idealize.ShloMosaic

/-- Every name stands for its literal's own value. -/
@[reducible] def literal : Named Bits where
  named _ _ {φ} bits := Scalar.ofBits φ bits

attribute [local instance] literal

/-- The frame of the idealized kernel's text at hardware floats. -/
def FrameBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

theorem frame_bits : FrameBits := fun m g _ => Fox.frame (F := Bits) m g

theorem frame_eq : FrameBits = Cert.quiescent_Kernel2 := by
  sl_kernel_rfl

theorem frame_k : Cert.quiescent_Kernel2 := frame_eq ▸ frame_bits

theorem frame_i : Cert.quiescent_Kernel2Ideal := fun m g _ => Fox.frame m g

/-- The mask's name stands for minus infinity. -/
theorem preserves : Cert.preserves_Kernel2_Kernel2Ideal := by
  exact IdealRules.named_const.statement _ _ _ _ _ rfl

theorem frame_r : Cert.quiescent_Reference2Ideal := fun m g _ =>
  (θ_run Reference2Ideal.defs _ _).mono
    (fun r h => ⟨fun c => (h c).2.2.2.2.2, sem_eq_zero_of_no_sems (by decide) r.2⟩)
    (Reference2Ideal.Value.run (F := Ideal) m g)

end Cert.Fox
end
-- ==== Proof.FoxBlock.lean ====
module

public import proofs.«01_k».proof.Proof.FoxBody
public import Idealize.ShloMosaic.Lib.Pointwise

@[expose] public section

/-! # The arithmetic of one block of keys against one block of queries

What the body computes from a 512-row block of one head's keys and values and a 512-row block of its queries and
output gradients: the softmax weights, and what they add to the three gradients. -/

set_option maxRecDepth 16384

noncomputable section

namespace Cert.Fox

open Cert.Kernel2Ideal Cert.Kernel2Ideal.Gen
open Idealize.ShloMosaic

abbrev Cols := Vec Ideal S512x128 .bf16
abbrev Acc := FVec Ideal S512x128 .f32

/-- The product of two rows. -/
def rowDot (a b : Cols) (r l : Fin 512) : EReal := ∑ x : Fin 128, a (ix2 r x) * b (ix2 l x)

/-- The weight of key `r` for query `l` of the block; on the diagonal block only the keys not after the query count. -/
def wt (diag : Bool) (K Q : Cols) (r l : Fin 512) : EReal :=
  if diag = true → r ≤ l then Ideal.exp (rowDot K Q r l) else 0

/-- The gradient of the scores. -/
def ds (diag : Bool) (K V Q D : Cols) (r l : Fin 512) : EReal := wt diag K Q r l * rowDot V D r l

theorem pay3_apply (K Q : Cols) (r l : Fin 512) : k0_pay3 K Q (ix2 r l) = wt false K Q r l := by
  unfold k0_pay3 k0_pay1
  pointwise
  simp [wt, rowDot]

theorem pay4_apply (K V Q D : Cols) (r l : Fin 512) : k0_pay4 K V Q D (ix2 r l) = ds false K V Q D r l := by
  unfold k0_pay4 k0_pay2
  pointwise [pay3_apply]
  simp [ds, rowDot]

theorem pay5_apply (K Q D : Cols) (a : Acc) (r : Fin 512) (x : Fin 128) :
    k0_pay5 K a Q D (ix2 r x) = a (ix2 r x) + ∑ l, wt false K Q r l * D (ix2 l x) := by
  unfold k0_pay5 k0_pay2
  pointwise [pay3_apply]

theorem pay6_apply (K V Q D : Cols) (a : Acc) (r : Fin 512) (x : Fin 128) :
    k0_pay6 K V a Q D (ix2 r x) = a (ix2 r x) + ∑ l, ds false K V Q D r l * Q (ix2 l x) := by
  unfold k0_pay6 k0_pay1
  pointwise [pay4_apply]

theorem pay7_apply (K V Q D : Cols) (a : Acc) (l : Fin 512) (x : Fin 128) :
    k0_pay7 K V Q D a (ix2 l x) = a (ix2 l x) + ∑ r, ds false K V Q D r l * K (ix2 r x) := by
  unfold k0_pay7
  pointwise [pay4_apply]

theorem mask_eq : (Named.named κ "mask" 0xF149F2CA#32 : Ideal .f32) = (⊥ : EReal) :=
  IdealRules.named_const.ideal_named_scalar (φ := .f32) κ "mask" 0xF149F2CA#32 ⊥ rfl

theorem sle_word (r l : Fin 512) (a b : EReal) :
    Scalar.select (IntOp.cmpi CmpIPredicate.sle (BitVec.ofNat 32 r.val) (BitVec.ofNat 32 l.val)) a b = if r ≤ l then a else b := by
  rw [WordCmp.cmpi_sle_ofNat (by omega) (by omega)]
  by_cases h : r ≤ l
  · rw [if_pos h, decide_eq_true (show r.val ≤ l.val from h)]; rfl
  · rw [if_neg h, decide_eq_false (show ¬ r.val ≤ l.val from h)]; rfl

theorem pay85_apply (K Q : Cols) (r l : Fin 512) : k0_pay85 K Q (ix2 r l) = wt true K Q r l := by
  unfold k0_pay85 k0_pay78 k0_pay83
  pointwise
  rw [sle_word]
  unfold wt rowDot
  by_cases h : r ≤ l
  · rw [if_pos h, if_pos fun _ => h]
  · rw [if_neg h, if_neg (fun g => h (g rfl)), mask_eq, Ideal.exp_bot]

theorem pay86_apply (K V Q D : Cols) (r l : Fin 512) : k0_pay86 K V Q D (ix2 r l) = ds true K V Q D r l := by
  unfold k0_pay86 k0_pay80 k0_pay84
  pointwise [pay85_apply]
  rfl

theorem pay88_apply (K Q D : Cols) (a : Acc) (r : Fin 512) (x : Fin 128) :
    k0_pay88 a (k0_pay84 D) (k0_pay87 K Q) (ix2 r x) = a (ix2 r x) + ∑ l, wt true K Q r l * D (ix2 l x) := by
  unfold k0_pay88 k0_pay84 k0_pay87
  pointwise [pay85_apply]

theorem pay89_apply (K V Q D : Cols) (a : Acc) (r : Fin 512) (x : Fin 128) :
    k0_pay89 a (k0_pay83 Q) (k0_pay86 K V Q D) (ix2 r x) = a (ix2 r x) + ∑ l, ds true K V Q D r l * Q (ix2 l x) := by
  unfold k0_pay89 k0_pay83
  pointwise [pay86_apply]

theorem pay90_apply (K V Q D : Cols) (a : Acc) (l : Fin 512) (x : Fin 128) :
    k0_pay90 (k0_pay78 K) (k0_pay86 K V Q D) a (ix2 l x) = a (ix2 l x) + ∑ r, ds true K V Q D r l * K (ix2 r x) := by
  unfold k0_pay90 k0_pay78
  pointwise [pay86_apply]

/-! The second head's operations are the first's. -/

abbrev rowIx : IVec S512x512 32 := iota .tc S512x512 32 [0] iota_S512x512_d0_w32
abbrev colIx : IVec S512x512 32 := iota .tc S512x512 32 [1] iota_S512x512_d1_w32
abbrev laneIx : IVec S1x128 32 := iota .tc S1x128 32 [1] iota_S1x128_d1_w32

theorem pay12_eq (K Q D : Cols) (a : Acc) : k0_pay12 K a Q D = k0_pay5 K a Q D := rfl
theorem pay13_eq (K V Q D : Cols) (a : Acc) : k0_pay13 K V a Q D = k0_pay6 K V a Q D := rfl
theorem pay98_eq (K V Q D : Cols) (a : Acc) : k0_pay98 K (k0_pay11 K V Q D) a = k0_pay7 K V Q D a := rfl
theorem pay95_eq (K Q D : Cols) (a : Acc) :
    k0_pay95 rowIx colIx (k0_pay79 K) a Q D = k0_pay88 a (k0_pay84 D) (k0_pay87 K Q) := rfl
theorem pay96_eq (K V Q D : Cols) (a : Acc) :
    k0_pay96 rowIx colIx (k0_pay79 K) (k0_pay81 V) a Q D = k0_pay89 a (k0_pay83 Q) (k0_pay86 K V Q D) := rfl
theorem pay97_eq (K V Q D : Cols) (a : Acc) :
    k0_pay97 rowIx colIx (k0_pay79 K) (k0_pay81 V) Q D a = k0_pay90 (k0_pay78 K) (k0_pay86 K V Q D) a := rfl

/-- Two heads' 64 columns side by side. -/
def beside (a b : Acc) (r : Fin 512) (x : Fin 128) : EReal :=
  if x.val < 64 then a (ix2 r x) else b (ix2 r ⟨x.val - 64, by omega⟩)

/-- Column `n` of two heads, in lanes 0 and 1. -/
def lanes (n : Fin 128) (a b : Acc) (r : Fin 512) (x : Fin 128) : EReal :=
  if x.val = 0 then a (ix2 r n) else if x.val = 1 then b (ix2 r n) else 0

theorem slt_word (x : Fin 128) (a b : EReal) :
    Scalar.select (IntOp.cmpi CmpIPredicate.slt (BitVec.ofNat 32 x.val) 64#32) a b = if x.val < 64 then a else b := by
  rw [WordCmp.cmpi_slt_ofNat (by omega) (by decide)]
  by_cases h : x.val < 64
  · rw [if_pos h, decide_eq_true h]; rfl
  · rw [if_neg h, decide_eq_false h]; rfl

theorem eq_word (x : Fin 128) (n : ℕ) (hn : n < 128) (a b : EReal) :
    Scalar.select (IntOp.cmpi CmpIPredicate.eq (BitVec.ofNat 32 x.val) (BitVec.ofNat 32 n)) a b = if x.val = n then a else b := by
  rw [WordCmp.cmpi_eq_ofNat (by omega) (by omega)]
  by_cases h : x.val = n
  · rw [if_pos h, decide_eq_true h]; rfl
  · rw [if_neg h, decide_eq_false h]; rfl

theorem beside_of (a b : Acc) (r : Fin 512) (x : Fin 128) (h : (x.val + 128 - 64) % 128 < 128) :
    (if x.val < 64 then a (ix2 r x) else b (ix2 r ⟨(x.val + 128 - 64) % 128, h⟩)) = beside a b r x := by
  unfold beside
  by_cases hx : x.val < 64
  · rw [if_pos hx, if_pos hx]
  · rw [if_neg hx, if_neg hx]
    congr 2
    exact Fin.ext (show (x.val + 128 - 64) % 128 = x.val - 64 by omega)

theorem pay100_apply (a b : Acc) (r : Fin 512) (x : Fin 128) :
    k0_pay100 a b (ix2 r x) = beside a b r x := by
  unfold k0_pay100
  pointwise
  rw [slt_word, beside_of]

theorem pay101_eq (a b : Acc) : k0_pay101 a b = k0_pay100 a b := rfl

/-- The scale of the scores, as its word reads. -/
theorem scale_eq : Ideal.ofBits .f32 0x3E000000#32 = ((0.125 : ℝ) : EReal) := by
  simp [Ideal.ofBits, Ideal.ieee]
  rw [← EReal.coe_mul]
  norm_num

theorem pay27_apply (a b : Acc) (r : Fin 512) (x : Fin 128) :
    k0_pay27 (F := Ideal) a b (ix2 r x) = beside a b r x * ((0.125 : ℝ) : EReal) := by
  unfold k0_pay27
  pointwise
  rw [slt_word, beside_of]
  rw [scale_eq]

theorem lanes_of (n : Fin 128) (a b : Acc) (r : Fin 512) (x : Fin 128) (u v : Fin 128) (hu : x.val = 0 → u = n) (hv : x.val = 1 → v = n) :
    (if x.val = 0 then a (ix2 r u) else if x.val = 1 then b (ix2 r v) else 0) = lanes n a b r x := by
  unfold lanes
  by_cases h0 : x.val = 0
  · rw [if_pos h0, if_pos h0, hu h0]
  · rw [if_neg h0, if_neg h0]
    by_cases h1 : x.val = 1
    · rw [if_pos h1, if_pos h1, hv h1]
    · rw [if_neg h1, if_neg h1]

theorem pay102_apply (a b : Acc) (r : Fin 512) (x : Fin 128) :
    k0_pay102 laneIx a b (ix3 0 r x) = lanes 64 a b r x := by
  unfold k0_pay102
  pointwise
  refine (eq_word x 0 (by omega) _ _).trans ?_
  refine (congrArg (fun w => if x.val = 0 then _ else w) (eq_word x 1 (by omega) _ _)).trans ?_
  exact lanes_of 64 a b r x _ _ (fun h => Fin.ext (by show (x.val + 128 - 64) % 128 = 64; omega)) (fun h => Fin.ext (by show (x.val + 128 - 65) % 128 = 64; omega))

theorem pay28_apply (a b : Acc) (r : Fin 512) (x : Fin 128) :
    k0_pay28 (F := Ideal) laneIx a b (ix3 0 r x) = lanes 67 a b r x := by
  unfold k0_pay28
  pointwise
  refine (eq_word x 0 (by omega) _ _).trans ?_
  refine (congrArg (fun w => if x.val = 0 then _ else w) (eq_word x 1 (by omega) _ _)).trans ?_
  exact lanes_of 67 a b r x _ _ (fun h => Fin.ext (by show (x.val + 128 - 61) % 128 = 67; omega)) (fun h => Fin.ext (by show (x.val + 128 - 62) % 128 = 67; omega))

end Cert.Fox
end
-- ==== Proof.FoxTrips.lean ====
module

public import proofs.«01_k».proof.Proof.FoxFrame
public import proofs.«01_k».proof.Proof.FoxBlock

@[expose] public section

/-! # What one point does to its buffers

The loop over the later query blocks, as a recursion on the carried sums and the running gradient of the queries. -/

set_option maxRecDepth 16384

noncomputable section

namespace Cert.Fox

open Cert.Kernel2Ideal Cert.Kernel2Ideal.Gen
open Idealize.ShloMosaic

/-! ## Where the blocks lie -/

theorem off4_eq (t : Fin cfg0.N) (k : Fin (k0_t1_loop (grid0.coords t) 15#32).trips) :
    k0_off4 (grid0.coords t) 15#32 k = ![512 * (t.val % 16 + 1 + k.val), 128 * 0] := by
  revert t; decide +kernel
theorem off5_eq (t : Fin cfg0.N) (k : Fin (k0_t1_loop (grid0.coords t) 15#32).trips) :
    k0_off5 (grid0.coords t) 15#32 k = ![512 * (t.val % 16 + 1 + k.val), 128 * 1] := by
  revert t; decide +kernel
theorem off2_eq (t : Fin cfg0.N) : k0_off2 (grid0.coords t) = ![512 * (t.val % 16), 128 * 0] := by
  revert t; decide +kernel
theorem off3_eq (t : Fin cfg0.N) : k0_off3 (grid0.coords t) = ![512 * (t.val % 16), 128 * 1] := by
  revert t; decide +kernel
theorem trips1_eq (t : Fin cfg0.N) : (k0_t1_loop (grid0.coords t) 15#32).trips = 15 - t.val % 16 := by
  revert t; decide +kernel
theorem trips2_eq (t : Fin cfg0.N) : (k0_t2_loop (grid0.coords t) 15#32).trips = 0 := by
  revert t; decide +kernel

/-- Rows `512 b` on and head `h`'s columns of a two-head array. -/
def win {α : Type} (x : S8192x256.Idx → α) (b h : ℕ) : S512x128.Idx → α :=
  fun y => x (ix2 ⟨(512 * b + (y 0).val) % 8192, Nat.mod_lt _ (by decide)⟩ ⟨(128 * h + (y 1).val) % 256, Nat.mod_lt _ (by decide)⟩)

/-- The array with those rows and columns replaced. -/
def patch {α : Type} (x : S8192x256.Idx → α) (b h : ℕ) (w : S512x128.Idx → α) : S8192x256.Idx → α :=
  fun y => if (y 0).val / 512 = b ∧ (y 1).val / 128 = h then
    w (ix2 ⟨(y 0).val % 512, Nat.mod_lt _ (by decide)⟩ ⟨(y 1).val % 128, Nat.mod_lt _ (by decide)⟩) else x y

theorem win_patch {α : Type} (x : S8192x256.Idx → α) (b h h' : ℕ) (w : S512x128.Idx → α) (hh : h ≠ h') (hlt : h' < 2) :
    win (patch x b h w) b h' = win x b h' := by
  funext y
  unfold win patch
  refine if_neg fun hc => hh ?_
  have h1 : (128 * h' + (y 1).val) % 256 / 128 = h := hc.2
  have h2 : (y 1).val < 128 := (y 1).isLt
  omega

theorem readAt_win {e : EltTy} (M : Memref sig .tc .vmem S8192x256 e) (f : M.view.ty.Contents (Elt Ideal)) (off : Fin 2 → ℕ)
    (inb : ∀ a, off a + S512x128.size a ≤ S8192x256.size a) (b h : ℕ) (hoff : off = ![512 * b, 128 * h]) :
    View.readAt (Elt Ideal) M.view (Rect.unit (s := S8192x256) off S512x128.size inb).toLoadRect f = win (M.view.read (Elt Ideal) f) b h := by
  subst hoff
  funext y
  rw [View.readAt_apply]
  unfold win
  have h0 : 512 * b + 512 ≤ 8192 := inb 0
  have h1 : 128 * h + 128 ≤ 256 := inb 1
  have hy0 : (y 0).val < 512 := (y 0).isLt
  have hy1 : (y 1).val < 128 := (y 1).isLt
  congr 1
  funext a
  match a with
  | 0 => exact Fin.ext (by show 512 * b + 1 * (y 0).val = (512 * b + (y 0).val) % 8192; omega)
  | 1 => exact Fin.ext (by show 128 * h + 1 * (y 1).val = (128 * h + (y 1).val) % 256; omega)

theorem read_patch {e : EltTy} (M : Memref sig .tc .vmem S8192x256 e) (f : M.view.ty.Contents (Elt Ideal)) (off : Fin 2 → ℕ)
    (inb : ∀ a, off a + S512x128.size a ≤ S8192x256.size a) (b h : ℕ) (hoff : off = ![512 * b, 128 * h])
    (w : S512x128.Idx → Elt Ideal e) (L : List (View.Piece (Elt Ideal) S8192x256 e)) :
    M.view.read (Elt Ideal) (M.view.writes (Elt Ideal) f (⟨Rect.unit (s := S8192x256) off S512x128.size inb, w⟩ :: L))
      = patch (M.view.read (Elt Ideal) (M.view.writes (Elt Ideal) f L)) b h w := by
  funext y
  have h0 : 512 * b + 512 ≤ 8192 := by have := inb 0; rw [hoff] at this; exact this
  have h1 : 128 * h + 128 ≤ 256 := by have := inb 1; rw [hoff] at this; exact this
  unfold patch
  by_cases hc : (y 0).val / 512 = b ∧ (y 1).val / 128 = h
  · rw [if_pos hc]
    refine View.read_writes_cons_unit_of_mem M.view f inb w L y _ hoff fun a => ?_
    match a with
    | 0 => show (y 0).val = 512 * b + (y 0).val % 512; omega
    | 1 => show (y 1).val = 128 * h + (y 1).val % 128; omega
  · rw [if_neg hc]
    by_cases hb : (y 0).val / 512 = b
    · exact View.read_writes_cons_unit_of_not_mem M.view f inb w L y hoff 1
        (by show (y 1).val < 128 * h ∨ 128 * h + 128 ≤ (y 1).val; omega)
    · exact View.read_writes_cons_unit_of_not_mem M.view f inb w L y hoff 0
        (by show (y 0).val < 512 * b ∨ 512 * b + 512 ≤ (y 0).val; omega)

/-! ## One trip -/

/-- What the loop carries: both heads' gradients of the values and keys, and the queries' gradient. -/
abbrev State := (FVec Ideal S512x128 .f32 × FVec Ideal S512x128 .f32 × FVec Ideal S512x128 .f32 × FVec Ideal S512x128 .f32) × Vec Ideal S8192x256 .f32

/-- Query block `b` worked against the point's keys and values. -/
def visit (K0 K1 V0 V1 : Cols) (x3 x4 : Vec Ideal S8192x256 .bf16) (b : ℕ) (s : State) : State :=
  ((k0_pay5 K0 s.1.1 (win x3 b 0) (win x4 b 0), k0_pay6 K0 V0 s.1.2.1 (win x3 b 0) (win x4 b 0),
    k0_pay5 K1 s.1.2.2.1 (win x3 b 1) (win x4 b 1), k0_pay6 K1 V1 s.1.2.2.2 (win x3 b 1) (win x4 b 1)),
   patch (patch s.2 b 0 (k0_pay7 K0 V0 (win x3 b 0) (win x4 b 0) (win s.2 b 0))) b 1
    (k0_pay7 K1 V1 (win x3 b 1) (win x4 b 1) (win s.2 b 1)))

/-- `n` blocks worked, the first of them block `b`. -/
def visits (K0 K1 V0 V1 : Cols) (x3 x4 : Vec Ideal S8192x256 .bf16) (b : ℕ) (s : State) : ℕ → State
  | 0 => s
  | n + 1 => visit K0 K1 V0 V1 x3 x4 (b + n) (visits K0 K1 V0 V1 x3 x4 b s n)

variable (arg2 : Memref sig .tc .smem S4x16 .i32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x512x128 .f32) (harg9 : arg9.IsWhole) (arg10 : Memref sig .tc .vmem S8192x128 .bf16) (harg10 : arg10.IsWhole) (arg11 : Memref sig .tc .vmem S1x8192x128 .f32) (harg11 : arg11.IsWhole) (arg12 : Memref sig .tc .vmem S8192x256 .f32) (harg12 : arg12.IsWhole)

section Trips

variable (c : Dev nD) (t : Fin cfg0.N) (hw : k0_chk1 (grid0.coords t) 15#32) (v8 : IVec S1x128 32) (K0 K1 V0 V1 : Cols) (v18 : BitVec 32)
    (a b a' b' : Acc) (w v78 : BitVec 32) (x3 x4 : Vec Ideal S8192x256 .bf16)

theorem tripR_eq (k : Fin (k0_t1_loop (grid0.coords t) 15#32).trips) (s : State) (f : BufTy.Contents (Elt Ideal) arg12.view.ty) :
    tripR_k0_t1 (F := Ideal) Variants.none c none (grid0.coords t) arg2 harg2 arg3 harg3 arg4 harg4 arg5 harg5 arg6 harg6 arg7 harg7 arg8 harg8 arg9 harg9 arg10 harg10 arg11 harg11 arg12 harg12 15#32 hw v8 K0 K1 V0 V1 v18 a b a' b' w v78 (harg5.unread x3) (harg6.unread x4) k s.1 f
      = (visit K0 K1 V0 V1 x3 x4 (t.val % 16 + 1 + k.val) s).1 := by
  unfold tripR_k0_t1 trip_k0_t1
  show (k0_pay5 K0 s.1.1 (View.readAt (Elt Ideal) arg5.view (Rect.unit (s := S8192x256) (k0_off4 (grid0.coords t) 15#32 k) S512x128.size (k0_off4_inb (grid0.coords t) 15#32 hw k)).toLoadRect (harg5.unread x3)) (View.readAt (Elt Ideal) arg6.view (Rect.unit (s := S8192x256) (k0_off4 (grid0.coords t) 15#32 k) S512x128.size (k0_off4_inb (grid0.coords t) 15#32 hw k)).toLoadRect (harg6.unread x4)),
    k0_pay6 K0 V0 s.1.2.1 (View.readAt (Elt Ideal) arg5.view (Rect.unit (s := S8192x256) (k0_off4 (grid0.coords t) 15#32 k) S512x128.size (k0_off4_inb (grid0.coords t) 15#32 hw k)).toLoadRect (harg5.unread x3)) (View.readAt (Elt Ideal) arg6.view (Rect.unit (s := S8192x256) (k0_off4 (grid0.coords t) 15#32 k) S512x128.size (k0_off4_inb (grid0.coords t) 15#32 hw k)).toLoadRect (harg6.unread x4)),
    k0_pay12 K1 s.1.2.2.1 (View.readAt (Elt Ideal) arg5.view (Rect.unit (s := S8192x256) (k0_off5 (grid0.coords t) 15#32 k) S512x128.size (k0_off5_inb (grid0.coords t) 15#32 hw k)).toLoadRect (harg5.unread x3)) (View.readAt (Elt Ideal) arg6.view (Rect.unit (s := S8192x256) (k0_off5 (grid0.coords t) 15#32 k) S512x128.size (k0_off5_inb (grid0.coords t) 15#32 hw k)).toLoadRect (harg6.unread x4)),
    k0_pay13 K1 V1 s.1.2.2.2 (View.readAt (Elt Ideal) arg5.view (Rect.unit (s := S8192x256) (k0_off5 (grid0.coords t) 15#32 k) S512x128.size (k0_off5_inb (grid0.coords t) 15#32 hw k)).toLoadRect (harg5.unread x3)) (View.readAt (Elt Ideal) arg6.view (Rect.unit (s := S8192x256) (k0_off5 (grid0.coords t) 15#32 k) S512x128.size (k0_off5_inb (grid0.coords t) 15#32 hw k)).toLoadRect (harg6.unread x4))) = _
  rw [readAt_win arg5 _ _ _ _ _ (off4_eq t k), readAt_win arg6 _ _ _ _ _ (off4_eq t k), readAt_win arg5 _ _ _ _ _ (off5_eq t k),
    readAt_win arg6 _ _ _ _ _ (off5_eq t k), harg5.read_unread, harg6.read_unread]
  rfl

theorem tripL_eq (k : Fin (k0_t1_loop (grid0.coords t) 15#32).trips) (s : State) (f : BufTy.Contents (Elt Ideal) arg12.view.ty)
    (hs : arg12.view.read (Elt Ideal) f = s.2) :
    arg12.view.read (Elt Ideal) (arg12.view.writes (Elt Ideal) f
      (tripL_k0_t1 (F := Ideal) Variants.none c none (grid0.coords t) arg2 harg2 arg3 harg3 arg4 harg4 arg5 harg5 arg6 harg6 arg7 harg7 arg8 harg8 arg9 harg9 arg10 harg10 arg11 harg11 arg12 harg12 15#32 hw v8 K0 K1 V0 V1 v18 a b a' b' w v78 (harg5.unread x3) (harg6.unread x4) k s.1 f))
      = (visit K0 K1 V0 V1 x3 x4 (t.val % 16 + 1 + k.val) s).2 := by
  unfold tripL_k0_t1 trip_k0_t1
  show arg12.view.read (Elt Ideal) (arg12.view.writes (Elt Ideal) f
    [(⟨Rect.unit (s := S8192x256) (k0_off5 (grid0.coords t) 15#32 k) S512x128.size (k0_off5_inb (grid0.coords t) 15#32 hw k), k0_pay98 K1 (k0_pay11 K1 V1 (View.readAt (Elt Ideal) arg5.view (Rect.unit (s := S8192x256) (k0_off5 (grid0.coords t) 15#32 k) S512x128.size (k0_off5_inb (grid0.coords t) 15#32 hw k)).toLoadRect (harg5.unread x3)) (View.readAt (Elt Ideal) arg6.view (Rect.unit (s := S8192x256) (k0_off5 (grid0.coords t) 15#32 k) S512x128.size (k0_off5_inb (grid0.coords t) 15#32 hw k)).toLoadRect (harg6.unread x4))) (View.readAt (Elt Ideal) arg12.view (Rect.unit (s := S8192x256) (k0_off5 (grid0.coords t) 15#32 k) S512x128.size (k0_off5_inb (grid0.coords t) 15#32 hw k)).toLoadRect (arg12.view.writes (Elt Ideal) f [(⟨Rect.unit (s := S8192x256) (k0_off4 (grid0.coords t) 15#32 k) S512x128.size (k0_off4_inb (grid0.coords t) 15#32 hw k), k0_pay7 K0 V0 (View.readAt (Elt Ideal) arg5.view (Rect.unit (s := S8192x256) (k0_off4 (grid0.coords t) 15#32 k) S512x128.size (k0_off4_inb (grid0.coords t) 15#32 hw k)).toLoadRect (harg5.unread x3)) (View.readAt (Elt Ideal) arg6.view (Rect.unit (s := S8192x256) (k0_off4 (grid0.coords t) 15#32 k) S512x128.size (k0_off4_inb (grid0.coords t) 15#32 hw k)).toLoadRect (harg6.unread x4)) (View.readAt (Elt Ideal) arg12.view (Rect.unit (s := S8192x256) (k0_off4 (grid0.coords t) 15#32 k) S512x128.size (k0_off4_inb (grid0.coords t) 15#32 hw k)).toLoadRect f)⟩ : View.Piece (Elt Ideal) S8192x256 .f32)]))⟩ : View.Piece (Elt Ideal) S8192x256 .f32),
     (⟨Rect.unit (s := S8192x256) (k0_off4 (grid0.coords t) 15#32 k) S512x128.size (k0_off4_inb (grid0.coords t) 15#32 hw k), k0_pay7 K0 V0 (View.readAt (Elt Ideal) arg5.view (Rect.unit (s := S8192x256) (k0_off4 (grid0.coords t) 15#32 k) S512x128.size (k0_off4_inb (grid0.coords t) 15#32 hw k)).toLoadRect (harg5.unread x3)) (View.readAt (Elt Ideal) arg6.view (Rect.unit (s := S8192x256) (k0_off4 (grid0.coords t) 15#32 k) S512x128.size (k0_off4_inb (grid0.coords t) 15#32 hw k)).toLoadRect (harg6.unread x4)) (View.readAt (Elt Ideal) arg12.view (Rect.unit (s := S8192x256) (k0_off4 (grid0.coords t) 15#32 k) S512x128.size (k0_off4_inb (grid0.coords t) 15#32 hw k)).toLoadRect f)⟩ : View.Piece (Elt Ideal) S8192x256 .f32)]) = _
  rw [read_patch arg12 _ _ _ _ _ (off5_eq t k), read_patch arg12 _ _ _ _ _ (off4_eq t k), View.writes_nil,
    readAt_win arg12 _ _ _ _ _ (off5_eq t k), read_patch arg12 _ _ _ _ _ (off4_eq t k), View.writes_nil, win_patch _ _ _ _ _ (by decide) (by decide),
    readAt_win arg12 _ _ _ _ _ (off4_eq t k), readAt_win arg5 _ _ _ _ _ (off4_eq t k), readAt_win arg6 _ _ _ _ _ (off4_eq t k),
    readAt_win arg5 _ _ _ _ _ (off5_eq t k), readAt_win arg6 _ _ _ _ _ (off5_eq t k), harg5.read_unread, harg6.read_unread, hs]
  rfl

theorem loop_eq (G : BufTy.Contents (Elt Ideal) arg12.view.ty) (init : FVec Ideal S512x128 .f32 × FVec Ideal S512x128 .f32 × FVec Ideal S512x128 .f32 × FVec Ideal S512x128 .f32)
    (n : ℕ) (hn : n ≤ 15 - t.val % 16) :
    (st_k0_t1 (F := Ideal) Variants.none c none (grid0.coords t) arg2 harg2 arg3 harg3 arg4 harg4 arg5 harg5 arg6 harg6 arg7 harg7 arg8 harg8 arg9 harg9 arg10 harg10 arg11 harg11 arg12 harg12 15#32 hw v8 K0 K1 V0 V1 v18 a b a' b' w v78 (harg5.unread x3) (harg6.unread x4) G init n).1
        = (visits K0 K1 V0 V1 x3 x4 (t.val % 16 + 1) (init, arg12.view.read (Elt Ideal) G) n).1
    ∧ arg12.view.read (Elt Ideal) (arg12.view.writes (Elt Ideal) G
      (st_k0_t1 (F := Ideal) Variants.none c none (grid0.coords t) arg2 harg2 arg3 harg3 arg4 harg4 arg5 harg5 arg6 harg6 arg7 harg7 arg8 harg8 arg9 harg9 arg10 harg10 arg11 harg11 arg12 harg12 15#32 hw v8 K0 K1 V0 V1 v18 a b a' b' w v78 (harg5.unread x3) (harg6.unread x4) G init n).2)
        = (visits K0 K1 V0 V1 x3 x4 (t.val % 16 + 1) (init, arg12.view.read (Elt Ideal) G) n).2 := by
  induction n with
  | zero => exact ⟨rfl, rfl⟩
  | succ n ih =>
    obtain ⟨h1, h2⟩ := ih (by omega)
    have hk := st_k0_t1_succ (F := Ideal) Variants.none c none (grid0.coords t) arg2 harg2 arg3 harg3 arg4 harg4 arg5 harg5 arg6 harg6 arg7 harg7 arg8 harg8 arg9 harg9 arg10 harg10 arg11 harg11 arg12 harg12 15#32 hw v8 K0 K1 V0 V1 v18 a b a' b' w v78 (harg5.unread x3) (harg6.unread x4) G init ⟨n, by rw [trips1_eq]; omega⟩
    dsimp only at hk
    rw [hk, h1]
    refine ⟨tripR_eq arg2 harg2 arg3 harg3 arg4 harg4 arg5 harg5 arg6 harg6 arg7 harg7 arg8 harg8 arg9 harg9 arg10 harg10 arg11 harg11 arg12 harg12 c t hw v8 K0 K1 V0 V1 v18 a b a' b' w v78 x3 x4 _ _ _, ?_⟩
    rw [View.writes_append]
    exact tripL_eq arg2 harg2 arg3 harg3 arg4 harg4 arg5 harg5 arg6 harg6 arg7 harg7 arg8 harg8 arg9 harg9 arg10 harg10 arg11 harg11 arg12 harg12 c t hw v8 K0 K1 V0 V1 v18 a b a' b' w v78 x3 x4 _ _ _ h2

end Trips

end Cert.Fox
end
-- ==== Proof.FoxPoint.lean ====
module

public import proofs.«01_k».proof.Proof.FoxFrame
public import proofs.«01_k».proof.Proof.FoxTrips
public import proofs.«01_k».proof.Proof.FoxBlock

@[expose] public section

set_option maxRecDepth 16384

noncomputable section

namespace Cert.Fox

open Cert.Kernel2Ideal Cert.Kernel2Ideal.Gen
open Idealize.ShloMosaic

variable (arg2 : Memref sig .tc .smem S4x16 .i32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x512x128 .f32) (harg9 : arg9.IsWhole) (arg10 : Memref sig .tc .vmem S8192x128 .bf16) (harg10 : arg10.IsWhole) (arg11 : Memref sig .tc .vmem S1x8192x128 .f32) (harg11 : arg11.IsWhole) (arg12 : Memref sig .tc .vmem S8192x256 .f32) (harg12 : arg12.IsWhole)
/-- Head `h`'s columns of a two-head block of keys or values. -/
def cols (x : Vec Ideal S512x256 .bf16) (h : ℕ) : Cols :=
  fun y => x (ix2 (y 0) ⟨(128 * h + (y 1).val) % 256, Nat.mod_lt _ (by decide)⟩)

theorem readAt_cols (M : Memref sig .tc .vmem S512x256 .bf16) (f : M.view.ty.Contents (Elt Ideal)) (h : ℕ)
    (inb : ∀ a, (![0, 128 * h] : Fin 2 → ℕ) a + S512x128.size a ≤ S512x256.size a) :
    View.readAt (Elt Ideal) M.view (Rect.unit (s := S512x256) ![0, 128 * h] S512x128.size inb).toLoadRect f = cols (M.view.read (Elt Ideal) f) h := by
  funext y
  rw [View.readAt_apply]
  unfold cols
  have h1 : 128 * h + 128 ≤ 256 := inb 1
  have hy1 : (y 1).val < 128 := (y 1).isLt
  congr 1
  funext a
  match a with
  | 0 => exact Fin.ext (by show 0 + 1 * (y 0).val = (y 0).val; omega)
  | 1 => exact Fin.ext (by show 128 * h + 1 * (y 1).val = (128 * h + (y 1).val) % 256; omega)

/-- The diagonal query block worked, from nothing carried and the queries' gradient `q`. -/
def diagonal (K0 K1 V0 V1 : Cols) (x3 x4 : Vec Ideal S8192x256 .bf16) (b : ℕ) (q : Vec Ideal S8192x256 .f32) : State :=
  ((k0_pay88 k0_pay82 (k0_pay84 (win x4 b 0)) (k0_pay87 K0 (win x3 b 0)), k0_pay89 k0_pay82 (k0_pay83 (win x3 b 0)) (k0_pay86 K0 V0 (win x3 b 0) (win x4 b 0)),
    k0_pay88 k0_pay82 (k0_pay84 (win x4 b 1)) (k0_pay87 K1 (win x3 b 1)), k0_pay89 k0_pay82 (k0_pay83 (win x3 b 1)) (k0_pay86 K1 V1 (win x3 b 1) (win x4 b 1))),
   patch (patch q b 0 (k0_pay90 (k0_pay78 K0) (k0_pay86 K0 V0 (win x3 b 0) (win x4 b 0)) (win q b 0))) b 1
    (k0_pay90 (k0_pay78 K1) (k0_pay86 K1 V1 (win x3 b 1) (win x4 b 1)) (win q b 1)))

/-- All of a point's query blocks worked. -/
def worked (x1 x2 : Vec Ideal S512x256 .bf16) (x3 x4 : Vec Ideal S8192x256 .bf16) (j : ℕ) (q : Vec Ideal S8192x256 .f32) : State :=
  visits (k0_pay78 (cols x1 0)) (k0_pay78 (cols x1 1)) (k0_pay78 (cols x2 0)) (k0_pay78 (cols x2 1)) x3 x4 (j + 1)
    (diagonal (cols x1 0) (cols x1 1) (cols x2 0) (cols x2 1) x3 x4 j q) (15 - j)

variable (c : Dev nD) (t : Fin cfg0.N) (hw : k0_chk1 (grid0.coords t) 15#32)
    (x1 x2 : Vec Ideal S512x256 .bf16) (x3 x4 : Vec Ideal S8192x256 .bf16) (q : Vec Ideal S8192x256 .f32)

theorem t2_none (i : grid0.Coords) (hw : k0_chk1 i 15#32) (v8 : IVec S1x128 32) (K0 K1 V0 V1 : Cols) (v18 : BitVec 32)
    (a b a' b' : Acc) (w v78 v80 : BitVec 32) (X5 : BufTy.Contents (Elt Ideal) arg5.view.ty) (X6 : BufTy.Contents (Elt Ideal) arg6.view.ty)
    (G : BufTy.Contents (Elt Ideal) arg12.view.ty) (init : FVec Ideal S512x128 .f32 × FVec Ideal S512x128 .f32 × FVec Ideal S512x128 .f32 × FVec Ideal S512x128 .f32)
    (n : ℕ) (hn : n = 0) :
    st_k0_t2 (F := Ideal) Variants.none c none i arg2 harg2 arg3 harg3 arg4 harg4 arg5 harg5 arg6 harg6 arg7 harg7 arg8 harg8 arg9 harg9 arg10 harg10 arg11 harg11 arg12 harg12 15#32 hw v8 K0 K1 V0 V1 v18 a b a' b' w v78 v80 X5 X6 G init n = (init, []) := by
  subst hn; rfl

/-! What the run's own words stand for. -/

theorem word4_eq : run.sl.r_4 (F := Ideal) arg3 harg3 c x1 = k0_pay78 (cols x1 0) := by
  show k0_pay78 (View.readAt (Elt Ideal) arg3.view (Rect.unit (s := S512x256) ![0, 128 * 0] S512x128.size inb_S512x256_S512x128_0_0).toLoadRect (harg3.unread x1)) = _
  rw [readAt_cols arg3 _ 0, harg3.read_unread]
theorem word5_eq : run.sl.r_5 (F := Ideal) arg3 harg3 c x1 = k0_pay78 (cols x1 1) := by
  show k0_pay79 (View.readAt (Elt Ideal) arg3.view (Rect.unit (s := S512x256) ![0, 128 * 1] S512x128.size inb_S512x256_S512x128_0_128).toLoadRect (harg3.unread x1)) = _
  rw [readAt_cols arg3 _ 1, harg3.read_unread]
  rfl
theorem word6_eq : run.sl.r_6 (F := Ideal) arg4 harg4 c x2 = k0_pay78 (cols x2 0) := by
  show k0_pay80 (View.readAt (Elt Ideal) arg4.view (Rect.unit (s := S512x256) ![0, 128 * 0] S512x128.size inb_S512x256_S512x128_0_0).toLoadRect (harg4.unread x2)) = _
  rw [readAt_cols arg4 _ 0, harg4.read_unread]
  rfl
theorem word7_eq : run.sl.r_7 (F := Ideal) arg4 harg4 c x2 = k0_pay78 (cols x2 1) := by
  show k0_pay81 (View.readAt (Elt Ideal) arg4.view (Rect.unit (s := S512x256) ![0, 128 * 1] S512x128.size inb_S512x256_S512x128_0_128).toLoadRect (harg4.unread x2)) = _
  rw [readAt_cols arg4 _ 1, harg4.read_unread]
  rfl
theorem word12_eq : run.sl.r_12 (F := Ideal) arg3 harg3 arg4 harg4 arg5 harg5 arg6 harg6 c (grid0.coords t) x1 x2 x3 x4 = k0_pay86 (cols x1 0) (cols x2 0) (win x3 (t.val % 16) 0) (win x4 (t.val % 16) 0) := by
  show k0_pay86 (View.readAt (Elt Ideal) arg3.view (Rect.unit (s := S512x256) ![0, 128 * 0] S512x128.size inb_S512x256_S512x128_0_0).toLoadRect (harg3.unread x1)) (View.readAt (Elt Ideal) arg4.view (Rect.unit (s := S512x256) ![0, 128 * 0] S512x128.size inb_S512x256_S512x128_0_0).toLoadRect (harg4.unread x2)) (View.readAt (Elt Ideal) arg5.view (Rect.unit (s := S8192x256) (k0_off2 (grid0.coords t)) S512x128.size (k0_off2_inb (grid0.coords t))).toLoadRect (harg5.unread x3)) (View.readAt (Elt Ideal) arg6.view (Rect.unit (s := S8192x256) (k0_off2 (grid0.coords t)) S512x128.size (k0_off2_inb (grid0.coords t))).toLoadRect (harg6.unread x4)) = _
  rw [readAt_cols arg3 _ 0, readAt_cols arg4 _ 0, readAt_win arg5 _ _ _ _ _ (off2_eq t), readAt_win arg6 _ _ _ _ _ (off2_eq t), harg3.read_unread, harg4.read_unread, harg5.read_unread, harg6.read_unread]
theorem word14_eq : run.sl.r_14 (F := Ideal) arg3 harg3 arg5 harg5 arg6 harg6 c (grid0.coords t) x1 x3 x4 = k0_pay88 k0_pay82 (k0_pay84 (win x4 (t.val % 16) 0)) (k0_pay87 (cols x1 0) (win x3 (t.val % 16) 0)) := by
  show k0_pay88 k0_pay82 (k0_pay84 (View.readAt (Elt Ideal) arg6.view (Rect.unit (s := S8192x256) (k0_off2 (grid0.coords t)) S512x128.size (k0_off2_inb (grid0.coords t))).toLoadRect (harg6.unread x4))) (k0_pay87 (View.readAt (Elt Ideal) arg3.view (Rect.unit (s := S512x256) ![0, 128 * 0] S512x128.size inb_S512x256_S512x128_0_0).toLoadRect (harg3.unread x1)) (View.readAt (Elt Ideal) arg5.view (Rect.unit (s := S8192x256) (k0_off2 (grid0.coords t)) S512x128.size (k0_off2_inb (grid0.coords t))).toLoadRect (harg5.unread x3))) = _
  rw [readAt_cols arg3 _ 0, readAt_win arg5 _ _ _ _ _ (off2_eq t), readAt_win arg6 _ _ _ _ _ (off2_eq t), harg3.read_unread, harg5.read_unread, harg6.read_unread]
theorem word15_eq : run.sl.r_15 (F := Ideal) arg3 harg3 arg4 harg4 arg5 harg5 arg6 harg6 c (grid0.coords t) x1 x2 x3 x4 = k0_pay89 k0_pay82 (k0_pay83 (win x3 (t.val % 16) 0)) (k0_pay86 (cols x1 0) (cols x2 0) (win x3 (t.val % 16) 0) (win x4 (t.val % 16) 0)) := by
  show k0_pay89 k0_pay82 (k0_pay83 (View.readAt (Elt Ideal) arg5.view (Rect.unit (s := S8192x256) (k0_off2 (grid0.coords t)) S512x128.size (k0_off2_inb (grid0.coords t))).toLoadRect (harg5.unread x3))) (k0_pay86 (View.readAt (Elt Ideal) arg3.view (Rect.unit (s := S512x256) ![0, 128 * 0] S512x128.size inb_S512x256_S512x128_0_0).toLoadRect (harg3.unread x1)) (View.readAt (Elt Ideal) arg4.view (Rect.unit (s := S512x256) ![0, 128 * 0] S512x128.size inb_S512x256_S512x128_0_0).toLoadRect (harg4.unread x2)) (View.readAt (Elt Ideal) arg5.view (Rect.unit (s := S8192x256) (k0_off2 (grid0.coords t)) S512x128.size (k0_off2_inb (grid0.coords t))).toLoadRect (harg5.unread x3)) (View.readAt (Elt Ideal) arg6.view (Rect.unit (s := S8192x256) (k0_off2 (grid0.coords t)) S512x128.size (k0_off2_inb (grid0.coords t))).toLoadRect (harg6.unread x4))) = _
  rw [readAt_cols arg3 _ 0, readAt_cols arg4 _ 0, readAt_win arg5 _ _ _ _ _ (off2_eq t), readAt_win arg6 _ _ _ _ _ (off2_eq t), harg3.read_unread, harg4.read_unread, harg5.read_unread, harg6.read_unread]
theorem word16_eq : run.sl.r_16 (F := Ideal) arg3 harg3 arg5 harg5 arg6 harg6 c (grid0.coords t) x1 x3 x4 = k0_pay88 k0_pay82 (k0_pay84 (win x4 (t.val % 16) 1)) (k0_pay87 (cols x1 1) (win x3 (t.val % 16) 1)) := by
  show k0_pay95 rowIx colIx (k0_pay79 (View.readAt (Elt Ideal) arg3.view (Rect.unit (s := S512x256) ![0, 128 * 1] S512x128.size inb_S512x256_S512x128_0_128).toLoadRect (harg3.unread x1))) k0_pay82 (View.readAt (Elt Ideal) arg5.view (Rect.unit (s := S8192x256) (k0_off3 (grid0.coords t)) S512x128.size (k0_off3_inb (grid0.coords t))).toLoadRect (harg5.unread x3)) (View.readAt (Elt Ideal) arg6.view (Rect.unit (s := S8192x256) (k0_off3 (grid0.coords t)) S512x128.size (k0_off3_inb (grid0.coords t))).toLoadRect (harg6.unread x4)) = _
  rw [readAt_cols arg3 _ 1, readAt_win arg5 _ _ _ _ _ (off3_eq t), readAt_win arg6 _ _ _ _ _ (off3_eq t), harg3.read_unread, harg5.read_unread, harg6.read_unread]
  rfl
theorem word17_eq : run.sl.r_17 (F := Ideal) arg3 harg3 arg4 harg4 arg5 harg5 arg6 harg6 c (grid0.coords t) x1 x2 x3 x4 = k0_pay89 k0_pay82 (k0_pay83 (win x3 (t.val % 16) 1)) (k0_pay86 (cols x1 1) (cols x2 1) (win x3 (t.val % 16) 1) (win x4 (t.val % 16) 1)) := by
  show k0_pay96 rowIx colIx (k0_pay79 (View.readAt (Elt Ideal) arg3.view (Rect.unit (s := S512x256) ![0, 128 * 1] S512x128.size inb_S512x256_S512x128_0_128).toLoadRect (harg3.unread x1))) (k0_pay81 (View.readAt (Elt Ideal) arg4.view (Rect.unit (s := S512x256) ![0, 128 * 1] S512x128.size inb_S512x256_S512x128_0_128).toLoadRect (harg4.unread x2))) k0_pay82 (View.readAt (Elt Ideal) arg5.view (Rect.unit (s := S8192x256) (k0_off3 (grid0.coords t)) S512x128.size (k0_off3_inb (grid0.coords t))).toLoadRect (harg5.unread x3)) (View.readAt (Elt Ideal) arg6.view (Rect.unit (s := S8192x256) (k0_off3 (grid0.coords t)) S512x128.size (k0_off3_inb (grid0.coords t))).toLoadRect (harg6.unread x4)) = _
  rw [readAt_cols arg3 _ 1, readAt_cols arg4 _ 1, readAt_win arg5 _ _ _ _ _ (off3_eq t), readAt_win arg6 _ _ _ _ _ (off3_eq t), harg3.read_unread, harg4.read_unread, harg5.read_unread, harg6.read_unread]
  rfl

theorem word69_eq : run.sl.v69 (F := Ideal) arg12 harg12 (grid0.coords t) q = win q (t.val % 16) 1 := by
  show (View.readAt (Elt Ideal) arg12.view (Rect.unit (s := S8192x256) (k0_off3 (grid0.coords t)) S512x128.size (k0_off3_inb (grid0.coords t))).toLoadRect (harg12.unread q)) = _
  rw [readAt_win arg12 _ _ _ _ _ (off3_eq t), harg12.read_unread]

theorem diagonal_read : arg12.view.read (Elt Ideal) (arg12.view.writes (Elt Ideal) (harg12.unread q)
    [(⟨Rect.unit (s := S8192x256) (k0_off3 (grid0.coords t)) S512x128.size (k0_off3_inb (grid0.coords t)), k0_pay97 run.sl.r_1 run.sl.r_2 (k0_pay78 (cols x1 1)) (k0_pay78 (cols x2 1)) (View.readAt (Elt Ideal) arg5.view (Rect.unit (s := S8192x256) (k0_off3 (grid0.coords t)) S512x128.size (k0_off3_inb (grid0.coords t))).toLoadRect (harg5.unread x3)) (View.readAt (Elt Ideal) arg6.view (Rect.unit (s := S8192x256) (k0_off3 (grid0.coords t)) S512x128.size (k0_off3_inb (grid0.coords t))).toLoadRect (harg6.unread x4)) (run.sl.v69 (F := Ideal) arg12 harg12 (grid0.coords t) q)⟩ : View.Piece (Elt Ideal) S8192x256 .f32), (⟨Rect.unit (s := S8192x256) (k0_off2 (grid0.coords t)) S512x128.size (k0_off2_inb (grid0.coords t)), k0_pay90 (k0_pay78 (cols x1 0)) (k0_pay86 (cols x1 0) (cols x2 0) (win x3 (t.val % 16) 0) (win x4 (t.val % 16) 0)) (View.readAt (Elt Ideal) arg12.view (Rect.unit (s := S8192x256) (k0_off2 (grid0.coords t)) S512x128.size (k0_off2_inb (grid0.coords t))).toLoadRect (harg12.unread q))⟩ : View.Piece (Elt Ideal) S8192x256 .f32)])
      = (diagonal (cols x1 0) (cols x1 1) (cols x2 0) (cols x2 1) x3 x4 (t.val % 16) q).2 := by
  rw [read_patch arg12 _ _ _ _ _ (off3_eq t), read_patch arg12 _ _ _ _ _ (off2_eq t), View.writes_nil, word69_eq,
    readAt_win arg12 _ _ _ _ _ (off2_eq t), readAt_win arg5 _ _ _ _ _ (off3_eq t), readAt_win arg6 _ _ _ _ _ (off3_eq t), harg5.read_unread, harg6.read_unread, harg12.read_unread]
  rfl

theorem run_eq :
    (run (F := Ideal) arg2 harg2 arg3 harg3 arg4 harg4 arg5 harg5 arg6 harg6 arg7 harg7 arg8 harg8 arg9 harg9 arg10 harg10 arg11 harg11 arg12 harg12 c (grid0.coords t) hw x1 x2 x3 x4 q).1 = k0_pay100 (worked x1 x2 x3 x4 (t.val % 16) q).1.2.1 (worked x1 x2 x3 x4 (t.val % 16) q).1.2.2.2
    ∧ (run (F := Ideal) arg2 harg2 arg3 harg3 arg4 harg4 arg5 harg5 arg6 harg6 arg7 harg7 arg8 harg8 arg9 harg9 arg10 harg10 arg11 harg11 arg12 harg12 c (grid0.coords t) hw x1 x2 x3 x4 q).2.1 = k0_pay101 (worked x1 x2 x3 x4 (t.val % 16) q).1.1 (worked x1 x2 x3 x4 (t.val % 16) q).1.2.2.1
    ∧ (run (F := Ideal) arg2 harg2 arg3 harg3 arg4 harg4 arg5 harg5 arg6 harg6 arg7 harg7 arg8 harg8 arg9 harg9 arg10 harg10 arg11 harg11 arg12 harg12 c (grid0.coords t) hw x1 x2 x3 x4 q).2.2.1 = k0_pay102 laneIx (worked x1 x2 x3 x4 (t.val % 16) q).1.2.1 (worked x1 x2 x3 x4 (t.val % 16) q).1.2.2.2
    ∧ (run (F := Ideal) arg2 harg2 arg3 harg3 arg4 harg4 arg5 harg5 arg6 harg6 arg7 harg7 arg8 harg8 arg9 harg9 arg10 harg10 arg11 harg11 arg12 harg12 c (grid0.coords t) hw x1 x2 x3 x4 q).2.2.2.1 = laneIx
    ∧ arg12.view.read (Elt Ideal) (run (F := Ideal) arg2 harg2 arg3 harg3 arg4 harg4 arg5 harg5 arg6 harg6 arg7 harg7 arg8 harg8 arg9 harg9 arg10 harg10 arg11 harg11 arg12 harg12 c (grid0.coords t) hw x1 x2 x3 x4 q).2.2.2.2.1 = (worked x1 x2 x3 x4 (t.val % 16) q).2 := by
  have hn : Scf.trips (Scalar.addi (BitVec.ofNat 32 ((grid0.coords t) 1).val) 1#32) (Scalar.addi (Scalar.addi (BitVec.ofNat 32 ((grid0.coords t) 1).val) 1#32) (Scalar.muli (Scalar.divsi (Scalar.subi (Scalar.addi 15#32 1#32) (Scalar.addi (BitVec.ofNat 32 ((grid0.coords t) 1).val) 1#32)) 1#32) 1#32)) 1#32 = 15 - t.val % 16 := trips1_eq t
  unfold run
  dsimp only
  rw [t2_none _ _ _ _ _ _ _ _ _ _ _ _ _ _ _ _ _ _ _ _ _ _ _ _ _ _ _ _ _ _ _ _ _ _ _ _ _ _ _ _ _ _ _ (trips2_eq t)]
  rw [hn, word4_eq, word5_eq, word6_eq, word7_eq, word12_eq, word14_eq, word15_eq, word16_eq, word17_eq, List.nil_append, View.writes_append]
  have hl := loop_eq arg2 harg2 arg3 harg3 arg4 harg4 arg5 harg5 arg6 harg6 arg7 harg7 arg8 harg8 arg9 harg9 arg10 harg10 arg11 harg11 arg12 harg12 c t hw run.sl.r_3 (k0_pay78 (cols x1 0)) (k0_pay78 (cols x1 1)) (k0_pay78 (cols x2 0)) (k0_pay78 (cols x2 1)) (run.sl.r_8 (grid0.coords t))
    (diagonal (cols x1 0) (cols x1 1) (cols x2 0) (cols x2 1) x3 x4 (t.val % 16) q).1.1 (diagonal (cols x1 0) (cols x1 1) (cols x2 0) (cols x2 1) x3 x4 (t.val % 16) q).1.2.1 (diagonal (cols x1 0) (cols x1 1) (cols x2 0) (cols x2 1) x3 x4 (t.val % 16) q).1.2.2.1 (diagonal (cols x1 0) (cols x1 1) (cols x2 0) (cols x2 1) x3 x4 (t.val % 16) q).1.2.2.2
    1#32 (run.sl.v78 (grid0.coords t)) x3 x4 (arg12.view.writes (Elt Ideal) (harg12.unread q)
    [(⟨Rect.unit (s := S8192x256) (k0_off3 (grid0.coords t)) S512x128.size (k0_off3_inb (grid0.coords t)), k0_pay97 run.sl.r_1 run.sl.r_2 (k0_pay78 (cols x1 1)) (k0_pay78 (cols x2 1)) (View.readAt (Elt Ideal) arg5.view (Rect.unit (s := S8192x256) (k0_off3 (grid0.coords t)) S512x128.size (k0_off3_inb (grid0.coords t))).toLoadRect (harg5.unread x3)) (View.readAt (Elt Ideal) arg6.view (Rect.unit (s := S8192x256) (k0_off3 (grid0.coords t)) S512x128.size (k0_off3_inb (grid0.coords t))).toLoadRect (harg6.unread x4)) (run.sl.v69 (F := Ideal) arg12 harg12 (grid0.coords t) q)⟩ : View.Piece (Elt Ideal) S8192x256 .f32), (⟨Rect.unit (s := S8192x256) (k0_off2 (grid0.coords t)) S512x128.size (k0_off2_inb (grid0.coords t)), k0_pay90 (k0_pay78 (cols x1 0)) (k0_pay86 (cols x1 0) (cols x2 0) (win x3 (t.val % 16) 0) (win x4 (t.val % 16) 0)) (View.readAt (Elt Ideal) arg12.view (Rect.unit (s := S8192x256) (k0_off2 (grid0.coords t)) S512x128.size (k0_off2_inb (grid0.coords t))).toLoadRect (harg12.unread q))⟩ : View.Piece (Elt Ideal) S8192x256 .f32)]) (diagonal (cols x1 0) (cols x1 1) (cols x2 0) (cols x2 1) x3 x4 (t.val % 16) q).1 (15 - t.val % 16) le_rfl
  rw [diagonal_read] at hl
  obtain ⟨h1, h2⟩ := hl
  have e (s s' : Acc × Acc × Acc × Acc) (h : s = s') :
      k0_pay102 laneIx s.2.1 s.2.2.2 = k0_pay102 laneIx s'.2.1 s'.2.2.2 := by rw [h]
  exact ⟨congrArg (fun s => k0_pay100 s.2.1 s.2.2.2) h1, congrArg (fun s => k0_pay101 s.1 s.2.2.1) h1,
    e _ _ h1, rfl, h2⟩

end Cert.Fox
end
-- ==== Proof.FoxSums.lean ====
/- What one point of the grid adds: every query's share of its keys' and values' gradients, and its keys' share of the
   queries' gradient, as sums over the whole axis. -/
module

public import proofs.«01_k».proof.Proof.FoxPoint
public import Idealize.ShloMosaic.Lib.Pipeline.ValueKit

@[expose] public section

set_option maxRecDepth 16384

noncomputable section

namespace Cert.Fox

open Cert.Kernel2Ideal Cert.Kernel2Ideal.Gen
open Idealize.ShloMosaic

theorem pay78_eq (K : Cols) : k0_pay78 (F := Ideal) K = K := by
  funext y
  obtain ⟨r, x, rfl⟩ : ∃ r x, y = ix2 r x := ⟨y 0, y 1, ValueIdx.eq_ix2 y⟩
  unfold k0_pay78
  pointwise

/-- The entry of a long block at row `l`, column `c`. -/
def long (x : Vec Ideal S8192x256 .bf16) (l c : ℕ) : EReal := x (ix2 ⟨l % 8192, Nat.mod_lt _ (by decide)⟩ ⟨c % 256, Nat.mod_lt _ (by decide)⟩)

/-- The entry of a short block at row `r`, column `c`. -/
def short (x : Vec Ideal S512x256 .bf16) (r : Fin 512) (c : ℕ) : EReal := x (ix2 r ⟨c % 256, Nat.mod_lt _ (by decide)⟩)

/-- Head `h`'s product of a key's row and a query's. -/
def dotH (x : Vec Ideal S512x256 .bf16) (y : Vec Ideal S8192x256 .bf16) (h : ℕ) (r : Fin 512) (l : ℕ) : EReal :=
  ∑ x' : Fin 128, short x r (128 * h + x'.val) * long y l (128 * h + x'.val)

/-- The weight that query `l` gives to key `512 j + r` in head `h`. -/
def weight (x1 : Vec Ideal S512x256 .bf16) (x3 : Vec Ideal S8192x256 .bf16) (j h : ℕ) (r : Fin 512) (l : ℕ) : EReal :=
  if 512 * j + r.val ≤ l then Ideal.exp (dotH x1 x3 h r l) else 0

/-- The gradient of that weight's score. -/
def slope (x1 x2 : Vec Ideal S512x256 .bf16) (x3 x4 : Vec Ideal S8192x256 .bf16) (j h : ℕ) (r : Fin 512) (l : ℕ) : EReal :=
  weight x1 x3 j h r l * dotH x2 x4 h r l

variable (x1 x2 : Vec Ideal S512x256 .bf16) (x3 x4 : Vec Ideal S8192x256 .bf16) (j : ℕ)

theorem rowDot_eq (x : Vec Ideal S512x256 .bf16) (y : Vec Ideal S8192x256 .bf16) (b h : ℕ) (r l : Fin 512) :
    rowDot (cols x h) (win y b h) r l = dotH x y h r (512 * b + l.val) := rfl

theorem wt_diag (h : ℕ) (r l : Fin 512) : wt true (cols x1 h) (win x3 j h) r l = weight x1 x3 j h r (512 * j + l.val) := by
  unfold wt weight
  rw [rowDot_eq]
  refine if_congr ⟨fun p => ?_, fun p _ => ?_⟩ rfl rfl
  · have : r.val ≤ l.val := p rfl
    omega
  · show r.val ≤ l.val
    omega

theorem wt_past (b h : ℕ) (hb : j < b) (r l : Fin 512) : wt false (cols x1 h) (win x3 b h) r l = weight x1 x3 j h r (512 * b + l.val) := by
  unfold wt weight
  rw [rowDot_eq, if_pos (by simp), if_pos (by have := r.isLt; omega)]

theorem ds_diag (h : ℕ) (r l : Fin 512) :
    ds true (cols x1 h) (cols x2 h) (win x3 j h) (win x4 j h) r l = slope x1 x2 x3 x4 j h r (512 * j + l.val) := by
  unfold ds slope
  rw [wt_diag, rowDot_eq]

theorem ds_past (b h : ℕ) (hb : j < b) (r l : Fin 512) :
    ds false (cols x1 h) (cols x2 h) (win x3 b h) (win x4 b h) r l = slope x1 x2 x3 x4 j h r (512 * b + l.val) := by
  unfold ds slope
  rw [wt_past _ _ _ _ _ hb, rowDot_eq]

/-- What query block `b` gives to the values' gradient. -/
def dvPart (h : ℕ) (r : Fin 512) (x : Fin 128) (b : ℕ) : EReal :=
  ∑ l : Fin 512, weight x1 x3 j h r (512 * b + l.val) * long x4 (512 * b + l.val) (128 * h + x.val)

/-- What query block `b` gives to the keys' gradient. -/
def dkPart (h : ℕ) (r : Fin 512) (x : Fin 128) (b : ℕ) : EReal :=
  ∑ l : Fin 512, slope x1 x2 x3 x4 j h r (512 * b + l.val) * long x3 (512 * b + l.val) (128 * h + x.val)

/-- What the point's keys give to the queries' gradient. -/
def dqPart (l c : ℕ) : EReal := ∑ r : Fin 512, slope x1 x2 x3 x4 j (c / 128) r l * short x1 r c

theorem patch_patch (q : Vec Ideal S8192x256 .f32) (b : ℕ) (w0 w1 : Acc) (G : ℕ → ℕ → EReal)
    (h0 : ∀ r x, w0 (ix2 r x) = win q b 0 (ix2 r x) + G (512 * b + r.val) (128 * 0 + x.val))
    (h1 : ∀ r x, w1 (ix2 r x) = win q b 1 (ix2 r x) + G (512 * b + r.val) (128 * 1 + x.val))
    (l : Fin 8192) (c : Fin 256) :
    patch (patch q b 0 w0) b 1 w1 (ix2 l c) = q (ix2 l c) + if l.val / 512 = b then G l.val c.val else 0 := by
  have hl := l.isLt
  have hc := c.isLt
  have key (h : ℕ) (w : Acc) (hw : ∀ r x, w (ix2 r x) = win q b h (ix2 r x) + G (512 * b + r.val) (128 * h + x.val))
      (hlb : l.val / 512 = b) (hch : c.val / 128 = h) :
      w (ix2 ⟨l.val % 512, Nat.mod_lt _ (by decide)⟩ ⟨c.val % 128, Nat.mod_lt _ (by decide)⟩) = q (ix2 l c) + G l.val c.val := by
    have el : 512 * b + l.val % 512 = l.val := by omega
    have ec : 128 * h + c.val % 128 = c.val := by omega
    rw [hw]
    refine congrArg₂ (· + ·) (congrArg q ?_) (congrArg₂ G el ec)
    funext a
    match a with
    | 0 => exact Fin.ext (by show (512 * b + l.val % 512) % 8192 = l.val; omega)
    | 1 => exact Fin.ext (by show (128 * h + c.val % 128) % 256 = c.val; omega)
  unfold patch
  show (if l.val / 512 = b ∧ c.val / 128 = 1 then _ else if l.val / 512 = b ∧ c.val / 128 = 0 then _ else q (ix2 l c)) = _
  by_cases hlb : l.val / 512 = b
  · rw [if_pos hlb]
    by_cases hc1 : c.val / 128 = 1
    · rw [if_pos ⟨hlb, hc1⟩]
      exact key 1 w1 h1 hlb hc1
    · rw [if_neg fun p => hc1 p.2, if_pos ⟨hlb, by omega⟩]
      exact key 0 w0 h0 hlb (by omega)
  · rw [if_neg hlb, if_neg fun p => hlb p.1, if_neg fun p => hlb p.1, add_zero]

/-- What `s` holds when the `n + 1` query blocks from block `j` on are worked. -/
def Holds (q : Vec Ideal S8192x256 .f32) (s : State) (n : ℕ) : Prop :=
  (∀ r x, s.1.1 (ix2 r x) = ∑ b ∈ Finset.range (n + 1), dvPart x1 x3 x4 j 0 r x (j + b))
  ∧ (∀ r x, s.1.2.1 (ix2 r x) = ∑ b ∈ Finset.range (n + 1), dkPart x1 x2 x3 x4 j 0 r x (j + b))
  ∧ (∀ r x, s.1.2.2.1 (ix2 r x) = ∑ b ∈ Finset.range (n + 1), dvPart x1 x3 x4 j 1 r x (j + b))
  ∧ (∀ r x, s.1.2.2.2 (ix2 r x) = ∑ b ∈ Finset.range (n + 1), dkPart x1 x2 x3 x4 j 1 r x (j + b))
  ∧ ∀ l c, s.2 (ix2 l c) = q (ix2 l c) + if j ≤ l.val / 512 ∧ l.val / 512 ≤ j + n then dqPart x1 x2 x3 x4 j l.val c.val else 0

theorem zero_acc (r : Fin 512) (x : Fin 128) : k0_pay82 (F := Ideal) (ix2 r x) = 0 := by
  unfold k0_pay82
  pointwise

theorem col_head (h : ℕ) (x : Fin 128) : (128 * h + x.val) / 128 = h := by omega

theorem holds_diagonal (q : Vec Ideal S8192x256 .f32) :
    Holds x1 x2 x3 x4 j q (diagonal (cols x1 0) (cols x1 1) (cols x2 0) (cols x2 1) x3 x4 j q) 0 := by
  have hv (h : ℕ) (r : Fin 512) (x : Fin 128) :
      k0_pay88 k0_pay82 (k0_pay84 (win x4 j h)) (k0_pay87 (cols x1 h) (win x3 j h)) (ix2 r x) = dvPart x1 x3 x4 j h r x (j + 0) := by
    rw [pay88_apply, zero_acc, zero_add]
    exact Finset.sum_congr rfl fun l _ => by rw [wt_diag]; rfl
  have hk (h : ℕ) (r : Fin 512) (x : Fin 128) :
      k0_pay89 k0_pay82 (k0_pay83 (win x3 j h)) (k0_pay86 (cols x1 h) (cols x2 h) (win x3 j h) (win x4 j h)) (ix2 r x) = dkPart x1 x2 x3 x4 j h r x (j + 0) := by
    rw [pay89_apply, zero_acc, zero_add]
    exact Finset.sum_congr rfl fun l _ => by rw [ds_diag]; rfl
  have hq (h : ℕ) (l : Fin 512) (x : Fin 128) :
      k0_pay90 (k0_pay78 (cols x1 h)) (k0_pay86 (cols x1 h) (cols x2 h) (win x3 j h) (win x4 j h)) (win q j h) (ix2 l x)
        = win q j h (ix2 l x) + dqPart x1 x2 x3 x4 j (512 * j + l.val) (128 * h + x.val) := by
    rw [pay90_apply]
    refine congrArg _ (Finset.sum_congr rfl fun r _ => ?_)
    rw [ds_diag, col_head]; rfl
  refine ⟨fun r x => ?_, fun r x => ?_, fun r x => ?_, fun r x => ?_, fun l c => ?_⟩
  · rw [Finset.sum_range_one]; exact hv 0 r x
  · rw [Finset.sum_range_one]; exact hk 0 r x
  · rw [Finset.sum_range_one]; exact hv 1 r x
  · rw [Finset.sum_range_one]; exact hk 1 r x
  · refine (patch_patch q j _ _ (dqPart x1 x2 x3 x4 j) (hq 0) (hq 1) l c).trans ?_
    exact congrArg _ (if_congr ⟨fun p => ⟨by omega, by omega⟩, fun p => by omega⟩ rfl rfl)

theorem holds_visit (q : Vec Ideal S8192x256 .f32) (s : State) (n : ℕ) (hs : Holds x1 x2 x3 x4 j q s n) :
    Holds x1 x2 x3 x4 j q (visit (cols x1 0) (cols x1 1) (cols x2 0) (cols x2 1) x3 x4 (j + 1 + n) s) (n + 1) := by
  have hb : j < j + 1 + n := by omega
  have eb : j + (n + 1) = j + 1 + n := by omega
  have hv (h : ℕ) (a : Acc) (r : Fin 512) (x : Fin 128) :
      k0_pay5 (cols x1 h) a (win x3 (j + 1 + n) h) (win x4 (j + 1 + n) h) (ix2 r x) = a (ix2 r x) + dvPart x1 x3 x4 j h r x (j + 1 + n) := by
    rw [pay5_apply]
    exact congrArg _ (Finset.sum_congr rfl fun l _ => by rw [wt_past _ _ _ _ _ hb]; rfl)
  have hk (h : ℕ) (a : Acc) (r : Fin 512) (x : Fin 128) :
      k0_pay6 (cols x1 h) (cols x2 h) a (win x3 (j + 1 + n) h) (win x4 (j + 1 + n) h) (ix2 r x) = a (ix2 r x) + dkPart x1 x2 x3 x4 j h r x (j + 1 + n) := by
    rw [pay6_apply]
    exact congrArg _ (Finset.sum_congr rfl fun l _ => by rw [ds_past _ _ _ _ _ _ _ hb]; rfl)
  have hq (h : ℕ) (l : Fin 512) (x : Fin 128) :
      k0_pay7 (cols x1 h) (cols x2 h) (win x3 (j + 1 + n) h) (win x4 (j + 1 + n) h) (win s.2 (j + 1 + n) h) (ix2 l x)
        = win s.2 (j + 1 + n) h (ix2 l x) + dqPart x1 x2 x3 x4 j (512 * (j + 1 + n) + l.val) (128 * h + x.val) := by
    rw [pay7_apply]
    refine congrArg _ (Finset.sum_congr rfl fun r _ => ?_)
    rw [ds_past _ _ _ _ _ _ _ hb, col_head]; rfl
  obtain ⟨s0, s1, s2, s3, s4⟩ := hs
  refine ⟨fun r x => ?_, fun r x => ?_, fun r x => ?_, fun r x => ?_, fun l c => ?_⟩
  · rw [Finset.sum_range_succ, ← s0, eb]; exact hv 0 _ r x
  · rw [Finset.sum_range_succ, ← s1, eb]; exact hk 0 _ r x
  · rw [Finset.sum_range_succ, ← s2, eb]; exact hv 1 _ r x
  · rw [Finset.sum_range_succ, ← s3, eb]; exact hk 1 _ r x
  · refine (patch_patch s.2 (j + 1 + n) _ _ (dqPart x1 x2 x3 x4 j) (hq 0) (hq 1) l c).trans ?_
    rw [s4, add_assoc]
    congr 1
    by_cases h1 : l.val / 512 = j + 1 + n
    · rw [if_pos h1, if_neg (by omega), if_pos (by omega), zero_add]
    · rw [if_neg h1, add_zero]
      exact if_congr ⟨fun p => by omega, fun p => by omega⟩ rfl rfl

theorem holds_visits (q : Vec Ideal S8192x256 .f32) (n : ℕ) :
    Holds x1 x2 x3 x4 j q (visits (cols x1 0) (cols x1 1) (cols x2 0) (cols x2 1) x3 x4 (j + 1)
      (diagonal (cols x1 0) (cols x1 1) (cols x2 0) (cols x2 1) x3 x4 j q) n) n := by
  induction n with
  | zero => exact holds_diagonal x1 x2 x3 x4 j q
  | succ n ih => exact holds_visit x1 x2 x3 x4 j q _ n ih

/-- The gradient of the values: every query's weight times its cotangent. -/
def dvSum (h : ℕ) (r : Fin 512) (x : Fin 128) : EReal :=
  ∑ l : Fin 8192, weight x1 x3 j h r l.val * long x4 l.val (128 * h + x.val)

/-- The gradient of the keys: every query's slope times the query. -/
def dkSum (h : ℕ) (r : Fin 512) (x : Fin 128) : EReal :=
  ∑ l : Fin 8192, slope x1 x2 x3 x4 j h r l.val * long x3 l.val (128 * h + x.val)

theorem weight_before (h : ℕ) (r : Fin 512) (l : ℕ) (hl : l < 512 * j) : weight x1 x3 j h r l = 0 :=
  if_neg (by omega)

/-- The blocks from block `j` on hold all of a sum whose terms vanish before. -/
theorem sum_from (hj : j < 16) (f : ℕ → EReal) (h0 : ∀ l < 512 * j, f l = 0) :
    ∑ b ∈ Finset.range (15 - j + 1), ∑ l : Fin 512, f (512 * (j + b) + l.val) = ∑ l : Fin 8192, f l.val := by
  have e : ∑ l : Fin 8192, f l.val = ∑ b ∈ Finset.range 16, ∑ l : Fin 512, f (512 * b + l.val) := by
    rw [Fin.sum_univ_eq_sum_range f 8192, show 8192 = 16 * 512 from rfl, Finset.sum_range_mul_split]
    refine Finset.sum_congr rfl fun b _ => ?_
    rw [mul_comm b 512]
    exact (Fin.sum_univ_eq_sum_range (fun l => f (512 * b + l)) 512).symm
  have e' := Finset.sum_range_add (fun b => ∑ l : Fin 512, f (512 * b + l.val)) j (15 - j + 1)
  rw [show j + (15 - j + 1) = 16 by omega, ← e, Finset.sum_eq_zero (s := Finset.range j) fun b hb => Finset.sum_eq_zero fun l _ => h0 _ (by
    have := Finset.mem_range.mp hb
    have := l.isLt
    omega), zero_add] at e'
  exact e'.symm

theorem worked_eq (hj : j < 16) (q : Vec Ideal S8192x256 .f32) :
    (∀ r x, (worked x1 x2 x3 x4 j q).1.1 (ix2 r x) = dvSum x1 x3 x4 j 0 r x)
    ∧ (∀ r x, (worked x1 x2 x3 x4 j q).1.2.1 (ix2 r x) = dkSum x1 x2 x3 x4 j 0 r x)
    ∧ (∀ r x, (worked x1 x2 x3 x4 j q).1.2.2.1 (ix2 r x) = dvSum x1 x3 x4 j 1 r x)
    ∧ (∀ r x, (worked x1 x2 x3 x4 j q).1.2.2.2 (ix2 r x) = dkSum x1 x2 x3 x4 j 1 r x)
    ∧ ∀ l c, (worked x1 x2 x3 x4 j q).2 (ix2 l c) = q (ix2 l c) + dqPart x1 x2 x3 x4 j l.val c.val := by
  obtain ⟨s0, s1, s2, s3, s4⟩ : Holds x1 x2 x3 x4 j q (worked x1 x2 x3 x4 j q) (15 - j) := by
    unfold worked
    simp only [pay78_eq]
    exact holds_visits x1 x2 x3 x4 j q (15 - j)
  have hv (h : ℕ) (r : Fin 512) (x : Fin 128) :
      ∑ b ∈ Finset.range (15 - j + 1), dvPart x1 x3 x4 j h r x (j + b) = dvSum x1 x3 x4 j h r x :=
    sum_from j hj (fun l => weight x1 x3 j h r l * long x4 l (128 * h + x.val)) fun l hl => by
      rw [weight_before _ _ _ _ _ _ hl, zero_mul]
  have hk (h : ℕ) (r : Fin 512) (x : Fin 128) :
      ∑ b ∈ Finset.range (15 - j + 1), dkPart x1 x2 x3 x4 j h r x (j + b) = dkSum x1 x2 x3 x4 j h r x :=
    sum_from j hj (fun l => slope x1 x2 x3 x4 j h r l * long x3 l (128 * h + x.val)) fun l hl => by
      unfold slope
      rw [weight_before _ _ _ _ _ _ hl, zero_mul, zero_mul]
  refine ⟨fun r x => (s0 r x).trans (hv 0 r x), fun r x => (s1 r x).trans (hk 0 r x), fun r x => (s2 r x).trans (hv 1 r x),
    fun r x => (s3 r x).trans (hk 1 r x), fun l c => (s4 l c).trans (congrArg _ ?_)⟩
  by_cases h : j ≤ l.val / 512
  · exact if_pos ⟨h, by have := l.isLt; omega⟩
  · rw [if_neg fun p => h p.1]
    refine (Finset.sum_eq_zero fun r _ => ?_).symm
    unfold slope
    rw [weight_before _ _ _ _ _ _ (by omega), zero_mul, zero_mul]

end Cert.Fox
end
-- ==== Proof.FoxTail.lean ====
module
public import proofs.«01_k».proof.Proof.FoxSums
public import Idealize.ShloMosaic.Lib.Pipeline.Value
@[expose] public section
set_option maxRecDepth 16384
noncomputable section
namespace Cert.Fox
open Cert.Kernel2Ideal Cert.Kernel2Ideal.Gen
open Idealize.ShloMosaic
variable (arg2 : Memref sig .tc .smem S4x16 .i32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1x512x128 .f32) (harg9 : arg9.IsWhole) (arg10 : Memref sig .tc .vmem S8192x128 .bf16) (harg10 : arg10.IsWhole) (arg11 : Memref sig .tc .vmem S1x8192x128 .f32) (harg11 : arg11.IsWhole) (arg12 : Memref sig .tc .vmem S8192x256 .f32) (harg12 : arg12.IsWhole)

variable (c : Dev nD) (i : grid0.Coords) (g : BufTy.Contents (Elt Ideal) arg12.view.ty)

theorem inb_read (b : Fin 16) (h : Fin 2) : ∀ a, (![512 * b.val, 128 * h.val] : Fin 2 → ℕ) a + S512x128.size a ≤ S8192x256.size a := by
  revert b h; decide
theorem inb_ten (b : Fin 16) : ∀ a, (![512 * b.val, 0] : Fin 2 → ℕ) a + S512x128.size a ≤ S8192x128.size a := by
  revert b; decide
theorem inb_eleven (b : Fin 16) : ∀ a, (![0, 512 * b.val, 0] : Fin 3 → ℕ) a + S1x512x128.size a ≤ S1x8192x128.size a := by
  revert b; decide

/-- A block of rows of the queries' gradient, one head's columns. -/
abbrev part (b : Fin 16) (h : Fin 2) : Acc :=
  View.readAt (Elt Ideal) arg12.view (Rect.unit (s := S8192x256) ![512 * b.val, 128 * h.val] S512x128.size (inb_read b h)).toLoadRect g

/-- What the last point stores of a block of rows: of the packed gradient, and of the planes. -/
abbrev piece10 (b : Fin 16) : View.Piece (Elt Ideal) S8192x128 .bf16 :=
  ⟨Rect.unit (s := S8192x128) ![512 * b.val, 0] S512x128.size (inb_ten b), k0_pay27 (F := Ideal) (part arg12 g b 0) (part arg12 g b 1)⟩
abbrev piece11 (b : Fin 16) : View.Piece (Elt Ideal) S1x8192x128 .f32 :=
  ⟨Rect.unit (s := S1x8192x128) ![0, 512 * b.val, 0] S1x512x128.size (inb_eleven b), k0_pay28 (F := Ideal) laneIx (part arg12 g b 0) (part arg12 g b 1)⟩

/-- The blocks in the order of the list, the last stored first. -/
abbrev blocks : List (Fin 16) := [15, 14, 13, 12, 11, 10, 9, 8, 7, 6, 5, 4, 3, 2, 1, 0]

theorem tail_pieces10 : (runTail (F := Ideal) arg2 harg2 arg3 harg3 arg4 harg4 arg5 harg5 arg6 harg6 arg7 harg7 arg8 harg8 arg9 harg9 arg10 harg10 arg11 harg11 arg12 harg12 c i laneIx g).1 = blocks.map (piece10 arg12 g) := by
  unfold runTail
  dsimp only
  rfl

theorem tail_pieces11 : (runTail (F := Ideal) arg2 harg2 arg3 harg3 arg4 harg4 arg5 harg5 arg6 harg6 arg7 harg7 arg8 harg8 arg9 harg9 arg10 harg10 arg11 harg11 arg12 harg12 c i laneIx g).2.1 = blocks.map (piece11 arg12 g) := by
  unfold runTail
  dsimp only
  rfl

/-- The packed gradient of the queries: two heads' 64 columns side by side, times the scale. -/
def packed (q : Vec Ideal S8192x256 .f32) (l : Fin 8192) (x : Fin 128) : EReal :=
  q (ix2 l ⟨128 * (x.val / 64) + x.val % 64, by omega⟩) * ((0.125 : ℝ) : EReal)

/-- The planes of the row sums: column 67 of two heads in lanes 0 and 1. -/
def plane (q : Vec Ideal S8192x256 .f32) (l : Fin 8192) (x : Fin 128) : EReal :=
  if x.val = 0 then q (ix2 l 67) else if x.val = 1 then q (ix2 l 195) else 0

theorem part_eq (b : Fin 16) (h : Fin 2) : part arg12 g b h = win (arg12.view.read (Elt Ideal) g) b.val h.val :=
  readAt_win arg12 _ _ _ _ _ rfl

theorem tail10_apply (l : Fin 8192) (x : Fin 128) :
    tail10 (F := Ideal) arg2 harg2 arg3 harg3 arg4 harg4 arg5 harg5 arg6 harg6 arg7 harg7 arg8 harg8 arg9 harg9 arg10 harg10 arg11 harg11 arg12 harg12 c i laneIx g (ix2 l x) = packed (arg12.view.read (Elt Ideal) g) l x := by
  unfold tail10
  rw [tail_pieces10]
  have cover : ∀ y : S8192x128.Idx, ∃ p ∈ blocks.map (piece10 arg12 g), y ∈ p.1.set :=
    View.cover_of_tiledL (s := S8192x128) _ S512x128.size (by sl_kernel_rfl)
  refine View.canon_apply_of_pieces (S := S8192x128) (fun y => packed (arg12.view.read (Elt Ideal) g) (y 0) (y 1)) _ ?_ (ix2 l x) (cover _)
  intro p hp y
  obtain ⟨b, -, rfl⟩ := List.mem_map.mp hp
  obtain ⟨r, x', rfl⟩ : ∃ (r : Fin 512) (x' : Fin 128), y = ix2 r x' := ⟨y 0, y 1, ValueIdx.eq_ix2 y⟩
  have hr := r.isLt
  have hb := b.isLt
  have e : (piece10 arg12 g b).1.emb (ix2 r x') = (ix2 ⟨512 * b.val + r.val, by omega⟩ x' : S8192x128.Idx) := by
    funext a
    match a with
    | 0 => exact Fin.ext (by show 512 * b.val + 1 * r.val = 512 * b.val + r.val; omega)
    | 1 => exact Fin.ext (by show 0 + 1 * x'.val = x'.val; omega)
  rw [e]
  refine (pay27_apply _ _ r x').trans ?_
  rw [part_eq, part_eq]
  refine congrArg (· * ((0.125 : ℝ) : EReal)) ?_
  have at_ix (n m : Fin 8192) (k k' : Fin 256) (hn : n = m) (hk : k = k') :
      arg12.view.read (Elt Ideal) g (ix2 n k) = arg12.view.read (Elt Ideal) g (ix2 m k') := by rw [hn, hk]
  have hx := x'.isLt
  by_cases h : x'.val < 64
  · refine (if_pos h).trans (at_ix _ _ _ _ (Fin.ext ?_) (Fin.ext ?_))
    · show (512 * b.val + r.val) % 8192 = 512 * b.val + r.val; omega
    · show (128 * 0 + x'.val) % 256 = 128 * (x'.val / 64) + x'.val % 64; omega
  · refine (if_neg h).trans (at_ix _ _ _ _ (Fin.ext ?_) (Fin.ext ?_))
    · show (512 * b.val + r.val) % 8192 = 512 * b.val + r.val; omega
    · show (128 * 1 + (x'.val - 64)) % 256 = 128 * (x'.val / 64) + x'.val % 64; omega

theorem tail11_apply (l : Fin 8192) (x : Fin 128) :
    tail11 (F := Ideal) arg2 harg2 arg3 harg3 arg4 harg4 arg5 harg5 arg6 harg6 arg7 harg7 arg8 harg8 arg9 harg9 arg10 harg10 arg11 harg11 arg12 harg12 c i laneIx g (ix3 0 l x) = plane (arg12.view.read (Elt Ideal) g) l x := by
  unfold tail11
  rw [tail_pieces11]
  have cover : ∀ y : S1x8192x128.Idx, ∃ p ∈ blocks.map (piece11 arg12 g), y ∈ p.1.set :=
    View.cover_of_tiledL (s := S1x8192x128) _ S1x512x128.size (by sl_kernel_rfl)
  refine View.canon_apply_of_pieces (S := S1x8192x128) (fun y => plane (arg12.view.read (Elt Ideal) g) (y 1) (y 2)) _ ?_ (ix3 0 l x) (cover _)
  intro p hp y
  obtain ⟨b, -, rfl⟩ := List.mem_map.mp hp
  obtain ⟨r, x', rfl⟩ : ∃ (r : Fin 512) (x' : Fin 128), y = ix3 0 r x' := ⟨y 1, y 2, by
    funext a
    match a with
    | 0 => exact Fin.ext (Nat.lt_one_iff.mp (y 0).isLt)
    | 1 => rfl
    | 2 => rfl⟩
  have hr := r.isLt
  have hb := b.isLt
  have e : (piece11 arg12 g b).1.emb (ix3 0 r x') = (ix3 0 ⟨512 * b.val + r.val, by omega⟩ x' : S1x8192x128.Idx) := by
    funext a
    match a with
    | 0 => exact Fin.ext rfl
    | 1 => exact Fin.ext (by show 512 * b.val + 1 * r.val = 512 * b.val + r.val; omega)
    | 2 => exact Fin.ext (by show 0 + 1 * x'.val = x'.val; omega)
  rw [e]
  refine (pay28_apply _ _ r x').trans ?_
  rw [part_eq, part_eq]
  have at_row (k : Fin 256) (h : (512 * b.val + r.val) % 8192 < 8192) :
      arg12.view.read (Elt Ideal) g (ix2 ⟨(512 * b.val + r.val) % 8192, h⟩ k)
        = arg12.view.read (Elt Ideal) g (ix2 ⟨512 * b.val + r.val, by omega⟩ k) :=
    congrArg (fun n => arg12.view.read (Elt Ideal) g (ix2 n k)) (Fin.ext (Nat.mod_eq_of_lt (by omega)))
  exact if_congr Iff.rfl (at_row 67 _) (if_congr Iff.rfl (at_row 195 _) rfl)

end Cert.Fox
end
-- ==== Proof.FoxBlocks.lean ====
/- What a point of the grid leaves, in terms of the packed arrays the launch takes. -/
module

public import proofs.«01_k».proof.Proof.FoxTail
public import Idealize.ShloMosaic.Lib.Pipeline.ValueKit

@[expose] public section

set_option maxRecDepth 16384

noncomputable section

namespace Cert.Fox

open Cert.Kernel2Ideal Cert.Kernel2Ideal.Gen
open Idealize.ShloMosaic

/-- A packed array: eight heads of 128 lanes. -/
abbrev Packed := Vec Ideal S8192x1024 .bf16

/-- The column of head `h`'s lane `x`. -/
def col (h : Fin 8) (x : Fin 128) : Fin 1024 := ⟨128 * h.val + x.val, by omega⟩

/-- Head `n` of head pair `a`. -/
def headOf (a : Fin 4) (n : Fin 2) : Fin 8 := ⟨2 * a.val + n.val, by omega⟩

section Sums

variable (K V Q D : Packed)

/-- Head `h`'s product of row `k` of one array with row `l` of the other. -/
def dotG (X Y : Packed) (h : Fin 8) (k l : Fin 8192) : EReal := ∑ x : Fin 128, X (ix2 k (col h x)) * Y (ix2 l (col h x))

/-- The weight query `l` gives to key `k`. -/
def weightG (h : Fin 8) (k l : Fin 8192) : EReal := if k ≤ l then Ideal.exp (dotG K Q h k l) else 0

/-- The gradient of its score. -/
def slopeG (h : Fin 8) (k l : Fin 8192) : EReal := weightG K Q h k l * dotG V D h k l

def dvG (h : Fin 8) (k : Fin 8192) (x : Fin 128) : EReal := ∑ l : Fin 8192, weightG K Q h k l * D (ix2 l (col h x))
def dkG (h : Fin 8) (k : Fin 8192) (x : Fin 128) : EReal := ∑ l : Fin 8192, slopeG K V Q D h k l * Q (ix2 l (col h x))
def dqG (h : Fin 8) (l : Fin 8192) (x : Fin 128) : EReal := ∑ k : Fin 8192, slopeG K V Q D h k l * K (ix2 k (col h x))

end Sums

variable (m : (ℓ : Loc nD τ sig) → Buf (Elt Ideal) ℓ) (c : Dev nD)

abbrev keysA : Packed := V m c main_v73
abbrev valuesA : Packed := V m c main_v78
abbrev queriesA : Packed := V m c main_v57
abbrev cotA : Packed := V m c main_v93

/-! ## The points -/

/-- The point of head pair `a` and key block `j`. -/
def pt (a : Fin 4) (j : Fin 16) : Fin cfg0.N := ⟨16 * a.val + j.val, by show _ < 64; omega⟩

theorem pt_mod (a : Fin 4) (j : Fin 16) : (pt a j).val % 16 = j.val := by
  show (16 * a.val + j.val) % 16 = j.val; omega

theorem idx1 (a : Fin 4) (j : Fin 16) : win0_1.index (pt a j) 0 = j.val ∧ win0_1.index (pt a j) 1 = a.val := by
  revert a j; decide +kernel
theorem idx2 (a : Fin 4) (j : Fin 16) : win0_2.index (pt a j) 0 = j.val ∧ win0_2.index (pt a j) 1 = a.val := by
  revert a j; decide +kernel
theorem idx3 (a : Fin 4) (j : Fin 16) : win0_3.index (pt a j) 0 = 0 ∧ win0_3.index (pt a j) 1 = a.val := by
  revert a j; decide +kernel
theorem idx4 (a : Fin 4) (j : Fin 16) : win0_4.index (pt a j) 0 = 0 ∧ win0_4.index (pt a j) 1 = a.val := by
  revert a j; decide +kernel
theorem idx5 (a : Fin 4) (j : Fin 16) : win0_5.index (pt a j) 0 = j.val ∧ win0_5.index (pt a j) 1 = a.val := by
  revert a j; decide +kernel
theorem idx6 (a : Fin 4) (j : Fin 16) : win0_6.index (pt a j) 0 = j.val ∧ win0_6.index (pt a j) 1 = a.val := by
  revert a j; decide +kernel
theorem idx7 (a : Fin 4) (j : Fin 16) : win0_7.index (pt a j) 0 = a.val ∧ win0_7.index (pt a j) 1 = j.val ∧ win0_7.index (pt a j) 2 = 0 := by
  revert a j; decide +kernel
theorem idx8 (a : Fin 4) (j : Fin 16) : win0_8.index (pt a j) 0 = 0 ∧ win0_8.index (pt a j) 1 = a.val := by
  revert a j; decide +kernel
theorem idx9 (a : Fin 4) (j : Fin 16) : win0_9.index (pt a j) 0 = a.val ∧ win0_9.index (pt a j) 1 = 0 ∧ win0_9.index (pt a j) 2 = 0 := by
  revert a j; decide +kernel

theorem pt_of (t : Fin cfg0.N) : ∃ a j, t = pt a j :=
  ⟨⟨t.val / 16, by have : t.val < 64 := t.isLt; omega⟩, ⟨t.val % 16, by omega⟩, Fin.ext (by
    show t.val = 16 * (t.val / 16) + t.val % 16; omega)⟩

/-! ## The blocks the points take -/

/-- The row of a key block. -/
def row (j : Fin 16) (r : Fin 512) : Fin 8192 := ⟨512 * j.val + r.val, by omega⟩

/-- The column of a head pair. -/
def pairCol (a : Fin 4) (x : Fin 256) : Fin 1024 := ⟨256 * a.val + x.val, by omega⟩

theorem read1 (a : Fin 4) (j : Fin 16) (r : Fin 512) (x : Fin 256) (A : Packed) :
    (((cfg0.win 1).blk (pt a j)).view.read (Elt Ideal) A : Vec Ideal S512x256 .bf16) (ix2 r x) = A (ix2 (row j r) (pairCol a x)) := by
  refine congrArg A (funext fun i => Fin.ext ?_)
  match i with
  | ⟨0, _⟩ => show win0_1.index (pt a j) 0 * 512 + 1 * r.val = 512 * j.val + r.val; rw [(idx1 a j).1]; omega
  | ⟨1, _⟩ => show win0_1.index (pt a j) 1 * 256 + 1 * x.val = 256 * a.val + x.val; rw [(idx1 a j).2]; omega

theorem blk1 (a : Fin 4) (j : Fin 16) (r : Fin 512) (x : Fin 256) :
    (iblk m c 1 (pt a j) : Vec Ideal S512x256 .bf16) (ix2 r x) = keysA m c (ix2 (row j r) (pairCol a x)) := by
  unfold iblk
  exact read1 a j r x _

theorem read2 (a : Fin 4) (j : Fin 16) (r : Fin 512) (x : Fin 256) (A : Packed) :
    (((cfg0.win 2).blk (pt a j)).view.read (Elt Ideal) A : Vec Ideal S512x256 .bf16) (ix2 r x) = A (ix2 (row j r) (pairCol a x)) := by
  refine congrArg A (funext fun i => Fin.ext ?_)
  match i with
  | ⟨0, _⟩ => show win0_2.index (pt a j) 0 * 512 + 1 * r.val = 512 * j.val + r.val; rw [(idx2 a j).1]; omega
  | ⟨1, _⟩ => show win0_2.index (pt a j) 1 * 256 + 1 * x.val = 256 * a.val + x.val; rw [(idx2 a j).2]; omega

theorem blk2 (a : Fin 4) (j : Fin 16) (r : Fin 512) (x : Fin 256) :
    (iblk m c 2 (pt a j) : Vec Ideal S512x256 .bf16) (ix2 r x) = valuesA m c (ix2 (row j r) (pairCol a x)) := by
  unfold iblk
  exact read2 a j r x _

theorem read3 (a : Fin 4) (j : Fin 16) (l : Fin 8192) (x : Fin 256) (A : Packed) :
    (((cfg0.win 3).blk (pt a j)).view.read (Elt Ideal) A : Vec Ideal S8192x256 .bf16) (ix2 l x) = A (ix2 l (pairCol a x)) := by
  refine congrArg A (funext fun i => Fin.ext ?_)
  match i with
  | ⟨0, _⟩ => show win0_3.index (pt a j) 0 * 8192 + 1 * l.val = l.val; rw [(idx3 a j).1]; omega
  | ⟨1, _⟩ => show win0_3.index (pt a j) 1 * 256 + 1 * x.val = 256 * a.val + x.val; rw [(idx3 a j).2]; omega

theorem blk3 (a : Fin 4) (j : Fin 16) (l : Fin 8192) (x : Fin 256) :
    (iblk m c 3 (pt a j) : Vec Ideal S8192x256 .bf16) (ix2 l x) = queriesA m c (ix2 l (pairCol a x)) := by
  unfold iblk
  exact read3 a j l x _

theorem read4 (a : Fin 4) (j : Fin 16) (l : Fin 8192) (x : Fin 256) (A : Packed) :
    (((cfg0.win 4).blk (pt a j)).view.read (Elt Ideal) A : Vec Ideal S8192x256 .bf16) (ix2 l x) = A (ix2 l (pairCol a x)) := by
  refine congrArg A (funext fun i => Fin.ext ?_)
  match i with
  | ⟨0, _⟩ => show win0_4.index (pt a j) 0 * 8192 + 1 * l.val = l.val; rw [(idx4 a j).1]; omega
  | ⟨1, _⟩ => show win0_4.index (pt a j) 1 * 256 + 1 * x.val = 256 * a.val + x.val; rw [(idx4 a j).2]; omega

theorem blk4 (a : Fin 4) (j : Fin 16) (l : Fin 8192) (x : Fin 256) :
    (iblk m c 4 (pt a j) : Vec Ideal S8192x256 .bf16) (ix2 l x) = cotA m c (ix2 l (pairCol a x)) := by
  unfold iblk
  exact read4 a j l x _

theorem pairCol_head (a : Fin 4) (n : Fin 2) (x : Fin 128) (h : (128 * n.val + x.val) % 256 < 256) :
    pairCol a ⟨(128 * n.val + x.val) % 256, h⟩ = col (headOf a n) x :=
  Fin.ext (by show 256 * a.val + (128 * n.val + x.val) % 256 = 128 * (2 * a.val + n.val) + x.val; omega)

theorem short_of (X : Packed) (B : Vec Ideal S512x256 .bf16) (a : Fin 4) (j : Fin 16)
    (hB : ∀ r x, B (ix2 r x) = X (ix2 (row j r) (pairCol a x))) (n : Fin 2) (r : Fin 512) (x : Fin 128) :
    short B r (128 * n.val + x.val) = X (ix2 (row j r) (col (headOf a n) x)) := by
  unfold short
  rw [hB, pairCol_head]

theorem long_of (X : Packed) (B : Vec Ideal S8192x256 .bf16) (a : Fin 4)
    (hB : ∀ l x, B (ix2 l x) = X (ix2 l (pairCol a x))) (n : Fin 2) (l : Fin 8192) (x : Fin 128) :
    long B l.val (128 * n.val + x.val) = X (ix2 l (col (headOf a n) x)) := by
  unfold long
  rw [hB, pairCol_head]
  exact congrArg (fun l => X (ix2 l (col (headOf a n) x))) (Fin.ext (Nat.mod_eq_of_lt l.isLt))

theorem dotH_of (X Y : Packed) (B : Vec Ideal S512x256 .bf16) (B' : Vec Ideal S8192x256 .bf16) (a : Fin 4) (j : Fin 16)
    (hB : ∀ r x, B (ix2 r x) = X (ix2 (row j r) (pairCol a x))) (hB' : ∀ l x, B' (ix2 l x) = Y (ix2 l (pairCol a x)))
    (n : Fin 2) (r : Fin 512) (l : Fin 8192) : dotH B B' n.val r l.val = dotG X Y (headOf a n) (row j r) l :=
  Finset.sum_congr rfl fun x _ => by rw [short_of X B a j hB, long_of Y B' a hB']

theorem weight_of (a : Fin 4) (j : Fin 16) (n : Fin 2) (r : Fin 512) (l : Fin 8192) :
    weight (iblk m c 1 (pt a j)) (iblk m c 3 (pt a j)) j.val n.val r l.val = weightG (keysA m c) (queriesA m c) (headOf a n) (row j r) l := by
  unfold weight weightG
  rw [dotH_of _ _ _ _ a j (blk1 m c a j) (blk3 m c a j)]
  exact if_congr Iff.rfl rfl rfl

theorem slope_of (a : Fin 4) (j : Fin 16) (n : Fin 2) (r : Fin 512) (l : Fin 8192) :
    slope (iblk m c 1 (pt a j)) (iblk m c 2 (pt a j)) (iblk m c 3 (pt a j)) (iblk m c 4 (pt a j)) j.val n.val r l.val
      = slopeG (keysA m c) (valuesA m c) (queriesA m c) (cotA m c) (headOf a n) (row j r) l := by
  unfold slope slopeG
  rw [weight_of, dotH_of _ _ _ _ a j (blk2 m c a j) (blk4 m c a j)]

theorem dvSum_of (a : Fin 4) (j : Fin 16) (n : Fin 2) (r : Fin 512) (x : Fin 128) :
    dvSum (iblk m c 1 (pt a j)) (iblk m c 3 (pt a j)) (iblk m c 4 (pt a j)) j.val n.val r x
      = dvG (keysA m c) (queriesA m c) (cotA m c) (headOf a n) (row j r) x :=
  Finset.sum_congr rfl fun l _ => by rw [weight_of, long_of _ _ a (blk4 m c a j)]

theorem dkSum_of (a : Fin 4) (j : Fin 16) (n : Fin 2) (r : Fin 512) (x : Fin 128) :
    dkSum (iblk m c 1 (pt a j)) (iblk m c 2 (pt a j)) (iblk m c 3 (pt a j)) (iblk m c 4 (pt a j)) j.val n.val r x
      = dkG (keysA m c) (valuesA m c) (queriesA m c) (cotA m c) (headOf a n) (row j r) x :=
  Finset.sum_congr rfl fun l _ => by rw [slope_of, long_of _ _ a (blk3 m c a j)]

/-! ## What a point leaves -/

/-- All of a point's query blocks worked, from the queries' gradient `q`. -/
def workedAt (t : Fin cfg0.N) (q : Vec Ideal S8192x256 .f32) : State :=
  worked (iblk m c 1 t) (iblk m c 2 t) (iblk m c 3 t) (iblk m c 4 t) (t.val % 16) q

theorem point_of (t : Fin cfg0.N) (x1 x2 : Vec Ideal S512x256 .bf16) (x3 x4 : Vec Ideal S8192x256 .bf16) (q : Vec Ideal S8192x256 .f32)
    (R) (hR : R = (run (F := Ideal) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) (chk t) x1 x2 x3 x4 q)) :
    R.1 = k0_pay100 (worked x1 x2 x3 x4 (t.val % 16) q).1.2.1 (worked x1 x2 x3 x4 (t.val % 16) q).1.2.2.2
    ∧ R.2.1 = k0_pay101 (worked x1 x2 x3 x4 (t.val % 16) q).1.1 (worked x1 x2 x3 x4 (t.val % 16) q).1.2.2.1
    ∧ R.2.2.1 = k0_pay102 laneIx (worked x1 x2 x3 x4 (t.val % 16) q).1.2.1 (worked x1 x2 x3 x4 (t.val % 16) q).1.2.2.2
    ∧ R.2.2.2.1 = laneIx
    ∧ (Memref.whole cc0_scratch0).view.read (Elt Ideal) R.2.2.2.2.1 = (worked x1 x2 x3 x4 (t.val % 16) q).2 := by
  subst hR
  exact run_eq (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c t (chk t) x1 x2 x3 x4 q

theorem point_eq (t : Fin cfg0.N) (q : Vec Ideal S8192x256 .f32) :
    (runAt m c t q).1 = k0_pay100 (workedAt m c t q).1.2.1 (workedAt m c t q).1.2.2.2
    ∧ (runAt m c t q).2.1 = k0_pay101 (workedAt m c t q).1.1 (workedAt m c t q).1.2.2.1
    ∧ (runAt m c t q).2.2.1 = k0_pay102 laneIx (workedAt m c t q).1.2.1 (workedAt m c t q).1.2.2.2
    ∧ (runAt m c t q).2.2.2.1 = laneIx
    ∧ step m c t q = (workedAt m c t q).2 :=
  point_of c t (iblk m c 1 t) (iblk m c 2 t) (iblk m c 3 t) (iblk m c 4 t) q (runAt m c t q) rfl

end Cert.Fox
end
-- ==== Proof.FoxSoft.lean ====
/- The forgetting attention over the real numbers, and the entries of the reference's intermediate arrays: scores, softmax,
   the product of cotangents with values, and the gradient of the scores. -/
module

public import proofs.«01_k».proof.Proof.FoxBlocks
public import proofs.«01_k».proof.Proof.FgMath
public import proofs.«01_k».proof.Proof.Gen.Reference2Ideal.Read
public import Idealize.ShloMosaic.Lib.Pointwise
public import Idealize.ShloMosaic.Lib.KernelVsHost
public import Idealize.ShloMosaic.Lib.WordCmp

@[expose] public section

set_option maxRecDepth 16384

noncomputable section

namespace Cert.Fox

open Cert.Reference2Ideal Cert.Reference2Ideal.Gen Cert.Reference2Ideal.Read
open Idealize.ShloMosaic
open Cert.FG (coe_sum)

/-- The five arguments as real numbers. -/
structure Args where
  q : Fin 8192 → Fin 8 → Fin 64 → ℝ
  k : Fin 8192 → Fin 8 → Fin 64 → ℝ
  v : Fin 8192 → Fin 8 → Fin 64 → ℝ
  cum : Fin 8192 → Fin 8 → ℝ
  ct : Fin 8192 → Fin 8 → Fin 64 → ℝ

namespace Args

variable (R : Args) (T : Fin 8 → Fin 8192 → ℝ)

/-- The score of query `i` and key `j`. -/
def score (h : Fin 8) (i j : Fin 8192) : ℝ := (∑ d, R.q i h d * R.k j h d) * 0.125 + R.cum i h - R.cum j h

/-- The weight before normalising, scores taken relative to the number `T` of the row. -/
def raw (h : Fin 8) (i j : Fin 8192) : ℝ := if j ≤ i then Real.exp (R.score h i j - T h i) else 0

def total (h : Fin 8) (i : Fin 8192) : ℝ := ∑ j, R.raw T h i j

/-- The softmax. -/
def prob (h : Fin 8) (i j : Fin 8192) : ℝ := R.raw T h i j / R.total T h i

/-- The gradient of a weight. -/
def pair (h : Fin 8) (i j : Fin 8192) : ℝ := ∑ d, R.ct i h d * R.v j h d

/-- The gradient of a score. -/
def slope (h : Fin 8) (i j : Fin 8192) : ℝ := R.prob T h i j * (R.pair h i j - ∑ l, R.pair h i l * R.prob T h i l)

theorem total_pos (h : Fin 8) (i : Fin 8192) : 0 < R.total T h i := by
  refine Finset.sum_pos' (fun j _ => ?_) ⟨i, Finset.mem_univ _, ?_⟩
  · unfold raw
    split
    · exact (Real.exp_pos _).le
    · exact le_rfl
  · unfold raw
    rw [if_pos le_rfl]
    exact Real.exp_pos _

/-- The arguments' arrays hold these numbers. -/
structure Held (x0 x1 x2 : Vec Ideal S1x8192x8x64 .f32) (x3 : Vec Ideal S1x8192x8 .f32) (x4 : Vec Ideal S1x8192x512 .f32) : Prop where
  q : ∀ i h d, x0 (ix4 (0 : Fin 1) i h d) = ((R.q i h d : ℝ) : EReal)
  k : ∀ i h d, x1 (ix4 (0 : Fin 1) i h d) = ((R.k i h d : ℝ) : EReal)
  v : ∀ i h d, x2 (ix4 (0 : Fin 1) i h d) = ((R.v i h d : ℝ) : EReal)
  cum : ∀ i h, x3 (ix3 (0 : Fin 1) i h) = ((R.cum i h : ℝ) : EReal)
  ct : ∀ (i : Fin 8192) (h : Fin 8) (d : Fin 64), x4 (ix3 (0 : Fin 1) i (⟨h.val * 64 + d.val, by omega⟩ : Fin 512)) = ((R.ct i h d : ℝ) : EReal)

end Args

/-! ## Sums over axes of one entry -/

theorem only {s t : Shape} {axes : List (Fin s.rank)} (h : s.ReducesTo axes t) (x : s.Idx → EReal) (j : t.Idx) (i0 : s.Idx)
    (h0 : h.drop i0 = j) (h1 : ∀ i, h.drop i = j → i = i0) : Ideal.hostReduceAdd h x 0 j = x i0 := by
  unfold Ideal.hostReduceAdd
  rw [zero_add]
  exact Finset.sum_eq_single_of_mem i0 (Finset.mem_filter.mpr ⟨Finset.mem_univ _, h0⟩)
    fun i hi hne => absurd (h1 i (Finset.mem_filter.mp hi).2) hne

theorem only_row (x : S1x8x8192x1.Idx → EReal) (h : Fin 8) (i : Fin 8192) :
    Ideal.hostReduceAdd reducesTo_S1x8x8192x1_S8x8192_d0_3 x 0 (ix2 h i) = x (ix4 (0 : Fin 1) h i (0 : Fin 1)) := by
  have d0 : ∀ y : S1x8x8192x1.Idx, (reducesTo_S1x8x8192x1_S8x8192_d0_3.drop y 0).val = (y 1).val := fun y =>
    Shape.ReducesTo.drop_apply_val_of_eq _ y 0 1
  have d1 : ∀ y : S1x8x8192x1.Idx, (reducesTo_S1x8x8192x1_S8x8192_d0_3.drop y 1).val = (y 2).val := fun y =>
    Shape.ReducesTo.drop_apply_val_of_eq _ y 1 2
  refine only _ x _ _ (funext fun a => ?_) fun y e => funext fun a => ?_
  · match a with
    | 0 => exact Fin.ext (d0 _)
    | 1 => exact Fin.ext (d1 _)
  · have e0 : (y 1).val = h.val := by rw [← d0 y, e]; rfl
    have e1 : (y 2).val = i.val := by rw [← d1 y, e]; rfl
    match a with
    | 0 => exact Fin.ext (by exact Nat.lt_one_iff.mp (y 0).isLt)
    | 1 => exact Fin.ext e0
    | 2 => exact Fin.ext e1
    | 3 => exact Fin.ext (by exact Nat.lt_one_iff.mp (y 3).isLt)

theorem only_col (x : S1x8x1x8192.Idx → EReal) (h : Fin 8) (i : Fin 8192) :
    Ideal.hostReduceAdd reducesTo_S1x8x1x8192_S8x8192_d0_2 x 0 (ix2 h i) = x (ix4 (0 : Fin 1) h (0 : Fin 1) i) := by
  have d0 : ∀ y : S1x8x1x8192.Idx, (reducesTo_S1x8x1x8192_S8x8192_d0_2.drop y 0).val = (y 1).val := fun y =>
    Shape.ReducesTo.drop_apply_val_of_eq _ y 0 1
  have d1 : ∀ y : S1x8x1x8192.Idx, (reducesTo_S1x8x1x8192_S8x8192_d0_2.drop y 1).val = (y 3).val := fun y =>
    Shape.ReducesTo.drop_apply_val_of_eq _ y 1 3
  refine only _ x _ _ (funext fun a => ?_) fun y e => funext fun a => ?_
  · match a with
    | 0 => exact Fin.ext (d0 _)
    | 1 => exact Fin.ext (d1 _)
  · have e0 : (y 1).val = h.val := by rw [← d0 y, e]; rfl
    have e1 : (y 3).val = i.val := by rw [← d1 y, e]; rfl
    match a with
    | 0 => exact Fin.ext (by exact Nat.lt_one_iff.mp (y 0).isLt)
    | 1 => exact Fin.ext e0
    | 2 => exact Fin.ext (by exact Nat.lt_one_iff.mp (y 2).isLt)
    | 3 => exact Fin.ext e1

/-! ## The softmax -/

theorem minus_inf : Ideal.ofBits .f32 0xFF800000#32 = (⊥ : EReal) := by simp [Ideal.ofBits, Ideal.ieee]

/-- The greatest of numbers some of which are −∞, one of them being a number. -/
theorem fold_max_real {n : ℕ} (f : Fin n → EReal) (hf : ∀ j, f j ≠ ⊤) (i : Fin n) (hi : f i ≠ ⊥) :
    ∃ t : ℝ, Finset.univ.fold max ⊥ f = ((t : ℝ) : EReal) := by
  have h1 : Finset.univ.fold max ⊥ f ≠ ⊤ := (Finset.fold_max_lt (c := (⊤ : EReal))).mpr
    ⟨bot_lt_top, fun j _ => lt_top_iff_ne_top.mpr (hf j)⟩ |>.ne
  have h2 : Finset.univ.fold max ⊥ f ≠ ⊥ := ((Finset.lt_fold_max (c := (⊥ : EReal))).mpr
    (Or.inr ⟨i, Finset.mem_univ _, bot_lt_iff_ne_bot.mpr hi⟩)).ne'
  exact ⟨_, (EReal.coe_toReal h1 h2).symm⟩

variable {x0 x1 x2 : Vec Ideal S1x8192x8x64 .f32} {x3 : Vec Ideal S1x8192x8 .f32} {x4 : Vec Ideal S1x8192x512 .f32}
variable {R : Args} (hR : R.Held x0 x1 x2 x3 x4)

theorem causal_apply (i j : Fin 8192) (h : Fin 8) :
    val_main_v18_1 (F := Ideal) (ix4 (0 : Fin 1) h i j) = BitVec.ofBool (decide (j ≤ i)) := by
  unfold val_main_v18_1 val_main_v17 val_main_v16 val_main_v15 val_main_v14 val_main_v13 val_main_v12 val_main_v11
  pointwise
  exact WordCmp.cmpi_sle_ofNat (by have := j.isLt; omega) (by have := i.isLt; omega)

include hR in
theorem score_apply (i j : Fin 8192) (h : Fin 8) :
    val_main_v10 (F := Ideal) x0 x1 x3 (ix4 (0 : Fin 1) h i j) = ((R.score h i j : ℝ) : EReal) := by
  unfold val_main_v10 val_main_v9 val_main_v8 val_main_v7 val_main_v6 val_main_v5 val_main_v4 val_main_v3 val_main_v2
    val_main_v1 val_main_cst val_main_v0
  pointwise
  simp only [scale_eq, hR.q, hR.k, hR.cum, ← EReal.coe_mul, ← coe_sum, ← EReal.coe_add, ← EReal.coe_sub]
  rfl

/-- The masked scores. -/
def masked (R : Args) (h : Fin 8) (i j : Fin 8192) : EReal := if j ≤ i then ((R.score h i j : ℝ) : EReal) else ⊥

include hR in
theorem masked_apply (i j : Fin 8192) (h : Fin 8) :
    val_main_v18_0 (F := Ideal) x0 x1 x3 (ix4 (0 : Fin 1) h i j) = masked R h i j := by
  rw [val_main_v18_0_apply, causal_apply, score_apply hR]
  have e : val_main_call0_v2 (F := Ideal) (ix4 (0 : Fin 1) h i j) = (⊥ : EReal) := by
    rw [val_main_call0_v2_apply, val_main_call0_v0_apply, val_main_cst_0_apply]
    exact minus_inf
  rw [e]
  unfold masked
  by_cases hj : j ≤ i
  · rw [if_pos hj, decide_eq_true hj]; rfl
  · rw [if_neg hj, decide_eq_false hj]; rfl

include hR in
/-- A row's greatest score is a number. -/
theorem top_apply : ∃ T : Fin 8 → Fin 8192 → ℝ, ∀ h i,
    val_main_v19 (F := Ideal) x0 x1 x3 (ix3 (0 : Fin 1) h i) = ((T h i : ℝ) : EReal) := by
  have H : ∀ h i, ∃ t : ℝ, val_main_v19 (F := Ideal) x0 x1 x3 (ix3 (0 : Fin 1) h i) = ((t : ℝ) : EReal) := by
    intro h i
    have e := fun j => masked_apply hR i j h
    revert e
    unfold val_main_v19 val_main_cst_1
    generalize val_main_v18_0 (F := Ideal) x0 x1 x3 = y
    intro e
    pointwise
    simp only [minus_inf]
    refine fold_max_real _ (fun j => ?_) i ?_
    · show y (ix4 (0 : Fin 1) h i j) ≠ ⊤
      rw [e j]
      unfold masked
      split
      · exact EReal.coe_ne_top _
      · exact bot_ne_top
    · show y (ix4 (0 : Fin 1) h i i) ≠ ⊥
      rw [e i]
      unfold masked
      rw [if_pos le_rfl]
      exact EReal.coe_ne_bot _
  choose T hT using H
  exact ⟨T, hT⟩

/-- The exponential of a masked score relative to its row's number. -/
theorem exp_masked (R : Args) (T : Fin 8 → Fin 8192 → ℝ) (h : Fin 8) (i j : Fin 8192) :
    Ideal.exp (masked R h i j - ((T h i : ℝ) : EReal)) = ((R.raw T h i j : ℝ) : EReal) := by
  unfold masked Args.raw
  split
  · rw [← EReal.coe_sub, Ideal.exp_coe]
  · rw [EReal.bot_sub]; rfl

variable {T : Fin 8 → Fin 8192 → ℝ}
variable (hT : ∀ h i, val_main_v19 (F := Ideal) x0 x1 x3 (ix3 (0 : Fin 1) h i) = ((T h i : ℝ) : EReal))

include hT in
theorem relative_apply (i : Fin 8192) (h : Fin 8) :
    val_main_v26 (F := Ideal) x0 x1 x3 (ix3 (0 : Fin 1) h i) = ((T h i : ℝ) : EReal) := by
  rw [val_main_v26_apply, hT]
  have e : val_main_v25 (F := Ideal) (ix3 (0 : Fin 1) h i) = (⊥ : EReal) := by
    rw [val_main_v25_apply, val_main_cst_3_apply]
    exact minus_inf
  rw [e]
  exact max_eq_right bot_le

include hR hT in
theorem raw_apply (i j : Fin 8192) (h : Fin 8) :
    val_main_v39 (F := Ideal) x0 x1 x3 (ix4 (0 : Fin 1) h i j) = ((R.raw T h i j : ℝ) : EReal) := by
  rw [← exp_masked, ← masked_apply hR i j h, ← relative_apply hT i h, val_main_v39_apply, val_main_v38_apply]
  refine congrArg (fun u => Ideal.exp (val_main_v18_0 (F := Ideal) x0 x1 x3 (ix4 (0 : Fin 1) h i j) - u)) ?_
  unfold val_main_v37 val_main_v36
  generalize val_main_v26 (F := Ideal) x0 x1 x3 = y
  pointwise

include hR hT in
theorem total_apply (i : Fin 8192) (h : Fin 8) :
    val_main_v40 (F := Ideal) x0 x1 x3 (ix3 (0 : Fin 1) h i) = ((R.total T h i : ℝ) : EReal) := by
  have e := fun j => raw_apply hR hT i j h
  revert e
  unfold val_main_v40 val_main_cst_9
  generalize val_main_v39 (F := Ideal) x0 x1 x3 = y
  intro e
  pointwise
  simp only [e, ← coe_sum]
  rfl

theorem div_real (a b : ℝ) (hb : 0 < b) : Ideal.div (a : EReal) (b : EReal) = ((a / b : ℝ) : EReal) := by
  rw [Ideal.div_coe hb.ne', ← EReal.coe_mul]
  congr 1
  field_simp

include hR hT in
theorem prob_apply (i j : Fin 8192) (h : Fin 8) :
    val_main_v43 (F := Ideal) x0 x1 x3 (ix4 (0 : Fin 1) h i j) = ((R.prob T h i j : ℝ) : EReal) := by
  have e := raw_apply hR hT i j h
  have e' := total_apply hR hT i h
  revert e e'
  unfold val_main_v43 val_main_v42 val_main_v41
  generalize val_main_v39 (F := Ideal) x0 x1 x3 = y
  generalize val_main_v40 (F := Ideal) x0 x1 x3 = z
  intro e e'
  pointwise
  rw [e, e', div_real _ _ (R.total_pos T h i)]
  rfl

/-! ## The gradient of the scores -/

include hR in
theorem cot_apply (i : Fin 8192) (h : Fin 8) (d : Fin 64) :
    val_main_v50 (F := Ideal) x4 (ix4 (0 : Fin 1) i h d) = ((R.ct i h d : ℝ) : EReal) := by
  unfold val_main_v50
  pointwise
  exact hR.ct i h d

include hR in
theorem pair_apply (i j : Fin 8192) (h : Fin 8) :
    val_main_v52 (F := Ideal) x2 x4 (ix4 (0 : Fin 1) h i j) = ((R.pair h i j : ℝ) : EReal) := by
  have e := cot_apply hR
  revert e
  unfold val_main_v52 val_main_v51
  generalize val_main_v50 (F := Ideal) x4 = y
  intro e
  pointwise
  simp only [e, hR.v, ← EReal.coe_mul, ← coe_sum]
  rfl

/-- The softmax's gradient as the chain rule through its quotient gives it. -/
theorem chain (R : Args) (T : Fin 8 → Fin 8192 → ℝ) (h : Fin 8) (i j : Fin 8192) :
    (R.pair h i j / R.total T h i + -(∑ l, R.pair h i l * (1 / (R.total T h i * R.total T h i)) * R.raw T h i l)) * R.raw T h i j
      = R.slope T h i j := by
  unfold Args.slope Args.prob
  have hp := (R.total_pos T h i).ne'
  have hs : ∑ l, R.pair h i l * (1 / (R.total T h i * R.total T h i)) * R.raw T h i l
      = (∑ l, R.pair h i l * (R.raw T h i l / R.total T h i)) / R.total T h i := by
    rw [Finset.sum_div]
    refine Finset.sum_congr rfl fun l _ => ?_
    field_simp
  rw [hs]
  field_simp
  ring

theorem slope_off (R : Args) (T : Fin 8 → Fin 8192 → ℝ) (h : Fin 8) (i j : Fin 8192) (hj : ¬ j ≤ i) : R.slope T h i j = 0 := by
  unfold Args.slope Args.prob Args.raw
  rw [if_neg hj, zero_div, zero_mul]

include hR hT in
theorem slope_apply (i j : Fin 8192) (h : Fin 8) :
    val_main_v68 (F := Ideal) x0 x1 x2 x3 x4 (ix4 (0 : Fin 1) h i j) = ((R.slope T h i j : ℝ) : EReal) := by
  have e1 := fun j => raw_apply hR hT i j h
  have e2 := total_apply hR hT i h
  have e3 := fun j => pair_apply hR i j h
  have e0 : val_main_call1_v0 (F := Ideal) (ix4 (0 : Fin 1) h i j) = (0 : EReal) := by
    rw [val_main_call1_v0_apply, val_main_call1_cst_apply]
    exact Ideal.ofBits_zero_f32
  rw [val_main_v68_apply, causal_apply, e0]
  have key : val_main_v67 (F := Ideal) x0 x1 x2 x3 x4 (ix4 (0 : Fin 1) h i j) = ((R.slope T h i j : ℝ) : EReal) := by
    revert e1 e2 e3
    unfold val_main_v67 val_main_v66 val_main_v65 val_main_v64 val_main_v63 val_main_v62 val_main_v61 val_main_v60 val_main_v59
      val_main_v58 val_main_v57 val_main_v56 val_main_v55 val_main_v46 val_main_v45 val_main_v44 val_main_v41 val_main_cst_10
      val_main_cst_11 val_main_cst_12
    generalize val_main_v39 (F := Ideal) x0 x1 x3 = y
    generalize val_main_v40 (F := Ideal) x0 x1 x3 = z
    generalize val_main_v52 (F := Ideal) x2 x4 = w
    intro e1 e2 e3
    pointwise [only_row]
    simp only [e1, e2, e3, ← EReal.coe_mul, ← EReal.coe_one]
    simp only [div_real _ _ (R.total_pos T h i), div_real _ _ (mul_pos (R.total_pos T h i) (R.total_pos T h i)),
      ← EReal.coe_mul, ← coe_sum, ← EReal.coe_neg, ← EReal.coe_add, chain]
  rw [key]
  by_cases hj : j ≤ i
  · rw [decide_eq_true hj]; rfl
  · rw [decide_eq_false hj, slope_off R T h i j hj]; rfl

end Cert.Fox

end
-- ==== Proof.FoxHost.lean ====
/- The packed arrays the forgetting attention's launch takes, as the host makes them: the forward pass's row log-sums and
   row sums, and the lanes in which each array carries them. -/
module

public import proofs.«01_k».proof.Proof.FoxSoft

@[expose] public section

set_option maxRecDepth 65536

noncomputable section

namespace Cert.Fox

open Cert.Kernel2Ideal Cert.Kernel2Ideal.Gen
open Idealize.ShloMosaic Idealize.ShloMosaic.TcCoe Idealize.SL.Sem

/-- The masked scores. -/
def scoresK (A0 A1 : FVec Ideal S1x8192x8x64 .f32) (A3 : FVec Ideal S1x8192x8 .f32) : FVec Ideal S1x8x8192x8192 .f32 :=
  select (broadcastInDim S1x8x8192x8192 ![2, 3] bcast_S8192x8192_S1x8x8192x8192_2_3
      (cmpi .sle
        (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (subf
      (addf
        (mulf (Host.dotGeneral dot_S1x8192x8x64_S1x8192x8x64_S1x8x8192x8192_3_3_1_1_02_02 none A0 A1)
          (broadcastInDim S1x8x8192x8192 ![] bcast_S_S1x8x8192x8192 (constant S_ .f32 0x3E000000#32)))
        (broadcastInDim S1x8x8192x8192 ![0, 1, 2, 3] bcast_S1x8x8192x1_S1x8x8192x8192_0_1_2_3
          (broadcastInDim S1x8x8192x1 ![0, 1, 2] bcast_S1x8x8192_S1x8x8192x1_0_1_2
            (transpose S1x8x8192 [0, 2, 1] A3 transposes_S1x8192x8_S1x8x8192_0_2_1))))
      (broadcastInDim S1x8x8192x8192 ![0, 1, 2, 3] bcast_S1x8x1x8192_S1x8x8192x8192_0_1_2_3
        (broadcastInDim S1x8x1x8192 ![0, 1, 3] bcast_S1x8x8192_S1x8x1x8192_0_1_3
          (transpose S1x8x8192 [0, 2, 1] A3 transposes_S1x8192x8_S1x8x8192_0_2_1))))
    (broadcastInDim S1x8x8192x8192 ![] bcast_S_S1x8x8192x8192 (constant S_ .f32 0xFF800000#32))

/-- A row's greatest score. -/
def topsK (L : FVec Ideal S1x8x8192x8192 .f32) : FVec Ideal S1x8x8192 .f32 :=
  Host.reduce FloatOps.maximumf L (constant S_ .f32 0xFF800000#32) reducesTo_S1x8x8192x8192_S1x8x8192_d3 h_S_

theorem scoresK_eq (A0 A1 : FVec Ideal S1x8192x8x64 .f32) (A3 : FVec Ideal S1x8192x8 .f32) :
    scoresK A0 A1 A3 = Reference2Ideal.Read.val_main_v18_0 (F := Ideal) A0 A1 A3 := rfl

theorem topsK_eq (A0 A1 : FVec Ideal S1x8192x8x64 .f32) (A3 : FVec Ideal S1x8192x8 .f32) :
    topsK (scoresK A0 A1 A3) = Reference2Ideal.Read.val_main_v19 (F := Ideal) A0 A1 A3 := by
  rw [scoresK_eq]
  rfl

/-- Exponentials of the scores relative to their row's greatest. -/
def softRaw (L : FVec Ideal S1x8x8192x8192 .f32) (M : FVec Ideal S1x8x8192 .f32) : FVec Ideal S1x8x8192x8192 .f32 :=
  Host.exp (subf L (broadcastInDim S1x8x8192x8192 ![0, 1, 2, 3] bcast_S1x8x8192x1_S1x8x8192x8192_0_1_2_3
    (broadcastInDim S1x8x8192x1 ![0, 1, 2] bcast_S1x8x8192_S1x8x8192x1_0_1_2 M)))

def softTotal (E : FVec Ideal S1x8x8192x8192 .f32) : FVec Ideal S1x8x8192 .f32 :=
  Host.reduceAdd E (constant S_ .f32 0x00000000#32) reducesTo_S1x8x8192x8192_S1x8x8192_d3 h_S_

/-- A row's logarithm of its sum of exponentials, less the row's cumulative gate. -/
def rowLog (M D : FVec Ideal S1x8x8192 .f32) (A3 : FVec Ideal S1x8192x8 .f32) : FVec Ideal S8192x8 .f32 :=
  subf (transpose S8192x8 [1, 0] (shapeCast S8x8192
      (addf (broadcastInDim S1x8x8192x1 ![0, 1, 2] bcast_S1x8x8192_S1x8x8192x1_0_1_2 M)
        (Host.log (broadcastInDim S1x8x8192x1 ![0, 1, 2] bcast_S1x8x8192_S1x8x8192x1_0_1_2 D)))
      shapeCasts_S1x8x8192x1_S8x8192) transposes_S8x8192_S8192x8_1_0)
    (shapeCast S8192x8 A3 shapeCasts_S1x8192x8_S8192x8)

/-- The attention's output. -/
def outs (A2 : FVec Ideal S1x8192x8x64 .f32) (E : FVec Ideal S1x8x8192x8192 .f32) (D : FVec Ideal S1x8x8192 .f32) :
    FVec Ideal S1x8192x8x64 .f32 :=
  transpose S1x8192x8x64 [0, 3, 1, 2]
    (Host.dotGeneral dot_S1x8192x8x64_S1x8x8192x8192_S1x8x64x8192_1_3_3_2_02_01 none A2
      (Host.divf E (broadcastInDim S1x8x8192x8192 ![0, 1, 2, 3] bcast_S1x8x8192x1_S1x8x8192x8192_0_1_2_3
        (broadcastInDim S1x8x8192x1 ![0, 1, 2] bcast_S1x8x8192_S1x8x8192x1_0_1_2 D))))
    transposes_S1x8x64x8192_S1x8192x8x64_0_3_1_2

/-- A row's product of cotangents with outputs. -/
def rowSum (A4 : FVec Ideal S1x8192x512 .f32) (O : FVec Ideal S1x8192x8x64 .f32) : FVec Ideal S8192x8 .f32 :=
  shapeCast S8192x8 (Host.reduceAdd (mulf (shapeCast S1x8192x8x64 A4 shapeCasts_S1x8192x512_S1x8192x8x64) O)
    (constant S_ .f32 0x00000000#32) reducesTo_S1x8192x8x64_S1x8192x8_d3 h_S_) shapeCasts_S1x8192x8_S8192x8

/-! ## A number in three lanes -/

def lane (x : FVec Ideal S8192x8 .f32) : FVec Ideal S8192x8x1 .f32 :=
  Host.negf (broadcastInDim S8192x8x1 ![0, 1] bcast_S8192x8_S8192x8x1_0_1 x)
def short1 (x : FVec Ideal S8192x8x1 .f32) : FVec Ideal S8192x8x1 .f32 := extf .f32 (truncf .bf16 x bitsLt_bf16_f32) bitsLt_bf16_f32
def rest1 (x : FVec Ideal S8192x8x1 .f32) : FVec Ideal S8192x8x1 .f32 := subf x (short1 x)

def ones : FVec Ideal S8192x8x3 .f32 := broadcastInDim S8192x8x3 ![] bcast_S_S8192x8x3 (constant S_ .f32 0x3F800000#32)
def padZero : FVec Ideal S_ .f32 := sitofp (F := Ideal) .f32 (constantI S_ 32 0#32)

/-- Eight heads' lanes, 70 or 67 of them, behind one another at 128 lanes each. -/
def packed70 (y : FVec Ideal S8192x8x70 .f32) : Packed :=
  truncf .bf16 (shapeCast S8192x1024 (pad S8192x8x128 ![0, 0, 0] ![0, 0, 58] ![0, 0, 0] y padZero
    pads_S8192x8x70_S8192x8x128_000_000_0580 h_S_) shapeCasts_S8192x8x128_S8192x1024) bitsLt_bf16_f32
def packed67 (y : FVec Ideal S8192x8x67 .f32) : Packed :=
  truncf .bf16 (shapeCast S8192x1024 (pad S8192x8x128 ![0, 0, 0] ![0, 0, 61] ![0, 0, 0] y padZero
    pads_S8192x8x67_S8192x8x128_000_000_0610 h_S_) shapeCasts_S8192x8x128_S8192x1024) bitsLt_bf16_f32

/-- The lanes of a query: the query, three ones, the three parts of a number. -/
def queryCat (a : FVec Ideal S8192x8x64 .f32) (o : FVec Ideal S8192x8x3 .f32) (p1 p2 p3 : FVec Ideal S8192x8x1 .f32) :
    FVec Ideal S8192x8x70 .f32 :=
  concatenate S8192x8x70 2 [⟨S8192x8x64, a⟩, ⟨S8192x8x3, o⟩, ⟨S8192x8x1, p1⟩, ⟨S8192x8x1, p2⟩, ⟨S8192x8x1, p3⟩]
    concatenates_S8192x8x64_S8192x8x3_S8192x8x1_S8192x8x1_S8192x8x1_S8192x8x70_d2

/-- The lanes of a key: the key, the three parts of a number, three ones. -/
def keyCat (a : FVec Ideal S8192x8x64 .f32) (p1 p2 p3 : FVec Ideal S8192x8x1 .f32) (o : FVec Ideal S8192x8x3 .f32) :
    FVec Ideal S8192x8x70 .f32 :=
  concatenate S8192x8x70 2 [⟨S8192x8x64, a⟩, ⟨S8192x8x1, p1⟩, ⟨S8192x8x1, p2⟩, ⟨S8192x8x1, p3⟩, ⟨S8192x8x3, o⟩]
    concatenates_S8192x8x64_S8192x8x1_S8192x8x1_S8192x8x1_S8192x8x3_S8192x8x70_d2

/-- The lanes of a cotangent: the cotangent, the three parts of a number. -/
def cotCat (a : FVec Ideal S8192x8x64 .f32) (p1 p2 p3 : FVec Ideal S8192x8x1 .f32) : FVec Ideal S8192x8x67 .f32 :=
  concatenate S8192x8x67 2 [⟨S8192x8x64, a⟩, ⟨S8192x8x1, p1⟩, ⟨S8192x8x1, p2⟩, ⟨S8192x8x1, p3⟩]
    concatenates_S8192x8x64_S8192x8x1_S8192x8x1_S8192x8x1_S8192x8x67_d2

def queryLanes (A0 : FVec Ideal S1x8192x8x64 .f32) (l : FVec Ideal S8192x8x1 .f32) : FVec Ideal S8192x8x70 .f32 :=
  queryCat (mulf (shapeCast S8192x8x64 A0 shapeCasts_S1x8192x8x64_S8192x8x64)
      (broadcastInDim S8192x8x64 ![] bcast_S_S8192x8x64 (constant S_ .f32 0x3E000000#32)))
    ones (short1 l) (short1 (rest1 l)) (short1 (rest1 (rest1 l)))

def keyLanes (A1 : FVec Ideal S1x8192x8x64 .f32) (l : FVec Ideal S8192x8x1 .f32) : FVec Ideal S8192x8x70 .f32 :=
  keyCat (shapeCast S8192x8x64 A1 shapeCasts_S1x8192x8x64_S8192x8x64)
    (short1 l) (short1 (rest1 l)) (short1 (rest1 (rest1 l))) ones

def valueLanes (A2 : FVec Ideal S1x8192x8x64 .f32) : FVec Ideal S8192x8x67 .f32 :=
  concatenate S8192x8x67 2 [⟨S8192x8x64, shapeCast S8192x8x64 A2 shapeCasts_S1x8192x8x64_S8192x8x64⟩, ⟨S8192x8x3, ones⟩]
    concatenates_S8192x8x64_S8192x8x3_S8192x8x67_d2

def cotLanes (A4 : FVec Ideal S1x8192x512 .f32) (l : FVec Ideal S8192x8x1 .f32) : FVec Ideal S8192x8x67 .f32 :=
  cotCat (shapeCast S8192x8x64 (shapeCast S1x8192x8x64 A4 shapeCasts_S1x8192x512_S1x8192x8x64) shapeCasts_S1x8192x8x64_S8192x8x64)
    (short1 l) (short1 (rest1 l)) (short1 (rest1 (rest1 l)))

section Arrays

variable (m : (ℓ : Loc nD τ sig) → Buf (Elt Ideal) ℓ) (c : Dev nD)

abbrev arg0A : FVec Ideal S1x8192x8x64 .f32 := m ((c : Thread nD τ).loc main_arg0)
abbrev arg1A : FVec Ideal S1x8192x8x64 .f32 := m ((c : Thread nD τ).loc main_arg1)
abbrev arg2A : FVec Ideal S1x8192x8x64 .f32 := m ((c : Thread nD τ).loc main_arg2)
abbrev arg3A : FVec Ideal S1x8192x8 .f32 := m ((c : Thread nD τ).loc main_arg3)
abbrev arg4A : FVec Ideal S1x8192x512 .f32 := m ((c : Thread nD τ).loc main_arg4)

def scoresA : FVec Ideal S1x8x8192x8192 .f32 := scoresK (arg0A m c) (arg1A m c) (arg3A m c)
def topsA : FVec Ideal S1x8x8192 .f32 := topsK (scoresA m c)
def rawA : FVec Ideal S1x8x8192x8192 .f32 := softRaw (scoresA m c) (topsA m c)
def totalA : FVec Ideal S1x8x8192 .f32 := softTotal (rawA m c)

theorem V_keys : keysA m c = packed70 (keyLanes (arg1A m c) (lane (shapeCast S8192x8 (arg3A m c) shapeCasts_S1x8192x8_S8192x8))) := by
  unfold keysA V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp
  refine Eq.trans (b := packed70 (keyCat ((_ : Valuation τ sig (Elt Ideal)) (Proc.tc.devRef main_v58)) ((_ : Valuation τ sig (Elt Ideal)) (Proc.tc.devRef main_v63)) ((_ : Valuation τ sig (Elt Ideal)) (Proc.tc.devRef main_v66)) ((_ : Valuation τ sig (Elt Ideal)) (Proc.tc.devRef main_v69)) ((_ : Valuation τ sig (Elt Ideal)) (Proc.tc.devRef main_v40)))) rfl ?_
  after_results_simp
  rfl

theorem V_values : valuesA m c = packed67 (valueLanes (arg2A m c)) := by
  unfold valuesA V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp
  rfl

theorem V_queries : queriesA m c = packed70 (queryLanes (arg0A m c) (lane (rowLog (topsA m c) (totalA m c) (arg3A m c)))) := by
  unfold queriesA V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp
  refine Eq.trans (b := packed70 (queryCat ((_ : Valuation τ sig (Elt Ideal)) (Proc.tc.devRef main_v43)) ((_ : Valuation τ sig (Elt Ideal)) (Proc.tc.devRef main_v40)) ((_ : Valuation τ sig (Elt Ideal)) (Proc.tc.devRef main_v47)) ((_ : Valuation τ sig (Elt Ideal)) (Proc.tc.devRef main_v50)) ((_ : Valuation τ sig (Elt Ideal)) (Proc.tc.devRef main_v53)))) rfl ?_
  after_results_simp
  rfl

theorem V_cot : cotA m c = packed67 (cotLanes (arg4A m c) (lane (rowSum (arg4A m c) (outs (arg2A m c) (rawA m c) (totalA m c))))) := by
  unfold cotA V hostOps0 hostOps0_1 hostOps0_2 hostOps0_3 hostOps0_4 hostOps0_5 hostOps0_6 hostOps0_7 hostOps0_8 hostOps0_9 hostOps0_10
  simp only [List.flatten_cons, List.flatten_nil, List.append_nil, List.cons_append, List.nil_append]
  after_results_simp
  refine Eq.trans (b := packed67 (cotCat ((_ : Valuation τ sig (Elt Ideal)) (Proc.tc.devRef main_v79)) ((_ : Valuation τ sig (Elt Ideal)) (Proc.tc.devRef main_v83)) ((_ : Valuation τ sig (Elt Ideal)) (Proc.tc.devRef main_v86)) ((_ : Valuation τ sig (Elt Ideal)) (Proc.tc.devRef main_v89)))) rfl ?_
  after_results_simp
  rfl

end Arrays

end Cert.Fox

end
-- ==== Proof.FoxPoints.lean ====
/- What the points leave together, in terms of the packed arrays the launch takes. -/
module

public import proofs.«01_k».proof.Proof.FoxBlocks
public import Idealize.ShloMosaic.Lib.Pipeline.ValueKit

@[expose] public section

set_option maxRecDepth 16384

noncomputable section

namespace Cert.Fox

open Cert.Kernel2Ideal Cert.Kernel2Ideal.Gen
open Idealize.ShloMosaic

variable (m : (ℓ : Loc nD τ sig) → Buf (Elt Ideal) ℓ) (c : Dev nD)

theorem pt_div (a : Fin 4) (j : Fin 16) : (pt a j).val / 16 = a.val := by
  show (16 * a.val + j.val) / 16 = a.val; omega

theorem workedAt_pt (a : Fin 4) (j : Fin 16) (q : Vec Ideal S8192x256 .f32) :
    workedAt m c (pt a j) q = worked (iblk m c 1 (pt a j)) (iblk m c 2 (pt a j)) (iblk m c 3 (pt a j)) (iblk m c 4 (pt a j)) j.val q := by
  unfold workedAt
  rw [pt_mod]

theorem worked_dv (a : Fin 4) (j : Fin 16) (q : Vec Ideal S8192x256 .f32) (r : Fin 512) (x : Fin 128) :
    (workedAt m c (pt a j) q).1.1 (ix2 r x) = dvG (keysA m c) (queriesA m c) (cotA m c) (headOf a 0) (row j r) x
    ∧ (workedAt m c (pt a j) q).1.2.2.1 (ix2 r x) = dvG (keysA m c) (queriesA m c) (cotA m c) (headOf a 1) (row j r) x := by
  rw [workedAt_pt]
  obtain ⟨h0, -, h1, -, -⟩ := worked_eq (iblk m c 1 (pt a j)) (iblk m c 2 (pt a j)) (iblk m c 3 (pt a j)) (iblk m c 4 (pt a j)) j.val j.isLt q
  exact ⟨(h0 r x).trans (dvSum_of m c a j 0 r x), (h1 r x).trans (dvSum_of m c a j 1 r x)⟩

theorem worked_dk (a : Fin 4) (j : Fin 16) (q : Vec Ideal S8192x256 .f32) (r : Fin 512) (x : Fin 128) :
    (workedAt m c (pt a j) q).1.2.1 (ix2 r x) = dkG (keysA m c) (valuesA m c) (queriesA m c) (cotA m c) (headOf a 0) (row j r) x
    ∧ (workedAt m c (pt a j) q).1.2.2.2 (ix2 r x) = dkG (keysA m c) (valuesA m c) (queriesA m c) (cotA m c) (headOf a 1) (row j r) x := by
  rw [workedAt_pt]
  obtain ⟨-, h0, -, h1, -⟩ := worked_eq (iblk m c 1 (pt a j)) (iblk m c 2 (pt a j)) (iblk m c 3 (pt a j)) (iblk m c 4 (pt a j)) j.val j.isLt q
  exact ⟨(h0 r x).trans (dkSum_of m c a j 0 r x), (h1 r x).trans (dkSum_of m c a j 1 r x)⟩

/-- What a point gives to the queries' gradient. -/
def share (t : Fin cfg0.N) (y : S8192x256.Idx) : EReal :=
  dqPart (iblk m c 1 t) (iblk m c 2 t) (iblk m c 3 t) (iblk m c 4 t) (t.val % 16) (y 0).val (y 1).val

theorem step_apply (t : Fin cfg0.N) (q : Vec Ideal S8192x256 .f32) (y : S8192x256.Idx) :
    step m c t q y = q y + share m c t y := by
  obtain ⟨l, x, rfl⟩ : ∃ (l : Fin 8192) (x : Fin 256), y = ix2 l x := ⟨y 0, y 1, ValueIdx.eq_ix2 y⟩
  rw [(point_eq m c t q).2.2.2.2]
  exact (worked_eq (iblk m c 1 t) (iblk m c 2 t) (iblk m c 3 t) (iblk m c 4 t) (t.val % 16) (Nat.mod_lt _ (by decide)) q).2.2.2.2 l x

theorem zero_start (y : S8192x256.Idx) : k0_pay77 (F := Ideal) y = 0 := by
  obtain ⟨l, x, rfl⟩ : ∃ (l : Fin 8192) (x : Fin 256), y = ix2 l x := ⟨y 0, y 1, ValueIdx.eq_ix2 y⟩
  unfold k0_pay77
  pointwise

theorem queries_last (a : Fin 4) (y : S8192x256.Idx) :
    queries m c (pt a 15).val (pt a 15).isLt y = ∑ j : Fin 16, share m c (pt a j) y := by
  have h := Pipeline.eq_sum_fin_of_reset_step_apply_of_flush (fun n h => queries m c n h) 16 (fun _ => (0 : EReal)) (share m c)
    (fun t ht y => by
      show queries m c t.val t.isLt y = _
      rw [queries_eq, step_apply]
      unfold before start
      rw [if_pos ((first_iff t).mpr ht), zero_start])
    (fun t ht y => by
      show queries m c t.val t.isLt y = queries m c (t.val - 1) _ y + _
      rw [queries_eq, step_apply]
      unfold before start found
      rw [if_neg fun p => ht ((first_iff t).mp p), dif_neg fun p => ht (by rw [p])])
    (pt a 15) (pt_mod a 15) y
  refine h.trans ?_
  rw [zero_add]
  refine Finset.sum_congr rfl fun j _ => congrArg (fun t => share m c t y) (Fin.ext ?_)
  show 16 * ((pt a 15).val / 16) + j.val = 16 * a.val + j.val
  rw [pt_div]

theorem share_pt (a : Fin 4) (j : Fin 16) (n : Fin 2) (l : Fin 8192) (x : Fin 128) (h : 128 * n.val + x.val < 256) :
    share m c (pt a j) (ix2 l ⟨128 * n.val + x.val, h⟩)
      = ∑ r : Fin 512, slopeG (keysA m c) (valuesA m c) (queriesA m c) (cotA m c) (headOf a n) (row j r) l * keysA m c (ix2 (row j r) (col (headOf a n) x)) := by
  unfold share
  rw [pt_mod]
  refine Finset.sum_congr rfl fun r _ => ?_
  show slope _ _ _ _ j.val ((128 * n.val + x.val) / 128) r l.val * short _ r (128 * n.val + x.val) = _
  rw [show (128 * n.val + x.val) / 128 = n.val by omega, slope_of, short_of _ _ a j (blk1 m c a j)]

/-- After a head pair's last point: the whole gradient of its queries. -/
theorem queries_dq (a : Fin 4) (n : Fin 2) (l : Fin 8192) (x : Fin 128) (h : 128 * n.val + x.val < 256) :
    queries m c (pt a 15).val (pt a 15).isLt (ix2 l ⟨128 * n.val + x.val, h⟩)
      = dqG (keysA m c) (valuesA m c) (queriesA m c) (cotA m c) (headOf a n) l x := by
  rw [queries_last]
  refine Eq.trans ?_ (Fin.sum_univ_tiles (N := 8192) 16 512 rfl fun k =>
    slopeG (keysA m c) (valuesA m c) (queriesA m c) (cotA m c) (headOf a n) k l * keysA m c (ix2 k (col (headOf a n) x))).symm
  refine Finset.sum_congr rfl fun j _ => (share_pt m c a j n l x h).trans (Finset.sum_congr rfl fun r _ => ?_)
  rw [show row j r = ⟨j.val * 512 + r.val, by omega⟩ from Fin.ext (by show 512 * j.val + r.val = j.val * 512 + r.val; omega)]

end Cert.Fox
end
-- ==== Proof.FoxArrays.lean ====
/- The five result arrays after the run, each entry in terms of the packed arrays the launch takes. -/
module

public import proofs.«01_k».proof.Proof.FoxPoints
public import Idealize.ShloMosaic.Lib.Pipeline.ValueKit

@[expose] public section

set_option maxRecDepth 16384

noncomputable section

namespace Cert.Fox

open Cert.Kernel2Ideal Cert.Kernel2Ideal.Gen
open Idealize.ShloMosaic

variable (m : (ℓ : Loc nD τ sig) → Buf (Elt Ideal) ℓ) (c : Dev nD)

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne ((by decide +kernel : ∀ t t' : Fin grid0.N, win0_5.index t = win0_5.index t' → t = t') t t' h)
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne ((by decide +kernel : ∀ t t' : Fin grid0.N, win0_6.index t = win0_6.index t' → t = t') t t' h)
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne ((by decide +kernel : ∀ t t' : Fin grid0.N, win0_7.index t = win0_7.index t' → t = t') t t' h)
theorem disjoint8 : ∀ t t' : Fin cfg0.N, (cfg0.win 8).flush t = true → (cfg0.win 8).flush t' = true → t ≠ t' →
    Disjoint ((cfg0.win 8).blk t).view.set ((cfg0.win 8).blk t').view.set :=
  fun t t' h1 h2 hne => (cfg0.win 8).disjoint_blk fun h => hne ((by decide +kernel : ∀ t t' : Fin grid0.N, t.val % 16 = 15 → t'.val % 16 = 15 →
    win0_8.index t = win0_8.index t' → t = t') t t' ((flush0_8 t).mp h1) ((flush0_8 t').mp h2) h)
theorem disjoint9 : ∀ t t' : Fin cfg0.N, (cfg0.win 9).flush t = true → (cfg0.win 9).flush t' = true → t ≠ t' →
    Disjoint ((cfg0.win 9).blk t).view.set ((cfg0.win 9).blk t').view.set :=
  fun t t' h1 h2 hne => (cfg0.win 9).disjoint_blk fun h => hne ((by decide +kernel : ∀ t t' : Fin grid0.N, t.val % 16 = 15 → t'.val % 16 = 15 →
    win0_9.index t = win0_9.index t' → t = t') t t' ((flush0_9 t).mp h1) ((flush0_9 t').mp h2) h)

/-- A head pair's column of a packed result. -/
def outCol (a : Fin 4) (x : Fin 128) : Fin 512 := ⟨128 * a.val + x.val, by omega⟩

/-- Two heads' 64 columns side by side, each column known. -/
theorem beside_eq (a : Fin 4) (f : Fin 8 → Fin 8192 → Fin 128 → EReal) (A B : Acc) (r : Fin 512) (k : Fin 8192)
    (hA : ∀ x, A (ix2 r x) = f (headOf a 0) k x) (hB : ∀ x, B (ix2 r x) = f (headOf a 1) k x) (x : Fin 128) :
    beside A B r x = f (headOf a ⟨x.val / 64, by omega⟩) k ⟨x.val % 64, by omega⟩ := by
  have hx := x.isLt
  unfold beside
  by_cases h : x.val < 64
  · rw [if_pos h, hA]
    exact congrArg₂ (fun n x => f (headOf a n) k x) (Fin.ext (by show 0 = x.val / 64; omega)) (Fin.ext (by show x.val = x.val % 64; omega))
  · rw [if_neg h, hB]
    exact congrArg₂ (fun n x => f (headOf a n) k x) (Fin.ext (by show 1 = x.val / 64; omega)) (Fin.ext (by show x.val - 64 = x.val % 64; omega))

theorem emb5 (a : Fin 4) (j : Fin 16) (r : Fin 512) (x : Fin 128) :
    ((cfg0.win 5).blk (pt a j)).view.emb (ix2 r x : S512x128.Idx) = (ix2 (row j r) (outCol a x) : S8192x512.Idx) := by
  funext i
  apply Fin.ext
  match i with
  | ⟨0, _⟩ => show win0_5.index (pt a j) 0 * 512 + 1 * r.val = 512 * j.val + r.val; rw [(idx5 a j).1]; omega
  | ⟨1, _⟩ => show win0_5.index (pt a j) 1 * 128 + 1 * x.val = 128 * a.val + x.val; rw [(idx5 a j).2]; omega

theorem arr5 (a : Fin 4) (j : Fin 16) (r : Fin 512) (x : Fin 128) :
    ((dats m 0 c).arrAt 5 cfg0.N : Vec Ideal S8192x512 .bf16) (ix2 (row j r) (outCol a x))
      = dkG (keysA m c) (valuesA m c) (queriesA m c) (cotA m c) (headOf a ⟨x.val / 64, by omega⟩) (row j r) ⟨x.val % 64, by omega⟩ := by
  have h := (dats m 0 c).arrAt_emb_eq_flushed 5 disjoint5 (pt a j) (flush0_5 (pt a j)) (ix2 r x : S512x128.Idx)
  rw [emb5] at h
  refine h.trans ?_
  show (dats m 0 c).after 5 (pt a j) (ix2 r x) = _
  rw [after0_5, (point_eq m c (pt a j) _).1, pay100_apply]
  exact beside_eq _ _ _ _ _ _ (fun x => (worked_dk m c a j _ r x).1) (fun x => (worked_dk m c a j _ r x).2) x

theorem emb6 (a : Fin 4) (j : Fin 16) (r : Fin 512) (x : Fin 128) :
    ((cfg0.win 6).blk (pt a j)).view.emb (ix2 r x : S512x128.Idx) = (ix2 (row j r) (outCol a x) : S8192x512.Idx) := by
  funext i
  apply Fin.ext
  match i with
  | ⟨0, _⟩ => show win0_6.index (pt a j) 0 * 512 + 1 * r.val = 512 * j.val + r.val; rw [(idx6 a j).1]; omega
  | ⟨1, _⟩ => show win0_6.index (pt a j) 1 * 128 + 1 * x.val = 128 * a.val + x.val; rw [(idx6 a j).2]; omega

theorem arr6 (a : Fin 4) (j : Fin 16) (r : Fin 512) (x : Fin 128) :
    ((dats m 0 c).arrAt 6 cfg0.N : Vec Ideal S8192x512 .bf16) (ix2 (row j r) (outCol a x))
      = dvG (keysA m c) (queriesA m c) (cotA m c) (headOf a ⟨x.val / 64, by omega⟩) (row j r) ⟨x.val % 64, by omega⟩ := by
  have h := (dats m 0 c).arrAt_emb_eq_flushed 6 disjoint6 (pt a j) (flush0_6 (pt a j)) (ix2 r x : S512x128.Idx)
  rw [emb6] at h
  refine h.trans ?_
  show (dats m 0 c).after 6 (pt a j) (ix2 r x) = _
  rw [after0_6, (point_eq m c (pt a j) _).2.1, pay101_eq, pay100_apply]
  exact beside_eq _ _ _ _ _ _ (fun x => (worked_dv m c a j _ r x).1) (fun x => (worked_dv m c a j _ r x).2) x

theorem emb7 (a : Fin 4) (j : Fin 16) (r : Fin 512) (x : Fin 128) :
    ((cfg0.win 7).blk (pt a j)).view.emb (ix3 0 r x : S1x512x128.Idx) = (ix3 a (row j r) x : S4x8192x128.Idx) := by
  funext i
  apply Fin.ext
  match i with
  | ⟨0, _⟩ => show win0_7.index (pt a j) 0 * 1 + 1 * 0 = a.val; rw [(idx7 a j).1]; omega
  | ⟨1, _⟩ => show win0_7.index (pt a j) 1 * 512 + 1 * r.val = 512 * j.val + r.val; rw [(idx7 a j).2.1]; omega
  | ⟨2, _⟩ => show win0_7.index (pt a j) 2 * 128 + 1 * x.val = x.val; rw [(idx7 a j).2.2]; omega

/-- Two heads' values in lanes 0 and 1 of a plane. -/
def planeOf (a : Fin 4) (f : Fin 8 → EReal) (x : Fin 128) : EReal :=
  if x.val = 0 then f (headOf a 0) else if x.val = 1 then f (headOf a 1) else 0

theorem arr7 (a : Fin 4) (j : Fin 16) (r : Fin 512) (x : Fin 128) :
    ((dats m 0 c).arrAt 7 cfg0.N : Vec Ideal S4x8192x128 .f32) (ix3 a (row j r) x)
      = planeOf a (fun h => dkG (keysA m c) (valuesA m c) (queriesA m c) (cotA m c) h (row j r) 64) x := by
  have h := (dats m 0 c).arrAt_emb_eq_flushed 7 disjoint7 (pt a j) (flush0_7 (pt a j)) (ix3 0 r x : S1x512x128.Idx)
  rw [emb7] at h
  refine h.trans ?_
  show (dats m 0 c).after 7 (pt a j) (ix3 0 r x) = _
  rw [after0_7, (point_eq m c (pt a j) _).2.2.1, pay102_apply]
  exact if_congr Iff.rfl (worked_dk m c a j _ r 64).1 (if_congr Iff.rfl (worked_dk m c a j _ r 64).2 rfl)

theorem left8 (t : Fin cfg0.N) (v8 : IVec S1x128 32) (hv : v8 = laneIx) (g : BufTy.Contents (Elt Ideal) (Memref.whole cc0_scratch0).view.ty) (l : Fin 8192) (x : Fin 128) :
    tail10 (F := Ideal) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) v8 g (ix2 l x)
      = packed ((Memref.whole cc0_scratch0).view.read (Elt Ideal) g) l x := by
  subst hv
  exact tail10_apply (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) g l x

theorem left9 (t : Fin cfg0.N) (v8 : IVec S1x128 32) (hv : v8 = laneIx) (g : BufTy.Contents (Elt Ideal) (Memref.whole cc0_scratch0).view.ty) (l : Fin 8192) (x : Fin 128) :
    tail11 (F := Ideal) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) v8 g (ix3 0 l x)
      = plane ((Memref.whole cc0_scratch0).view.read (Elt Ideal) g) l x := by
  subst hv
  exact tail11_apply (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) c (grid0.coords t) g l x

theorem emb8 (a : Fin 4) (j : Fin 16) (l : Fin 8192) (x : Fin 128) :
    ((cfg0.win 8).blk (pt a j)).view.emb (ix2 l x : S8192x128.Idx) = (ix2 l (outCol a x) : S8192x512.Idx) := by
  funext i
  apply Fin.ext
  match i with
  | ⟨0, _⟩ => show win0_8.index (pt a j) 0 * 8192 + 1 * l.val = l.val; rw [(idx8 a j).1]; omega
  | ⟨1, _⟩ => show win0_8.index (pt a j) 1 * 128 + 1 * x.val = 128 * a.val + x.val; rw [(idx8 a j).2]; omega

theorem left_queries (a : Fin 4) : (Memref.whole cc0_scratch0).view.read (Elt Ideal) (runAt m c (pt a 15) (before m c (pt a 15))).2.2.2.2.1
    = queries m c (pt a 15).val (pt a 15).isLt := (queries_eq m c (pt a 15)).symm

theorem arr8 (a : Fin 4) (l : Fin 8192) (x : Fin 128) :
    ((dats m 0 c).arrAt 8 cfg0.N : Vec Ideal S8192x512 .bf16) (ix2 l (outCol a x))
      = dqG (keysA m c) (valuesA m c) (queriesA m c) (cotA m c) (headOf a ⟨x.val / 64, by omega⟩) l ⟨x.val % 64, by omega⟩ * ((0.125 : ℝ) : EReal) := by
  have h := (dats m 0 c).arrAt_emb_eq_flushed 8 disjoint8 (pt a 15) ((flush0_8 (pt a 15)).mpr (pt_mod a 15)) (ix2 l x : S8192x128.Idx)
  rw [emb8] at h
  refine h.trans ?_
  show (dats m 0 c).after 8 (pt a 15) (ix2 l x) = _
  rw [after0_8]
  refine (left8 c (pt a 15) _ (point_eq m c (pt a 15) _).2.2.2.1 _ l x).trans ?_
  rw [left_queries]
  exact congrArg (· * ((0.125 : ℝ) : EReal)) (queries_dq m c a ⟨x.val / 64, by omega⟩ l ⟨x.val % 64, by omega⟩ (by
    show 128 * (x.val / 64) + x.val % 64 < 256; omega))

theorem emb9 (a : Fin 4) (j : Fin 16) (l : Fin 8192) (x : Fin 128) :
    ((cfg0.win 9).blk (pt a j)).view.emb (ix3 0 l x : S1x8192x128.Idx) = (ix3 a l x : S4x8192x128.Idx) := by
  funext i
  apply Fin.ext
  match i with
  | ⟨0, _⟩ => show win0_9.index (pt a j) 0 * 1 + 1 * 0 = a.val; rw [(idx9 a j).1]; omega
  | ⟨1, _⟩ => show win0_9.index (pt a j) 1 * 8192 + 1 * l.val = l.val; rw [(idx9 a j).2.1]; omega
  | ⟨2, _⟩ => show win0_9.index (pt a j) 2 * 128 + 1 * x.val = x.val; rw [(idx9 a j).2.2]; omega

theorem arr9 (a : Fin 4) (l : Fin 8192) (x : Fin 128) :
    ((dats m 0 c).arrAt 9 cfg0.N : Vec Ideal S4x8192x128 .f32) (ix3 a l x)
      = planeOf a (fun h => dqG (keysA m c) (valuesA m c) (queriesA m c) (cotA m c) h l 67) x := by
  have h := (dats m 0 c).arrAt_emb_eq_flushed 9 disjoint9 (pt a 15) ((flush0_9 (pt a 15)).mpr (pt_mod a 15)) (ix3 0 l x : S1x8192x128.Idx)
  rw [emb9] at h
  refine h.trans ?_
  show (dats m 0 c).after 9 (pt a 15) (ix3 0 l x) = _
  rw [after0_9]
  refine (left9 c (pt a 15) _ (point_eq m c (pt a 15) _).2.2.2.1 _ l x).trans ?_
  rw [left_queries]
  exact if_congr Iff.rfl (queries_dq m c a 0 l 67 (by decide)) (if_congr Iff.rfl (queries_dq m c a 1 l 67 (by decide)) rfl)

end Cert.Fox
end
-- ==== Proof.FoxRef.lean ====
/- What the reference of the forgetting attention's gradient leaves, over the real numbers. -/
module

public import proofs.«01_k».proof.Proof.FoxSoft
public import proofs.«01_k».proof.Proof.FoxArrays

@[expose] public section

set_option maxRecDepth 16384

noncomputable section

namespace Cert.Fox

namespace Args

open Idealize.ShloMosaic

variable (R : Args) (T : Fin 8 → Fin 8192 → ℝ)

def dk (h : Fin 8) (k : Fin 8192) (d : Fin 64) : ℝ := ∑ i, R.slope T h i k * 0.125 * R.q i h d
def dv (h : Fin 8) (k : Fin 8192) (d : Fin 64) : ℝ := ∑ i, R.ct i h d * R.prob T h i k
def dq (h : Fin 8) (i : Fin 8192) (d : Fin 64) : ℝ := ∑ k, R.slope T h i k * 0.125 * R.k k h d
/-- The gradient of a key's cumulative gate, its sign turned. -/
def dckey (h : Fin 8) (k : Fin 8192) : ℝ := ∑ i, R.slope T h i k
/-- The gradient of a query's cumulative gate. -/
def dcquery (h : Fin 8) (i : Fin 8192) : ℝ := ∑ k, R.slope T h i k

end Args

open Cert.Reference2Ideal Cert.Reference2Ideal.Gen Cert.Reference2Ideal.Read
open Idealize.ShloMosaic
open Cert.FG (coe_sum)

/-- The head and the lane of a column of a flat result. -/
def colHead (x : Fin 512) : Fin 8 := ⟨x.val / 64, by omega⟩
def colLane (x : Fin 512) : Fin 64 := ⟨x.val % 64, by omega⟩

variable {x0 x1 x2 : Vec Ideal S1x8192x8x64 .f32} {x3 : Vec Ideal S1x8192x8 .f32} {x4 : Vec Ideal S1x8192x512 .f32}
variable {R : Args} (hR : R.Held x0 x1 x2 x3 x4) {T : Fin 8 → Fin 8192 → ℝ}
variable (hT : ∀ h i, val_main_v19 (F := Ideal) x0 x1 x3 (ix3 (0 : Fin 1) h i) = ((T h i : ℝ) : EReal))

include hR hT in
theorem ref_dk (i : Fin 8192) (x : Fin 512) :
    val_main_v87 (F := Ideal) x0 x1 x2 x3 x4 (ix2 i x) = ((R.dk T (colHead x) i (colLane x) : ℝ) : EReal) := by
  have e := slope_apply hR hT
  revert e
  unfold val_main_v87 val_main_v86 val_main_v83 val_main_v82 val_main_v81 val_main_v80 val_main_cst_17
  generalize val_main_v68 (F := Ideal) x0 x1 x2 x3 x4 = y
  intro e
  pointwise
  simp only [scale_eq, hR.q, e, ← EReal.coe_mul, ← coe_sum]
  rfl

include hR hT in
theorem ref_dq (i : Fin 8192) (x : Fin 512) :
    val_main_v96 (F := Ideal) x0 x1 x2 x3 x4 (ix2 i x) = ((R.dq T (colHead x) i (colLane x) : ℝ) : EReal) := by
  have e := slope_apply hR hT
  revert e
  unfold val_main_v96 val_main_v95 val_main_v85 val_main_v84 val_main_v81 val_main_v80 val_main_cst_17
  generalize val_main_v68 (F := Ideal) x0 x1 x2 x3 x4 = y
  intro e
  pointwise
  simp only [scale_eq, hR.k, e, ← EReal.coe_mul, ← coe_sum]
  rfl

include hR hT in
theorem ref_dv (i : Fin 8192) (x : Fin 512) :
    val_main_v89 (F := Ideal) x0 x1 x3 x4 (ix2 i x) = ((R.dv T (colHead x) i (colLane x) : ℝ) : EReal) := by
  have e := prob_apply hR hT
  have e' := cot_apply hR
  revert e e'
  unfold val_main_v89 val_main_v88 val_main_v54 val_main_v53 val_main_v51
  generalize val_main_v43 (F := Ideal) x0 x1 x3 = y
  generalize val_main_v50 (F := Ideal) x4 = y
  intro e e'
  pointwise
  simp only [e, e', ← EReal.coe_mul, ← coe_sum]
  rfl

theorem neg_sum_neg (f : Fin 8192 → ℝ) : -(∑ i, -f i) = ∑ i, f i := by
  rw [Finset.sum_neg_distrib, neg_neg]

theorem headOf_eq (a : Fin 4) (x : Fin 2) (hh : a.val * 2 + x.val < 8) : (⟨a.val * 2 + x.val, hh⟩ : Fin 8) = headOf a x :=
  Fin.ext (by show a.val * 2 + x.val = 2 * a.val + x.val; omega)

include hR hT in
theorem ref_key (a : Fin 4) (i : Fin 8192) (x : Fin 2) :
    val_main_v93 (F := Ideal) x0 x1 x2 x3 x4 (ix3 a i x) = ((R.dckey T (headOf a x) i : ℝ) : EReal) := by
  have e := slope_apply hR hT
  revert e
  unfold val_main_v93 val_main_v92 val_main_v91 val_main_v90 val_main_v74 val_main_v73 val_main_v72 val_main_v71 val_main_v70
    val_main_v69 val_main_cst_14 val_main_cst_13
  generalize val_main_v68 (F := Ideal) x0 x1 x2 x3 x4 = y
  intro e
  pointwise [only_col]
  simp only [e, headOf_eq, ← EReal.coe_neg, ← coe_sum, neg_sum_neg]
  rfl

include hR hT in
theorem ref_query (a : Fin 4) (i : Fin 8192) (x : Fin 2) :
    val_main_v99 (F := Ideal) x0 x1 x2 x3 x4 (ix3 a i x) = ((R.dcquery T (headOf a x) i : ℝ) : EReal) := by
  have e := slope_apply hR hT
  revert e
  unfold val_main_v99 val_main_v98 val_main_v97 val_main_v79 val_main_v78 val_main_v77 val_main_v76 val_main_v75
    val_main_cst_16 val_main_cst_15
  generalize val_main_v68 (F := Ideal) x0 x1 x2 x3 x4 = y
  intro e
  pointwise [only_row]
  simp only [e, headOf_eq, ← coe_sum]
  rfl

/-- Head pairs side by side in lanes 0 and 1 of a plane, zero beyond. -/
theorem pad_plane (y : Vec Ideal S4x8192x2 .f32) (z : Vec Ideal S_ .f32) (hz : z (Shape.Idx.first h_S_) = (0 : EReal))
    (a : Fin 4) (i : Fin 8192) (f : Fin 8 → EReal) (hy : ∀ x, y (ix3 a i x) = f (headOf a x)) (x : Fin 128) :
    pad S4x8192x128 ![0, 0, 0] ![0, 0, 126] ![0, 0, 0] y z pads_S4x8192x2_S4x8192x128_000_000_01260 h_S_ (ix3 a i x)
      = planeOf a f x := by
  by_cases hx : x.val < 2
  · refine (pad_apply_of_inside _ _ _ y z _ h_S_ _ (ix3 a i (⟨x.val, hx⟩ : Fin 2)) fun b => ?_).trans ?_
    · match b with
      | 0 => show a.val = 0 + a.val * (0 + 1); omega
      | 1 => show i.val = 0 + i.val * (0 + 1); omega
      | 2 => show x.val = 0 + x.val * (0 + 1); omega
    · rw [hy]
      unfold planeOf
      by_cases h0 : x.val = 0
      · rw [if_pos h0]
        exact congrArg (fun n => f (headOf a n)) (Fin.ext h0)
      · have h1 : x.val = 1 := by omega
        rw [if_neg h0, if_pos h1]
        exact congrArg (fun n => f (headOf a n)) (Fin.ext h1)
  · refine (pad_apply_of_not_inside _ _ _ y z _ h_S_ _ (2 : Fin 3) fun hin => ?_).trans ?_
    · have h2 : (x.val - 0) / (0 + 1) < 2 := hin.2.2
      omega
    · rw [hz]
      unfold planeOf
      rw [if_neg (by omega), if_neg (by omega)]

theorem zero_word (i : S_.Idx) : sitofp (F := Ideal) .f32 (constantI S_ 32 0#32) i = (0 : EReal) := by
  have h : FloatOps.sitofp (F := Ideal) .f32 (0#32) = (0 : EReal) := by simp [FloatOps.sitofp]
  exact h

include hR hT in
theorem ref_keys (a : Fin 4) (i : Fin 8192) (x : Fin 128) :
    val_main_v94 (F := Ideal) x0 x1 x2 x3 x4 (ix3 a i x) = planeOf a (fun h => ((R.dckey T h i : ℝ) : EReal)) x := by
  unfold val_main_v94
  exact pad_plane _ _ (zero_word _) a i _ (ref_key hR hT a i) x

include hR hT in
theorem ref_queries (a : Fin 4) (i : Fin 8192) (x : Fin 128) :
    val_main_v100 (F := Ideal) x0 x1 x2 x3 x4 (ix3 a i x) = planeOf a (fun h => ((R.dcquery T h i : ℝ) : EReal)) x := by
  unfold val_main_v100
  exact pad_plane _ _ (zero_word _) a i _ (ref_query hR hT a i) x

end Cert.Fox

end
-- ==== Proof.FoxLanes.lean ====
/- The packed arrays lane by lane, over the real numbers. -/
module

public import proofs.«01_k».proof.Proof.FoxHost
public import proofs.«01_k».proof.Proof.FoxRef

@[expose] public section

set_option maxRecDepth 16384

noncomputable section

namespace Cert.Fox

open Cert.Kernel2Ideal Cert.Kernel2Ideal.Gen
open Idealize.ShloMosaic Idealize.ShloMosaic.TcCoe Idealize.SL.Sem
open Cert.FG (coe_sum)

namespace Args

variable (R : Args) (T : Fin 8 → Fin 8192 → ℝ)

/-- A row's logarithm of its sum of exponentials less its cumulative gate, sign turned. -/
def logLane (h : Fin 8) (i : Fin 8192) : ℝ := -(T h i + Real.log (R.total T h i) - R.cum i h)

/-- A row's product of cotangents with outputs, sign turned. -/
def sumLane (h : Fin 8) (i : Fin 8192) : ℝ := -∑ d, R.ct i h d * ∑ j, R.v j h d * R.prob T h i j

/-- 64 lanes of an array, then lanes given one by one. -/
def lanes (a : Fin 64 → ℝ) (b : ℕ → ℝ) (x : Fin 128) : ℝ := if hx : x.val < 64 then a ⟨x.val, hx⟩ else b x.val

def queryLane (h : Fin 8) (i : Fin 8192) : Fin 128 → ℝ :=
  lanes (fun d => R.q i h d * 0.125) fun x => if x < 67 then 1 else if x = 67 then R.logLane T h i else 0
def keyLane (h : Fin 8) (i : Fin 8192) : Fin 128 → ℝ :=
  lanes (fun d => R.k i h d) fun x => if x = 64 then -R.cum i h else if x < 67 then 0 else if x < 70 then 1 else 0
def valueLane (h : Fin 8) (i : Fin 8192) : Fin 128 → ℝ := lanes (fun d => R.v i h d) fun x => if x < 67 then 1 else 0
def cotLane (h : Fin 8) (i : Fin 8192) : Fin 128 → ℝ := lanes (fun d => R.ct i h d) fun x => if x = 64 then R.sumLane T h i else 0

end Args

/-! ## Reading the packing -/

theorem padZero_eq (i : S_.Idx) : padZero i = (0 : EReal) := by
  have h : FloatOps.sitofp (F := Ideal) .f32 (0#32) = (0 : EReal) := by simp [FloatOps.sitofp]
  exact h

theorem packed_apply (z : FVec Ideal S8192x8x128 .f32) (i : Fin 8192) (h : Fin 8) (x : Fin 128) :
    (truncf .bf16 (shapeCast S8192x1024 z shapeCasts_S8192x8x128_S8192x1024) bitsLt_bf16_f32 : FVec Ideal S8192x1024 .bf16)
      (ix2 i (col h x)) = z (ix3 i h x) := by
  pointwise
  refine congrArg z ?_
  have e1 : (col h x).val / 128 = h.val := by show (128 * h.val + x.val) / 128 = h.val; omega
  have e2 : (col h x).val % 128 = x.val := by show (128 * h.val + x.val) % 128 = x.val; omega
  funext a
  match a with
  | 0 => rfl
  | 1 => exact Fin.ext e1
  | 2 => exact Fin.ext e2

theorem packed70_apply (y : FVec Ideal S8192x8x70 .f32) (i : Fin 8192) (h : Fin 8) (x : Fin 128) :
    packed70 y (ix2 i (col h x)) = if hx : x.val < 70 then y (ix3 i h ⟨x.val, hx⟩) else 0 := by
  unfold packed70
  refine (packed_apply _ i h x).trans ?_
  split
  case isTrue hx =>
    refine pad_apply_of_inside _ _ _ y padZero _ h_S_ _ (ix3 i h (⟨x.val, hx⟩ : Fin 70)) fun b => ?_
    match b with
    | 0 => show i.val = 0 + i.val * (0 + 1); omega
    | 1 => show h.val = 0 + h.val * (0 + 1); omega
    | 2 => show x.val = 0 + x.val * (0 + 1); omega
  case isFalse hx =>
    refine (pad_apply_of_not_inside _ _ _ y padZero _ h_S_ _ (2 : Fin 3) fun hin => ?_).trans (padZero_eq _)
    have h2 : (x.val - 0) / (0 + 1) < 70 := hin.2.2
    omega

theorem packed67_apply (y : FVec Ideal S8192x8x67 .f32) (i : Fin 8192) (h : Fin 8) (x : Fin 128) :
    packed67 y (ix2 i (col h x)) = if hx : x.val < 67 then y (ix3 i h ⟨x.val, hx⟩) else 0 := by
  unfold packed67
  refine (packed_apply _ i h x).trans ?_
  split
  case isTrue hx =>
    refine pad_apply_of_inside _ _ _ y padZero _ h_S_ _ (ix3 i h (⟨x.val, hx⟩ : Fin 67)) fun b => ?_
    match b with
    | 0 => show i.val = 0 + i.val * (0 + 1); omega
    | 1 => show h.val = 0 + h.val * (0 + 1); omega
    | 2 => show x.val = 0 + x.val * (0 + 1); omega
  case isFalse hx =>
    refine (pad_apply_of_not_inside _ _ _ y padZero _ h_S_ _ (2 : Fin 3) fun hin => ?_).trans (padZero_eq _)
    have h2 : (x.val - 0) / (0 + 1) < 67 := hin.2.2
    omega

theorem short1_apply (l : FVec Ideal S8192x8x1 .f32) (y : S8192x8x1.Idx) : short1 l y = l y := rfl
theorem rest1_apply (l : FVec Ideal S8192x8x1 .f32) (y : S8192x8x1.Idx) : rest1 l y = l y - l y := rfl

theorem ones_apply (y : S8192x8x3.Idx) : ones y = (1 : EReal) := by
  obtain ⟨i, h, x, rfl⟩ : ∃ i h x, y = ix3 i h x := ⟨y 0, y 1, y 2, ValueIdx.eq_ix3 y⟩
  unfold ones
  pointwise

/-- The three parts of a number `t`: itself, zero, zero. -/
theorem parts (l : FVec Ideal S8192x8x1 .f32) (i : Fin 8192) (h : Fin 8) (x : Fin 1) (t : ℝ) (hl : l (ix3 i h (0 : Fin 1)) = ((t : ℝ) : EReal)) :
    short1 l (ix3 i h x) = ((t : ℝ) : EReal) ∧ short1 (rest1 l) (ix3 i h x) = 0 ∧ short1 (rest1 (rest1 l)) (ix3 i h x) = 0 := by
  obtain rfl : x = 0 := Subsingleton.elim _ _
  have e : ((t : ℝ) : EReal) - ((t : ℝ) : EReal) = 0 := by rw [← EReal.coe_sub, sub_self, EReal.coe_zero]
  refine ⟨hl, ?_, ?_⟩
  · rw [short1_apply, rest1_apply, hl, e]
  · rw [short1_apply, rest1_apply, rest1_apply, hl, e, sub_zero]

theorem lane_apply (v : FVec Ideal S8192x8 .f32) (i : Fin 8192) (h : Fin 8) : lane v (ix3 i h (0 : Fin 1)) = -v (ix2 i h) := by
  unfold lane
  pointwise

/-! ## The four arrays -/

variable {R : Args} {T : Fin 8 → Fin 8192 → ℝ}

theorem query_lane (A0 : FVec Ideal S1x8192x8x64 .f32) (l : FVec Ideal S8192x8x1 .f32) (i : Fin 8192) (h : Fin 8)
    (hA : ∀ d, A0 (ix4 (0 : Fin 1) i h d) = ((R.q i h d : ℝ) : EReal)) (hl : l (ix3 i h (0 : Fin 1)) = ((R.logLane T h i : ℝ) : EReal))
    (x : Fin 128) : packed70 (queryLanes A0 l) (ix2 i (col h x)) = ((R.queryLane T h i x : ℝ) : EReal) := by
  have hp := fun y => parts l i h y _ hl
  rw [packed70_apply]
  unfold queryLanes queryCat Args.queryLane Args.lanes
  beta_reduce
  by_cases h70 : x.val < 70
  · rw [dif_pos h70]
    pointwise
    simp only [scale_eq, hA, ones_apply, (hp _).1, (hp _).2.1, (hp _).2.2]
    by_cases h64 : x.val < 64
    · rw [dif_pos h64, dif_pos h64, EReal.coe_mul]
    · rw [dif_neg h64, dif_neg h64]
      by_cases h67 : x.val < 67
      · rw [dif_pos (by omega), if_pos h67, EReal.coe_one]
      · rw [dif_neg (by omega), if_neg h67]
        by_cases e67 : x.val = 67
        · rw [dif_pos (by omega), if_pos e67]
        · rw [dif_neg (by omega), if_neg e67, EReal.coe_zero]
          split <;> rfl
  · rw [dif_neg h70, dif_neg (by omega), if_neg (by omega), if_neg (by omega), EReal.coe_zero]

theorem key_lane (A1 : FVec Ideal S1x8192x8x64 .f32) (l : FVec Ideal S8192x8x1 .f32) (i : Fin 8192) (h : Fin 8)
    (hA : ∀ d, A1 (ix4 (0 : Fin 1) i h d) = ((R.k i h d : ℝ) : EReal)) (hl : l (ix3 i h (0 : Fin 1)) = ((-R.cum i h : ℝ) : EReal))
    (x : Fin 128) : packed70 (keyLanes A1 l) (ix2 i (col h x)) = ((R.keyLane h i x : ℝ) : EReal) := by
  have hp := fun y => parts l i h y _ hl
  rw [packed70_apply]
  unfold keyLanes keyCat Args.keyLane Args.lanes
  beta_reduce
  by_cases h70 : x.val < 70
  · rw [dif_pos h70]
    pointwise
    simp only [hA, ones_apply, (hp _).1, (hp _).2.1, (hp _).2.2]
    by_cases h64 : x.val < 64
    · rw [dif_pos h64, dif_pos h64]
    · rw [dif_neg h64, dif_neg h64]
      by_cases e64 : x.val = 64
      · rw [dif_pos (by omega), if_pos e64]
      · rw [dif_neg (by omega), if_neg e64]
        by_cases h67 : x.val < 67
        · rw [if_pos h67, EReal.coe_zero]
          split
          · rfl
          · rw [dif_pos (by omega)]
        · rw [dif_neg (by omega), dif_neg (by omega), if_neg h67, if_pos h70, EReal.coe_one]
  · rw [dif_neg h70, dif_neg (by omega), if_neg (by omega), if_neg (by omega), if_neg h70, EReal.coe_zero]

theorem value_lane (A2 : FVec Ideal S1x8192x8x64 .f32) (i : Fin 8192) (h : Fin 8)
    (hA : ∀ d, A2 (ix4 (0 : Fin 1) i h d) = ((R.v i h d : ℝ) : EReal))
    (x : Fin 128) : packed67 (valueLanes A2) (ix2 i (col h x)) = ((R.valueLane h i x : ℝ) : EReal) := by
  rw [packed67_apply]
  unfold valueLanes Args.valueLane Args.lanes
  beta_reduce
  by_cases h67 : x.val < 67
  · rw [dif_pos h67]
    pointwise
    simp only [hA, ones_apply]
    by_cases h64 : x.val < 64
    · rw [dif_pos h64, dif_pos h64]
    · rw [dif_neg h64, dif_neg h64, if_pos h67, EReal.coe_one]
  · rw [dif_neg h67, dif_neg (by omega), if_neg h67, EReal.coe_zero]

theorem cot_lane (A4 : FVec Ideal S1x8192x512 .f32) (l : FVec Ideal S8192x8x1 .f32) (i : Fin 8192) (h : Fin 8)
    (hA : ∀ d : Fin 64, A4 (ix3 (0 : Fin 1) i (⟨h.val * 64 + d.val, by omega⟩ : Fin 512)) = ((R.ct i h d : ℝ) : EReal))
    (hl : l (ix3 i h (0 : Fin 1)) = ((R.sumLane T h i : ℝ) : EReal))
    (x : Fin 128) : packed67 (cotLanes A4 l) (ix2 i (col h x)) = ((R.cotLane T h i x : ℝ) : EReal) := by
  have hp := fun y => parts l i h y _ hl
  rw [packed67_apply]
  unfold cotLanes cotCat Args.cotLane Args.lanes
  beta_reduce
  by_cases h67 : x.val < 67
  · rw [dif_pos h67]
    pointwise
    simp only [hA, (hp _).1, (hp _).2.1, (hp _).2.2]
    by_cases h64 : x.val < 64
    · rw [dif_pos h64, dif_pos h64]
      exact hA ⟨x.val, h64⟩
    · rw [dif_neg h64, dif_neg h64]
      by_cases e64 : x.val = 64
      · rw [dif_pos (by omega), if_pos e64]
      · rw [dif_neg (by omega), if_neg e64, EReal.coe_zero]
        split <;> rfl
  · rw [dif_neg h67, dif_neg (by omega), if_neg (by omega), EReal.coe_zero]

/-! ## The lanes the forward pass fills -/

section Arrays

variable (m : (ℓ : Loc nD τ sig) → Buf (Elt Ideal) ℓ) (c : Dev nD)
variable (hR : R.Held (arg0A m c) (arg1A m c) (arg2A m c) (arg3A m c) (arg4A m c))
variable (hT : ∀ h i, Reference2Ideal.Read.val_main_v19 (F := Ideal) (arg0A m c) (arg1A m c) (arg3A m c) (ix3 (0 : Fin 1) h i) = ((T h i : ℝ) : EReal))

theorem log_row (z : FVec Ideal S1x8x8192 .f32) (h : Fin 8) (i : Fin 8192) :
    Host.log (broadcastInDim S1x8x8192x1 ![0, 1, 2] bcast_S1x8x8192_S1x8x8192x1_0_1_2 z) (ix4 (0 : Fin 1) h i (0 : Fin 1))
      = Ideal.log (z (ix3 (0 : Fin 1) h i)) := by
  have e : broadcastInDim S1x8x8192x1 ![0, 1, 2] bcast_S1x8x8192_S1x8x8192x1_0_1_2 z (ix4 (0 : Fin 1) h i (0 : Fin 1))
      = z (ix3 (0 : Fin 1) h i) := by
    pointwise
  rw [← e]
  generalize broadcastInDim S1x8x8192x1 ![0, 1, 2] bcast_S1x8x8192_S1x8x8192x1_0_1_2 z = w
  rfl

theorem log_column (y : FVec Ideal S1x8x8192 .f32) (u : FVec Ideal S1x8x8192x1 .f32) (i : Fin 8192) (h : Fin 8) :
    (shapeCast S8x8192 (addf (broadcastInDim S1x8x8192x1 ![0, 1, 2] bcast_S1x8x8192_S1x8x8192x1_0_1_2 y) u)
      shapeCasts_S1x8x8192x1_S8x8192) (ix2 h i) = y (ix3 (0 : Fin 1) h i) + u (ix4 (0 : Fin 1) h i (0 : Fin 1)) := by
  pointwise

theorem less_gate (y : FVec Ideal S8x8192 .f32) (w : FVec Ideal S1x8192x8 .f32) (i : Fin 8192) (h : Fin 8) :
    subf (transpose S8192x8 [1, 0] y transposes_S8x8192_S8192x8_1_0) (shapeCast S8192x8 w shapeCasts_S1x8192x8_S8192x8) (ix2 i h)
      = y (ix2 h i) - w (ix3 (0 : Fin 1) i h) := by
  pointwise

theorem rowLog_apply (M D : FVec Ideal S1x8x8192 .f32) (A3 : FVec Ideal S1x8192x8 .f32) (i : Fin 8192) (h : Fin 8) :
    rowLog M D A3 (ix2 i h) = M (ix3 (0 : Fin 1) h i) + Ideal.log (D (ix3 (0 : Fin 1) h i)) - A3 (ix3 (0 : Fin 1) i h) := by
  unfold rowLog
  rw [less_gate, log_column, log_row]

theorem log_real (R : Args) (T : Fin 8 → Fin 8192 → ℝ) (h : Fin 8) (i : Fin 8192) (y z w : EReal) (e1 : y = ((T h i : ℝ) : EReal))
    (e2 : z = ((R.total T h i : ℝ) : EReal)) (e3 : w = ((R.cum i h : ℝ) : EReal)) : -(y + Ideal.log z - w) = ((R.logLane T h i : ℝ) : EReal) := by
  rw [e1, e2, e3, Ideal.log_coe, if_neg (not_le.mpr (R.total_pos T h i)), ← EReal.coe_add, ← EReal.coe_sub, ← EReal.coe_neg]
  unfold Args.logLane
  rfl

include hT in
theorem tops_apply (h : Fin 8) (i : Fin 8192) : topsA m c (ix3 (0 : Fin 1) h i) = ((T h i : ℝ) : EReal) := by
  unfold topsA scoresA
  rw [topsK_eq]
  exact hT h i

include hR hT in
theorem rawA_apply (h : Fin 8) (i j : Fin 8192) : rawA m c (ix4 (0 : Fin 1) h i j) = ((R.raw T h i j : ℝ) : EReal) := by
  have e := tops_apply m c hT h i
  have e' : scoresA m c (ix4 (0 : Fin 1) h i j) = masked R h i j := by
    unfold scoresA
    rw [scoresK_eq]
    exact masked_apply hR i j h
  rw [← exp_masked, ← e, ← e']
  unfold rawA softRaw
  generalize topsA m c = y
  generalize scoresA m c = z
  refine congrArg (fun u : EReal => Ideal.exp (z (ix4 (0 : Fin 1) h i j) - u)) ?_
  pointwise

include hR hT in
theorem totalA_apply (h : Fin 8) (i : Fin 8192) : totalA m c (ix3 (0 : Fin 1) h i) = ((R.total T h i : ℝ) : EReal) := by
  have e := rawA_apply m c hR hT h i
  revert e
  unfold totalA softTotal
  generalize rawA m c = y
  intro e
  pointwise
  simp only [e, ← coe_sum]
  rfl

include hR hT in
theorem log_lane (i : Fin 8192) (h : Fin 8) :
    lane (rowLog (topsA m c) (totalA m c) (arg3A m c)) (ix3 i h (0 : Fin 1)) = ((R.logLane T h i : ℝ) : EReal) := by
  rw [lane_apply]
  rw [rowLog_apply]
  exact log_real R T h i _ _ _ (tops_apply m c hT h i) (totalA_apply m c hR hT h i) (hR.cum i h)

include hR hT in
theorem sum_lane (i : Fin 8192) (h : Fin 8) :
    lane (rowSum (arg4A m c) (outs (arg2A m c) (rawA m c) (totalA m c))) (ix3 i h (0 : Fin 1)) = ((R.sumLane T h i : ℝ) : EReal) := by
  rw [lane_apply]
  have e1 := rawA_apply m c hR hT h i
  have e2 := totalA_apply m c hR hT h i
  have e3 := hR.v
  have e4 := hR.ct i h
  revert e1 e2 e3 e4
  unfold rowSum outs
  generalize rawA m c = y
  generalize totalA m c = z
  generalize arg2A m c = w
  generalize arg4A m c = u
  intro e1 e2 e3 e4
  pointwise
  simp only [e1, e2, e3, e4, div_real _ _ (R.total_pos T h i), ← EReal.coe_mul, ← coe_sum, ← EReal.coe_neg]
  rfl

theorem cum_lane (i : Fin 8192) (h : Fin 8) (hcum : arg3A m c (ix3 (0 : Fin 1) i h) = ((R.cum i h : ℝ) : EReal)) :
    lane (shapeCast S8192x8 (arg3A m c) shapeCasts_S1x8192x8_S8192x8) (ix3 i h (0 : Fin 1)) = ((-R.cum i h : ℝ) : EReal) := by
  rw [lane_apply]
  revert hcum
  generalize arg3A m c = w
  intro e
  pointwise
  rw [e, EReal.coe_neg]

include hR hT in
theorem queries_apply (i : Fin 8192) (h : Fin 8) (x : Fin 128) :
    queriesA m c (ix2 i (col h x)) = ((R.queryLane T h i x : ℝ) : EReal) := by
  rw [V_queries]
  exact query_lane _ _ i h (hR.q i h) (log_lane m c hR hT i h) x

include hR in
theorem keys_apply (i : Fin 8192) (h : Fin 8) (x : Fin 128) : keysA m c (ix2 i (col h x)) = ((R.keyLane h i x : ℝ) : EReal) := by
  rw [V_keys]
  exact key_lane _ _ i h (hR.k i h) (cum_lane m c i h (hR.cum i h)) x

include hR in
theorem values_apply (i : Fin 8192) (h : Fin 8) (x : Fin 128) : valuesA m c (ix2 i (col h x)) = ((R.valueLane h i x : ℝ) : EReal) := by
  rw [V_values]
  exact value_lane _ i h (hR.v i h) x

include hR hT in
theorem cots_apply (i : Fin 8192) (h : Fin 8) (x : Fin 128) : cotA m c (ix2 i (col h x)) = ((R.cotLane T h i x : ℝ) : EReal) := by
  rw [V_cot]
  exact cot_lane _ _ i h (hR.ct i h) (sum_lane m c hR hT i h) x

end Arrays

end Cert.Fox

end
-- ==== Proof.FoxEqual.lean ====
/- The launch's sums over packed arrays are the reference's gradients. -/
module

public import proofs.«01_k».proof.Proof.FoxLanes

@[expose] public section

set_option maxRecDepth 16384

noncomputable section

namespace Cert.Fox

open Cert.Kernel2Ideal Cert.Kernel2Ideal.Gen
open Idealize.ShloMosaic Idealize.ShloMosaic.TcCoe Idealize.SL.Sem
open Cert.FG (coe_sum)

/-- A sum over 128 lanes of which only the first 64 and lanes 64 to 69 are not zero. -/
theorem sum_lanes (f : Fin 128 → ℝ) (hf : ∀ x : Fin 128, 70 ≤ x.val → f x = 0) :
    ∑ x, f x = (∑ d : Fin 64, f ⟨d.val, by omega⟩) + (f 64 + f 65 + f 66 + f 67 + f 68 + f 69) := by
  have h1 : ∑ x, f x = (∑ d : Fin 64, f ⟨d.val, by omega⟩) + ∑ y : Fin 64, f ⟨64 + y.val, by omega⟩ :=
    Fin.sum_univ_add (a := 64) (b := 64) f
  have h2 : ∑ y : Fin 64, f ⟨64 + y.val, by omega⟩
      = (∑ y : Fin 6, f ⟨64 + y.val, by omega⟩) + ∑ y : Fin 58, f ⟨64 + (6 + y.val), by omega⟩ :=
    Fin.sum_univ_add (a := 6) (b := 58) fun y : Fin (6 + 58) => f ⟨64 + y.val, by omega⟩
  rw [h1, h2, Finset.sum_eq_zero (s := (Finset.univ : Finset (Fin 58))) fun y _ => hf _ (by show 70 ≤ 64 + (6 + y.val); omega),
    add_zero, Fin.sum_univ_six]
  rfl

namespace Args

variable (R : Args) (T : Fin 8 → Fin 8192 → ℝ)

theorem lanes_low (a : Fin 64 → ℝ) (b : ℕ → ℝ) (d : Fin 64) (hd : d.val < 128) : lanes a b ⟨d.val, hd⟩ = a d := dif_pos d.isLt

theorem lanes_high (a : Fin 64 → ℝ) (b : ℕ → ℝ) (x : Fin 128) (hx : 64 ≤ x.val) : lanes a b x = b x.val :=
  dif_neg (by omega)

theorem key_query (h : Fin 8) (k l : Fin 8192) :
    ∑ x, R.keyLane h k x * R.queryLane T h l x = R.score h l k - T h l - Real.log (R.total T h l) := by
  rw [sum_lanes _ fun x hx => ?_]
  · unfold keyLane queryLane
    simp only [lanes_low]
    rw [lanes_high _ _ 64 (by decide), lanes_high _ _ 65 (by decide), lanes_high _ _ 66 (by decide), lanes_high _ _ 67 (by decide),
      lanes_high _ _ 68 (by decide), lanes_high _ _ 69 (by decide), lanes_high _ _ 64 (by decide), lanes_high _ _ 65 (by decide),
      lanes_high _ _ 66 (by decide), lanes_high _ _ 67 (by decide), lanes_high _ _ 68 (by decide), lanes_high _ _ 69 (by decide)]
    have e : ∑ d, R.k k h d * (R.q l h d * 0.125) = (∑ d, R.q l h d * R.k k h d) * 0.125 := by
      rw [Finset.sum_mul]
      exact Finset.sum_congr rfl fun d _ => by ring
    rw [e]
    unfold score logLane
    norm_num
    ring
  · unfold keyLane
    rw [lanes_high _ _ x (by omega), if_neg (by omega), if_neg (by omega), if_neg (by omega), zero_mul]

theorem value_cot (h : Fin 8) (k l : Fin 8192) :
    ∑ x, R.valueLane h k x * R.cotLane T h l x = R.pair h l k - ∑ j, R.pair h l j * R.prob T h l j := by
  rw [sum_lanes _ fun x hx => ?_]
  · unfold valueLane cotLane
    simp only [lanes_low]
    rw [lanes_high _ _ 64 (by decide), lanes_high _ _ 65 (by decide), lanes_high _ _ 66 (by decide), lanes_high _ _ 67 (by decide),
      lanes_high _ _ 68 (by decide), lanes_high _ _ 69 (by decide), lanes_high _ _ 64 (by decide), lanes_high _ _ 65 (by decide),
      lanes_high _ _ 66 (by decide), lanes_high _ _ 67 (by decide), lanes_high _ _ 68 (by decide), lanes_high _ _ 69 (by decide)]
    have e : ∑ d, R.v k h d * R.ct l h d = R.pair h l k := Finset.sum_congr rfl fun d _ => mul_comm _ _
    have e' : R.sumLane T h l = -∑ j, R.pair h l j * R.prob T h l j := by
      unfold sumLane pair
      simp only [Finset.mul_sum, Finset.sum_mul]
      rw [Finset.sum_comm]
      exact congrArg Neg.neg (Finset.sum_congr rfl fun j _ => Finset.sum_congr rfl fun d _ => by ring)
    rw [e, e']
    norm_num
    ring
  · unfold valueLane
    rw [lanes_high _ _ x (by omega), if_neg (by omega), zero_mul]

/-- The exponential of a relative score less the logarithm of its row's sum is the softmax. -/
theorem exp_prob (h : Fin 8) (k l : Fin 8192) (hk : k ≤ l) :
    Real.exp (R.score h l k - T h l - Real.log (R.total T h l)) = R.prob T h l k := by
  unfold prob raw
  rw [Real.exp_sub, Real.exp_log (R.total_pos T h l), if_pos hk]

theorem prob_off (h : Fin 8) (k l : Fin 8192) (hk : ¬ k ≤ l) : R.prob T h l k = 0 := by
  unfold prob raw
  rw [if_neg hk, zero_div]

end Args

section Arrays

variable {R : Args} {T : Fin 8 → Fin 8192 → ℝ}
variable {K V Q D : Packed}
variable (hK : ∀ i h x, K (ix2 i (col h x)) = ((R.keyLane h i x : ℝ) : EReal))
variable (hV : ∀ i h x, V (ix2 i (col h x)) = ((R.valueLane h i x : ℝ) : EReal))
variable (hQ : ∀ i h x, Q (ix2 i (col h x)) = ((R.queryLane T h i x : ℝ) : EReal))
variable (hD : ∀ i h x, D (ix2 i (col h x)) = ((R.cotLane T h i x : ℝ) : EReal))

include hK hQ in
theorem weight_eq (h : Fin 8) (k l : Fin 8192) : weightG K Q h k l = ((R.prob T h l k : ℝ) : EReal) := by
  unfold weightG dotG
  by_cases hk : k ≤ l
  · rw [if_pos hk]
    simp only [hK, hQ, ← EReal.coe_mul, ← coe_sum]
    rw [R.key_query T h k l, Ideal.exp_coe, R.exp_prob T h k l hk]
  · rw [if_neg hk, R.prob_off T h k l hk, EReal.coe_zero]

include hK hV hQ hD in
theorem slope_eq (h : Fin 8) (k l : Fin 8192) : slopeG K V Q D h k l = ((R.slope T h l k : ℝ) : EReal) := by
  unfold slopeG
  rw [weight_eq hK hQ h k l]
  unfold dotG
  simp only [hV, hD, ← EReal.coe_mul, ← coe_sum]
  rw [R.value_cot T h k l]
  rfl

include hK hQ hD in
theorem dv_eq (h : Fin 8) (k : Fin 8192) (d : Fin 64) (hd : d.val < 128) :
    dvG K Q D h k ⟨d.val, hd⟩ = ((R.dv T h k d : ℝ) : EReal) := by
  unfold dvG
  simp only [weight_eq hK hQ, hD, ← EReal.coe_mul, ← coe_sum]
  unfold Args.dv Args.cotLane
  simp only [Args.lanes_low]
  exact congrArg _ (Finset.sum_congr rfl fun i _ => mul_comm _ _)

include hK hV hQ hD in
theorem dk_eq (h : Fin 8) (k : Fin 8192) (d : Fin 64) (hd : d.val < 128) :
    dkG K V Q D h k ⟨d.val, hd⟩ = ((R.dk T h k d : ℝ) : EReal) := by
  unfold dkG
  simp only [slope_eq hK hV hQ hD, hQ, ← EReal.coe_mul, ← coe_sum]
  unfold Args.dk Args.queryLane
  simp only [Args.lanes_low]
  exact congrArg _ (Finset.sum_congr rfl fun i _ => by ring)

include hK hV hQ hD in
theorem dckey_eq (h : Fin 8) (k : Fin 8192) : dkG K V Q D h k 64 = ((R.dckey T h k : ℝ) : EReal) := by
  unfold dkG
  simp only [slope_eq hK hV hQ hD, hQ, ← EReal.coe_mul, ← coe_sum]
  unfold Args.dckey Args.queryLane
  simp only [Args.lanes_high _ _ (64 : Fin 128) (by decide)]
  refine congrArg _ (Finset.sum_congr rfl fun i _ => ?_)
  rw [if_pos (by decide), mul_one]

include hK hV hQ hD in
theorem dq_eq (h : Fin 8) (l : Fin 8192) (d : Fin 64) (hd : d.val < 128) :
    dqG K V Q D h l ⟨d.val, hd⟩ * ((0.125 : ℝ) : EReal) = ((R.dq T h l d : ℝ) : EReal) := by
  unfold dqG
  simp only [slope_eq hK hV hQ hD, hK, ← EReal.coe_mul, ← coe_sum]
  unfold Args.dq Args.keyLane
  simp only [Args.lanes_low]
  rw [Finset.sum_mul]
  exact congrArg _ (Finset.sum_congr rfl fun i _ => by ring)

include hK hV hQ hD in
theorem dcquery_eq (h : Fin 8) (l : Fin 8192) : dqG K V Q D h l 67 = ((R.dcquery T h l : ℝ) : EReal) := by
  unfold dqG
  simp only [slope_eq hK hV hQ hD, hK, ← EReal.coe_mul, ← coe_sum]
  unfold Args.dcquery Args.keyLane
  simp only [Args.lanes_high _ _ (67 : Fin 128) (by decide)]
  refine congrArg _ (Finset.sum_congr rfl fun i _ => ?_)
  rw [if_neg (by decide), if_neg (by decide), if_pos (by decide), mul_one]

end Arrays

end Cert.Fox

end
-- ==== Proof.FoxResults.lean ====
/- What the launch leaves is the reference's five arrays, entry by entry. -/
module

public import proofs.«01_k».proof.Proof.FoxEqual
public import proofs.«01_k».proof.Proof.FoxRef
public import proofs.«01_k».proof.Proof.FoxArrays

@[expose] public section

set_option maxRecDepth 16384

noncomputable section

namespace Cert.Fox

open Cert.Kernel2Ideal Cert.Kernel2Ideal.Gen
open Idealize.ShloMosaic Idealize.ShloMosaic.TcCoe Idealize.SL.Sem
open Cert.Reference2Ideal.Read (val_main_v19 val_main_v87 val_main_v89 val_main_v94 val_main_v96 val_main_v100)

theorem row_split (i : Fin 8192) : ∃ j r, i = row j r :=
  ⟨⟨i.val / 512, by omega⟩, ⟨i.val % 512, by omega⟩, Fin.ext (by show i.val = 512 * (i.val / 512) + i.val % 512; omega)⟩

theorem col_split (y : Fin 512) : ∃ a x, y = outCol a x :=
  ⟨⟨y.val / 128, by omega⟩, ⟨y.val % 128, by omega⟩, Fin.ext (by show y.val = 128 * (y.val / 128) + y.val % 128; omega)⟩

theorem colHead_outCol (a : Fin 4) (x : Fin 128) : colHead (outCol a x) = headOf a ⟨x.val / 64, by omega⟩ :=
  Fin.ext (by show (128 * a.val + x.val) / 64 = 2 * a.val + x.val / 64; omega)

theorem colLane_outCol (a : Fin 4) (x : Fin 128) : colLane (outCol a x) = ⟨x.val % 64, by omega⟩ :=
  Fin.ext (by show (128 * a.val + x.val) % 64 = x.val % 64; omega)

variable (m : (ℓ : Loc nD τ sig) → Buf (Elt Ideal) ℓ) (c : Dev nD) {R : Args}
variable (hR : R.Held (arg0A m c) (arg1A m c) (arg2A m c) (arg3A m c) (arg4A m c)) {T : Fin 8 → Fin 8192 → ℝ}
variable (hT : ∀ h i, val_main_v19 (F := Ideal) (arg0A m c) (arg1A m c) (arg3A m c) (ix3 (0 : Fin 1) h i) = ((T h i : ℝ) : EReal))

include hR hT

theorem same_dk : ((dats m 0 c).arrAt 5 cfg0.N : Vec Ideal S8192x512 .bf16)
    = val_main_v87 (F := Ideal) (arg0A m c) (arg1A m c) (arg2A m c) (arg3A m c) (arg4A m c) := by
  funext z
  rw [ValueIdx.eq_ix2 z]
  obtain ⟨j, r, hj⟩ := row_split (z 0)
  obtain ⟨a, x, hx⟩ := col_split (z 1)
  rw [hj, hx]
  refine (arr5 m c a j r x).trans (Eq.trans ?_ (ref_dk hR hT _ _).symm)
  rw [colHead_outCol, colLane_outCol]
  exact dk_eq (keys_apply m c hR) (values_apply m c hR) (queries_apply m c hR hT) (cots_apply m c hR hT) _ _ ⟨x.val % 64, by omega⟩ _

theorem same_dv : ((dats m 0 c).arrAt 6 cfg0.N : Vec Ideal S8192x512 .bf16)
    = val_main_v89 (F := Ideal) (arg0A m c) (arg1A m c) (arg3A m c) (arg4A m c) := by
  funext z
  rw [ValueIdx.eq_ix2 z]
  obtain ⟨j, r, hj⟩ := row_split (z 0)
  obtain ⟨a, x, hx⟩ := col_split (z 1)
  rw [hj, hx]
  refine (arr6 m c a j r x).trans (Eq.trans ?_ (ref_dv hR hT _ _).symm)
  rw [colHead_outCol, colLane_outCol]
  exact dv_eq (keys_apply m c hR) (queries_apply m c hR hT) (cots_apply m c hR hT) _ _ ⟨x.val % 64, by omega⟩ _

theorem same_keys : ((dats m 0 c).arrAt 7 cfg0.N : Vec Ideal S4x8192x128 .f32)
    = val_main_v94 (F := Ideal) (arg0A m c) (arg1A m c) (arg2A m c) (arg3A m c) (arg4A m c) := by
  funext z
  rw [ValueIdx.eq_ix3 z]
  obtain ⟨j, r, hj⟩ := row_split (z 1)
  rw [hj]
  refine (arr7 m c _ j r _).trans (Eq.trans ?_ (ref_keys hR hT _ _ _).symm)
  exact congrArg (planeOf _ · _) (funext fun h =>
    dckey_eq (keys_apply m c hR) (values_apply m c hR) (queries_apply m c hR hT) (cots_apply m c hR hT) h _)

theorem same_dq : ((dats m 0 c).arrAt 8 cfg0.N : Vec Ideal S8192x512 .bf16)
    = val_main_v96 (F := Ideal) (arg0A m c) (arg1A m c) (arg2A m c) (arg3A m c) (arg4A m c) := by
  funext z
  rw [ValueIdx.eq_ix2 z]
  obtain ⟨a, x, hx⟩ := col_split (z 1)
  rw [hx]
  refine (arr8 m c a _ x).trans (Eq.trans ?_ (ref_dq hR hT _ _).symm)
  rw [colHead_outCol, colLane_outCol]
  exact dq_eq (keys_apply m c hR) (values_apply m c hR) (queries_apply m c hR hT) (cots_apply m c hR hT) _ _ ⟨x.val % 64, by omega⟩ _

theorem same_queries : ((dats m 0 c).arrAt 9 cfg0.N : Vec Ideal S4x8192x128 .f32)
    = val_main_v100 (F := Ideal) (arg0A m c) (arg1A m c) (arg2A m c) (arg3A m c) (arg4A m c) := by
  funext z
  rw [ValueIdx.eq_ix3 z]
  refine (arr9 m c _ _ _).trans (Eq.trans ?_ (ref_queries hR hT _ _ _).symm)
  exact congrArg (planeOf _ · _) (funext fun h =>
    dcquery_eq (keys_apply m c hR) (values_apply m c hR) (queries_apply m c hR hT) (cots_apply m c hR hT) h _)

end Cert.Fox

end
-- ==== Proof.FoxClaim.lean ====
/- The forget-gate attention's backward call against its reference: both leave the same five gradients. -/
module

public import proofs.«01_k».proof.Defs
public import proofs.«01_k».proof.Proof.FgClaim
public import proofs.«01_k».proof.Proof.FoxResults
public import proofs.«01_k».proof.Proof.FoxFrames
public import proofs.«01_k».proof.Proof.Gen.Pre_fox_finite
public import Idealize.ShloMosaic.Lib.ReduceAll

@[expose] public section

set_option maxRecDepth 65536

noncomputable section

namespace Cert.Fox

open Cert.Kernel2Ideal Cert.Kernel2Ideal.Gen
open Idealize.ShloMosaic Idealize.SL.Sem Idealize.ShloMosaic.TcCoe

theorem real_of {x : EReal} (h : x ≠ ⊤ ∧ x ≠ ⊥) : x = ((x.toReal : ℝ) : EReal) := (EReal.coe_toReal h.1 h.2).symm

/-- The one index of an array without axes. -/
def nil0 : Shape.Idx (Cert.Pre_fox_finite.S_) := fun a => a.elim0

instance : Subsingleton (Shape.Idx Cert.Pre_fox_finite.S_) := ⟨fun a b => funext fun i => i.elim0⟩

variable {x0 x1 x2 : FVec Ideal S1x8192x8x64 .f32} {x3 : FVec Ideal S1x8192x8 .f32} {x4 : FVec Ideal S1x8192x512 .f32}

theorem finite_of (h : Cert.Pre_fox_finite.fn (F := Ideal) x0 x1 x2 x3 x4 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ ∀ i, x4 i ≠ ⊤ ∧ x4 i ≠ ⊥ := by
  have hj := congrFun h nil0
  unfold Cert.Pre_fox_finite.fn Cert.Pre_fox_finite.fn_part1 at hj
  dsimp only at hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  exact ⟨fun i => Cert.FG.lt_inf (Host.reduce_andi_all _ _ _ _ _ h0 i), fun i => Cert.FG.lt_inf (Host.reduce_andi_all _ _ _ _ _ h1 i),
    fun i => Cert.FG.lt_inf (Host.reduce_andi_all _ _ _ _ _ h2 i), fun i => Cert.FG.lt_inf (Host.reduce_andi_all _ _ _ _ _ h3 i),
    fun i => Cert.FG.lt_inf (Host.reduce_andi_all _ _ _ _ _ h4 i)⟩

theorem held_of (h : Cert.Pre_fox_finite.fn (F := Ideal) x0 x1 x2 x3 x4 = fun _ => 1#1) : ∃ R : Args, R.Held x0 x1 x2 x3 x4 := by
  obtain ⟨h0, h1, h2, h3, h4⟩ := finite_of h
  exact ⟨⟨fun i h d => (x0 (ix4 (0 : Fin 1) i h d)).toReal, fun i h d => (x1 (ix4 (0 : Fin 1) i h d)).toReal,
      fun i h d => (x2 (ix4 (0 : Fin 1) i h d)).toReal, fun i h => (x3 (ix3 (0 : Fin 1) i h)).toReal,
      fun i h d => (x4 (ix3 (0 : Fin 1) i (⟨h.val * 64 + d.val, by omega⟩ : Fin 512))).toReal⟩,
    ⟨fun _ _ _ => real_of (h0 _), fun _ _ _ => real_of (h1 _), fun _ _ _ => real_of (h2 _), fun _ _ => real_of (h3 _),
      fun _ _ _ => real_of (h4 _)⟩⟩

/-- The kernel's run: its five results hold what the launch wrote, its arguments what they held. -/
theorem run_results (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v95_0) = (dats m 0 c).arrAt 5 cfg0.N
      ∧ r.2.mem ((c.tc : Thread nD τ).loc main_v95_1) = (dats m 0 c).arrAt 6 cfg0.N
      ∧ r.2.mem ((c.tc : Thread nD τ).loc main_v95_2) = (dats m 0 c).arrAt 7 cfg0.N
      ∧ r.2.mem ((c.tc : Thread nD τ).loc main_v95_3) = (dats m 0 c).arrAt 8 cfg0.N
      ∧ r.2.mem ((c.tc : Thread nD τ).loc main_v95_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1.1 c).1 5, (h.1.1 c).1 6, (h.1.1 c).1 7, (h.1.1 c).1 8, (h.1.1 c).1 9, h.2.1 c⟩)
    (θ_run_and (run_main_quiescent m g) (frame m g))

theorem congr5 {A B C D E G : Type} (f : A → B → C → D → E → G) {a a' : A} {b b' : B} {c c' : C} {d d' : D} {e e' : E}
    (ha : a = a') (hb : b = b') (hc : c = c') (hd : d = d') (he : e = e') : f a b c d e = f a' b' c' d' e' := by
  subst ha hb hc hd he; rfl

set_option maxHeartbeats 2000000 in
open Cert.Reference2Ideal.Read in
theorem algebraic : Cert.algebraic_Kernel2Ideal_Reference2Ideal_pre_fox_finite := by
  intro m g m' g' hpre hagree
  refine ⟨_, _, _, _, _, (θ_run Cert.Kernel2Ideal.defs _ _).mono (fun r h c => h c) (run_results m g), ?_⟩
  refine (θ_run Cert.Reference2Ideal.defs _ _).mono (fun r h c => ?_) (Cert.Reference2Ideal.Value.run (F := Ideal) m' g')
  obtain ⟨h87, h89, h94, h96, h100, hargs⟩ := h c
  obtain ⟨a0, a1, a2, a3, a4⟩ := hagree c
  obtain ⟨R, hR⟩ := held_of (hpre c)
  obtain ⟨T, hT⟩ := top_apply hR
  refine ⟨h87.trans ?_, h89.trans ?_, h94.trans ?_, h96.trans ?_, h100.trans ?_, hargs⟩
  · exact (val_main_v87_eq m' c).trans ((congr5 (val_main_v87 (F := Ideal)) a0 a1 a2 a3 a4).trans (same_dk m c hR hT).symm)
  · exact (val_main_v89_eq m' c).trans ((congr5 (fun a b _ d e => val_main_v89 (F := Ideal) a b d e) a0 a1 a2 a3 a4).trans (same_dv m c hR hT).symm)
  · exact (val_main_v94_eq m' c).trans ((congr5 (val_main_v94 (F := Ideal)) a0 a1 a2 a3 a4).trans (same_keys m c hR hT).symm)
  · exact (val_main_v96_eq m' c).trans ((congr5 (val_main_v96 (F := Ideal)) a0 a1 a2 a3 a4).trans (same_dq m c hR hT).symm)
  · exact (val_main_v100_eq m' c).trans ((congr5 (val_main_v100 (F := Ideal)) a0 a1 a2 a3 a4).trans (same_queries m c hR hT).symm)

end Cert.Fox

end
-- ==== Proof.FwdRun.lean ====
module

public import proofs.«01_k».proof.Proof.Gen.Kernel4Ideal.Frame
public import proofs.«01_k».proof.Proof.Gen.Kernel4Ideal.Loops
public import proofs.«01_k».proof.Proof.Gen.Kernel4
public import proofs.«01_k».proof.Proof.Gen.Reference4Ideal.Run
public import proofs.«01_k».proof.Proof.Gen.Reference4Ideal.Read
public import proofs.«01_k».proof.Proof.Gen.Pre_fox_fwd_finite
public import Idealize.ShloMosaic.Lib.VecWindow

@[expose] public section

/-! # The body of the forget-gate attention's forward kernel, run once

`run` executes the body at any grid point and finds what it leaves in its two result blocks. -/

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S4x16 .i32) (harg2 : arg2.IsWhole) (arg3 : Memref sig .tc .vmem S512x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x128 .f32) (harg6 : arg6.IsWhole) (arg7 : Memref sig .tc .vmem S512x256 .bf16) (harg7 : arg7.IsWhole)

theorem chk (t : Fin cfg0.N) : k0_chk1 (grid0.coords t) 0#32 := by
  revert t; decide +kernel

set_option maxHeartbeats 4000000 in
/-- The body at any point (the table's words are zero: every block before the diagonal is worked). -/
def run (c : Dev nD) (i : grid0.Coords) (hw : k0_chk1 i 0#32)
    (x1 : Vec F S512x256 .bf16) (x2 x3 : Vec F S8192x256 .bf16) :
    Σ' (R6 : Vec F S512x128 .f32), { L7 : List (View.Piece (Elt F) S512x256 .bf16) //
      ∀ (E : Set ℕ) (K : PUnit → sProp 𝕄),
        iprop(owns (c : Thread nD τ) arg2 fullShare (fun _ => 0#32) ∗ owns (c : Thread nD τ) arg3 fullShare x1 ∗ owns (c : Thread nD τ) arg4 fullShare x2
            ∗ owns (c : Thread nD τ) arg5 fullShare x3
            ∗ (∃ d, owns (c : Thread nD τ) arg6 fullShare d) ∗ (∃ d, owns (c : Thread nD τ) arg7 fullShare d)
            ∗ ((owns (c : Thread nD τ) arg2 fullShare (fun _ => 0#32) ∗ owns (c : Thread nD τ) arg3 fullShare x1 ∗ owns (c : Thread nD τ) arg4 fullShare x2
              ∗ owns (c : Thread nD τ) arg5 fullShare x3
              ∗ owns (c : Thread nD τ) arg6 fullShare R6 ∗ (∃ f, arg7.view.loc (c : Thread nD τ) ↦[arg7.view.set]{fullShare} arg7.view.writes (Elt F) f L7)) -∗ K ⟨⟩))
          ⊢ wp frame (wpE (defs₀ (F := F)) Variants.none c none) E (cc0_fox_fwd i arg2 harg2 arg3 harg3 arg4 harg4 arg5 harg5 arg6 harg6 arg7 harg7) K } := by
  refine ⟨?_, ?_, fun E K => ?run⟩
  case run =>
    simp only [cc0_fox_fwd_eq_skeleton]; unfold cc0_fox_fwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec
    have hr : run.sl.r (F := F) arg2 harg2 c i = 0#32 := by
      unfold run.sl.r; simp only [View.readAt_apply, Memref.IsWhole.read_unread]
    rw [hr]
    iapply (wp_assume _ _ _ _ hw)
    dsimp -proj only
    sl_exec
    sl_step
    iapply Hk
    isplitl [H0]; · iexists _; isplitr; swap; · iexact H0
                    ipureintro; exact harg2.read_unread _
    isplitl [H1]; · iexists _; isplitr; swap; · iexact H1
                    ipureintro; exact harg3.read_unread _
    isplitl [H2]; · iexists _; isplitr; swap; · iexact H2
                    ipureintro; exact harg4.read_unread _
    isplitl [H3]; · iexists _; isplitr; swap; · iexact H3
                    ipureintro; exact harg5.read_unread _
    isplitl [H4]; · iexists _; isplitr; swap; · iexact H4
                    ipureintro; exact View.read_writes_full _ _ _ _ _
    iexists _; iexact H5

theorem run_cover (c : Dev nD) (i : grid0.Coords) (hw : k0_chk1 i 0#32) (x1 : Vec F S512x256 .bf16) (x2 x3 : Vec F S8192x256 .bf16) (f : BufTy.Contents (Elt F) arg7.view.ty) :
    arg7.view.read (Elt F) (arg7.view.writes (Elt F) f (run (F := F) arg2 harg2 arg3 harg3 arg4 harg4 arg5 harg5 arg6 harg6 arg7 harg7 c i hw x1 x2 x3).2.1)
      = View.canon (run (F := F) arg2 harg2 arg3 harg3 arg4 harg4 arg5 harg5 arg6 harg6 arg7 harg7 c i hw x1 x2 x3).2.1 :=
  View.read_writes_eq_canon _ _ _ (View.cover_of_tiledL _ S512x128.size (by sl_kernel_rfl))

end Cert.Fwd
end
-- ==== Proof.FwdFrame.lean ====
module

public import proofs.«01_k».proof.Proof.FwdRun
public import Idealize.ShloMosaic.Lib.Pipeline.ValueKit

@[expose] public section

/-! # The forget-gate attention's forward kernel, launched

What every point leaves, the pipeline's proof data, and the run of @main. -/

set_option maxRecDepth 16384

noncomputable section

namespace Cert.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body run at point `t`. -/
abbrev runAt (c : Dev nD) (t : Fin cfg0.N) :=
  run (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    c (grid0.coords t) (chk t) (iblk m c 1 t) (iblk m c 2 t) (iblk m c 3 t)

/-- The table of first key blocks, zero at every cell. -/
theorem V_table (c : Dev nD) : V m c main_v29 = fun _ => (0#32 : Elt F .i32) := by
  unfold V hostOps0 hostOps0_1 hostOps0_2 hostOps0_3 hostOps0_4 hostOps0_5 hostOps0_6
  simp only [List.flatten_cons, List.flatten_nil, List.append_nil, List.cons_append, List.nil_append]
  after_results_simp
  rfl

theorem iblk_table (c : Dev nD) (t : Fin cfg0.N) : iblk m c 0 t = fun _ => (0#32 : Elt F .i32) := by
  unfold iblk
  rw [show V m c (Pipeline.arrRef spec0 0) = fun _ => (0#32 : Elt F .i32) from V_table m c]
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (runAt m c t).1
    | ⟨5, _⟩ => View.canon (runAt m c t).2.1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (runAt m c t).1 := by dsimp only [dats]
theorem after0_5 (c : Dev nD) (t : Fin cfg0.N) : (dats m 0 c).after 5 t = View.canon (runAt m c t).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = (dats m 0 c).Φ t.castSucc from rfl]
  simp only [before0_0, before0_1, before0_2, before0_3, after0_0, after0_1, after0_2, after0_3, after0_4, after0_5]
  rw [iblk_table]
  iintro ⟨HP, Ho, ⟨%d0, H0⟩, ⟨%d1, H1⟩, ⟨%d2, H2⟩, ⟨%d3, H3⟩, ⟨%d4, H4⟩, ⟨%d5, H5⟩⟩
  iapply (runAt m c t).2.2 Set.univ _
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, ⟨%f5, H5⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  unfold owns
  iexists _; isplitr
  swap; · iexact H5
  ipureintro
  exact run_cover (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) c (grid0.coords t) (chk t) _ _ _ f5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the pipeline's arrays at its proof data's, every semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Entails.refl _) (hout := fun _ => Entails.refl _)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.Fwd
end
-- ==== Proof.FwdPoint.lean ====
module

public import proofs.«01_k».proof.Proof.FwdFrame
public import proofs.«01_k».proof.Proof.FoxPoint

@[expose] public section

/-! # What one point leaves

The loop over the key blocks before the diagonal as a recursion on a head's running maximum and sums, and the two result
blocks in terms of it. -/

set_option maxRecDepth 16384

noncomputable section

namespace Cert.Fwd

open Cert.Kernel4Ideal Cert.Kernel4Ideal.Gen
open Idealize.ShloMosaic
open Cert.Fox (win)

/-! ## Where the blocks lie -/

theorem off2_eq (t : Fin cfg0.N) (k : Fin (k0_t1_loop (grid0.coords t) 0#32).trips) :
    k0_off2 (grid0.coords t) 0#32 k = ![512 * k.val, 128 * 0] := by
  revert t; decide +kernel
theorem off3_eq (t : Fin cfg0.N) (k : Fin (k0_t1_loop (grid0.coords t) 0#32).trips) :
    k0_off3 (grid0.coords t) 0#32 k = ![512 * k.val, 128 * 1] := by
  revert t; decide +kernel
theorem off6_eq (t : Fin cfg0.N) : k0_off6 (grid0.coords t) = ![512 * (t.val % 16), 128 * 0] := by
  revert t; decide +kernel
theorem off7_eq (t : Fin cfg0.N) : k0_off7 (grid0.coords t) = ![512 * (t.val % 16), 128 * 1] := by
  revert t; decide +kernel
theorem trips1_eq (t : Fin cfg0.N) : (k0_t1_loop (grid0.coords t) 0#32).trips = t.val % 16 := by
  revert t; decide +kernel
theorem trips2_eq (t : Fin cfg0.N) : (k0_t2_loop (grid0.coords t) 0#32).trips = 0 := by
  revert t; decide +kernel

theorem readAt_win {e : EltTy} (M : Memref sig .tc .vmem S8192x256 e) (f : M.view.ty.Contents (Elt Ideal)) (off : Fin 2 → ℕ)
    (inb : ∀ a, off a + S512x128.size a ≤ S8192x256.size a) (b h : ℕ) (hoff : off = ![512 * b, 128 * h]) :
    View.readAt (Elt Ideal) M.view (Rect.unit (s := S8192x256) off S512x128.size inb).toLoadRect f = win (M.view.read (Elt Ideal) f) b h := by
  subst hoff
  funext y
  rw [View.readAt_apply]
  have h0 : 512 * b + 512 ≤ 8192 := inb 0
  have h1 : 128 * h + 128 ≤ 256 := inb 1
  have hy0 : (y 0).val < 512 := (y 0).isLt
  have hy1 : (y 1).val < 128 := (y 1).isLt
  refine congrArg (M.view.read (Elt Ideal) f) (funext fun a => ?_)
  match a with
  | 0 => exact Fin.ext (by show 512 * b + 1 * (y 0).val = (512 * b + (y 0).val) % 8192; omega)
  | 1 => exact Fin.ext (by show 128 * h + 1 * (y 1).val = (128 * h + (y 1).val) % 256; omega)

abbrev Cols := Vec Ideal S512x128 .bf16
abbrev Acc := FVec Ideal S512x128 .f32
abbrev Col := FVec Ideal S512x1 .f32

/-- Head `h`'s columns of a two-head block of queries. -/
def cols (x : Vec Ideal S512x256 .bf16) (h : ℕ) : Cols :=
  fun y => x (ix2 (y 0) ⟨(128 * h + (y 1).val) % 256, Nat.mod_lt _ (by decide)⟩)

theorem readAt_cols (M : Memref sig .tc .vmem S512x256 .bf16) (f : M.view.ty.Contents (Elt Ideal)) (h : ℕ)
    (inb : ∀ a, (![0, 128 * h] : Fin 2 → ℕ) a + S512x128.size a ≤ S512x256.size a) :
    View.readAt (Elt Ideal) M.view (Rect.unit (s := S512x256) ![0, 128 * h] S512x128.size inb).toLoadRect f = cols (M.view.read (Elt Ideal) f) h := by
  funext y
  rw [View.readAt_apply]
  have h1 : 128 * h + 128 ≤ 256 := inb 1
  have hy1 : (y 1).val < 128 := (y 1).isLt
  refine congrArg (M.view.read (Elt Ideal) f) (funext fun a => ?_)
  match a with
  | 0 => exact Fin.ext (by show 0 + 1 * (y 0).val = (y 0).val; omega)
  | 1 => exact Fin.ext (by show 128 * h + 1 * (y 1).val = (128 * h + (y 1).val) % 256; omega)

/-! ## The recursion -/

/-- What is carried for a head: each row's running maximum, and the sums of its weighted value lanes. -/
abbrev Head := Col × Acc

/-- A block of keys before the diagonal worked. -/
def visit (Q K V : Cols) (s : Head) : Head := (k0_pay9 Q s.1 K, k0_pay11 Q s.1 s.2 K V)

/-- The first `n` key blocks worked. -/
def visits (Q : Cols) (x2 x3 : Vec Ideal S8192x256 .bf16) (h : ℕ) : ℕ → Head
  | 0 => (k0_pay5, k0_pay6)
  | n + 1 => visit Q (win x2 n h) (win x3 n h) (visits Q x2 x3 h n)

/-- The diagonal block worked. -/
def last (Q K V : Cols) (s : Head) : Head := (k0_pay21 Q s.1 K, k0_pay24 s.1 s.2 (k0_pay19 Q K) (k0_pay21 Q s.1 K) V)

/-- A head's rows, all their keys worked. -/
def worked (x1 : Vec Ideal S512x256 .bf16) (x2 x3 : Vec Ideal S8192x256 .bf16) (j h : ℕ) : Head :=
  last (cols x1 h) (win x2 j h) (win x3 j h) (visits (cols x1 h) x2 x3 h j)

abbrev laneIx : IVec S1x128 32 := iota .tc S1x128 32 [1] iota_S1x128_d1_w32

/-- A head's query lanes with its rows' saved numbers put in. -/
def saved (Q : Cols) (s : Head) : Cols := k0_pay1 laneIx (k0_pay3 Q) (k0_pay34 s.1 s.2) (Scalar.ofBits .f32 0x00000000#32)

variable (arg2 : Memref sig .tc .smem S4x16 .i32) (harg2 : arg2.IsWhole) (arg3 : Memref sig .tc .vmem S512x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S512x128 .f32) (harg6 : arg6.IsWhole) (arg7 : Memref sig .tc .vmem S512x256 .bf16) (harg7 : arg7.IsWhole)

variable (c : Dev nD) (t : Fin cfg0.N) (hw : k0_chk1 (grid0.coords t) 0#32) (Q0 Q1 : Cols)
    (x1 : Vec Ideal S512x256 .bf16) (x2 x3 : Vec Ideal S8192x256 .bf16)

abbrev Four := Col × Acc × Col × Acc

/-- Both heads' states, as the loop carries them. -/
def both (s s' : Head) : Four := (s.1, s.2, s'.1, s'.2)

theorem tripR_eq (k : Fin (k0_t1_loop (grid0.coords t) 0#32).trips) (s s' : Head) :
    tripR_k0_t1 (F := Ideal) Variants.none c none (grid0.coords t) arg2 harg2 arg3 harg3 arg4 harg4 arg5 harg5 arg6 harg6 arg7 harg7 0#32 hw Q0 Q1 (harg4.unread x2) (harg5.unread x3) k (both s s')
      = both (visit Q0 (win x2 k.val 0) (win x3 k.val 0) s) (visit Q1 (win x2 k.val 1) (win x3 k.val 1) s') := by
  unfold tripR_k0_t1 trip_k0_t1
  show (k0_pay9 Q0 s.1 (View.readAt (Elt Ideal) arg4.view (Rect.unit (s := S8192x256) (k0_off2 (grid0.coords t) 0#32 k) S512x128.size (k0_off2_inb (grid0.coords t) 0#32 hw k)).toLoadRect (harg4.unread x2)),
    k0_pay11 Q0 s.1 s.2 (View.readAt (Elt Ideal) arg4.view (Rect.unit (s := S8192x256) (k0_off2 (grid0.coords t) 0#32 k) S512x128.size (k0_off2_inb (grid0.coords t) 0#32 hw k)).toLoadRect (harg4.unread x2)) (View.readAt (Elt Ideal) arg5.view (Rect.unit (s := S8192x256) (k0_off2 (grid0.coords t) 0#32 k) S512x128.size (k0_off2_inb (grid0.coords t) 0#32 hw k)).toLoadRect (harg5.unread x3)),
    k0_pay10 Q1 s'.1 (View.readAt (Elt Ideal) arg4.view (Rect.unit (s := S8192x256) (k0_off3 (grid0.coords t) 0#32 k) S512x128.size (k0_off3_inb (grid0.coords t) 0#32 hw k)).toLoadRect (harg4.unread x2)),
    k0_pay12 Q1 s'.1 s'.2 (View.readAt (Elt Ideal) arg4.view (Rect.unit (s := S8192x256) (k0_off3 (grid0.coords t) 0#32 k) S512x128.size (k0_off3_inb (grid0.coords t) 0#32 hw k)).toLoadRect (harg4.unread x2)) (View.readAt (Elt Ideal) arg5.view (Rect.unit (s := S8192x256) (k0_off3 (grid0.coords t) 0#32 k) S512x128.size (k0_off3_inb (grid0.coords t) 0#32 hw k)).toLoadRect (harg5.unread x3))) = _
  rw [readAt_win arg4 _ _ _ _ _ (off2_eq t k), readAt_win arg5 _ _ _ _ _ (off2_eq t k), readAt_win arg4 _ _ _ _ _ (off3_eq t k),
    readAt_win arg5 _ _ _ _ _ (off3_eq t k), harg4.read_unread, harg5.read_unread]
  rfl

theorem loop_eq (n : ℕ) (hn : n ≤ t.val % 16) :
    st_k0_t1 (F := Ideal) Variants.none c none (grid0.coords t) arg2 harg2 arg3 harg3 arg4 harg4 arg5 harg5 arg6 harg6 arg7 harg7 0#32 hw Q0 Q1 (harg4.unread x2) (harg5.unread x3) (k0_pay5, k0_pay6, k0_pay5, k0_pay6) n
      = both (visits Q0 x2 x3 0 n) (visits Q1 x2 x3 1 n) := by
  induction n with
  | zero => rfl
  | succ n ih =>
    have hk := st_k0_t1_succ (F := Ideal) Variants.none c none (grid0.coords t) arg2 harg2 arg3 harg3 arg4 harg4 arg5 harg5 arg6 harg6 arg7 harg7 0#32 hw Q0 Q1 (harg4.unread x2) (harg5.unread x3) (k0_pay5, k0_pay6, k0_pay5, k0_pay6) ⟨n, by rw [trips1_eq]; omega⟩
    dsimp only at hk
    rw [hk, ih (by omega)]
    exact tripR_eq arg2 harg2 arg3 harg3 arg4 harg4 arg5 harg5 arg6 harg6 arg7 harg7 c t hw Q0 Q1 x2 x3 _ _ _

/-! ## What the run's words stand for -/

theorem t2_none (X4 : BufTy.Contents (Elt Ideal) arg4.view.ty) (X5 : BufTy.Contents (Elt Ideal) arg5.view.ty) (init : Four) (n : ℕ) (hn : n = 0) :
    st_k0_t2 (F := Ideal) Variants.none c none (grid0.coords t) arg2 harg2 arg3 harg3 arg4 harg4 arg5 harg5 arg6 harg6 arg7 harg7 0#32 hw Q0 Q1 X4 X5 init n = init := by
  subst hn; rfl

/-- The loops' end. -/
theorem loops_eq :
    st_k0_t2 (F := Ideal) Variants.none c none (grid0.coords t) arg2 harg2 arg3 harg3 arg4 harg4 arg5 harg5 arg6 harg6 arg7 harg7 0#32 hw Q0 Q1 (harg4.unread x2) (harg5.unread x3)
        (st_k0_t1 (F := Ideal) Variants.none c none (grid0.coords t) arg2 harg2 arg3 harg3 arg4 harg4 arg5 harg5 arg6 harg6 arg7 harg7 0#32 hw Q0 Q1 (harg4.unread x2) (harg5.unread x3) (k0_pay5, k0_pay6, k0_pay5, k0_pay6) (k0_t1_loop (grid0.coords t) 0#32).trips)
        (k0_t2_loop (grid0.coords t) 0#32).trips
      = both (visits Q0 x2 x3 0 (t.val % 16)) (visits Q1 x2 x3 1 (t.val % 16)) := by
  rw [t2_none arg2 harg2 arg3 harg3 arg4 harg4 arg5 harg5 arg6 harg6 arg7 harg7 c t hw Q0 Q1 _ _ _ _ (trips2_eq t), trips1_eq]
  exact loop_eq arg2 harg2 arg3 harg3 arg4 harg4 arg5 harg5 arg6 harg6 arg7 harg7 c t hw Q0 Q1 x2 x3 _ le_rfl

theorem low_eq : View.readAt (Elt Ideal) arg3.view (Rect.unit (s := S512x256) ![0, 0] S512x128.size inb_S512x256_S512x128_0_0).toLoadRect (harg3.unread x1) = cols x1 0 := by
  have h := readAt_cols arg3 (harg3.unread x1) 0 inb_S512x256_S512x128_0_0
  rw [harg3.read_unread] at h
  exact h

theorem high_eq : View.readAt (Elt Ideal) arg3.view (Rect.unit (s := S512x256) ![0, 128] S512x128.size inb_S512x256_S512x128_0_128).toLoadRect (harg3.unread x1) = cols x1 1 := by
  have h := readAt_cols arg3 (harg3.unread x1) 1 inb_S512x256_S512x128_0_128
  rw [harg3.read_unread] at h
  exact h

theorem words_eq :
    (run.sl.r_4 (F := Ideal) arg2 harg2 arg3 harg3 arg4 harg4 arg5 harg5 arg6 harg6 arg7 harg7 c (grid0.coords t) hw x1 x2 x3,
      run.sl.r_5 (F := Ideal) arg2 harg2 arg3 harg3 arg4 harg4 arg5 harg5 arg6 harg6 arg7 harg7 c (grid0.coords t) hw x1 x2 x3,
      run.sl.r_6 (F := Ideal) arg2 harg2 arg3 harg3 arg4 harg4 arg5 harg5 arg6 harg6 arg7 harg7 c (grid0.coords t) hw x1 x2 x3,
      run.sl.r_7 (F := Ideal) arg2 harg2 arg3 harg3 arg4 harg4 arg5 harg5 arg6 harg6 arg7 harg7 c (grid0.coords t) hw x1 x2 x3)
      = both (visits (cols x1 0) x2 x3 0 (t.val % 16)) (visits (cols x1 1) x2 x3 1 (t.val % 16)) := by
  have h := loops_eq arg2 harg2 arg3 harg3 arg4 harg4 arg5 harg5 arg6 harg6 arg7 harg7 c t hw
    (View.readAt (Elt Ideal) arg3.view (Rect.unit (s := S512x256) ![0, 0] S512x128.size inb_S512x256_S512x128_0_0).toLoadRect (harg3.unread x1))
    (View.readAt (Elt Ideal) arg3.view (Rect.unit (s := S512x256) ![0, 128] S512x128.size inb_S512x256_S512x128_0_128).toLoadRect (harg3.unread x1)) x2 x3
  refine Eq.trans ?_ (h.trans ?_)
  · rfl
  · rw [low_eq, high_eq]

theorem word4_eq : run.sl.r_4 (F := Ideal) arg2 harg2 arg3 harg3 arg4 harg4 arg5 harg5 arg6 harg6 arg7 harg7 c (grid0.coords t) hw x1 x2 x3 = (visits (cols x1 0) x2 x3 0 (t.val % 16)).1 :=
  congrArg (fun s : Four => s.1) (words_eq arg2 harg2 arg3 harg3 arg4 harg4 arg5 harg5 arg6 harg6 arg7 harg7 c t hw x1 x2 x3)
theorem word5_eq : run.sl.r_5 (F := Ideal) arg2 harg2 arg3 harg3 arg4 harg4 arg5 harg5 arg6 harg6 arg7 harg7 c (grid0.coords t) hw x1 x2 x3 = (visits (cols x1 0) x2 x3 0 (t.val % 16)).2 :=
  congrArg (fun s : Four => s.2.1) (words_eq arg2 harg2 arg3 harg3 arg4 harg4 arg5 harg5 arg6 harg6 arg7 harg7 c t hw x1 x2 x3)
theorem word6_eq : run.sl.r_6 (F := Ideal) arg2 harg2 arg3 harg3 arg4 harg4 arg5 harg5 arg6 harg6 arg7 harg7 c (grid0.coords t) hw x1 x2 x3 = (visits (cols x1 1) x2 x3 1 (t.val % 16)).1 :=
  congrArg (fun s : Four => s.2.2.1) (words_eq arg2 harg2 arg3 harg3 arg4 harg4 arg5 harg5 arg6 harg6 arg7 harg7 c t hw x1 x2 x3)
theorem word7_eq : run.sl.r_7 (F := Ideal) arg2 harg2 arg3 harg3 arg4 harg4 arg5 harg5 arg6 harg6 arg7 harg7 c (grid0.coords t) hw x1 x2 x3 = (visits (cols x1 1) x2 x3 1 (t.val % 16)).2 :=
  congrArg (fun s : Four => s.2.2.2) (words_eq arg2 harg2 arg3 harg3 arg4 harg4 arg5 harg5 arg6 harg6 arg7 harg7 c t hw x1 x2 x3)

theorem word9_eq : run.sl.r_9 (F := Ideal) arg3 harg3 arg4 harg4 c (grid0.coords t) x1 x2 = k0_pay19 (cols x1 0) (win x2 (t.val % 16) 0) := by
  unfold run.sl.r_9
  rw [low_eq, readAt_win arg4 _ _ _ _ _ (off6_eq t), harg4.read_unread]

theorem word10_eq : run.sl.r_10 (F := Ideal) arg3 harg3 arg4 harg4 c (grid0.coords t) x1 x2 = k0_pay20 (cols x1 1) (win x2 (t.val % 16) 1) := by
  unfold run.sl.r_10
  rw [high_eq, readAt_win arg4 _ _ _ _ _ (off7_eq t), harg4.read_unread]

theorem word12_eq : run.sl.r_12 (F := Ideal) arg3 harg3 arg4 harg4 c (grid0.coords t) x1 x2 = k0_pay22 (cols x1 1) (win x2 (t.val % 16) 1) := by
  unfold run.sl.r_12
  rw [high_eq, readAt_win arg4 _ _ _ _ _ (off7_eq t), harg4.read_unread]

theorem word11_eq : run.sl.r_11 (F := Ideal) arg2 harg2 arg3 harg3 arg4 harg4 arg5 harg5 arg6 harg6 arg7 harg7 c (grid0.coords t) hw x1 x2 x3
    = (worked x1 x2 x3 (t.val % 16) 0).1 := by
  show k0_pay21 (View.readAt (Elt Ideal) arg3.view (Rect.unit (s := S512x256) ![0, 0] S512x128.size inb_S512x256_S512x128_0_0).toLoadRect (harg3.unread x1))
    (run.sl.r_4 (F := Ideal) arg2 harg2 arg3 harg3 arg4 harg4 arg5 harg5 arg6 harg6 arg7 harg7 c (grid0.coords t) hw x1 x2 x3)
    (View.readAt (Elt Ideal) arg4.view (Rect.unit (s := S8192x256) (k0_off6 (grid0.coords t)) S512x128.size (k0_off6_inb (grid0.coords t))).toLoadRect (harg4.unread x2)) = _
  rw [low_eq, readAt_win arg4 _ _ _ _ _ (off6_eq t), harg4.read_unread,
    word4_eq]
  rfl

theorem word13_eq : run.sl.r_13 (F := Ideal) arg2 harg2 arg3 harg3 arg4 harg4 arg5 harg5 arg6 harg6 arg7 harg7 c (grid0.coords t) hw x1 x2 x3
    = (worked x1 x2 x3 (t.val % 16) 1).1 := by
  unfold run.sl.r_13
  rw [word12_eq, word6_eq]
  rfl

theorem word14_eq : run.sl.r_14 (F := Ideal) arg2 harg2 arg3 harg3 arg4 harg4 arg5 harg5 arg6 harg6 arg7 harg7 c (grid0.coords t) hw x1 x2 x3
    = (worked x1 x2 x3 (t.val % 16) 1).2 := by
  unfold run.sl.r_14
  rw [word10_eq, word12_eq, readAt_win arg5 _ _ _ _ _ (off7_eq t), harg5.read_unread,
    word6_eq,
    word7_eq]
  rfl

/-- The first head's sums, as three of the words name them. -/
theorem low_sums : k0_pay24 (run.sl.r_4 (F := Ideal) arg2 harg2 arg3 harg3 arg4 harg4 arg5 harg5 arg6 harg6 arg7 harg7 c (grid0.coords t) hw x1 x2 x3)
    (run.sl.r_5 (F := Ideal) arg2 harg2 arg3 harg3 arg4 harg4 arg5 harg5 arg6 harg6 arg7 harg7 c (grid0.coords t) hw x1 x2 x3)
    (run.sl.r_9 (F := Ideal) arg3 harg3 arg4 harg4 c (grid0.coords t) x1 x2)
    (run.sl.r_11 (F := Ideal) arg2 harg2 arg3 harg3 arg4 harg4 arg5 harg5 arg6 harg6 arg7 harg7 c (grid0.coords t) hw x1 x2 x3)
    (View.readAt (Elt Ideal) arg5.view (Rect.unit (s := S8192x256) (k0_off6 (grid0.coords t)) S512x128.size (k0_off6_inb (grid0.coords t))).toLoadRect (harg5.unread x3))
    = (worked x1 x2 x3 (t.val % 16) 0).2 := by
  rw [word9_eq, word11_eq, readAt_win arg5 _ _ _ _ _ (off6_eq t), harg5.read_unread,
    word4_eq,
    word5_eq]
  rfl

/-! ## The result blocks -/

theorem run_out :
    (run (F := Ideal) arg2 harg2 arg3 harg3 arg4 harg4 arg5 harg5 arg6 harg6 arg7 harg7 c (grid0.coords t) hw x1 x2 x3).1
      = k0_pay2 (k0_pay33 (worked x1 x2 x3 (t.val % 16) 0).2) (k0_pay33 (worked x1 x2 x3 (t.val % 16) 1).2) := by
  rw [← low_sums arg2 harg2 arg3 harg3 arg4 harg4 arg5 harg5 arg6 harg6 arg7 harg7 c t hw x1 x2 x3,
    ← word14_eq arg2 harg2 arg3 harg3 arg4 harg4 arg5 harg5 arg6 harg6 arg7 harg7 c t hw x1 x2 x3]
  rfl

theorem run_saved :
    (run (F := Ideal) arg2 harg2 arg3 harg3 arg4 harg4 arg5 harg5 arg6 harg6 arg7 harg7 c (grid0.coords t) hw x1 x2 x3).2.1
      = [⟨Rect.unit (s := S512x256) ![0, 128] S512x128.size inb_S512x256_S512x128_0_128, saved (cols x1 1) (worked x1 x2 x3 (t.val % 16) 1)⟩,
          ⟨Rect.unit (s := S512x256) ![0, 0] S512x128.size inb_S512x256_S512x128_0_0, saved (cols x1 0) (worked x1 x2 x3 (t.val % 16) 0)⟩] := by
  unfold saved
  rw [← low_sums arg2 harg2 arg3 harg3 arg4 harg4 arg5 harg5 arg6 harg6 arg7 harg7 c t hw x1 x2 x3,
    ← word11_eq arg2 harg2 arg3 harg3 arg4 harg4 arg5 harg5 arg6 harg6 arg7 harg7 c t hw x1 x2 x3,
    ← word13_eq arg2 harg2 arg3 harg3 arg4 harg4 arg5 harg5 arg6 harg6 arg7 harg7 c t hw x1 x2 x3,
    ← word14_eq arg2 harg2 arg3 harg3 arg4 harg4 arg5 harg5 arg6 harg6 arg7 harg7 c t hw x1 x2 x3,
    ← low_eq arg3 harg3 x1, ← high_eq arg3 harg3 x1]
  rfl

/-- The saved rows' block: two heads side by side. -/
def sideBySide (A B : Cols) (y : S512x256.Idx) : Ideal .bf16 :=
  if (y 1).val < 128 then A (ix2 (y 0) ⟨(y 1).val % 128, Nat.mod_lt _ (by decide)⟩) else B (ix2 (y 0) ⟨(y 1).val % 128, Nat.mod_lt _ (by decide)⟩)

theorem canon_saved (A B : Cols) (y : S512x256.Idx) :
    View.canon [(⟨Rect.unit (s := S512x256) ![0, 128] S512x128.size inb_S512x256_S512x128_0_128, B⟩ : View.Piece (Elt Ideal) S512x256 .bf16),
        ⟨Rect.unit (s := S512x256) ![0, 0] S512x128.size inb_S512x256_S512x128_0_0, A⟩] y
      = sideBySide A B y := by
  refine View.canon_apply_of_pieces (Val := Elt Ideal) (e := .bf16) (sideBySide A B) _ ?_ y ?_
  · intro pc hpc z
    rcases List.mem_cons.mp hpc with rfl | hpc
    · have hz : (z 1).val < 128 := (z 1).isLt
      have e : ((Rect.unit (s := S512x256) ![0, 128] S512x128.size inb_S512x256_S512x128_0_128).emb z 1).val = 128 + 1 * (z 1).val := rfl
      unfold sideBySide
      rw [if_neg (by rw [e]; omega)]
      refine congrArg B (funext fun a => ?_)
      match a with
      | 0 => exact Fin.ext (by show (z 0).val = 0 + 1 * (z 0).val; omega)
      | 1 => exact Fin.ext (by show (z 1).val = (128 + 1 * (z 1).val) % 128; omega)
    · rcases List.mem_cons.mp hpc with rfl | hpc
      · have hz : (z 1).val < 128 := (z 1).isLt
        have e : ((Rect.unit (s := S512x256) ![0, 0] S512x128.size inb_S512x256_S512x128_0_0).emb z 1).val = 0 + 1 * (z 1).val := rfl
        unfold sideBySide
        rw [if_pos (by rw [e]; omega)]
        refine congrArg A (funext fun a => ?_)
        match a with
        | 0 => exact Fin.ext (by show (z 0).val = 0 + 1 * (z 0).val; omega)
        | 1 => exact Fin.ext (by show (z 1).val = (0 + 1 * (z 1).val) % 128; omega)
      · exact absurd hpc List.not_mem_nil
  · have h0 : (y 0).val < 512 := (y 0).isLt
    have h1 : (y 1).val < 256 := (y 1).isLt
    by_cases h : (y 1).val < 128
    · refine ⟨_, List.mem_cons_of_mem _ List.mem_cons_self, ?_⟩
      show y ∈ (Rect.unit (s := S512x256) ![0, 0] S512x128.size inb_S512x256_S512x128_0_0).set
      rw [Rect.mem_set_unit]
      intro a
      match a with
      | 0 => show 0 ≤ (y 0).val ∧ (y 0).val < 0 + 512; omega
      | 1 => show 0 ≤ (y 1).val ∧ (y 1).val < 0 + 128; omega
    · refine ⟨_, List.mem_cons_self, ?_⟩
      show y ∈ (Rect.unit (s := S512x256) ![0, 128] S512x128.size inb_S512x256_S512x128_0_128).set
      rw [Rect.mem_set_unit]
      intro a
      match a with
      | 0 => show 0 ≤ (y 0).val ∧ (y 0).val < 0 + 512; omega
      | 1 => show 128 ≤ (y 1).val ∧ (y 1).val < 128 + 128; omega

end Cert.Fwd
end
-- ==== Proof.FwdBlock.lean ====
module

public import proofs.«01_k».proof.Proof.FwdPoint
public import proofs.«01_k».proof.Proof.FoxSoft

@[expose] public section

/-! # The arithmetic of one block of queries against one block of keys

What the body computes from a 512-row block of one head's queries and a 512-row block of its keys and values: the rows'
running maxima and sums, then the normalised sums and the saved numbers. -/

set_option maxRecDepth 16384

noncomputable section

namespace Cert.Fwd

open Cert.Kernel4Ideal Cert.Kernel4Ideal.Gen
open Idealize.ShloMosaic
open Cert.Fox (rowDot)

/-- A score of the block; on the diagonal block only the keys not after the query count. -/
def block (diag : Bool) (Q K : Cols) (r l : Fin 512) : EReal := if diag = true → l ≤ r then rowDot Q K r l else ⊥

/-- A row's greatest score so far. -/
def newMax (diag : Bool) (Q K : Cols) (M : Col) (r : Fin 512) : EReal :=
  max (M (ix2 r 0)) (Finset.univ.fold max ⊥ fun l => block diag Q K r l)

theorem mask_eq : (Named.named κ "mask" 0xF149F2CA#32 : Ideal .f32) = (⊥ : EReal) :=
  IdealRules.named_const.ideal_named_scalar (φ := .f32) κ "mask" 0xF149F2CA#32 ⊥ rfl

theorem pay5_apply (r : Fin 512) : k0_pay5 (F := Ideal) (ix2 r 0) = (⊥ : EReal) := by
  unfold k0_pay5
  pointwise [mask_eq]

theorem pay6_apply (r : Fin 512) (x : Fin 128) : k0_pay6 (F := Ideal) (ix2 r x) = (0 : EReal) := by
  unfold k0_pay6
  pointwise

theorem pay7_apply (Q K : Cols) (r l : Fin 512) : k0_pay7 Q K (ix2 r l) = block false Q K r l := by
  unfold k0_pay7 k0_pay3
  pointwise
  simp [block, rowDot]

theorem pay19_apply (Q K : Cols) (r l : Fin 512) : k0_pay19 Q K (ix2 r l) = block true Q K r l := by
  unfold k0_pay19 k0_pay3
  pointwise
  rw [Cert.Fox.sle_word]
  unfold block rowDot
  by_cases h : l ≤ r
  · rw [if_pos h, if_pos fun _ => h]
  · rw [if_neg h, if_neg (fun g => h (g rfl)), mask_eq]

theorem pay9_apply (Q K : Cols) (M : Col) (r : Fin 512) : k0_pay9 Q M K (ix2 r 0) = newMax false Q K M r := by
  have e := fun l => pay7_apply Q K r l
  unfold k0_pay9
  revert e
  generalize k0_pay7 Q K = y
  intro e
  pointwise
  simp only [Cert.Fox.minus_inf, e]
  rfl

theorem pay21_apply (Q K : Cols) (M : Col) (r : Fin 512) : k0_pay21 Q M K (ix2 r 0) = newMax true Q K M r := by
  have e := fun l => pay19_apply Q K r l
  unfold k0_pay21
  revert e
  generalize k0_pay19 Q K = y
  intro e
  pointwise
  simp only [Cert.Fox.minus_inf, e]
  rfl

/-- A row's sums so far. -/
def newSum (diag : Bool) (Q K V : Cols) (s : Head) (r : Fin 512) (x : Fin 128) : EReal :=
  Ideal.exp (s.1 (ix2 r 0) - newMax diag Q K s.1 r) * s.2 (ix2 r x)
    + ∑ l, Ideal.exp (block diag Q K r l - newMax diag Q K s.1 r) * V (ix2 l x)

theorem pay24_apply (M M' : Col) (A : Acc) (S : FVec Ideal S512x512 .f32) (V : Cols) (r : Fin 512) (x : Fin 128) :
    k0_pay24 M A S M' V (ix2 r x) = Ideal.exp (M (ix2 r 0) - M' (ix2 r 0)) * A (ix2 r x)
      + ∑ l, Ideal.exp (S (ix2 r l) - M' (ix2 r 0)) * V (ix2 l x) := by
  unfold k0_pay24
  pointwise

theorem pay11_eq (Q K V : Cols) (s : Head) : k0_pay11 Q s.1 s.2 K V = k0_pay24 s.1 s.2 (k0_pay7 Q K) (k0_pay9 Q s.1 K) V := rfl

theorem visit_sum (Q K V : Cols) (s : Head) (r : Fin 512) (x : Fin 128) :
    (visit Q K V s).2 (ix2 r x) = newSum false Q K V s r x := by
  show k0_pay11 Q s.1 s.2 K V (ix2 r x) = _
  rw [pay11_eq, pay24_apply, pay9_apply]
  simp only [pay7_apply]
  rfl

theorem last_sum (Q K V : Cols) (s : Head) (r : Fin 512) (x : Fin 128) :
    (last Q K V s).2 (ix2 r x) = newSum true Q K V s r x := by
  show k0_pay24 s.1 s.2 (k0_pay19 Q K) (k0_pay21 Q s.1 K) V (ix2 r x) = _
  rw [pay24_apply, pay21_apply]
  simp only [pay19_apply]
  rfl

end Cert.Fwd
end
-- ==== Proof.FwdReal.lean ====
module

public import proofs.«01_k».proof.Proof.FwdBlock

@[expose] public section

/-! # One block's rows as real numbers

The normalised sums and the saved numbers of a block, and what a row's running maximum and sums are where scores and values
are real numbers. -/

set_option maxRecDepth 16384

noncomputable section

namespace Cert.Fwd

open Cert.Kernel4Ideal Cert.Kernel4Ideal.Gen
open Idealize.ShloMosaic
open Cert.Fox (rowDot)

theorem only_word (x : Fin 128) (a b : EReal) :
    Scalar.select (IntOp.andi (IntOp.cmpi CmpIPredicate.sge (BitVec.ofNat 32 x.val) 64#32) (IntOp.cmpi CmpIPredicate.slt (BitVec.ofNat 32 x.val) 65#32)) a b
      = if x = 64 then a else b := by
  have : ∀ x : Fin 128, IntOp.andi (IntOp.cmpi CmpIPredicate.sge (BitVec.ofNat 32 x.val) 64#32) (IntOp.cmpi CmpIPredicate.slt (BitVec.ofNat 32 x.val) 65#32) = BitVec.ofBool (decide (x = 64)) := by decide
  rw [this]
  by_cases h : x = 64
  · rw [if_pos h, decide_eq_true h]; rfl
  · rw [if_neg h, decide_eq_false h]; rfl

theorem pay32_apply (A : Acc) (r : Fin 512) : k0_pay32 A (ix2 r 0) = A (ix2 r 64) := by
  unfold k0_pay32
  pointwise
  simp only [only_word]
  simp

theorem pay33_apply (A : Acc) (r : Fin 512) (x : Fin 128) :
    k0_pay33 A (ix2 r x) = A (ix2 r x) * Ideal.div 1 (A (ix2 r 64)) := by
  unfold k0_pay33
  have e := pay32_apply A
  revert e
  generalize k0_pay32 A = y
  intro e
  pointwise
  rw [e]

theorem pay34_apply (M : Col) (A : Acc) (r : Fin 512) :
    k0_pay34 M A (ix2 r 0) = M (ix2 r 0) + Ideal.log (A (ix2 r 64)) := by
  unfold k0_pay34
  have e := pay32_apply A
  revert e
  generalize k0_pay32 A = y
  intro e
  pointwise
  rw [e]

theorem pay2_apply (A B : Acc) (r : Fin 512) (x : Fin 128) :
    k0_pay2 A B (ix2 r x) = Cert.Fox.beside A B r x := by
  unfold k0_pay2
  pointwise
  rw [Cert.Fox.slt_word, Cert.Fox.beside_of]

theorem pay1_apply (Q : Cols) (W : Col) (r : Fin 512) (x : Fin 128) (w : ℝ) (hW : W (ix2 r 0) = (w : EReal)) :
    k0_pay1 laneIx (k0_pay3 Q) W (Scalar.ofBits .f32 0x00000000#32) (ix2 r x)
      = if x.val = 67 then ((-w : ℝ) : EReal) else if x.val = 68 then 0 else if x.val = 69 then 0 else Q (ix2 r x) := by
  unfold k0_pay1 k0_pay3
  pointwise
  have e0 : (0 : EReal) - W (ix2 r 0) = ((-w : ℝ) : EReal) := by rw [hW, ← EReal.coe_zero, ← EReal.coe_sub, zero_sub]
  rw [e0, ← EReal.coe_sub, sub_self, ← EReal.coe_sub, sub_self, EReal.coe_zero]
  refine (Cert.Fox.eq_word x 67 (by omega) _ _).trans ?_
  refine congrArg (fun u => if x.val = 67 then ((-w : ℝ) : EReal) else u) ?_
  refine (Cert.Fox.eq_word x 68 (by omega) _ _).trans ?_
  refine congrArg (fun u => if x.val = 68 then (0 : EReal) else u) ?_
  exact Cert.Fox.eq_word x 69 (by omega) _ _
/-! ## Over the real numbers -/

/-- A row's maximum and sums: nothing yet, or the sums relative to a real maximum. -/
def Carries (M : EReal) (A : Fin 128 → EReal) (g : ℝ → Fin 128 → ℝ) : Prop :=
  (M = ⊥ ∧ (∀ x, A x = 0) ∧ ∀ μ x, g μ x = 0) ∨ ∃ μ : ℝ, M = (μ : EReal) ∧ ∀ x, A x = ((g μ x : ℝ) : EReal)

/-- One block of keys, of which those with `p` count. -/
theorem carry (M : EReal) (A : Fin 128 → EReal) (g : ℝ → Fin 128 → ℝ) (h : Carries M A g)
    (hg : ∀ μ μ' x, g μ' x = Real.exp (μ - μ') * g μ x) (p : Fin 512 → Prop) [DecidablePred p] (l0 : Fin 512) (hp : p l0)
    (e : Fin 512 → EReal) (s : Fin 512 → ℝ) (he : ∀ l, e l = if p l then ((s l : ℝ) : EReal) else ⊥)
    (V : Fin 512 → Fin 128 → EReal) (v : Fin 512 → Fin 128 → ℝ) (hV : ∀ l x, V l x = ((v l x : ℝ) : EReal)) :
    ∃ μ : ℝ, max M (Finset.univ.fold max ⊥ e) = (μ : EReal) ∧
      ∀ x, Ideal.exp (M - max M (Finset.univ.fold max ⊥ e)) * A x + ∑ l, Ideal.exp (e l - max M (Finset.univ.fold max ⊥ e)) * V l x
        = ((g μ x + ∑ l, (if p l then Real.exp (s l - μ) * v l x else 0) : ℝ) : EReal) := by
  have hw : ∀ (μ : ℝ) x, ∑ l, Ideal.exp (e l - (μ : EReal)) * V l x
      = ((∑ l, (if p l then Real.exp (s l - μ) * v l x else 0) : ℝ) : EReal) := by
    intro μ x
    rw [Cert.FG.coe_sum]
    refine Finset.sum_congr rfl fun l _ => ?_
    rw [he, hV]
    by_cases hl : p l
    · rw [if_pos hl, if_pos hl, ← EReal.coe_sub, Ideal.exp_coe, ← EReal.coe_mul]
    · rw [if_neg hl, if_neg hl, EReal.bot_sub, Ideal.exp_bot, zero_mul, EReal.coe_zero]
  obtain ⟨τ, hτ⟩ := Cert.Fox.fold_max_real e (fun l => by rw [he]; split; exacts [EReal.coe_ne_top _, bot_ne_top]) l0
    (by rw [he, if_pos hp]; exact EReal.coe_ne_bot _)
  rw [hτ]
  rcases h with ⟨hM, hA, h0⟩ | ⟨μ, hM, hA⟩
  · refine ⟨τ, by rw [hM, max_eq_right bot_le], fun x => ?_⟩
    rw [hM, max_eq_right bot_le, hw, hA, mul_zero, zero_add, h0, zero_add]
  · refine ⟨max μ τ, by rw [hM]; exact (EReal.coe_strictMono.monotone.map_max).symm, fun x => ?_⟩
    rw [hM, show max (μ : EReal) (τ : EReal) = ((max μ τ : ℝ) : EReal) from (EReal.coe_strictMono.monotone.map_max).symm, hw, hA,
      ← EReal.coe_sub, Ideal.exp_coe, ← EReal.coe_mul, ← hg, ← EReal.coe_add]

/-- The sums of the first `n` keys' values, each with its weight relative to `μ`. -/
def upto (s : ℕ → ℝ) (v : ℕ → Fin 128 → ℝ) (n : ℕ) (μ : ℝ) (x : Fin 128) : ℝ := ∑ k ∈ Finset.range n, Real.exp (s k - μ) * v k x

theorem upto_shift (s : ℕ → ℝ) (v : ℕ → Fin 128 → ℝ) (n : ℕ) (μ μ' : ℝ) (x : Fin 128) :
    upto s v n μ' x = Real.exp (μ - μ') * upto s v n μ x := by
  unfold upto
  rw [Finset.mul_sum]
  refine Finset.sum_congr rfl fun k _ => ?_
  rw [← mul_assoc, ← Real.exp_add]
  congr 2
  ring

variable {Q : Cols} {x2 x3 : Vec Ideal S8192x256 .bf16} {h : ℕ} {r : Fin 512} {s : ℕ → ℝ} {v : ℕ → Fin 128 → ℝ}
  (hs : ∀ n < 16, ∀ l : Fin 512, rowDot Q (Cert.Fox.win x2 n h) r l = ((s (512 * n + l.val) : ℝ) : EReal))
  (hv : ∀ n < 16, ∀ (l : Fin 512) (x : Fin 128), Cert.Fox.win x3 n h (ix2 l x) = ((v (512 * n + l.val) x : ℝ) : EReal))

include hs hv in
theorem visits_real (n : ℕ) (hn : n ≤ 16) :
    Carries ((visits Q x2 x3 h n).1 (ix2 r 0)) (fun x => (visits Q x2 x3 h n).2 (ix2 r x)) (upto s v (512 * n)) := by
  induction n with
  | zero =>
    refine Or.inl ⟨pay5_apply r, fun x => pay6_apply r x, fun μ x => ?_⟩
    unfold upto
    simp
  | succ n ih =>
    obtain ⟨μ, h1, h2⟩ := carry _ _ _ (ih (by omega)) (upto_shift s v _) (fun _ => True) 0 trivial
      (fun l => block false Q (Cert.Fox.win x2 n h) r l) (fun l => s (512 * n + l.val))
      (fun l => by rw [if_pos trivial]; exact (if_pos (by simp)).trans (hs n (by omega) l))
      (fun l x => Cert.Fox.win x3 n h (ix2 l x)) (fun l x => v (512 * n + l.val) x) (hv n (by omega))
    refine Or.inr ⟨μ, (pay9_apply _ _ _ _).trans h1, fun x => (visit_sum _ _ _ _ _ _).trans ((h2 x).trans ?_)⟩
    congr 1
    unfold upto
    rw [show 512 * (n + 1) = 512 * n + 512 by ring, Finset.sum_range_add]
    refine congrArg _ ?_
    exact (Finset.sum_congr rfl fun l _ => if_pos trivial).trans (Fin.sum_univ_eq_sum_range (fun k => Real.exp (s (512 * n + k) - μ) * v (512 * n + k) x) 512)

include hs hv in
/-- A row's maximum and sums, its keys worked: the sums over the keys not after it. -/
theorem worked_real (j : ℕ) (hj : j < 16) :
    ∃ μ : ℝ, (last Q (Cert.Fox.win x2 j h) (Cert.Fox.win x3 j h) (visits Q x2 x3 h j)).1 (ix2 r 0) = (μ : EReal) ∧
      ∀ x, (last Q (Cert.Fox.win x2 j h) (Cert.Fox.win x3 j h) (visits Q x2 x3 h j)).2 (ix2 r x)
        = ((upto s v (512 * j + r.val + 1) μ x : ℝ) : EReal) := by
  obtain ⟨μ, h1, h2⟩ := carry _ _ _ (visits_real hs hv j hj.le) (upto_shift s v _) (fun l => l ≤ r) r le_rfl
    (fun l => block true Q (Cert.Fox.win x2 j h) r l) (fun l => s (512 * j + l.val))
    (fun l => by
      unfold block
      by_cases hl : l ≤ r
      · rw [if_pos hl, if_pos fun _ => hl]; exact hs j hj l
      · rw [if_neg hl, if_neg fun g => hl (g rfl)])
    (fun l x => Cert.Fox.win x3 j h (ix2 l x)) (fun l x => v (512 * j + l.val) x) (hv j hj)
  refine ⟨μ, (pay21_apply _ _ _ _).trans h1, fun x => (last_sum _ _ _ _ _ _).trans ((h2 x).trans ?_)⟩
  congr 1
  unfold upto
  rw [add_assoc (512 * j), Finset.sum_range_add]
  refine congrArg _ ?_
  refine (Fin.sum_univ_eq_sum_range (fun k => if k ≤ r.val then Real.exp (s (512 * j + k) - μ) * v (512 * j + k) x else 0) 512).trans ?_
  refine (Finset.sum_subset (s₁ := Finset.range (r.val + 1)) (fun k hk => ?_) fun k _ hk => ?_).symm.trans (Finset.sum_congr rfl fun k hk => ?_)
  · have := Finset.mem_range.1 hk
    exact Finset.mem_range.2 (by omega)
  · have := Finset.mem_range.not.1 hk
    exact if_neg (show ¬ k ≤ r.val by omega)
  · have := Finset.mem_range.1 hk
    exact if_pos (show k ≤ r.val by omega)

end Cert.Fwd
end
-- ==== Proof.FwdHost.lean ====
/- The packed arrays the forward launch takes, as the host makes them, lane by lane and over the real numbers. -/
module

public import proofs.«01_k».proof.Proof.FoxEqual
public import proofs.«01_k».proof.Proof.FwdReal

@[expose] public section

set_option maxRecDepth 65536

noncomputable section

namespace Cert.Fwd

open Cert.Kernel4Ideal Cert.Kernel4Ideal.Gen
open Idealize.ShloMosaic Idealize.ShloMosaic.TcCoe Idealize.SL.Sem
open Cert.Fox (Packed Args col packed67 packed70 keyCat keyLanes valueLanes lane ones)

variable (m : (ℓ : Loc nD τ sig) → Buf (Elt Ideal) ℓ) (c : Dev nD)

abbrev arg0A : FVec Ideal S1x8192x8x64 .f32 := m ((c : Thread nD τ).loc main_arg0)
abbrev arg1A : FVec Ideal S1x8192x8x64 .f32 := m ((c : Thread nD τ).loc main_arg1)
abbrev arg2A : FVec Ideal S1x8192x8x64 .f32 := m ((c : Thread nD τ).loc main_arg2)
abbrev arg3A : FVec Ideal S1x8192x8 .f32 := m ((c : Thread nD τ).loc main_arg3)

abbrev queriesA : Packed := V m c main_v7
abbrev keysA : Packed := V m c main_v23
abbrev valuesA : Packed := V m c main_v28

/-- The lanes of a query: the query scaled, three ones. -/
def scaledLanes (A0 : FVec Ideal S1x8192x8x64 .f32) : FVec Ideal S8192x8x67 .f32 :=
  concatenate S8192x8x67 2 [⟨S8192x8x64, mulf (shapeCast S8192x8x64 A0 shapeCasts_S1x8192x8x64_S8192x8x64)
      (broadcastInDim S8192x8x64 ![] bcast_S_S8192x8x64 (constant S_ .f32 0x3E000000#32))⟩, ⟨S8192x8x3, ones⟩]
    concatenates_S8192x8x64_S8192x8x3_S8192x8x67_d2

theorem V_queries : queriesA m c = packed67 (scaledLanes (arg0A m c)) := by
  unfold queriesA V hostOps0 hostOps0_1 hostOps0_2 hostOps0_3 hostOps0_4 hostOps0_5 hostOps0_6
  simp only [List.flatten_cons, List.flatten_nil, List.append_nil, List.cons_append, List.nil_append]
  after_results_simp
  rfl

theorem V_keys : keysA m c = packed70 (keyLanes (arg1A m c) (lane (shapeCast S8192x8 (arg3A m c) shapeCasts_S1x8192x8_S8192x8))) := by
  unfold keysA V hostOps0 hostOps0_1 hostOps0_2 hostOps0_3 hostOps0_4 hostOps0_5 hostOps0_6
  simp only [List.flatten_cons, List.flatten_nil, List.append_nil, List.cons_append, List.nil_append]
  after_results_simp
  refine Eq.trans (b := packed70 (keyCat ((_ : Valuation τ sig (Elt Ideal)) (Proc.tc.devRef main_v8)) ((_ : Valuation τ sig (Elt Ideal)) (Proc.tc.devRef main_v13)) ((_ : Valuation τ sig (Elt Ideal)) (Proc.tc.devRef main_v16)) ((_ : Valuation τ sig (Elt Ideal)) (Proc.tc.devRef main_v19)) ((_ : Valuation τ sig (Elt Ideal)) (Proc.tc.devRef main_v0)))) rfl ?_
  after_results_simp
  rfl

theorem V_values : valuesA m c = packed67 (valueLanes (arg2A m c)) := by
  unfold valuesA V hostOps0 hostOps0_1 hostOps0_2 hostOps0_3 hostOps0_4 hostOps0_5 hostOps0_6
  simp only [List.flatten_cons, List.flatten_nil, List.append_nil, List.cons_append, List.nil_append]
  after_results_simp
  rfl

/-! ## The lanes -/

variable {R : Args} {x4 : Vec Ideal Cert.Kernel2Ideal.S1x8192x512 .f32}

/-- A query's lanes: the query scaled, three ones. -/
def queryLane (R : Args) (h : Fin 8) (i : Fin 8192) : Fin 128 → ℝ :=
  Args.lanes (fun d => R.q i h d * 0.125) fun x => if x < 67 then 1 else 0

theorem query_lane (A0 : FVec Ideal S1x8192x8x64 .f32) (i : Fin 8192) (h : Fin 8)
    (hA : ∀ d, A0 (ix4 (0 : Fin 1) i h d) = ((R.q i h d : ℝ) : EReal)) (x : Fin 128) :
    packed67 (scaledLanes A0) (ix2 i (col h x)) = ((queryLane R h i x : ℝ) : EReal) := by
  rw [Cert.Fox.packed67_apply]
  unfold scaledLanes queryLane Args.lanes
  beta_reduce
  by_cases h67 : x.val < 67
  · rw [dif_pos h67]
    pointwise
    simp only [Cert.Fox.scale_eq, hA, Cert.Fox.ones_apply]
    by_cases h64 : x.val < 64
    · rw [dif_pos h64, dif_pos h64, EReal.coe_mul]
    · rw [dif_neg h64, dif_neg h64, if_pos h67, EReal.coe_one]
  · rw [dif_neg h67, dif_neg (by omega), if_neg h67, EReal.coe_zero]

theorem cum_lane (i : Fin 8192) (h : Fin 8) (hcum : arg3A m c (ix3 (0 : Fin 1) i h) = ((R.cum i h : ℝ) : EReal)) :
    lane (shapeCast S8192x8 (arg3A m c) shapeCasts_S1x8192x8_S8192x8) (ix3 i h (0 : Fin 1)) = ((-R.cum i h : ℝ) : EReal) := by
  rw [Cert.Fox.lane_apply]
  revert hcum
  generalize arg3A m c = w
  intro e
  pointwise
  rw [e, EReal.coe_neg]

/-- A query's lanes against a key's: the score without the query's cumulative gate. -/
theorem query_key (R : Args) (h : Fin 8) (i k : Fin 8192) :
    ∑ x, queryLane R h i x * R.keyLane h k x = R.score h i k - R.cum i h := by
  rw [Cert.Fox.sum_lanes _ fun x hx => ?_]
  · unfold queryLane Args.keyLane
    simp only [Args.lanes_low]
    rw [Args.lanes_high _ _ 64 (by decide), Args.lanes_high _ _ 65 (by decide), Args.lanes_high _ _ 66 (by decide), Args.lanes_high _ _ 67 (by decide),
      Args.lanes_high _ _ 68 (by decide), Args.lanes_high _ _ 69 (by decide), Args.lanes_high _ _ 64 (by decide), Args.lanes_high _ _ 65 (by decide),
      Args.lanes_high _ _ 66 (by decide), Args.lanes_high _ _ 67 (by decide), Args.lanes_high _ _ 68 (by decide), Args.lanes_high _ _ 69 (by decide)]
    have e : ∑ d, R.q i h d * 0.125 * R.k k h d = (∑ d, R.q i h d * R.k k h d) * 0.125 := by
      rw [Finset.sum_mul]
      exact Finset.sum_congr rfl fun d _ => by ring
    rw [e]
    unfold Args.score
    norm_num
    ring
  · unfold queryLane
    rw [Args.lanes_high _ _ x (by omega), if_neg (by omega), zero_mul]

variable (hR : R.Held (arg0A m c) (arg1A m c) (arg2A m c) (arg3A m c) x4)

include hR

theorem queries_apply (i : Fin 8192) (h : Fin 8) (x : Fin 128) : queriesA m c (ix2 i (col h x)) = ((queryLane R h i x : ℝ) : EReal) := by
  rw [V_queries]
  exact query_lane _ i h (hR.q i h) x

theorem keys_apply (i : Fin 8192) (h : Fin 8) (x : Fin 128) : keysA m c (ix2 i (col h x)) = ((R.keyLane h i x : ℝ) : EReal) := by
  rw [V_keys]
  exact Cert.Fox.key_lane _ _ i h (hR.k i h) (cum_lane m c i h (hR.cum i h)) x

theorem values_apply (i : Fin 8192) (h : Fin 8) (x : Fin 128) : valuesA m c (ix2 i (col h x)) = ((R.valueLane h i x : ℝ) : EReal) := by
  rw [V_values]
  exact Cert.Fox.value_lane _ i h (hR.v i h) x

end Cert.Fwd
end
-- ==== Proof.FwdArrays.lean ====
/- The two result arrays after the run, each entry as a real number. -/
module

public import proofs.«01_k».proof.Proof.FwdHost
public import proofs.«01_k».proof.Proof.FoxResults

@[expose] public section

set_option maxRecDepth 65536

noncomputable section

namespace Cert.Fwd

open Cert.Kernel4Ideal Cert.Kernel4Ideal.Gen
open Idealize.ShloMosaic
open Cert.Fox (Packed Args col headOf row pairCol outCol win rowDot pairCol_head beside)

/-! ## Rows of sums -/

/-- A number below 8192 for any number. -/
def wrap (n : ℕ) : Fin 8192 := ⟨n % 8192, Nat.mod_lt _ (by decide)⟩

/-- The sum over the keys not after `i`, as a sum over all keys. -/
theorem upto_rows (S : Fin 8192 → ℝ) (W : Fin 8192 → Fin 128 → ℝ) (i : Fin 8192) (μ : ℝ) (x : Fin 128) :
    upto (fun n => S (wrap n)) (fun n => W (wrap n)) (i.val + 1) μ x = ∑ k, if k ≤ i then Real.exp (S k - μ) * W k x else 0 := by
  have e : ∀ k : Fin 8192, wrap k.val = k := fun k => Fin.ext (Nat.mod_eq_of_lt k.isLt)
  have h := Fin.sum_univ_eq_sum_range (fun n => if n ≤ i.val then Real.exp (S (wrap n) - μ) * W (wrap n) x else 0) 8192
  refine Eq.trans ?_ (h.symm.trans (Finset.sum_congr rfl fun k _ => ?_))
  · unfold upto
    refine Eq.trans (Finset.sum_congr rfl fun n hn => ?_)
      (Finset.sum_subset (Finset.range_subset_range.mpr (by have := i.isLt; omega)) fun n _ hn => ?_)
    · exact (if_pos (by have := Finset.mem_range.mp hn; omega)).symm
    · exact if_neg (by have := Finset.mem_range.not.1 hn; omega)
  · rw [e]
    exact if_congr Iff.rfl rfl rfl

/-- The same relative to a row's number `T`. -/
theorem upto_raw (R : Args) (T : Fin 8 → Fin 8192 → ℝ) (h : Fin 8) (i : Fin 8192) (μ : ℝ) (x : Fin 128) :
    upto (fun n => R.score h i (wrap n) - R.cum i h) (fun n => R.valueLane h (wrap n)) (i.val + 1) μ x
      = Real.exp (T h i - R.cum i h - μ) * ∑ k, R.raw T h i k * R.valueLane h k x := by
  rw [upto_rows (fun k => R.score h i k - R.cum i h) (fun k => R.valueLane h k), Finset.mul_sum]
  refine Finset.sum_congr rfl fun k _ => ?_
  unfold Args.raw
  by_cases hk : k ≤ i
  · rw [if_pos hk, if_pos hk, ← mul_assoc, ← Real.exp_add]
    congr 2
    ring
  · rw [if_neg hk, if_neg hk, zero_mul, mul_zero]

/-! ## The points -/

variable (m : (ℓ : Loc nD τ sig) → Buf (Elt Ideal) ℓ) (c : Dev nD)

/-- The point of head pair `a` and query block `j`. -/
def pt (a : Fin 4) (j : Fin 16) : Fin cfg0.N := ⟨16 * a.val + j.val, by show _ < 64; omega⟩

theorem pt_mod (a : Fin 4) (j : Fin 16) : (pt a j).val % 16 = j.val := by
  show (16 * a.val + j.val) % 16 = j.val; omega

theorem idx1 (a : Fin 4) (j : Fin 16) : win0_1.index (pt a j) 0 = j.val ∧ win0_1.index (pt a j) 1 = a.val := by
  revert a j; decide +kernel
theorem idx2 (a : Fin 4) (j : Fin 16) : win0_2.index (pt a j) 0 = 0 ∧ win0_2.index (pt a j) 1 = a.val := by
  revert a j; decide +kernel
theorem idx3 (a : Fin 4) (j : Fin 16) : win0_3.index (pt a j) 0 = 0 ∧ win0_3.index (pt a j) 1 = a.val := by
  revert a j; decide +kernel
theorem idx4 (a : Fin 4) (j : Fin 16) : win0_4.index (pt a j) 0 = j.val ∧ win0_4.index (pt a j) 1 = a.val := by
  revert a j; decide +kernel
theorem idx5 (a : Fin 4) (j : Fin 16) : win0_5.index (pt a j) 0 = j.val ∧ win0_5.index (pt a j) 1 = a.val := by
  revert a j; decide +kernel

theorem read1 (a : Fin 4) (j : Fin 16) (r : Fin 512) (x : Fin 256) (A : Packed) :
    (((cfg0.win 1).blk (pt a j)).view.read (Elt Ideal) A : Vec Ideal S512x256 .bf16) (ix2 r x) = A (ix2 (row j r) (pairCol a x)) := by
  refine congrArg A (funext fun i => Fin.ext ?_)
  match i with
  | ⟨0, _⟩ => show win0_1.index (pt a j) 0 * 512 + 1 * r.val = 512 * j.val + r.val; rw [(idx1 a j).1]; omega
  | ⟨1, _⟩ => show win0_1.index (pt a j) 1 * 256 + 1 * x.val = 256 * a.val + x.val; rw [(idx1 a j).2]; omega

theorem blk1 (a : Fin 4) (j : Fin 16) (r : Fin 512) (x : Fin 256) :
    (iblk m c 1 (pt a j) : Vec Ideal S512x256 .bf16) (ix2 r x) = queriesA m c (ix2 (row j r) (pairCol a x)) := by
  unfold iblk
  exact read1 a j r x _

theorem read2 (a : Fin 4) (j : Fin 16) (l : Fin 8192) (x : Fin 256) (A : Packed) :
    (((cfg0.win 2).blk (pt a j)).view.read (Elt Ideal) A : Vec Ideal S8192x256 .bf16) (ix2 l x) = A (ix2 l (pairCol a x)) := by
  refine congrArg A (funext fun i => Fin.ext ?_)
  match i with
  | ⟨0, _⟩ => show win0_2.index (pt a j) 0 * 8192 + 1 * l.val = l.val; rw [(idx2 a j).1]; omega
  | ⟨1, _⟩ => show win0_2.index (pt a j) 1 * 256 + 1 * x.val = 256 * a.val + x.val; rw [(idx2 a j).2]; omega

theorem blk2 (a : Fin 4) (j : Fin 16) (l : Fin 8192) (x : Fin 256) :
    (iblk m c 2 (pt a j) : Vec Ideal S8192x256 .bf16) (ix2 l x) = keysA m c (ix2 l (pairCol a x)) := by
  unfold iblk
  exact read2 a j l x _

theorem read3 (a : Fin 4) (j : Fin 16) (l : Fin 8192) (x : Fin 256) (A : Packed) :
    (((cfg0.win 3).blk (pt a j)).view.read (Elt Ideal) A : Vec Ideal S8192x256 .bf16) (ix2 l x) = A (ix2 l (pairCol a x)) := by
  refine congrArg A (funext fun i => Fin.ext ?_)
  match i with
  | ⟨0, _⟩ => show win0_3.index (pt a j) 0 * 8192 + 1 * l.val = l.val; rw [(idx3 a j).1]; omega
  | ⟨1, _⟩ => show win0_3.index (pt a j) 1 * 256 + 1 * x.val = 256 * a.val + x.val; rw [(idx3 a j).2]; omega

theorem blk3 (a : Fin 4) (j : Fin 16) (l : Fin 8192) (x : Fin 256) :
    (iblk m c 3 (pt a j) : Vec Ideal S8192x256 .bf16) (ix2 l x) = valuesA m c (ix2 l (pairCol a x)) := by
  unfold iblk
  exact read3 a j l x _

theorem cols_of (X : Packed) (B : Vec Ideal S512x256 .bf16) (a : Fin 4) (j : Fin 16)
    (hB : ∀ r x, B (ix2 r x) = X (ix2 (row j r) (pairCol a x))) (n : Fin 2) (r : Fin 512) (x : Fin 128) :
    cols B n.val (ix2 r x) = X (ix2 (row j r) (col (headOf a n) x)) := by
  exact (hB r ⟨(128 * n.val + x.val) % 256, Nat.mod_lt _ (by decide)⟩).trans (congrArg (fun y => X (ix2 (row j r) y)) (pairCol_head a n x _))

theorem win_of (X : Packed) (B : Vec Ideal S8192x256 .bf16) (a : Fin 4)
    (hB : ∀ l x, B (ix2 l x) = X (ix2 l (pairCol a x))) (n : Fin 2) (b : ℕ) (l : Fin 512) (x : Fin 128) :
    win B b n.val (ix2 l x) = X (ix2 (wrap (512 * b + l.val)) (col (headOf a n) x)) := by
  exact (hB (wrap (512 * b + l.val)) ⟨(128 * n.val + x.val) % 256, Nat.mod_lt _ (by decide)⟩).trans
    (congrArg (fun y => X (ix2 (wrap (512 * b + l.val)) y)) (pairCol_head a n x _))

/-! ## What a point works out -/

/-- Head `n`'s rows at the point, all their keys worked. -/
abbrev rows (a : Fin 4) (j : Fin 16) (n : ℕ) : Head :=
  worked (iblk m c 1 (pt a j)) (iblk m c 2 (pt a j)) (iblk m c 3 (pt a j)) j.val n

variable {R : Args} {x4 : Vec Ideal Cert.Kernel2Ideal.S1x8192x512 .f32}
variable (hR : R.Held (arg0A m c) (arg1A m c) (arg2A m c) (arg3A m c) x4) (T : Fin 8 → Fin 8192 → ℝ)

include hR in
theorem rows_real (a : Fin 4) (j : Fin 16) (n : Fin 2) (r : Fin 512) :
    ∃ μ : ℝ, (rows m c a j n.val).1 (ix2 r 0) = (μ : EReal) ∧
      ∀ x, (rows m c a j n.val).2 (ix2 r x) = ((Real.exp (T (headOf a n) (row j r) - R.cum (row j r) (headOf a n) - μ)
        * ∑ k, R.raw T (headOf a n) (row j r) k * R.valueLane (headOf a n) k x : ℝ) : EReal) := by
  obtain ⟨μ, h1, h2⟩ := worked_real (Q := cols (iblk m c 1 (pt a j)) n.val) (x2 := iblk m c 2 (pt a j)) (x3 := iblk m c 3 (pt a j)) (h := n.val) (r := r)
    (s := fun k => R.score (headOf a n) (row j r) (wrap k) - R.cum (row j r) (headOf a n)) (v := fun k => R.valueLane (headOf a n) (wrap k))
    (fun b _ l => by
      rw [← query_key, Cert.FG.coe_sum]
      refine Finset.sum_congr rfl fun x _ => ?_
      rw [cols_of _ _ a j (blk1 m c a j), win_of _ _ a (blk2 m c a j), queries_apply m c hR, keys_apply m c hR, EReal.coe_mul])
    (fun b _ l x => by rw [win_of _ _ a (blk3 m c a j), values_apply m c hR]) j.val j.isLt
  refine ⟨μ, h1, fun x => (h2 x).trans ?_⟩
  rw [← upto_raw]
  rfl

/-- The value lane of ones adds up the weights. -/
theorem ones_total (h : Fin 8) (i : Fin 8192) : ∑ k, R.raw T h i k * R.valueLane h k 64 = R.total T h i := by
  unfold Args.total
  refine Finset.sum_congr rfl fun k _ => ?_
  have e : R.valueLane h k 64 = 1 := by
    unfold Args.valueLane
    rw [Args.lanes_high _ _ 64 (by decide)]
    norm_num
  rw [e, mul_one]

include hR in
theorem normal_apply (a : Fin 4) (j : Fin 16) (n : Fin 2) (r : Fin 512) (x : Fin 128) :
    k0_pay33 (rows m c a j n.val).2 (ix2 r x)
      = ((∑ k, R.prob T (headOf a n) (row j r) k * R.valueLane (headOf a n) k x : ℝ) : EReal) := by
  obtain ⟨μ, -, h2⟩ := rows_real m c hR T a j n r
  have hp := R.total_pos T (headOf a n) (row j r)
  have he := Real.exp_pos (T (headOf a n) (row j r) - R.cum (row j r) (headOf a n) - μ)
  rw [pay33_apply, h2, h2, ones_total, ← EReal.coe_one, Cert.Fox.div_real _ _ (mul_pos he hp), ← EReal.coe_mul]
  congr 1
  unfold Args.prob
  rw [show ∀ A B C : ℝ, A * B * (1 / C) = B * (A / C) from fun A B C => by ring, Finset.sum_mul]
  refine Finset.sum_congr rfl fun k _ => ?_
  field_simp

include hR in
/-- The number a row saves. -/
theorem log_apply (a : Fin 4) (j : Fin 16) (n : Fin 2) (r : Fin 512) :
    k0_pay34 (rows m c a j n.val).1 (rows m c a j n.val).2 (ix2 r 0)
      = ((T (headOf a n) (row j r) + Real.log (R.total T (headOf a n) (row j r)) - R.cum (row j r) (headOf a n) : ℝ) : EReal) := by
  obtain ⟨μ, h1, h2⟩ := rows_real m c hR T a j n r
  have hp := R.total_pos T (headOf a n) (row j r)
  have he := Real.exp_pos (T (headOf a n) (row j r) - R.cum (row j r) (headOf a n) - μ)
  rw [pay34_apply, h1, h2, ones_total, Ideal.log_coe, if_neg (not_le.mpr (mul_pos he hp)), ← EReal.coe_add, Real.log_mul he.ne' hp.ne', Real.log_exp]
  congr 1
  ring

/-- A saved row's lane: the query scaled, three ones, the saved number, zeros. -/
def savedLane (R : Args) (T : Fin 8 → Fin 8192 → ℝ) (h : Fin 8) (i : Fin 8192) : Fin 128 → ℝ :=
  Args.lanes (fun d => R.q i h d * 0.125) fun x => if x < 67 then 1 else if x = 67 then R.cum i h - (T h i + Real.log (R.total T h i)) else 0

include hR in
theorem saved_apply (a : Fin 4) (j : Fin 16) (n : Fin 2) (r : Fin 512) (x : Fin 128) :
    saved (cols (iblk m c 1 (pt a j)) n.val) (rows m c a j n.val) (ix2 r x) = ((savedLane R T (headOf a n) (row j r) x : ℝ) : EReal) := by
  unfold saved
  rw [pay1_apply _ _ _ _ _ (log_apply m c hR T a j n r), cols_of _ _ a j (blk1 m c a j), queries_apply m c hR]
  unfold savedLane queryLane Args.lanes
  beta_reduce
  by_cases h67 : x.val = 67
  · rw [if_pos h67, dif_neg (by omega), if_neg (by omega), if_pos h67]
    congr 1
    ring
  · rw [if_neg h67]
    by_cases h68 : x.val = 68
    · rw [if_pos h68, dif_neg (by omega), if_neg (by omega), if_neg h67, EReal.coe_zero]
    · rw [if_neg h68]
      by_cases h69 : x.val = 69
      · rw [if_pos h69, dif_neg (by omega), if_neg (by omega), if_neg h67, EReal.coe_zero]
      · rw [if_neg h69, if_neg h67]

/-! ## The arrays -/

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne ((by decide +kernel : ∀ t t' : Fin grid0.N, win0_4.index t = win0_4.index t' → t = t') t t' h)
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne ((by decide +kernel : ∀ t t' : Fin grid0.N, win0_5.index t = win0_5.index t' → t = t') t t' h)

theorem emb4 (a : Fin 4) (j : Fin 16) (r : Fin 512) (x : Fin 128) :
    ((cfg0.win 4).blk (pt a j)).view.emb (ix2 r x : S512x128.Idx) = (ix2 (row j r) (outCol a x) : S8192x512.Idx) := by
  funext i
  apply Fin.ext
  match i with
  | ⟨0, _⟩ => show win0_4.index (pt a j) 0 * 512 + 1 * r.val = 512 * j.val + r.val; rw [(idx4 a j).1]; omega
  | ⟨1, _⟩ => show win0_4.index (pt a j) 1 * 128 + 1 * x.val = 128 * a.val + x.val; rw [(idx4 a j).2]; omega

theorem emb5 (a : Fin 4) (j : Fin 16) (r : Fin 512) (x : Fin 256) :
    ((cfg0.win 5).blk (pt a j)).view.emb (ix2 r x : S512x256.Idx) = (ix2 (row j r) (pairCol a x) : S8192x1024.Idx) := by
  funext i
  apply Fin.ext
  match i with
  | ⟨0, _⟩ => show win0_5.index (pt a j) 0 * 512 + 1 * r.val = 512 * j.val + r.val; rw [(idx5 a j).1]; omega
  | ⟨1, _⟩ => show win0_5.index (pt a j) 1 * 256 + 1 * x.val = 256 * a.val + x.val; rw [(idx5 a j).2]; omega

theorem left4 (a : Fin 4) (j : Fin 16) : (dats m 0 c).after 4 (pt a j) = k0_pay2 (k0_pay33 (rows m c a j 0).2) (k0_pay33 (rows m c a j 1).2) := by
  rw [after0_4]
  have h := run_out (win0_0.stage (cfg0.slots (pt a j) 0)) (hstage0_0 ((cfg0.slots (pt a j) 0).cast nbuf0_0)) (win0_1.stage (cfg0.slots (pt a j) 1)) (hstage0_1 ((cfg0.slots (pt a j) 1).cast nbuf0_1)) (win0_2.stage (cfg0.slots (pt a j) 2)) (hstage0_2 ((cfg0.slots (pt a j) 2).cast nbuf0_2)) (win0_3.stage (cfg0.slots (pt a j) 3)) (hstage0_3 ((cfg0.slots (pt a j) 3).cast nbuf0_3)) (win0_4.stage (cfg0.slots (pt a j) 4)) (hstage0_4 ((cfg0.slots (pt a j) 4).cast nbuf0_4)) (win0_5.stage (cfg0.slots (pt a j) 5)) (hstage0_5 ((cfg0.slots (pt a j) 5).cast nbuf0_5))
    c (pt a j) (chk (pt a j)) (iblk m c 1 (pt a j)) (iblk m c 2 (pt a j)) (iblk m c 3 (pt a j))
  rw [pt_mod] at h
  exact h

theorem left5 (a : Fin 4) (j : Fin 16) (y : S512x256.Idx) : (dats m 0 c).after 5 (pt a j) y
    = sideBySide (saved (cols (iblk m c 1 (pt a j)) 0) (rows m c a j 0)) (saved (cols (iblk m c 1 (pt a j)) 1) (rows m c a j 1)) y := by
  rw [after0_5]
  have h := run_saved (win0_0.stage (cfg0.slots (pt a j) 0)) (hstage0_0 ((cfg0.slots (pt a j) 0).cast nbuf0_0)) (win0_1.stage (cfg0.slots (pt a j) 1)) (hstage0_1 ((cfg0.slots (pt a j) 1).cast nbuf0_1)) (win0_2.stage (cfg0.slots (pt a j) 2)) (hstage0_2 ((cfg0.slots (pt a j) 2).cast nbuf0_2)) (win0_3.stage (cfg0.slots (pt a j) 3)) (hstage0_3 ((cfg0.slots (pt a j) 3).cast nbuf0_3)) (win0_4.stage (cfg0.slots (pt a j) 4)) (hstage0_4 ((cfg0.slots (pt a j) 4).cast nbuf0_4)) (win0_5.stage (cfg0.slots (pt a j) 5)) (hstage0_5 ((cfg0.slots (pt a j) 5).cast nbuf0_5))
    c (pt a j) (chk (pt a j)) (iblk m c 1 (pt a j)) (iblk m c 2 (pt a j)) (iblk m c 3 (pt a j))
  rw [pt_mod] at h
  exact (congrArg (fun p => View.canon p y) h).trans (canon_saved _ _ y)

include hR in
/-- The attention's rows after the run. -/
theorem arr4 (a : Fin 4) (j : Fin 16) (r : Fin 512) (x : Fin 128) :
    ((dats m 0 c).arrAt 4 cfg0.N : Vec Ideal S8192x512 .f32) (ix2 (row j r) (outCol a x))
      = ((∑ k, R.prob T (headOf a ⟨x.val / 64, by omega⟩) (row j r) k * R.valueLane (headOf a ⟨x.val / 64, by omega⟩) k ⟨x.val % 64, by omega⟩ : ℝ) : EReal) := by
  have h := (dats m 0 c).arrAt_emb_eq_flushed 4 disjoint4 (pt a j) (flush0_4 (pt a j)) (ix2 r x : S512x128.Idx)
  rw [emb4] at h
  refine h.trans ?_
  show (dats m 0 c).after 4 (pt a j) (ix2 r x) = _
  rw [left4, pay2_apply]
  exact Cert.Fox.beside_eq a (fun h i x => ((∑ k, R.prob T h i k * R.valueLane h k x : ℝ) : EReal)) _ _ r (row j r)
    (normal_apply m c hR T a j 0 r) (normal_apply m c hR T a j 1 r) x

include hR in
/-- The saved rows after the run. -/
theorem arr5 (i : Fin 8192) (h : Fin 8) (x : Fin 128) :
    ((dats m 0 c).arrAt 5 cfg0.N : Vec Ideal S8192x1024 .bf16) (ix2 i (col h x)) = ((savedLane R T h i x : ℝ) : EReal) := by
  obtain ⟨j, r, rfl⟩ := Cert.Fox.row_split i
  obtain ⟨a, n, rfl⟩ : ∃ a n, h = headOf a n :=
    ⟨⟨h.val / 2, by omega⟩, ⟨h.val % 2, by omega⟩, Fin.ext (by show h.val = 2 * (h.val / 2) + h.val % 2; omega)⟩
  have hx := x.isLt
  have hn := n.isLt
  have hb : 128 * n.val + x.val < 256 := by omega
  have h := (dats m 0 c).arrAt_emb_eq_flushed 5 disjoint5 (pt a j) (flush0_5 (pt a j)) (ix2 r (⟨128 * n.val + x.val, hb⟩ : Fin 256) : S512x256.Idx)
  rw [emb5] at h
  have e : pairCol a ⟨128 * n.val + x.val, hb⟩ = col (headOf a n) x :=
    Fin.ext (by show 256 * a.val + (128 * n.val + x.val) = 128 * (2 * a.val + n.val) + x.val; omega)
  rw [e] at h
  refine h.trans ?_
  show (dats m 0 c).after 5 (pt a j) (ix2 r (⟨128 * n.val + x.val, hb⟩ : Fin 256)) = _
  rw [left5]
  have e' : (⟨(128 * n.val + x.val) % 128, Nat.mod_lt _ (by decide)⟩ : Fin 128) = x := Fin.ext (by show (128 * n.val + x.val) % 128 = x.val; omega)
  unfold sideBySide
  match n with
  | 0 => exact (if_pos (show 128 * 0 + x.val < 128 by omega)).trans ((congrArg (fun y => saved _ _ (ix2 r y)) e').trans (saved_apply m c hR T a j 0 r x))
  | 1 => exact (if_neg (show ¬ 128 * 1 + x.val < 128 by omega)).trans ((congrArg (fun y => saved _ _ (ix2 r y)) e').trans (saved_apply m c hR T a j 1 r x))

end Cert.Fwd
end
-- ==== Proof.FwdRef.lean ====
/- What the reference of the attention's forward call returns, entry by entry, over the real numbers. -/
module

public import proofs.«01_k».proof.Proof.FwdArrays
public import proofs.«01_k».proof.Proof.Gen.Reference4Ideal.Run
public import proofs.«01_k».proof.Proof.Gen.Reference4Ideal.Read

@[expose] public section

set_option maxRecDepth 65536

noncomputable section

namespace Cert.Fwd

open Cert.Reference4Ideal Cert.Reference4Ideal.Gen Cert.Reference4Ideal.Read
open Idealize.ShloMosaic
open Cert.Fox (Args col colHead colLane)

variable {x0 x1 x2 : Vec Ideal S1x8192x8x64 .f32} {x3 : Vec Ideal S1x8192x8 .f32} {x4 : Vec Ideal Cert.Kernel2Ideal.S1x8192x512 .f32}

/-! ## The values both references name -/

theorem masked_same : val_main_v18 (F := Ideal) x0 x1 x3 = Cert.Reference2Ideal.Read.val_main_v18_0 (F := Ideal) x0 x1 x3 := rfl
theorem top_same : val_main_v19 (F := Ideal) x0 x1 x3 = Cert.Reference2Ideal.Read.val_main_v19 (F := Ideal) x0 x1 x3 := rfl
theorem top_again : val_main_v32 (F := Ideal) x0 x1 x3 = val_main_v19 (F := Ideal) x0 x1 x3 := rfl
theorem prob_same : val_main_v29 (F := Ideal) x0 x1 x3 = Cert.Reference2Ideal.Read.val_main_v43 (F := Ideal) x0 x1 x3 := rfl

variable {R : Args} (hR : R.Held x0 x1 x2 x3 x4) {T : Fin 8 → Fin 8192 → ℝ}
variable (hT : ∀ h i, val_main_v19 (F := Ideal) x0 x1 x3 (ix3 (0 : Fin 1) h i) = ((T h i : ℝ) : EReal))

include hR in
theorem top_real : ∃ T : Fin 8 → Fin 8192 → ℝ, ∀ h i, val_main_v19 (F := Ideal) x0 x1 x3 (ix3 (0 : Fin 1) h i) = ((T h i : ℝ) : EReal) :=
  Cert.Fox.top_apply hR

include hR hT

/-! ## The attention -/

theorem ref_out (i : Fin 8192) (y : Fin 512) :
    val_main_v51 (F := Ideal) x0 x1 x2 x3 (ix2 i y) = ((∑ k, R.v k (colHead y) (colLane y) * R.prob T (colHead y) i k : ℝ) : EReal) := by
  have e := Cert.Fox.prob_apply hR hT
  rw [← prob_same] at e
  have e' := hR.v
  revert e e'
  unfold val_main_v51 val_main_v31 val_main_v30
  generalize val_main_v29 (F := Ideal) x0 x1 x3 = z
  intro e e'
  pointwise
  simp only [e, e', ← EReal.coe_mul, ← Cert.FG.coe_sum]
  rfl

/-! ## The saved rows -/

theorem raw_again (i j : Fin 8192) (h : Fin 8) : val_main_v36 (F := Ideal) x0 x1 x3 (ix4 (0 : Fin 1) h i j) = ((R.raw T h i j : ℝ) : EReal) := by
  rw [← Cert.Fox.exp_masked, ← Cert.Fox.masked_apply hR i j h, ← hT h i, val_main_v36_apply, val_main_v35_apply, ← masked_same, ← top_again]
  refine congrArg (fun u => Ideal.exp (val_main_v18 (F := Ideal) x0 x1 x3 (ix4 (0 : Fin 1) h i j) - u)) ?_
  unfold val_main_v34 val_main_v33
  generalize val_main_v32 (F := Ideal) x0 x1 x3 = y
  pointwise

theorem total_again (i : Fin 8192) (h : Fin 8) : val_main_v37 (F := Ideal) x0 x1 x3 (ix3 (0 : Fin 1) h i) = ((R.total T h i : ℝ) : EReal) := by
  have e := fun j => raw_again hR hT i j h
  revert e
  unfold val_main_v37 val_main_cst_5
  generalize val_main_v36 (F := Ideal) x0 x1 x3 = y
  intro e
  pointwise
  simp only [e, ← Cert.FG.coe_sum]
  rfl

theorem lse_apply (i : Fin 8192) (h : Fin 8) :
    val_main_v39 (F := Ideal) x0 x1 x3 (ix3 (0 : Fin 1) h i) = ((T h i + Real.log (R.total T h i) : ℝ) : EReal) := by
  rw [val_main_v39_apply, val_main_v38_apply, total_again hR hT, top_again, hT]
  show ((T h i : ℝ) : EReal) + Ideal.log ((R.total T h i : ℝ) : EReal) = _
  rw [Ideal.log_coe, if_neg (not_le.mpr (R.total_pos T h i)), EReal.coe_add]

theorem number_apply (i : Fin 8192) (h : Fin 8) :
    val_main_v43 (F := Ideal) x0 x1 x3 (ix2 i h) = ((R.cum i h - (T h i + Real.log (R.total T h i)) : ℝ) : EReal) := by
  have e := lse_apply hR hT i h
  have e' := hR.cum i h
  revert e e'
  unfold val_main_v43 val_main_v42 val_main_v41 val_main_v40
  generalize val_main_v39 (F := Ideal) x0 x1 x3 = z
  intro e e'
  pointwise
  rw [e, e', EReal.coe_sub]

theorem ref_saved (i : Fin 8192) (h : Fin 8) (x : Fin 128) :
    val_main_v53 (F := Ideal) x0 x1 x3 (ix2 i (col h x)) = ((savedLane R T h i x : ℝ) : EReal) := by
  have e := number_apply hR hT i h
  have e' := hR.q i h
  revert e e'
  unfold val_main_v53 val_main_v52 val_main_v50 val_main_v49 val_main_v48 val_main_v47 val_main_v46 val_main_v45 val_main_v44
    val_main_cst_6 val_main_cst_7 val_main_cst_8
  generalize val_main_v43 (F := Ideal) x0 x1 x3 = z
  intro e e'
  unfold savedLane Args.lanes
  beta_reduce
  pointwise
  have hx := x.isLt
  have lo : (col h x).val % 128 = x.val := by show (128 * h.val + x.val) % 128 = x.val; omega
  have hi : ∀ p : (col h x).val / 128 < 8, (⟨(col h x).val / 128, p⟩ : Fin 8) = h := fun p =>
    Fin.ext (by show (128 * h.val + x.val) / 128 = h.val; omega)
  simp only [lo, hi, e, e', Cert.Fox.scale_eq]
  by_cases h64 : x.val < 64
  · rw [dif_pos h64, dif_pos h64, EReal.coe_mul]
  · rw [dif_neg h64, dif_neg h64]
    by_cases h67 : x.val < 67
    · rw [dif_pos (by omega), if_pos h67, EReal.coe_one]
    · rw [dif_neg (by omega), if_neg h67]
      by_cases h68 : x.val = 67
      · rw [dif_pos (by omega), if_pos h68]
      · rw [dif_neg (by omega), if_neg h68, EReal.coe_zero]

end Cert.Fwd
end
-- ==== Proof.FwdFrames.lean ====
module

public import proofs.«01_k».proof.Proof.FwdFrame
public import proofs.«01_k».proof.Defs

@[expose] public section

/-! # The frame of the kernel as it is compiled

The compiled kernel's text is the idealized kernel's with the mask's literal in place of the named constant: the
idealized kernel's run, at hardware floats and with the name standing for the literal's bits, is its run. -/

set_option maxRecDepth 65536

namespace Cert.Fwd

open Idealize.ShloMosaic

/-- Every name stands for its literal's own value. -/
@[reducible] def literal : Named Bits where
  named _ _ {φ} bits := Scalar.ofBits φ bits

attribute [local instance] literal

/-- The frame of the idealized kernel's text at hardware floats. -/
def FrameBits : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

theorem frame_bits : FrameBits := fun m g _ => Fwd.frame (F := Bits) m g

theorem frame_eq : FrameBits = Cert.quiescent_Kernel4 := by
  sl_kernel_rfl

theorem frame_k : Cert.quiescent_Kernel4 := frame_eq ▸ frame_bits

theorem frame_i : Cert.quiescent_Kernel4Ideal := fun m g _ => Fwd.frame m g

/-- The mask's name stands for minus infinity. -/
theorem preserves : Cert.preserves_Kernel4_Kernel4Ideal := by
  exact IdealRules.named_const.statement _ _ _ _ _ rfl

theorem frame_r : Cert.quiescent_Reference4Ideal := fun m g _ =>
  (θ_run Reference4Ideal.defs _ _).mono
    (fun r h => ⟨fun c => (h c).2.2, sem_eq_zero_of_no_sems (by decide) r.2⟩)
    (Reference4Ideal.Value.run (F := Ideal) m g)

end Cert.Fwd
end
-- ==== Proof.FwdClaim.lean ====
/- The forget-gate attention's forward call against its reference: both return the same attention and the same saved rows. -/
module

public import proofs.«01_k».proof.Defs
public import proofs.«01_k».proof.Proof.FoxClaim
public import proofs.«01_k».proof.Proof.FwdRef
public import proofs.«01_k».proof.Proof.FwdFrames
public import proofs.«01_k».proof.Proof.Gen.Pre_fox_fwd_finite
public import Idealize.ShloMosaic.Lib.ReduceAll

@[expose] public section

set_option maxRecDepth 65536

noncomputable section

namespace Cert.Fwd

open Cert.Kernel4Ideal Cert.Kernel4Ideal.Gen
open Idealize.ShloMosaic Idealize.SL.Sem Idealize.ShloMosaic.TcCoe
open Cert.Fox (Args real_of colHead colLane)

/-! ## The precondition -/

/-- The one index of an array without axes. -/
def nil0 : Shape.Idx (Cert.Pre_fox_fwd_finite.S_) := fun a => a.elim0

instance : Subsingleton (Shape.Idx Cert.Pre_fox_fwd_finite.S_) := ⟨fun a b => funext fun i => i.elim0⟩

variable {x0 x1 x2 : FVec Ideal S1x8192x8x64 .f32} {x3 : FVec Ideal S1x8192x8 .f32}

theorem finite_of (h : Cert.Pre_fox_fwd_finite.fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ ∀ i, x3 i ≠ ⊤ ∧ x3 i ≠ ⊥ := by
  have hj := congrFun h nil0
  unfold Cert.Pre_fox_fwd_finite.fn Cert.Pre_fox_fwd_finite.fn_part1 at hj
  dsimp only at hj
  obtain ⟨hj, h3⟩ := IntOp.andi_eq_one.1 hj
  obtain ⟨hj, h2⟩ := IntOp.andi_eq_one.1 hj
  obtain ⟨h0, h1⟩ := IntOp.andi_eq_one.1 hj
  exact ⟨fun i => Cert.FG.lt_inf (Host.reduce_andi_all _ _ _ _ _ h0 i), fun i => Cert.FG.lt_inf (Host.reduce_andi_all _ _ _ _ _ h1 i),
    fun i => Cert.FG.lt_inf (Host.reduce_andi_all _ _ _ _ _ h2 i), fun i => Cert.FG.lt_inf (Host.reduce_andi_all _ _ _ _ _ h3 i)⟩

/-- The numbers the arguments hold; no cotangent enters, so that one is zero. -/
theorem held_of (h : Cert.Pre_fox_fwd_finite.fn (F := Ideal) x0 x1 x2 x3 = fun _ => 1#1) : ∃ R : Args, R.Held x0 x1 x2 x3 (fun _ => 0) := by
  obtain ⟨h0, h1, h2, h3⟩ := finite_of h
  exact ⟨⟨fun i h d => (x0 (ix4 (0 : Fin 1) i h d)).toReal, fun i h d => (x1 (ix4 (0 : Fin 1) i h d)).toReal,
      fun i h d => (x2 (ix4 (0 : Fin 1) i h d)).toReal, fun i h => (x3 (ix3 (0 : Fin 1) i h)).toReal, fun _ _ _ => 0⟩,
    ⟨fun _ _ _ => real_of (h0 _), fun _ _ _ => real_of (h1 _), fun _ _ _ => real_of (h2 _), fun _ _ => real_of (h3 _),
      fun _ _ _ => EReal.coe_zero.symm⟩⟩

/-! ## The two results -/

section Same

variable (m : (ℓ : Loc nD τ sig) → Buf (Elt Ideal) ℓ) (c : Dev nD) {R : Args} {x4 : Vec Ideal Cert.Kernel2Ideal.S1x8192x512 .f32}
variable (hR : R.Held (arg0A m c) (arg1A m c) (arg2A m c) (arg3A m c) x4) {T : Fin 8 → Fin 8192 → ℝ}
variable (hT : ∀ h i, Cert.Reference4Ideal.Read.val_main_v19 (F := Ideal) (arg0A m c) (arg1A m c) (arg3A m c) (ix3 (0 : Fin 1) h i) = ((T h i : ℝ) : EReal))

include hR hT

theorem same_out : ((dats m 0 c).arrAt 4 cfg0.N : Vec Ideal S8192x512 .f32)
    = Cert.Reference4Ideal.Read.val_main_v51 (F := Ideal) (arg0A m c) (arg1A m c) (arg2A m c) (arg3A m c) := by
  funext z
  rw [ValueIdx.eq_ix2 z]
  obtain ⟨j, r, hj⟩ := Cert.Fox.row_split (z 0)
  obtain ⟨a, x, hx⟩ := Cert.Fox.col_split (z 1)
  rw [hj, hx]
  refine (arr4 m c hR T a j r x).trans (Eq.trans ?_ (ref_out hR hT _ _).symm)
  rw [Cert.Fox.colHead_outCol, Cert.Fox.colLane_outCol]
  congr 1
  refine Finset.sum_congr rfl fun k _ => ?_
  rw [mul_comm]
  refine congrArg (· * _) ?_
  unfold Args.valueLane
  exact Args.lanes_low _ _ ⟨x.val % 64, Nat.mod_lt _ (by decide)⟩ _

theorem same_saved : ((dats m 0 c).arrAt 5 cfg0.N : Vec Ideal S8192x1024 .bf16)
    = Cert.Reference4Ideal.Read.val_main_v53 (F := Ideal) (arg0A m c) (arg1A m c) (arg3A m c) := by
  funext z
  rw [ValueIdx.eq_ix2 z]
  have hz : (z 1).val < 1024 := (z 1).isLt
  have e : z 1 = Cert.Fox.col ⟨(z 1).val / 128, by omega⟩ ⟨(z 1).val % 128, Nat.mod_lt _ (by decide)⟩ :=
    Fin.ext (by show (z 1).val = 128 * ((z 1).val / 128) + (z 1).val % 128; omega)
  rw [e]
  exact (arr5 m c hR T _ _ _).trans (ref_saved hR hT _ _ _).symm

end Same

/-! ## The claim -/

/-- The kernel's run: its two results hold what the launch wrote, its arguments what they held. -/
theorem run_results (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v30_0) = (dats m 0 c).arrAt 4 cfg0.N
      ∧ r.2.mem ((c.tc : Thread nD τ).loc main_v30_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 4, (h.1.1 c).1 5, h.2.1 c⟩)
    (θ_run_and (run_main_quiescent m g) (frame m g))

theorem congr4 {A B C D G : Type} (f : A → B → C → D → G) {a a' : A} {b b' : B} {c c' : C} {d d' : D}
    (ha : a = a') (hb : b = b') (hc : c = c') (hd : d = d') : f a b c d = f a' b' c' d' := by
  subst ha hb hc hd; rfl

set_option maxHeartbeats 2000000 in
open Cert.Reference4Ideal.Read in
theorem algebraic : Cert.algebraic_Kernel4Ideal_Reference4Ideal_pre_fox_fwd_finite := by
  intro m g m' g' hpre hagree
  refine ⟨_, _, (θ_run Cert.Kernel4Ideal.defs _ _).mono (fun r h c => h c) (run_results m g), ?_⟩
  refine (θ_run Cert.Reference4Ideal.defs _ _).mono (fun r h c => ?_) (Cert.Reference4Ideal.Value.run (F := Ideal) m' g')
  obtain ⟨h51, h53, hargs⟩ := h c
  obtain ⟨a0, a1, a2, a3⟩ := hagree c
  obtain ⟨R, hR⟩ := held_of (hpre c)
  obtain ⟨T, hT⟩ := top_real hR
  refine ⟨h51.trans ?_, h53.trans ?_, hargs⟩
  · exact (val_main_v51_eq m' c).trans ((congr4 (val_main_v51 (F := Ideal)) a0 a1 a2 a3).trans (same_out m c hR hT).symm)
  · exact (val_main_v53_eq m' c).trans ((congr4 (fun a b _ d => val_main_v53 (F := Ideal) a b d) a0 a1 a2 a3).trans (same_saved m c hR hT).symm)

end Cert.Fwd

end
-- ==== Proof.PreBlock.lean ====
/- What one grid point of the first norm's gradient leaves in its two output blocks, as functions of the point's input
   blocks and of what the point before left. -/
module

public import proofs.«01_k».proof.Proof.Gen.Kernel3Ideal.Value
public import Idealize.ShloMosaic.Lib.WritesUnit
public import Idealize.ShloMosaic.Lib.VecWindow

@[expose] public section

set_option maxRecDepth 65536

noncomputable section

namespace Cert.Norm

open Cert.Kernel3Ideal Cert.Kernel3Ideal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

theorem inb_row (k : Fin 8) : ∀ a, (![k.val, 0] : Fin 2 → Nat) a + S1x1024.size a ≤ S8x1024.size a := fun a => by
  match a with
  | ⟨0, _⟩ => show k.val + 1 ≤ 8; omega
  | ⟨1, _⟩ => show 0 + 1024 ≤ 1024; omega

/-- Row `k` of an 8-row array. -/
def rowOf (k : Fin 8) (x : Vec F S8x1024 .f32) : Vec F S1x1024 .f32 :=
  View.ld x (Rect.unit (s := S8x1024) ![k.val, 0] S1x1024.size (inb_row k))

/-- The 8-row array with row `k` replaced. -/
def setRow (k : Fin 8) (w : Vec F S1x1024 .f32) (x : Vec F S8x1024 .f32) : Vec F S8x1024 .f32 :=
  fun y => if (y 0).val = k.val then w (fun a => ⟨match a with | 0 => 0 | 1 => (y 1).val, by
    match a with
    | 0 => exact Nat.zero_lt_one
    | 1 => exact (y 1).isLt⟩) else x y

/-- The cotangent of the projection's input from the first four groups of columns. -/
def firstB (x0 : Vec F S512x1024 .bf16) (x1 x2 x3 : Vec F S512x512 .bf16) (x6 : Vec F S1024x5760 .bf16) : FVec F S512x1024 .f32 :=
  k0_pay5 x0 (View.ld x6 (Rect.unit (s := S1024x5760) ![0, 0] S1024x1024.size inb_S1024x5760_S1024x1024_0_0))
    x1 (View.ld x6 (Rect.unit (s := S1024x5760) ![0, 1024] S1024x512.size inb_S1024x5760_S1024x512_0_1024))
    x2 (View.ld x6 (Rect.unit (s := S1024x5760) ![0, 1536] S1024x512.size inb_S1024x5760_S1024x512_0_1536))
    x3 (View.ld x6 (Rect.unit (s := S1024x5760) ![0, 2048] S1024x512.size inb_S1024x5760_S1024x512_0_2048))

/-- From the fifth group. -/
def fifthB (x4 : Vec F S512x3072 .bf16) (x6 : Vec F S1024x5760 .bf16) : FVec F S512x1024 .f32 :=
  k0_pay6 x4 (View.ld x6 (Rect.unit (s := S1024x5760) ![0, 2560] S1024x3072.size inb_S1024x5760_S1024x3072_0_2560))

/-- The sixth group's columns of the weight. -/
def sixthW (x6 : Vec F S1024x5760 .bf16) : Vec F S1024x128 .bf16 :=
  View.ld x6 (Rect.unit (s := S1024x5760) ![0, 5632] S1024x128.size inb_S1024x5760_S1024x128_0_5632)

/-- From all six. -/
def dhB (x0 : Vec F S512x1024 .bf16) (x1 x2 x3 : Vec F S512x512 .bf16) (x4 : Vec F S512x3072 .bf16) (x5 : Vec F S512x128 .bf16)
    (x6 : Vec F S1024x5760 .bf16) : FVec F S512x1024 .f32 :=
  k0_pay7 (firstB x0 x1 x2 x3 x6) (fifthB x4 x6) x5 (sixthW x6)

/-- The block's gradient of the input. -/
def gxB (x0 : Vec F S512x1024 .bf16) (x1 x2 x3 : Vec F S512x512 .bf16) (x4 : Vec F S512x3072 .bf16) (x5 : Vec F S512x128 .bf16)
    (x6 : Vec F S1024x5760 .bf16) (x7 x8 : Vec F S512x1024 .f32) (x9 : Vec F S8x1024 .f32) : Vec F S512x1024 .f32 :=
  k0_pay3 (dhB x0 x1 x2 x3 x4 x5 x6) (k0_pay9 x7) (k0_pay10 x7) (k0_pay11 (rowOf 0 x9)) (rowOf 1 x9) x8

/-- The sums after the block: rows 0, 1 and 2 gain the block's column sums. -/
def accB (x0 : Vec F S512x1024 .bf16) (x1 x2 x3 : Vec F S512x512 .bf16) (x4 : Vec F S512x3072 .bf16) (x5 : Vec F S512x128 .bf16)
    (x6 : Vec F S1024x5760 .bf16) (x7 : Vec F S512x1024 .f32) (x9 a : Vec F S8x1024 .f32) : Vec F S8x1024 .f32 :=
  setRow 2 (k0_pay2 (dhB x0 x1 x2 x3 x4 x5 x6) (k0_pay10 x7) (rowOf 1 x9) (rowOf 2 a))
    (setRow 1 (k0_pay13 (firstB x0 x1 x2 x3 x6) (fifthB x4 x6) x5 (sixthW x6) x7 (rowOf 0 x9) (rowOf 1 a))
      (setRow 0 (k0_pay12 (firstB x0 x1 x2 x3 x6) (fifthB x4 x6) x5 (sixthW x6) (rowOf 0 a)) a))

/-- A store of row `k` over an array is `setRow k`. -/
theorem read_setRow (k : Fin 8) (v : View sig .tc .vmem S8x1024 .f32) (f : v.ty.Contents (Elt F)) (w : Vec F S1x1024 .f32)
    (h : ∀ a, (![k.val, 0] : Fin 2 → Nat) a + S1x1024.size a ≤ S8x1024.size a)
    (L : List (View.Piece (Elt F) S8x1024 .f32)) (x : Vec F S8x1024 .f32)
    (hx : v.read (Elt F) (v.writes (Elt F) f L) = x) :
    v.read (Elt F) (v.writes (Elt F) f
      (⟨Rect.unit (s := S8x1024) ![k.val, 0] S1x1024.size h, w⟩ :: L)) = setRow k w x := by
  funext y
  unfold setRow
  by_cases hk : (y 0).val = k.val
  · rw [if_pos hk]
    exact View.read_writes_cons_rows_of_mem (o := k.val) v f h w L y _ rfl (by rw [hk]; rfl) rfl
  · rw [if_neg hk, View.read_writes_cons_rows_of_not_mem (o := k.val) (W := 1) v f h w L y rfl rfl (by omega), hx]

/-- The rows the stores of the other rows leave. -/
theorem rowOf_setRow (j k : Fin 8) (hjk : j ≠ k) (w : Vec F S1x1024 .f32) (x : Vec F S8x1024 .f32) :
    rowOf j (setRow k w x) = rowOf j x := by
  funext y
  unfold rowOf View.ld setRow
  refine if_neg fun e => hjk (Fin.ext ?_)
  have h0 : (y 0).val < 1 := (y 0).isLt
  change j.val + 1 * (y 0).val = k.val at e
  omega

/-- A row read back after stores that leave `x`. -/
theorem cov_row (k : Fin 8) (v : View sig .tc .vmem S8x1024 .f32) (h : ∀ a, (![k.val, 0] : Fin 2 → Nat) a + S1x1024.size a ≤ S8x1024.size a)
    (L : List (View.Piece (Elt F) S8x1024 .f32)) (x : Vec F S8x1024 .f32) (hx : v.read (Elt F) (v.writes (Elt F) v.junk L) = x) :
    v.readCov L (Rect.unit (s := S8x1024) ![k.val, 0] S1x1024.size h).toLoadRect = rowOf k x := by
  unfold View.readCov
  rw [View.readAt_eq_ld, hx]
  rfl

section cov

variable (v : View sig .tc .vmem S8x1024 .f32) (w1 w0 : Vec F S1x1024 .f32) (z : Vec F S8x1024 .f32)

theorem cov0 : v.readCov (Val := Elt F) [⟨Rect.unit (s := S8x1024) ![0, 0] ![8, 1024] inb_S8x1024_S8x1024_0_0, z⟩]
    (Rect.unit (s := S8x1024) ![0, 0] ![1, 1024] inb_S8x1024_S1x1024_0_0).toLoadRect = rowOf 0 z :=
  cov_row 0 v inb_S8x1024_S1x1024_0_0 _ _ (View.read_writes_full _ _ _ _ [])

theorem cov1 : v.readCov (Val := Elt F) [⟨Rect.unit (s := S8x1024) ![0, 0] ![1, 1024] inb_S8x1024_S1x1024_0_0, w0⟩,
      ⟨Rect.unit (s := S8x1024) ![0, 0] ![8, 1024] inb_S8x1024_S8x1024_0_0, z⟩]
    (Rect.unit (s := S8x1024) ![1, 0] ![1, 1024] inb_S8x1024_S1x1024_1_0).toLoadRect = rowOf 1 z :=
  (cov_row 1 v inb_S8x1024_S1x1024_1_0 _ _ (read_setRow 0 _ _ _ _ _ _ (View.read_writes_full _ _ _ _ []))).trans
    (rowOf_setRow 1 0 (by decide) _ _)

theorem cov2 : v.readCov (Val := Elt F) [⟨Rect.unit (s := S8x1024) ![1, 0] ![1, 1024] inb_S8x1024_S1x1024_1_0, w1⟩,
      ⟨Rect.unit (s := S8x1024) ![0, 0] ![1, 1024] inb_S8x1024_S1x1024_0_0, w0⟩,
      ⟨Rect.unit (s := S8x1024) ![0, 0] ![8, 1024] inb_S8x1024_S8x1024_0_0, z⟩]
    (Rect.unit (s := S8x1024) ![2, 0] ![1, 1024] inb_S8x1024_S1x1024_2_0).toLoadRect = rowOf 2 z :=
  (cov_row 2 v inb_S8x1024_S1x1024_2_0 _ _ (read_setRow 1 _ _ _ _ _ _ (read_setRow 0 _ _ _ _ _ _
    (View.read_writes_full _ _ _ _ [])))).trans
    ((rowOf_setRow 2 1 (by decide) _ _).trans (rowOf_setRow 2 0 (by decide) _ _))

end cov

theorem outA_10 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S512x128 .bf16) (harg6 : arg6.IsWhole) (arg7 : Memref sig .tc .vmem S1024x5760 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (arg12 : Memref sig .tc .vmem S8x1024 .f32) (harg12 : arg12.IsWhole) (hc0 : cond0_0 i)
    (x0 : Vec F S512x1024 .bf16) (x1 : Vec F S512x512 .bf16) (x2 : Vec F S512x512 .bf16) (x3 : Vec F S512x512 .bf16) (x4 : Vec F S512x3072 .bf16) (x5 : Vec F S512x128 .bf16) (x6 : Vec F S1024x5760 .bf16) (x7 : Vec F S512x1024 .f32) (x8 : Vec F S512x1024 .f32) (x9 : Vec F S8x1024 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = gxB x0 x1 x2 x3 x4 x5 x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x1024) hz2, View.ld_unit_zero (S := S512x512) hz2, View.ld_unit_zero (S := S512x3072) hz2, View.ld_unit_zero (S := S512x128) hz2]
  rfl
theorem outA_11 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S512x128 .bf16) (harg6 : arg6.IsWhole) (arg7 : Memref sig .tc .vmem S1024x5760 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (arg12 : Memref sig .tc .vmem S8x1024 .f32) (harg12 : arg12.IsWhole) (hc0 : cond0_0 i)
    (x0 : Vec F S512x1024 .bf16) (x1 : Vec F S512x512 .bf16) (x2 : Vec F S512x512 .bf16) (x3 : Vec F S512x512 .bf16) (x4 : Vec F S512x3072 .bf16) (x5 : Vec F S512x128 .bf16) (x6 : Vec F S1024x5760 .bf16) (x7 : Vec F S512x1024 .f32) (x8 : Vec F S512x1024 .f32) (x9 : Vec F S8x1024 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = accB x0 x1 x2 x3 x4 x5 x6 x7 x9 (k0_pay4 (F := F)) := by
  unfold out0_A_11
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x1024) hz2, View.ld_unit_zero (S := S512x512) hz2, View.ld_unit_zero (S := S512x3072) hz2, View.ld_unit_zero (S := S512x128) hz2]
  simp only [cov0, cov1, cov2]
  exact read_setRow 2 _ _ _ _ _ _ (read_setRow 1 _ _ _ _ _ _ (read_setRow 0 _ _ _ _ _ _ (View.read_writes_full _ _ _ _ [])))
theorem outB_10 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S512x128 .bf16) (harg6 : arg6.IsWhole) (arg7 : Memref sig .tc .vmem S1024x5760 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (arg12 : Memref sig .tc .vmem S8x1024 .f32) (harg12 : arg12.IsWhole) (hc0 : ¬ cond0_0 i)
    (x0 : Vec F S512x1024 .bf16) (x1 : Vec F S512x512 .bf16) (x2 : Vec F S512x512 .bf16) (x3 : Vec F S512x512 .bf16) (x4 : Vec F S512x3072 .bf16) (x5 : Vec F S512x128 .bf16) (x6 : Vec F S1024x5760 .bf16) (x7 : Vec F S512x1024 .f32) (x8 : Vec F S512x1024 .f32) (x9 : Vec F S8x1024 .f32) (xo11 : Vec F S8x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 = gxB x0 x1 x2 x3 x4 x5 x6 x7 x8 x9 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x1024) hz2, View.ld_unit_zero (S := S512x512) hz2, View.ld_unit_zero (S := S512x3072) hz2, View.ld_unit_zero (S := S512x128) hz2]
  rfl
theorem outB_11 (c : Dev nD) (i : grid0.Coords) (arg1 : Memref sig .tc .vmem S512x1024 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x3072 .bf16) (harg5 : arg5.IsWhole) (arg6 : Memref sig .tc .vmem S512x128 .bf16) (harg6 : arg6.IsWhole) (arg7 : Memref sig .tc .vmem S1024x5760 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (arg12 : Memref sig .tc .vmem S8x1024 .f32) (harg12 : arg12.IsWhole) (hc0 : ¬ cond0_0 i)
    (x0 : Vec F S512x1024 .bf16) (x1 : Vec F S512x512 .bf16) (x2 : Vec F S512x512 .bf16) (x3 : Vec F S512x512 .bf16) (x4 : Vec F S512x3072 .bf16) (x5 : Vec F S512x128 .bf16) (x6 : Vec F S1024x5760 .bf16) (x7 : Vec F S512x1024 .f32) (x8 : Vec F S512x1024 .f32) (x9 : Vec F S8x1024 .f32) (xo11 : Vec F S8x1024 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xo11 = accB x0 x1 x2 x3 x4 x5 x6 x7 x9 xo11 := by
  unfold out0_B_11
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, View.ld_unit_zero (S := S512x1024) hz2, View.ld_unit_zero (S := S512x512) hz2, View.ld_unit_zero (S := S512x3072) hz2, View.ld_unit_zero (S := S512x128) hz2]
  exact read_setRow 2 _ _ _ _ _ _ (read_setRow 1 _ _ _ _ _ _ (read_setRow 0 _ _ _ _ _ _ (harg12.read_unread _)))
end Cert.Norm

end
-- ==== Proof.PreMath.lean ====
/- The arithmetic of the first norm's gradient: the contraction over the packed columns is the contraction over the
   projection's own columns, and the kernel's form of the norm's gradient is the chain rule's. -/
module

public import Idealize.ShloMosaic.Lib.Pointwise
public import proofs.«01_k».proof.Proof.FgMath

@[expose] public section

noncomputable section

namespace Cert.Norm

open Idealize.ShloMosaic

/-- The projection's column that packed column `n` holds; 5384 stands for a column of zeros. -/
def src (n : ℕ) : ℕ :=
  if n < 576 then n else if n < 640 then 5384 else if n < 704 then n - 64 else if n < 768 then 5384
  else if n < 832 then n - 128 else if n < 896 then 5384 else if n < 960 then n - 192 else if n < 1024 then 5384
  else if n < 2560 then n + 256 else if n < 3072 then n - 1792 else if n < 5632 then n - 248
  else if n < 5640 then n - 2816 else 5384

/-- The packed column that holds the projection's column `c`. -/
def dst (c : ℕ) : ℕ :=
  if c < 576 then c else if c < 640 then c + 64 else if c < 704 then c + 128 else if c < 768 then c + 192
  else if c < 1280 then c + 1792 else if c < 2816 then c - 256 else if c < 2824 then c + 2816 else c + 248

theorem dst_lt {c : ℕ} (h : c < 5384) : dst c < 5760 := by unfold dst; grind (splits := 20)

theorem src_dst {c : ℕ} (h : c < 5384) : src (dst c) = c := by
  unfold dst src
  grind (splits := 30)

theorem dst_src {n : ℕ} (h : src n < 5384) : dst (src n) = n := by
  unfold dst src at *
  grind (splits := 30)

/-- A sum over the packed columns is a sum over the projection's columns. -/
theorem sum_src (f : ℕ → EReal) (hf : f 5384 = 0) (hle : ∀ n, src n ≤ 5384) :
    ∑ n ∈ Finset.range 5760, f (src n) = ∑ c ∈ Finset.range 5384, f c := by
  have h : ∑ n ∈ (Finset.range 5760).filter (fun n => src n < 5384), f (src n) = ∑ n ∈ Finset.range 5760, f (src n) := by
    refine Finset.sum_filter_of_ne fun n _ hn => ?_
    by_contra hc
    exact hn (by rw [show src n = 5384 from le_antisymm (hle n) (not_lt.1 hc), hf])
  rw [← h]
  refine Finset.sum_nbij' src dst (fun n hn => ?_) (fun c hc => ?_) (fun n hn => ?_) (fun c hc => ?_) fun _ _ => rfl
  · exact Finset.mem_range.2 (Finset.mem_filter.1 hn).2
  · have hc := Finset.mem_range.1 hc
    exact Finset.mem_filter.2 ⟨Finset.mem_range.2 (dst_lt hc), by rw [src_dst hc]; exact hc⟩
  · exact dst_src (Finset.mem_filter.1 hn).2
  · exact src_dst (Finset.mem_range.1 hc)

theorem src_le (n : ℕ) : src n ≤ 5384 := by unfold src; grind (splits := 20)

/-- The six groups' contractions add up to the contraction over the packed columns. -/
theorem sum_groups (f : ℕ → EReal) :
    ((((∑ k : Fin 1024, f k.val + ∑ k : Fin 512, f (1024 + k.val)) + ∑ k : Fin 512, f (1536 + k.val))
      + ∑ k : Fin 512, f (2048 + k.val)) + ∑ k : Fin 3072, f (2560 + k.val)) + ∑ k : Fin 128, f (5632 + k.val)
      = ∑ n ∈ Finset.range 5760, f n := by
  rw [Fin.sum_univ_eq_sum_range (fun k => f k) 1024, Fin.sum_univ_eq_sum_range (fun k => f (1024 + k)) 512,
    Fin.sum_univ_eq_sum_range (fun k => f (1536 + k)) 512, Fin.sum_univ_eq_sum_range (fun k => f (2048 + k)) 512,
    Fin.sum_univ_eq_sum_range (fun k => f (2560 + k)) 3072, Fin.sum_univ_eq_sum_range (fun k => f (5632 + k)) 128]
  rw [← Finset.sum_range_add, ← Finset.sum_range_add, ← Finset.sum_range_add, ← Finset.sum_range_add, ← Finset.sum_range_add]

/-- The cotangent of the projection's input at one row and column: `p` the row of the projection's cotangent, `w` the
    row of the weight. -/
def dot (p w : ℕ → EReal) : EReal := ∑ c ∈ Finset.range 5384, p c * w c

theorem dot_groups (p w : ℕ → EReal) (hp : p 5384 = 0) :
    ((((∑ k : Fin 1024, p (src k.val) * w (src k.val) + ∑ k : Fin 512, p (src (1024 + k.val)) * w (src (1024 + k.val)))
        + ∑ k : Fin 512, p (src (1536 + k.val)) * w (src (1536 + k.val)))
      + ∑ k : Fin 512, p (src (2048 + k.val)) * w (src (2048 + k.val)))
      + ∑ k : Fin 3072, p (src (2560 + k.val)) * w (src (2560 + k.val)))
      + ∑ k : Fin 128, p (src (5632 + k.val)) * w (src (5632 + k.val)) = dot p w :=
  (sum_groups fun n => p (src n) * w (src n)).trans (sum_src (fun c => p c * w c) (by rw [hp, zero_mul]) src_le)

/-- The mean square of a row, with the norm's shift. -/
def meanSq (X : Fin 1024 → ℝ) : ℝ := (∑ d, X d * X d) / 1024 + 8796093 / 8796093022208

theorem meanSq_pos (X : Fin 1024 → ℝ) : 0 < meanSq X := by
  unfold meanSq
  have h : 0 ≤ ∑ d, X d * X d := Finset.sum_nonneg fun d _ => mul_self_nonneg _
  positivity

/-- One over the root of the mean square. -/
def rstd (X : Fin 1024 → ℝ) : ℝ := (Real.sqrt (meanSq X))⁻¹

theorem rsqrt_meanSq (X : Fin 1024 → ℝ) : Ideal.rsqrt (meanSq X : EReal) = (rstd X : EReal) := by
  have h := meanSq_pos X
  rw [Ideal.rsqrt_coe, if_neg (not_lt.2 h.le), if_neg h.ne']
  rfl

theorem rstd_cube (X : Fin 1024 → ℝ) : rstd X / meanSq X = rstd X * rstd X * rstd X := by
  have h := meanSq_pos X
  have e : rstd X * rstd X = (meanSq X)⁻¹ := by
    unfold rstd
    rw [← mul_inv, Real.mul_self_sqrt h.le]
  rw [div_eq_mul_inv, ← e]
  ring

/-- The gradient of the row through its norm, `D` the cotangent of the normed row. -/
def grad (X D : Fin 1024 → ℝ) (d : Fin 1024) : ℝ :=
  rstd X * (D d - X d * rstd X * ((∑ e, D e * (X e * rstd X)) / 1024))

/-- The chain rule's form of the same gradient. -/
theorem grad_eq (X D : Fin 1024 → ℝ) (d : Fin 1024) :
    D d * rstd X + X d * ((∑ e, X e * D e) * (-0.5 * (rstd X / meanSq X)) / 1024)
      + (∑ e, X e * D e) * (-0.5 * (rstd X / meanSq X)) / 1024 * X d = grad X D d := by
  rw [rstd_cube]
  unfold grad
  have e : ∑ e, D e * (X e * rstd X) = (∑ e, X e * D e) * rstd X := by
    rw [Finset.sum_mul]
    exact Finset.sum_congr rfl fun _ _ => by ring
  rw [e]
  ring

end Cert.Norm

end
-- ==== Proof.PreRows.lean ====
/- One grid point of the first norm's gradient, entry by entry. -/
module

public import proofs.«01_k».proof.Proof.PreBlock
public import proofs.«01_k».proof.Proof.PreMath
public import Idealize.ShloMosaic.Lib.Pointwise
public import Idealize.ShloMosaic.Lib.KernelVsHost

@[expose] public section

set_option maxRecDepth 65536

noncomputable section

namespace Cert.Norm

open Cert.Kernel3Ideal Cert.Kernel3Ideal.Gen Idealize.ShloMosaic Idealize.ShloMosaic.TcCoe

section dh

variable {x0 : Vec Ideal S512x1024 .bf16} {x1 x2 x3 : Vec Ideal S512x512 .bf16} {x4 : Vec Ideal S512x3072 .bf16}
  {x5 : Vec Ideal S512x128 .bf16} {x6 : Vec Ideal S1024x5760 .bf16} {P : Fin 512 → ℕ → EReal} {W : Fin 1024 → ℕ → EReal}

theorem firstB_apply (h0 : ∀ r k, x0 (ix2 r k) = P r (src k.val)) (h1 : ∀ r k, x1 (ix2 r k) = P r (src (1024 + k.val)))
    (h2 : ∀ r k, x2 (ix2 r k) = P r (src (1536 + k.val))) (h3 : ∀ r k, x3 (ix2 r k) = P r (src (2048 + k.val)))
    (h6 : ∀ d n, x6 (ix2 d n) = W d (src n.val)) (r : Fin 512) (d : Fin 1024) :
    firstB x0 x1 x2 x3 x6 (ix2 r d)
      = ((∑ k : Fin 1024, P r (src k.val) * W d (src k.val) + ∑ k : Fin 512, P r (src (1024 + k.val)) * W d (src (1024 + k.val)))
          + ∑ k : Fin 512, P r (src (1536 + k.val)) * W d (src (1536 + k.val)))
        + ∑ k : Fin 512, P r (src (2048 + k.val)) * W d (src (2048 + k.val)) := by
  unfold firstB k0_pay5
  pointwise
  simp only [h0, h1, h2, h3, h6]

theorem dhB_apply (h0 : ∀ r k, x0 (ix2 r k) = P r (src k.val)) (h1 : ∀ r k, x1 (ix2 r k) = P r (src (1024 + k.val)))
    (h2 : ∀ r k, x2 (ix2 r k) = P r (src (1536 + k.val))) (h3 : ∀ r k, x3 (ix2 r k) = P r (src (2048 + k.val)))
    (h4 : ∀ r k, x4 (ix2 r k) = P r (src (2560 + k.val))) (h5 : ∀ r k, x5 (ix2 r k) = P r (src (5632 + k.val)))
    (h6 : ∀ d n, x6 (ix2 d n) = W d (src n.val)) (hp : ∀ r, P r 5384 = 0) (r : Fin 512) (d : Fin 1024) :
    dhB x0 x1 x2 x3 x4 x5 x6 (ix2 r d) = dot (P r) (W d) := by
  have h := firstB_apply h0 h1 h2 h3 h6 r d
  rw [← dot_groups (P r) (W d) (hp r), ← h]
  unfold dhB fifthB sixthW k0_pay7 k0_pay6
  generalize firstB x0 x1 x2 x3 x6 = y
  pointwise
  simp only [h4, h5, h6]

end dh

/-- The mean square of a row with the norm's shift, as the programs compute it. -/
def meanE (X : Fin 1024 → EReal) : EReal :=
  Ideal.div (∑ e, X e * X e) (Ideal.ofBits .f32 0x44800000#32) + Ideal.ofBits .f32 0x358637BD#32

theorem k1024_eq : Ideal.ofBits .f32 0x44800000#32 = ((1024 : ℝ) : EReal) := by
  simp [Ideal.ofBits, Ideal.ieee]
  rw [← EReal.coe_mul]
  norm_num

theorem eps_eq : Ideal.ofBits .f32 0x358637BD#32 = ((8796093 / 8796093022208 : ℝ) : EReal) := by
  simp [Ideal.ofBits, Ideal.ieee]
  rw [← EReal.coe_mul]
  norm_num

theorem meanE_coe (X : Fin 1024 → ℝ) : meanE (fun e => ((X e : ℝ) : EReal)) = ((meanSq X : ℝ) : EReal) := by
  unfold meanE meanSq
  simp only [← EReal.coe_mul, ← Cert.FG.coe_sum, k1024_eq, eps_eq]
  rw [Ideal.div_coe (by norm_num), ← EReal.coe_mul, ← EReal.coe_add]
  congr 2
  ring

/-- The normed row. -/
def normed (X : Fin 1024 → EReal) (d : Fin 1024) : EReal := X d * Ideal.rsqrt (meanE X)

theorem pay10_apply (x7 : Vec Ideal S512x1024 .f32) (r : Fin 512) (d : Fin 1024) :
    k0_pay10 x7 (ix2 r d) = normed (fun e => x7 (ix2 r e)) d := by
  unfold k0_pay10 k0_pay9 k0_pay8 normed meanE
  pointwise

theorem pay9_apply (x7 : Vec Ideal S512x1024 .f32) (r : Fin 512) :
    k0_pay9 x7 (ix2 r (0 : Fin 1)) = Ideal.rsqrt (meanE fun e => x7 (ix2 r e)) := by
  unfold k0_pay9 k0_pay8 meanE
  pointwise

theorem rowOf_apply (k : Fin 8) (x : Vec Ideal S8x1024 .f32) (d : Fin 1024) :
    rowOf k x (ix2 (0 : Fin 1) d) = x (ix2 k d) := by
  unfold rowOf
  pointwise

theorem setRow_apply (k j : Fin 8) (w : Vec Ideal S1x1024 .f32) (x : Vec Ideal S8x1024 .f32) (d : Fin 1024) :
    setRow k w x (ix2 j d) = if j.val = k.val then w (ix2 (0 : Fin 1) d) else x (ix2 j d) := by
  unfold setRow
  pointwise
  congr 2
  funext a
  match a with
  | ⟨0, _⟩ => rfl
  | ⟨1, _⟩ => rfl

section rows

variable (x0 : Vec Ideal S512x1024 .bf16) (x1 x2 x3 : Vec Ideal S512x512 .bf16) (x4 : Vec Ideal S512x3072 .bf16)
  (x5 : Vec Ideal S512x128 .bf16) (x6 : Vec Ideal S1024x5760 .bf16) (x7 x8 : Vec Ideal S512x1024 .f32) (x9 a : Vec Ideal S8x1024 .f32)

theorem accB_apply (j : Fin 8) (d : Fin 1024) :
    accB x0 x1 x2 x3 x4 x5 x6 x7 x9 a (ix2 j d) = a (ix2 j d)
      + if j.val = 0 then ∑ r : Fin 512, dhB x0 x1 x2 x3 x4 x5 x6 (ix2 r d)
        else if j.val = 1 then ∑ r : Fin 512, dhB x0 x1 x2 x3 x4 x5 x6 (ix2 r d) * (normed (fun e => x7 (ix2 r e)) d * x9 (ix2 (0 : Fin 8) d))
        else if j.val = 2 then ∑ r : Fin 512, dhB x0 x1 x2 x3 x4 x5 x6 (ix2 r d) * (1 + x9 (ix2 (1 : Fin 8) d)) * normed (fun e => x7 (ix2 r e)) d
        else 0 := by
  have e := fun r => pay10_apply x7 r d
  unfold accB k0_pay13 k0_pay12 k0_pay2 k0_pay1 k0_pay11
  rw [show k0_pay7 (firstB x0 x1 x2 x3 x6) (fifthB x4 x6) x5 (sixthW x6) = dhB x0 x1 x2 x3 x4 x5 x6 from rfl]
  generalize dhB x0 x1 x2 x3 x4 x5 x6 = y
  revert e
  generalize k0_pay10 x7 = z
  intro e
  rw [setRow_apply, setRow_apply, setRow_apply]
  pointwise [rowOf_apply, e]
  by_cases h2 : j.val = 2
  · obtain rfl : j = 2 := Fin.ext h2
    rfl
  · by_cases h1 : j.val = 1
    · obtain rfl : j = 1 := Fin.ext h1
      rfl
    · by_cases h0 : j.val = 0
      · obtain rfl : j = 0 := Fin.ext h0
        rfl
      · rw [if_neg h2, if_neg h1, if_neg h0, if_neg h0, if_neg h1, if_neg h2, add_zero]

theorem gxB_apply (r : Fin 512) (d : Fin 1024) {X D : Fin 1024 → ℝ}
    (hx : ∀ e, x7 (ix2 r e) = ((X e : ℝ) : EReal))
    (hd : ∀ e, dhB x0 x1 x2 x3 x4 x5 x6 (ix2 r e) * (1 + x9 (ix2 (1 : Fin 8) e)) * x9 (ix2 (0 : Fin 8) e) = ((D e : ℝ) : EReal)) :
    gxB x0 x1 x2 x3 x4 x5 x6 x7 x8 x9 (ix2 r d) = x8 (ix2 r d) + ((grad X D d : ℝ) : EReal) := by
  have e := fun d => pay10_apply x7 r d
  have e9 := pay9_apply x7 r
  unfold gxB k0_pay3 k0_pay1 k0_pay11
  revert hd
  generalize dhB x0 x1 x2 x3 x4 x5 x6 = y
  revert e e9
  generalize k0_pay10 x7 = z
  generalize k0_pay9 x7 = u
  intro e e9 hd
  pointwise [rowOf_apply, e, e9]
  simp only [hd, hx, normed, meanE_coe, rsqrt_meanSq, k1024_eq, ← EReal.coe_mul, ← Cert.FG.coe_sum]
  rw [Ideal.div_coe (by norm_num), ← EReal.coe_mul, ← EReal.coe_mul, ← EReal.coe_sub, ← EReal.coe_mul]
  unfold grad
  congr 3
  ring

end rows

end Cert.Norm

end
-- ==== Proof.PreHost.lean ====
/- The arrays the first norm's gradient launch reads, entry by entry: the projection's cotangent and its weights with
   their columns packed into six groups, and the block of each that a grid point stages. -/
module

public import proofs.«01_k».proof.Proof.PreRows

@[expose] public section

set_option maxRecDepth 65536

noncomputable section

namespace Cert.Norm

open Cert.Kernel3Ideal Cert.Kernel3Ideal.Gen Idealize.ShloMosaic Idealize.ShloMosaic.TcCoe Idealize.SL.Sem

variable (m : (ℓ : Loc nD τ sig) → Buf (Elt Ideal) ℓ)

/-- The cotangent's row `r` at column `c`, zero outside the array. -/
def dpAt (x : Vec Ideal S1x8192x5384 .f32) (r c : ℕ) : EReal :=
  if h : r < 8192 ∧ c < 5384 then x (ix3 (0 : Fin 1) (⟨r, h.1⟩ : Fin 8192) (⟨c, h.2⟩ : Fin 5384)) else 0

/-- The weights' row `d` at column `c`, zero outside the array. -/
def wAt (w : Vec Ideal S1x1024x5384 .f32) (d c : ℕ) : EReal :=
  if h : d < 1024 ∧ c < 5384 then w (ix3 (0 : Fin 1) (⟨d, h.1⟩ : Fin 1024) (⟨c, h.2⟩ : Fin 5384)) else 0

theorem dpAt_last (x : Vec Ideal S1x8192x5384 .f32) (r : ℕ) : dpAt x r 5384 = 0 := dif_neg (by omega)

theorem wAt_last (w : Vec Ideal S1x1024x5384 .f32) (d : ℕ) : wAt w d 5384 = 0 := dif_neg (by omega)

/-- A choice between two values equals a third when each does where it is taken. -/
theorem of_cases {p : Prop} [Decidable p] {a b x : EReal} (ha : p → a = x) (hb : ¬p → b = x) :
    (if _h : p then a else b) = x := by
  by_cases h : p
  · rw [dif_pos h]; exact ha h
  · rw [dif_neg h]; exact hb h

/-- A block of zeros. -/
def zeros (s : Shape) (h : S_.BroadcastsInDim s (![] : Fin 0 → Fin s.rank)) : FVec Ideal s .bf16 :=
  broadcastInDim s ![] h (constant (F := Ideal) S_ .bf16 0x0000#16)

/-- The cotangent as a matrix. -/
def matD (x : Vec Ideal S1x8192x5384 .f32) : FVec Ideal S8192x5384 .bf16 :=
  truncf .bf16 (shapeCast S8192x5384 x shapeCasts_S1x8192x5384_S8192x5384) bitsLt_bf16_f32

theorem matD_apply (x : Vec Ideal S1x8192x5384 .f32) (r : Fin 8192) (c : Fin 5384) :
    matD x (ix2 r c) = dpAt x r.val c.val := by
  unfold matD dpAt
  rw [dif_pos ⟨r.isLt, c.isLt⟩]
  pointwise

/-- The weights by device: plane `d` holds device `d`'s 673 columns. -/
def planesW (w : Vec Ideal S1x1024x5384 .f32) : FVec Ideal S8x1024x673 .bf16 :=
  truncf .bf16 (transpose S8x1024x673 [1, 0, 2] (shapeCast S1024x8x673 (shapeCast S1024x5384 w
    shapeCasts_S1x1024x5384_S1024x5384) shapeCasts_S1024x5384_S1024x8x673) transposes_S1024x8x673_S8x1024x673_1_0_2)
    bitsLt_bf16_f32

theorem planesW_apply (w : Vec Ideal S1x1024x5384 .f32) (p : Fin 8) (d : Fin 1024) (c : Fin 673) :
    planesW w (ix3 p d c) = wAt w d.val (p.val * 673 + c.val) := by
  unfold planesW wAt
  rw [dif_pos ⟨d.isLt, by have := p.isLt; have := c.isLt; omega⟩]
  pointwise

/-- Eight blocks of columns side by side. -/
def packD (a : FVec Ideal S8192x576 .bf16) (b : FVec Ideal S8192x64 .bf16) (c : FVec Ideal S8192x64 .bf16) (d : FVec Ideal S8192x64 .bf16) (e : FVec Ideal S8192x64 .bf16) (f : FVec Ideal S8192x64 .bf16) (g : FVec Ideal S8192x64 .bf16) (h : FVec Ideal S8192x64 .bf16) :
    FVec Ideal S8192x1024 .bf16 :=
  concatenate S8192x1024 1 [⟨S8192x576, a⟩, ⟨S8192x64, b⟩, ⟨S8192x64, c⟩, ⟨S8192x64, d⟩, ⟨S8192x64, e⟩, ⟨S8192x64, f⟩, ⟨S8192x64, g⟩, ⟨S8192x64, h⟩]
    concatenates_S8192x576_S8192x64_S8192x64_S8192x64_S8192x64_S8192x64_S8192x64_S8192x64_S8192x1024_d1

/-- The first group: the low-rank columns, each block of 64 apart. -/
def catD (y : FVec Ideal S8192x5384 .bf16) : FVec Ideal S8192x1024 .bf16 :=
  packD (extractStridedSlice S8192x576 ![0, 0] y slices_S8192x5384_S8192x576_0_0)
    (zeros S8192x64 bcast_S_S8192x64)
    (extractStridedSlice S8192x64 ![0, 576] y slices_S8192x5384_S8192x64_0_576)
    (zeros S8192x64 bcast_S_S8192x64)
    (extractStridedSlice S8192x64 ![0, 640] y slices_S8192x5384_S8192x64_0_640)
    (zeros S8192x64 bcast_S_S8192x64)
    (extractStridedSlice S8192x64 ![0, 704] y slices_S8192x5384_S8192x64_0_704)
    (zeros S8192x64 bcast_S_S8192x64)

/-- The fifth group: the second branch's gates and values. -/
def catZ (y : FVec Ideal S8192x5384 .bf16) : FVec Ideal S8192x3072 .bf16 :=
  concatenate S8192x3072 1 [⟨S8192x512, extractStridedSlice S8192x512 ![0, 768] y slices_S8192x5384_S8192x512_0_768⟩,
      ⟨S8192x2560, extractStridedSlice S8192x2560 ![0, 2824] y slices_S8192x5384_S8192x2560_0_2824⟩]
    concatenates_S8192x512_S8192x2560_S8192x3072_d1

/-- The sixth group: the forget gate's eight columns. -/
def catF (y : FVec Ideal S8192x5384 .bf16) : FVec Ideal S8192x128 .bf16 :=
  pad S8192x128 ![0, 0] ![0, 120] ![0, 0] (extractStridedSlice S8192x8 ![0, 2816] y slices_S8192x5384_S8192x8_0_2816)
    (sitofp (F := Ideal) .bf16 (constantI S_ 32 0#32)) pads_S8192x8_S8192x128_000_01200 h_S_

/-- Sixteen blocks of columns side by side. -/
def packA (a : FVec Ideal S1024x512 .bf16) (b : FVec Ideal S1024x64 .bf16) (c : FVec Ideal S1024x64 .bf16) (d : FVec Ideal S1024x64 .bf16) (e : FVec Ideal S1024x64 .bf16) (f : FVec Ideal S1024x33 .bf16) (g : FVec Ideal S1024x31 .bf16) (h : FVec Ideal S1024x64 .bf16) (i : FVec Ideal S1024x64 .bf16) (j : FVec Ideal S1024x64 .bf16) (k : FVec Ideal S1024x66 .bf16) (l : FVec Ideal S1024x446 .bf16) (n : FVec Ideal S1024x227 .bf16) (o : FVec Ideal S1024x285 .bf16) (p : FVec Ideal S1024x388 .bf16) (q : FVec Ideal S1024x124 .bf16) :
    FVec Ideal S1024x2560 .bf16 :=
  concatenate S1024x2560 1 [⟨S1024x512, a⟩, ⟨S1024x64, b⟩, ⟨S1024x64, c⟩, ⟨S1024x64, d⟩, ⟨S1024x64, e⟩, ⟨S1024x33, f⟩, ⟨S1024x31, g⟩, ⟨S1024x64, h⟩, ⟨S1024x64, i⟩, ⟨S1024x64, j⟩, ⟨S1024x66, k⟩, ⟨S1024x446, l⟩, ⟨S1024x227, n⟩, ⟨S1024x285, o⟩, ⟨S1024x388, p⟩, ⟨S1024x124, q⟩]
    concatenates_S1024x512_S1024x64_S1024x64_S1024x64_S1024x64_S1024x33_S1024x31_S1024x64_S1024x64_S1024x64_S1024x66_S1024x446_S1024x227_S1024x285_S1024x388_S1024x124_S1024x2560_d1

/-- The packed weights' first 2560 columns. -/
def catA (G : FVec Ideal S8x1024x673 .bf16) : FVec Ideal S1024x2560 .bf16 :=
  packA (shapeCast S1024x512 (extractStridedSlice S1x1024x512 ![0, 0, 0] G slices_S8x1024x673_S1x1024x512_0_0_0) shapeCasts_S1x1024x512_S1024x512)
    (shapeCast S1024x64 (extractStridedSlice S1x1024x64 ![0, 0, 512] G slices_S8x1024x673_S1x1024x64_0_0_512) shapeCasts_S1x1024x64_S1024x64)
    (zeros S1024x64 bcast_S_S1024x64)
    (shapeCast S1024x64 (extractStridedSlice S1x1024x64 ![0, 0, 576] G slices_S8x1024x673_S1x1024x64_0_0_576) shapeCasts_S1x1024x64_S1024x64)
    (zeros S1024x64 bcast_S_S1024x64)
    (shapeCast S1024x33 (extractStridedSlice S1x1024x33 ![0, 0, 640] G slices_S8x1024x673_S1x1024x33_0_0_640) shapeCasts_S1x1024x33_S1024x33)
    (shapeCast S1024x31 (extractStridedSlice S1x1024x31 ![1, 0, 0] G slices_S8x1024x673_S1x1024x31_1_0_0) shapeCasts_S1x1024x31_S1024x31)
    (zeros S1024x64 bcast_S_S1024x64)
    (shapeCast S1024x64 (extractStridedSlice S1x1024x64 ![1, 0, 31] G slices_S8x1024x673_S1x1024x64_1_0_31) shapeCasts_S1x1024x64_S1024x64)
    (zeros S1024x64 bcast_S_S1024x64)
    (shapeCast S1024x66 (extractStridedSlice S1x1024x66 ![1, 0, 607] G slices_S8x1024x673_S1x1024x66_1_0_607) shapeCasts_S1x1024x66_S1024x66)
    (shapeCast S1024x446 (extractStridedSlice S1x1024x446 ![2, 0, 0] G slices_S8x1024x673_S1x1024x446_2_0_0) shapeCasts_S1x1024x446_S1024x446)
    (shapeCast S1024x227 (extractStridedSlice S1x1024x227 ![2, 0, 446] G slices_S8x1024x673_S1x1024x227_2_0_446) shapeCasts_S1x1024x227_S1024x227)
    (shapeCast S1024x285 (extractStridedSlice S1x1024x285 ![3, 0, 0] G slices_S8x1024x673_S1x1024x285_3_0_0) shapeCasts_S1x1024x285_S1024x285)
    (shapeCast S1024x388 (extractStridedSlice S1x1024x388 ![3, 0, 285] G slices_S8x1024x673_S1x1024x388_3_0_285) shapeCasts_S1x1024x388_S1024x388)
    (shapeCast S1024x124 (extractStridedSlice S1x1024x124 ![4, 0, 0] G slices_S8x1024x673_S1x1024x124_4_0_0) shapeCasts_S1x1024x124_S1024x124)

/-- Nine blocks of columns side by side. -/
def packB (a : FVec Ideal S1024x512 .bf16) (b : FVec Ideal S1024x512 .bf16) (c : FVec Ideal S1024x29 .bf16) (d : FVec Ideal S1024x673 .bf16) (e : FVec Ideal S1024x322 .bf16) (f : FVec Ideal S1024x351 .bf16) (g : FVec Ideal S1024x673 .bf16) (h : FVec Ideal S1024x8 .bf16) (i : FVec Ideal S1024x120 .bf16) :
    FVec Ideal S1024x3200 .bf16 :=
  concatenate S1024x3200 1 [⟨S1024x512, a⟩, ⟨S1024x512, b⟩, ⟨S1024x29, c⟩, ⟨S1024x673, d⟩, ⟨S1024x322, e⟩, ⟨S1024x351, f⟩, ⟨S1024x673, g⟩, ⟨S1024x8, h⟩, ⟨S1024x120, i⟩]
    concatenates_S1024x512_S1024x512_S1024x29_S1024x673_S1024x322_S1024x351_S1024x673_S1024x8_S1024x120_S1024x3200_d1

/-- The packed weights' last 3200 columns. -/
def catB (G : FVec Ideal S8x1024x673 .bf16) : FVec Ideal S1024x3200 .bf16 :=
  packB (shapeCast S1024x512 (extractStridedSlice S1x1024x512 ![1, 0, 95] G slices_S8x1024x673_S1x1024x512_1_0_95) shapeCasts_S1x1024x512_S1024x512)
    (shapeCast S1024x512 (extractStridedSlice S1x1024x512 ![4, 0, 132] G slices_S8x1024x673_S1x1024x512_4_0_132) shapeCasts_S1x1024x512_S1024x512)
    (shapeCast S1024x29 (extractStridedSlice S1x1024x29 ![4, 0, 644] G slices_S8x1024x673_S1x1024x29_4_0_644) shapeCasts_S1x1024x29_S1024x29)
    (shapeCast S1024x673 (extractStridedSlice S1x1024x673 ![5, 0, 0] G slices_S8x1024x673_S1x1024x673_5_0_0) shapeCasts_S1x1024x673_S1024x673)
    (shapeCast S1024x322 (extractStridedSlice S1x1024x322 ![6, 0, 0] G slices_S8x1024x673_S1x1024x322_6_0_0) shapeCasts_S1x1024x322_S1024x322)
    (shapeCast S1024x351 (extractStridedSlice S1x1024x351 ![6, 0, 322] G slices_S8x1024x673_S1x1024x351_6_0_322) shapeCasts_S1x1024x351_S1024x351)
    (shapeCast S1024x673 (extractStridedSlice S1x1024x673 ![7, 0, 0] G slices_S8x1024x673_S1x1024x673_7_0_0) shapeCasts_S1x1024x673_S1024x673)
    (shapeCast S1024x8 (extractStridedSlice S1x1024x8 ![4, 0, 124] G slices_S8x1024x673_S1x1024x8_4_0_124) shapeCasts_S1x1024x8_S1024x8)
    (zeros S1024x120 bcast_S_S1024x120)

/-- The packed weights. -/
def catW (G : FVec Ideal S8x1024x673 .bf16) : FVec Ideal S1024x5760 .bf16 :=
  concatenate S1024x5760 1 [⟨S1024x2560, catA G⟩, ⟨S1024x3200, catB G⟩] concatenates_S1024x2560_S1024x3200_S1024x5760_d1

/-- The eight rows of per-column factors: the norm's gain, the modulation's scale and shift, and five of zeros. -/
def packM (a b c : FVec Ideal S1x1024 .f32) (z : FVec Ideal S5x1024 .f32) : FVec Ideal S8x1024 .f32 :=
  concatenate S8x1024 0 [⟨S1x1024, a⟩, ⟨S1x1024, b⟩, ⟨S1x1024, c⟩, ⟨S5x1024, z⟩]
    concatenates_S1x1024_S1x1024_S1x1024_S5x1024_S8x1024_d0

theorem packM_zero (a b c : FVec Ideal S1x1024 .f32) (z : FVec Ideal S5x1024 .f32) (d : Fin 1024) :
    packM a b c z (ix2 (0 : Fin 8) d) = a (ix2 (0 : Fin 1) d) := by
  unfold packM
  pointwise

theorem packM_one (a b c : FVec Ideal S1x1024 .f32) (z : FVec Ideal S5x1024 .f32) (d : Fin 1024) :
    packM a b c z (ix2 (1 : Fin 8) d) = b (ix2 (0 : Fin 1) d) := by
  unfold packM
  pointwise

theorem zeros_apply (s : Shape) (h : S_.BroadcastsInDim s (![] : Fin 0 → Fin s.rank)) (i : s.Idx) : zeros s h i = (0 : EReal) := by
  unfold zeros
  show Ideal.ofBits .bf16 0x0000#16 = 0
  simp [Ideal.ofBits, Ideal.ieee]

theorem catD_apply (y : FVec Ideal S8192x5384 .bf16) (P : ℕ → EReal) (r : Fin 8192)
    (hy : ∀ c : Fin 5384, y (ix2 r c) = P c.val) (hP : P 5384 = 0) (k : Fin 1024) :
    catD y (ix2 r k) = P (src k.val) := by
  unfold catD packD
  pointwise [hy, zeros_apply]
  have := k.isLt
  generalize k.val = n at *
  repeat' refine of_cases (fun _ => ?_) (fun _ => ?_)
  all_goals first
    | (refine congrArg P ?_; unfold src; grind (splits := 20))
    | (refine hP.symm.trans (congrArg P ?_); unfold src; grind (splits := 20))

theorem catZ_apply (y : FVec Ideal S8192x5384 .bf16) (P : ℕ → EReal) (r : Fin 8192)
    (hy : ∀ c : Fin 5384, y (ix2 r c) = P c.val) (k : Fin 3072) :
    catZ y (ix2 r k) = P (src (2560 + k.val)) := by
  unfold catZ
  pointwise [hy]
  have := k.isLt
  generalize k.val = n at *
  repeat' refine of_cases (fun _ => ?_) (fun _ => ?_)
  all_goals (refine congrArg P ?_; unfold src; grind (splits := 20))

theorem catF_apply (y : FVec Ideal S8192x5384 .bf16) (P : ℕ → EReal) (r : Fin 8192)
    (hy : ∀ c : Fin 5384, y (ix2 r c) = P c.val) (hP : P 5384 = 0) (k : Fin 128) :
    catF y (ix2 r k) = P (src (5632 + k.val)) := by
  unfold catF
  by_cases h : k.val < 8
  · rw [pad_apply_of_inside _ _ _ _ _ _ _ _ (ix2 r (⟨k.val, h⟩ : Fin 8)) (by
      intro a
      match a with
      | ⟨0, _⟩ => show r.val = 0 + r.val * 1; omega
      | ⟨1, _⟩ => show k.val = 0 + k.val * 1; omega)]
    pointwise [hy]
    refine congrArg P ?_
    unfold src
    grind (splits := 20)
  · rw [pad_apply_of_not_inside _ _ _ _ _ _ _ _ (1 : Fin 2) (by
      show ¬(0 ≤ k.val ∧ (k.val - 0) % 1 = 0 ∧ (k.val - 0) / 1 < 8)
      omega)]
    refine Eq.trans ?_ (hP.symm.trans (congrArg P ?_))
    · pointwise
      exact sitofp_zero
    · unfold src
      grind (splits := 20)

theorem catA_apply (G : FVec Ideal S8x1024x673 .bf16) (W : ℕ → EReal) (d : Fin 1024)
    (hG : ∀ (p : Fin 8) (c : Fin 673), G (ix3 p d c) = W (p.val * 673 + c.val)) (hW : W 5384 = 0) (k : Fin 2560) :
    catA G (ix2 d k) = W (src k.val) := by
  unfold catA packA
  pointwise [hG, zeros_apply]
  have := k.isLt
  generalize k.val = n at *
  repeat' refine of_cases (fun _ => ?_) (fun _ => ?_)
  all_goals first
    | (refine congrArg W ?_; unfold src; grind (splits := 20))
    | (refine hW.symm.trans (congrArg W ?_); unfold src; grind (splits := 20))

theorem catB_apply (G : FVec Ideal S8x1024x673 .bf16) (W : ℕ → EReal) (d : Fin 1024)
    (hG : ∀ (p : Fin 8) (c : Fin 673), G (ix3 p d c) = W (p.val * 673 + c.val)) (hW : W 5384 = 0) (k : Fin 3200) :
    catB G (ix2 d k) = W (src (2560 + k.val)) := by
  unfold catB packB
  pointwise [hG, zeros_apply]
  have := k.isLt
  generalize k.val = n at *
  repeat' refine of_cases (fun _ => ?_) (fun _ => ?_)
  all_goals first
    | (refine congrArg W ?_; unfold src; grind (splits := 20))
    | (refine hW.symm.trans (congrArg W ?_); unfold src; grind (splits := 20))

theorem catW_apply (G : FVec Ideal S8x1024x673 .bf16) (W : ℕ → EReal) (d : Fin 1024)
    (hG : ∀ (p : Fin 8) (c : Fin 673), G (ix3 p d c) = W (p.val * 673 + c.val)) (hW : W 5384 = 0) (k : Fin 5760) :
    catW G (ix2 d k) = W (src k.val) := by
  unfold catW
  have ha := catA_apply G W d hG hW
  have hb := catB_apply G W d hG hW
  generalize catA G = a at *
  generalize catB G = b at *
  pointwise [ha, hb]
  have := k.isLt
  split
  · rfl
  · refine congrArg W (congrArg src ?_)
    omega

/-! ## The launch's arrays -/

theorem V_d (c : Dev nD) : V m c main_v13 = catD (matD (m ((c : Thread nD τ).loc main_arg6))) := by
  unfold V hostOps0 hostOps0_1 hostOps0_2
  simp only [List.flatten_cons, List.flatten_nil, List.append_nil, List.cons_append, List.nil_append]
  after_results_simp
  refine Eq.trans (b := packD ((_ : Valuation τ sig (Elt Ideal)) (Proc.tc.devRef main_v9)) ((_ : Valuation τ sig (Elt Ideal)) (Proc.tc.devRef main_v8)) ((_ : Valuation τ sig (Elt Ideal)) (Proc.tc.devRef main_v10)) ((_ : Valuation τ sig (Elt Ideal)) (Proc.tc.devRef main_v8)) ((_ : Valuation τ sig (Elt Ideal)) (Proc.tc.devRef main_v11)) ((_ : Valuation τ sig (Elt Ideal)) (Proc.tc.devRef main_v8)) ((_ : Valuation τ sig (Elt Ideal)) (Proc.tc.devRef main_v12)) ((_ : Valuation τ sig (Elt Ideal)) (Proc.tc.devRef main_v8))) rfl ?_
  after_results_simp
  rfl

theorem V_s0 (c : Dev nD) : V m c main_v19 = extractStridedSlice S8192x512 ![0, 1280] (matD (m ((c : Thread nD τ).loc main_arg6))) slices_S8192x5384_S8192x512_0_1280 := by
  unfold V hostOps0 hostOps0_1 hostOps0_2
  simp only [List.flatten_cons, List.flatten_nil, List.append_nil, List.cons_append, List.nil_append]
  after_results_simp
  rfl

theorem V_s1 (c : Dev nD) : V m c main_v20 = extractStridedSlice S8192x512 ![0, 1792] (matD (m ((c : Thread nD τ).loc main_arg6))) slices_S8192x5384_S8192x512_0_1792 := by
  unfold V hostOps0 hostOps0_1 hostOps0_2
  simp only [List.flatten_cons, List.flatten_nil, List.append_nil, List.cons_append, List.nil_append]
  after_results_simp
  rfl

theorem V_s2 (c : Dev nD) : V m c main_v21 = extractStridedSlice S8192x512 ![0, 2304] (matD (m ((c : Thread nD τ).loc main_arg6))) slices_S8192x5384_S8192x512_0_2304 := by
  unfold V hostOps0 hostOps0_1 hostOps0_2
  simp only [List.flatten_cons, List.flatten_nil, List.append_nil, List.cons_append, List.nil_append]
  after_results_simp
  rfl

theorem V_z (c : Dev nD) : V m c main_v16 = catZ (matD (m ((c : Thread nD τ).loc main_arg6))) := by
  unfold V hostOps0 hostOps0_1 hostOps0_2
  simp only [List.flatten_cons, List.flatten_nil, List.append_nil, List.cons_append, List.nil_append]
  after_results_simp
  rfl

theorem V_f (c : Dev nD) : V m c main_v18 = catF (matD (m ((c : Thread nD τ).loc main_arg6))) := by
  unfold V hostOps0 hostOps0_1 hostOps0_2
  simp only [List.flatten_cons, List.flatten_nil, List.append_nil, List.cons_append, List.nil_append]
  after_results_simp
  rfl

theorem V_x (c : Dev nD) : V m c main_v70 = shapeCast S8192x1024 (m ((c : Thread nD τ).loc main_arg0)) shapeCasts_S1x8192x1024_S8192x1024 := by
  unfold V hostOps0 hostOps0_1 hostOps0_2
  simp only [List.flatten_cons, List.flatten_nil, List.append_nil, List.cons_append, List.nil_append]
  after_results_simp
  rfl

theorem V_dx (c : Dev nD) : V m c main_v71 = shapeCast S8192x1024 (m ((c : Thread nD τ).loc main_arg5)) shapeCasts_S1x8192x1024_S8192x1024 := by
  unfold V hostOps0 hostOps0_1 hostOps0_2
  simp only [List.flatten_cons, List.flatten_nil, List.append_nil, List.cons_append, List.nil_append]
  after_results_simp
  rfl

theorem V_m (c : Dev nD) : V m c main_v5 = packM (m ((c : Thread nD τ).loc main_arg1)) (m ((c : Thread nD τ).loc main_arg2)) (m ((c : Thread nD τ).loc main_arg3)) (broadcastInDim S5x1024 ![] bcast_S_S5x1024 (constant (F := Ideal) S_ .f32 0x00000000#32)) := by
  unfold V hostOps0 hostOps0_1 hostOps0_2
  simp only [List.flatten_cons, List.flatten_nil, List.append_nil, List.cons_append, List.nil_append]
  after_results_simp
  refine Eq.trans (b := packM ((_ : Valuation τ sig (Elt Ideal)) (Proc.tc.devRef main_arg1)) ((_ : Valuation τ sig (Elt Ideal)) (Proc.tc.devRef main_arg2)) ((_ : Valuation τ sig (Elt Ideal)) (Proc.tc.devRef main_arg3)) ((_ : Valuation τ sig (Elt Ideal)) (Proc.tc.devRef main_v4))) rfl ?_
  after_results_simp

/-- Two blocks of columns side by side. -/
def packW (a : FVec Ideal S1024x2560 .bf16) (b : FVec Ideal S1024x3200 .bf16) : FVec Ideal S1024x5760 .bf16 :=
  concatenate S1024x5760 1 [⟨S1024x2560, a⟩, ⟨S1024x3200, b⟩] concatenates_S1024x2560_S1024x3200_S1024x5760_d1

theorem V_w (c : Dev nD) : V m c main_v69 = catW (planesW (m ((c : Thread nD τ).loc main_arg4))) := by
  unfold V hostOps0 hostOps0_1 hostOps0_2
  simp only [List.flatten_cons, List.flatten_nil, List.append_nil, List.cons_append, List.nil_append]
  after_results_simp
  show packW _ _ = packW (catA _) (catB _)
  refine congrArg₂ packW ?_ ?_
  · after_results_simp
    refine Eq.trans (b := packA ((_ : Valuation τ sig (Elt Ideal)) (Proc.tc.devRef main_v23)) ((_ : Valuation τ sig (Elt Ideal)) (Proc.tc.devRef main_v25)) ((_ : Valuation τ sig (Elt Ideal)) (Proc.tc.devRef main_v26)) ((_ : Valuation τ sig (Elt Ideal)) (Proc.tc.devRef main_v28)) ((_ : Valuation τ sig (Elt Ideal)) (Proc.tc.devRef main_v29)) ((_ : Valuation τ sig (Elt Ideal)) (Proc.tc.devRef main_v31)) ((_ : Valuation τ sig (Elt Ideal)) (Proc.tc.devRef main_v33)) ((_ : Valuation τ sig (Elt Ideal)) (Proc.tc.devRef main_v34)) ((_ : Valuation τ sig (Elt Ideal)) (Proc.tc.devRef main_v36)) ((_ : Valuation τ sig (Elt Ideal)) (Proc.tc.devRef main_v37)) ((_ : Valuation τ sig (Elt Ideal)) (Proc.tc.devRef main_v39)) ((_ : Valuation τ sig (Elt Ideal)) (Proc.tc.devRef main_v41)) ((_ : Valuation τ sig (Elt Ideal)) (Proc.tc.devRef main_v43)) ((_ : Valuation τ sig (Elt Ideal)) (Proc.tc.devRef main_v45)) ((_ : Valuation τ sig (Elt Ideal)) (Proc.tc.devRef main_v47)) ((_ : Valuation τ sig (Elt Ideal)) (Proc.tc.devRef main_v49))) rfl ?_
    after_results_simp
    rfl
  · after_results_simp
    refine Eq.trans (b := packB ((_ : Valuation τ sig (Elt Ideal)) (Proc.tc.devRef main_v51)) ((_ : Valuation τ sig (Elt Ideal)) (Proc.tc.devRef main_v53)) ((_ : Valuation τ sig (Elt Ideal)) (Proc.tc.devRef main_v55)) ((_ : Valuation τ sig (Elt Ideal)) (Proc.tc.devRef main_v57)) ((_ : Valuation τ sig (Elt Ideal)) (Proc.tc.devRef main_v59)) ((_ : Valuation τ sig (Elt Ideal)) (Proc.tc.devRef main_v61)) ((_ : Valuation τ sig (Elt Ideal)) (Proc.tc.devRef main_v63)) ((_ : Valuation τ sig (Elt Ideal)) (Proc.tc.devRef main_v65)) ((_ : Valuation τ sig (Elt Ideal)) (Proc.tc.devRef main_v66))) rfl ?_
    after_results_simp
    rfl

/-! ## The blocks a grid point stages -/

/-- The array row that row `r` of grid point `t`'s block is. -/
def rowAt (t : Fin cfg0.N) (r : Fin 512) : Fin 8192 :=
  ⟨512 * t.val + r.val, by have := r.isLt; have h : t.val < 16 := t.isLt; omega⟩

theorem index_facts : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0)
    ∧ (win0_7.index t 0 = t.val ∧ win0_7.index t 1 = 0) ∧ (win0_8.index t 0 = t.val ∧ win0_8.index t 1 = 0)
    ∧ (win0_9.index t 0 = 0 ∧ win0_9.index t 1 = 0) := by
  decide +kernel

theorem iblk0 (c : Dev nD) (t : Fin cfg0.N) (r : Fin 512) (k : Fin 1024) :
    iblk m c 0 t (ix2 r k) = V m c main_v13 (ix2 (rowAt t r) k) := by
  unfold iblk
  rw [View.read_apply]
  show V m c main_v13 _ = _
  congr 1
  funext a
  apply Fin.ext
  have h := (index_facts t).1
  match a with
  | ⟨0, _⟩ => show win0_0.index t 0 * 512 + 1 * r.val = 512 * t.val + r.val; rw [h.1]; omega
  | ⟨1, _⟩ => show win0_0.index t 1 * 1024 + 1 * k.val = k.val; rw [h.2]; omega

theorem iblk1 (c : Dev nD) (t : Fin cfg0.N) (r : Fin 512) (k : Fin 512) :
    iblk m c 1 t (ix2 r k) = V m c main_v19 (ix2 (rowAt t r) k) := by
  unfold iblk
  rw [View.read_apply]
  show V m c main_v19 _ = _
  congr 1
  funext a
  apply Fin.ext
  have h := (index_facts t).2.1
  match a with
  | ⟨0, _⟩ => show win0_1.index t 0 * 512 + 1 * r.val = 512 * t.val + r.val; rw [h.1]; omega
  | ⟨1, _⟩ => show win0_1.index t 1 * 512 + 1 * k.val = k.val; rw [h.2]; omega

theorem iblk2 (c : Dev nD) (t : Fin cfg0.N) (r : Fin 512) (k : Fin 512) :
    iblk m c 2 t (ix2 r k) = V m c main_v20 (ix2 (rowAt t r) k) := by
  unfold iblk
  rw [View.read_apply]
  show V m c main_v20 _ = _
  congr 1
  funext a
  apply Fin.ext
  have h := (index_facts t).2.2.1
  match a with
  | ⟨0, _⟩ => show win0_2.index t 0 * 512 + 1 * r.val = 512 * t.val + r.val; rw [h.1]; omega
  | ⟨1, _⟩ => show win0_2.index t 1 * 512 + 1 * k.val = k.val; rw [h.2]; omega

theorem iblk3 (c : Dev nD) (t : Fin cfg0.N) (r : Fin 512) (k : Fin 512) :
    iblk m c 3 t (ix2 r k) = V m c main_v21 (ix2 (rowAt t r) k) := by
  unfold iblk
  rw [View.read_apply]
  show V m c main_v21 _ = _
  congr 1
  funext a
  apply Fin.ext
  have h := (index_facts t).2.2.2.1
  match a with
  | ⟨0, _⟩ => show win0_3.index t 0 * 512 + 1 * r.val = 512 * t.val + r.val; rw [h.1]; omega
  | ⟨1, _⟩ => show win0_3.index t 1 * 512 + 1 * k.val = k.val; rw [h.2]; omega

theorem iblk4 (c : Dev nD) (t : Fin cfg0.N) (r : Fin 512) (k : Fin 3072) :
    iblk m c 4 t (ix2 r k) = V m c main_v16 (ix2 (rowAt t r) k) := by
  unfold iblk
  rw [View.read_apply]
  show V m c main_v16 _ = _
  congr 1
  funext a
  apply Fin.ext
  have h := (index_facts t).2.2.2.2.1
  match a with
  | ⟨0, _⟩ => show win0_4.index t 0 * 512 + 1 * r.val = 512 * t.val + r.val; rw [h.1]; omega
  | ⟨1, _⟩ => show win0_4.index t 1 * 3072 + 1 * k.val = k.val; rw [h.2]; omega

theorem iblk5 (c : Dev nD) (t : Fin cfg0.N) (r : Fin 512) (k : Fin 128) :
    iblk m c 5 t (ix2 r k) = V m c main_v18 (ix2 (rowAt t r) k) := by
  unfold iblk
  rw [View.read_apply]
  show V m c main_v18 _ = _
  congr 1
  funext a
  apply Fin.ext
  have h := (index_facts t).2.2.2.2.2.1
  match a with
  | ⟨0, _⟩ => show win0_5.index t 0 * 512 + 1 * r.val = 512 * t.val + r.val; rw [h.1]; omega
  | ⟨1, _⟩ => show win0_5.index t 1 * 128 + 1 * k.val = k.val; rw [h.2]; omega

theorem iblk6 (c : Dev nD) (t : Fin cfg0.N) (r : Fin 1024) (k : Fin 5760) :
    iblk m c 6 t (ix2 r k) = V m c main_v69 (ix2 r k) := by
  unfold iblk
  rw [View.read_apply]
  show V m c main_v69 _ = _
  congr 1
  funext a
  apply Fin.ext
  have h := (index_facts t).2.2.2.2.2.2.1
  match a with
  | ⟨0, _⟩ => show win0_6.index t 0 * 1024 + 1 * r.val = r.val; rw [h.1]; omega
  | ⟨1, _⟩ => show win0_6.index t 1 * 5760 + 1 * k.val = k.val; rw [h.2]; omega

theorem iblk7 (c : Dev nD) (t : Fin cfg0.N) (r : Fin 512) (k : Fin 1024) :
    iblk m c 7 t (ix2 r k) = V m c main_v70 (ix2 (rowAt t r) k) := by
  unfold iblk
  rw [View.read_apply]
  show V m c main_v70 _ = _
  congr 1
  funext a
  apply Fin.ext
  have h := (index_facts t).2.2.2.2.2.2.2.1
  match a with
  | ⟨0, _⟩ => show win0_7.index t 0 * 512 + 1 * r.val = 512 * t.val + r.val; rw [h.1]; omega
  | ⟨1, _⟩ => show win0_7.index t 1 * 1024 + 1 * k.val = k.val; rw [h.2]; omega

theorem iblk8 (c : Dev nD) (t : Fin cfg0.N) (r : Fin 512) (k : Fin 1024) :
    iblk m c 8 t (ix2 r k) = V m c main_v71 (ix2 (rowAt t r) k) := by
  unfold iblk
  rw [View.read_apply]
  show V m c main_v71 _ = _
  congr 1
  funext a
  apply Fin.ext
  have h := (index_facts t).2.2.2.2.2.2.2.2.1
  match a with
  | ⟨0, _⟩ => show win0_8.index t 0 * 512 + 1 * r.val = 512 * t.val + r.val; rw [h.1]; omega
  | ⟨1, _⟩ => show win0_8.index t 1 * 1024 + 1 * k.val = k.val; rw [h.2]; omega

theorem iblk9 (c : Dev nD) (t : Fin cfg0.N) (r : Fin 8) (k : Fin 1024) :
    iblk m c 9 t (ix2 r k) = V m c main_v5 (ix2 r k) := by
  unfold iblk
  rw [View.read_apply]
  show V m c main_v5 _ = _
  congr 1
  funext a
  apply Fin.ext
  have h := (index_facts t).2.2.2.2.2.2.2.2.2
  match a with
  | ⟨0, _⟩ => show win0_9.index t 0 * 8 + 1 * r.val = r.val; rw [h.1]; omega
  | ⟨1, _⟩ => show win0_9.index t 1 * 1024 + 1 * k.val = k.val; rw [h.2]; omega

theorem group_d (c : Dev nD) (t : Fin cfg0.N) (r : Fin 512) (k : Fin 1024) :
    iblk m c 0 t (ix2 r k) = dpAt (m ((c : Thread nD τ).loc main_arg6)) (rowAt t r).val (src k.val) := by
  rw [iblk0, V_d]
  exact catD_apply _ (dpAt _ _) _ (matD_apply _ _) (dpAt_last _ _) k

theorem group_z (c : Dev nD) (t : Fin cfg0.N) (r : Fin 512) (k : Fin 3072) :
    iblk m c 4 t (ix2 r k) = dpAt (m ((c : Thread nD τ).loc main_arg6)) (rowAt t r).val (src (2560 + k.val)) := by
  rw [iblk4, V_z]
  exact catZ_apply _ (dpAt _ _) _ (matD_apply _ _) k

theorem group_f (c : Dev nD) (t : Fin cfg0.N) (r : Fin 512) (k : Fin 128) :
    iblk m c 5 t (ix2 r k) = dpAt (m ((c : Thread nD τ).loc main_arg6)) (rowAt t r).val (src (5632 + k.val)) := by
  rw [iblk5, V_f]
  exact catF_apply _ (dpAt _ _) _ (matD_apply _ _) (dpAt_last _ _) k

theorem mid_apply (x : Vec Ideal S1x8192x5384 .f32) (r : Fin 8192) (o n : ℕ) (h0 : o = n + 256) (h1 : 1024 ≤ n) (h2 : n + 512 ≤ 2560)
    (h : S8192x5384.Slices ![0, o] S8192x512) (k : Fin 512) :
    extractStridedSlice S8192x512 ![0, o] (matD x) h (ix2 r k) = dpAt x r.val (src (n + k.val)) := by
  have hy := matD_apply x
  generalize matD x = y at *
  pointwise [hy]
  have := k.isLt
  refine congrArg (dpAt x r.val) ?_
  unfold src
  grind (splits := 20)

theorem group_s0 (c : Dev nD) (t : Fin cfg0.N) (r : Fin 512) (k : Fin 512) :
    iblk m c 1 t (ix2 r k) = dpAt (m ((c : Thread nD τ).loc main_arg6)) (rowAt t r).val (src (1024 + k.val)) := by
  rw [iblk1, V_s0]
  exact mid_apply _ _ 1280 1024 (by omega) (by omega) (by omega) slices_S8192x5384_S8192x512_0_1280 k

theorem group_s1 (c : Dev nD) (t : Fin cfg0.N) (r : Fin 512) (k : Fin 512) :
    iblk m c 2 t (ix2 r k) = dpAt (m ((c : Thread nD τ).loc main_arg6)) (rowAt t r).val (src (1536 + k.val)) := by
  rw [iblk2, V_s1]
  exact mid_apply _ _ 1792 1536 (by omega) (by omega) (by omega) slices_S8192x5384_S8192x512_0_1792 k

theorem group_s2 (c : Dev nD) (t : Fin cfg0.N) (r : Fin 512) (k : Fin 512) :
    iblk m c 3 t (ix2 r k) = dpAt (m ((c : Thread nD τ).loc main_arg6)) (rowAt t r).val (src (2048 + k.val)) := by
  rw [iblk3, V_s2]
  exact mid_apply _ _ 2304 2048 (by omega) (by omega) (by omega) slices_S8192x5384_S8192x512_0_2304 k

theorem weights (c : Dev nD) (t : Fin cfg0.N) (d : Fin 1024) (n : Fin 5760) :
    iblk m c 6 t (ix2 d n) = wAt (m ((c : Thread nD τ).loc main_arg4)) d.val (src n.val) := by
  rw [iblk6, V_w]
  exact catW_apply _ (wAt _ _) _ (fun p c => planesW_apply _ p d c) (wAt_last _ _) n

theorem flat_apply (x : Vec Ideal S1x8192x1024 .f32) (s : Fin 8192) (d : Fin 1024) :
    shapeCast S8192x1024 x shapeCasts_S1x8192x1024_S8192x1024 (ix2 s d) = x (ix3 (0 : Fin 1) s d) := by
  pointwise

theorem rows_x (c : Dev nD) (t : Fin cfg0.N) (r : Fin 512) (d : Fin 1024) :
    iblk m c 7 t (ix2 r d) = (m ((c : Thread nD τ).loc main_arg0)) (ix3 (0 : Fin 1) (rowAt t r) d) := by
  rw [iblk7, V_x]
  exact flat_apply _ _ d

theorem rows_dx (c : Dev nD) (t : Fin cfg0.N) (r : Fin 512) (d : Fin 1024) :
    iblk m c 8 t (ix2 r d) = (m ((c : Thread nD τ).loc main_arg5)) (ix3 (0 : Fin 1) (rowAt t r) d) := by
  rw [iblk8, V_dx]
  exact flat_apply _ _ d

theorem gain (c : Dev nD) (t : Fin cfg0.N) (d : Fin 1024) :
    iblk m c 9 t (ix2 (0 : Fin 8) d) = (m ((c : Thread nD τ).loc main_arg1)) (ix2 (0 : Fin 1) d) := by
  rw [iblk9, V_m]
  exact packM_zero _ _ _ _ d

theorem gainScale (c : Dev nD) (t : Fin cfg0.N) (d : Fin 1024) :
    iblk m c 9 t (ix2 (1 : Fin 8) d) = (m ((c : Thread nD τ).loc main_arg2)) (ix2 (0 : Fin 1) d) := by
  rw [iblk9, V_m]
  exact packM_one _ _ _ _ d

end Cert.Norm

end
-- ==== Proof.PreRun.lean ====
/- What the first norm's gradient holds point by point: the written block is the gradient of the block's rows, and the
   accumulated rows are the sums over the rows visited. -/
module

public import proofs.«01_k».proof.Proof.PreHost
public import proofs.«01_k».proof.Proof.Gen.Kernel3Ideal.Value
public import Idealize.ShloMosaic.Lib.Pipeline.ValueKit

@[expose] public section

set_option maxRecDepth 65536

noncomputable section

namespace Cert.Norm

open Cert.Kernel3Ideal Cert.Kernel3Ideal.Gen Idealize.ShloMosaic Idealize.ShloMosaic.TcCoe Idealize.SL.Sem
open Idealize.ShloMosaic.Pipeline (Dat)

/-- The normed row `i` at column `d`, zero outside the array. -/
def normAt (x : Vec Ideal S1x8192x1024 .f32) (i : ℕ) (d : Fin 1024) : EReal :=
  if h : i < 8192 then normed (fun e => x (ix3 (0 : Fin 1) (⟨i, h⟩ : Fin 8192) e)) d else 0

theorem normAt_row (x : Vec Ideal S1x8192x1024 .f32) (i : Fin 8192) (d : Fin 1024) :
    normAt x i.val d = normed (fun e => x (ix3 (0 : Fin 1) i e)) d := dif_pos i.isLt

/-- The gradient with respect to the projection's input, at row `i` and column `d`. -/
def dhAt (p : Vec Ideal S1x8192x5384 .f32) (w : Vec Ideal S1x1024x5384 .f32) (i : ℕ) (d : Fin 1024) : EReal :=
  dot (dpAt p i) (wAt w d.val)

/-- What row `i` adds to the sums: row 0 the shift's gradient, row 1 the scale's, row 2 the gain's. -/
def term (x : Vec Ideal S1x8192x1024 .f32) (g s : Vec Ideal S1x1024 .f32) (w : Vec Ideal S1x1024x5384 .f32)
    (p : Vec Ideal S1x8192x5384 .f32) (j : Fin 8) (d : Fin 1024) (i : ℕ) : EReal :=
  if j.val = 0 then dhAt p w i d
  else if j.val = 1 then dhAt p w i d * (normAt x i d * g (ix2 (0 : Fin 1) d))
  else if j.val = 2 then dhAt p w i d * (1 + s (ix2 (0 : Fin 1) d)) * normAt x i d
  else 0

/-- A sum of choices by a fixed condition is a choice of sums. -/
theorem sum_term (x : Vec Ideal S1x8192x1024 .f32) (g s : Vec Ideal S1x1024 .f32) (w : Vec Ideal S1x1024x5384 .f32)
    (p : Vec Ideal S1x8192x5384 .f32) (j : Fin 8) (d : Fin 1024) {n : ℕ} (f : Fin n → ℕ) :
    ∑ r, term x g s w p j d (f r)
      = if j.val = 0 then ∑ r, dhAt p w (f r) d
        else if j.val = 1 then ∑ r, dhAt p w (f r) d * (normAt x (f r) d * g (ix2 (0 : Fin 1) d))
        else if j.val = 2 then ∑ r, dhAt p w (f r) d * (1 + s (ix2 (0 : Fin 1) d)) * normAt x (f r) d
        else 0 := by
  unfold term
  by_cases h0 : j.val = 0
  · simp only [if_pos h0]
  · by_cases h1 : j.val = 1
    · simp only [if_neg h0, if_pos h1]
    · by_cases h2 : j.val = 2
      · simp only [if_neg h0, if_neg h1, if_pos h2]
      · simp only [if_neg h0, if_neg h1, if_neg h2, Finset.sum_const_zero]

section run

variable (m : (ℓ : Loc nD τ sig) → Buf (Elt Ideal) ℓ) (c : Dev nD)

/-- The residual stream's rows. -/
abbrev argX : Vec Ideal S1x8192x1024 .f32 := m ((c : Thread nD τ).loc main_arg0)
/-- The norm's gain. -/
abbrev argG : Vec Ideal S1x1024 .f32 := m ((c : Thread nD τ).loc main_arg1)
/-- The modulation's scale. -/
abbrev argS : Vec Ideal S1x1024 .f32 := m ((c : Thread nD τ).loc main_arg2)
/-- The projection's weights. -/
abbrev argW : Vec Ideal S1x1024x5384 .f32 := m ((c : Thread nD τ).loc main_arg4)
/-- The cotangent that comes past the norm. -/
abbrev argR : Vec Ideal S1x8192x1024 .f32 := m ((c : Thread nD τ).loc main_arg5)
/-- The projection's cotangent. -/
abbrev argP : Vec Ideal S1x8192x5384 .f32 := m ((c : Thread nD τ).loc main_arg6)

theorem dh_block (t : Fin cfg0.N) (r : Fin 512) (d : Fin 1024) :
    dhB (iblk m c 0 t) (iblk m c 1 t) (iblk m c 2 t) (iblk m c 3 t) (iblk m c 4 t) (iblk m c 5 t) (iblk m c 6 t) (ix2 r d)
      = dhAt (argP m c) (argW m c) (rowAt t r).val d :=
  dhB_apply (P := fun r => dpAt (argP m c) (rowAt t r).val) (W := fun d => wAt (argW m c) d.val)
    (group_d m c t) (group_s0 m c t) (group_s1 m c t) (group_s2 m c t) (group_z m c t) (group_f m c t) (weights m c t)
    (fun r => dpAt_last _ _) r d

/-- The sums' rows after one more tile. -/
theorem acc_block (t : Fin cfg0.N) (a : Vec Ideal S8x1024 .f32) (j : Fin 8) (d : Fin 1024)
    (ha : a (ix2 j d) = ∑ i ∈ Finset.range (512 * t.val), term (argX m c) (argG m c) (argS m c) (argW m c) (argP m c) j d i) :
    accB (iblk m c 0 t) (iblk m c 1 t) (iblk m c 2 t) (iblk m c 3 t) (iblk m c 4 t) (iblk m c 5 t) (iblk m c 6 t)
        (iblk m c 7 t) (iblk m c 9 t) a (ix2 j d)
      = ∑ i ∈ Finset.range (512 * (t.val + 1)), term (argX m c) (argG m c) (argS m c) (argW m c) (argP m c) j d i := by
  have hn : ∀ r : Fin 512, normed (fun e => iblk m c 7 t (ix2 r e)) d = normAt (argX m c) (rowAt t r).val d := fun r => by
    rw [normAt_row]
    exact congrArg (fun f => normed f d) (funext fun e => rows_x m c t r e)
  rw [accB_apply, ha, Nat.mul_succ, Finset.sum_range_add]
  refine congrArg (fun y : EReal => _ + y) (Eq.trans ?_ (Fin.sum_univ_eq_sum_range (fun x =>
    term (argX m c) (argG m c) (argS m c) (argW m c) (argP m c) j d (512 * t.val + x)) 512))
  rw [sum_term _ _ _ _ _ j d (fun r => 512 * t.val + r.val)]
  simp only [dh_block, hn, gain, gainScale]
  rfl

/-- What point `t` leaves. -/
structure State (t : Fin cfg0.N) (o : Vec Ideal S512x1024 .f32 × Vec Ideal S8x1024 .f32) : Prop where
  rows : o.1 = gxB (iblk m c 0 t) (iblk m c 1 t) (iblk m c 2 t) (iblk m c 3 t) (iblk m c 4 t) (iblk m c 5 t) (iblk m c 6 t)
    (iblk m c 7 t) (iblk m c 8 t) (iblk m c 9 t)
  total : ∀ (j : Fin 8) (d : Fin 1024), o.2 (ix2 j d)
    = ∑ i ∈ Finset.range (512 * (t.val + 1)), term (argX m c) (argG m c) (argS m c) (argW m c) (argP m c) j d i

theorem zero_pay4 (i : S8x1024.Idx) : k0_pay4 (F := Ideal) i = (0 : EReal) := Ideal.ofBits_zero_f32

theorem state : ∀ (n : ℕ) (hn : n < cfg0.N), State m c ⟨n, hn⟩ (outsAt0 m c n hn)
  | 0, hn => by
    have e := outsAt0_A m c ⟨0, hn⟩ rfl
    rw [outA_10, outA_11] at e
    rw [show outsAt0 m c 0 hn = _ from e]
    refine ⟨rfl, fun j d => acc_block m c ⟨0, hn⟩ _ j d ?_⟩
    rw [zero_pay4]
    exact (Finset.sum_range_zero _).symm
  | n + 1, hn => by
    have hN : n + 1 < 16 := hn
    have e := outsAt0_B m c ⟨n + 1, hn⟩ (by show ¬(n + 1) % 16 = 0; omega)
    rw [outB_10, outB_11] at e
    rw [show outsAt0 m c (n + 1) hn = _ from e]
    exact ⟨rfl, fun j d => acc_block m c ⟨n + 1, hn⟩ _ j d ((state n (Nat.lt_of_succ_lt hn)).total j d)⟩

/-! ## The arrays after the run -/

theorem index10 : ∀ t : Fin cfg0.N, win0_10.index t 0 = t.val ∧ win0_10.index t 1 = 0 := by decide +kernel

theorem mem_blk10 (t : Fin cfg0.N) (r : Fin 512) (d : Fin 1024) :
    ((cfg0.win 10).blk t).view.emb (ix2 r d : S512x1024.Idx) = (ix2 (rowAt t r) d : S8192x1024.Idx) := by
  funext a
  apply Fin.ext
  have h := index10 t
  match a with
  | ⟨0, _⟩ => show win0_10.index t 0 * 512 + 1 * r.val = 512 * t.val + r.val; rw [h.1]; omega
  | ⟨1, _⟩ => show win0_10.index t 1 * 1024 + 1 * d.val = d.val; rw [h.2]; omega

theorem flush10 : ∀ t : Fin cfg0.N, (cfg0.win 10).flush t = true := by decide +kernel

/-- The gradient with respect to the residual stream's rows. -/
theorem rows_after (i : Fin 8192) (d : Fin 1024) {X D : Fin 1024 → ℝ}
    (hx : ∀ e, argX m c (ix3 (0 : Fin 1) i e) = ((X e : ℝ) : EReal))
    (hd : ∀ e, dhAt (argP m c) (argW m c) i.val e * (1 + argS m c (ix2 (0 : Fin 1) e)) * argG m c (ix2 (0 : Fin 1) e) = ((D e : ℝ) : EReal)) :
    ((dats m 0 c).arrAt 10 cfg0.N : Vec Ideal S8192x1024 .f32) (ix2 i d) = argR m c (ix3 (0 : Fin 1) i d) + ((grad X D d : ℝ) : EReal) := by
  let t : Fin cfg0.N := ⟨i.val / 512, by show _ < 16; omega⟩
  let r : Fin 512 := ⟨i.val % 512, by omega⟩
  have hi : rowAt t r = i := Fin.ext (by show 512 * (i.val / 512) + i.val % 512 = i.val; omega)
  have h := (dats m 0 c).arrAt_emb_eq_flushed 10 Value.disjoint10 t (flush10 t) (ix2 r d : S512x1024.Idx)
  rw [mem_blk10, hi] at h
  refine h.trans ?_
  rw [Value.flushed10]
  show (outsAt0 m c t.val t.isLt).1 (ix2 r d) = _
  rw [(state m c t.val t.isLt).rows]
  refine (gxB_apply _ _ _ _ _ _ _ _ _ _ r d (X := X) (D := D) (fun e => ?_) fun e => ?_).trans ?_
  · rw [rows_x, hi]
    exact hx e
  · rw [dh_block, gain, gainScale, hi]
    exact hd e
  · rw [rows_dx, hi]

/-- The sums over all rows. -/
theorem total_after (j : Fin 8) (d : Fin 1024) :
    ((dats m 0 c).arrAt 11 cfg0.N : Vec Ideal S8x1024 .f32) (ix2 j d)
      = ∑ i ∈ Finset.range 8192, term (argX m c) (argG m c) (argS m c) (argW m c) (argP m c) j d i := by
  have h : (dats m 0 c).arrAt 11 cfg0.N = (outsAt0 m c 15 (by decide)).2 := by
    refine (dats m 0 c).arrAt_eq_of_after_last 11 t0_15 (by decide +kernel) _ fun j => ?_
    blk_simp
    rw [after0_11]
    rfl
  rw [h]
  exact (state m c 15 (by decide)).total j d

end run

end Cert.Norm

end
-- ==== Proof.PreRef.lean ====
/- What the reference of the first norm's gradient leaves, entry by entry. -/
module

public import proofs.«01_k».proof.Proof.PreRun
public import proofs.«01_k».proof.Proof.Gen.Reference3Ideal.Read
public import proofs.«01_k».proof.Proof.FoxSoft

@[expose] public section

set_option maxRecDepth 16384

noncomputable section

namespace Cert.Norm

open Cert.Reference3Ideal Cert.Reference3Ideal.Gen Cert.Reference3Ideal.Read
open Idealize.ShloMosaic

/-- A sum over axes of length one is the entry. -/
theorem only_cell (x : S1x1x1024.Idx → EReal) (d : Fin 1024) :
    Ideal.hostReduceAdd reducesTo_S1x1x1024_S1024_d0_1 x 0 (ix1 d) = x (ix3 (0 : Fin 1) (0 : Fin 1) d) := by
  have d0 : ∀ y : S1x1x1024.Idx, (reducesTo_S1x1x1024_S1024_d0_1.drop y 0).val = (y 2).val := fun y =>
    Shape.ReducesTo.drop_apply_val_of_eq _ y 0 2
  refine Cert.Fox.only _ x _ _ (funext fun a => ?_) fun y e => funext fun a => ?_
  · match a with
    | 0 => exact Fin.ext (d0 _)
  · have e0 : (y 2).val = d.val := by rw [← d0 y, e]; rfl
    match a with
    | 0 => exact Fin.ext (by exact Nat.lt_one_iff.mp (y 0).isLt)
    | 1 => exact Fin.ext (by exact Nat.lt_one_iff.mp (y 1).isLt)
    | 2 => exact Fin.ext e0

variable (x0 : Vec Ideal S1x8192x1024 .f32) (x1 x2 : Vec Ideal S1x1024 .f32) (x4 : Vec Ideal S1x1024x5384 .f32)
  (x5 : Vec Ideal S1x8192x1024 .f32) (x6 : Vec Ideal S1x8192x5384 .f32)

/-- The gradient with respect to the projection's input. -/
theorem ref_dh (i : Fin 8192) (d : Fin 1024) :
    val_main_v27 (F := Ideal) x4 x6 (ix3 (0 : Fin 1) i d) = dhAt x6 x4 i.val d := by
  unfold val_main_v27 val_main_v25 dhAt dot
  pointwise
  rw [← Fin.sum_univ_eq_sum_range (fun k => dpAt x6 i.val k * wAt x4 d.val k)]
  refine Finset.sum_congr rfl fun k _ => ?_
  unfold dpAt wAt
  rw [dif_pos ⟨i.isLt, k.isLt⟩, dif_pos ⟨d.isLt, k.isLt⟩]

/-- The reciprocal root of the mean square. -/
theorem ref_rstd (i : Fin 8192) :
    val_main_v8 (F := Ideal) x0 (ix3 (0 : Fin 1) i (0 : Fin 1)) = Ideal.rsqrt (meanE fun e => x0 (ix3 (0 : Fin 1) i e)) := by
  unfold val_main_v8 val_main_v7 val_main_v6 val_main_v5 val_main_v4 val_main_v3 val_main_v2 val_main_v1 val_main_cst_1 val_main_cst_0 val_main_cst meanE
  pointwise

theorem ref_mean (i : Fin 8192) :
    val_main_v7 (F := Ideal) x0 (ix3 (0 : Fin 1) i (0 : Fin 1)) = meanE fun e => x0 (ix3 (0 : Fin 1) i e) := by
  unfold val_main_v7 val_main_v6 val_main_v5 val_main_v4 val_main_v3 val_main_v2 val_main_v1 val_main_cst_1 val_main_cst_0 val_main_cst meanE
  pointwise

/-- The normed row. -/
theorem ref_norm (i : Fin 8192) (d : Fin 1024) :
    val_main_v13 (F := Ideal) x0 (ix3 (0 : Fin 1) i d) = normAt x0 i.val d := by
  have e := ref_rstd x0 i
  revert e
  unfold val_main_v13 val_main_v12
  generalize val_main_v8 (F := Ideal) x0 = y
  intro e
  rw [normAt_row]
  unfold normed
  pointwise
  rw [e]

theorem ref_scaled (i : Fin 8192) (d : Fin 1024) :
    val_main_v36 (F := Ideal) x2 x4 x6 (ix3 (0 : Fin 1) i d) = dhAt x6 x4 i.val d * (1 + x2 (ix2 (0 : Fin 1) d)) := by
  have e := ref_dh x4 x6 i d
  revert e
  unfold val_main_v36 val_main_v35 val_main_v19 val_main_v18 val_main_v17 val_main_cst_3
  generalize val_main_v27 (F := Ideal) x4 x6 = y
  intro e
  pointwise
  rw [e]

theorem ref_full (i : Fin 8192) (d : Fin 1024) :
    val_main_v43 (F := Ideal) x1 x2 x4 x6 (ix3 (0 : Fin 1) i d)
      = dhAt x6 x4 i.val d * (1 + x2 (ix2 (0 : Fin 1) d)) * x1 (ix2 (0 : Fin 1) d) := by
  have e := ref_scaled x2 x4 x6 i d
  revert e
  unfold val_main_v43 val_main_v42 val_main_v14 val_main_v0
  generalize val_main_v36 (F := Ideal) x2 x4 x6 = y
  intro e
  pointwise
  rw [e]

/-! ## The sums over the rows -/

theorem ref_shift (d : Fin 1024) :
    val_main_v31 (F := Ideal) x4 x6 (ix2 (0 : Fin 1) d) = ∑ i : Fin 8192, dhAt x6 x4 i.val d := by
  have e := fun i => ref_dh x4 x6 i d
  revert e
  unfold val_main_v31 val_main_v30 val_main_v29 val_main_v28 val_main_cst_4 val_main_cst_5
  generalize val_main_v27 (F := Ideal) x4 x6 = y
  intro e
  pointwise
  refine (only_cell _ d).trans ?_
  pointwise
  exact Finset.sum_congr rfl fun i _ => e i

theorem ref_scale (d : Fin 1024) :
    val_main_v38 (F := Ideal) x0 x1 x4 x6 (ix2 (0 : Fin 1) d)
      = ∑ i : Fin 8192, dhAt x6 x4 i.val d * (normAt x0 i.val d * x1 (ix2 (0 : Fin 1) d)) := by
  have e := fun i => ref_dh x4 x6 i d
  have e' := fun i => ref_norm x0 i d
  revert e e'
  unfold val_main_v38 val_main_v37 val_main_v34 val_main_v33 val_main_v32 val_main_v16 val_main_v15 val_main_v14 val_main_v0 val_main_cst_6 val_main_cst_7
  generalize val_main_v27 (F := Ideal) x4 x6 = y
  generalize val_main_v13 (F := Ideal) x0 = z
  intro e e'
  pointwise
  refine (only_cell _ d).trans ?_
  pointwise
  exact Finset.sum_congr rfl fun i _ => by rw [e, e', mul_comm]

theorem ref_gain (d : Fin 1024) :
    val_main_v61 (F := Ideal) x0 x2 x4 x6 (ix2 (0 : Fin 1) d)
      = ∑ i : Fin 8192, dhAt x6 x4 i.val d * (1 + x2 (ix2 (0 : Fin 1) d)) * normAt x0 i.val d := by
  have e := fun i => ref_scaled x2 x4 x6 i d
  have e' := fun i => ref_norm x0 i d
  revert e e'
  unfold val_main_v61 val_main_v44 val_main_v41 val_main_v40 val_main_v39 val_main_cst_8 val_main_cst_9
  generalize val_main_v36 (F := Ideal) x2 x4 x6 = y
  generalize val_main_v13 (F := Ideal) x0 = z
  intro e e'
  pointwise
  refine (only_cell _ d).trans ?_
  pointwise
  exact Finset.sum_congr rfl fun i _ => by rw [e, e', mul_comm]

/-- The eight rows of sums. -/
theorem ref_total (j : Fin 8) (d : Fin 1024) :
    val_main_v64 (F := Ideal) x0 x1 x2 x4 x6 (ix2 j d) = ∑ i ∈ Finset.range 8192, term x0 x1 x2 x4 x6 j d i := by
  have e0 := ref_shift x4 x6 d
  have e1 := ref_scale x0 x1 x4 x6 d
  have e2 := ref_gain x0 x2 x4 x6 d
  revert e0 e1 e2
  unfold val_main_v64 val_main_v63 val_main_cst_13
  generalize val_main_v31 (F := Ideal) x4 x6 = y0
  generalize val_main_v38 (F := Ideal) x0 x1 x4 x6 = y1
  generalize val_main_v61 (F := Ideal) x0 x2 x4 x6 = y2
  intro e0 e1 e2
  rw [← Fin.sum_univ_eq_sum_range (fun i => term x0 x1 x2 x4 x6 j d i), sum_term x0 x1 x2 x4 x6 j d fun i : Fin 8192 => i.val]
  fin_cases j
  · pointwise [e0]
  · pointwise [e1]
  · pointwise [e2]
  all_goals pointwise

/-! ## The gradient with respect to the rows -/

/-- The sum over a row's axes of length one is the entry. -/
theorem only_entry (x : S1x8192x1.Idx → EReal) (i : Fin 8192) :
    Ideal.hostReduceAdd reducesTo_S1x8192x1_S8192_d0_2 x 0 (ix1 i) = x (ix3 (0 : Fin 1) i (0 : Fin 1)) := by
  have d0 : ∀ y : S1x8192x1.Idx, (reducesTo_S1x8192x1_S8192_d0_2.drop y 0).val = (y 1).val := fun y =>
    Shape.ReducesTo.drop_apply_val_of_eq _ y 0 1
  refine Cert.Fox.only _ x _ _ (funext fun a => ?_) fun y e => funext fun a => ?_
  · match a with
    | 0 => exact Fin.ext (d0 _)
  · have e0 : (y 1).val = i.val := by rw [← d0 y, e]; rfl
    match a with
    | 0 => exact Fin.ext (by exact Nat.lt_one_iff.mp (y 0).isLt)
    | 1 => exact Fin.ext e0
    | 2 => exact Fin.ext (by exact Nat.lt_one_iff.mp (y 2).isLt)

theorem half_eq : Ideal.ofBits .f32 0xBF000000#32 = ((-0.5 : ℝ) : EReal) := by
  simp [Ideal.ofBits, Ideal.ieee]
  rw [← EReal.coe_mul]
  norm_num

theorem ref_slope (i : Fin 8192) {X : Fin 1024 → ℝ} (hx : ∀ e, x0 (ix3 (0 : Fin 1) i e) = ((X e : ℝ) : EReal)) :
    val_main_v11 (F := Ideal) x0 (ix3 (0 : Fin 1) i (0 : Fin 1)) = ((-0.5 * (rstd X / meanSq X) : ℝ) : EReal) := by
  have e := ref_rstd x0 i
  have e' := ref_mean x0 i
  revert e e'
  unfold val_main_v11 val_main_v10 val_main_v9 val_main_cst_2
  generalize val_main_v8 (F := Ideal) x0 = y
  generalize val_main_v7 (F := Ideal) x0 = z
  intro e e'
  pointwise
  rw [e, e']
  simp only [hx, meanE_coe, rsqrt_meanSq, half_eq]
  rw [Ideal.div_coe (meanSq_pos X).ne', ← EReal.coe_mul, ← EReal.coe_mul]
  congr 2
  ring

theorem ref_rows (i : Fin 8192) (d : Fin 1024) {X D : Fin 1024 → ℝ}
    (hx : ∀ e, x0 (ix3 (0 : Fin 1) i e) = ((X e : ℝ) : EReal))
    (hd : ∀ e, dhAt x6 x4 i.val e * (1 + x2 (ix2 (0 : Fin 1) e)) * x1 (ix2 (0 : Fin 1) e) = ((D e : ℝ) : EReal)) :
    val_main_v62 (F := Ideal) x0 x1 x2 x4 x5 x6 (ix2 i d) = x5 (ix3 (0 : Fin 1) i d) + ((grad X D d : ℝ) : EReal) := by
  have e := fun d => (ref_full x1 x2 x4 x6 i d).trans (hd d)
  have e8 := ref_rstd x0 i
  have e11 := ref_slope x0 i hx
  revert e e8 e11
  unfold val_main_v62 val_main_v60 val_main_v59 val_main_v58 val_main_v57 val_main_v56 val_main_v55 val_main_v54 val_main_v53 val_main_v52 val_main_v51 val_main_v50 val_main_v49 val_main_v48 val_main_v47 val_main_v46 val_main_v45 val_main_cst_10 val_main_cst_11 val_main_cst_12
  generalize val_main_v43 (F := Ideal) x1 x2 x4 x6 = y
  generalize val_main_v8 (F := Ideal) x0 = z
  generalize val_main_v11 (F := Ideal) x0 = w
  intro e e8 e11
  pointwise
  rw [only_entry]
  pointwise
  simp only [e, e8, e11, hx, meanE_coe, rsqrt_meanSq, k1024_eq, ← EReal.coe_mul, ← Cert.FG.coe_sum]
  rw [Ideal.div_coe (by norm_num), ← EReal.coe_mul, ← EReal.coe_mul, ← EReal.coe_mul, add_assoc, add_assoc, ← EReal.coe_add, ← EReal.coe_add,
    ← grad_eq X D d]
  congr 2
  ring

end Cert.Norm

end
-- ==== Proof.PreClaim.lean ====
/- The first norm's gradient against its reference: both leave the gradient of the residual stream's rows and the sums
   over the rows. -/
module

public import proofs.«01_k».proof.Defs
public import proofs.«01_k».proof.Proof.FgClaim
public import proofs.«01_k».proof.Proof.PreRef
public import proofs.«01_k».proof.Proof.Gen.Reference3Ideal.Run
public import proofs.«01_k».proof.Proof.Gen.Pre_pre_finite
public import Idealize.ShloMosaic.Lib.ReduceAll

@[expose] public section

set_option maxRecDepth 65536

noncomputable section

namespace Cert.Norm

open Cert.Kernel3Ideal Cert.Kernel3Ideal.Gen
open Idealize.ShloMosaic Idealize.SL.Sem Idealize.ShloMosaic.TcCoe

/-- The one index of an array without axes. -/
def nil0 : Shape.Idx (Cert.Pre_pre_finite.S_) := fun a => a.elim0

instance : Subsingleton (Shape.Idx Cert.Pre_pre_finite.S_) := ⟨fun a b => funext fun i => i.elim0⟩

variable {x0 : Vec Ideal S1x8192x1024 .f32} {x1 x2 x3 : Vec Ideal S1x1024 .f32} {x4 : Vec Ideal S1x1024x5384 .f32}
  {x5 : Vec Ideal S1x8192x1024 .f32} {x6 : Vec Ideal S1x8192x5384 .f32}

/-- Neither infinity. -/
def Real (x : EReal) : Prop := ∃ r : ℝ, x = ((r : ℝ) : EReal)

theorem Real.of {x : EReal} (h : x ≠ ⊤ ∧ x ≠ ⊥) : Real x := ⟨x.toReal, (EReal.coe_toReal h.1 h.2).symm⟩

theorem Real.mul {x y : EReal} : Real x → Real y → Real (x * y) := fun ⟨a, ha⟩ ⟨b, hb⟩ => ⟨a * b, by rw [ha, hb, EReal.coe_mul]⟩

theorem Real.add {x y : EReal} : Real x → Real y → Real (x + y) := fun ⟨a, ha⟩ ⟨b, hb⟩ => ⟨a + b, by rw [ha, hb, EReal.coe_add]⟩

theorem Real.sum {ι : Type} (s : Finset ι) {f : ι → EReal} (h : ∀ i, Real (f i)) : Real (∑ i ∈ s, f i) := by
  choose g hg using h
  exact ⟨∑ i ∈ s, g i, by rw [Cert.FG.coe_sum]; exact Finset.sum_congr rfl fun i _ => hg i⟩

theorem finite_of (h : Cert.Pre_pre_finite.fn (F := Ideal) x0 x1 x2 x3 x4 x5 x6 = fun _ => 1#1) :
    (∀ i, Real (x0 i)) ∧ (∀ i, Real (x1 i)) ∧ (∀ i, Real (x2 i)) ∧ (∀ i, Real (x4 i)) ∧ ∀ i, Real (x6 i) := by
  have hj := congrFun h nil0
  unfold Cert.Pre_pre_finite.fn Cert.Pre_pre_finite.fn_part1 at hj
  dsimp only at hj
  obtain ⟨hj, h6⟩ := IntOp.andi_eq_one.1 hj
  obtain ⟨hj, h4⟩ := IntOp.andi_eq_one.1 hj
  obtain ⟨hj, h2⟩ := IntOp.andi_eq_one.1 hj
  obtain ⟨h0, h1⟩ := IntOp.andi_eq_one.1 hj
  exact ⟨fun i => .of (Cert.FG.lt_inf (Host.reduce_andi_all _ _ _ _ _ h0 i)),
    fun i => .of (Cert.FG.lt_inf (Host.reduce_andi_all _ _ _ _ _ h1 i)),
    fun i => .of (Cert.FG.lt_inf (Host.reduce_andi_all _ _ _ _ _ h2 i)),
    fun i => .of (Cert.FG.lt_inf (Host.reduce_andi_all _ _ _ _ _ h4 i)),
    fun i => .of (Cert.FG.lt_inf (Host.reduce_andi_all _ _ _ _ _ h6 i))⟩

theorem real_dh (h4 : ∀ i, Real (x4 i)) (h6 : ∀ i, Real (x6 i)) (i : ℕ) (d : Fin 1024) : Real (dhAt x6 x4 i d) := by
  unfold dhAt dot
  refine Real.sum _ fun k => .mul ?_ ?_
  · unfold dpAt
    split
    · exact h6 _
    · exact ⟨0, rfl⟩
  · unfold wAt
    split
    · exact h4 _
    · exact ⟨0, rfl⟩

theorem congr6 {A B C D E G H : Type} (f : A → B → C → D → E → G → H) {a a' : A} {b b' : B} {c c' : C} {d d' : D} {e e' : E}
    {g g' : G} (ha : a = a') (hb : b = b') (hc : c = c') (hd : d = d') (he : e = e') (hg : g = g') :
    f a b c d e g = f a' b' c' d' e' g' := by
  subst ha hb hc hd he hg; rfl

section same

variable (m : (ℓ : Loc nD τ sig) → Buf (Elt Ideal) ℓ) (c : Dev nD)

theorem same_rows (h : Cert.Pre_pre_finite.fn (F := Ideal) (argX m c) (argG m c) (argS m c) x3 (argW m c) (argR m c) (argP m c) = fun _ => 1#1) :
    Cert.Reference3Ideal.Read.val_main_v62 (F := Ideal) (argX m c) (argG m c) (argS m c) (argW m c) (argR m c) (argP m c)
      = (dats m 0 c).arrAt 10 cfg0.N := by
  obtain ⟨h0, h1, h2, h4, h6⟩ := finite_of h
  funext j
  rw [ValueIdx.eq_ix2 j]
  generalize j 0 = i
  generalize j 1 = d
  choose X hX using fun e : Fin 1024 => h0 (ix3 (0 : Fin 1) i e)
  choose D hD using fun e : Fin 1024 => ((real_dh h4 h6 i.val e).mul (Real.add ⟨1, rfl⟩ (h2 (ix2 (0 : Fin 1) e)))).mul (h1 (ix2 (0 : Fin 1) e))
  exact (ref_rows _ _ _ _ _ _ i d hX hD).trans (rows_after m c i d hX hD).symm

theorem same_total :
    Cert.Reference3Ideal.Read.val_main_v64 (F := Ideal) (argX m c) (argG m c) (argS m c) (argW m c) (argP m c)
      = (dats m 0 c).arrAt 11 cfg0.N := by
  funext j
  rw [ValueIdx.eq_ix2 j]
  exact (ref_total _ _ _ _ _ _ _).trans (total_after m c _ _).symm

end same

set_option maxHeartbeats 2000000 in
open Cert.Reference3Ideal.Read in
theorem algebraic : Cert.algebraic_Kernel3Ideal_Reference3Ideal_pre_pre_finite := by
  intro m g m' g' hpre hagree
  refine ⟨_, _, (θ_run Cert.Kernel3Ideal.defs _ _).mono (fun r h c => h c) (Cert.Kernel3Ideal.Value.run_blocks m g), ?_⟩
  refine (θ_run Cert.Reference3Ideal.defs _ _).mono (fun r h c => ?_) (Cert.Reference3Ideal.Value.run (F := Ideal) m' g')
  obtain ⟨h62, h64, hargs⟩ := h c
  obtain ⟨a0, a1, a2, a3, a4, a5, a6⟩ := hagree c
  refine ⟨h62.trans ?_, h64.trans ?_, hargs⟩
  · exact (val_main_v62_eq m' c).trans ((congr6 (val_main_v62 (F := Ideal)) a0 a1 a2 a4 a5 a6).trans (same_rows m c (hpre c)))
  · exact (val_main_v64_eq _ _ _ _ _).trans ((congr6 (fun a b c d _ e => val_main_v64 (F := Ideal) a b c d e) a0 a1 a2 a4 a5 a6).trans (same_total m c))

/-- The reference's run read at its arguments; it declares no semaphore. -/
theorem frame_r : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

end Cert.Norm

end
-- ==== Proof.PostParts.lean ====
/- What one grid point of the gates, merge, norm and loss launch leaves in its eleven output blocks, as functions of the
   point's input blocks and of what the point before left in the sums. -/
module

public import proofs.«01_k».proof.Proof.Gen.Kernel5Ideal.Skeleton
public import Idealize.ShloMosaic.Lib.WritesUnit
public import Idealize.ShloMosaic.Lib.VecWindow
public import Idealize.ShloMosaic.Lib.Pointwise

@[expose] public section

set_option maxRecDepth 65536

noncomputable section

namespace Cert.Post

open Cert.Kernel5Ideal Cert.Kernel5Ideal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

theorem inb_row (k : Fin 8) : ∀ a, (![k.val, 0] : Fin 2 → Nat) a + S1x1024.size a ≤ S8x1024.size a := fun a => by
  match a with
  | ⟨0, _⟩ => show k.val + 1 ≤ 8; omega
  | ⟨1, _⟩ => show 0 + 1024 ≤ 1024; omega

/-- Row `k` of an 8-row array. -/
def rowOf (k : Fin 8) (x : Vec F S8x1024 .f32) : Vec F S1x1024 .f32 :=
  View.ld x (Rect.unit (s := S8x1024) ![k.val, 0] S1x1024.size (inb_row k))

/-- The 8-row array with row `k` replaced. -/
def setRow (k : Fin 8) (w : Vec F S1x1024 .f32) (x : Vec F S8x1024 .f32) : Vec F S8x1024 .f32 :=
  fun y => if (y 0).val = k.val then w (ix2 (0 : Fin 1) (⟨(y 1).val, (y 1).isLt⟩ : Fin 1024)) else x y

/-- A store of row `k` over an array is `setRow k`. -/
theorem read_setRow (k : Fin 8) (v : View sig .tc .vmem S8x1024 .f32) (f : v.ty.Contents (Elt F)) (w : Vec F S1x1024 .f32)
    (h : ∀ a, (![k.val, 0] : Fin 2 → Nat) a + S1x1024.size a ≤ S8x1024.size a)
    (L : List (View.Piece (Elt F) S8x1024 .f32)) (x : Vec F S8x1024 .f32)
    (hx : v.read (Elt F) (v.writes (Elt F) f L) = x) :
    v.read (Elt F) (v.writes (Elt F) f
      (⟨Rect.unit (s := S8x1024) ![k.val, 0] S1x1024.size h, w⟩ :: L)) = setRow k w x := by
  funext y
  unfold setRow
  by_cases hk : (y 0).val = k.val
  · rw [if_pos hk]
    exact View.read_writes_cons_rows_of_mem (o := k.val) v f h w L y _ rfl (by rw [hk]; rfl) rfl
  · rw [if_neg hk, View.read_writes_cons_rows_of_not_mem (o := k.val) (W := 1) v f h w L y rfl rfl (by omega), hx]

/-- The rows the stores of the other rows leave. -/
theorem rowOf_setRow (j k : Fin 8) (hjk : j ≠ k) (w : Vec F S1x1024 .f32) (x : Vec F S8x1024 .f32) :
    rowOf j (setRow k w x) = rowOf j x := by
  funext y
  unfold rowOf View.ld setRow
  refine if_neg fun e => hjk (Fin.ext ?_)
  have h0 : (y 0).val < 1 := (y 0).isLt
  change j.val + 1 * (y 0).val = k.val at e
  omega

/-- A row read back after stores that leave `x`. -/
theorem cov_row (k : Fin 8) (v : View sig .tc .vmem S8x1024 .f32) (h : ∀ a, (![k.val, 0] : Fin 2 → Nat) a + S1x1024.size a ≤ S8x1024.size a)
    (L : List (View.Piece (Elt F) S8x1024 .f32)) (x : Vec F S8x1024 .f32) (hx : v.read (Elt F) (v.writes (Elt F) v.junk L) = x) :
    v.readCov L (Rect.unit (s := S8x1024) ![k.val, 0] S1x1024.size h).toLoadRect = rowOf k x := by
  unfold View.readCov
  rw [View.readAt_eq_ld, hx]
  rfl

section cov

variable (v : View sig .tc .vmem S8x1024 .f32) (w1 w2 : Vec F S1x1024 .f32) (z : Vec F S8x1024 .f32)

theorem cov2 : v.readCov (Val := Elt F) [⟨Rect.unit (s := S8x1024) ![0, 0] ![8, 1024] inb_S8x1024_S8x1024_0_0, z⟩]
    (Rect.unit (s := S8x1024) ![2, 0] ![1, 1024] inb_S8x1024_S1x1024_2_0).toLoadRect = rowOf 2 z :=
  cov_row 2 v inb_S8x1024_S1x1024_2_0 _ _ (View.read_writes_full _ _ _ _ [])

theorem cov1 : v.readCov (Val := Elt F) [⟨Rect.unit (s := S8x1024) ![2, 0] ![1, 1024] inb_S8x1024_S1x1024_2_0, w2⟩,
      ⟨Rect.unit (s := S8x1024) ![0, 0] ![8, 1024] inb_S8x1024_S8x1024_0_0, z⟩]
    (Rect.unit (s := S8x1024) ![1, 0] ![1, 1024] inb_S8x1024_S1x1024_1_0).toLoadRect = rowOf 1 z :=
  (cov_row 1 v inb_S8x1024_S1x1024_1_0 _ _ (read_setRow 2 _ _ _ _ _ _ (View.read_writes_full _ _ _ _ []))).trans
    (rowOf_setRow 1 2 (by decide) _ _)

theorem cov0 : v.readCov (Val := Elt F) [⟨Rect.unit (s := S8x1024) ![1, 0] ![1, 1024] inb_S8x1024_S1x1024_1_0, w1⟩,
      ⟨Rect.unit (s := S8x1024) ![2, 0] ![1, 1024] inb_S8x1024_S1x1024_2_0, w2⟩,
      ⟨Rect.unit (s := S8x1024) ![0, 0] ![8, 1024] inb_S8x1024_S8x1024_0_0, z⟩]
    (Rect.unit (s := S8x1024) ![0, 0] ![1, 1024] inb_S8x1024_S1x1024_0_0).toLoadRect = rowOf 0 z :=
  (cov_row 0 v inb_S8x1024_S1x1024_0_0 _ _ (read_setRow 1 _ _ _ _ _ _ (read_setRow 2 _ _ _ _ _ _
    (View.read_writes_full _ _ _ _ [])))).trans
    ((rowOf_setRow 0 1 (by decide) _ _).trans (rowOf_setRow 0 2 (by decide) _ _))

end cov

/-- The array of 256 rows with the columns from `o` on replaced by those of `w`. -/
def setCols {n N : ℕ} {e : EltTy} (o : ℕ) (w : Vec F ⟨2, ![256, n]⟩ e) (x : Vec F ⟨2, ![256, N]⟩ e) : Vec F ⟨2, ![256, N]⟩ e :=
  fun y => if h : o ≤ (y 1).val ∧ (y 1).val < o + n then
    w (ix2 (⟨(y 0).val, (y 0).isLt⟩ : Fin 256) (⟨(y 1).val - o, by omega⟩ : Fin n)) else x y

/-- A store of whole columns is `setCols`. -/
theorem read_setCols {n N : ℕ} {e : EltTy} (o : ℕ) (v : View sig .tc .vmem ⟨2, ![256, N]⟩ e) (f : v.ty.Contents (Elt F))
    (w : Vec F ⟨2, ![256, n]⟩ e) (h : ∀ a, (![0, o] : Fin 2 → Nat) a + (![256, n] : Fin 2 → Nat) a ≤ (![256, N] : Fin 2 → Nat) a)
    (L : List (View.Piece (Elt F) ⟨2, ![256, N]⟩ e)) (x : Vec F ⟨2, ![256, N]⟩ e)
    (hx : v.read (Elt F) (v.writes (Elt F) f L) = x) :
    v.read (Elt F) (v.writes (Elt F) f
      (⟨Rect.unit (s := ⟨2, ![256, N]⟩) ![0, o] ![256, n] h, w⟩ :: L)) = setCols o w x := by
  funext y
  unfold setCols
  by_cases hk : o ≤ (y 1).val ∧ (y 1).val < o + n
  · rw [dif_pos hk]
    refine View.read_writes_cons_unit_of_mem v f h w L y _ rfl fun a => ?_
    match a with
    | ⟨0, _⟩ => exact (Nat.zero_add _).symm
    | ⟨1, _⟩ => show (y 1).val = o + ((y 1).val - o); omega
  · rw [dif_neg hk, View.read_writes_cons_unit_of_not_mem v f h w L y rfl 1 (by
      show (y 1).val < o ∨ o + n ≤ (y 1).val; omega), hx]

/-- The point's input blocks. -/
structure Blocks (F : FTy → Type) [FloatOps F] where
  x : Vec F S256x1024 .f32
  t : Vec F S256x1024 .f32
  attA : Vec F S256x512 .f32
  attB : Vec F S256x512 .f32
  zA : Vec F S256x512 .f32
  zB : Vec F S256x512 .f32
  gA : Vec F S256x1024 .f32
  gB : Vec F S256x1024 .f32
  wa : Vec F S1024x512 .bf16
  wb : Vec F S1024x512 .bf16
  wo : Vec F S1024x1024 .bf16
  vec : Vec F S8x1024 .f32
  ind : Vec F S512x128 .bf16
  emat : Vec F S384x1024 .bf16

section blocks

variable (I : Blocks F)

/-- The two branches' outputs weighted by the merge gates. -/
def mergedB : FVec F S256x1024 .bf16 :=
  k0_pay24 (k0_pay13 I.attA I.zA I.wa) (k0_pay14 I.attB) (k0_pay15 I.zB) (k0_pay16 I.zB) (Scalar.ofBits .f32 0x3F000000#32) I.wb I.gA I.gB

def gateB : FVec F S1x1024 .f32 := k0_pay5 (rowOf 0 I.vec)

def gainB : FVec F S1x1024 .f32 := k0_pay6 (rowOf 1 I.vec)

def outB : FVec F S256x1024 .f32 := k0_pay27 (mergedB I) (k0_pay26 I.wo)

def rstdB : FVec F S256x1 .f32 := k0_pay29 (gateB I) (mergedB I) (k0_pay26 I.wo) I.x

def normedB : FVec F S256x1024 .f32 := k0_pay30 (gateB I) (mergedB I) (k0_pay26 I.wo) I.x

def dyB : FVec F S256x1024 .f32 := k0_pay33 (gateB I) (gainB I) (mergedB I) (k0_pay26 I.wo) I.x I.t

/-- The gradient with respect to the residual stream. -/
def dxB : FVec F S256x1024 .f32 := k0_pay35 (gainB I) (rstdB I) (normedB I) (dyB I)

def dOutB : FVec F S256x1024 .bf16 := k0_pay37 (gateB I) (gainB I) (rstdB I) (normedB I) (dyB I)

def dMergedB : FVec F S256x1024 .f32 := k0_pay38 (gateB I) (gainB I) (rstdB I) (normedB I) (dyB I) I.wo

/-- The sums after the block: rows 0, 1 and 2 gain the block's column sums. -/
def accB (a : Vec F S8x1024 .f32) : Vec F S8x1024 .f32 :=
  setRow 0 (k0_pay36 (gainB I) (outB I) (rstdB I) (normedB I) (dyB I) (rowOf 0 a))
    (setRow 1 (k0_pay34 (gateB I) (gainB I) (mergedB I) (k0_pay26 I.wo) I.x I.t (rowOf 1 a))
      (setRow 2 (k0_pay32 (gateB I) (gainB I) (mergedB I) (k0_pay26 I.wo) I.x I.t (rowOf 2 a)) a))

/-- The cotangents of the branches' outputs. -/
def dyaB : FVec F S256x1024 .bf16 := k0_pay64 (k0_pay22 I.gA) (dMergedB I)

def dybB : FVec F S256x1024 .bf16 := k0_pay64 (k0_pay22 I.gB) (dMergedB I)

end blocks

/-- A branch's attention output's cotangent. -/
def dAttB (z : Vec F S256x512 .f32) (g : Vec F S256x1024 .bf16) (w : Vec F S1024x512 .bf16) : FVec F S256x512 .f32 := k0_pay45 (k0_pay10 z) g w

/-- The cotangent with the heads' sums: 128 columns per head. -/
def augB (att dA : FVec F S256x512 .f32) (ind : Vec F S512x128 .bf16) (emat : Vec F S384x1024 .bf16) (base : Vec F S256x1024 .bf16) :
    Vec F S256x1024 .bf16 :=
  setCols (n := 128) (N := 1024) 896 (k0_pay3 k0_pay39 dA (k0_pay70 att dA ind emat))
    (setCols (n := 128) (N := 1024) 768 (k0_pay2 k0_pay39 dA (k0_pay70 att dA ind emat))
    (setCols (n := 128) (N := 1024) 640 (k0_pay81 k0_pay39 dA (k0_pay70 att dA ind emat))
    (setCols (n := 128) (N := 1024) 512 (k0_pay80 k0_pay39 dA (k0_pay70 att dA ind emat))
    (setCols (n := 128) (N := 1024) 384 (k0_pay78 k0_pay39 dA (k0_pay70 att dA ind emat))
    (setCols (n := 128) (N := 1024) 256 (k0_pay77 k0_pay39 dA (k0_pay70 att dA ind emat))
    (setCols (n := 128) (N := 1024) 128 (k0_pay75 k0_pay39 (k0_pay70 att dA ind emat) (k0_pay71 dA))
    (setCols (n := 128) (N := 1024) 0 (k0_pay74 (k0_pay71 dA) (k0_pay72 att dA ind emat) (k0_pay73 k0_pay39)) base)))))))

/-- The gates' cotangents side by side. -/
def gatesB (I : Blocks F) (base : Vec F S256x3072 .bf16) : Vec F S256x3072 .bf16 :=
  setCols (n := 512) (N := 3072) 512 (k0_pay46 (k0_pay7 I.attB) (k0_pay8 I.zB) (k0_pay9 I.zB) (dybB I) I.wb)
    (setCols (n := 1024) (N := 3072) 2048 (k0_pay65 (k0_pay13 I.attB I.zB I.wb) (k0_pay22 I.gB) (dMergedB I))
    (setCols (n := 512) (N := 3072) 0 (k0_pay46 (k0_pay7 I.attA) (k0_pay8 I.zA) (k0_pay9 I.zA) (dyaB I) I.wa)
    (setCols (n := 1024) (N := 3072) 1024 (k0_pay65 (k0_pay13 I.attA I.zA I.wa) (k0_pay22 I.gA) (dMergedB I)) base)))

end Cert.Post

end
-- ==== Proof.PostMath.lean ====
/- The real arithmetic of the gates, the merge, the second norm and the loss with their gradients, for one token. -/
module

public import proofs.«01_k».proof.Proof.PreRows

@[expose] public section

noncomputable section

namespace Cert.Post

open Idealize.ShloMosaic

/-- The weights: both branches' output projections, the merge's projection, the residual's gate, the second norm's gain. -/
structure Weights where
  a : Fin 512 → Fin 1024 → ℝ
  b : Fin 512 → Fin 1024 → ℝ
  o : Fin 1024 → Fin 1024 → ℝ
  gate : Fin 1024 → ℝ
  gain : Fin 1024 → ℝ

/-- One token: the residual stream, the target, both branches' attention outputs and their gates before the sigmoid, both
    merge gates after it. -/
structure Token where
  x : Fin 1024 → ℝ
  t : Fin 1024 → ℝ
  attA : Fin 512 → ℝ
  attB : Fin 512 → ℝ
  zA : Fin 512 → ℝ
  zB : Fin 512 → ℝ
  sA : Fin 1024 → ℝ
  sB : Fin 1024 → ℝ

def sigR (z : ℝ) : ℝ := (1 + Real.exp (-z))⁻¹

def silu (z : ℝ) : ℝ := z * sigR z

/-- A branch's gated attention output. -/
def gated (att z : Fin 512 → ℝ) (k : Fin 512) : ℝ := att k * silu (z k)

/-- A branch's output. -/
def proj (w : Fin 512 → Fin 1024 → ℝ) (u : Fin 512 → ℝ) (d : Fin 1024) : ℝ := ∑ k, u k * w k d

section token

variable (W : Weights) (T : Token)

def yA (d : Fin 1024) : ℝ := proj W.a (gated T.attA T.zA) d

def yB (d : Fin 1024) : ℝ := proj W.b (gated T.attB T.zB) d

def merged (d : Fin 1024) : ℝ := T.sA d * yA W T d + T.sB d * yB W T d

def out (d : Fin 1024) : ℝ := ∑ e, merged W T e * W.o e d

/-- The residual stream after the block. -/
def resid (d : Fin 1024) : ℝ := T.x d + W.gate d * out W T d

def normed (d : Fin 1024) : ℝ := resid W T d * Norm.rstd (resid W T)

def diff (d : Fin 1024) : ℝ := normed W T d * W.gain d - T.t d

/-- The loss' gradient with respect to the second norm's output. -/
def dy (d : Fin 1024) : ℝ := diff W T d * (1 / 1024)

/-- The gradient with respect to the residual stream. -/
def dx (d : Fin 1024) : ℝ := Norm.grad (resid W T) (fun e => dy W T e * W.gain e) d

def dOut (d : Fin 1024) : ℝ := dx W T d * W.gate d

def dMerged (e : Fin 1024) : ℝ := ∑ d, dOut W T d * W.o e d

end token

/-- A branch's gradients, from the cotangent `g` of its gated output `g · s`, `y` the output and `s` the merge gate. -/
def dGate (s y g : Fin 1024 → ℝ) (d : Fin 1024) : ℝ := g d * y d * s d * (1 - s d)

def dU (w : Fin 512 → Fin 1024 → ℝ) (s g : Fin 1024 → ℝ) (k : Fin 512) : ℝ := ∑ d, g d * s d * w k d

def dAtt (w : Fin 512 → Fin 1024 → ℝ) (s g : Fin 1024 → ℝ) (z : Fin 512 → ℝ) (k : Fin 512) : ℝ := dU w s g k * silu (z k)

def dZ (w : Fin 512 → Fin 1024 → ℝ) (s g : Fin 1024 → ℝ) (att z : Fin 512 → ℝ) (k : Fin 512) : ℝ :=
  dU w s g k * att k * (sigR (z k) * (1 + z k * (1 - sigR (z k))))

/-- Less the sum over head `h` of the attention output times its cotangent. -/
def minus (dA att : Fin 512 → ℝ) (h : Fin 8) : ℝ :=
  -∑ j : Fin 64, dA ⟨64 * h.val + j.val, by omega⟩ * att ⟨64 * h.val + j.val, by omega⟩

/-- The attention output's cotangent with, per head, the head's 64 columns, less the head's sum and 63 zeros. -/
def augmented (dA att : Fin 512 → ℝ) (n : Fin 1024) : ℝ :=
  if n.val % 128 < 64 then dA ⟨64 * (n.val / 128) + n.val % 128 % 64, by omega⟩
  else if n.val % 128 = 64 then minus dA att ⟨n.val / 128, by omega⟩ else 0

theorem sig_tanh (z : ℝ) : 0.5 * Real.tanh (0.5 * z) + 0.5 = sigR z := by
  unfold sigR
  rw [Real.tanh_eq_sinh_div_cosh, Real.sinh_eq, Real.cosh_eq]
  have e1 : Real.exp (0.5 * z) * Real.exp (-(0.5 * z)) = 1 := by rw [← Real.exp_add]; simp
  have e2 : Real.exp (-z) = Real.exp (-(0.5 * z)) * Real.exp (-(0.5 * z)) := by rw [← Real.exp_add]; congr 1; ring
  rw [e2]
  have p := Real.exp_pos (0.5 * z)
  have q := Real.exp_pos (-(0.5 * z))
  generalize Real.exp (0.5 * z) = a at *
  generalize Real.exp (-(0.5 * z)) = b at *
  have hs : a + b ≠ 0 := by positivity
  have hb : 1 + b * b ≠ 0 := by positivity
  field_simp
  nlinarith [e1]

theorem k_half : Ideal.ofBits .f32 0x3F000000#32 = ((0.5 : ℝ) : EReal) := by
  simp [Ideal.ofBits, Ideal.ieee]
  rw [← EReal.coe_mul]
  norm_num

theorem k_one : Ideal.ofBits .f32 0x3F800000#32 = ((1 : ℝ) : EReal) := by
  simp [Ideal.ofBits, Ideal.ieee]
  rw [← EReal.coe_mul]
  norm_num

theorem k_two : Ideal.ofBits .f32 0x40000000#32 = ((2 : ℝ) : EReal) := by
  simp [Ideal.ofBits, Ideal.ieee]
  rw [← EReal.coe_mul]
  norm_num

theorem k_1024th : Ideal.ofBits .f32 0x3A800000#32 = ((1 / 1024 : ℝ) : EReal) := by
  simp [Ideal.ofBits, Ideal.ieee]
  rw [← EReal.coe_mul]
  norm_num

theorem k_2048th : Ideal.ofBits .f32 0x3A000000#32 = ((1 / 2048 : ℝ) : EReal) := by
  simp [Ideal.ofBits, Ideal.ieee]
  rw [← EReal.coe_mul]
  norm_num

/-- The sigmoid as the programs write it: through the hyperbolic tangent, and through the exponential. -/
def sigT (z : EReal) : EReal := Ideal.ofBits .f32 0x3F000000#32 * Ideal.tanh (Ideal.ofBits .f32 0x3F000000#32 * z) + Ideal.ofBits .f32 0x3F000000#32

def sigE (z : EReal) : EReal := Ideal.div (Ideal.ofBits .f32 0x3F800000#32) (Ideal.ofBits .f32 0x3F800000#32 + Ideal.exp (-z))

theorem sigT_coe (z : ℝ) : sigT ((z : ℝ) : EReal) = ((sigR z : ℝ) : EReal) := by
  unfold sigT
  rw [k_half, ← EReal.coe_mul, Ideal.tanh_coe, ← EReal.coe_mul, ← EReal.coe_add, sig_tanh]

theorem sigE_coe (z : ℝ) : sigE ((z : ℝ) : EReal) = ((sigR z : ℝ) : EReal) := by
  unfold sigE
  rw [k_one, ← EReal.coe_neg, Ideal.exp_coe, ← EReal.coe_add, Ideal.div_coe (by positivity), ← EReal.coe_mul]
  unfold sigR
  congr 1
  ring

/-- At every extended real the two sigmoids are the same real. -/
theorem sig_real (z : EReal) : ∃ s : ℝ, sigT z = ((s : ℝ) : EReal) ∧ sigE z = ((s : ℝ) : EReal) := by
  induction z with
  | coe z => exact ⟨sigR z, sigT_coe z, sigE_coe z⟩
  | top =>
    refine ⟨1, ?_, ?_⟩
    · unfold sigT
      rw [k_half, EReal.coe_mul_top_of_pos (by norm_num)]
      show _ * ((1 : ℝ) : EReal) + _ = _
      rw [← EReal.coe_mul, ← EReal.coe_add]
      norm_num
    · unfold sigE
      rw [k_one, EReal.neg_top, Ideal.exp_bot, add_zero, Ideal.div_coe (by norm_num), ← EReal.coe_mul]
      norm_num
  | bot =>
    refine ⟨0, ?_, ?_⟩
    · unfold sigT
      rw [k_half, EReal.coe_mul_bot_of_pos (by norm_num)]
      show _ * ((-1 : ℝ) : EReal) + _ = _
      rw [← EReal.coe_mul, ← EReal.coe_add]
      norm_num
    · unfold sigE
      rw [k_one, EReal.neg_bot, Ideal.exp_top, EReal.coe_add_top]
      simp [Ideal.div]

end Cert.Post

end
-- ==== Proof.PostRows.lean ====
/- One grid point of the gates, merge, norm and loss launch, entry by entry: each block it computes holds the real numbers
   of PostMath when its input blocks hold real numbers. -/
module

public import proofs.«01_k».proof.Proof.PostParts
public import proofs.«01_k».proof.Proof.PostMath
public import Idealize.ShloMosaic.Lib.KernelVsHost

@[expose] public section

set_option maxRecDepth 65536

noncomputable section

namespace Cert.Post

open Cert.Kernel5Ideal Cert.Kernel5Ideal.Gen Idealize.ShloMosaic Idealize.ShloMosaic.TcCoe

/-! ## A branch -/

theorem sig_apply (z : Vec Ideal S256x512 .f32) (r : Fin 256) (k : Fin 512) : k0_pay9 z (ix2 r k) = sigT (z (ix2 r k)) := by
  unfold k0_pay9 k0_pay8 sigT
  pointwise

theorem gateA_apply (z : Vec Ideal S256x1024 .f32) (r : Fin 256) (d : Fin 1024) : k0_pay22 z (ix2 r d) = sigT (z (ix2 r d)) := by
  unfold k0_pay22 sigT
  pointwise

section branch

variable {att z : Vec Ideal S256x512 .f32} {r : Fin 256} {a ζ : Fin 512 → ℝ} {w : Vec Ideal S1024x512 .bf16}
  {v : Fin 512 → Fin 1024 → ℝ}

theorem silu_apply (hz : ∀ k, z (ix2 r k) = ((ζ k : ℝ) : EReal)) (k : Fin 512) : k0_pay10 z (ix2 r k) = ((silu (ζ k) : ℝ) : EReal) := by
  have e := sig_apply z r k
  revert e
  unfold k0_pay10 k0_pay8
  generalize k0_pay9 z = y
  intro e
  pointwise
  rw [e, hz, sigT_coe, ← EReal.coe_mul]
  rfl

theorem gated_apply (ha : ∀ k, att (ix2 r k) = ((a k : ℝ) : EReal)) (hz : ∀ k, z (ix2 r k) = ((ζ k : ℝ) : EReal)) (k : Fin 512) :
    k0_pay11 att z (ix2 r k) = ((gated a ζ k : ℝ) : EReal) := by
  have e := silu_apply hz k
  revert e
  unfold k0_pay11 k0_pay7
  generalize k0_pay10 z = y
  intro e
  pointwise
  rw [e, ha, ← EReal.coe_mul]
  rfl

theorem proj_apply (ha : ∀ k, att (ix2 r k) = ((a k : ℝ) : EReal)) (hz : ∀ k, z (ix2 r k) = ((ζ k : ℝ) : EReal))
    (hw : ∀ d k, w (ix2 d k) = ((v k d : ℝ) : EReal)) (d : Fin 1024) :
    k0_pay13 att z w (ix2 r d) = ((proj v (gated a ζ) d : ℝ) : EReal) := by
  have e := gated_apply ha hz
  revert e
  unfold k0_pay13
  generalize k0_pay11 att z = y
  intro e
  pointwise
  simp only [e, hw, ← EReal.coe_mul, ← Cert.FG.coe_sum]
  rfl

variable {g : Vec Ideal S256x1024 .bf16} {γ : Fin 1024 → ℝ}

theorem dU_apply (hg : ∀ d, g (ix2 r d) = ((γ d : ℝ) : EReal)) (hw : ∀ d k, w (ix2 d k) = ((v k d : ℝ) : EReal)) (k : Fin 512) :
    k0_pay44 g w (ix2 r k) = ((∑ d, γ d * v k d : ℝ) : EReal) := by
  unfold k0_pay44
  pointwise
  simp only [hg, hw, ← EReal.coe_mul, ← Cert.FG.coe_sum]

theorem dAtt_apply (hz : ∀ k, z (ix2 r k) = ((ζ k : ℝ) : EReal)) (hg : ∀ d, g (ix2 r d) = ((γ d : ℝ) : EReal))
    (hw : ∀ d k, w (ix2 d k) = ((v k d : ℝ) : EReal)) (k : Fin 512) :
    dAttB z g w (ix2 r k) = (((∑ d, γ d * v k d) * silu (ζ k) : ℝ) : EReal) := by
  have e := dU_apply hg hw k
  have e' := silu_apply hz k
  revert e e'
  unfold dAttB k0_pay45
  generalize k0_pay44 g w = y
  generalize k0_pay10 z = y'
  intro e e'
  pointwise
  rw [e, e', ← EReal.coe_mul]

theorem dZ_apply (ha : ∀ k, att (ix2 r k) = ((a k : ℝ) : EReal)) (hz : ∀ k, z (ix2 r k) = ((ζ k : ℝ) : EReal))
    (hg : ∀ d, g (ix2 r d) = ((γ d : ℝ) : EReal)) (hw : ∀ d k, w (ix2 d k) = ((v k d : ℝ) : EReal)) (k : Fin 512) :
    k0_pay46 (k0_pay7 att) (k0_pay8 z) (k0_pay9 z) g w (ix2 r k)
      = (((∑ d, γ d * v k d) * a k * (sigR (ζ k) * (1 + ζ k * (1 - sigR (ζ k)))) : ℝ) : EReal) := by
  have e := dU_apply hg hw k
  have e' := sig_apply z r k
  revert e e'
  unfold k0_pay46 k0_pay7 k0_pay8
  generalize k0_pay44 g w = y
  generalize k0_pay9 z = y'
  intro e e'
  pointwise
  simp only [e, e', ha, hz, sigT_coe, k_one, ← EReal.coe_mul, ← EReal.coe_add, ← EReal.coe_sub]
  try norm_cast

end branch

section gate

variable {r : Fin 256} {s g : Vec Ideal S256x1024 .f32} {y : Vec Ideal S256x1024 .f32} {σ γ υ : Fin 1024 → ℝ}

theorem dy_apply (hs : ∀ d, s (ix2 r d) = ((σ d : ℝ) : EReal)) (hg : ∀ d, g (ix2 r d) = ((γ d : ℝ) : EReal)) (d : Fin 1024) :
    k0_pay64 (F := Ideal) s g (ix2 r d) = ((γ d * σ d : ℝ) : EReal) := by
  unfold k0_pay64
  pointwise
  rw [hs, hg, ← EReal.coe_mul]

theorem dGate_apply (hy : ∀ d, y (ix2 r d) = ((υ d : ℝ) : EReal)) (hs : ∀ d, s (ix2 r d) = ((σ d : ℝ) : EReal))
    (hg : ∀ d, g (ix2 r d) = ((γ d : ℝ) : EReal)) (d : Fin 1024) :
    k0_pay65 (F := Ideal) y s g (ix2 r d) = ((dGate σ υ γ d : ℝ) : EReal) := by
  unfold k0_pay65
  pointwise
  simp only [hs, hg, hy, k_one, ← EReal.coe_mul, ← EReal.coe_sub]
  try norm_cast

end gate

/-! ## The token's rows -/

/-- The input blocks hold the weights' and the tokens' real numbers. -/
structure Holds (I : Blocks Ideal) (W : Weights) (T : Fin 256 → Token) : Prop where
  x : ∀ r d, I.x (ix2 r d) = (((T r).x d : ℝ) : EReal)
  t : ∀ r d, I.t (ix2 r d) = (((T r).t d : ℝ) : EReal)
  attA : ∀ r k, I.attA (ix2 r k) = (((T r).attA k : ℝ) : EReal)
  attB : ∀ r k, I.attB (ix2 r k) = (((T r).attB k : ℝ) : EReal)
  zA : ∀ r k, I.zA (ix2 r k) = (((T r).zA k : ℝ) : EReal)
  zB : ∀ r k, I.zB (ix2 r k) = (((T r).zB k : ℝ) : EReal)
  sA : ∀ r d, sigT (I.gA (ix2 r d)) = (((T r).sA d : ℝ) : EReal)
  sB : ∀ r d, sigT (I.gB (ix2 r d)) = (((T r).sB d : ℝ) : EReal)
  wa : ∀ d k, I.wa (ix2 d k) = ((W.a k d : ℝ) : EReal)
  wb : ∀ d k, I.wb (ix2 d k) = ((W.b k d : ℝ) : EReal)
  wo : ∀ e d, I.wo (ix2 e d) = ((W.o e d : ℝ) : EReal)
  gate : ∀ d, I.vec (ix2 (0 : Fin 8) d) = ((W.gate d : ℝ) : EReal)
  gain : ∀ d, I.vec (ix2 (1 : Fin 8) d) = ((W.gain d : ℝ) : EReal)

theorem rowOf_apply (k : Fin 8) (x : Vec Ideal S8x1024 .f32) (d : Fin 1024) :
    rowOf k x (ix2 (0 : Fin 1) d) = x (ix2 k d) := by
  unfold rowOf
  pointwise

theorem setRow_apply (k j : Fin 8) (w : Vec Ideal S1x1024 .f32) (x : Vec Ideal S8x1024 .f32) (d : Fin 1024) :
    setRow k w x (ix2 j d) = if j.val = k.val then w (ix2 (0 : Fin 1) d) else x (ix2 j d) := rfl

section rows

variable {I : Blocks Ideal} {W : Weights} {T : Fin 256 → Token} (H : Holds I W T)
include H

theorem gateB_apply (d : Fin 1024) : gateB I (ix2 (0 : Fin 1) d) = ((W.gate d : ℝ) : EReal) := by
  unfold gateB k0_pay5
  pointwise [rowOf_apply, H.gate]

theorem gainB_apply (d : Fin 1024) : gainB I (ix2 (0 : Fin 1) d) = ((W.gain d : ℝ) : EReal) := by
  unfold gainB k0_pay6
  pointwise [rowOf_apply, H.gain]

theorem yA_apply (r : Fin 256) (d : Fin 1024) : k0_pay13 I.attA I.zA I.wa (ix2 r d) = ((yA W (T r) d : ℝ) : EReal) :=
  proj_apply (H.attA r) (H.zA r) H.wa d

theorem yB_apply (r : Fin 256) (d : Fin 1024) : k0_pay13 I.attB I.zB I.wb (ix2 r d) = ((yB W (T r) d : ℝ) : EReal) :=
  proj_apply (H.attB r) (H.zB r) H.wb d

theorem sA_apply (r : Fin 256) (d : Fin 1024) : k0_pay22 I.gA (ix2 r d) = (((T r).sA d : ℝ) : EReal) :=
  (gateA_apply _ r d).trans (H.sA r d)

theorem sB_apply (r : Fin 256) (d : Fin 1024) : k0_pay22 I.gB (ix2 r d) = (((T r).sB d : ℝ) : EReal) :=
  (gateA_apply _ r d).trans (H.sB r d)

theorem merged_apply (r : Fin 256) (d : Fin 1024) : mergedB I (ix2 r d) = ((merged W (T r) d : ℝ) : EReal) := by
  have ea := yA_apply H r d
  have eb := yB_apply H r d
  have ga := sA_apply H r d
  have gb := sB_apply H r d
  unfold mergedB k0_pay24
  rw [show k0_pay21 (k0_pay14 I.attB) (k0_pay15 I.zB) (k0_pay16 I.zB) (Scalar.ofBits .f32 0x3F000000#32) I.wb = k0_pay13 I.attB I.zB I.wb from rfl,
    show k0_pay23 I.gB = k0_pay22 I.gB from rfl]
  revert ea eb ga gb
  generalize k0_pay13 I.attA I.zA I.wa = a
  generalize k0_pay13 I.attB I.zB I.wb = b
  generalize k0_pay22 I.gA = a'
  generalize k0_pay22 I.gB = b'
  intro ea eb ga gb
  pointwise
  simp only [ea, eb, ga, gb, ← EReal.coe_mul, ← EReal.coe_add]
  rfl

theorem out_apply (r : Fin 256) (d : Fin 1024) : outB I (ix2 r d) = ((out W (T r) d : ℝ) : EReal) := by
  have e := merged_apply H r
  revert e
  unfold outB k0_pay27 k0_pay26
  generalize mergedB I = y
  intro e
  pointwise
  simp only [e, H.wo, ← EReal.coe_mul, ← Cert.FG.coe_sum]
  rfl

theorem resid_apply (r : Fin 256) (d : Fin 1024) :
    k0_pay28 (gateB I) (mergedB I) (k0_pay26 I.wo) I.x (ix2 r d) = ((resid W (T r) d : ℝ) : EReal) := by
  have e := out_apply H r d
  have e' := gateB_apply H d
  revert e e'
  unfold k0_pay28
  rw [show k0_pay27 (mergedB I) (k0_pay26 I.wo) = outB I from rfl]
  generalize outB I = y
  generalize gateB I = z
  intro e e'
  pointwise
  simp only [e, e', H.x, ← EReal.coe_mul, ← EReal.coe_add]
  rfl

theorem rstd_apply (r : Fin 256) : rstdB I (ix2 r (0 : Fin 1)) = ((Norm.rstd (resid W (T r)) : ℝ) : EReal) := by
  have e := resid_apply H r
  revert e
  unfold rstdB k0_pay29
  generalize k0_pay28 (gateB I) (mergedB I) (k0_pay26 I.wo) I.x = y
  intro e
  pointwise
  simp only [e]
  rw [← Norm.rsqrt_meanSq, ← Norm.meanE_coe]
  rfl

theorem normed_apply (r : Fin 256) (d : Fin 1024) : normedB I (ix2 r d) = ((normed W (T r) d : ℝ) : EReal) := by
  have e := resid_apply H r d
  have e' := rstd_apply H r
  revert e e'
  unfold normedB k0_pay30
  rw [show k0_pay29 (gateB I) (mergedB I) (k0_pay26 I.wo) I.x = rstdB I from rfl]
  generalize k0_pay28 (gateB I) (mergedB I) (k0_pay26 I.wo) I.x = y
  generalize rstdB I = z
  intro e e'
  pointwise
  rw [e, e', ← EReal.coe_mul]
  rfl

theorem diff_apply (r : Fin 256) (d : Fin 1024) :
    k0_pay31 (gateB I) (gainB I) (mergedB I) (k0_pay26 I.wo) I.x I.t (ix2 r d) = ((diff W (T r) d : ℝ) : EReal) := by
  have e := normed_apply H r d
  have e' := gainB_apply H d
  revert e e'
  unfold k0_pay31
  rw [show k0_pay30 (gateB I) (mergedB I) (k0_pay26 I.wo) I.x = normedB I from rfl]
  generalize normedB I = y
  generalize gainB I = z
  intro e e'
  pointwise
  simp only [e, e', H.t, ← EReal.coe_mul, ← EReal.coe_sub]
  rfl

theorem dyB_apply (r : Fin 256) (d : Fin 1024) : dyB I (ix2 r d) = ((dy W (T r) d : ℝ) : EReal) := by
  have e := diff_apply H r d
  revert e
  unfold dyB k0_pay33
  generalize k0_pay31 (gateB I) (gainB I) (mergedB I) (k0_pay26 I.wo) I.x I.t = y
  intro e
  pointwise
  rw [e, k_1024th, ← EReal.coe_mul]
  rfl

theorem dx_apply (r : Fin 256) (d : Fin 1024) : dxB I (ix2 r d) = ((dx W (T r) d : ℝ) : EReal) := by
  have e := normed_apply H r
  have e1 := rstd_apply H r
  have e2 := gainB_apply H
  have e3 := dyB_apply H r
  revert e e1 e2 e3
  unfold dxB k0_pay35
  generalize normedB I = y
  generalize rstdB I = y1
  generalize gainB I = y2
  generalize dyB I = y3
  intro e e1 e2 e3
  pointwise
  simp only [e, e1, e2, e3, Norm.k1024_eq, ← EReal.coe_mul, ← Cert.FG.coe_sum]
  rw [Ideal.div_coe (by norm_num), ← EReal.coe_mul, ← EReal.coe_mul, ← EReal.coe_sub, ← EReal.coe_mul]
  unfold dx Norm.grad normed
  congr 3
  ring

theorem dOut_apply (r : Fin 256) (d : Fin 1024) : dOutB I (ix2 r d) = ((dOut W (T r) d : ℝ) : EReal) := by
  have e := dx_apply H r d
  have e' := gateB_apply H d
  revert e e'
  unfold dOutB k0_pay37
  rw [show k0_pay35 (gainB I) (rstdB I) (normedB I) (dyB I) = dxB I from rfl]
  generalize dxB I = y
  generalize gateB I = z
  intro e e'
  pointwise
  rw [e, e', ← EReal.coe_mul]
  rfl

theorem dMerged_apply (r : Fin 256) (k : Fin 1024) : dMergedB I (ix2 r k) = ((dMerged W (T r) k : ℝ) : EReal) := by
  have e := dOut_apply H r
  revert e
  unfold dMergedB k0_pay38
  rw [show k0_pay37 (gateB I) (gainB I) (rstdB I) (normedB I) (dyB I) = dOutB I from rfl]
  generalize dOutB I = y
  intro e
  pointwise
  simp only [e, H.wo, ← EReal.coe_mul, ← Cert.FG.coe_sum]
  rfl

theorem dya_apply (r : Fin 256) (d : Fin 1024) : dyaB I (ix2 r d) = ((dMerged W (T r) d * (T r).sA d : ℝ) : EReal) :=
  dy_apply (sA_apply H r) (dMerged_apply H r) d

theorem dyb_apply (r : Fin 256) (d : Fin 1024) : dybB I (ix2 r d) = ((dMerged W (T r) d * (T r).sB d : ℝ) : EReal) :=
  dy_apply (sB_apply H r) (dMerged_apply H r) d

/-- The sums gain the block's column sums. -/
theorem accB_apply (a : Vec Ideal S8x1024 .f32) (j : Fin 8) (d : Fin 1024) :
    accB I a (ix2 j d) = a (ix2 j d)
      + ((if j.val = 0 then ∑ r, dx W (T r) d * out W (T r) d else if j.val = 1 then ∑ r, dy W (T r) d * normed W (T r) d
          else if j.val = 2 then 1 / 2048 * ∑ r, diff W (T r) d * diff W (T r) d else 0 : ℝ) : EReal) := by
  have e0 := fun r => dx_apply H r d
  have e1 := fun r => out_apply H r d
  have e2 := fun r => dyB_apply H r d
  have e3 := fun r => normed_apply H r d
  have e4 := fun r => diff_apply H r d
  revert e0 e1 e2 e3 e4
  unfold accB k0_pay36 k0_pay34 k0_pay32
  rw [show k0_pay35 (gainB I) (rstdB I) (normedB I) (dyB I) = dxB I from rfl,
    show k0_pay33 (gateB I) (gainB I) (mergedB I) (k0_pay26 I.wo) I.x I.t = dyB I from rfl,
    show k0_pay30 (gateB I) (mergedB I) (k0_pay26 I.wo) I.x = normedB I from rfl]
  generalize dxB I = y0
  generalize outB I = y1
  generalize dyB I = y2
  generalize normedB I = y3
  generalize k0_pay31 (gateB I) (gainB I) (mergedB I) (k0_pay26 I.wo) I.x I.t = y4
  intro e0 e1 e2 e3 e4
  rw [setRow_apply, setRow_apply, setRow_apply]
  pointwise [rowOf_apply, e0, e1, e2, e3, e4]
  simp only [k_2048th, ← EReal.coe_mul, ← Cert.FG.coe_sum]
  by_cases h0 : j.val = 0
  · obtain rfl : j = 0 := Fin.ext h0
    rfl
  · by_cases h1 : j.val = 1
    · obtain rfl : j = 1 := Fin.ext h1
      rfl
    · by_cases h2 : j.val = 2
      · obtain rfl : j = 2 := Fin.ext h2
        rfl
      · rw [if_neg h0, if_neg h1, if_neg h2, if_neg h0, if_neg h1, if_neg h2, EReal.coe_zero, add_zero]

end rows

end Cert.Post

end
-- ==== Proof.PostHeads.lean ====
/- The blocks stored in groups of columns: the attention outputs' cotangents with the heads' sums beside them, and the gates'
   cotangents side by side. -/
module

public import proofs.«01_k».proof.Proof.PostRows

@[expose] public section

set_option maxRecDepth 65536

noncomputable section

namespace Cert.Post

open Cert.Kernel5Ideal Cert.Kernel5Ideal.Gen Idealize.ShloMosaic Idealize.ShloMosaic.TcCoe

section cols

variable {n N : ℕ} {e : EltTy} {o : ℕ} {w : Vec Ideal ⟨2, ![256, n]⟩ e} {x : Vec Ideal ⟨2, ![256, N]⟩ e} {r : Fin 256} {c : Fin N}

theorem setCols_hit (h : o ≤ c.val) (h' : c.val < o + n) : setCols o w x (ix2 r c) = w (ix2 r ⟨c.val - o, by omega⟩) := dif_pos ⟨h, h'⟩

theorem setCols_miss (h : c.val < o ∨ o + n ≤ c.val) : setCols o w x (ix2 r c) = x (ix2 r c) :=
  dif_neg fun e => by
    have h1 : o ≤ c.val := e.1
    have h2 : c.val < o + n := e.2
    omega

end cols

/-- A choice by lane below 64. -/
theorem lane_select (c : Fin 128) (a b : EReal) :
    Scalar.select (IntOp.cmpi CmpIPredicate.slt (BitVec.ofNat 32 c.val) 64#32) a b = if c.val < 64 then a else b := by
  rw [WordCmp.cmpi_slt_ofNat (by omega) (by decide)]
  by_cases h : c.val < 64 <;> simp [h, Scalar.select]

/-! ## The heads' columns -/

section group

variable (D : FVec Ideal S256x512 .f32) (E : FVec Ideal S256x1024 .f32) (r : Fin 256) (c : Fin 128)

/-- Head `h`'s 128 columns: its 64 columns of `D`, then the columns of `E`. -/
def group (h : Fin 8) : EReal :=
  if k : c.val < 64 then D (ix2 r ⟨64 * h.val + c.val, by omega⟩) else E (ix2 r ⟨128 * h.val + c.val, by omega⟩)

theorem group_eq (h : Fin 8) (i : Fin 512) (j : Fin 1024) (hi : c.val < 64 → i.val = 64 * h.val + c.val) (hj : j.val = 128 * h.val + c.val) :
    (if c.val < 64 then D (ix2 r i) else E (ix2 r j)) = group D E r c h := by
  unfold group
  by_cases k : c.val < 64
  · rw [if_pos k, dif_pos k, show i = ⟨64 * h.val + c.val, by omega⟩ from Fin.ext (hi k)]
  · rw [if_neg k, dif_neg k, show j = ⟨128 * h.val + c.val, by omega⟩ from Fin.ext hj]

theorem group0 : k0_pay74 (F := Ideal) (k0_pay71 D) (extractStridedSlice S256x128 ![0, 0] E slices_S256x1024_o0_0_S256x128) (k0_pay73 k0_pay39) (ix2 r c)
    = group D E r c 0 := by
  unfold k0_pay74 k0_pay73 k0_pay71 k0_pay39
  pointwise
  rw [lane_select]
  exact group_eq _ _ _ _ _ _ _ (fun k => by simp) (by simp)

theorem group1 : k0_pay75 (F := Ideal) k0_pay39 E (k0_pay71 D) (ix2 r c) = group D E r c 1 := by
  unfold k0_pay75 k0_pay71 k0_pay39
  pointwise
  rw [lane_select]
  exact group_eq _ _ _ _ _ _ _ (fun k => by simp; omega) (by simp)

theorem group2 : k0_pay77 (F := Ideal) k0_pay39 D E (ix2 r c) = group D E r c 2 := by
  unfold k0_pay77 k0_pay76 k0_pay39
  pointwise
  rw [lane_select]
  exact group_eq _ _ _ _ _ _ _ (fun k => by simp) (by simp)

theorem group3 : k0_pay78 (F := Ideal) k0_pay39 D E (ix2 r c) = group D E r c 3 := by
  unfold k0_pay78 k0_pay76 k0_pay39
  pointwise
  rw [lane_select]
  exact group_eq _ _ _ _ _ _ _ (fun k => by simp; omega) (by simp)

theorem group4 : k0_pay80 (F := Ideal) k0_pay39 D E (ix2 r c) = group D E r c 4 := by
  unfold k0_pay80 k0_pay79 k0_pay39
  pointwise
  rw [lane_select]
  exact group_eq _ _ _ _ _ _ _ (fun k => by simp) (by simp)

theorem group5 : k0_pay81 (F := Ideal) k0_pay39 D E (ix2 r c) = group D E r c 5 := by
  unfold k0_pay81 k0_pay79 k0_pay39
  pointwise
  rw [lane_select]
  exact group_eq _ _ _ _ _ _ _ (fun k => by simp; omega) (by simp)

theorem group6 : k0_pay2 (F := Ideal) k0_pay39 D E (ix2 r c) = group D E r c 6 := by
  unfold k0_pay2 k0_pay1 k0_pay39
  pointwise
  rw [lane_select]
  exact group_eq _ _ _ _ _ _ _ (fun k => by simp) (by simp)

theorem group7 : k0_pay3 (F := Ideal) k0_pay39 D E (ix2 r c) = group D E r c 7 := by
  unfold k0_pay3 k0_pay1 k0_pay39
  pointwise
  rw [lane_select]
  exact group_eq _ _ _ _ _ _ _ (fun k => by simp; omega) (by simp)

end group

/-- The augmented cotangent at one column: the column's head's group. -/
theorem augB_group (att dA : FVec Ideal S256x512 .f32) (ind : Vec Ideal S512x128 .bf16) (emat : Vec Ideal S384x1024 .bf16)
    (base : Vec Ideal S256x1024 .bf16) (r : Fin 256) (n : Fin 1024) :
    augB att dA ind emat base (ix2 r n)
      = group dA (k0_pay70 att dA ind emat) r ⟨n.val % 128, by omega⟩ ⟨n.val / 128, by omega⟩ := by
  unfold augB
  generalize hE : k0_pay70 att dA ind emat = E
  have at0 (h : n.val / 128 = 0) : k0_pay74 (k0_pay71 dA) (k0_pay72 att dA ind emat) (k0_pay73 k0_pay39) (ix2 r ⟨n.val - 0, by omega⟩)
      = group dA E r ⟨n.val % 128, by omega⟩ ⟨n.val / 128, by omega⟩ := by
    rw [show k0_pay72 att dA ind emat = extractStridedSlice S256x128 ![0, 0] E slices_S256x1024_o0_0_S256x128 from hE ▸ rfl, group0]
    congr 1 <;> apply Fin.ext <;> simp <;> omega
  have key (h : Fin 8) (hn : n.val / 128 = h.val) (k : n.val - 128 * h.val < 128) :
      group dA E r ⟨n.val - 128 * h.val, k⟩ h = group dA E r ⟨n.val % 128, by omega⟩ ⟨n.val / 128, by omega⟩ := by
    congr 1 <;> apply Fin.ext <;> simp <;> omega
  have hlt := n.isLt
  by_cases h7 : n.val / 128 = 7
  · rw [setCols_hit (by omega) (by omega), group7]; exact key 7 h7 _
  rw [setCols_miss (by omega)]
  by_cases h6 : n.val / 128 = 6
  · rw [setCols_hit (by omega) (by omega), group6]; exact key 6 h6 _
  rw [setCols_miss (by omega)]
  by_cases h5 : n.val / 128 = 5
  · rw [setCols_hit (by omega) (by omega), group5]; exact key 5 h5 _
  rw [setCols_miss (by omega)]
  by_cases h4 : n.val / 128 = 4
  · rw [setCols_hit (by omega) (by omega), group4]; exact key 4 h4 _
  rw [setCols_miss (by omega)]
  by_cases h3 : n.val / 128 = 3
  · rw [setCols_hit (by omega) (by omega), group3]; exact key 3 h3 _
  rw [setCols_miss (by omega)]
  by_cases h2 : n.val / 128 = 2
  · rw [setCols_hit (by omega) (by omega), group2]; exact key 2 h2 _
  rw [setCols_miss (by omega)]
  by_cases h1 : n.val / 128 = 1
  · rw [setCols_hit (by omega) (by omega), group1]; exact key 1 h1 _
  rw [setCols_miss (by omega)]
  rw [setCols_hit (by omega) (by omega)]
  exact at0 (by omega)

/-! ## The heads' sums -/

/-- A sum over 512 entries picked by head is the sum over the head's 64. -/
theorem sum_head (q : Fin 512 → ℝ) (h : Fin 8) :
    (∑ k, q k * (if k.val / 64 = h.val then (1 : ℝ) else 0)) = ∑ j : Fin 64, q ⟨64 * h.val + j.val, by omega⟩ := by
  simp only [mul_ite, mul_one, mul_zero, ← Finset.sum_filter]
  refine Finset.sum_nbij' (fun k => (⟨k.val % 64, by omega⟩ : Fin 64)) (fun j => ⟨64 * h.val + j.val, by omega⟩) ?_ ?_ ?_ ?_ ?_
  · intro k _; exact Finset.mem_univ _
  · intro j _; simp; omega
  · intro k hk; simp at hk; apply Fin.ext; simp; omega
  · intro j _; apply Fin.ext; simp
  · intro k hk; simp at hk; congr 1; apply Fin.ext; simp; omega

theorem split0 (a : ℝ) : ((a : ℝ) : EReal) - (a : ℝ) = 0 := by rw [← EReal.coe_sub, sub_self]; rfl

theorem sums_apply (att dA : FVec Ideal S256x512 .f32) (ind : Vec Ideal S512x128 .bf16) (emat : Vec Ideal S384x1024 .bf16)
    (r : Fin 256) (n : Fin 1024) (a d : Fin 512 → ℝ)
    (hatt : ∀ k, att (ix2 r k) = ((a k : ℝ) : EReal)) (hd : ∀ k, dA (ix2 r k) = ((d k : ℝ) : EReal))
    (hind : ∀ k h, ind (ix2 k h) = ((if k.val / 64 = h.val then 1 else 0 : ℝ) : EReal))
    (hemat : ∀ k n, emat (ix2 k n) = ((if k.val % 128 < 8 ∧ n.val = 128 * (k.val % 128) + 64 + k.val / 128 then 1 else 0 : ℝ) : EReal)) :
    k0_pay70 att dA ind emat (ix2 r n) = ((if n.val % 128 = 64 then minus d a ⟨n.val / 128, by omega⟩ else 0 : ℝ) : EReal) := by
  unfold k0_pay70
  pointwise
  simp only [hatt, hd, hind, ← EReal.coe_mul, split0, sub_zero, zero_mul, Finset.sum_const_zero, add_zero, ← Cert.FG.coe_sum]
  simp only [zero_sub, ← EReal.coe_neg, split0, sub_zero]
  rw [Finset.sum_eq_single (⟨n.val / 128, by omega⟩ : Fin 384)]
  · refine (congrArg (fun y : EReal => y * _) (dif_pos (by show n.val / 128 < 128; omega))).trans ?_
    rw [hemat, ← EReal.coe_mul]
    refine congrArg _ ?_
    have e := sum_head (fun k => d k * a k) ⟨n.val / 128, by omega⟩
    simp only at e ⊢
    rw [e]
    by_cases h : n.val % 128 = 64
    · rw [if_pos h, if_pos (by constructor <;> omega), mul_one]
      rfl
    · rw [if_neg h, if_neg (by omega), mul_zero]
  · intro k _ hk
    by_cases h : k.val < 128
    · refine (congrArg (fun y : EReal => _ * y) ?_).trans (mul_zero _)
      rw [hemat, if_neg, EReal.coe_zero]
      intro e
      exact hk (Fin.ext (by show k.val = n.val / 128; omega))
    · simp [h]
  · intro h
    exact absurd (Finset.mem_univ _) h

/-- The augmented cotangent. -/
theorem augB_apply (att dA : FVec Ideal S256x512 .f32) (ind : Vec Ideal S512x128 .bf16) (emat : Vec Ideal S384x1024 .bf16)
    (base : Vec Ideal S256x1024 .bf16) (r : Fin 256) (n : Fin 1024) (a d : Fin 512 → ℝ)
    (hatt : ∀ k, att (ix2 r k) = ((a k : ℝ) : EReal)) (hd : ∀ k, dA (ix2 r k) = ((d k : ℝ) : EReal))
    (hind : ∀ k h, ind (ix2 k h) = ((if k.val / 64 = h.val then 1 else 0 : ℝ) : EReal))
    (hemat : ∀ k n, emat (ix2 k n) = ((if k.val % 128 < 8 ∧ n.val = 128 * (k.val % 128) + 64 + k.val / 128 then 1 else 0 : ℝ) : EReal)) :
    augB att dA ind emat base (ix2 r n) = ((augmented d a n : ℝ) : EReal) := by
  rw [augB_group]
  unfold group augmented
  by_cases h : n.val % 128 < 64
  · rw [dif_pos h, if_pos h, hd]
    congr 2
    apply Fin.ext
    simp
    try omega
  · rw [dif_neg h, if_neg h, sums_apply att dA ind emat r _ a d hatt hd hind hemat]
    have e : 128 * (n.val / 128) + n.val % 128 = n.val := Nat.div_add_mod _ _
    simp only [e]

/-! ## The gates' columns -/

section gates

variable {I : Blocks Ideal} {W : Weights} {T : Fin 256 → Token} (H : Holds I W T) (base : Vec Ideal S256x3072 .bf16) (r : Fin 256)
include H

theorem gatesB_zA (n : Fin 3072) (k : Fin 512) (hn : n.val = k.val) : gatesB I base (ix2 r n)
    = ((dZ W.a (T r).sA (dMerged W (T r)) (T r).attA (T r).zA k : ℝ) : EReal) := by
  unfold gatesB
  rw [setCols_miss (by omega), setCols_miss (by omega), setCols_hit (by omega) (by omega),
    show (⟨n.val - 0, by omega⟩ : Fin 512) = k from Fin.ext (by show n.val - 0 = k.val; omega)]
  exact dZ_apply (H.attA r) (H.zA r) (dya_apply H r) H.wa k

theorem gatesB_zB (n : Fin 3072) (k : Fin 512) (hn : n.val = 512 + k.val) : gatesB I base (ix2 r n)
    = ((dZ W.b (T r).sB (dMerged W (T r)) (T r).attB (T r).zB k : ℝ) : EReal) := by
  unfold gatesB
  rw [setCols_hit (by omega) (by omega),
    show (⟨n.val - 512, by omega⟩ : Fin 512) = k from Fin.ext (by show n.val - 512 = k.val; omega)]
  exact dZ_apply (H.attB r) (H.zB r) (dyb_apply H r) H.wb k

theorem gatesB_gA (n : Fin 3072) (k : Fin 1024) (hn : n.val = 1024 + k.val) : gatesB I base (ix2 r n)
    = ((dGate (T r).sA (yA W (T r)) (dMerged W (T r)) k : ℝ) : EReal) := by
  unfold gatesB
  rw [setCols_miss (by omega), setCols_miss (by omega), setCols_miss (by omega), setCols_hit (by omega) (by omega),
    show (⟨n.val - 1024, by omega⟩ : Fin 1024) = k from Fin.ext (by show n.val - 1024 = k.val; omega)]
  exact dGate_apply (yA_apply H r) (sA_apply H r) (dMerged_apply H r) k

theorem gatesB_gB (n : Fin 3072) (k : Fin 1024) (hn : n.val = 2048 + k.val) : gatesB I base (ix2 r n)
    = ((dGate (T r).sB (yB W (T r)) (dMerged W (T r)) k : ℝ) : EReal) := by
  unfold gatesB
  rw [setCols_miss (by omega), setCols_hit (by omega) (by omega),
    show (⟨n.val - 2048, by omega⟩ : Fin 1024) = k from Fin.ext (by show n.val - 2048 = k.val; omega)]
  exact dGate_apply (yB_apply H r) (sB_apply H r) (dMerged_apply H r) k

end gates

end Cert.Post

end
-- ==== Proof.PostBlock.lean ====
/- The eleven output blocks of the gates, merge, norm and loss launch are the functions of the input blocks given in
   PostParts. -/
module

public import proofs.«01_k».proof.Proof.Gen.Kernel5Ideal.Value
public import proofs.«01_k».proof.Proof.PostParts
public import Idealize.ShloMosaic.Lib.WritesUnit
public import Idealize.ShloMosaic.Lib.VecWindow
public import Idealize.ShloMosaic.Lib.Pointwise

@[expose] public section

set_option maxRecDepth 65536

noncomputable section

namespace Cert.Post

open Cert.Kernel5Ideal Cert.Kernel5Ideal.Gen Idealize.ShloMosaic Idealize.ShloMosaic.TcCoe Idealize.SL.Sem
open Idealize.ShloMosaic.Pipeline (Dat)

variable {F : FTy → Type} [FloatOps F]

section runs

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .bf16) (harg11 : arg11.IsWhole) (arg12 : Memref sig .tc .vmem S8x1024 .f32) (harg12 : arg12.IsWhole) (arg13 : Memref sig .tc .vmem S512x128 .bf16) (harg13 : arg13.IsWhole) (arg14 : Memref sig .tc .vmem S384x1024 .bf16) (harg14 : arg14.IsWhole) (arg15 : Memref sig .tc .vmem S256x1024 .f32) (harg15 : arg15.IsWhole) (arg16 : Memref sig .tc .vmem S512x256 .bf16) (harg16 : arg16.IsWhole) (arg17 : Memref sig .tc .vmem S512x256 .bf16) (harg17 : arg17.IsWhole) (arg18 : Memref sig .tc .vmem S1024x256 .bf16) (harg18 : arg18.IsWhole) (arg19 : Memref sig .tc .vmem S256x1024 .bf16) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x3072 .bf16) (harg24 : arg24.IsWhole) (arg25 : Memref sig .tc .vmem S8x1024 .f32) (harg25 : arg25.IsWhole)
  (x0 : Vec F S256x1024 .f32) (x1 : Vec F S256x1024 .f32) (x2 : Vec F S256x512 .f32) (x3 : Vec F S256x512 .f32) (x4 : Vec F S256x512 .f32) (x5 : Vec F S256x512 .f32) (x6 : Vec F S256x1024 .f32) (x7 : Vec F S256x1024 .f32) (x8 : Vec F S1024x512 .bf16) (x9 : Vec F S1024x512 .bf16) (x10 : Vec F S1024x1024 .bf16) (x11 : Vec F S8x1024 .f32) (x12 : Vec F S512x128 .bf16) (x13 : Vec F S384x1024 .bf16)

theorem outA_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = dxB ⟨x0, x1, x2, x3, x4, x5, x6, x7, x8, x9, x10, x11, x12, x13⟩ := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_15 (hc0 : cond0_0 i) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = k0_pay12 x2 x4 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]

theorem outA_16 (hc0 : cond0_0 i) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = k0_pay12 x3 x5 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_17 (hc0 : cond0_0 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = transpose S1024x256 [1, 0] (mergedB ⟨x0, x1, x2, x3, x4, x5, x6, x7, x8, x9, x10, x11, x12, x13⟩) transposes_S256x1024_p1_0_S1024x256 := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_18 (hc0 : cond0_0 i) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = dOutB ⟨x0, x1, x2, x3, x4, x5, x6, x7, x8, x9, x10, x11, x12, x13⟩ := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_19 (hc0 : cond0_0 i) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = dyaB ⟨x0, x1, x2, x3, x4, x5, x6, x7, x8, x9, x10, x11, x12, x13⟩ := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_20 (hc0 : cond0_0 i) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = dybB ⟨x0, x1, x2, x3, x4, x5, x6, x7, x8, x9, x10, x11, x12, x13⟩ := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outA_21 (hc0 : cond0_0 i) :
    out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = augB (k0_pay7 x2) (dAttB x4 (dyaB ⟨x0, x1, x2, x3, x4, x5, x6, x7, x8, x9, x10, x11, x12, x13⟩) x8) x12 x13 (VO0_21.read (Elt F) VO0_21.junk) := by
  unfold out0_A_21
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 896 _ _ _ _ _ _ (read_setCols 768 _ _ _ _ _ _ (read_setCols 640 _ _ _ _ _ _ (read_setCols 512 _ _ _ _ _ _
    (read_setCols 384 _ _ _ _ _ _ (read_setCols 256 _ _ _ _ _ _ (read_setCols 128 _ _ _ _ _ _ (read_setCols 0 _ _ _ _ _ _ rfl)))))))

theorem outA_22 (hc0 : cond0_0 i) :
    out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = augB (k0_pay7 x3) (dAttB x5 (dybB ⟨x0, x1, x2, x3, x4, x5, x6, x7, x8, x9, x10, x11, x12, x13⟩) x9) x12 x13 (VO0_22.read (Elt F) VO0_22.junk) := by
  unfold out0_A_22
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 896 _ _ _ _ _ _ (read_setCols 768 _ _ _ _ _ _ (read_setCols 640 _ _ _ _ _ _ (read_setCols 512 _ _ _ _ _ _
    (read_setCols 384 _ _ _ _ _ _ (read_setCols 256 _ _ _ _ _ _ (read_setCols 128 _ _ _ _ _ _ (read_setCols 0 _ _ _ _ _ _ rfl)))))))

theorem outA_23 (hc0 : cond0_0 i) :
    out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = gatesB ⟨x0, x1, x2, x3, x4, x5, x6, x7, x8, x9, x10, x11, x12, x13⟩ (VO0_23.read (Elt F) VO0_23.junk) := by
  unfold out0_A_23
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 512 _ _ _ _ _ _ (read_setCols 2048 _ _ _ _ _ _ (read_setCols 0 _ _ _ _ _ _ (read_setCols 1024 _ _ _ _ _ _ rfl)))

theorem outA_24 (hc0 : cond0_0 i) :
    out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 = accB ⟨x0, x1, x2, x3, x4, x5, x6, x7, x8, x9, x10, x11, x12, x13⟩ (k0_pay4 (F := F)) := by
  unfold out0_A_24
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  simp only [cov0, cov1, cov2]
  exact read_setRow 0 _ _ _ _ _ _ (read_setRow 1 _ _ _ _ _ _ (read_setRow 2 _ _ _ _ _ _ (View.read_writes_full _ _ _ _ [])))

theorem outB_14 (hc0 : ¬ cond0_0 i) (xo24 : Vec F S8x1024 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = dxB ⟨x0, x1, x2, x3, x4, x5, x6, x7, x8, x9, x10, x11, x12, x13⟩ := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_15 (hc0 : ¬ cond0_0 i) (xo24 : Vec F S8x1024 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = k0_pay12 x2 x4 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]

theorem outB_16 (hc0 : ¬ cond0_0 i) (xo24 : Vec F S8x1024 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = k0_pay12 x3 x5 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_17 (hc0 : ¬ cond0_0 i) (xo24 : Vec F S8x1024 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = transpose S1024x256 [1, 0] (mergedB ⟨x0, x1, x2, x3, x4, x5, x6, x7, x8, x9, x10, x11, x12, x13⟩) transposes_S256x1024_p1_0_S1024x256 := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_18 (hc0 : ¬ cond0_0 i) (xo24 : Vec F S8x1024 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = dOutB ⟨x0, x1, x2, x3, x4, x5, x6, x7, x8, x9, x10, x11, x12, x13⟩ := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_19 (hc0 : ¬ cond0_0 i) (xo24 : Vec F S8x1024 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = dyaB ⟨x0, x1, x2, x3, x4, x5, x6, x7, x8, x9, x10, x11, x12, x13⟩ := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_20 (hc0 : ¬ cond0_0 i) (xo24 : Vec F S8x1024 .f32) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = dybB ⟨x0, x1, x2, x3, x4, x5, x6, x7, x8, x9, x10, x11, x12, x13⟩ := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  rfl

theorem outB_21 (hc0 : ¬ cond0_0 i) (xo24 : Vec F S8x1024 .f32) :
    out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = augB (k0_pay7 x2) (dAttB x4 (dyaB ⟨x0, x1, x2, x3, x4, x5, x6, x7, x8, x9, x10, x11, x12, x13⟩) x8) x12 x13 (VO0_21.read (Elt F) VO0_21.junk) := by
  unfold out0_B_21
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 896 _ _ _ _ _ _ (read_setCols 768 _ _ _ _ _ _ (read_setCols 640 _ _ _ _ _ _ (read_setCols 512 _ _ _ _ _ _
    (read_setCols 384 _ _ _ _ _ _ (read_setCols 256 _ _ _ _ _ _ (read_setCols 128 _ _ _ _ _ _ (read_setCols 0 _ _ _ _ _ _ rfl)))))))

theorem outB_22 (hc0 : ¬ cond0_0 i) (xo24 : Vec F S8x1024 .f32) :
    out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = augB (k0_pay7 x3) (dAttB x5 (dybB ⟨x0, x1, x2, x3, x4, x5, x6, x7, x8, x9, x10, x11, x12, x13⟩) x9) x12 x13 (VO0_22.read (Elt F) VO0_22.junk) := by
  unfold out0_B_22
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 896 _ _ _ _ _ _ (read_setCols 768 _ _ _ _ _ _ (read_setCols 640 _ _ _ _ _ _ (read_setCols 512 _ _ _ _ _ _
    (read_setCols 384 _ _ _ _ _ _ (read_setCols 256 _ _ _ _ _ _ (read_setCols 128 _ _ _ _ _ _ (read_setCols 0 _ _ _ _ _ _ rfl)))))))

theorem outB_23 (hc0 : ¬ cond0_0 i) (xo24 : Vec F S8x1024 .f32) :
    out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = gatesB ⟨x0, x1, x2, x3, x4, x5, x6, x7, x8, x9, x10, x11, x12, x13⟩ (VO0_23.read (Elt F) VO0_23.junk) := by
  unfold out0_B_23
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setCols 512 _ _ _ _ _ _ (read_setCols 2048 _ _ _ _ _ _ (read_setCols 0 _ _ _ _ _ _ (read_setCols 1024 _ _ _ _ _ _ rfl)))

theorem outB_24 (hc0 : ¬ cond0_0 i) (xo24 : Vec F S8x1024 .f32) :
    out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 xo24 = accB ⟨x0, x1, x2, x3, x4, x5, x6, x7, x8, x9, x10, x11, x12, x13⟩ (xo24) := by
  unfold out0_B_24
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg25.read_unread, View.ld_unit_zero (S := S256x1024) hz2, View.ld_unit_zero (S := S256x512) hz2, View.ld_unit_zero (S := S1024x512) hz2, View.ld_unit_zero (S := S1024x1024) hz2, View.ld_unit_zero (S := S512x128) hz2, View.ld_unit_zero (S := S384x1024) hz2]
  exact read_setRow 0 _ _ _ _ _ _ (read_setRow 1 _ _ _ _ _ _ (read_setRow 2 _ _ _ _ _ _ (harg25.read_unread _)))

end runs

end Cert.Post

end
-- ==== Proof.PostHost.lean ====
/- The arrays the gates, merge, norm and loss launch reads, entry by entry, and the block of each that a grid point stages. -/
module

public import proofs.«01_k».proof.Proof.PostHeads
public import proofs.«01_k».proof.Proof.PostBlock

@[expose] public section

set_option maxRecDepth 65536

noncomputable section

namespace Cert.Post

open Cert.Kernel5Ideal Cert.Kernel5Ideal.Gen Idealize.ShloMosaic Idealize.ShloMosaic.TcCoe Idealize.SL.Sem

/-! ## Words -/

/-- The sign of a word. -/
def sgnW (x : BitVec 32) : BitVec 32 := if x = 0 then 0 else if x.msb then -1 else 1

/-- The quotient rounded down. -/
def divW (x b : BitVec 32) : BitVec 32 :=
  Scalar.select (IntOp.andi (IntOp.cmpi .ne (sgnW x) (sgnW b)) (IntOp.cmpi .ne (IntOp.remsi .host x b) 0#32))
    (IntOp.subi (IntOp.divsi .host x b) 1#32) (IntOp.divsi .host x b)

/-- The divisor of a remainder: one in place of zero. -/
def modulus (b : BitVec 32) : BitVec 32 := Scalar.select (IntOp.cmpi .eq b 0#32) 1#32 b

/-- The remainder of the quotient rounded down. -/
def remW (x b : BitVec 32) : BitVec 32 :=
  Scalar.select (IntOp.andi (IntOp.cmpi .ne (IntOp.cmpi .slt (IntOp.remsi .host x (modulus b)) 0#32) (IntOp.cmpi .slt (modulus b) 0#32))
      (IntOp.cmpi .ne (IntOp.remsi .host x (modulus b)) 0#32))
    (IntOp.addi (IntOp.remsi .host x (modulus b)) (modulus b)) (IntOp.remsi .host x (modulus b))

theorem divW_64 : ∀ k : Fin 512, divW (BitVec.ofNat 32 k.val) 64#32 = BitVec.ofNat 32 (k.val / 64) := by decide +kernel

theorem divW_128 : ∀ k : Fin 384, divW (BitVec.ofNat 32 k.val) 128#32 = BitVec.ofNat 32 (k.val / 128) := by decide +kernel

theorem remW_128 : ∀ k : Fin 384, remW (BitVec.ofNat 32 k.val) 128#32 = BitVec.ofNat 32 (k.val % 128) := by decide +kernel

/-- A truth value as a number. -/
theorem bit_number (b : Bool) : FloatOps.uitofp (F := Ideal) .bf16 (BitVec.ofBool b) = ((if b then 1 else 0 : ℝ) : EReal) := by
  cases b
  · show (((BitVec.ofBool false).toNat : ℝ) : EReal) = _
    simp
  · show (((BitVec.ofBool true).toNat : ℝ) : EReal) = _
    simp

theorem and_bits (a b : Bool) : BitVec.ofBool a &&& BitVec.ofBool b = BitVec.ofBool (a && b) := by cases a <;> cases b <;> rfl

theorem word_eq {a b : ℕ} (ha : a < 2 ^ 32) (hb : b < 2 ^ 32) : (BitVec.ofNat 32 a == BitVec.ofNat 32 b) = decide (a = b) := by
  rw [Bool.eq_iff_iff, beq_iff_eq, decide_eq_true_iff]
  constructor
  · intro h
    have e := congrArg BitVec.toNat h
    rwa [BitVec.toNat_ofNat, BitVec.toNat_ofNat, Nat.mod_eq_of_lt ha, Nat.mod_eq_of_lt hb] at e
  · intro h
    rw [h]

/-- Row 0 the gate, row 1 the gain, six rows of zeros. -/
def packV (a b z : FVec Ideal S1x1024 .f32) : FVec Ideal S8x1024 .f32 :=
  concatenate S8x1024 0 [⟨S1x1024, a⟩, ⟨S1x1024, b⟩, ⟨S1x1024, z⟩, ⟨S1x1024, z⟩, ⟨S1x1024, z⟩, ⟨S1x1024, z⟩, ⟨S1x1024, z⟩, ⟨S1x1024, z⟩]
    concatenates_S1x1024_S1x1024_S1x1024_S1x1024_S1x1024_S1x1024_S1x1024_S1x1024_S8x1024_d0

theorem packV_zero (a b z : FVec Ideal S1x1024 .f32) (d : Fin 1024) : packV a b z (ix2 (0 : Fin 8) d) = a (ix2 (0 : Fin 1) d) := by
  unfold packV
  pointwise

theorem packV_one (a b z : FVec Ideal S1x1024 .f32) (d : Fin 1024) : packV a b z (ix2 (1 : Fin 8) d) = b (ix2 (0 : Fin 1) d) := by
  unfold packV
  pointwise

variable (m : (ℓ : Loc nD τ sig) → Buf (Elt Ideal) ℓ)

/-! ## The launch's arrays -/

theorem V_x (c : Dev nD) : V m c main_v23 = shapeCast S8192x1024 (m ((c : Thread nD τ).loc main_arg0)) shapeCasts_S1x8192x1024_S8192x1024 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_t (c : Dev nD) : V m c main_v24 = shapeCast S8192x1024 (m ((c : Thread nD τ).loc main_arg1)) shapeCasts_S1x8192x1024_S8192x1024 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_attA (c : Dev nD) : V m c main_v25 = shapeCast S8192x512 (m ((c : Thread nD τ).loc main_arg2)) shapeCasts_S1x8192x512_S8192x512 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_attB (c : Dev nD) : V m c main_v26 = shapeCast S8192x512 (m ((c : Thread nD τ).loc main_arg3)) shapeCasts_S1x8192x512_S8192x512 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_zA (c : Dev nD) : V m c main_v27 = shapeCast S8192x512 (m ((c : Thread nD τ).loc main_arg4)) shapeCasts_S1x8192x512_S8192x512 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_zB (c : Dev nD) : V m c main_v28 = shapeCast S8192x512 (m ((c : Thread nD τ).loc main_arg5)) shapeCasts_S1x8192x512_S8192x512 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_gA (c : Dev nD) : V m c main_v29 = shapeCast S8192x1024 (m ((c : Thread nD τ).loc main_arg6)) shapeCasts_S1x8192x1024_S8192x1024 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_gB (c : Dev nD) : V m c main_v30 = shapeCast S8192x1024 (m ((c : Thread nD τ).loc main_arg7)) shapeCasts_S1x8192x1024_S8192x1024 := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_wa (c : Dev nD) : V m c main_v33 = (truncf .bf16 (transpose S1024x512 [1, 0] (shapeCast S512x1024 (m ((c : Thread nD τ).loc main_arg8))
    shapeCasts_S1x512x1024_S512x1024) transposes_S512x1024_S1024x512_1_0 : FVec Ideal S1024x512 .f32) bitsLt_bf16_f32 : FVec Ideal S1024x512 .bf16) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_wb (c : Dev nD) : V m c main_v36 = (truncf .bf16 (transpose S1024x512 [1, 0] (shapeCast S512x1024 (m ((c : Thread nD τ).loc main_arg9))
    shapeCasts_S1x512x1024_S512x1024) transposes_S512x1024_S1024x512_1_0 : FVec Ideal S1024x512 .f32) bitsLt_bf16_f32 : FVec Ideal S1024x512 .bf16) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_wo (c : Dev nD) : V m c main_v38 = (truncf .bf16 (shapeCast S1024x1024 (m ((c : Thread nD τ).loc main_arg10))
    shapeCasts_S1x1024x1024_S1024x1024 : FVec Ideal S1024x1024 .f32) bitsLt_bf16_f32 : FVec Ideal S1024x1024 .bf16) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

theorem V_vec (c : Dev nD) : V m c main_v2 = packV (m ((c : Thread nD τ).loc main_arg11))
    (broadcastInDim S1x1024 ![1] bcast_S1024_S1x1024_1 (m ((c : Thread nD τ).loc main_arg12)))
    (broadcastInDim S1x1024 ![] bcast_S_S1x1024 (constant (F := Ideal) S_ .f32 0x00000000#32)) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  refine Eq.trans (b := packV ((_ : Valuation τ sig (Elt Ideal)) (Proc.tc.devRef main_arg11)) ((_ : Valuation τ sig (Elt Ideal)) (Proc.tc.devRef main_v1)) ((_ : Valuation τ sig (Elt Ideal)) (Proc.tc.devRef main_v0))) rfl ?_
  after_results_simp

theorem V_ind (c : Dev nD) : V m c main_v7 = (fun i => FloatOps.uitofp (F := Ideal) .bf16
    (IntOp.cmpi .eq (divW (BitVec.ofNat 32 (i 0).val) 64#32) (BitVec.ofNat 32 (i 1).val)) : FVec Ideal S512x128 .bf16) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  simp only [StableHlo.TRef.ofBuf_toBuf]
  funext i
  rfl

theorem V_emat (c : Dev nD) : V m c main_v22 = (fun i => FloatOps.uitofp (F := Ideal) .bf16
    (IntOp.andi (IntOp.cmpi .slt (remW (BitVec.ofNat 32 (i 0).val) 128#32) 8#32)
      (IntOp.cmpi .eq (BitVec.ofNat 32 (i 1).val) (IntOp.addi (IntOp.addi (IntOp.muli 128#32 (remW (BitVec.ofNat 32 (i 0).val) 128#32)) 64#32)
        (divW (BitVec.ofNat 32 (i 0).val) 128#32)))) : FVec Ideal S384x1024 .bf16) := by
  unfold V hostOps0 hostOps0_1 hostOps0_2 hostOps0_3 hostOps0_4 hostOps0_5 hostOps0_6 hostOps0_7 hostOps0_8
  simp only [List.flatten_cons, List.flatten_nil, List.append_nil, List.cons_append, List.nil_append]
  after_results_simp
  simp only [StableHlo.TRef.ofBuf_toBuf]
  funext i
  rfl

theorem ind_apply (c : Dev nD) (k : Fin 512) (h : Fin 128) :
    (V m c main_v7 : FVec Ideal S512x128 .bf16) (ix2 k h) = ((if k.val / 64 = h.val then 1 else 0 : ℝ) : EReal) := by
  rw [V_ind]
  show FloatOps.uitofp (F := Ideal) .bf16 (IntOp.cmpi .eq (divW (BitVec.ofNat 32 k.val) 64#32) (BitVec.ofNat 32 h.val)) = _
  rw [divW_64]
  unfold IntOp.cmpi
  dsimp only
  rw [bit_number, word_eq (by omega) (by omega)]
  simp only [decide_eq_true_eq]

theorem emat_apply (c : Dev nD) (k : Fin 384) (n : Fin 1024) :
    (V m c main_v22 : FVec Ideal S384x1024 .bf16) (ix2 k n)
      = ((if k.val % 128 < 8 ∧ n.val = 128 * (k.val % 128) + 64 + k.val / 128 then 1 else 0 : ℝ) : EReal) := by
  rw [V_emat]
  show FloatOps.uitofp (F := Ideal) .bf16 (IntOp.andi (IntOp.cmpi .slt (remW (BitVec.ofNat 32 k.val) 128#32) 8#32)
    (IntOp.cmpi .eq (BitVec.ofNat 32 n.val) (IntOp.addi (IntOp.addi (IntOp.muli 128#32 (remW (BitVec.ofNat 32 k.val) 128#32)) 64#32)
        (divW (BitVec.ofNat 32 k.val) 128#32)))) = _
  rw [divW_128, remW_128, WordCmp.cmpi_slt_ofNat (by omega) (by decide),
    show IntOp.addi (IntOp.addi (IntOp.muli 128#32 (BitVec.ofNat 32 (k.val % 128))) 64#32) (BitVec.ofNat 32 (k.val / 128))
      = BitVec.ofNat 32 (128 * (k.val % 128) + 64 + k.val / 128) from by
        unfold IntOp.addi IntOp.muli
        apply BitVec.eq_of_toNat_eq
        simp only [BitVec.toNat_add, BitVec.toNat_mul, BitVec.toNat_ofNat]
        omega,
    WordCmp.cmpi_eq_ofNat (by omega) (by omega)]
  unfold IntOp.andi
  rw [and_bits, bit_number]
  simp only [Bool.and_eq_true, decide_eq_true_eq]

/-! ## The blocks a grid point stages -/

/-- The array row that row `r` of grid point `t`'s block is. -/
def rowAt (t : Fin cfg0.N) (r : Fin 256) : Fin 8192 :=
  ⟨256 * t.val + r.val, by have := r.isLt; have h : t.val < 32 := t.isLt; omega⟩

theorem index_facts : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0) := by
  decide +kernel

theorem iblk0 (c : Dev nD) (t : Fin cfg0.N) (r : Fin 256) (k : Fin 1024) :
    iblk m c 0 t (ix2 r k) = V m c main_v23 (ix2 (rowAt t r) k) := by
  unfold iblk
  rw [View.read_apply]
  show V m c main_v23 _ = _
  congr 1
  funext a
  apply Fin.ext
  have h := (index_facts t).1
  match a with
  | ⟨0, _⟩ => show win0_0.index t 0 * 256 + 1 * r.val = 256 * t.val + r.val; rw [h.1]; omega
  | ⟨1, _⟩ => show win0_0.index t 1 * 1024 + 1 * k.val = k.val; rw [h.2]; omega

theorem iblk1 (c : Dev nD) (t : Fin cfg0.N) (r : Fin 256) (k : Fin 1024) :
    iblk m c 1 t (ix2 r k) = V m c main_v24 (ix2 (rowAt t r) k) := by
  unfold iblk
  rw [View.read_apply]
  show V m c main_v24 _ = _
  congr 1
  funext a
  apply Fin.ext
  have h := (index_facts t).2.1
  match a with
  | ⟨0, _⟩ => show win0_1.index t 0 * 256 + 1 * r.val = 256 * t.val + r.val; rw [h.1]; omega
  | ⟨1, _⟩ => show win0_1.index t 1 * 1024 + 1 * k.val = k.val; rw [h.2]; omega

theorem iblk2 (c : Dev nD) (t : Fin cfg0.N) (r : Fin 256) (k : Fin 512) :
    iblk m c 2 t (ix2 r k) = V m c main_v25 (ix2 (rowAt t r) k) := by
  unfold iblk
  rw [View.read_apply]
  show V m c main_v25 _ = _
  congr 1
  funext a
  apply Fin.ext
  have h := (index_facts t).2.2.1
  match a with
  | ⟨0, _⟩ => show win0_2.index t 0 * 256 + 1 * r.val = 256 * t.val + r.val; rw [h.1]; omega
  | ⟨1, _⟩ => show win0_2.index t 1 * 512 + 1 * k.val = k.val; rw [h.2]; omega

theorem iblk3 (c : Dev nD) (t : Fin cfg0.N) (r : Fin 256) (k : Fin 512) :
    iblk m c 3 t (ix2 r k) = V m c main_v26 (ix2 (rowAt t r) k) := by
  unfold iblk
  rw [View.read_apply]
  show V m c main_v26 _ = _
  congr 1
  funext a
  apply Fin.ext
  have h := (index_facts t).2.2.2.1
  match a with
  | ⟨0, _⟩ => show win0_3.index t 0 * 256 + 1 * r.val = 256 * t.val + r.val; rw [h.1]; omega
  | ⟨1, _⟩ => show win0_3.index t 1 * 512 + 1 * k.val = k.val; rw [h.2]; omega

theorem iblk4 (c : Dev nD) (t : Fin cfg0.N) (r : Fin 256) (k : Fin 512) :
    iblk m c 4 t (ix2 r k) = V m c main_v27 (ix2 (rowAt t r) k) := by
  unfold iblk
  rw [View.read_apply]
  show V m c main_v27 _ = _
  congr 1
  funext a
  apply Fin.ext
  have h := (index_facts t).2.2.2.2.1
  match a with
  | ⟨0, _⟩ => show win0_4.index t 0 * 256 + 1 * r.val = 256 * t.val + r.val; rw [h.1]; omega
  | ⟨1, _⟩ => show win0_4.index t 1 * 512 + 1 * k.val = k.val; rw [h.2]; omega

theorem iblk5 (c : Dev nD) (t : Fin cfg0.N) (r : Fin 256) (k : Fin 512) :
    iblk m c 5 t (ix2 r k) = V m c main_v28 (ix2 (rowAt t r) k) := by
  unfold iblk
  rw [View.read_apply]
  show V m c main_v28 _ = _
  congr 1
  funext a
  apply Fin.ext
  have h := (index_facts t).2.2.2.2.2.1
  match a with
  | ⟨0, _⟩ => show win0_5.index t 0 * 256 + 1 * r.val = 256 * t.val + r.val; rw [h.1]; omega
  | ⟨1, _⟩ => show win0_5.index t 1 * 512 + 1 * k.val = k.val; rw [h.2]; omega

theorem iblk6 (c : Dev nD) (t : Fin cfg0.N) (r : Fin 256) (k : Fin 1024) :
    iblk m c 6 t (ix2 r k) = V m c main_v29 (ix2 (rowAt t r) k) := by
  unfold iblk
  rw [View.read_apply]
  show V m c main_v29 _ = _
  congr 1
  funext a
  apply Fin.ext
  have h := (index_facts t).2.2.2.2.2.2.1
  match a with
  | ⟨0, _⟩ => show win0_6.index t 0 * 256 + 1 * r.val = 256 * t.val + r.val; rw [h.1]; omega
  | ⟨1, _⟩ => show win0_6.index t 1 * 1024 + 1 * k.val = k.val; rw [h.2]; omega

theorem iblk7 (c : Dev nD) (t : Fin cfg0.N) (r : Fin 256) (k : Fin 1024) :
    iblk m c 7 t (ix2 r k) = V m c main_v30 (ix2 (rowAt t r) k) := by
  unfold iblk
  rw [View.read_apply]
  show V m c main_v30 _ = _
  congr 1
  funext a
  apply Fin.ext
  have h := (index_facts t).2.2.2.2.2.2.2.1
  match a with
  | ⟨0, _⟩ => show win0_7.index t 0 * 256 + 1 * r.val = 256 * t.val + r.val; rw [h.1]; omega
  | ⟨1, _⟩ => show win0_7.index t 1 * 1024 + 1 * k.val = k.val; rw [h.2]; omega

theorem iblk8 (c : Dev nD) (t : Fin cfg0.N) (r : Fin 1024) (k : Fin 512) :
    iblk m c 8 t (ix2 r k) = V m c main_v33 (ix2 r k) := by
  unfold iblk
  rw [View.read_apply]
  show V m c main_v33 _ = _
  congr 1
  funext a
  apply Fin.ext
  have h := (index_facts t).2.2.2.2.2.2.2.2.1
  match a with
  | ⟨0, _⟩ => show win0_8.index t 0 * 1024 + 1 * r.val = r.val; rw [h.1]; omega
  | ⟨1, _⟩ => show win0_8.index t 1 * 512 + 1 * k.val = k.val; rw [h.2]; omega

theorem iblk9 (c : Dev nD) (t : Fin cfg0.N) (r : Fin 1024) (k : Fin 512) :
    iblk m c 9 t (ix2 r k) = V m c main_v36 (ix2 r k) := by
  unfold iblk
  rw [View.read_apply]
  show V m c main_v36 _ = _
  congr 1
  funext a
  apply Fin.ext
  have h := (index_facts t).2.2.2.2.2.2.2.2.2.1
  match a with
  | ⟨0, _⟩ => show win0_9.index t 0 * 1024 + 1 * r.val = r.val; rw [h.1]; omega
  | ⟨1, _⟩ => show win0_9.index t 1 * 512 + 1 * k.val = k.val; rw [h.2]; omega

theorem iblk10 (c : Dev nD) (t : Fin cfg0.N) (r : Fin 1024) (k : Fin 1024) :
    iblk m c 10 t (ix2 r k) = V m c main_v38 (ix2 r k) := by
  unfold iblk
  rw [View.read_apply]
  show V m c main_v38 _ = _
  congr 1
  funext a
  apply Fin.ext
  have h := (index_facts t).2.2.2.2.2.2.2.2.2.2.1
  match a with
  | ⟨0, _⟩ => show win0_10.index t 0 * 1024 + 1 * r.val = r.val; rw [h.1]; omega
  | ⟨1, _⟩ => show win0_10.index t 1 * 1024 + 1 * k.val = k.val; rw [h.2]; omega

theorem iblk11 (c : Dev nD) (t : Fin cfg0.N) (r : Fin 8) (k : Fin 1024) :
    iblk m c 11 t (ix2 r k) = V m c main_v2 (ix2 r k) := by
  unfold iblk
  rw [View.read_apply]
  show V m c main_v2 _ = _
  congr 1
  funext a
  apply Fin.ext
  have h := (index_facts t).2.2.2.2.2.2.2.2.2.2.2.1
  match a with
  | ⟨0, _⟩ => show win0_11.index t 0 * 8 + 1 * r.val = r.val; rw [h.1]; omega
  | ⟨1, _⟩ => show win0_11.index t 1 * 1024 + 1 * k.val = k.val; rw [h.2]; omega

theorem iblk12 (c : Dev nD) (t : Fin cfg0.N) (r : Fin 512) (k : Fin 128) :
    iblk m c 12 t (ix2 r k) = V m c main_v7 (ix2 r k) := by
  unfold iblk
  rw [View.read_apply]
  show V m c main_v7 _ = _
  congr 1
  funext a
  apply Fin.ext
  have h := (index_facts t).2.2.2.2.2.2.2.2.2.2.2.2.1
  match a with
  | ⟨0, _⟩ => show win0_12.index t 0 * 512 + 1 * r.val = r.val; rw [h.1]; omega
  | ⟨1, _⟩ => show win0_12.index t 1 * 128 + 1 * k.val = k.val; rw [h.2]; omega

theorem iblk13 (c : Dev nD) (t : Fin cfg0.N) (r : Fin 384) (k : Fin 1024) :
    iblk m c 13 t (ix2 r k) = V m c main_v22 (ix2 r k) := by
  unfold iblk
  rw [View.read_apply]
  show V m c main_v22 _ = _
  congr 1
  funext a
  apply Fin.ext
  have h := (index_facts t).2.2.2.2.2.2.2.2.2.2.2.2.2
  match a with
  | ⟨0, _⟩ => show win0_13.index t 0 * 384 + 1 * r.val = r.val; rw [h.1]; omega
  | ⟨1, _⟩ => show win0_13.index t 1 * 1024 + 1 * k.val = k.val; rw [h.2]; omega

end Cert.Post

end
-- ==== Proof.PostArgs.lean ====
/- What the two programs' arguments hold, as real numbers: the weights and, row by row, the tokens. -/
module

public import proofs.«01_k».proof.Proof.PostMath
public import proofs.«01_k».proof.Kernel5Ideal

@[expose] public section

set_option maxRecDepth 65536

noncomputable section

namespace Cert.Post

open Cert.Kernel5Ideal Idealize.ShloMosaic Idealize.ShloMosaic.TcCoe

/-- The thirteen arguments hold the weights `W` and the tokens `T`. The merge gates need not be finite: only their sigmoids,
    in either form, are real numbers. -/
structure Args (x0 x1 : Vec Ideal S1x8192x1024 .f32) (x2 x3 x4 x5 : Vec Ideal S1x8192x512 .f32)
    (x6 x7 : Vec Ideal S1x8192x1024 .f32) (x8 x9 : Vec Ideal S1x512x1024 .f32) (x10 : Vec Ideal S1x1024x1024 .f32)
    (x11 : Vec Ideal S1x1024 .f32) (x12 : Vec Ideal S1024 .f32) (W : Weights) (T : Fin 8192 → Token) : Prop where
  x : ∀ i d, x0 (ix3 (0 : Fin 1) i d) = (((T i).x d : ℝ) : EReal)
  t : ∀ i d, x1 (ix3 (0 : Fin 1) i d) = (((T i).t d : ℝ) : EReal)
  attA : ∀ i k, x2 (ix3 (0 : Fin 1) i k) = (((T i).attA k : ℝ) : EReal)
  attB : ∀ i k, x3 (ix3 (0 : Fin 1) i k) = (((T i).attB k : ℝ) : EReal)
  zA : ∀ i k, x4 (ix3 (0 : Fin 1) i k) = (((T i).zA k : ℝ) : EReal)
  zB : ∀ i k, x5 (ix3 (0 : Fin 1) i k) = (((T i).zB k : ℝ) : EReal)
  sA : ∀ i d, sigT (x6 (ix3 (0 : Fin 1) i d)) = (((T i).sA d : ℝ) : EReal) ∧ sigE (x6 (ix3 (0 : Fin 1) i d)) = (((T i).sA d : ℝ) : EReal)
  sB : ∀ i d, sigT (x7 (ix3 (0 : Fin 1) i d)) = (((T i).sB d : ℝ) : EReal) ∧ sigE (x7 (ix3 (0 : Fin 1) i d)) = (((T i).sB d : ℝ) : EReal)
  wa : ∀ k d, x8 (ix3 (0 : Fin 1) k d) = ((W.a k d : ℝ) : EReal)
  wb : ∀ k d, x9 (ix3 (0 : Fin 1) k d) = ((W.b k d : ℝ) : EReal)
  wo : ∀ e d, x10 (ix3 (0 : Fin 1) e d) = ((W.o e d : ℝ) : EReal)
  gate : ∀ d, x11 (ix2 (0 : Fin 1) d) = ((W.gate d : ℝ) : EReal)
  gain : ∀ d, x12 (ix1 d) = ((W.gain d : ℝ) : EReal)

/-- The gradients of what fed the sigmoids: both branches' gates before, then both merge gates. -/
def fused (W : Weights) (T : Token) (n : Fin 3072) : ℝ :=
  if h : n.val < 512 then dZ W.a T.sA (dMerged W T) T.attA T.zA ⟨n.val, h⟩
  else if h : n.val < 1024 then dZ W.b T.sB (dMerged W T) T.attB T.zB ⟨n.val - 512, by omega⟩
  else if h : n.val < 2048 then dGate T.sA (yA W T) (dMerged W T) ⟨n.val - 1024, by omega⟩
  else dGate T.sB (yB W T) (dMerged W T) ⟨n.val - 2048, by omega⟩

/-- What one token adds to the sums: row 0 the block's gate's gradient, row 1 the second gain's, row 2 the loss. -/
def adds (W : Weights) (T : Token) (j : Fin 8) (d : Fin 1024) : ℝ :=
  if j.val = 0 then dx W T d * out W T d
  else if j.val = 1 then dy W T d * normed W T d
  else if j.val = 2 then 1 / 2048 * (diff W T d * diff W T d)
  else 0

theorem sum_adds {n : ℕ} (W : Weights) (T : Fin n → Token) (j : Fin 8) (d : Fin 1024) : ∑ r, adds W (T r) j d
    = if j.val = 0 then ∑ r, dx W (T r) d * out W (T r) d
      else if j.val = 1 then ∑ r, dy W (T r) d * normed W (T r) d
      else if j.val = 2 then 1 / 2048 * ∑ r, diff W (T r) d * diff W (T r) d
      else 0 := by
  unfold adds
  by_cases h0 : j.val = 0
  · simp only [if_pos h0]
  · by_cases h1 : j.val = 1
    · simp only [if_neg h0, if_pos h1]
    · by_cases h2 : j.val = 2
      · simp only [if_neg h0, if_neg h1, if_pos h2, Finset.mul_sum]
      · simp only [if_neg h0, if_neg h1, if_neg h2, Finset.sum_const_zero]

end Cert.Post

end
-- ==== Proof.PostRun.lean ====
/- What the gates, merge, norm and loss launch holds point by point. -/
module

public import proofs.«01_k».proof.Proof.PostHost
public import proofs.«01_k».proof.Proof.PostHeads
public import proofs.«01_k».proof.Proof.PostBlock
public import proofs.«01_k».proof.Proof.PostArgs
public import proofs.«01_k».proof.Proof.Gen.Kernel5Ideal.Value
public import Idealize.ShloMosaic.Lib.Pipeline.ValueKit

@[expose] public section

set_option maxRecDepth 65536

noncomputable section

namespace Cert.Post

open Cert.Kernel5Ideal Cert.Kernel5Ideal.Gen Idealize.ShloMosaic Idealize.ShloMosaic.TcCoe Idealize.SL.Sem
open Idealize.ShloMosaic.Pipeline (Dat)

theorem gatesB_apply {I : Blocks Ideal} {W : Weights} {T : Fin 256 → Token} (H : Holds I W T) (base : Vec Ideal S256x3072 .bf16)
    (r : Fin 256) (n : Fin 3072) : gatesB I base (ix2 r n) = ((fused W (T r) n : ℝ) : EReal) := by
  unfold fused
  by_cases h0 : n.val < 512
  · rw [dif_pos h0]
    exact gatesB_zA H base r n _ rfl
  · rw [dif_neg h0]
    by_cases h1 : n.val < 1024
    · rw [dif_pos h1]
      exact gatesB_zB H base r n _ (by show n.val = 512 + (n.val - 512); omega)
    · rw [dif_neg h1]
      by_cases h2 : n.val < 2048
      · rw [dif_pos h2]
        exact gatesB_gA H base r n _ (by show n.val = 1024 + (n.val - 1024); omega)
      · rw [dif_neg h2]
        exact gatesB_gB H base r n _ (by show n.val = 2048 + (n.val - 2048); omega)

theorem gatedT_apply {att z : Vec Ideal S256x512 .f32} {r : Fin 256} {a ζ : Fin 512 → ℝ}
    (ha : ∀ k, att (ix2 r k) = ((a k : ℝ) : EReal)) (hz : ∀ k, z (ix2 r k) = ((ζ k : ℝ) : EReal)) (k : Fin 512) :
    k0_pay12 att z (ix2 k r) = ((gated a ζ k : ℝ) : EReal) := by
  have e := gated_apply ha hz k
  revert e
  unfold k0_pay12
  generalize k0_pay11 att z = y
  intro e
  pointwise
  exact e

theorem plain_apply (x : Vec Ideal S256x512 .f32) (r : Fin 256) (k : Fin 512) : k0_pay7 x (ix2 r k) = x (ix2 r k) := by
  unfold k0_pay7
  pointwise

/-! ## The host's preparation of the arguments -/

theorem wide_apply (x : Vec Ideal S1x8192x1024 .f32) (i : Fin 8192) (d : Fin 1024) :
    shapeCast S8192x1024 x shapeCasts_S1x8192x1024_S8192x1024 (ix2 i d) = x (ix3 (0 : Fin 1) i d) := by pointwise

theorem narrow_apply (x : Vec Ideal S1x8192x512 .f32) (i : Fin 8192) (k : Fin 512) :
    shapeCast S8192x512 x shapeCasts_S1x8192x512_S8192x512 (ix2 i k) = x (ix3 (0 : Fin 1) i k) := by pointwise

theorem turned_apply (w : Vec Ideal S1x512x1024 .f32) (d : Fin 1024) (k : Fin 512) :
    (truncf .bf16 (transpose S1024x512 [1, 0] (shapeCast S512x1024 w shapeCasts_S1x512x1024_S512x1024)
      transposes_S512x1024_S1024x512_1_0 : FVec Ideal S1024x512 .f32) bitsLt_bf16_f32 : FVec Ideal S1024x512 .bf16) (ix2 d k)
      = w (ix3 (0 : Fin 1) k d) := by pointwise

theorem square_apply (w : Vec Ideal S1x1024x1024 .f32) (e d : Fin 1024) :
    (truncf .bf16 (shapeCast S1024x1024 w shapeCasts_S1x1024x1024_S1024x1024 : FVec Ideal S1024x1024 .f32) bitsLt_bf16_f32
      : FVec Ideal S1024x1024 .bf16) (ix2 e d) = w (ix3 (0 : Fin 1) e d) := by pointwise

theorem lifted_apply (x : Vec Ideal S1024 .f32) (d : Fin 1024) :
    broadcastInDim S1x1024 ![1] bcast_S1024_S1x1024_1 x (ix2 (0 : Fin 1) d) = x (ix1 d) := by pointwise

section run

variable (m : (ℓ : Loc nD τ sig) → Buf (Elt Ideal) ℓ) (c : Dev nD)

/-! The arguments in memory. -/

def arg0 : Vec Ideal S1x8192x1024 .f32 := m ((c : Thread nD τ).loc main_arg0)
def arg1 : Vec Ideal S1x8192x1024 .f32 := m ((c : Thread nD τ).loc main_arg1)
def arg2 : Vec Ideal S1x8192x512 .f32 := m ((c : Thread nD τ).loc main_arg2)
def arg3 : Vec Ideal S1x8192x512 .f32 := m ((c : Thread nD τ).loc main_arg3)
def arg4 : Vec Ideal S1x8192x512 .f32 := m ((c : Thread nD τ).loc main_arg4)
def arg5 : Vec Ideal S1x8192x512 .f32 := m ((c : Thread nD τ).loc main_arg5)
def arg6 : Vec Ideal S1x8192x1024 .f32 := m ((c : Thread nD τ).loc main_arg6)
def arg7 : Vec Ideal S1x8192x1024 .f32 := m ((c : Thread nD τ).loc main_arg7)
def arg8 : Vec Ideal S1x512x1024 .f32 := m ((c : Thread nD τ).loc main_arg8)
def arg9 : Vec Ideal S1x512x1024 .f32 := m ((c : Thread nD τ).loc main_arg9)
def arg10 : Vec Ideal S1x1024x1024 .f32 := m ((c : Thread nD τ).loc main_arg10)
def arg11 : Vec Ideal S1x1024 .f32 := m ((c : Thread nD τ).loc main_arg11)
def arg12 : Vec Ideal S1024 .f32 := m ((c : Thread nD τ).loc main_arg12)

/-- The arguments in memory hold `W` and `T`. -/
abbrev Given (W : Weights) (T : Fin 8192 → Token) : Prop :=
  Args (arg0 m c) (arg1 m c) (arg2 m c) (arg3 m c) (arg4 m c) (arg5 m c) (arg6 m c) (arg7 m c) (arg8 m c) (arg9 m c)
    (arg10 m c) (arg11 m c) (arg12 m c) W T

/-- Point `t`'s input blocks. -/
def blocksAt (t : Fin cfg0.N) : Blocks Ideal :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t⟩

theorem rows_x (t : Fin cfg0.N) (r : Fin 256) (d : Fin 1024) :
    (blocksAt m c t).x (ix2 r d) = arg0 m c (ix3 (0 : Fin 1) (rowAt t r) d) := by
  show iblk m c 0 t (ix2 r d) = _
  rw [iblk0, V_x]
  exact wide_apply _ _ d

theorem rows_t (t : Fin cfg0.N) (r : Fin 256) (d : Fin 1024) :
    (blocksAt m c t).t (ix2 r d) = arg1 m c (ix3 (0 : Fin 1) (rowAt t r) d) := by
  show iblk m c 1 t (ix2 r d) = _
  rw [iblk1, V_t]
  exact wide_apply _ _ d

theorem rows_attA (t : Fin cfg0.N) (r : Fin 256) (d : Fin 512) :
    (blocksAt m c t).attA (ix2 r d) = arg2 m c (ix3 (0 : Fin 1) (rowAt t r) d) := by
  show iblk m c 2 t (ix2 r d) = _
  rw [iblk2, V_attA]
  exact narrow_apply _ _ d

theorem rows_attB (t : Fin cfg0.N) (r : Fin 256) (d : Fin 512) :
    (blocksAt m c t).attB (ix2 r d) = arg3 m c (ix3 (0 : Fin 1) (rowAt t r) d) := by
  show iblk m c 3 t (ix2 r d) = _
  rw [iblk3, V_attB]
  exact narrow_apply _ _ d

theorem rows_zA (t : Fin cfg0.N) (r : Fin 256) (d : Fin 512) :
    (blocksAt m c t).zA (ix2 r d) = arg4 m c (ix3 (0 : Fin 1) (rowAt t r) d) := by
  show iblk m c 4 t (ix2 r d) = _
  rw [iblk4, V_zA]
  exact narrow_apply _ _ d

theorem rows_zB (t : Fin cfg0.N) (r : Fin 256) (d : Fin 512) :
    (blocksAt m c t).zB (ix2 r d) = arg5 m c (ix3 (0 : Fin 1) (rowAt t r) d) := by
  show iblk m c 5 t (ix2 r d) = _
  rw [iblk5, V_zB]
  exact narrow_apply _ _ d

theorem rows_sA (t : Fin cfg0.N) (r : Fin 256) (d : Fin 1024) :
    (blocksAt m c t).gA (ix2 r d) = arg6 m c (ix3 (0 : Fin 1) (rowAt t r) d) := by
  show iblk m c 6 t (ix2 r d) = _
  rw [iblk6, V_gA]
  exact wide_apply _ _ d

theorem rows_sB (t : Fin cfg0.N) (r : Fin 256) (d : Fin 1024) :
    (blocksAt m c t).gB (ix2 r d) = arg7 m c (ix3 (0 : Fin 1) (rowAt t r) d) := by
  show iblk m c 7 t (ix2 r d) = _
  rw [iblk7, V_gB]
  exact wide_apply _ _ d

theorem rows_wa (t : Fin cfg0.N) (d : Fin 1024) (k : Fin 512) :
    (blocksAt m c t).wa (ix2 d k) = arg8 m c (ix3 (0 : Fin 1) k d) := by
  show iblk m c 8 t (ix2 d k) = _
  rw [iblk8, V_wa]
  exact turned_apply _ d k

theorem rows_wb (t : Fin cfg0.N) (d : Fin 1024) (k : Fin 512) :
    (blocksAt m c t).wb (ix2 d k) = arg9 m c (ix3 (0 : Fin 1) k d) := by
  show iblk m c 9 t (ix2 d k) = _
  rw [iblk9, V_wb]
  exact turned_apply _ d k

theorem rows_wo (t : Fin cfg0.N) (d : Fin 1024) (k : Fin 1024) :
    (blocksAt m c t).wo (ix2 d k) = arg10 m c (ix3 (0 : Fin 1) d k) := by
  show iblk m c 10 t (ix2 d k) = _
  rw [iblk10, V_wo]
  exact square_apply _ d k

theorem row_gate (t : Fin cfg0.N) (d : Fin 1024) :
    (blocksAt m c t).vec (ix2 (0 : Fin 8) d) = arg11 m c (ix2 (0 : Fin 1) d) := by
  show iblk m c 11 t (ix2 (0 : Fin 8) d) = _
  rw [iblk11, V_vec]
  exact packV_zero _ _ _ d

theorem row_gain (t : Fin cfg0.N) (d : Fin 1024) :
    (blocksAt m c t).vec (ix2 (1 : Fin 8) d) = arg12 m c (ix1 d) := by
  show iblk m c 11 t (ix2 (1 : Fin 8) d) = _
  rw [iblk11, V_vec]
  exact (packV_one _ _ _ d).trans (lifted_apply _ d)

variable {m c} {W : Weights} {T : Fin 8192 → Token}

theorem holds (A : Given m c W T) (t : Fin cfg0.N) : Holds (blocksAt m c t) W (fun r => T (rowAt t r)) :=
  ⟨fun r d => (rows_x m c t r d).trans (A.x _ d), fun r d => (rows_t m c t r d).trans (A.t _ d),
    fun r k => (rows_attA m c t r k).trans (A.attA _ k), fun r k => (rows_attB m c t r k).trans (A.attB _ k),
    fun r k => (rows_zA m c t r k).trans (A.zA _ k), fun r k => (rows_zB m c t r k).trans (A.zB _ k),
    fun r d => (congrArg sigT (rows_sA m c t r d)).trans (A.sA _ d).1,
    fun r d => (congrArg sigT (rows_sB m c t r d)).trans (A.sB _ d).1,
    fun d k => (rows_wa m c t d k).trans (A.wa k d), fun d k => (rows_wb m c t d k).trans (A.wb k d),
    fun e d => (rows_wo m c t e d).trans (A.wo e d), fun d => (row_gate m c t d).trans (A.gate d),
    fun d => (row_gain m c t d).trans (A.gain d)⟩

theorem ind_block (t : Fin cfg0.N) (k : Fin 512) (h : Fin 128) :
    (blocksAt m c t).ind (ix2 k h) = ((if k.val / 64 = h.val then 1 else 0 : ℝ) : EReal) :=
  (iblk12 m c t k h).trans (ind_apply m c k h)

theorem emat_block (t : Fin cfg0.N) (k : Fin 384) (n : Fin 1024) : (blocksAt m c t).emat (ix2 k n)
    = ((if k.val % 128 < 8 ∧ n.val = 128 * (k.val % 128) + 64 + k.val / 128 then 1 else 0 : ℝ) : EReal) :=
  (iblk13 m c t k n).trans (emat_apply m c k n)

/-! ## What a point leaves -/

theorem left14 (t : Fin cfg0.N) : (outsAt0 m c t.val t.isLt).1 = dxB (blocksAt m c t) := by
  unfold blocksAt
  by_cases h0 : t.val % 32 = 0
  · rw [outsAt0_A m c t h0]; dsimp only; rw [outA_14]
  · rw [outsAt0_B m c t h0]; dsimp only; rw [outB_14]

theorem left15 (t : Fin cfg0.N) : (outsAt0 m c t.val t.isLt).2.1 = k0_pay12 (blocksAt m c t).attA (blocksAt m c t).zA := by
  unfold blocksAt
  by_cases h0 : t.val % 32 = 0
  · rw [outsAt0_A m c t h0]; dsimp only; rw [outA_15]
  · rw [outsAt0_B m c t h0]; dsimp only; rw [outB_15]

theorem left16 (t : Fin cfg0.N) : (outsAt0 m c t.val t.isLt).2.2.1 = k0_pay12 (blocksAt m c t).attB (blocksAt m c t).zB := by
  unfold blocksAt
  by_cases h0 : t.val % 32 = 0
  · rw [outsAt0_A m c t h0]; dsimp only; rw [outA_16]
  · rw [outsAt0_B m c t h0]; dsimp only; rw [outB_16]

theorem left17 (t : Fin cfg0.N) : (outsAt0 m c t.val t.isLt).2.2.2.1 = transpose S1024x256 [1, 0] (mergedB (blocksAt m c t)) transposes_S256x1024_p1_0_S1024x256 := by
  unfold blocksAt
  by_cases h0 : t.val % 32 = 0
  · rw [outsAt0_A m c t h0]; dsimp only; rw [outA_17]
  · rw [outsAt0_B m c t h0]; dsimp only; rw [outB_17]

theorem left18 (t : Fin cfg0.N) : (outsAt0 m c t.val t.isLt).2.2.2.2.1 = dOutB (blocksAt m c t) := by
  unfold blocksAt
  by_cases h0 : t.val % 32 = 0
  · rw [outsAt0_A m c t h0]; dsimp only; rw [outA_18]
  · rw [outsAt0_B m c t h0]; dsimp only; rw [outB_18]

theorem left19 (t : Fin cfg0.N) : (outsAt0 m c t.val t.isLt).2.2.2.2.2.1 = dyaB (blocksAt m c t) := by
  unfold blocksAt
  by_cases h0 : t.val % 32 = 0
  · rw [outsAt0_A m c t h0]; dsimp only; rw [outA_19]
  · rw [outsAt0_B m c t h0]; dsimp only; rw [outB_19]

theorem left20 (t : Fin cfg0.N) : (outsAt0 m c t.val t.isLt).2.2.2.2.2.2.1 = dybB (blocksAt m c t) := by
  unfold blocksAt
  by_cases h0 : t.val % 32 = 0
  · rw [outsAt0_A m c t h0]; dsimp only; rw [outA_20]
  · rw [outsAt0_B m c t h0]; dsimp only; rw [outB_20]

theorem left21 (t : Fin cfg0.N) : (outsAt0 m c t.val t.isLt).2.2.2.2.2.2.2.1 = augB (k0_pay7 (blocksAt m c t).attA) (dAttB (blocksAt m c t).zA (dyaB (blocksAt m c t)) (blocksAt m c t).wa)
      (blocksAt m c t).ind (blocksAt m c t).emat (VO0_21.read (Elt Ideal) VO0_21.junk) := by
  unfold blocksAt
  by_cases h0 : t.val % 32 = 0
  · rw [outsAt0_A m c t h0]; dsimp only; rw [outA_21]
  · rw [outsAt0_B m c t h0]; dsimp only; rw [outB_21]

theorem left22 (t : Fin cfg0.N) : (outsAt0 m c t.val t.isLt).2.2.2.2.2.2.2.2.1 = augB (k0_pay7 (blocksAt m c t).attB) (dAttB (blocksAt m c t).zB (dybB (blocksAt m c t)) (blocksAt m c t).wb)
      (blocksAt m c t).ind (blocksAt m c t).emat (VO0_22.read (Elt Ideal) VO0_22.junk) := by
  unfold blocksAt
  by_cases h0 : t.val % 32 = 0
  · rw [outsAt0_A m c t h0]; dsimp only; rw [outA_22]
  · rw [outsAt0_B m c t h0]; dsimp only; rw [outB_22]

theorem left23 (t : Fin cfg0.N) : (outsAt0 m c t.val t.isLt).2.2.2.2.2.2.2.2.2.1 = gatesB (blocksAt m c t) (VO0_23.read (Elt Ideal) VO0_23.junk) := by
  unfold blocksAt
  by_cases h0 : t.val % 32 = 0
  · rw [outsAt0_A m c t h0]; dsimp only; rw [outA_23]
  · rw [outsAt0_B m c t h0]; dsimp only; rw [outB_23]

theorem left24_first (t : Fin cfg0.N) (h0 : t.val % 32 = 0) : (outsAt0 m c t.val t.isLt).2.2.2.2.2.2.2.2.2.2 = accB (blocksAt m c t) (k0_pay4 (F := Ideal)) := by
  unfold blocksAt
  rw [outsAt0_A m c t h0]; dsimp only; rw [outA_24]

theorem left24_next (t : Fin cfg0.N) (h0 : ¬t.val % 32 = 0) : (outsAt0 m c t.val t.isLt).2.2.2.2.2.2.2.2.2.2
    = accB (blocksAt m c t) (outsAt0 m c (t.val - 1) (Nat.lt_of_le_of_lt (Nat.sub_le _ _) t.isLt)).2.2.2.2.2.2.2.2.2.2 := by
  unfold blocksAt
  rw [outsAt0_B m c t h0]; dsimp only; rw [outB_24]

variable (W T)

/-- What token `i` adds to the sums, nothing past the last. -/
def addsAt (j : Fin 8) (d : Fin 1024) (i : ℕ) : ℝ := if h : i < 8192 then adds W (T ⟨i, h⟩) j d else 0

variable {W T}

theorem total_step (A : Given m c W T) (t : Fin cfg0.N) (a : Vec Ideal S8x1024 .f32) (j : Fin 8) (d : Fin 1024)
    (ha : a (ix2 j d) = ((∑ i ∈ Finset.range (256 * t.val), addsAt W T j d i : ℝ) : EReal)) :
    accB (blocksAt m c t) a (ix2 j d) = ((∑ i ∈ Finset.range (256 * (t.val + 1)), addsAt W T j d i : ℝ) : EReal) := by
  rw [accB_apply (holds A t), ha, ← sum_adds, ← EReal.coe_add, Nat.mul_succ, Finset.sum_range_add]
  refine congrArg (fun y : ℝ => ((_ + y : ℝ) : EReal)) (Eq.trans ?_ (Fin.sum_univ_eq_sum_range (fun x =>
    addsAt W T j d (256 * t.val + x)) 256))
  refine Finset.sum_congr rfl fun r _ => ?_
  exact (dif_pos (rowAt t r).isLt : addsAt W T j d (rowAt t r).val = _).symm

theorem zero_pay4 (i : S8x1024.Idx) : k0_pay4 (F := Ideal) i = (0 : EReal) := Ideal.ofBits_zero_f32

theorem total (A : Given m c W T) (j : Fin 8) (d : Fin 1024) : ∀ (n : ℕ) (hn : n < cfg0.N),
    (outsAt0 m c n hn).2.2.2.2.2.2.2.2.2.2 (ix2 j d) = ((∑ i ∈ Finset.range (256 * (n + 1)), addsAt W T j d i : ℝ) : EReal)
  | 0, hn => by
    refine (congrFun (left24_first ⟨0, hn⟩ rfl) _).trans (total_step A ⟨0, hn⟩ _ j d ?_)
    rw [zero_pay4]
    show _ = ((∑ i ∈ Finset.range 0, _ : ℝ) : EReal)
    rw [Finset.sum_range_zero]
    rfl
  | n + 1, hn => by
    have hN : n + 1 < 32 := hn
    exact (congrFun (left24_next ⟨n + 1, hn⟩ (by show ¬(n + 1) % 32 = 0; omega)) _).trans
      (total_step A ⟨n + 1, hn⟩ _ j d (total A j d n (Nat.lt_of_succ_lt hn)))

/-! ## Its blocks' entries -/

section entries

variable (A : Given m c W T) (t : Fin cfg0.N) (r : Fin 256)
include A

theorem dx_left (d : Fin 1024) : (outsAt0 m c t.val t.isLt).1 (ix2 r d) = ((dx W (T (rowAt t r)) d : ℝ) : EReal) :=
  (congrFun (left14 t) _).trans (dx_apply (holds A t) r d)

theorem uA_left (k : Fin 512) : (outsAt0 m c t.val t.isLt).2.1 (ix2 k r)
    = ((gated (T (rowAt t r)).attA (T (rowAt t r)).zA k : ℝ) : EReal) :=
  (congrFun (left15 t) _).trans (gatedT_apply ((holds A t).attA r) ((holds A t).zA r) k)

theorem uB_left (k : Fin 512) : (outsAt0 m c t.val t.isLt).2.2.1 (ix2 k r)
    = ((gated (T (rowAt t r)).attB (T (rowAt t r)).zB k : ℝ) : EReal) :=
  (congrFun (left16 t) _).trans (gatedT_apply ((holds A t).attB r) ((holds A t).zB r) k)

theorem merged_left (d : Fin 1024) : (outsAt0 m c t.val t.isLt).2.2.2.1 (ix2 d r) = ((merged W (T (rowAt t r)) d : ℝ) : EReal) := by
  refine (congrFun (left17 t) _).trans (Eq.trans ?_ (merged_apply (holds A t) r d))
  generalize mergedB (blocksAt m c t) = y
  pointwise

theorem dOut_left (d : Fin 1024) : (outsAt0 m c t.val t.isLt).2.2.2.2.1 (ix2 r d) = ((dOut W (T (rowAt t r)) d : ℝ) : EReal) :=
  (congrFun (left18 t) _).trans (dOut_apply (holds A t) r d)

theorem dyA_left (d : Fin 1024) : (outsAt0 m c t.val t.isLt).2.2.2.2.2.1 (ix2 r d)
    = ((dMerged W (T (rowAt t r)) d * (T (rowAt t r)).sA d : ℝ) : EReal) :=
  (congrFun (left19 t) _).trans (dya_apply (holds A t) r d)

theorem dyB_left (d : Fin 1024) : (outsAt0 m c t.val t.isLt).2.2.2.2.2.2.1 (ix2 r d)
    = ((dMerged W (T (rowAt t r)) d * (T (rowAt t r)).sB d : ℝ) : EReal) :=
  (congrFun (left20 t) _).trans (dyb_apply (holds A t) r d)

theorem augA_left (n : Fin 1024) : (outsAt0 m c t.val t.isLt).2.2.2.2.2.2.2.1 (ix2 r n)
    = ((augmented (dAtt W.a (T (rowAt t r)).sA (dMerged W (T (rowAt t r))) (T (rowAt t r)).zA) (T (rowAt t r)).attA n : ℝ) : EReal) :=
  (congrFun (left21 t) _).trans (augB_apply _ _ _ _ _ r n _ _ (fun k => (plain_apply _ r k).trans ((holds A t).attA r k))
    (fun k => dAtt_apply ((holds A t).zA r) (dya_apply (holds A t) r) (holds A t).wa k) (ind_block t) (emat_block t))

theorem augB_left (n : Fin 1024) : (outsAt0 m c t.val t.isLt).2.2.2.2.2.2.2.2.1 (ix2 r n)
    = ((augmented (dAtt W.b (T (rowAt t r)).sB (dMerged W (T (rowAt t r))) (T (rowAt t r)).zB) (T (rowAt t r)).attB n : ℝ) : EReal) :=
  (congrFun (left22 t) _).trans (augB_apply _ _ _ _ _ r n _ _ (fun k => (plain_apply _ r k).trans ((holds A t).attB r k))
    (fun k => dAtt_apply ((holds A t).zB r) (dyb_apply (holds A t) r) (holds A t).wb k) (ind_block t) (emat_block t))

theorem fused_left (n : Fin 3072) : (outsAt0 m c t.val t.isLt).2.2.2.2.2.2.2.2.2.1 (ix2 r n) = ((fused W (T (rowAt t r)) n : ℝ) : EReal) :=
  (congrFun (left23 t) _).trans (gatesB_apply (holds A t) _ r n)

end entries

end run

end Cert.Post

end
-- ==== Proof.PostAfter.lean ====
/- The arrays the gates, merge, norm and loss launch leaves. -/
module

public import proofs.«01_k».proof.Proof.PostRun
public import Idealize.ShloMosaic.Lib.Pipeline.ValueKit

@[expose] public section

set_option maxRecDepth 65536

noncomputable section

namespace Cert.Post

open Cert.Kernel5Ideal Cert.Kernel5Ideal.Gen Idealize.ShloMosaic Idealize.ShloMosaic.TcCoe Idealize.SL.Sem
open Idealize.ShloMosaic.Pipeline (Dat)

section run

variable {m : (ℓ : Loc nD τ sig) → Buf (Elt Ideal) ℓ} {c : Dev nD} {W : Weights} {T : Fin 8192 → Token}

/-- The point that visits row `i`, and the row's place in its block. -/
def pointOf (i : Fin 8192) : Fin cfg0.N := ⟨i.val / 256, by show _ < 32; omega⟩

def placeOf (i : Fin 8192) : Fin 256 := ⟨i.val % 256, by omega⟩

theorem rowAt_of (i : Fin 8192) : rowAt (pointOf i) (placeOf i) = i :=
  Fin.ext (by show 256 * (i.val / 256) + i.val % 256 = i.val; omega)

theorem index14 : ∀ t : Fin cfg0.N, win0_14.index t 0 = t.val ∧ win0_14.index t 1 = 0 := by decide +kernel

theorem flush14 : ∀ t : Fin cfg0.N, (cfg0.win 14).flush t = true := by decide +kernel

theorem mem_blk14 (t : Fin cfg0.N) (r : Fin 256) (d : Fin 1024) :
    ((cfg0.win 14).blk t).view.emb (ix2 r d : S256x1024.Idx) = (ix2 (rowAt t r) d : S8192x1024.Idx) := by
  funext a
  apply Fin.ext
  have h := index14 t
  match a with
  | ⟨0, _⟩ => show win0_14.index t 0 * 256 + 1 * r.val = 256 * t.val + r.val; rw [h.1]; omega
  | ⟨1, _⟩ => show win0_14.index t 1 * 1024 + 1 * d.val = d.val; rw [h.2]; omega

theorem dx_after (A : Given m c W T) (i : Fin 8192) (d : Fin 1024) :
    ((dats m 0 c).arrAt 14 cfg0.N : Vec Ideal S8192x1024 .f32) (ix2 i d) = ((dx W (T i) d : ℝ) : EReal) := by
  have h := (dats m 0 c).arrAt_emb_eq_flushed 14 Value.disjoint14 (pointOf i) (flush14 _) (ix2 (placeOf i) d : S256x1024.Idx)
  rw [mem_blk14, rowAt_of] at h
  refine h.trans ?_
  rw [Value.flushed14]
  have e := dx_left A (pointOf i) (placeOf i) d
  rw [rowAt_of] at e
  exact e

theorem index15 : ∀ t : Fin cfg0.N, win0_15.index t 0 = 0 ∧ win0_15.index t 1 = t.val := by decide +kernel

theorem flush15 : ∀ t : Fin cfg0.N, (cfg0.win 15).flush t = true := by decide +kernel

theorem mem_blk15 (t : Fin cfg0.N) (r : Fin 256) (d : Fin 512) :
    ((cfg0.win 15).blk t).view.emb (ix2 d r : S512x256.Idx) = (ix2 d (rowAt t r) : S512x8192.Idx) := by
  funext a
  apply Fin.ext
  have h := index15 t
  match a with
  | ⟨0, _⟩ => show win0_15.index t 0 * 512 + 1 * d.val = d.val; rw [h.1]; omega
  | ⟨1, _⟩ => show win0_15.index t 1 * 256 + 1 * r.val = 256 * t.val + r.val; rw [h.2]; omega

theorem uA_after (A : Given m c W T) (i : Fin 8192) (d : Fin 512) :
    ((dats m 0 c).arrAt 15 cfg0.N : Vec Ideal S512x8192 .bf16) (ix2 d i) = ((gated (T i).attA (T i).zA d : ℝ) : EReal) := by
  have h := (dats m 0 c).arrAt_emb_eq_flushed 15 Value.disjoint15 (pointOf i) (flush15 _) (ix2 d (placeOf i) : S512x256.Idx)
  rw [mem_blk15, rowAt_of] at h
  refine h.trans ?_
  rw [Value.flushed15]
  have e := uA_left A (pointOf i) (placeOf i) d
  rw [rowAt_of] at e
  exact e

theorem index16 : ∀ t : Fin cfg0.N, win0_16.index t 0 = 0 ∧ win0_16.index t 1 = t.val := by decide +kernel

theorem flush16 : ∀ t : Fin cfg0.N, (cfg0.win 16).flush t = true := by decide +kernel

theorem mem_blk16 (t : Fin cfg0.N) (r : Fin 256) (d : Fin 512) :
    ((cfg0.win 16).blk t).view.emb (ix2 d r : S512x256.Idx) = (ix2 d (rowAt t r) : S512x8192.Idx) := by
  funext a
  apply Fin.ext
  have h := index16 t
  match a with
  | ⟨0, _⟩ => show win0_16.index t 0 * 512 + 1 * d.val = d.val; rw [h.1]; omega
  | ⟨1, _⟩ => show win0_16.index t 1 * 256 + 1 * r.val = 256 * t.val + r.val; rw [h.2]; omega

theorem uB_after (A : Given m c W T) (i : Fin 8192) (d : Fin 512) :
    ((dats m 0 c).arrAt 16 cfg0.N : Vec Ideal S512x8192 .bf16) (ix2 d i) = ((gated (T i).attB (T i).zB d : ℝ) : EReal) := by
  have h := (dats m 0 c).arrAt_emb_eq_flushed 16 Value.disjoint16 (pointOf i) (flush16 _) (ix2 d (placeOf i) : S512x256.Idx)
  rw [mem_blk16, rowAt_of] at h
  refine h.trans ?_
  rw [Value.flushed16]
  have e := uB_left A (pointOf i) (placeOf i) d
  rw [rowAt_of] at e
  exact e

theorem index17 : ∀ t : Fin cfg0.N, win0_17.index t 0 = 0 ∧ win0_17.index t 1 = t.val := by decide +kernel

theorem flush17 : ∀ t : Fin cfg0.N, (cfg0.win 17).flush t = true := by decide +kernel

theorem mem_blk17 (t : Fin cfg0.N) (r : Fin 256) (d : Fin 1024) :
    ((cfg0.win 17).blk t).view.emb (ix2 d r : S1024x256.Idx) = (ix2 d (rowAt t r) : S1024x8192.Idx) := by
  funext a
  apply Fin.ext
  have h := index17 t
  match a with
  | ⟨0, _⟩ => show win0_17.index t 0 * 1024 + 1 * d.val = d.val; rw [h.1]; omega
  | ⟨1, _⟩ => show win0_17.index t 1 * 256 + 1 * r.val = 256 * t.val + r.val; rw [h.2]; omega

theorem merged_after (A : Given m c W T) (i : Fin 8192) (d : Fin 1024) :
    ((dats m 0 c).arrAt 17 cfg0.N : Vec Ideal S1024x8192 .bf16) (ix2 d i) = ((merged W (T i) d : ℝ) : EReal) := by
  have h := (dats m 0 c).arrAt_emb_eq_flushed 17 Value.disjoint17 (pointOf i) (flush17 _) (ix2 d (placeOf i) : S1024x256.Idx)
  rw [mem_blk17, rowAt_of] at h
  refine h.trans ?_
  rw [Value.flushed17]
  have e := merged_left A (pointOf i) (placeOf i) d
  rw [rowAt_of] at e
  exact e

theorem index18 : ∀ t : Fin cfg0.N, win0_18.index t 0 = t.val ∧ win0_18.index t 1 = 0 := by decide +kernel

theorem flush18 : ∀ t : Fin cfg0.N, (cfg0.win 18).flush t = true := by decide +kernel

theorem mem_blk18 (t : Fin cfg0.N) (r : Fin 256) (d : Fin 1024) :
    ((cfg0.win 18).blk t).view.emb (ix2 r d : S256x1024.Idx) = (ix2 (rowAt t r) d : S8192x1024.Idx) := by
  funext a
  apply Fin.ext
  have h := index18 t
  match a with
  | ⟨0, _⟩ => show win0_18.index t 0 * 256 + 1 * r.val = 256 * t.val + r.val; rw [h.1]; omega
  | ⟨1, _⟩ => show win0_18.index t 1 * 1024 + 1 * d.val = d.val; rw [h.2]; omega

theorem dOut_after (A : Given m c W T) (i : Fin 8192) (d : Fin 1024) :
    ((dats m 0 c).arrAt 18 cfg0.N : Vec Ideal S8192x1024 .bf16) (ix2 i d) = ((dOut W (T i) d : ℝ) : EReal) := by
  have h := (dats m 0 c).arrAt_emb_eq_flushed 18 Value.disjoint18 (pointOf i) (flush18 _) (ix2 (placeOf i) d : S256x1024.Idx)
  rw [mem_blk18, rowAt_of] at h
  refine h.trans ?_
  rw [Value.flushed18]
  have e := dOut_left A (pointOf i) (placeOf i) d
  rw [rowAt_of] at e
  exact e

theorem index19 : ∀ t : Fin cfg0.N, win0_19.index t 0 = t.val ∧ win0_19.index t 1 = 0 := by decide +kernel

theorem flush19 : ∀ t : Fin cfg0.N, (cfg0.win 19).flush t = true := by decide +kernel

theorem mem_blk19 (t : Fin cfg0.N) (r : Fin 256) (d : Fin 1024) :
    ((cfg0.win 19).blk t).view.emb (ix2 r d : S256x1024.Idx) = (ix2 (rowAt t r) d : S8192x1024.Idx) := by
  funext a
  apply Fin.ext
  have h := index19 t
  match a with
  | ⟨0, _⟩ => show win0_19.index t 0 * 256 + 1 * r.val = 256 * t.val + r.val; rw [h.1]; omega
  | ⟨1, _⟩ => show win0_19.index t 1 * 1024 + 1 * d.val = d.val; rw [h.2]; omega

theorem dyA_after (A : Given m c W T) (i : Fin 8192) (d : Fin 1024) :
    ((dats m 0 c).arrAt 19 cfg0.N : Vec Ideal S8192x1024 .bf16) (ix2 i d) = ((dMerged W (T i) d * (T i).sA d : ℝ) : EReal) := by
  have h := (dats m 0 c).arrAt_emb_eq_flushed 19 Value.disjoint19 (pointOf i) (flush19 _) (ix2 (placeOf i) d : S256x1024.Idx)
  rw [mem_blk19, rowAt_of] at h
  refine h.trans ?_
  rw [Value.flushed19]
  have e := dyA_left A (pointOf i) (placeOf i) d
  rw [rowAt_of] at e
  exact e

theorem index20 : ∀ t : Fin cfg0.N, win0_20.index t 0 = t.val ∧ win0_20.index t 1 = 0 := by decide +kernel

theorem flush20 : ∀ t : Fin cfg0.N, (cfg0.win 20).flush t = true := by decide +kernel

theorem mem_blk20 (t : Fin cfg0.N) (r : Fin 256) (d : Fin 1024) :
    ((cfg0.win 20).blk t).view.emb (ix2 r d : S256x1024.Idx) = (ix2 (rowAt t r) d : S8192x1024.Idx) := by
  funext a
  apply Fin.ext
  have h := index20 t
  match a with
  | ⟨0, _⟩ => show win0_20.index t 0 * 256 + 1 * r.val = 256 * t.val + r.val; rw [h.1]; omega
  | ⟨1, _⟩ => show win0_20.index t 1 * 1024 + 1 * d.val = d.val; rw [h.2]; omega

theorem dyB_after (A : Given m c W T) (i : Fin 8192) (d : Fin 1024) :
    ((dats m 0 c).arrAt 20 cfg0.N : Vec Ideal S8192x1024 .bf16) (ix2 i d) = ((dMerged W (T i) d * (T i).sB d : ℝ) : EReal) := by
  have h := (dats m 0 c).arrAt_emb_eq_flushed 20 Value.disjoint20 (pointOf i) (flush20 _) (ix2 (placeOf i) d : S256x1024.Idx)
  rw [mem_blk20, rowAt_of] at h
  refine h.trans ?_
  rw [Value.flushed20]
  have e := dyB_left A (pointOf i) (placeOf i) d
  rw [rowAt_of] at e
  exact e

theorem index21 : ∀ t : Fin cfg0.N, win0_21.index t 0 = t.val ∧ win0_21.index t 1 = 0 := by decide +kernel

theorem flush21 : ∀ t : Fin cfg0.N, (cfg0.win 21).flush t = true := by decide +kernel

theorem mem_blk21 (t : Fin cfg0.N) (r : Fin 256) (d : Fin 1024) :
    ((cfg0.win 21).blk t).view.emb (ix2 r d : S256x1024.Idx) = (ix2 (rowAt t r) d : S8192x1024.Idx) := by
  funext a
  apply Fin.ext
  have h := index21 t
  match a with
  | ⟨0, _⟩ => show win0_21.index t 0 * 256 + 1 * r.val = 256 * t.val + r.val; rw [h.1]; omega
  | ⟨1, _⟩ => show win0_21.index t 1 * 1024 + 1 * d.val = d.val; rw [h.2]; omega

theorem augA_after (A : Given m c W T) (i : Fin 8192) (d : Fin 1024) :
    ((dats m 0 c).arrAt 21 cfg0.N : Vec Ideal S8192x1024 .bf16) (ix2 i d) = ((augmented (dAtt W.a (T i).sA (dMerged W (T i)) (T i).zA) (T i).attA d : ℝ) : EReal) := by
  have h := (dats m 0 c).arrAt_emb_eq_flushed 21 Value.disjoint21 (pointOf i) (flush21 _) (ix2 (placeOf i) d : S256x1024.Idx)
  rw [mem_blk21, rowAt_of] at h
  refine h.trans ?_
  rw [Value.flushed21]
  have e := augA_left A (pointOf i) (placeOf i) d
  rw [rowAt_of] at e
  exact e

theorem index22 : ∀ t : Fin cfg0.N, win0_22.index t 0 = t.val ∧ win0_22.index t 1 = 0 := by decide +kernel

theorem flush22 : ∀ t : Fin cfg0.N, (cfg0.win 22).flush t = true := by decide +kernel

theorem mem_blk22 (t : Fin cfg0.N) (r : Fin 256) (d : Fin 1024) :
    ((cfg0.win 22).blk t).view.emb (ix2 r d : S256x1024.Idx) = (ix2 (rowAt t r) d : S8192x1024.Idx) := by
  funext a
  apply Fin.ext
  have h := index22 t
  match a with
  | ⟨0, _⟩ => show win0_22.index t 0 * 256 + 1 * r.val = 256 * t.val + r.val; rw [h.1]; omega
  | ⟨1, _⟩ => show win0_22.index t 1 * 1024 + 1 * d.val = d.val; rw [h.2]; omega

theorem augB_after (A : Given m c W T) (i : Fin 8192) (d : Fin 1024) :
    ((dats m 0 c).arrAt 22 cfg0.N : Vec Ideal S8192x1024 .bf16) (ix2 i d) = ((augmented (dAtt W.b (T i).sB (dMerged W (T i)) (T i).zB) (T i).attB d : ℝ) : EReal) := by
  have h := (dats m 0 c).arrAt_emb_eq_flushed 22 Value.disjoint22 (pointOf i) (flush22 _) (ix2 (placeOf i) d : S256x1024.Idx)
  rw [mem_blk22, rowAt_of] at h
  refine h.trans ?_
  rw [Value.flushed22]
  have e := augB_left A (pointOf i) (placeOf i) d
  rw [rowAt_of] at e
  exact e

theorem index23 : ∀ t : Fin cfg0.N, win0_23.index t 0 = t.val ∧ win0_23.index t 1 = 0 := by decide +kernel

theorem flush23 : ∀ t : Fin cfg0.N, (cfg0.win 23).flush t = true := by decide +kernel

theorem mem_blk23 (t : Fin cfg0.N) (r : Fin 256) (d : Fin 3072) :
    ((cfg0.win 23).blk t).view.emb (ix2 r d : S256x3072.Idx) = (ix2 (rowAt t r) d : S8192x3072.Idx) := by
  funext a
  apply Fin.ext
  have h := index23 t
  match a with
  | ⟨0, _⟩ => show win0_23.index t 0 * 256 + 1 * r.val = 256 * t.val + r.val; rw [h.1]; omega
  | ⟨1, _⟩ => show win0_23.index t 1 * 3072 + 1 * d.val = d.val; rw [h.2]; omega

theorem fused_after (A : Given m c W T) (i : Fin 8192) (d : Fin 3072) :
    ((dats m 0 c).arrAt 23 cfg0.N : Vec Ideal S8192x3072 .bf16) (ix2 i d) = ((fused W (T i) d : ℝ) : EReal) := by
  have h := (dats m 0 c).arrAt_emb_eq_flushed 23 Value.disjoint23 (pointOf i) (flush23 _) (ix2 (placeOf i) d : S256x3072.Idx)
  rw [mem_blk23, rowAt_of] at h
  refine h.trans ?_
  rw [Value.flushed23]
  have e := fused_left A (pointOf i) (placeOf i) d
  rw [rowAt_of] at e
  exact e

/-- The last point. -/
def lastPoint : Fin cfg0.N := ⟨31, by show _ < 32; omega⟩

theorem array_total : ((dats m 0 c).arrAt 24 cfg0.N : Vec Ideal S8x1024 .f32)
    = (outsAt0 m c lastPoint.val lastPoint.isLt).2.2.2.2.2.2.2.2.2.2 := by
  refine (dats m 0 c).arrAt_eq_of_after_last 24 lastPoint (by decide +kernel) _ fun j => ?_
  blk_simp
  rw [after0_24]

/-- The sums over all tokens. -/
theorem total_after (A : Given m c W T) (j : Fin 8) (d : Fin 1024) :
    ((dats m 0 c).arrAt 24 cfg0.N : Vec Ideal S8x1024 .f32) (ix2 j d) = ((∑ i, adds W (T i) j d : ℝ) : EReal) := by
  refine (congrFun array_total _).trans ((total A j d lastPoint.val lastPoint.isLt).trans ?_)
  refine congrArg (fun y : ℝ => (y : EReal)) ?_
  refine (Fin.sum_univ_eq_sum_range (addsAt W T j d) 8192).symm.trans (Finset.sum_congr rfl fun i _ => ?_)
  exact dif_pos i.isLt

end run

end Cert.Post

end
-- ==== Proof.PostRef.lean ====
/- What the reference of the gates, merge, norm and loss step computes, entry by entry, up to the gradients of the branches. -/
module

public import proofs.«01_k».proof.Proof.PostArgs
public import proofs.«01_k».proof.Proof.PreRef
public import proofs.«01_k».proof.Proof.Gen.Reference5Ideal.Read

@[expose] public section

set_option maxRecDepth 16384

noncomputable section

namespace Cert.Post

open Cert.Reference5Ideal Cert.Reference5Ideal.Gen Cert.Reference5Ideal.Read
open Idealize.ShloMosaic

/-! ## A branch -/

theorem ref_sig (z : Vec Ideal S1x8192x512 .f32) (i : Fin 8192) (k : Fin 512) :
    val_main_v1_2 (F := Ideal) z (ix3 (0 : Fin 1) i k) = sigE (z (ix3 (0 : Fin 1) i k)) := by
  unfold val_main_v1_2 val_main_call0_v4 val_main_call0_cst_0 val_main_call0_v3 val_main_call0_v2 val_main_call0_cst val_main_call0_v1 val_main_call0_v0 sigE
  pointwise

theorem ref_gate (z : Vec Ideal S1x8192x1024 .f32) (i : Fin 8192) (d : Fin 1024) :
    val_main_v13 (F := Ideal) z (ix3 (0 : Fin 1) i d) = sigE (z (ix3 (0 : Fin 1) i d)) := by
  unfold val_main_v13 val_main_v12 val_main_cst_0 val_main_v11 val_main_v10 val_main_cst val_main_v9 val_main_v8 sigE
  pointwise

section branch

variable {att z : Vec Ideal S1x8192x512 .f32} {w : Vec Ideal S1x512x1024 .f32} {i : Fin 8192} {a ζ : Fin 512 → ℝ}
  {v : Fin 512 → Fin 1024 → ℝ}

theorem ref_sigR (hz : ∀ k, z (ix3 (0 : Fin 1) i k) = ((ζ k : ℝ) : EReal)) (k : Fin 512) :
    val_main_v1_2 (F := Ideal) z (ix3 (0 : Fin 1) i k) = ((sigR (ζ k) : ℝ) : EReal) := by
  rw [ref_sig, hz, sigE_coe]

theorem ref_silu (hz : ∀ k, z (ix3 (0 : Fin 1) i k) = ((ζ k : ℝ) : EReal)) (k : Fin 512) :
    val_main_v1_0 (F := Ideal) z (ix3 (0 : Fin 1) i k) = ((silu (ζ k) : ℝ) : EReal) := by
  have e := ref_sigR hz k
  revert e
  unfold val_main_v1_0
  generalize val_main_v1_2 (F := Ideal) z = y
  intro e
  pointwise
  rw [e, hz, ← EReal.coe_mul]
  rfl

theorem ref_sig_slope (hz : ∀ k, z (ix3 (0 : Fin 1) i k) = ((ζ k : ℝ) : EReal)) (k : Fin 512) :
    val_main_v1_1 (F := Ideal) z (ix3 (0 : Fin 1) i k) = ((sigR (ζ k) * (1 - sigR (ζ k)) : ℝ) : EReal) := by
  have e := ref_sigR hz k
  revert e
  unfold val_main_v1_1 val_main_call0_v7 val_main_call0_v6 val_main_call0_cst_1
  generalize val_main_v1_2 (F := Ideal) z = y
  intro e
  pointwise
  rw [e]
  simp only [EReal.coe_mul, EReal.coe_sub, EReal.coe_one]

theorem ref_gated (ha : ∀ k, att (ix3 (0 : Fin 1) i k) = ((a k : ℝ) : EReal)) (hz : ∀ k, z (ix3 (0 : Fin 1) i k) = ((ζ k : ℝ) : EReal))
    (k : Fin 512) : val_main_v2 (F := Ideal) att z (ix3 (0 : Fin 1) i k) = ((gated a ζ k : ℝ) : EReal) := by
  have e := ref_silu hz k
  revert e
  unfold val_main_v2
  generalize val_main_v1_0 (F := Ideal) z = y
  intro e
  pointwise
  rw [e, ha, ← EReal.coe_mul]
  rfl

theorem ref_proj (ha : ∀ k, att (ix3 (0 : Fin 1) i k) = ((a k : ℝ) : EReal)) (hz : ∀ k, z (ix3 (0 : Fin 1) i k) = ((ζ k : ℝ) : EReal))
    (hw : ∀ k d, w (ix3 (0 : Fin 1) k d) = ((v k d : ℝ) : EReal)) (d : Fin 1024) :
    val_main_v3 (F := Ideal) att z w (ix3 (0 : Fin 1) i d) = ((proj v (gated a ζ) d : ℝ) : EReal) := by
  have e := ref_gated ha hz
  revert e
  unfold val_main_v3 val_main_v0
  generalize val_main_v2 (F := Ideal) att z = y
  intro e
  pointwise
  simp only [e, hw, ← EReal.coe_mul, ← Cert.FG.coe_sum]
  rfl

/-- The gradient of the gated attention output, from that of the branch's output. -/
theorem ref_dU {g : Vec Ideal S1x8192x1024 .f32} {G S : Fin 1024 → ℝ}
    (hg : ∀ d, g (ix3 (0 : Fin 1) i d) = ((G d * S d : ℝ) : EReal))
    (hw : ∀ k d, w (ix3 (0 : Fin 1) k d) = ((v k d : ℝ) : EReal)) (k : Fin 512) :
    Host.dotGeneral (F := Ideal) (φ₁ := .f32) (φ₂ := .f32) dot_S1x8192x1024_S512x1024_S1x8192x512_2_1_01_0_n_n none g (val_main_v0 (F := Ideal) w) (ix3 (0 : Fin 1) i k)
      = ((dU v S G k : ℝ) : EReal) := by
  unfold val_main_v0
  pointwise
  simp only [hg, hw, ← EReal.coe_mul, ← Cert.FG.coe_sum]
  rfl

/-- The gradient of the gate before its sigmoid, by the product rule. -/
theorem ref_dZ {u : Vec Ideal S1x8192x512 .f32} {U : Fin 512 → ℝ}
    (hu : ∀ k, u (ix3 (0 : Fin 1) i k) = ((U k : ℝ) : EReal)) (ha : ∀ k, att (ix3 (0 : Fin 1) i k) = ((a k : ℝ) : EReal))
    (hz : ∀ k, z (ix3 (0 : Fin 1) i k) = ((ζ k : ℝ) : EReal)) (k : Fin 512) :
    addf (F := Ideal) (s := S1x8192x512) (φ := .f32) (mulf (mulf att u) (val_main_v1_2 (F := Ideal) z)) (mulf (mulf z (mulf att u)) (val_main_v1_1 (F := Ideal) z))
        (ix3 (0 : Fin 1) i k)
      = ((U k * a k * (sigR (ζ k) * (1 + ζ k * (1 - sigR (ζ k)))) : ℝ) : EReal) := by
  have e := ref_sigR hz k
  have e' := ref_sig_slope hz k
  revert e e'
  generalize val_main_v1_2 (F := Ideal) z = y
  generalize val_main_v1_1 (F := Ideal) z = y'
  intro e e'
  pointwise
  rw [e, e', hu, ha, hz]
  simp only [← EReal.coe_mul, ← EReal.coe_add]
  congr 1
  ring

end branch

/-! ## The merge, the norm and the loss -/

section token

variable {x0 x1 : Vec Ideal S1x8192x1024 .f32} {x2 x3 x4 x5 : Vec Ideal S1x8192x512 .f32} {x6 x7 : Vec Ideal S1x8192x1024 .f32}
  {x8 x9 : Vec Ideal S1x512x1024 .f32} {x10 : Vec Ideal S1x1024x1024 .f32} {x11 : Vec Ideal S1x1024 .f32} {x12 : Vec Ideal S1024 .f32}
  {W : Weights} {T : Fin 8192 → Token} (A : Args x0 x1 x2 x3 x4 x5 x6 x7 x8 x9 x10 x11 x12 W T) (i : Fin 8192)
include A

theorem ref_yA (d : Fin 1024) : val_main_v3 (F := Ideal) x2 x4 x8 (ix3 (0 : Fin 1) i d) = ((yA W (T i) d : ℝ) : EReal) :=
  ref_proj (A.attA i) (A.zA i) A.wa d

theorem ref_yB (d : Fin 1024) : val_main_v7 (F := Ideal) x3 x5 x9 (ix3 (0 : Fin 1) i d) = ((yB W (T i) d : ℝ) : EReal) :=
  ref_proj (A.attB i) (A.zB i) A.wb d

theorem ref_sA (d : Fin 1024) : val_main_v13 (F := Ideal) x6 (ix3 (0 : Fin 1) i d) = (((T i).sA d : ℝ) : EReal) :=
  (ref_gate x6 i d).trans (A.sA i d).2

theorem ref_sB (d : Fin 1024) : val_main_v23 (F := Ideal) x7 (ix3 (0 : Fin 1) i d) = (((T i).sB d : ℝ) : EReal) :=
  (ref_gate x7 i d).trans (A.sB i d).2

theorem ref_merged (d : Fin 1024) : val_main_v28 (F := Ideal) x2 x3 x4 x5 x6 x7 x8 x9 (ix3 (0 : Fin 1) i d)
    = ((merged W (T i) d : ℝ) : EReal) := by
  have e1 := ref_yA A i d
  have e2 := ref_yB A i d
  have e3 := ref_sA A i d
  have e4 := ref_sB A i d
  revert e1 e2 e3 e4
  unfold val_main_v28 val_main_v27 val_main_v17
  generalize val_main_v3 (F := Ideal) x2 x4 x8 = y1
  generalize val_main_v7 (F := Ideal) x3 x5 x9 = y2
  generalize val_main_v13 (F := Ideal) x6 = y3
  generalize val_main_v23 (F := Ideal) x7 = y4
  intro e1 e2 e3 e4
  pointwise
  rw [e1, e2, e3, e4, ← EReal.coe_mul, ← EReal.coe_mul, ← EReal.coe_add]
  rfl

theorem ref_out (d : Fin 1024) : val_main_v30 (F := Ideal) x2 x3 x4 x5 x6 x7 x8 x9 x10 (ix3 (0 : Fin 1) i d)
    = ((out W (T i) d : ℝ) : EReal) := by
  have e := ref_merged A i
  revert e
  unfold val_main_v30 val_main_v29
  generalize val_main_v28 (F := Ideal) x2 x3 x4 x5 x6 x7 x8 x9 = y
  intro e
  pointwise
  simp only [e, A.wo, ← EReal.coe_mul, ← Cert.FG.coe_sum]
  rfl

theorem ref_resid (d : Fin 1024) : val_main_v34 (F := Ideal) x0 x2 x3 x4 x5 x6 x7 x8 x9 x10 x11 (ix3 (0 : Fin 1) i d) = ((resid W (T i) d : ℝ) : EReal) := by
  have e := ref_out A i d
  revert e
  unfold val_main_v34 val_main_v33 val_main_v32 val_main_v31
  generalize val_main_v30 (F := Ideal) x2 x3 x4 x5 x6 x7 x8 x9 x10 = y
  intro e
  pointwise
  rw [e, A.x, A.gate, ← EReal.coe_mul, ← EReal.coe_add]
  rfl

theorem ref_meanSq : val_main_v41 (F := Ideal) x0 x2 x3 x4 x5 x6 x7 x8 x9 x10 x11 (ix3 (0 : Fin 1) i (0 : Fin 1)) = ((Norm.meanSq (resid W (T i)) : ℝ) : EReal) := by
  have e := ref_resid A i
  revert e
  unfold val_main_v41 val_main_v40 val_main_cst_7 val_main_v39 val_main_v38 val_main_cst_6 val_main_v37 val_main_v36 val_main_v35 val_main_cst_5
  generalize val_main_v34 (F := Ideal) x0 x2 x3 x4 x5 x6 x7 x8 x9 x10 x11 = y
  intro e
  rw [← Norm.meanE_coe]
  unfold Norm.meanE
  simp only [← e]
  pointwise

theorem ref_rstd : val_main_v42 (F := Ideal) x0 x2 x3 x4 x5 x6 x7 x8 x9 x10 x11 (ix3 (0 : Fin 1) i (0 : Fin 1)) = ((Norm.rstd (resid W (T i)) : ℝ) : EReal) := by
  have e := ref_meanSq A i
  revert e
  unfold val_main_v42
  generalize val_main_v41 (F := Ideal) x0 x2 x3 x4 x5 x6 x7 x8 x9 x10 x11 = y
  intro e
  pointwise
  rw [e, Norm.rsqrt_meanSq]

theorem ref_rstd_slope : val_main_v45 (F := Ideal) x0 x2 x3 x4 x5 x6 x7 x8 x9 x10 x11 (ix3 (0 : Fin 1) i (0 : Fin 1))
    = ((-0.5 * (Norm.rstd (resid W (T i)) / Norm.meanSq (resid W (T i))) : ℝ) : EReal) := by
  have e := ref_rstd A i
  have e' := ref_meanSq A i
  revert e e'
  unfold val_main_v45 val_main_v44 val_main_cst_8 val_main_v43
  generalize val_main_v42 (F := Ideal) x0 x2 x3 x4 x5 x6 x7 x8 x9 x10 x11 = y
  generalize val_main_v41 (F := Ideal) x0 x2 x3 x4 x5 x6 x7 x8 x9 x10 x11 = z
  intro e e'
  pointwise
  rw [e, e', Norm.half_eq, Ideal.div_coe (Norm.meanSq_pos _).ne', ← EReal.coe_mul, ← EReal.coe_mul]
  congr 2
  ring

theorem ref_normed (d : Fin 1024) : val_main_v47 (F := Ideal) x0 x2 x3 x4 x5 x6 x7 x8 x9 x10 x11 (ix3 (0 : Fin 1) i d) = ((normed W (T i) d : ℝ) : EReal) := by
  have e := ref_resid A i d
  have e' := ref_rstd A i
  revert e e'
  unfold val_main_v47 val_main_v46
  generalize val_main_v34 (F := Ideal) x0 x2 x3 x4 x5 x6 x7 x8 x9 x10 x11 = y
  generalize val_main_v42 (F := Ideal) x0 x2 x3 x4 x5 x6 x7 x8 x9 x10 x11 = z
  intro e e'
  pointwise
  rw [e, e', ← EReal.coe_mul]
  rfl

theorem ref_diff (d : Fin 1024) : val_main_v51 (F := Ideal) x0 x1 x2 x3 x4 x5 x6 x7 x8 x9 x10 x11 x12 (ix3 (0 : Fin 1) i d) = ((diff W (T i) d : ℝ) : EReal) := by
  have e := ref_normed A i d
  revert e
  unfold val_main_v51 val_main_v50 val_main_v49 val_main_v48
  generalize val_main_v47 (F := Ideal) x0 x2 x3 x4 x5 x6 x7 x8 x9 x10 x11 = y
  intro e
  pointwise
  rw [e, A.gain, A.t, ← EReal.coe_mul, ← EReal.coe_sub]
  rfl

theorem ref_dy (d : Fin 1024) : val_main_v65 (F := Ideal) x0 x1 x2 x3 x4 x5 x6 x7 x8 x9 x10 x11 x12 (ix3 (0 : Fin 1) i d) = ((dy W (T i) d : ℝ) : EReal) := by
  have e := ref_diff A i d
  revert e
  unfold val_main_v65 val_main_v64 val_main_v63 val_main_v62 val_main_cst_16 val_main_v61 val_main_v60 val_main_cst_15 val_main_cst_14 val_main_v54 val_main_v53 val_main_cst_9
  generalize val_main_v51 (F := Ideal) x0 x1 x2 x3 x4 x5 x6 x7 x8 x9 x10 x11 x12 = y
  intro e
  pointwise
  rw [e, k_half, k_two, Norm.k1024_eq, Ideal.div_coe (by norm_num), ← EReal.coe_mul, ← EReal.coe_mul, ← EReal.coe_mul]
  unfold dy
  congr 1
  ring

theorem ref_dy_gain (d : Fin 1024) : val_main_v70 (F := Ideal) x0 x1 x2 x3 x4 x5 x6 x7 x8 x9 x10 x11 x12 (ix3 (0 : Fin 1) i d) = ((dy W (T i) d * W.gain d : ℝ) : EReal) := by
  have e := ref_dy A i d
  revert e
  unfold val_main_v70 val_main_v69 val_main_v48
  generalize val_main_v65 (F := Ideal) x0 x1 x2 x3 x4 x5 x6 x7 x8 x9 x10 x11 x12 = y
  intro e
  pointwise
  rw [e, A.gain, ← EReal.coe_mul]

theorem ref_dx (d : Fin 1024) : val_main_v86 (F := Ideal) x0 x1 x2 x3 x4 x5 x6 x7 x8 x9 x10 x11 x12 (ix3 (0 : Fin 1) i d) = ((dx W (T i) d : ℝ) : EReal) := by
  have e := ref_dy_gain A i
  have e' := ref_resid A i
  have e1 := ref_rstd A i
  have e2 := ref_rstd_slope A i
  revert e e' e1 e2
  unfold val_main_v86 val_main_v85 val_main_v84 val_main_v83 val_main_v82 val_main_v81 val_main_v80 val_main_cst_21 val_main_v79 val_main_v78 val_main_cst_20 val_main_v77 val_main_v76 val_main_v75 val_main_v74 val_main_v73 val_main_cst_19 val_main_v72
  generalize val_main_v70 (F := Ideal) x0 x1 x2 x3 x4 x5 x6 x7 x8 x9 x10 x11 x12 = y
  generalize val_main_v34 (F := Ideal) x0 x2 x3 x4 x5 x6 x7 x8 x9 x10 x11 = z
  generalize val_main_v42 (F := Ideal) x0 x2 x3 x4 x5 x6 x7 x8 x9 x10 x11 = u
  generalize val_main_v45 (F := Ideal) x0 x2 x3 x4 x5 x6 x7 x8 x9 x10 x11 = w
  intro e e' e1 e2
  pointwise
  rw [Norm.only_entry]
  pointwise
  simp only [e, e', e1, e2, Norm.k1024_eq, ← EReal.coe_mul, ← Cert.FG.coe_sum]
  rw [Ideal.div_coe (by norm_num), ← EReal.coe_mul, ← EReal.coe_mul, ← EReal.coe_mul, ← EReal.coe_add, ← EReal.coe_add]
  unfold dx
  rw [← Norm.grad_eq]
  congr 2
  · ring
  · ring

theorem ref_dOut (d : Fin 1024) : val_main_v88 (F := Ideal) x0 x1 x2 x3 x4 x5 x6 x7 x8 x9 x10 x11 x12 (ix3 (0 : Fin 1) i d) = ((dOut W (T i) d : ℝ) : EReal) := by
  have e := ref_dx A i d
  revert e
  unfold val_main_v88 val_main_v87 val_main_v31
  generalize val_main_v86 (F := Ideal) x0 x1 x2 x3 x4 x5 x6 x7 x8 x9 x10 x11 x12 = y
  intro e
  pointwise
  rw [e, A.gate, ← EReal.coe_mul, mul_comm]
  rfl

theorem ref_dMerged (d : Fin 1024) : val_main_v94 (F := Ideal) x0 x1 x2 x3 x4 x5 x6 x7 x8 x9 x10 x11 x12 (ix3 (0 : Fin 1) i d) = ((dMerged W (T i) d : ℝ) : EReal) := by
  have e := ref_dOut A i
  revert e
  unfold val_main_v94 val_main_v29
  generalize val_main_v88 (F := Ideal) x0 x1 x2 x3 x4 x5 x6 x7 x8 x9 x10 x11 x12 = y
  intro e
  pointwise
  simp only [e, A.wo, ← EReal.coe_mul, ← Cert.FG.coe_sum]
  rfl

theorem ref_dyA (d : Fin 1024) : val_main_v98 (F := Ideal) x0 x1 x2 x3 x4 x5 x6 x7 x8 x9 x10 x11 x12 (ix3 (0 : Fin 1) i d)
    = ((dMerged W (T i) d * (T i).sA d : ℝ) : EReal) := by
  have e := ref_dMerged A i d
  have e' := ref_sA A i d
  revert e e'
  unfold val_main_v98
  generalize val_main_v94 (F := Ideal) x0 x1 x2 x3 x4 x5 x6 x7 x8 x9 x10 x11 x12 = y
  generalize val_main_v13 (F := Ideal) x6 = z
  intro e e'
  pointwise
  rw [e, e', ← EReal.coe_mul, mul_comm]

theorem ref_dyB (d : Fin 1024) : val_main_v95 (F := Ideal) x0 x1 x2 x3 x4 x5 x6 x7 x8 x9 x10 x11 x12 (ix3 (0 : Fin 1) i d)
    = ((dMerged W (T i) d * (T i).sB d : ℝ) : EReal) := by
  have e := ref_dMerged A i d
  have e' := ref_sB A i d
  revert e e'
  unfold val_main_v95
  generalize val_main_v94 (F := Ideal) x0 x1 x2 x3 x4 x5 x6 x7 x8 x9 x10 x11 x12 = y
  generalize val_main_v23 (F := Ideal) x7 = z
  intro e e'
  pointwise
  rw [e, e', ← EReal.coe_mul, mul_comm]

omit A in
/-- A merge gate's gradient before its sigmoid. -/
theorem ref_dGate {g y z : Vec Ideal S1x8192x1024 .f32} {G Y S : Fin 1024 → ℝ} (hg : ∀ d, g (ix3 (0 : Fin 1) i d) = ((G d : ℝ) : EReal))
    (hy : ∀ d, y (ix3 (0 : Fin 1) i d) = ((Y d : ℝ) : EReal))
    (hs : ∀ d, val_main_v13 (F := Ideal) z (ix3 (0 : Fin 1) i d) = ((S d : ℝ) : EReal)) (d : Fin 1024) :
    mulf (F := Ideal) (s := S1x8192x1024) (φ := .f32) (mulf g y) (val_main_v16 (F := Ideal) z) (ix3 (0 : Fin 1) i d) = ((dGate S Y G d : ℝ) : EReal) := by
  have e := hs d
  revert e
  unfold val_main_v16 val_main_v15 val_main_v14 val_main_cst_1
  generalize val_main_v13 (F := Ideal) z = y
  intro e
  pointwise
  rw [e, hg, hy]
  simp only [← EReal.coe_one, ← EReal.coe_sub, ← EReal.coe_mul]
  unfold dGate
  congr 1
  ring

theorem ref_dGateA (d : Fin 1024) : val_main_v100 (F := Ideal) x0 x1 x2 x3 x4 x5 x6 x7 x8 x9 x10 x11 x12 (ix3 (0 : Fin 1) i d)
    = ((dGate (T i).sA (yA W (T i)) (dMerged W (T i)) d : ℝ) : EReal) :=
  ref_dGate i (ref_dMerged A i) (ref_yA A i) (ref_sA A i) d

theorem ref_dUA (k : Fin 512) : val_main_v101 (F := Ideal) x0 x1 x2 x3 x4 x5 x6 x7 x8 x9 x10 x11 x12 (ix3 (0 : Fin 1) i k)
    = ((dU W.a (T i).sA (dMerged W (T i)) k : ℝ) : EReal) := ref_dU (ref_dyA A i) A.wa k

theorem ref_dAttA (k : Fin 512) : val_main_v103 (F := Ideal) x0 x1 x2 x3 x4 x5 x6 x7 x8 x9 x10 x11 x12 (ix3 (0 : Fin 1) i k)
    = ((dAtt W.a (T i).sA (dMerged W (T i)) (T i).zA k : ℝ) : EReal) := by
  have e := ref_dUA A i k
  have e' : val_main_v1_0 (F := Ideal) x4 (ix3 (0 : Fin 1) i k) = _ := ref_silu (A.zA i) k
  revert e e'
  unfold val_main_v103
  generalize val_main_v101 (F := Ideal) x0 x1 x2 x3 x4 x5 x6 x7 x8 x9 x10 x11 x12 = y
  generalize val_main_v1_0 (F := Ideal) x4 = z
  intro e e'
  pointwise
  rw [e, e', ← EReal.coe_mul]
  rfl

theorem ref_dZA (k : Fin 512) : val_main_v104 (F := Ideal) x0 x1 x2 x3 x4 x5 x6 x7 x8 x9 x10 x11 x12 (ix3 (0 : Fin 1) i k)
    = ((dZ W.a (T i).sA (dMerged W (T i)) (T i).attA (T i).zA k : ℝ) : EReal) :=
  ref_dZ (ref_dUA A i) (A.attA i) (A.zA i) k

theorem ref_dGateB (d : Fin 1024) : val_main_v97 (F := Ideal) x0 x1 x2 x3 x4 x5 x6 x7 x8 x9 x10 x11 x12 (ix3 (0 : Fin 1) i d)
    = ((dGate (T i).sB (yB W (T i)) (dMerged W (T i)) d : ℝ) : EReal) :=
  ref_dGate i (ref_dMerged A i) (ref_yB A i) (ref_sB A i) d

theorem ref_dUB (k : Fin 512) : val_main_v105 (F := Ideal) x0 x1 x2 x3 x4 x5 x6 x7 x8 x9 x10 x11 x12 (ix3 (0 : Fin 1) i k)
    = ((dU W.b (T i).sB (dMerged W (T i)) k : ℝ) : EReal) := ref_dU (ref_dyB A i) A.wb k

theorem ref_dAttB (k : Fin 512) : val_main_v107 (F := Ideal) x0 x1 x2 x3 x4 x5 x6 x7 x8 x9 x10 x11 x12 (ix3 (0 : Fin 1) i k)
    = ((dAtt W.b (T i).sB (dMerged W (T i)) (T i).zB k : ℝ) : EReal) := by
  have e := ref_dUB A i k
  have e' : val_main_v5_0 (F := Ideal) x5 (ix3 (0 : Fin 1) i k) = _ := ref_silu (A.zB i) k
  revert e e'
  unfold val_main_v107
  generalize val_main_v105 (F := Ideal) x0 x1 x2 x3 x4 x5 x6 x7 x8 x9 x10 x11 x12 = y
  generalize val_main_v5_0 (F := Ideal) x5 = z
  intro e e'
  pointwise
  rw [e, e', ← EReal.coe_mul]
  rfl

theorem ref_dZB (k : Fin 512) : val_main_v108 (F := Ideal) x0 x1 x2 x3 x4 x5 x6 x7 x8 x9 x10 x11 x12 (ix3 (0 : Fin 1) i k)
    = ((dZ W.b (T i).sB (dMerged W (T i)) (T i).attB (T i).zB k : ℝ) : EReal) :=
  ref_dZ (ref_dUB A i) (A.attB i) (A.zB i) k

end token

end Cert.Post

end
-- ==== Proof.PostOut.lean ====
/- The results of the gates, merge, norm and loss step's reference, entry by entry. -/
module

public import proofs.«01_k».proof.Proof.PostRef

@[expose] public section

set_option maxRecDepth 16384

noncomputable section

namespace Cert.Post

open Cert.Reference5Ideal Cert.Reference5Ideal.Gen Cert.Reference5Ideal.Read
open Idealize.ShloMosaic

/-! ## An attention output's gradient with its row sums -/

/-- A head's entry of a tensor cut into heads. -/
theorem heads_apply (g : Vec Ideal S1x8192x512 .f32) (i : Fin 8192) (h : Fin 8) (j : Fin 64) (n : Fin 512) (hn : n.val = 64 * h.val + j.val) :
    val_main_v129 (F := Ideal) g (ix3 i h j) = g (ix3 (0 : Fin 1) i n) := by
  rw [val_main_v129_apply, val_main_v128_apply]
  refine congrArg g (funext fun a => ?_)
  match a with
  | 0 => rfl
  | 1 => exact Fin.ext (by show _ = i.val; dsimp only [ix3]; omega)
  | 2 => exact Fin.ext (by show _ = n.val; dsimp only [ix3]; omega)

/-- The negated sums over a head of the gradient times the output. -/
def minusRef (g att : Vec Ideal S1x8192x512 .f32) : Vec Ideal S8192x8x1 .f32 :=
  Host.negf (F := Ideal) (s := S8192x8x1) (φ := .f32) (broadcastInDim S8192x8x1 ![0, 1] bcast_S8192x8_S8192x8x1_0_1
    (Host.reduceAdd (F := Ideal) (φ := .f32) (mulf (val_main_v129 (F := Ideal) g) (val_main_v129 (F := Ideal) att)) (val_main_cst_28 (F := Ideal)) reducesTo_S8192x8x64_S8192x8_d2 h_S_))

/-- Each head's gradient, its negated sum and zeros, side by side. -/
def sideBySide (a : Vec Ideal S8192x8x64 .f32) (b : Vec Ideal S8192x8x1 .f32) (c : Vec Ideal S8192x8x63 .f32) : Vec Ideal S8192x1024 .f32 :=
  shapeCast S8192x1024 (concatenate S8192x8x128 2 [⟨S8192x8x64, a⟩, ⟨S8192x8x1, b⟩, ⟨S8192x8x63, c⟩]
    concatenates_S8192x8x64_S8192x8x1_S8192x8x63_S8192x8x128_d2) shapeCasts_S8192x8x128_S8192x1024

theorem sideBySide_apply (a : Vec Ideal S8192x8x64 .f32) (b : Vec Ideal S8192x8x1 .f32) (c : Vec Ideal S8192x8x63 .f32) (i : Fin 8192) (n : Fin 1024) :
    sideBySide a b c (ix2 i n) =
      if h : n.val % 128 < 64 then a (ix3 i ⟨n.val / 128, by omega⟩ ⟨n.val % 128, h⟩)
      else if h' : n.val % 128 = 64 then b (ix3 i ⟨n.val / 128, by omega⟩ (0 : Fin 1))
      else c (ix3 i ⟨n.val / 128, by omega⟩ ⟨n.val % 128 - 65, by omega⟩) := by
  unfold sideBySide
  refine (shapeCast_apply _ shapeCasts_S8192x8x128_S8192x1024 (ix2 i n) (ix3 i (⟨n.val / 128, by omega⟩ : Fin 8) (⟨n.val % 128, by omega⟩ : Fin 128))
    (by rewrite [Shape.rowMajor_val_three, Shape.rowMajor_val_two]; show (i.val * 8 + n.val / 128) * 128 + n.val % 128 = i.val * 1024 + n.val; omega)).trans ?_
  by_cases h : n.val % 128 < 64
  · rw [dif_pos h]
    pointwise
    exact dif_pos h
  · rw [dif_neg h]
    by_cases h' : n.val % 128 = 64
    · rw [dif_pos h']
      pointwise
      rw [dif_neg h, dif_pos (by omega)]
      exact congrArg (fun z => b (ix3 i _ z)) (Subsingleton.elim _ _)
    · rw [dif_neg h']
      pointwise
      rw [dif_neg h, dif_neg (by omega)]
      exact congrArg (fun z => c (ix3 i _ z)) (Fin.ext (by show n.val % 128 - 64 - 1 = n.val % 128 - 65; omega))

theorem minusRef_apply {g att : Vec Ideal S1x8192x512 .f32} {i : Fin 8192} {G a : Fin 512 → ℝ}
    (hg : ∀ k, g (ix3 (0 : Fin 1) i k) = ((G k : ℝ) : EReal)) (ha : ∀ k, att (ix3 (0 : Fin 1) i k) = ((a k : ℝ) : EReal)) (h : Fin 8) :
    minusRef g att (ix3 i h (0 : Fin 1)) = ((minus G a h : ℝ) : EReal) := by
  have e := fun j : Fin 64 => (heads_apply g i h j ⟨64 * h.val + j.val, by omega⟩ rfl).trans (hg _)
  have e' := fun j : Fin 64 => (heads_apply att i h j ⟨64 * h.val + j.val, by omega⟩ rfl).trans (ha _)
  revert e e'
  unfold minusRef val_main_cst_28
  generalize val_main_v129 (F := Ideal) g = y
  generalize val_main_v129 (F := Ideal) att = z
  intro e e'
  pointwise
  simp only [e, e', ← EReal.coe_mul, ← Cert.FG.coe_sum, ← EReal.coe_neg]
  rfl

theorem zero_lanes (i : Fin 8192) (h : Fin 8) (j : Fin 63) : val_main_v134 (F := Ideal) (ix3 i h j) = 0 := by
  unfold val_main_v134 val_main_cst_29
  pointwise

theorem ref_augmented {g att : Vec Ideal S1x8192x512 .f32} {i : Fin 8192} {G a : Fin 512 → ℝ}
    (hg : ∀ k, g (ix3 (0 : Fin 1) i k) = ((G k : ℝ) : EReal)) (ha : ∀ k, att (ix3 (0 : Fin 1) i k) = ((a k : ℝ) : EReal)) (n : Fin 1024) :
    sideBySide (val_main_v129 (F := Ideal) g) (minusRef g att) (val_main_v134 (F := Ideal)) (ix2 i n) = ((augmented G a n : ℝ) : EReal) := by
  rw [sideBySide_apply]
  unfold augmented
  by_cases h : n.val % 128 < 64
  · rw [dif_pos h, if_pos h, heads_apply g i _ _ ⟨64 * (n.val / 128) + n.val % 128 % 64, by omega⟩ (by show 64 * (n.val / 128) + n.val % 128 % 64 = 64 * (n.val / 128) + n.val % 128; omega), hg]
  · rw [dif_neg h, if_neg h]
    by_cases h' : n.val % 128 = 64
    · rw [dif_pos h', if_pos h']
      exact minusRef_apply hg ha _
    · rw [dif_neg h', if_neg h', zero_lanes, EReal.coe_zero]

/-! ## The results -/

section token

variable {x0 x1 : Vec Ideal S1x8192x1024 .f32} {x2 x3 x4 x5 : Vec Ideal S1x8192x512 .f32} {x6 x7 : Vec Ideal S1x8192x1024 .f32}
  {x8 x9 : Vec Ideal S1x512x1024 .f32} {x10 : Vec Ideal S1x1024x1024 .f32} {x11 : Vec Ideal S1x1024 .f32} {x12 : Vec Ideal S1024 .f32}
  {W : Weights} {T : Fin 8192 → Token} (A : Args x0 x1 x2 x3 x4 x5 x6 x7 x8 x9 x10 x11 x12 W T)
include A

theorem dx_out (i : Fin 8192) (d : Fin 1024) : val_main_v153 (F := Ideal) x0 x1 x2 x3 x4 x5 x6 x7 x8 x9 x10 x11 x12 (ix2 i d)
    = ((dx W (T i) d : ℝ) : EReal) := by
  have e := ref_dx A i d
  revert e
  unfold val_main_v153
  generalize val_main_v86 (F := Ideal) x0 x1 x2 x3 x4 x5 x6 x7 x8 x9 x10 x11 x12 = y
  intro e
  pointwise
  exact e

theorem uA_out (i : Fin 8192) (d : Fin 512) : val_main_v154 (F := Ideal) x2 x4 (ix2 d i) = ((gated (T i).attA (T i).zA d : ℝ) : EReal) := by
  have e := ref_gated (A.attA i) (A.zA i) d
  revert e
  unfold val_main_v154 val_main_v118 val_main_v117
  generalize val_main_v2 (F := Ideal) x2 x4 = y
  intro e
  pointwise
  exact e

theorem uB_out (i : Fin 8192) (d : Fin 512) : val_main_v155 (F := Ideal) x3 x5 (ix2 d i) = ((gated (T i).attB (T i).zB d : ℝ) : EReal) := by
  have e : val_main_v6 (F := Ideal) x3 x5 (ix3 (0 : Fin 1) i d) = _ := ref_gated (A.attB i) (A.zB i) d
  revert e
  unfold val_main_v155 val_main_v120 val_main_v119
  generalize val_main_v6 (F := Ideal) x3 x5 = y
  intro e
  pointwise
  exact e

theorem merged_out (i : Fin 8192) (d : Fin 1024) : val_main_v156 (F := Ideal) x2 x3 x4 x5 x6 x7 x8 x9 (ix2 d i)
    = ((merged W (T i) d : ℝ) : EReal) := by
  have e := ref_merged A i d
  revert e
  unfold val_main_v156 val_main_v122 val_main_v121
  generalize val_main_v28 (F := Ideal) x2 x3 x4 x5 x6 x7 x8 x9 = y
  intro e
  pointwise
  exact e

theorem dOut_out (i : Fin 8192) (d : Fin 1024) : val_main_v157 (F := Ideal) x0 x1 x2 x3 x4 x5 x6 x7 x8 x9 x10 x11 x12 (ix2 i d)
    = ((dOut W (T i) d : ℝ) : EReal) := by
  have e := ref_dOut A i d
  revert e
  unfold val_main_v157 val_main_v123
  generalize val_main_v88 (F := Ideal) x0 x1 x2 x3 x4 x5 x6 x7 x8 x9 x10 x11 x12 = y
  intro e
  pointwise
  exact e

theorem dyA_out (i : Fin 8192) (d : Fin 1024) : val_main_v158 (F := Ideal) x0 x1 x2 x3 x4 x5 x6 x7 x8 x9 x10 x11 x12 (ix2 i d)
    = ((dMerged W (T i) d * (T i).sA d : ℝ) : EReal) := by
  have e := ref_dyA A i d
  revert e
  unfold val_main_v158 val_main_v124
  generalize val_main_v98 (F := Ideal) x0 x1 x2 x3 x4 x5 x6 x7 x8 x9 x10 x11 x12 = y
  intro e
  pointwise
  exact e

theorem dyB_out (i : Fin 8192) (d : Fin 1024) : val_main_v159 (F := Ideal) x0 x1 x2 x3 x4 x5 x6 x7 x8 x9 x10 x11 x12 (ix2 i d)
    = ((dMerged W (T i) d * (T i).sB d : ℝ) : EReal) := by
  have e := ref_dyB A i d
  revert e
  unfold val_main_v159 val_main_v125
  generalize val_main_v95 (F := Ideal) x0 x1 x2 x3 x4 x5 x6 x7 x8 x9 x10 x11 x12 = y
  intro e
  pointwise
  exact e

theorem augA_out (i : Fin 8192) (d : Fin 1024) : val_main_v160 (F := Ideal) x0 x1 x2 x3 x4 x5 x6 x7 x8 x9 x10 x11 x12 (ix2 i d)
    = ((augmented (dAtt W.a (T i).sA (dMerged W (T i)) (T i).zA) (T i).attA d : ℝ) : EReal) :=
  ref_augmented (ref_dAttA A i) (A.attA i) d

theorem augB_out (i : Fin 8192) (d : Fin 1024) : val_main_v161 (F := Ideal) x0 x1 x2 x3 x4 x5 x6 x7 x8 x9 x10 x11 x12 (ix2 i d)
    = ((augmented (dAtt W.b (T i).sB (dMerged W (T i)) (T i).zB) (T i).attB d : ℝ) : EReal) :=
  ref_augmented (ref_dAttB A i) (A.attB i) d

omit A in
/-- Four gradients side by side. -/
theorem fourWide {a b : Vec Ideal S8192x512 .f32} {c e : Vec Ideal S8192x1024 .f32} (i : Fin 8192) (n : Fin 3072) :
    concatenate S8192x3072 1 [⟨S8192x512, a⟩, ⟨S8192x512, b⟩, ⟨S8192x1024, c⟩, ⟨S8192x1024, e⟩]
        concatenates_S8192x512_S8192x512_S8192x1024_S8192x1024_S8192x3072_d1 (ix2 i n)
      = if h : n.val < 512 then a (ix2 i ⟨n.val, h⟩)
        else if h' : n.val < 1024 then b (ix2 i ⟨n.val - 512, by omega⟩)
        else if h'' : n.val < 2048 then c (ix2 i ⟨n.val - 1024, by omega⟩)
        else e (ix2 i ⟨n.val - 2048, by omega⟩) := by
  by_cases h : n.val < 512
  · rw [dif_pos h]
    pointwise
    exact dif_pos h
  · rw [dif_neg h]
    by_cases h' : n.val < 1024
    · rw [dif_pos h']
      pointwise
      rw [dif_neg h, dif_pos (by omega)]
    · rw [dif_neg h']
      by_cases h'' : n.val < 2048
      · rw [dif_pos h'']
        pointwise
        rw [dif_neg h, dif_neg (by omega), dif_pos (by omega)]
        exact congrArg (fun z => c (ix2 i z)) (Fin.ext (by show n.val - 512 - 512 = n.val - 1024; omega))
      · rw [dif_neg h'']
        pointwise
        rw [dif_neg h, dif_neg (by omega), dif_neg (by omega)]
        exact congrArg (fun z => e (ix2 i z)) (Fin.ext (by show n.val - 512 - 512 - 1024 = n.val - 2048; omega))

omit A in
/-- A tensor over one batch entry as a matrix. -/
theorem as_wide (y : Vec Ideal S1x8192x1024 .f32) (i : Fin 8192) (d : Fin 1024) :
    shapeCast S8192x1024 y shapeCasts_S1x8192x1024_S8192x1024 (ix2 i d) = y (ix3 (0 : Fin 1) i d) := by
  pointwise

omit A in
theorem as_narrow (y : Vec Ideal S1x8192x512 .f32) (i : Fin 8192) (d : Fin 512) :
    shapeCast S8192x512 y shapeCasts_S1x8192x512_S8192x512 (ix2 i d) = y (ix3 (0 : Fin 1) i d) := by
  pointwise

theorem fused_out (i : Fin 8192) (n : Fin 3072) : val_main_v162 (F := Ideal) x0 x1 x2 x3 x4 x5 x6 x7 x8 x9 x10 x11 x12 (ix2 i n) = ((fused W (T i) n : ℝ) : EReal) := by
  refine (fourWide i n).trans ?_
  unfold fused
  by_cases h : n.val < 512
  · rw [dif_pos h, dif_pos h]
    exact (as_narrow _ i _).trans (ref_dZA A i _)
  · rw [dif_neg h, dif_neg h]
    by_cases h' : n.val < 1024
    · rw [dif_pos h', dif_pos h']
      exact (as_narrow _ i _).trans (ref_dZB A i _)
    · rw [dif_neg h', dif_neg h']
      by_cases h'' : n.val < 2048
      · rw [dif_pos h'', dif_pos h'']
        exact (as_wide _ i _).trans (ref_dGateA A i _)
      · rw [dif_neg h'', dif_neg h'']
        exact (as_wide _ i _).trans (ref_dGateB A i _)

theorem gate_sum (d : Fin 1024) : val_main_v93 (F := Ideal) x0 x1 x2 x3 x4 x5 x6 x7 x8 x9 x10 x11 x12 (ix2 (0 : Fin 1) d)
    = ((∑ i, dx W (T i) d * out W (T i) d : ℝ) : EReal) := by
  have e := fun i => ref_dx A i d
  have e' := fun i => ref_out A i d
  revert e e'
  unfold val_main_v93 val_main_v92 val_main_cst_23 val_main_v91 val_main_v90 val_main_cst_22 val_main_v89
  generalize val_main_v86 (F := Ideal) x0 x1 x2 x3 x4 x5 x6 x7 x8 x9 x10 x11 x12 = y
  generalize val_main_v30 (F := Ideal) x2 x3 x4 x5 x6 x7 x8 x9 x10 = z
  intro e e'
  pointwise
  refine (Norm.only_cell _ d).trans ?_
  pointwise
  simp only [e, e', ← EReal.coe_mul, ← Cert.FG.coe_sum]

theorem gain_sum (d : Fin 1024) : val_main_v109 (F := Ideal) x0 x1 x2 x3 x4 x5 x6 x7 x8 x9 x10 x11 x12 (ix2 (0 : Fin 1) d)
    = ((∑ i, dy W (T i) d * normed W (T i) d : ℝ) : EReal) := by
  have e := fun i => ref_dy A i d
  have e' := fun i => ref_normed A i d
  revert e e'
  unfold val_main_v109 val_main_v71 val_main_cst_18 val_main_v68 val_main_v67 val_main_cst_17 val_main_v66
  generalize val_main_v65 (F := Ideal) x0 x1 x2 x3 x4 x5 x6 x7 x8 x9 x10 x11 x12 = y
  generalize val_main_v47 (F := Ideal) x0 x2 x3 x4 x5 x6 x7 x8 x9 x10 x11 = z
  intro e e'
  pointwise
  refine (Norm.only_cell _ d).trans ?_
  pointwise
  simp only [e, e', ← EReal.coe_mul, ← Cert.FG.coe_sum]
  simp only [mul_comm]

theorem loss_sum (d : Fin 1024) : val_main_v114 (F := Ideal) x0 x1 x2 x3 x4 x5 x6 x7 x8 x9 x10 x11 x12 (ix2 (0 : Fin 1) d)
    = ((1 / 2048 * ∑ i, diff W (T i) d * diff W (T i) d : ℝ) : EReal) := by
  have e := fun i => ref_diff A i d
  revert e
  unfold val_main_v114 val_main_v113 val_main_cst_26 val_main_v112 val_main_cst_25 val_main_v111 val_main_v110 val_main_cst_24 val_main_v52
  generalize val_main_v51 (F := Ideal) x0 x1 x2 x3 x4 x5 x6 x7 x8 x9 x10 x11 x12 = y
  intro e
  pointwise
  simp only [e, k_half, Norm.k1024_eq, Ideal.div_coe (show (1024 : ℝ) ≠ 0 by norm_num), ← EReal.coe_mul, ← Cert.FG.coe_sum]
  congr 1
  rw [← Finset.sum_mul]
  ring

omit A in
theorem zero_rows (j : Fin 5) (d : Fin 1024) : val_main_v115 (F := Ideal) (ix2 j d) = 0 := by
  unfold val_main_v115 val_main_cst_27
  pointwise

theorem sums_out (j : Fin 8) (d : Fin 1024) : val_main_v116 (F := Ideal) x0 x1 x2 x3 x4 x5 x6 x7 x8 x9 x10 x11 x12 (ix2 j d)
    = ((∑ i, adds W (T i) j d : ℝ) : EReal) := by
  rw [sum_adds]
  have e0 := gate_sum A d
  have e1 := gain_sum A d
  have e2 := loss_sum A d
  have e3 := fun j => zero_rows j d
  revert e0 e1 e2 e3
  unfold val_main_v116
  generalize val_main_v93 (F := Ideal) x0 x1 x2 x3 x4 x5 x6 x7 x8 x9 x10 x11 x12 = y0
  generalize val_main_v109 (F := Ideal) x0 x1 x2 x3 x4 x5 x6 x7 x8 x9 x10 x11 x12 = y1
  generalize val_main_v114 (F := Ideal) x0 x1 x2 x3 x4 x5 x6 x7 x8 x9 x10 x11 x12 = y2
  generalize val_main_v115 (F := Ideal) = y3
  intro e0 e1 e2 e3
  fin_cases j
  · pointwise [e0]
  · pointwise [e1]
  · pointwise [e2]
  all_goals
    pointwise [e3]
    rfl

end token

end Cert.Post

end
-- ==== Proof.PostClaim.lean ====
/- The gates, merge, norm and loss step against its reference: both leave the same eleven results. -/
module

public import proofs.«01_k».proof.Defs
public import proofs.«01_k».proof.Proof.PreClaim
public import proofs.«01_k».proof.Proof.PostAfter
public import proofs.«01_k».proof.Proof.PostOut
public import proofs.«01_k».proof.Proof.Gen.Reference5Ideal.Run
public import proofs.«01_k».proof.Proof.Gen.Pre_post_finite

@[expose] public section

set_option maxRecDepth 65536

noncomputable section

namespace Cert.Post

open Cert.Kernel5Ideal Cert.Kernel5Ideal.Gen
open Idealize.ShloMosaic Idealize.SL.Sem Idealize.ShloMosaic.TcCoe
open Cert.Norm (Real)

/-- The one index of an array without axes. -/
def nil0 : Shape.Idx (Cert.Pre_post_finite.S_) := fun a => a.elim0

instance : Subsingleton (Shape.Idx Cert.Pre_post_finite.S_) := ⟨fun a b => funext fun i => i.elim0⟩

variable {x0 x1 : Vec Ideal S1x8192x1024 .f32} {x2 x3 x4 x5 : Vec Ideal S1x8192x512 .f32} {x6 x7 : Vec Ideal S1x8192x1024 .f32}
  {x8 x9 : Vec Ideal S1x512x1024 .f32} {x10 : Vec Ideal S1x1024x1024 .f32} {x11 : Vec Ideal S1x1024 .f32} {x12 : Vec Ideal S1024 .f32}

theorem finite_of (h : Cert.Pre_post_finite.fn (F := Ideal) x0 x1 x2 x3 x4 x5 x6 x7 x8 x9 x10 x11 x12 = fun _ => 1#1) :
    ((∀ i, Real (x0 i)) ∧ (∀ i, Real (x1 i)) ∧ (∀ i, Real (x2 i)) ∧ (∀ i, Real (x3 i)) ∧ (∀ i, Real (x4 i)) ∧ ∀ i, Real (x5 i))
      ∧ (∀ i, Real (x8 i)) ∧ (∀ i, Real (x9 i)) ∧ (∀ i, Real (x10 i)) ∧ (∀ i, Real (x11 i)) ∧ ∀ i, Real (x12 i) := by
  have hj := congrFun h nil0
  unfold Cert.Pre_post_finite.fn Cert.Pre_post_finite.fn_part1 Cert.Pre_post_finite.fn_part2 Cert.Pre_post_finite.fn_part3 at hj
  dsimp only at hj
  obtain ⟨hj, h12⟩ := IntOp.andi_eq_one.1 hj
  obtain ⟨hj, h11⟩ := IntOp.andi_eq_one.1 hj
  obtain ⟨hj, h10⟩ := IntOp.andi_eq_one.1 hj
  obtain ⟨hj, h9⟩ := IntOp.andi_eq_one.1 hj
  obtain ⟨hj, h8⟩ := IntOp.andi_eq_one.1 hj
  obtain ⟨hj, h5⟩ := IntOp.andi_eq_one.1 hj
  obtain ⟨hj, h4⟩ := IntOp.andi_eq_one.1 hj
  obtain ⟨hj, h3⟩ := IntOp.andi_eq_one.1 hj
  obtain ⟨hj, h2⟩ := IntOp.andi_eq_one.1 hj
  obtain ⟨h0, h1⟩ := IntOp.andi_eq_one.1 hj
  exact ⟨⟨fun i => .of (Cert.FG.lt_inf (Host.reduce_andi_all _ _ _ _ _ h0 i)),
      fun i => .of (Cert.FG.lt_inf (Host.reduce_andi_all _ _ _ _ _ h1 i)),
      fun i => .of (Cert.FG.lt_inf (Host.reduce_andi_all _ _ _ _ _ h2 i)),
      fun i => .of (Cert.FG.lt_inf (Host.reduce_andi_all _ _ _ _ _ h3 i)),
      fun i => .of (Cert.FG.lt_inf (Host.reduce_andi_all _ _ _ _ _ h4 i)),
      fun i => .of (Cert.FG.lt_inf (Host.reduce_andi_all _ _ _ _ _ h5 i))⟩,
    fun i => .of (Cert.FG.lt_inf (Host.reduce_andi_all _ _ _ _ _ h8 i)),
    fun i => .of (Cert.FG.lt_inf (Host.reduce_andi_all _ _ _ _ _ h9 i)),
    fun i => .of (Cert.FG.lt_inf (Host.reduce_andi_all _ _ _ _ _ h10 i)),
    fun i => .of (Cert.FG.lt_inf (Host.reduce_andi_all _ _ _ _ _ h11 i)),
    fun i => .of (Cert.FG.lt_inf (Host.reduce_andi_all _ _ _ _ _ h12 i))⟩

/-- Finite arguments are the entries of real weights and tokens; a merge gate's sigmoid is real whatever the gate. -/
theorem given (h : Cert.Pre_post_finite.fn (F := Ideal) x0 x1 x2 x3 x4 x5 x6 x7 x8 x9 x10 x11 x12 = fun _ => 1#1) :
    ∃ (W : Weights) (T : Fin 8192 → Token), Args x0 x1 x2 x3 x4 x5 x6 x7 x8 x9 x10 x11 x12 W T := by
  obtain ⟨⟨h0, h1, h2, h3, h4, h5⟩, h8, h9, h10, h11, h12⟩ := finite_of h
  choose y0 e0 using h0
  choose y1 e1 using h1
  choose y2 e2 using h2
  choose y3 e3 using h3
  choose y4 e4 using h4
  choose y5 e5 using h5
  choose y6 e6 using fun i => sig_real (x6 i)
  choose y7 e7 using fun i => sig_real (x7 i)
  choose y8 e8 using h8
  choose y9 e9 using h9
  choose y10 e10 using h10
  choose y11 e11 using h11
  choose y12 e12 using h12
  exact ⟨⟨fun k d => y8 (ix3 (0 : Fin 1) k d), fun k d => y9 (ix3 (0 : Fin 1) k d), fun e d => y10 (ix3 (0 : Fin 1) e d),
      fun d => y11 (ix2 (0 : Fin 1) d), fun d => y12 (ix1 d)⟩,
    fun i => ⟨fun d => y0 (ix3 (0 : Fin 1) i d), fun d => y1 (ix3 (0 : Fin 1) i d), fun k => y2 (ix3 (0 : Fin 1) i k),
      fun k => y3 (ix3 (0 : Fin 1) i k), fun k => y4 (ix3 (0 : Fin 1) i k), fun k => y5 (ix3 (0 : Fin 1) i k),
      fun d => y6 (ix3 (0 : Fin 1) i d), fun d => y7 (ix3 (0 : Fin 1) i d)⟩,
    ⟨fun _ _ => e0 _, fun _ _ => e1 _, fun _ _ => e2 _, fun _ _ => e3 _, fun _ _ => e4 _, fun _ _ => e5 _, fun _ _ => e6 _, fun _ _ => e7 _,
      fun _ _ => e8 _, fun _ _ => e9 _, fun _ _ => e10 _, fun _ => e11 _, fun _ => e12 _⟩⟩

/-- Two matrices with the same real entries. -/
theorem same {a b : ℕ} {x y : Shape.Idx ⟨2, ![a, b]⟩ → EReal} {f : Fin a → Fin b → ℝ} (hx : ∀ i d, x (ix2 i d) = ((f i d : ℝ) : EReal))
    (hy : ∀ i d, y (ix2 i d) = ((f i d : ℝ) : EReal)) : x = y :=
  funext fun j => (congrArg x (ValueIdx.eq_ix2 j)).trans ((hx _ _).trans ((hy _ _).symm.trans (congrArg y (ValueIdx.eq_ix2 j)).symm))

theorem congr13 {A B C D E G H I J K L M N R : Type} (f : A → B → C → D → E → G → H → I → J → K → L → M → N → R)
    {a a' : A} {b b' : B} {c c' : C} {d d' : D} {e e' : E} {g g' : G} {h h' : H} {i i' : I} {j j' : J} {k k' : K} {l l' : L} {m m' : M} {n n' : N}
    (ha : a = a') (hb : b = b') (hc : c = c') (hd : d = d') (he : e = e') (hg : g = g') (hh : h = h') (hi : i = i') (hj : j = j') (hk : k = k')
    (hl : l = l') (hm : m = m') (hn : n = n') : f a b c d e g h i j k l m n = f a' b' c' d' e' g' h' i' j' k' l' m' n' := by
  subst ha hb hc hd he hg hh hi hj hk hl hm hn; rfl

/-- The weights and tokens in the memory the kernel starts from. -/
theorem given_of (m : (ℓ : Loc nD τ sig) → Buf (Elt Ideal) ℓ) (c : Dev nD)
    (h : Cert.Pre_post_finite.fn (F := Ideal) (arg0 m c) (arg1 m c) (arg2 m c) (arg3 m c) (arg4 m c) (arg5 m c) (arg6 m c) (arg7 m c) (arg8 m c)
      (arg9 m c) (arg10 m c) (arg11 m c) (arg12 m c) = fun _ => 1#1) : ∃ (W : Weights) (T : Fin 8192 → Token), Given m c W T := given h

set_option maxHeartbeats 4000000 in
open Cert.Reference5Ideal.Read in
theorem algebraic : Cert.algebraic_Kernel5Ideal_Reference5Ideal_pre_post_finite := by
  intro m g m' g' hpre hagree
  refine ⟨_, _, _, _, _, _, _, _, _, _, _, (θ_run Cert.Kernel5Ideal.defs _ _).mono (fun r h c => h c) (Cert.Kernel5Ideal.Value.run_blocks m g), ?_⟩
  refine (θ_run Cert.Reference5Ideal.defs _ _).mono (fun r h c => ?_) (Cert.Reference5Ideal.Value.run (F := Ideal) m' g')
  obtain ⟨r0, r1, r2, r3, r4, r5, r6, r7, r8, r9, r10, hargs⟩ := h c
  obtain ⟨a0, a1, a2, a3, a4, a5, a6, a7, a8, a9, a10, a11, a12⟩ := hagree c
  obtain ⟨W, T, A⟩ := given_of m c (hpre c)
  refine ⟨r0.trans ?_, r1.trans ?_, r2.trans ?_, r3.trans ?_, r4.trans ?_, r5.trans ?_, r6.trans ?_, r7.trans ?_, r8.trans ?_, r9.trans ?_,
    r10.trans ?_, hargs⟩
  · exact (val_main_v153_eq _).trans ((congr13 (val_main_v153 (F := Ideal)) a0 a1 a2 a3 a4 a5 a6 a7 a8 a9 a10 a11 a12).trans
      (same (dx_out A) (dx_after A)))
  · exact (val_main_v154_eq _).trans ((congr13 (fun _ _ a _ b _ _ _ _ _ _ _ _ => val_main_v154 (F := Ideal) a b) a0 a1 a2 a3 a4 a5 a6 a7 a8 a9 a10 a11 a12).trans
      (same (fun d i => uA_out A i d) fun d i => uA_after A i d))
  · exact (val_main_v155_eq _).trans ((congr13 (fun _ _ _ a _ b _ _ _ _ _ _ _ => val_main_v155 (F := Ideal) a b) a0 a1 a2 a3 a4 a5 a6 a7 a8 a9 a10 a11 a12).trans
      (same (fun d i => uB_out A i d) fun d i => uB_after A i d))
  · exact (val_main_v156_eq _).trans ((congr13 (fun _ _ a b c d e f g h _ _ _ => val_main_v156 (F := Ideal) a b c d e f g h) a0 a1 a2 a3 a4 a5 a6 a7 a8 a9 a10 a11 a12).trans
      (same (fun d i => merged_out A i d) fun d i => merged_after A i d))
  · exact (val_main_v157_eq _).trans ((congr13 (val_main_v157 (F := Ideal)) a0 a1 a2 a3 a4 a5 a6 a7 a8 a9 a10 a11 a12).trans
      (same (dOut_out A) (dOut_after A)))
  · exact (val_main_v158_eq _).trans ((congr13 (val_main_v158 (F := Ideal)) a0 a1 a2 a3 a4 a5 a6 a7 a8 a9 a10 a11 a12).trans
      (same (dyA_out A) (dyA_after A)))
  · exact (val_main_v159_eq _).trans ((congr13 (val_main_v159 (F := Ideal)) a0 a1 a2 a3 a4 a5 a6 a7 a8 a9 a10 a11 a12).trans
      (same (dyB_out A) (dyB_after A)))
  · exact (val_main_v160_eq _).trans ((congr13 (val_main_v160 (F := Ideal)) a0 a1 a2 a3 a4 a5 a6 a7 a8 a9 a10 a11 a12).trans
      (same (augA_out A) (augA_after A)))
  · exact (val_main_v161_eq _).trans ((congr13 (val_main_v161 (F := Ideal)) a0 a1 a2 a3 a4 a5 a6 a7 a8 a9 a10 a11 a12).trans
      (same (augB_out A) (augB_after A)))
  · exact (val_main_v162_eq _).trans ((congr13 (val_main_v162 (F := Ideal)) a0 a1 a2 a3 a4 a5 a6 a7 a8 a9 a10 a11 a12).trans
      (same (fused_out A) (fused_after A)))
  · exact (val_main_v116_eq _).trans ((congr13 (val_main_v116 (F := Ideal)) a0 a1 a2 a3 a4 a5 a6 a7 a8 a9 a10 a11 a12).trans
      (same (sums_out A) (total_after A)))

/-- The reference's run read at its arguments; it declares no semaphore. -/
theorem frame_r : Cert.quiescent_Reference5Ideal := fun m g _ =>
  (θ_run Cert.Reference5Ideal.defs _ _).mono
    (fun r h => ⟨fun c => (h c).2.2.2.2.2.2.2.2.2.2.2, sem_eq_zero_of_no_sems (by decide) r.2⟩)
    (Cert.Reference5Ideal.Value.run (F := Ideal) m g)

end Cert.Post

end
-- ==== Proof.AdaClaim.lean ====
/- The modulation's product: the kernel multiplies the three parts of each factor with each other and leaves out the
   smallest of the nine products; over the reals the first part is the whole number, so its sum is the one product. -/
module

public import proofs.«01_k».proof.Defs
public import proofs.«01_k».proof.Proof.PreClaim
public import proofs.«01_k».proof.Proof.Gen.Kernel6Ideal.Value
public import proofs.«01_k».proof.Proof.Gen.Reference6Ideal.Read
public import proofs.«01_k».proof.Proof.Gen.Pre_ada_finite

@[expose] public section

set_option maxRecDepth 16384

noncomputable section

namespace Cert.Ada

open Cert.Kernel6Ideal Cert.Kernel6Ideal.Gen
open Idealize.ShloMosaic Idealize.SL.Sem Idealize.ShloMosaic.TcCoe
open Cert.Norm (Real)

/-- The one index of an array without axes. -/
def nil0 : Shape.Idx (Cert.Pre_ada_finite.S_) := fun a => a.elim0

instance : Subsingleton (Shape.Idx Cert.Pre_ada_finite.S_) := ⟨fun a b => funext fun i => i.elim0⟩

variable {x0 : Vec Ideal S8x1024 .f32} {x1 : Vec Ideal S1024x384 .f32} {x2 : Vec Ideal S1x384 .f32}

/-- The precondition: no entry of the conditioning rows or of the weight is an infinity. -/
theorem finite_of (h : Cert.Pre_ada_finite.fn (F := Ideal) x0 x1 x2 = fun _ => 1#1) :
    (∀ i, Real (x0 i)) ∧ ∀ i, Real (x1 i) := by
  have hj := congrFun h nil0
  unfold Cert.Pre_ada_finite.fn at hj
  dsimp only at hj
  obtain ⟨h0, h1⟩ := IntOp.andi_eq_one.1 hj
  exact ⟨fun i => .of (Cert.FG.lt_inf (Host.reduce_andi_all _ _ _ _ _ h0 i)),
    fun i => .of (Cert.FG.lt_inf (Host.reduce_andi_all _ _ _ _ _ h1 i))⟩

/-- What is left of a number without its first part is zero. -/
theorem rest {x : EReal} : Real x → x - x = 0 := fun ⟨r, h⟩ => by rw [h, ← EReal.coe_sub, sub_self, EReal.coe_zero]

/-- The kernel's six products leave the one product and the bias. -/
theorem pay_apply (h0 : ∀ i, Real (x0 i)) (h1 : ∀ i, Real (x1 i)) (r : Fin 8) (d : Fin 384) :
    k0_pay1 (F := Ideal) x0 x1 x2 (ix2 r d) = (∑ k : Fin 1024, x0 (ix2 r k) * x1 (ix2 k d)) + x2 (ix2 0 d) := by
  unfold k0_pay1
  pointwise
  simp only [rest (h0 _), rest (h1 _), sub_zero, mul_zero, zero_mul, Finset.sum_const_zero, add_zero, zero_add]

/-- The reference's entry. -/
theorem ref_apply (r : Fin 8) (d : Fin 384) :
    Cert.Reference6Ideal.Read.val_main_v2 (F := Ideal) x0 x1 x2 (ix2 r d)
      = (∑ k : Fin 1024, x0 (ix2 r k) * x1 (ix2 k d)) + x2 (ix2 0 d) := by
  unfold Cert.Reference6Ideal.Read.val_main_v2 Cert.Reference6Ideal.Read.val_main_v0 Cert.Reference6Ideal.Read.val_main_v1
  pointwise

theorem same (h0 : ∀ i, Real (x0 i)) (h1 : ∀ i, Real (x1 i)) :
    Cert.Reference6Ideal.Read.val_main_v2 (F := Ideal) x0 x1 x2 = Cert.Kernel6Ideal.Value.G3 (F := Ideal) x0 x1 x2 := by
  funext j
  rw [ValueIdx.eq_ix2 j]
  exact (ref_apply _ _).trans (pay_apply h0 h1 _ _).symm

theorem algebraic : Cert.algebraic_Kernel6Ideal_Reference6Ideal_pre_ada_finite := by
  intro m g m' g' hpre hagree
  refine ⟨_, (θ_run Cert.Kernel6Ideal.defs _ _).mono (fun r h c => h c) (Cert.Kernel6Ideal.Value.run m g), ?_⟩
  refine (θ_run Cert.Reference6Ideal.defs _ _).mono (fun r h c => ?_) (Cert.Reference6Ideal.Value.run (F := Ideal) m' g')
  obtain ⟨hv, hargs⟩ := h c
  obtain ⟨a0, a1, a2⟩ := hagree c
  obtain ⟨h0, h1⟩ := finite_of (hpre c)
  refine ⟨hv.trans ?_, hargs⟩
  rw [Cert.Reference6Ideal.Read.val_main_v2_eq, a0, a1, a2]
  exact same h0 h1

/-- The reference's run read at its arguments; it declares no semaphore. -/
theorem frame_r : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

end Cert.Ada

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.FgClaim
public import proofs.«01_k».proof.Proof.FoxBody
public import proofs.«01_k».proof.Proof.FoxFrames
public import proofs.«01_k».proof.Proof.FoxClaim
public import proofs.«01_k».proof.Proof.FwdClaim
public import proofs.«01_k».proof.Proof.PreClaim
public import proofs.«01_k».proof.Proof.PostClaim
public import proofs.«01_k».proof.Proof.AdaClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_pre_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Loops
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_fox_fwd_finite
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_post_finite
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_ada_finite
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import Idealize.ShloMosaic.Adequacy
public import Idealize.ShloMosaic.Init

@[expose] public section

noncomputable section

namespace Cert.Proof

open Idealize.ShloMosaic Idealize.SL.Sem

/-- The reference's run read at its arguments; it declares no semaphore. -/
theorem frame_r : Cert.quiescent_ReferenceIdeal := fun m g _ =>
  (θ_run ReferenceIdeal.defs _ _).mono (fun r h => ⟨fun c => (h c).2.2, sem_eq_zero_of_no_sems (by decide) r.2⟩)
    (ReferenceIdeal.Value.run (F := Ideal) m g)

theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts, Kernel7.Gen.facts, Kernel7Ideal.Gen.facts,
    Kernel8.Gen.facts, Kernel8Ideal.Gen.facts,
    Pre_finite.Gen.facts, Pre_fox_finite.Gen.facts, Pre_pre_finite.Gen.facts, Pre_fox_fwd_finite.Gen.facts, Pre_post_finite.Gen.facts,
    Pre_ada_finite.Gen.facts,
    fun m g _ => Kernel.Gen.frame m g, fun m g _ => KernelIdeal.Gen.frame m g, fun m g _ => KernelIdeal.Gen.frame m g,
    frame_r, fun m g _ => frame_r m g trivial, Fox.frame_k, Fox.frame_i, fun m g _ => Fox.frame m g,
    Fox.frame_r, fun m g _ => Fox.frame_r m g trivial,
    fun m g _ => Kernel3.Gen.frame m g, fun m g _ => Kernel3Ideal.Gen.frame m g, fun m g _ => Kernel3Ideal.Gen.frame m g,
    Norm.frame_r, fun m g _ => Norm.frame_r m g trivial,
    Fwd.frame_k, Fwd.frame_i, fun m g _ => Fwd.frame m g, Fwd.frame_r, fun m g _ => Fwd.frame_r m g trivial,
    fun m g _ => Kernel5.Gen.frame m g, fun m g _ => Kernel5Ideal.Gen.frame m g, fun m g _ => Kernel5Ideal.Gen.frame m g,
    Post.frame_r, fun m g _ => Post.frame_r m g trivial,
    fun m g _ => Kernel6.Gen.frame m g, fun m g _ => Kernel6Ideal.Gen.frame m g, fun m g _ => Kernel6Ideal.Gen.frame m g,
    Ada.frame_r, fun m g _ => Ada.frame_r m g trivial,
    fun m g _ => Kernel7.Gen.frame m g, fun m g _ => Kernel7Ideal.Gen.frame m g,
    fun m g _ => Kernel8.Gen.frame m g, fun m g _ => Kernel8Ideal.Gen.frame m g,
    trivial, FG.algebraic, Fox.preserves, Fox.algebraic, trivial, Norm.algebraic, Fwd.preserves, Fwd.algebraic,
    trivial, Post.algebraic, trivial, Ada.algebraic, IdealRules.named_const.statement _ _ _ _ _ rfl, trivial⟩

end Cert.Proof

end
